-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_ProjectPrompt (m : (ℓ : Loc Cert.ProjectPrompt.nD Cert.ProjectPrompt.τ Cert.ProjectPrompt.sig) → Buf (Elt Bits) ℓ) : Prop :=
  True

def Pre_ProjectPromptIdeal (m : (ℓ : Loc Cert.ProjectPromptIdeal.nD Cert.ProjectPromptIdeal.τ Cert.ProjectPromptIdeal.sig) → Buf (Elt Ideal) ℓ) : Prop :=
  True

def Pre_ReferenceProjectPromptIdeal (m : (ℓ : Loc Cert.ReferenceProjectPromptIdeal.nD Cert.ReferenceProjectPromptIdeal.τ Cert.ReferenceProjectPromptIdeal.sig) → Buf (Elt Ideal) ℓ) : Prop :=
  True

def Pre_ProjectSample (m : (ℓ : Loc Cert.ProjectSample.nD Cert.ProjectSample.τ Cert.ProjectSample.sig) → Buf (Elt Bits) ℓ) : Prop :=
  True

def Pre_ProjectSampleIdeal (m : (ℓ : Loc Cert.ProjectSampleIdeal.nD Cert.ProjectSampleIdeal.τ Cert.ProjectSampleIdeal.sig) → Buf (Elt Ideal) ℓ) : Prop :=
  True

def Pre_ReferenceProjectSampleIdeal (m : (ℓ : Loc Cert.ReferenceProjectSampleIdeal.nD Cert.ReferenceProjectSampleIdeal.τ Cert.ReferenceProjectSampleIdeal.sig) → Buf (Elt Ideal) ℓ) : Prop :=
  True

def Pre_MergePrompt (m : (ℓ : Loc Cert.MergePrompt.nD Cert.MergePrompt.τ Cert.MergePrompt.sig) → Buf (Elt Bits) ℓ) : Prop :=
  True

def Pre_MergePromptIdeal (m : (ℓ : Loc Cert.MergePromptIdeal.nD Cert.MergePromptIdeal.τ Cert.MergePromptIdeal.sig) → Buf (Elt Ideal) ℓ) : Prop :=
  True

def Pre_ReferenceMergePromptIdeal (m : (ℓ : Loc Cert.ReferenceMergePromptIdeal.nD Cert.ReferenceMergePromptIdeal.τ Cert.ReferenceMergePromptIdeal.sig) → Buf (Elt Ideal) ℓ) : Prop :=
  True

def Pre_MergeSample (m : (ℓ : Loc Cert.MergeSample.nD Cert.MergeSample.τ Cert.MergeSample.sig) → Buf (Elt Bits) ℓ) : Prop :=
  True

def Pre_MergeSampleIdeal (m : (ℓ : Loc Cert.MergeSampleIdeal.nD Cert.MergeSampleIdeal.τ Cert.MergeSampleIdeal.sig) → Buf (Elt Ideal) ℓ) : Prop :=
  True

def Pre_ReferenceMergeSampleIdeal (m : (ℓ : Loc Cert.ReferenceMergeSampleIdeal.nD Cert.ReferenceMergeSampleIdeal.τ Cert.ReferenceMergeSampleIdeal.sig) → Buf (Elt Ideal) ℓ) : Prop :=
  True

def Pre_RetentionSample (m : (ℓ : Loc Cert.RetentionSample.nD Cert.RetentionSample.τ Cert.RetentionSample.sig) → Buf (Elt Bits) ℓ) : Prop :=
  True

def Pre_RetentionSampleIdeal (m : (ℓ : Loc Cert.RetentionSampleIdeal.nD Cert.RetentionSampleIdeal.τ Cert.RetentionSampleIdeal.sig) → Buf (Elt Ideal) ℓ) : Prop :=
  True

def Pre_ReferenceRetentionSampleIdeal (m : (ℓ : Loc Cert.ReferenceRetentionSampleIdeal.nD Cert.ReferenceRetentionSampleIdeal.τ Cert.ReferenceRetentionSampleIdeal.sig) → Buf (Elt Ideal) ℓ) : Prop :=
  True

def Pre_StreamSample (m : (ℓ : Loc Cert.StreamSample.nD Cert.StreamSample.τ Cert.StreamSample.sig) → Buf (Elt Bits) ℓ) : Prop :=
  True

def Pre_StreamSampleIdeal (m : (ℓ : Loc Cert.StreamSampleIdeal.nD Cert.StreamSampleIdeal.τ Cert.StreamSampleIdeal.sig) → Buf (Elt Ideal) ℓ) : Prop :=
  True

def Pre_ReferenceStreamSampleIdeal (m : (ℓ : Loc Cert.ReferenceStreamSampleIdeal.nD Cert.ReferenceStreamSampleIdeal.τ Cert.ReferenceStreamSampleIdeal.sig) → Buf (Elt Ideal) ℓ) : Prop :=
  True

def Pre_StreamPrompt (m : (ℓ : Loc Cert.StreamPrompt.nD Cert.StreamPrompt.τ Cert.StreamPrompt.sig) → Buf (Elt Bits) ℓ) : Prop :=
  True

def Pre_StreamPromptIdeal (m : (ℓ : Loc Cert.StreamPromptIdeal.nD Cert.StreamPromptIdeal.τ Cert.StreamPromptIdeal.sig) → Buf (Elt Ideal) ℓ) : Prop :=
  True

def Pre_StreamPromptIdeal_finite_inputs [hPre_finite_inputs : Cert.Pre_finite_inputs.Facts] (m : (ℓ : Loc Cert.StreamPromptIdeal.nD Cert.StreamPromptIdeal.τ Cert.StreamPromptIdeal.sig) → Buf (Elt Ideal) ℓ) : Prop :=
  ∀ c : Dev Cert.StreamPromptIdeal.nD,
    (Cert.Pre_finite_inputs.fn (F := Ideal) (m ((c.tc : Thread Cert.StreamPromptIdeal.nD Cert.StreamPromptIdeal.τ).loc Cert.StreamPromptIdeal.main_arg0)) (m ((c.tc : Thread Cert.StreamPromptIdeal.nD Cert.StreamPromptIdeal.τ).loc Cert.StreamPromptIdeal.main_arg1)) (m ((c.tc : Thread Cert.StreamPromptIdeal.nD Cert.StreamPromptIdeal.τ).loc Cert.StreamPromptIdeal.main_arg2)) (m ((c.tc : Thread Cert.StreamPromptIdeal.nD Cert.StreamPromptIdeal.τ).loc Cert.StreamPromptIdeal.main_arg3))).1 = (fun _ => 1#1)
    ∧ (Cert.Pre_finite_inputs.fn (F := Ideal) (m ((c.tc : Thread Cert.StreamPromptIdeal.nD Cert.StreamPromptIdeal.τ).loc Cert.StreamPromptIdeal.main_arg0)) (m ((c.tc : Thread Cert.StreamPromptIdeal.nD Cert.StreamPromptIdeal.τ).loc Cert.StreamPromptIdeal.main_arg1)) (m ((c.tc : Thread Cert.StreamPromptIdeal.nD Cert.StreamPromptIdeal.τ).loc Cert.StreamPromptIdeal.main_arg2)) (m ((c.tc : Thread Cert.StreamPromptIdeal.nD Cert.StreamPromptIdeal.τ).loc Cert.StreamPromptIdeal.main_arg3))).2 = (fun _ => 1#1)

def Pre_ReferenceStreamPromptIdeal (m : (ℓ : Loc Cert.ReferenceStreamPromptIdeal.nD Cert.ReferenceStreamPromptIdeal.τ Cert.ReferenceStreamPromptIdeal.sig) → Buf (Elt Ideal) ℓ) : Prop :=
  True

def Pre_ReferenceStreamPromptIdeal_finite_inputs [hPre_finite_inputs : Cert.Pre_finite_inputs.Facts] (m : (ℓ : Loc Cert.ReferenceStreamPromptIdeal.nD Cert.ReferenceStreamPromptIdeal.τ Cert.ReferenceStreamPromptIdeal.sig) → Buf (Elt Ideal) ℓ) : Prop :=
  ∀ c : Dev Cert.ReferenceStreamPromptIdeal.nD,
    (Cert.Pre_finite_inputs.fn (F := Ideal) (m ((c.tc : Thread Cert.ReferenceStreamPromptIdeal.nD Cert.ReferenceStreamPromptIdeal.τ).loc Cert.ReferenceStreamPromptIdeal.main_arg0)) (m ((c.tc : Thread Cert.ReferenceStreamPromptIdeal.nD Cert.ReferenceStreamPromptIdeal.τ).loc Cert.ReferenceStreamPromptIdeal.main_arg1)) (m ((c.tc : Thread Cert.ReferenceStreamPromptIdeal.nD Cert.ReferenceStreamPromptIdeal.τ).loc Cert.ReferenceStreamPromptIdeal.main_arg2)) (m ((c.tc : Thread Cert.ReferenceStreamPromptIdeal.nD Cert.ReferenceStreamPromptIdeal.τ).loc Cert.ReferenceStreamPromptIdeal.main_arg3))).1 = (fun _ => 1#1)
    ∧ (Cert.Pre_finite_inputs.fn (F := Ideal) (m ((c.tc : Thread Cert.ReferenceStreamPromptIdeal.nD Cert.ReferenceStreamPromptIdeal.τ).loc Cert.ReferenceStreamPromptIdeal.main_arg0)) (m ((c.tc : Thread Cert.ReferenceStreamPromptIdeal.nD Cert.ReferenceStreamPromptIdeal.τ).loc Cert.ReferenceStreamPromptIdeal.main_arg1)) (m ((c.tc : Thread Cert.ReferenceStreamPromptIdeal.nD Cert.ReferenceStreamPromptIdeal.τ).loc Cert.ReferenceStreamPromptIdeal.main_arg2)) (m ((c.tc : Thread Cert.ReferenceStreamPromptIdeal.nD Cert.ReferenceStreamPromptIdeal.τ).loc Cert.ReferenceStreamPromptIdeal.main_arg3))).2 = (fun _ => 1#1)

def Pre_FinishPrompt (m : (ℓ : Loc Cert.FinishPrompt.nD Cert.FinishPrompt.τ Cert.FinishPrompt.sig) → Buf (Elt Bits) ℓ) : Prop :=
  True

def Pre_FinishPromptIdeal (m : (ℓ : Loc Cert.FinishPromptIdeal.nD Cert.FinishPromptIdeal.τ Cert.FinishPromptIdeal.sig) → Buf (Elt Ideal) ℓ) : Prop :=
  True

def Pre_ReferenceFinishPromptIdeal (m : (ℓ : Loc Cert.ReferenceFinishPromptIdeal.nD Cert.ReferenceFinishPromptIdeal.τ Cert.ReferenceFinishPromptIdeal.sig) → Buf (Elt Ideal) ℓ) : Prop :=
  True

def Pre_AttendSample (m : (ℓ : Loc Cert.AttendSample.nD Cert.AttendSample.τ Cert.AttendSample.sig) → Buf (Elt Bits) ℓ) : Prop :=
  True

def Pre_AttendSampleIdeal (m : (ℓ : Loc Cert.AttendSampleIdeal.nD Cert.AttendSampleIdeal.τ Cert.AttendSampleIdeal.sig) → Buf (Elt Ideal) ℓ) : Prop :=
  True

def Pre_AttendSampleIdeal_finite_scores [hPre_finite_scores : Cert.Pre_finite_scores.Facts] (m : (ℓ : Loc Cert.AttendSampleIdeal.nD Cert.AttendSampleIdeal.τ Cert.AttendSampleIdeal.sig) → Buf (Elt Ideal) ℓ) : Prop :=
  ∀ c : Dev Cert.AttendSampleIdeal.nD,
    (Cert.Pre_finite_scores.fn (F := Ideal) (m ((c.tc : Thread Cert.AttendSampleIdeal.nD Cert.AttendSampleIdeal.τ).loc Cert.AttendSampleIdeal.main_arg0)) (m ((c.tc : Thread Cert.AttendSampleIdeal.nD Cert.AttendSampleIdeal.τ).loc Cert.AttendSampleIdeal.main_arg1)) (m ((c.tc : Thread Cert.AttendSampleIdeal.nD Cert.AttendSampleIdeal.τ).loc Cert.AttendSampleIdeal.main_arg2)) (m ((c.tc : Thread Cert.AttendSampleIdeal.nD Cert.AttendSampleIdeal.τ).loc Cert.AttendSampleIdeal.main_arg3)) (m ((c.tc : Thread Cert.AttendSampleIdeal.nD Cert.AttendSampleIdeal.τ).loc Cert.AttendSampleIdeal.main_arg4)) (m ((c.tc : Thread Cert.AttendSampleIdeal.nD Cert.AttendSampleIdeal.τ).loc Cert.AttendSampleIdeal.main_arg5))).1 = (fun _ => 1#1)
    ∧ (Cert.Pre_finite_scores.fn (F := Ideal) (m ((c.tc : Thread Cert.AttendSampleIdeal.nD Cert.AttendSampleIdeal.τ).loc Cert.AttendSampleIdeal.main_arg0)) (m ((c.tc : Thread Cert.AttendSampleIdeal.nD Cert.AttendSampleIdeal.τ).loc Cert.AttendSampleIdeal.main_arg1)) (m ((c.tc : Thread Cert.AttendSampleIdeal.nD Cert.AttendSampleIdeal.τ).loc Cert.AttendSampleIdeal.main_arg2)) (m ((c.tc : Thread Cert.AttendSampleIdeal.nD Cert.AttendSampleIdeal.τ).loc Cert.AttendSampleIdeal.main_arg3)) (m ((c.tc : Thread Cert.AttendSampleIdeal.nD Cert.AttendSampleIdeal.τ).loc Cert.AttendSampleIdeal.main_arg4)) (m ((c.tc : Thread Cert.AttendSampleIdeal.nD Cert.AttendSampleIdeal.τ).loc Cert.AttendSampleIdeal.main_arg5))).2.1 = (fun _ => 1#1)
    ∧ (Cert.Pre_finite_scores.fn (F := Ideal) (m ((c.tc : Thread Cert.AttendSampleIdeal.nD Cert.AttendSampleIdeal.τ).loc Cert.AttendSampleIdeal.main_arg0)) (m ((c.tc : Thread Cert.AttendSampleIdeal.nD Cert.AttendSampleIdeal.τ).loc Cert.AttendSampleIdeal.main_arg1)) (m ((c.tc : Thread Cert.AttendSampleIdeal.nD Cert.AttendSampleIdeal.τ).loc Cert.AttendSampleIdeal.main_arg2)) (m ((c.tc : Thread Cert.AttendSampleIdeal.nD Cert.AttendSampleIdeal.τ).loc Cert.AttendSampleIdeal.main_arg3)) (m ((c.tc : Thread Cert.AttendSampleIdeal.nD Cert.AttendSampleIdeal.τ).loc Cert.AttendSampleIdeal.main_arg4)) (m ((c.tc : Thread Cert.AttendSampleIdeal.nD Cert.AttendSampleIdeal.τ).loc Cert.AttendSampleIdeal.main_arg5))).2.2.1 = (fun _ => 1#1)
    ∧ (Cert.Pre_finite_scores.fn (F := Ideal) (m ((c.tc : Thread Cert.AttendSampleIdeal.nD Cert.AttendSampleIdeal.τ).loc Cert.AttendSampleIdeal.main_arg0)) (m ((c.tc : Thread Cert.AttendSampleIdeal.nD Cert.AttendSampleIdeal.τ).loc Cert.AttendSampleIdeal.main_arg1)) (m ((c.tc : Thread Cert.AttendSampleIdeal.nD Cert.AttendSampleIdeal.τ).loc Cert.AttendSampleIdeal.main_arg2)) (m ((c.tc : Thread Cert.AttendSampleIdeal.nD Cert.AttendSampleIdeal.τ).loc Cert.AttendSampleIdeal.main_arg3)) (m ((c.tc : Thread Cert.AttendSampleIdeal.nD Cert.AttendSampleIdeal.τ).loc Cert.AttendSampleIdeal.main_arg4)) (m ((c.tc : Thread Cert.AttendSampleIdeal.nD Cert.AttendSampleIdeal.τ).loc Cert.AttendSampleIdeal.main_arg5))).2.2.2 = (fun _ => 1#1)

def Pre_ReferenceAttendSampleIdeal (m : (ℓ : Loc Cert.ReferenceAttendSampleIdeal.nD Cert.ReferenceAttendSampleIdeal.τ Cert.ReferenceAttendSampleIdeal.sig) → Buf (Elt Ideal) ℓ) : Prop :=
  True

def Pre_ReferenceAttendSampleIdeal_finite_scores [hPre_finite_scores : Cert.Pre_finite_scores.Facts] (m : (ℓ : Loc Cert.ReferenceAttendSampleIdeal.nD Cert.ReferenceAttendSampleIdeal.τ Cert.ReferenceAttendSampleIdeal.sig) → Buf (Elt Ideal) ℓ) : Prop :=
  ∀ c : Dev Cert.ReferenceAttendSampleIdeal.nD,
    (Cert.Pre_finite_scores.fn (F := Ideal) (m ((c.tc : Thread Cert.ReferenceAttendSampleIdeal.nD Cert.ReferenceAttendSampleIdeal.τ).loc Cert.ReferenceAttendSampleIdeal.main_arg0)) (m ((c.tc : Thread Cert.ReferenceAttendSampleIdeal.nD Cert.ReferenceAttendSampleIdeal.τ).loc Cert.ReferenceAttendSampleIdeal.main_arg1)) (m ((c.tc : Thread Cert.ReferenceAttendSampleIdeal.nD Cert.ReferenceAttendSampleIdeal.τ).loc Cert.ReferenceAttendSampleIdeal.main_arg2)) (m ((c.tc : Thread Cert.ReferenceAttendSampleIdeal.nD Cert.ReferenceAttendSampleIdeal.τ).loc Cert.ReferenceAttendSampleIdeal.main_arg3)) (m ((c.tc : Thread Cert.ReferenceAttendSampleIdeal.nD Cert.ReferenceAttendSampleIdeal.τ).loc Cert.ReferenceAttendSampleIdeal.main_arg4)) (m ((c.tc : Thread Cert.ReferenceAttendSampleIdeal.nD Cert.ReferenceAttendSampleIdeal.τ).loc Cert.ReferenceAttendSampleIdeal.main_arg5))).1 = (fun _ => 1#1)
    ∧ (Cert.Pre_finite_scores.fn (F := Ideal) (m ((c.tc : Thread Cert.ReferenceAttendSampleIdeal.nD Cert.ReferenceAttendSampleIdeal.τ).loc Cert.ReferenceAttendSampleIdeal.main_arg0)) (m ((c.tc : Thread Cert.ReferenceAttendSampleIdeal.nD Cert.ReferenceAttendSampleIdeal.τ).loc Cert.ReferenceAttendSampleIdeal.main_arg1)) (m ((c.tc : Thread Cert.ReferenceAttendSampleIdeal.nD Cert.ReferenceAttendSampleIdeal.τ).loc Cert.ReferenceAttendSampleIdeal.main_arg2)) (m ((c.tc : Thread Cert.ReferenceAttendSampleIdeal.nD Cert.ReferenceAttendSampleIdeal.τ).loc Cert.ReferenceAttendSampleIdeal.main_arg3)) (m ((c.tc : Thread Cert.ReferenceAttendSampleIdeal.nD Cert.ReferenceAttendSampleIdeal.τ).loc Cert.ReferenceAttendSampleIdeal.main_arg4)) (m ((c.tc : Thread Cert.ReferenceAttendSampleIdeal.nD Cert.ReferenceAttendSampleIdeal.τ).loc Cert.ReferenceAttendSampleIdeal.main_arg5))).2.1 = (fun _ => 1#1)
    ∧ (Cert.Pre_finite_scores.fn (F := Ideal) (m ((c.tc : Thread Cert.ReferenceAttendSampleIdeal.nD Cert.ReferenceAttendSampleIdeal.τ).loc Cert.ReferenceAttendSampleIdeal.main_arg0)) (m ((c.tc : Thread Cert.ReferenceAttendSampleIdeal.nD Cert.ReferenceAttendSampleIdeal.τ).loc Cert.ReferenceAttendSampleIdeal.main_arg1)) (m ((c.tc : Thread Cert.ReferenceAttendSampleIdeal.nD Cert.ReferenceAttendSampleIdeal.τ).loc Cert.ReferenceAttendSampleIdeal.main_arg2)) (m ((c.tc : Thread Cert.ReferenceAttendSampleIdeal.nD Cert.ReferenceAttendSampleIdeal.τ).loc Cert.ReferenceAttendSampleIdeal.main_arg3)) (m ((c.tc : Thread Cert.ReferenceAttendSampleIdeal.nD Cert.ReferenceAttendSampleIdeal.τ).loc Cert.ReferenceAttendSampleIdeal.main_arg4)) (m ((c.tc : Thread Cert.ReferenceAttendSampleIdeal.nD Cert.ReferenceAttendSampleIdeal.τ).loc Cert.ReferenceAttendSampleIdeal.main_arg5))).2.2.1 = (fun _ => 1#1)
    ∧ (Cert.Pre_finite_scores.fn (F := Ideal) (m ((c.tc : Thread Cert.ReferenceAttendSampleIdeal.nD Cert.ReferenceAttendSampleIdeal.τ).loc Cert.ReferenceAttendSampleIdeal.main_arg0)) (m ((c.tc : Thread Cert.ReferenceAttendSampleIdeal.nD Cert.ReferenceAttendSampleIdeal.τ).loc Cert.ReferenceAttendSampleIdeal.main_arg1)) (m ((c.tc : Thread Cert.ReferenceAttendSampleIdeal.nD Cert.ReferenceAttendSampleIdeal.τ).loc Cert.ReferenceAttendSampleIdeal.main_arg2)) (m ((c.tc : Thread Cert.ReferenceAttendSampleIdeal.nD Cert.ReferenceAttendSampleIdeal.τ).loc Cert.ReferenceAttendSampleIdeal.main_arg3)) (m ((c.tc : Thread Cert.ReferenceAttendSampleIdeal.nD Cert.ReferenceAttendSampleIdeal.τ).loc Cert.ReferenceAttendSampleIdeal.main_arg4)) (m ((c.tc : Thread Cert.ReferenceAttendSampleIdeal.nD Cert.ReferenceAttendSampleIdeal.τ).loc Cert.ReferenceAttendSampleIdeal.main_arg5))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ProjectPrompt [hProjectPrompt : Cert.ProjectPrompt.Facts] : Prop :=
  ∀ (m : (ℓ : Loc Cert.ProjectPrompt.nD Cert.ProjectPrompt.τ Cert.ProjectPrompt.sig) → Buf (Elt Bits) ℓ) (g : Dev Cert.ProjectPrompt.nD → PrngReg), Pre_ProjectPrompt m →
    θ_run (Cert.ProjectPrompt.defs (F := Bits)) (onTc (τ := Cert.ProjectPrompt.τ) (Cert.ProjectPrompt.main (F := Bits))) ⟨m, fun _ => 0, g⟩ (fun r => (∀ c : Dev Cert.ProjectPrompt.nD,
      r.2.mem ((c.tc : Thread Cert.ProjectPrompt.nD Cert.ProjectPrompt.τ).loc Cert.ProjectPrompt.main_arg0) = m ((c.tc : Thread Cert.ProjectPrompt.nD Cert.ProjectPrompt.τ).loc Cert.ProjectPrompt.main_arg0)
      ∧ r.2.mem ((c.tc : Thread Cert.ProjectPrompt.nD Cert.ProjectPrompt.τ).loc Cert.ProjectPrompt.main_arg1) = m ((c.tc : Thread Cert.ProjectPrompt.nD Cert.ProjectPrompt.τ).loc Cert.ProjectPrompt.main_arg1)
      ∧ r.2.mem ((c.tc : Thread Cert.ProjectPrompt.nD Cert.ProjectPrompt.τ).loc Cert.ProjectPrompt.main_arg2) = m ((c.tc : Thread Cert.ProjectPrompt.nD Cert.ProjectPrompt.τ).loc Cert.ProjectPrompt.main_arg2)
      ∧ r.2.mem ((c.tc : Thread Cert.ProjectPrompt.nD Cert.ProjectPrompt.τ).loc Cert.ProjectPrompt.main_arg3) = m ((c.tc : Thread Cert.ProjectPrompt.nD Cert.ProjectPrompt.τ).loc Cert.ProjectPrompt.main_arg3))
      ∧ r.2.sem = fun _ => 0)

def quiescent_ProjectPromptIdeal [hProjectPromptIdeal : Cert.ProjectPromptIdeal.Facts] : Prop :=
  ∀ (m : (ℓ : Loc Cert.ProjectPromptIdeal.nD Cert.ProjectPromptIdeal.τ Cert.ProjectPromptIdeal.sig) → Buf (Elt Ideal) ℓ) (g : Dev Cert.ProjectPromptIdeal.nD → PrngReg), Pre_ProjectPromptIdeal m →
    θ_run (Cert.ProjectPromptIdeal.defs (F := Ideal)) (onTc (τ := Cert.ProjectPromptIdeal.τ) (Cert.ProjectPromptIdeal.main (F := Ideal))) ⟨m, fun _ => 0, g⟩ (fun r => (∀ c : Dev Cert.ProjectPromptIdeal.nD,
      r.2.mem ((c.tc : Thread Cert.ProjectPromptIdeal.nD Cert.ProjectPromptIdeal.τ).loc Cert.ProjectPromptIdeal.main_arg0) = m ((c.tc : Thread Cert.ProjectPromptIdeal.nD Cert.ProjectPromptIdeal.τ).loc Cert.ProjectPromptIdeal.main_arg0)
      ∧ r.2.mem ((c.tc : Thread Cert.ProjectPromptIdeal.nD Cert.ProjectPromptIdeal.τ).loc Cert.ProjectPromptIdeal.main_arg1) = m ((c.tc : Thread Cert.ProjectPromptIdeal.nD Cert.ProjectPromptIdeal.τ).loc Cert.ProjectPromptIdeal.main_arg1)
      ∧ r.2.mem ((c.tc : Thread Cert.ProjectPromptIdeal.nD Cert.ProjectPromptIdeal.τ).loc Cert.ProjectPromptIdeal.main_arg2) = m ((c.tc : Thread Cert.ProjectPromptIdeal.nD Cert.ProjectPromptIdeal.τ).loc Cert.ProjectPromptIdeal.main_arg2)
      ∧ r.2.mem ((c.tc : Thread Cert.ProjectPromptIdeal.nD Cert.ProjectPromptIdeal.τ).loc Cert.ProjectPromptIdeal.main_arg3) = m ((c.tc : Thread Cert.ProjectPromptIdeal.nD Cert.ProjectPromptIdeal.τ).loc Cert.ProjectPromptIdeal.main_arg3))
      ∧ r.2.sem = fun _ => 0)

def quiescent_ReferenceProjectPromptIdeal [hReferenceProjectPromptIdeal : Cert.ReferenceProjectPromptIdeal.Facts] : Prop :=
  ∀ (m : (ℓ : Loc Cert.ReferenceProjectPromptIdeal.nD Cert.ReferenceProjectPromptIdeal.τ Cert.ReferenceProjectPromptIdeal.sig) → Buf (Elt Ideal) ℓ) (g : Dev Cert.ReferenceProjectPromptIdeal.nD → PrngReg), Pre_ReferenceProjectPromptIdeal m →
    θ_run (Cert.ReferenceProjectPromptIdeal.defs (F := Ideal)) (onTc (τ := Cert.ReferenceProjectPromptIdeal.τ) (Cert.ReferenceProjectPromptIdeal.main (F := Ideal))) ⟨m, fun _ => 0, g⟩ (fun r => (∀ c : Dev Cert.ReferenceProjectPromptIdeal.nD,
      r.2.mem ((c.tc : Thread Cert.ReferenceProjectPromptIdeal.nD Cert.ReferenceProjectPromptIdeal.τ).loc Cert.ReferenceProjectPromptIdeal.main_arg0) = m ((c.tc : Thread Cert.ReferenceProjectPromptIdeal.nD Cert.ReferenceProjectPromptIdeal.τ).loc Cert.ReferenceProjectPromptIdeal.main_arg0)
      ∧ r.2.mem ((c.tc : Thread Cert.ReferenceProjectPromptIdeal.nD Cert.ReferenceProjectPromptIdeal.τ).loc Cert.ReferenceProjectPromptIdeal.main_arg1) = m ((c.tc : Thread Cert.ReferenceProjectPromptIdeal.nD Cert.ReferenceProjectPromptIdeal.τ).loc Cert.ReferenceProjectPromptIdeal.main_arg1)
      ∧ r.2.mem ((c.tc : Thread Cert.ReferenceProjectPromptIdeal.nD Cert.ReferenceProjectPromptIdeal.τ).loc Cert.ReferenceProjectPromptIdeal.main_arg2) = m ((c.tc : Thread Cert.ReferenceProjectPromptIdeal.nD Cert.ReferenceProjectPromptIdeal.τ).loc Cert.ReferenceProjectPromptIdeal.main_arg2)
      ∧ r.2.mem ((c.tc : Thread Cert.ReferenceProjectPromptIdeal.nD Cert.ReferenceProjectPromptIdeal.τ).loc Cert.ReferenceProjectPromptIdeal.main_arg3) = m ((c.tc : Thread Cert.ReferenceProjectPromptIdeal.nD Cert.ReferenceProjectPromptIdeal.τ).loc Cert.ReferenceProjectPromptIdeal.main_arg3))
      ∧ r.2.sem = fun _ => 0)

def quiescent_ProjectSample [hProjectSample : Cert.ProjectSample.Facts] : Prop :=
  ∀ (m : (ℓ : Loc Cert.ProjectSample.nD Cert.ProjectSample.τ Cert.ProjectSample.sig) → Buf (Elt Bits) ℓ) (g : Dev Cert.ProjectSample.nD → PrngReg), Pre_ProjectSample m →
    θ_run (Cert.ProjectSample.defs (F := Bits)) (onTc (τ := Cert.ProjectSample.τ) (Cert.ProjectSample.main (F := Bits))) ⟨m, fun _ => 0, g⟩ (fun r => (∀ c : Dev Cert.ProjectSample.nD,
      r.2.mem ((c.tc : Thread Cert.ProjectSample.nD Cert.ProjectSample.τ).loc Cert.ProjectSample.main_arg0) = m ((c.tc : Thread Cert.ProjectSample.nD Cert.ProjectSample.τ).loc Cert.ProjectSample.main_arg0)
      ∧ r.2.mem ((c.tc : Thread Cert.ProjectSample.nD Cert.ProjectSample.τ).loc Cert.ProjectSample.main_arg1) = m ((c.tc : Thread Cert.ProjectSample.nD Cert.ProjectSample.τ).loc Cert.ProjectSample.main_arg1)
      ∧ r.2.mem ((c.tc : Thread Cert.ProjectSample.nD Cert.ProjectSample.τ).loc Cert.ProjectSample.main_arg2) = m ((c.tc : Thread Cert.ProjectSample.nD Cert.ProjectSample.τ).loc Cert.ProjectSample.main_arg2)
      ∧ r.2.mem ((c.tc : Thread Cert.ProjectSample.nD Cert.ProjectSample.τ).loc Cert.ProjectSample.main_arg3) = m ((c.tc : Thread Cert.ProjectSample.nD Cert.ProjectSample.τ).loc Cert.ProjectSample.main_arg3))
      ∧ r.2.sem = fun _ => 0)

def quiescent_ProjectSampleIdeal [hProjectSampleIdeal : Cert.ProjectSampleIdeal.Facts] : Prop :=
  ∀ (m : (ℓ : Loc Cert.ProjectSampleIdeal.nD Cert.ProjectSampleIdeal.τ Cert.ProjectSampleIdeal.sig) → Buf (Elt Ideal) ℓ) (g : Dev Cert.ProjectSampleIdeal.nD → PrngReg), Pre_ProjectSampleIdeal m →
    θ_run (Cert.ProjectSampleIdeal.defs (F := Ideal)) (onTc (τ := Cert.ProjectSampleIdeal.τ) (Cert.ProjectSampleIdeal.main (F := Ideal))) ⟨m, fun _ => 0, g⟩ (fun r => (∀ c : Dev Cert.ProjectSampleIdeal.nD,
      r.2.mem ((c.tc : Thread Cert.ProjectSampleIdeal.nD Cert.ProjectSampleIdeal.τ).loc Cert.ProjectSampleIdeal.main_arg0) = m ((c.tc : Thread Cert.ProjectSampleIdeal.nD Cert.ProjectSampleIdeal.τ).loc Cert.ProjectSampleIdeal.main_arg0)
      ∧ r.2.mem ((c.tc : Thread Cert.ProjectSampleIdeal.nD Cert.ProjectSampleIdeal.τ).loc Cert.ProjectSampleIdeal.main_arg1) = m ((c.tc : Thread Cert.ProjectSampleIdeal.nD Cert.ProjectSampleIdeal.τ).loc Cert.ProjectSampleIdeal.main_arg1)
      ∧ r.2.mem ((c.tc : Thread Cert.ProjectSampleIdeal.nD Cert.ProjectSampleIdeal.τ).loc Cert.ProjectSampleIdeal.main_arg2) = m ((c.tc : Thread Cert.ProjectSampleIdeal.nD Cert.ProjectSampleIdeal.τ).loc Cert.ProjectSampleIdeal.main_arg2)
      ∧ r.2.mem ((c.tc : Thread Cert.ProjectSampleIdeal.nD Cert.ProjectSampleIdeal.τ).loc Cert.ProjectSampleIdeal.main_arg3) = m ((c.tc : Thread Cert.ProjectSampleIdeal.nD Cert.ProjectSampleIdeal.τ).loc Cert.ProjectSampleIdeal.main_arg3))
      ∧ r.2.sem = fun _ => 0)

def quiescent_ReferenceProjectSampleIdeal [hReferenceProjectSampleIdeal : Cert.ReferenceProjectSampleIdeal.Facts] : Prop :=
  ∀ (m : (ℓ : Loc Cert.ReferenceProjectSampleIdeal.nD Cert.ReferenceProjectSampleIdeal.τ Cert.ReferenceProjectSampleIdeal.sig) → Buf (Elt Ideal) ℓ) (g : Dev Cert.ReferenceProjectSampleIdeal.nD → PrngReg), Pre_ReferenceProjectSampleIdeal m →
    θ_run (Cert.ReferenceProjectSampleIdeal.defs (F := Ideal)) (onTc (τ := Cert.ReferenceProjectSampleIdeal.τ) (Cert.ReferenceProjectSampleIdeal.main (F := Ideal))) ⟨m, fun _ => 0, g⟩ (fun r => (∀ c : Dev Cert.ReferenceProjectSampleIdeal.nD,
      r.2.mem ((c.tc : Thread Cert.ReferenceProjectSampleIdeal.nD Cert.ReferenceProjectSampleIdeal.τ).loc Cert.ReferenceProjectSampleIdeal.main_arg0) = m ((c.tc : Thread Cert.ReferenceProjectSampleIdeal.nD Cert.ReferenceProjectSampleIdeal.τ).loc Cert.ReferenceProjectSampleIdeal.main_arg0)
      ∧ r.2.mem ((c.tc : Thread Cert.ReferenceProjectSampleIdeal.nD Cert.ReferenceProjectSampleIdeal.τ).loc Cert.ReferenceProjectSampleIdeal.main_arg1) = m ((c.tc : Thread Cert.ReferenceProjectSampleIdeal.nD Cert.ReferenceProjectSampleIdeal.τ).loc Cert.ReferenceProjectSampleIdeal.main_arg1)
      ∧ r.2.mem ((c.tc : Thread Cert.ReferenceProjectSampleIdeal.nD Cert.ReferenceProjectSampleIdeal.τ).loc Cert.ReferenceProjectSampleIdeal.main_arg2) = m ((c.tc : Thread Cert.ReferenceProjectSampleIdeal.nD Cert.ReferenceProjectSampleIdeal.τ).loc Cert.ReferenceProjectSampleIdeal.main_arg2)
      ∧ r.2.mem ((c.tc : Thread Cert.ReferenceProjectSampleIdeal.nD Cert.ReferenceProjectSampleIdeal.τ).loc Cert.ReferenceProjectSampleIdeal.main_arg3) = m ((c.tc : Thread Cert.ReferenceProjectSampleIdeal.nD Cert.ReferenceProjectSampleIdeal.τ).loc Cert.ReferenceProjectSampleIdeal.main_arg3))
      ∧ r.2.sem = fun _ => 0)

def quiescent_MergePrompt [hMergePrompt : Cert.MergePrompt.Facts] : Prop :=
  ∀ (m : (ℓ : Loc Cert.MergePrompt.nD Cert.MergePrompt.τ Cert.MergePrompt.sig) → Buf (Elt Bits) ℓ) (g : Dev Cert.MergePrompt.nD → PrngReg), Pre_MergePrompt m →
    θ_run (Cert.MergePrompt.defs (F := Bits)) (onTc (τ := Cert.MergePrompt.τ) (Cert.MergePrompt.main (F := Bits))) ⟨m, fun _ => 0, g⟩ (fun r => (∀ c : Dev Cert.MergePrompt.nD,
      r.2.mem ((c.tc : Thread Cert.MergePrompt.nD Cert.MergePrompt.τ).loc Cert.MergePrompt.main_arg0) = m ((c.tc : Thread Cert.MergePrompt.nD Cert.MergePrompt.τ).loc Cert.MergePrompt.main_arg0)
      ∧ r.2.mem ((c.tc : Thread Cert.MergePrompt.nD Cert.MergePrompt.τ).loc Cert.MergePrompt.main_arg1) = m ((c.tc : Thread Cert.MergePrompt.nD Cert.MergePrompt.τ).loc Cert.MergePrompt.main_arg1)
      ∧ r.2.mem ((c.tc : Thread Cert.MergePrompt.nD Cert.MergePrompt.τ).loc Cert.MergePrompt.main_arg2) = m ((c.tc : Thread Cert.MergePrompt.nD Cert.MergePrompt.τ).loc Cert.MergePrompt.main_arg2)
      ∧ r.2.mem ((c.tc : Thread Cert.MergePrompt.nD Cert.MergePrompt.τ).loc Cert.MergePrompt.main_arg3) = m ((c.tc : Thread Cert.MergePrompt.nD Cert.MergePrompt.τ).loc Cert.MergePrompt.main_arg3)
      ∧ r.2.mem ((c.tc : Thread Cert.MergePrompt.nD Cert.MergePrompt.τ).loc Cert.MergePrompt.main_arg4) = m ((c.tc : Thread Cert.MergePrompt.nD Cert.MergePrompt.τ).loc Cert.MergePrompt.main_arg4)
      ∧ r.2.mem ((c.tc : Thread Cert.MergePrompt.nD Cert.MergePrompt.τ).loc Cert.MergePrompt.main_arg5) = m ((c.tc : Thread Cert.MergePrompt.nD Cert.MergePrompt.τ).loc Cert.MergePrompt.main_arg5)
      ∧ r.2.mem ((c.tc : Thread Cert.MergePrompt.nD Cert.MergePrompt.τ).loc Cert.MergePrompt.main_arg6) = m ((c.tc : Thread Cert.MergePrompt.nD Cert.MergePrompt.τ).loc Cert.MergePrompt.main_arg6)
      ∧ r.2.mem ((c.tc : Thread Cert.MergePrompt.nD Cert.MergePrompt.τ).loc Cert.MergePrompt.main_arg7) = m ((c.tc : Thread Cert.MergePrompt.nD Cert.MergePrompt.τ).loc Cert.MergePrompt.main_arg7))
      ∧ r.2.sem = fun _ => 0)

def quiescent_MergePromptIdeal [hMergePromptIdeal : Cert.MergePromptIdeal.Facts] : Prop :=
  ∀ (m : (ℓ : Loc Cert.MergePromptIdeal.nD Cert.MergePromptIdeal.τ Cert.MergePromptIdeal.sig) → Buf (Elt Ideal) ℓ) (g : Dev Cert.MergePromptIdeal.nD → PrngReg), Pre_MergePromptIdeal m →
    θ_run (Cert.MergePromptIdeal.defs (F := Ideal)) (onTc (τ := Cert.MergePromptIdeal.τ) (Cert.MergePromptIdeal.main (F := Ideal))) ⟨m, fun _ => 0, g⟩ (fun r => (∀ c : Dev Cert.MergePromptIdeal.nD,
      r.2.mem ((c.tc : Thread Cert.MergePromptIdeal.nD Cert.MergePromptIdeal.τ).loc Cert.MergePromptIdeal.main_arg0) = m ((c.tc : Thread Cert.MergePromptIdeal.nD Cert.MergePromptIdeal.τ).loc Cert.MergePromptIdeal.main_arg0)
      ∧ r.2.mem ((c.tc : Thread Cert.MergePromptIdeal.nD Cert.MergePromptIdeal.τ).loc Cert.MergePromptIdeal.main_arg1) = m ((c.tc : Thread Cert.MergePromptIdeal.nD Cert.MergePromptIdeal.τ).loc Cert.MergePromptIdeal.main_arg1)
      ∧ r.2.mem ((c.tc : Thread Cert.MergePromptIdeal.nD Cert.MergePromptIdeal.τ).loc Cert.MergePromptIdeal.main_arg2) = m ((c.tc : Thread Cert.MergePromptIdeal.nD Cert.MergePromptIdeal.τ).loc Cert.MergePromptIdeal.main_arg2)
      ∧ r.2.mem ((c.tc : Thread Cert.MergePromptIdeal.nD Cert.MergePromptIdeal.τ).loc Cert.MergePromptIdeal.main_arg3) = m ((c.tc : Thread Cert.MergePromptIdeal.nD Cert.MergePromptIdeal.τ).loc Cert.MergePromptIdeal.main_arg3)
      ∧ r.2.mem ((c.tc : Thread Cert.MergePromptIdeal.nD Cert.MergePromptIdeal.τ).loc Cert.MergePromptIdeal.main_arg4) = m ((c.tc : Thread Cert.MergePromptIdeal.nD Cert.MergePromptIdeal.τ).loc Cert.MergePromptIdeal.main_arg4)
      ∧ r.2.mem ((c.tc : Thread Cert.MergePromptIdeal.nD Cert.MergePromptIdeal.τ).loc Cert.MergePromptIdeal.main_arg5) = m ((c.tc : Thread Cert.MergePromptIdeal.nD Cert.MergePromptIdeal.τ).loc Cert.MergePromptIdeal.main_arg5)
      ∧ r.2.mem ((c.tc : Thread Cert.MergePromptIdeal.nD Cert.MergePromptIdeal.τ).loc Cert.MergePromptIdeal.main_arg6) = m ((c.tc : Thread Cert.MergePromptIdeal.nD Cert.MergePromptIdeal.τ).loc Cert.MergePromptIdeal.main_arg6)
      ∧ r.2.mem ((c.tc : Thread Cert.MergePromptIdeal.nD Cert.MergePromptIdeal.τ).loc Cert.MergePromptIdeal.main_arg7) = m ((c.tc : Thread Cert.MergePromptIdeal.nD Cert.MergePromptIdeal.τ).loc Cert.MergePromptIdeal.main_arg7))
      ∧ r.2.sem = fun _ => 0)

def quiescent_ReferenceMergePromptIdeal [hReferenceMergePromptIdeal : Cert.ReferenceMergePromptIdeal.Facts] : Prop :=
  ∀ (m : (ℓ : Loc Cert.ReferenceMergePromptIdeal.nD Cert.ReferenceMergePromptIdeal.τ Cert.ReferenceMergePromptIdeal.sig) → Buf (Elt Ideal) ℓ) (g : Dev Cert.ReferenceMergePromptIdeal.nD → PrngReg), Pre_ReferenceMergePromptIdeal m →
    θ_run (Cert.ReferenceMergePromptIdeal.defs (F := Ideal)) (onTc (τ := Cert.ReferenceMergePromptIdeal.τ) (Cert.ReferenceMergePromptIdeal.main (F := Ideal))) ⟨m, fun _ => 0, g⟩ (fun r => (∀ c : Dev Cert.ReferenceMergePromptIdeal.nD,
      r.2.mem ((c.tc : Thread Cert.ReferenceMergePromptIdeal.nD Cert.ReferenceMergePromptIdeal.τ).loc Cert.ReferenceMergePromptIdeal.main_arg0) = m ((c.tc : Thread Cert.ReferenceMergePromptIdeal.nD Cert.ReferenceMergePromptIdeal.τ).loc Cert.ReferenceMergePromptIdeal.main_arg0)
      ∧ r.2.mem ((c.tc : Thread Cert.ReferenceMergePromptIdeal.nD Cert.ReferenceMergePromptIdeal.τ).loc Cert.ReferenceMergePromptIdeal.main_arg1) = m ((c.tc : Thread Cert.ReferenceMergePromptIdeal.nD Cert.ReferenceMergePromptIdeal.τ).loc Cert.ReferenceMergePromptIdeal.main_arg1)
      ∧ r.2.mem ((c.tc : Thread Cert.ReferenceMergePromptIdeal.nD Cert.ReferenceMergePromptIdeal.τ).loc Cert.ReferenceMergePromptIdeal.main_arg2) = m ((c.tc : Thread Cert.ReferenceMergePromptIdeal.nD Cert.ReferenceMergePromptIdeal.τ).loc Cert.ReferenceMergePromptIdeal.main_arg2)
      ∧ r.2.mem ((c.tc : Thread Cert.ReferenceMergePromptIdeal.nD Cert.ReferenceMergePromptIdeal.τ).loc Cert.ReferenceMergePromptIdeal.main_arg3) = m ((c.tc : Thread Cert.ReferenceMergePromptIdeal.nD Cert.ReferenceMergePromptIdeal.τ).loc Cert.ReferenceMergePromptIdeal.main_arg3)
      ∧ r.2.mem ((c.tc : Thread Cert.ReferenceMergePromptIdeal.nD Cert.ReferenceMergePromptIdeal.τ).loc Cert.ReferenceMergePromptIdeal.main_arg4) = m ((c.tc : Thread Cert.ReferenceMergePromptIdeal.nD Cert.ReferenceMergePromptIdeal.τ).loc Cert.ReferenceMergePromptIdeal.main_arg4)
      ∧ r.2.mem ((c.tc : Thread Cert.ReferenceMergePromptIdeal.nD Cert.ReferenceMergePromptIdeal.τ).loc Cert.ReferenceMergePromptIdeal.main_arg5) = m ((c.tc : Thread Cert.ReferenceMergePromptIdeal.nD Cert.ReferenceMergePromptIdeal.τ).loc Cert.ReferenceMergePromptIdeal.main_arg5)
      ∧ r.2.mem ((c.tc : Thread Cert.ReferenceMergePromptIdeal.nD Cert.ReferenceMergePromptIdeal.τ).loc Cert.ReferenceMergePromptIdeal.main_arg6) = m ((c.tc : Thread Cert.ReferenceMergePromptIdeal.nD Cert.ReferenceMergePromptIdeal.τ).loc Cert.ReferenceMergePromptIdeal.main_arg6)
      ∧ r.2.mem ((c.tc : Thread Cert.ReferenceMergePromptIdeal.nD Cert.ReferenceMergePromptIdeal.τ).loc Cert.ReferenceMergePromptIdeal.main_arg7) = m ((c.tc : Thread Cert.ReferenceMergePromptIdeal.nD Cert.ReferenceMergePromptIdeal.τ).loc Cert.ReferenceMergePromptIdeal.main_arg7))
      ∧ r.2.sem = fun _ => 0)

def quiescent_MergeSample [hMergeSample : Cert.MergeSample.Facts] : Prop :=
  ∀ (m : (ℓ : Loc Cert.MergeSample.nD Cert.MergeSample.τ Cert.MergeSample.sig) → Buf (Elt Bits) ℓ) (g : Dev Cert.MergeSample.nD → PrngReg), Pre_MergeSample m →
    θ_run (Cert.MergeSample.defs (F := Bits)) (onTc (τ := Cert.MergeSample.τ) (Cert.MergeSample.main (F := Bits))) ⟨m, fun _ => 0, g⟩ (fun r => (∀ c : Dev Cert.MergeSample.nD,
      r.2.mem ((c.tc : Thread Cert.MergeSample.nD Cert.MergeSample.τ).loc Cert.MergeSample.main_arg0) = m ((c.tc : Thread Cert.MergeSample.nD Cert.MergeSample.τ).loc Cert.MergeSample.main_arg0)
      ∧ r.2.mem ((c.tc : Thread Cert.MergeSample.nD Cert.MergeSample.τ).loc Cert.MergeSample.main_arg1) = m ((c.tc : Thread Cert.MergeSample.nD Cert.MergeSample.τ).loc Cert.MergeSample.main_arg1)
      ∧ r.2.mem ((c.tc : Thread Cert.MergeSample.nD Cert.MergeSample.τ).loc Cert.MergeSample.main_arg2) = m ((c.tc : Thread Cert.MergeSample.nD Cert.MergeSample.τ).loc Cert.MergeSample.main_arg2)
      ∧ r.2.mem ((c.tc : Thread Cert.MergeSample.nD Cert.MergeSample.τ).loc Cert.MergeSample.main_arg3) = m ((c.tc : Thread Cert.MergeSample.nD Cert.MergeSample.τ).loc Cert.MergeSample.main_arg3)
      ∧ r.2.mem ((c.tc : Thread Cert.MergeSample.nD Cert.MergeSample.τ).loc Cert.MergeSample.main_arg4) = m ((c.tc : Thread Cert.MergeSample.nD Cert.MergeSample.τ).loc Cert.MergeSample.main_arg4)
      ∧ r.2.mem ((c.tc : Thread Cert.MergeSample.nD Cert.MergeSample.τ).loc Cert.MergeSample.main_arg5) = m ((c.tc : Thread Cert.MergeSample.nD Cert.MergeSample.τ).loc Cert.MergeSample.main_arg5)
      ∧ r.2.mem ((c.tc : Thread Cert.MergeSample.nD Cert.MergeSample.τ).loc Cert.MergeSample.main_arg6) = m ((c.tc : Thread Cert.MergeSample.nD Cert.MergeSample.τ).loc Cert.MergeSample.main_arg6)
      ∧ r.2.mem ((c.tc : Thread Cert.MergeSample.nD Cert.MergeSample.τ).loc Cert.MergeSample.main_arg7) = m ((c.tc : Thread Cert.MergeSample.nD Cert.MergeSample.τ).loc Cert.MergeSample.main_arg7))
      ∧ r.2.sem = fun _ => 0)

def quiescent_MergeSampleIdeal [hMergeSampleIdeal : Cert.MergeSampleIdeal.Facts] : Prop :=
  ∀ (m : (ℓ : Loc Cert.MergeSampleIdeal.nD Cert.MergeSampleIdeal.τ Cert.MergeSampleIdeal.sig) → Buf (Elt Ideal) ℓ) (g : Dev Cert.MergeSampleIdeal.nD → PrngReg), Pre_MergeSampleIdeal m →
    θ_run (Cert.MergeSampleIdeal.defs (F := Ideal)) (onTc (τ := Cert.MergeSampleIdeal.τ) (Cert.MergeSampleIdeal.main (F := Ideal))) ⟨m, fun _ => 0, g⟩ (fun r => (∀ c : Dev Cert.MergeSampleIdeal.nD,
      r.2.mem ((c.tc : Thread Cert.MergeSampleIdeal.nD Cert.MergeSampleIdeal.τ).loc Cert.MergeSampleIdeal.main_arg0) = m ((c.tc : Thread Cert.MergeSampleIdeal.nD Cert.MergeSampleIdeal.τ).loc Cert.MergeSampleIdeal.main_arg0)
      ∧ r.2.mem ((c.tc : Thread Cert.MergeSampleIdeal.nD Cert.MergeSampleIdeal.τ).loc Cert.MergeSampleIdeal.main_arg1) = m ((c.tc : Thread Cert.MergeSampleIdeal.nD Cert.MergeSampleIdeal.τ).loc Cert.MergeSampleIdeal.main_arg1)
      ∧ r.2.mem ((c.tc : Thread Cert.MergeSampleIdeal.nD Cert.MergeSampleIdeal.τ).loc Cert.MergeSampleIdeal.main_arg2) = m ((c.tc : Thread Cert.MergeSampleIdeal.nD Cert.MergeSampleIdeal.τ).loc Cert.MergeSampleIdeal.main_arg2)
      ∧ r.2.mem ((c.tc : Thread Cert.MergeSampleIdeal.nD Cert.MergeSampleIdeal.τ).loc Cert.MergeSampleIdeal.main_arg3) = m ((c.tc : Thread Cert.MergeSampleIdeal.nD Cert.MergeSampleIdeal.τ).loc Cert.MergeSampleIdeal.main_arg3)
      ∧ r.2.mem ((c.tc : Thread Cert.MergeSampleIdeal.nD Cert.MergeSampleIdeal.τ).loc Cert.MergeSampleIdeal.main_arg4) = m ((c.tc : Thread Cert.MergeSampleIdeal.nD Cert.MergeSampleIdeal.τ).loc Cert.MergeSampleIdeal.main_arg4)
      ∧ r.2.mem ((c.tc : Thread Cert.MergeSampleIdeal.nD Cert.MergeSampleIdeal.τ).loc Cert.MergeSampleIdeal.main_arg5) = m ((c.tc : Thread Cert.MergeSampleIdeal.nD Cert.MergeSampleIdeal.τ).loc Cert.MergeSampleIdeal.main_arg5)
      ∧ r.2.mem ((c.tc : Thread Cert.MergeSampleIdeal.nD Cert.MergeSampleIdeal.τ).loc Cert.MergeSampleIdeal.main_arg6) = m ((c.tc : Thread Cert.MergeSampleIdeal.nD Cert.MergeSampleIdeal.τ).loc Cert.MergeSampleIdeal.main_arg6)
      ∧ r.2.mem ((c.tc : Thread Cert.MergeSampleIdeal.nD Cert.MergeSampleIdeal.τ).loc Cert.MergeSampleIdeal.main_arg7) = m ((c.tc : Thread Cert.MergeSampleIdeal.nD Cert.MergeSampleIdeal.τ).loc Cert.MergeSampleIdeal.main_arg7))
      ∧ r.2.sem = fun _ => 0)

def quiescent_ReferenceMergeSampleIdeal [hReferenceMergeSampleIdeal : Cert.ReferenceMergeSampleIdeal.Facts] : Prop :=
  ∀ (m : (ℓ : Loc Cert.ReferenceMergeSampleIdeal.nD Cert.ReferenceMergeSampleIdeal.τ Cert.ReferenceMergeSampleIdeal.sig) → Buf (Elt Ideal) ℓ) (g : Dev Cert.ReferenceMergeSampleIdeal.nD → PrngReg), Pre_ReferenceMergeSampleIdeal m →
    θ_run (Cert.ReferenceMergeSampleIdeal.defs (F := Ideal)) (onTc (τ := Cert.ReferenceMergeSampleIdeal.τ) (Cert.ReferenceMergeSampleIdeal.main (F := Ideal))) ⟨m, fun _ => 0, g⟩ (fun r => (∀ c : Dev Cert.ReferenceMergeSampleIdeal.nD,
      r.2.mem ((c.tc : Thread Cert.ReferenceMergeSampleIdeal.nD Cert.ReferenceMergeSampleIdeal.τ).loc Cert.ReferenceMergeSampleIdeal.main_arg0) = m ((c.tc : Thread Cert.ReferenceMergeSampleIdeal.nD Cert.ReferenceMergeSampleIdeal.τ).loc Cert.ReferenceMergeSampleIdeal.main_arg0)
      ∧ r.2.mem ((c.tc : Thread Cert.ReferenceMergeSampleIdeal.nD Cert.ReferenceMergeSampleIdeal.τ).loc Cert.ReferenceMergeSampleIdeal.main_arg1) = m ((c.tc : Thread Cert.ReferenceMergeSampleIdeal.nD Cert.ReferenceMergeSampleIdeal.τ).loc Cert.ReferenceMergeSampleIdeal.main_arg1)
      ∧ r.2.mem ((c.tc : Thread Cert.ReferenceMergeSampleIdeal.nD Cert.ReferenceMergeSampleIdeal.τ).loc Cert.ReferenceMergeSampleIdeal.main_arg2) = m ((c.tc : Thread Cert.ReferenceMergeSampleIdeal.nD Cert.ReferenceMergeSampleIdeal.τ).loc Cert.ReferenceMergeSampleIdeal.main_arg2)
      ∧ r.2.mem ((c.tc : Thread Cert.ReferenceMergeSampleIdeal.nD Cert.ReferenceMergeSampleIdeal.τ).loc Cert.ReferenceMergeSampleIdeal.main_arg3) = m ((c.tc : Thread Cert.ReferenceMergeSampleIdeal.nD Cert.ReferenceMergeSampleIdeal.τ).loc Cert.ReferenceMergeSampleIdeal.main_arg3)
      ∧ r.2.mem ((c.tc : Thread Cert.ReferenceMergeSampleIdeal.nD Cert.ReferenceMergeSampleIdeal.τ).loc Cert.ReferenceMergeSampleIdeal.main_arg4) = m ((c.tc : Thread Cert.ReferenceMergeSampleIdeal.nD Cert.ReferenceMergeSampleIdeal.τ).loc Cert.ReferenceMergeSampleIdeal.main_arg4)
      ∧ r.2.mem ((c.tc : Thread Cert.ReferenceMergeSampleIdeal.nD Cert.ReferenceMergeSampleIdeal.τ).loc Cert.ReferenceMergeSampleIdeal.main_arg5) = m ((c.tc : Thread Cert.ReferenceMergeSampleIdeal.nD Cert.ReferenceMergeSampleIdeal.τ).loc Cert.ReferenceMergeSampleIdeal.main_arg5)
      ∧ r.2.mem ((c.tc : Thread Cert.ReferenceMergeSampleIdeal.nD Cert.ReferenceMergeSampleIdeal.τ).loc Cert.ReferenceMergeSampleIdeal.main_arg6) = m ((c.tc : Thread Cert.ReferenceMergeSampleIdeal.nD Cert.ReferenceMergeSampleIdeal.τ).loc Cert.ReferenceMergeSampleIdeal.main_arg6)
      ∧ r.2.mem ((c.tc : Thread Cert.ReferenceMergeSampleIdeal.nD Cert.ReferenceMergeSampleIdeal.τ).loc Cert.ReferenceMergeSampleIdeal.main_arg7) = m ((c.tc : Thread Cert.ReferenceMergeSampleIdeal.nD Cert.ReferenceMergeSampleIdeal.τ).loc Cert.ReferenceMergeSampleIdeal.main_arg7))
      ∧ r.2.sem = fun _ => 0)

def quiescent_RetentionSample [hRetentionSample : Cert.RetentionSample.Facts] : Prop :=
  ∀ (m : (ℓ : Loc Cert.RetentionSample.nD Cert.RetentionSample.τ Cert.RetentionSample.sig) → Buf (Elt Bits) ℓ) (g : Dev Cert.RetentionSample.nD → PrngReg), Pre_RetentionSample m →
    θ_run (Cert.RetentionSample.defs (F := Bits)) (onTc (τ := Cert.RetentionSample.τ) (Cert.RetentionSample.main (F := Bits))) ⟨m, fun _ => 0, g⟩ (fun r => (∀ c : Dev Cert.RetentionSample.nD,
      r.2.mem ((c.tc : Thread Cert.RetentionSample.nD Cert.RetentionSample.τ).loc Cert.RetentionSample.main_arg0) = m ((c.tc : Thread Cert.RetentionSample.nD Cert.RetentionSample.τ).loc Cert.RetentionSample.main_arg0)
      ∧ r.2.mem ((c.tc : Thread Cert.RetentionSample.nD Cert.RetentionSample.τ).loc Cert.RetentionSample.main_arg1) = m ((c.tc : Thread Cert.RetentionSample.nD Cert.RetentionSample.τ).loc Cert.RetentionSample.main_arg1)
      ∧ r.2.mem ((c.tc : Thread Cert.RetentionSample.nD Cert.RetentionSample.τ).loc Cert.RetentionSample.main_arg2) = m ((c.tc : Thread Cert.RetentionSample.nD Cert.RetentionSample.τ).loc Cert.RetentionSample.main_arg2)
      ∧ r.2.mem ((c.tc : Thread Cert.RetentionSample.nD Cert.RetentionSample.τ).loc Cert.RetentionSample.main_arg3) = m ((c.tc : Thread Cert.RetentionSample.nD Cert.RetentionSample.τ).loc Cert.RetentionSample.main_arg3)
      ∧ r.2.mem ((c.tc : Thread Cert.RetentionSample.nD Cert.RetentionSample.τ).loc Cert.RetentionSample.main_arg4) = m ((c.tc : Thread Cert.RetentionSample.nD Cert.RetentionSample.τ).loc Cert.RetentionSample.main_arg4))
      ∧ r.2.sem = fun _ => 0)

def quiescent_RetentionSampleIdeal [hRetentionSampleIdeal : Cert.RetentionSampleIdeal.Facts] : Prop :=
  ∀ (m : (ℓ : Loc Cert.RetentionSampleIdeal.nD Cert.RetentionSampleIdeal.τ Cert.RetentionSampleIdeal.sig) → Buf (Elt Ideal) ℓ) (g : Dev Cert.RetentionSampleIdeal.nD → PrngReg), Pre_RetentionSampleIdeal m →
    θ_run (Cert.RetentionSampleIdeal.defs (F := Ideal)) (onTc (τ := Cert.RetentionSampleIdeal.τ) (Cert.RetentionSampleIdeal.main (F := Ideal))) ⟨m, fun _ => 0, g⟩ (fun r => (∀ c : Dev Cert.RetentionSampleIdeal.nD,
      r.2.mem ((c.tc : Thread Cert.RetentionSampleIdeal.nD Cert.RetentionSampleIdeal.τ).loc Cert.RetentionSampleIdeal.main_arg0) = m ((c.tc : Thread Cert.RetentionSampleIdeal.nD Cert.RetentionSampleIdeal.τ).loc Cert.RetentionSampleIdeal.main_arg0)
      ∧ r.2.mem ((c.tc : Thread Cert.RetentionSampleIdeal.nD Cert.RetentionSampleIdeal.τ).loc Cert.RetentionSampleIdeal.main_arg1) = m ((c.tc : Thread Cert.RetentionSampleIdeal.nD Cert.RetentionSampleIdeal.τ).loc Cert.RetentionSampleIdeal.main_arg1)
      ∧ r.2.mem ((c.tc : Thread Cert.RetentionSampleIdeal.nD Cert.RetentionSampleIdeal.τ).loc Cert.RetentionSampleIdeal.main_arg2) = m ((c.tc : Thread Cert.RetentionSampleIdeal.nD Cert.RetentionSampleIdeal.τ).loc Cert.RetentionSampleIdeal.main_arg2)
      ∧ r.2.mem ((c.tc : Thread Cert.RetentionSampleIdeal.nD Cert.RetentionSampleIdeal.τ).loc Cert.RetentionSampleIdeal.main_arg3) = m ((c.tc : Thread Cert.RetentionSampleIdeal.nD Cert.RetentionSampleIdeal.τ).loc Cert.RetentionSampleIdeal.main_arg3)
      ∧ r.2.mem ((c.tc : Thread Cert.RetentionSampleIdeal.nD Cert.RetentionSampleIdeal.τ).loc Cert.RetentionSampleIdeal.main_arg4) = m ((c.tc : Thread Cert.RetentionSampleIdeal.nD Cert.RetentionSampleIdeal.τ).loc Cert.RetentionSampleIdeal.main_arg4))
      ∧ r.2.sem = fun _ => 0)

def quiescent_ReferenceRetentionSampleIdeal [hReferenceRetentionSampleIdeal : Cert.ReferenceRetentionSampleIdeal.Facts] : Prop :=
  ∀ (m : (ℓ : Loc Cert.ReferenceRetentionSampleIdeal.nD Cert.ReferenceRetentionSampleIdeal.τ Cert.ReferenceRetentionSampleIdeal.sig) → Buf (Elt Ideal) ℓ) (g : Dev Cert.ReferenceRetentionSampleIdeal.nD → PrngReg), Pre_ReferenceRetentionSampleIdeal m →
    θ_run (Cert.ReferenceRetentionSampleIdeal.defs (F := Ideal)) (onTc (τ := Cert.ReferenceRetentionSampleIdeal.τ) (Cert.ReferenceRetentionSampleIdeal.main (F := Ideal))) ⟨m, fun _ => 0, g⟩ (fun r => (∀ c : Dev Cert.ReferenceRetentionSampleIdeal.nD,
      r.2.mem ((c.tc : Thread Cert.ReferenceRetentionSampleIdeal.nD Cert.ReferenceRetentionSampleIdeal.τ).loc Cert.ReferenceRetentionSampleIdeal.main_arg0) = m ((c.tc : Thread Cert.ReferenceRetentionSampleIdeal.nD Cert.ReferenceRetentionSampleIdeal.τ).loc Cert.ReferenceRetentionSampleIdeal.main_arg0)
      ∧ r.2.mem ((c.tc : Thread Cert.ReferenceRetentionSampleIdeal.nD Cert.ReferenceRetentionSampleIdeal.τ).loc Cert.ReferenceRetentionSampleIdeal.main_arg1) = m ((c.tc : Thread Cert.ReferenceRetentionSampleIdeal.nD Cert.ReferenceRetentionSampleIdeal.τ).loc Cert.ReferenceRetentionSampleIdeal.main_arg1)
      ∧ r.2.mem ((c.tc : Thread Cert.ReferenceRetentionSampleIdeal.nD Cert.ReferenceRetentionSampleIdeal.τ).loc Cert.ReferenceRetentionSampleIdeal.main_arg2) = m ((c.tc : Thread Cert.ReferenceRetentionSampleIdeal.nD Cert.ReferenceRetentionSampleIdeal.τ).loc Cert.ReferenceRetentionSampleIdeal.main_arg2)
      ∧ r.2.mem ((c.tc : Thread Cert.ReferenceRetentionSampleIdeal.nD Cert.ReferenceRetentionSampleIdeal.τ).loc Cert.ReferenceRetentionSampleIdeal.main_arg3) = m ((c.tc : Thread Cert.ReferenceRetentionSampleIdeal.nD Cert.ReferenceRetentionSampleIdeal.τ).loc Cert.ReferenceRetentionSampleIdeal.main_arg3)
      ∧ r.2.mem ((c.tc : Thread Cert.ReferenceRetentionSampleIdeal.nD Cert.ReferenceRetentionSampleIdeal.τ).loc Cert.ReferenceRetentionSampleIdeal.main_arg4) = m ((c.tc : Thread Cert.ReferenceRetentionSampleIdeal.nD Cert.ReferenceRetentionSampleIdeal.τ).loc Cert.ReferenceRetentionSampleIdeal.main_arg4))
      ∧ r.2.sem = fun _ => 0)

def quiescent_StreamSample [hStreamSample : Cert.StreamSample.Facts] : Prop :=
  ∀ (m : (ℓ : Loc Cert.StreamSample.nD Cert.StreamSample.τ Cert.StreamSample.sig) → Buf (Elt Bits) ℓ) (g : Dev Cert.StreamSample.nD → PrngReg), Pre_StreamSample m →
    θ_run (Cert.StreamSample.defs (F := Bits)) (onTc (τ := Cert.StreamSample.τ) (Cert.StreamSample.main (F := Bits))) ⟨m, fun _ => 0, g⟩ (fun r => (∀ c : Dev Cert.StreamSample.nD,
      r.2.mem ((c.tc : Thread Cert.StreamSample.nD Cert.StreamSample.τ).loc Cert.StreamSample.main_arg0) = m ((c.tc : Thread Cert.StreamSample.nD Cert.StreamSample.τ).loc Cert.StreamSample.main_arg0)
      ∧ r.2.mem ((c.tc : Thread Cert.StreamSample.nD Cert.StreamSample.τ).loc Cert.StreamSample.main_arg1) = m ((c.tc : Thread Cert.StreamSample.nD Cert.StreamSample.τ).loc Cert.StreamSample.main_arg1)
      ∧ r.2.mem ((c.tc : Thread Cert.StreamSample.nD Cert.StreamSample.τ).loc Cert.StreamSample.main_arg2) = m ((c.tc : Thread Cert.StreamSample.nD Cert.StreamSample.τ).loc Cert.StreamSample.main_arg2)
      ∧ r.2.mem ((c.tc : Thread Cert.StreamSample.nD Cert.StreamSample.τ).loc Cert.StreamSample.main_arg3) = m ((c.tc : Thread Cert.StreamSample.nD Cert.StreamSample.τ).loc Cert.StreamSample.main_arg3)
      ∧ r.2.mem ((c.tc : Thread Cert.StreamSample.nD Cert.StreamSample.τ).loc Cert.StreamSample.main_arg4) = m ((c.tc : Thread Cert.StreamSample.nD Cert.StreamSample.τ).loc Cert.StreamSample.main_arg4)
      ∧ r.2.mem ((c.tc : Thread Cert.StreamSample.nD Cert.StreamSample.τ).loc Cert.StreamSample.main_arg5) = m ((c.tc : Thread Cert.StreamSample.nD Cert.StreamSample.τ).loc Cert.StreamSample.main_arg5)
      ∧ r.2.mem ((c.tc : Thread Cert.StreamSample.nD Cert.StreamSample.τ).loc Cert.StreamSample.main_arg6) = m ((c.tc : Thread Cert.StreamSample.nD Cert.StreamSample.τ).loc Cert.StreamSample.main_arg6))
      ∧ r.2.sem = fun _ => 0)

def quiescent_StreamSampleIdeal [hStreamSampleIdeal : Cert.StreamSampleIdeal.Facts] : Prop :=
  ∀ (m : (ℓ : Loc Cert.StreamSampleIdeal.nD Cert.StreamSampleIdeal.τ Cert.StreamSampleIdeal.sig) → Buf (Elt Ideal) ℓ) (g : Dev Cert.StreamSampleIdeal.nD → PrngReg), Pre_StreamSampleIdeal m →
    θ_run (Cert.StreamSampleIdeal.defs (F := Ideal)) (onTc (τ := Cert.StreamSampleIdeal.τ) (Cert.StreamSampleIdeal.main (F := Ideal))) ⟨m, fun _ => 0, g⟩ (fun r => (∀ c : Dev Cert.StreamSampleIdeal.nD,
      r.2.mem ((c.tc : Thread Cert.StreamSampleIdeal.nD Cert.StreamSampleIdeal.τ).loc Cert.StreamSampleIdeal.main_arg0) = m ((c.tc : Thread Cert.StreamSampleIdeal.nD Cert.StreamSampleIdeal.τ).loc Cert.StreamSampleIdeal.main_arg0)
      ∧ r.2.mem ((c.tc : Thread Cert.StreamSampleIdeal.nD Cert.StreamSampleIdeal.τ).loc Cert.StreamSampleIdeal.main_arg1) = m ((c.tc : Thread Cert.StreamSampleIdeal.nD Cert.StreamSampleIdeal.τ).loc Cert.StreamSampleIdeal.main_arg1)
      ∧ r.2.mem ((c.tc : Thread Cert.StreamSampleIdeal.nD Cert.StreamSampleIdeal.τ).loc Cert.StreamSampleIdeal.main_arg2) = m ((c.tc : Thread Cert.StreamSampleIdeal.nD Cert.StreamSampleIdeal.τ).loc Cert.StreamSampleIdeal.main_arg2)
      ∧ r.2.mem ((c.tc : Thread Cert.StreamSampleIdeal.nD Cert.StreamSampleIdeal.τ).loc Cert.StreamSampleIdeal.main_arg3) = m ((c.tc : Thread Cert.StreamSampleIdeal.nD Cert.StreamSampleIdeal.τ).loc Cert.StreamSampleIdeal.main_arg3)
      ∧ r.2.mem ((c.tc : Thread Cert.StreamSampleIdeal.nD Cert.StreamSampleIdeal.τ).loc Cert.StreamSampleIdeal.main_arg4) = m ((c.tc : Thread Cert.StreamSampleIdeal.nD Cert.StreamSampleIdeal.τ).loc Cert.StreamSampleIdeal.main_arg4)
      ∧ r.2.mem ((c.tc : Thread Cert.StreamSampleIdeal.nD Cert.StreamSampleIdeal.τ).loc Cert.StreamSampleIdeal.main_arg5) = m ((c.tc : Thread Cert.StreamSampleIdeal.nD Cert.StreamSampleIdeal.τ).loc Cert.StreamSampleIdeal.main_arg5)
      ∧ r.2.mem ((c.tc : Thread Cert.StreamSampleIdeal.nD Cert.StreamSampleIdeal.τ).loc Cert.StreamSampleIdeal.main_arg6) = m ((c.tc : Thread Cert.StreamSampleIdeal.nD Cert.StreamSampleIdeal.τ).loc Cert.StreamSampleIdeal.main_arg6))
      ∧ r.2.sem = fun _ => 0)

def quiescent_ReferenceStreamSampleIdeal [hReferenceStreamSampleIdeal : Cert.ReferenceStreamSampleIdeal.Facts] : Prop :=
  ∀ (m : (ℓ : Loc Cert.ReferenceStreamSampleIdeal.nD Cert.ReferenceStreamSampleIdeal.τ Cert.ReferenceStreamSampleIdeal.sig) → Buf (Elt Ideal) ℓ) (g : Dev Cert.ReferenceStreamSampleIdeal.nD → PrngReg), Pre_ReferenceStreamSampleIdeal m →
    θ_run (Cert.ReferenceStreamSampleIdeal.defs (F := Ideal)) (onTc (τ := Cert.ReferenceStreamSampleIdeal.τ) (Cert.ReferenceStreamSampleIdeal.main (F := Ideal))) ⟨m, fun _ => 0, g⟩ (fun r => (∀ c : Dev Cert.ReferenceStreamSampleIdeal.nD,
      r.2.mem ((c.tc : Thread Cert.ReferenceStreamSampleIdeal.nD Cert.ReferenceStreamSampleIdeal.τ).loc Cert.ReferenceStreamSampleIdeal.main_arg0) = m ((c.tc : Thread Cert.ReferenceStreamSampleIdeal.nD Cert.ReferenceStreamSampleIdeal.τ).loc Cert.ReferenceStreamSampleIdeal.main_arg0)
      ∧ r.2.mem ((c.tc : Thread Cert.ReferenceStreamSampleIdeal.nD Cert.ReferenceStreamSampleIdeal.τ).loc Cert.ReferenceStreamSampleIdeal.main_arg1) = m ((c.tc : Thread Cert.ReferenceStreamSampleIdeal.nD Cert.ReferenceStreamSampleIdeal.τ).loc Cert.ReferenceStreamSampleIdeal.main_arg1)
      ∧ r.2.mem ((c.tc : Thread Cert.ReferenceStreamSampleIdeal.nD Cert.ReferenceStreamSampleIdeal.τ).loc Cert.ReferenceStreamSampleIdeal.main_arg2) = m ((c.tc : Thread Cert.ReferenceStreamSampleIdeal.nD Cert.ReferenceStreamSampleIdeal.τ).loc Cert.ReferenceStreamSampleIdeal.main_arg2)
      ∧ r.2.mem ((c.tc : Thread Cert.ReferenceStreamSampleIdeal.nD Cert.ReferenceStreamSampleIdeal.τ).loc Cert.ReferenceStreamSampleIdeal.main_arg3) = m ((c.tc : Thread Cert.ReferenceStreamSampleIdeal.nD Cert.ReferenceStreamSampleIdeal.τ).loc Cert.ReferenceStreamSampleIdeal.main_arg3)
      ∧ r.2.mem ((c.tc : Thread Cert.ReferenceStreamSampleIdeal.nD Cert.ReferenceStreamSampleIdeal.τ).loc Cert.ReferenceStreamSampleIdeal.main_arg4) = m ((c.tc : Thread Cert.ReferenceStreamSampleIdeal.nD Cert.ReferenceStreamSampleIdeal.τ).loc Cert.ReferenceStreamSampleIdeal.main_arg4)
      ∧ r.2.mem ((c.tc : Thread Cert.ReferenceStreamSampleIdeal.nD Cert.ReferenceStreamSampleIdeal.τ).loc Cert.ReferenceStreamSampleIdeal.main_arg5) = m ((c.tc : Thread Cert.ReferenceStreamSampleIdeal.nD Cert.ReferenceStreamSampleIdeal.τ).loc Cert.ReferenceStreamSampleIdeal.main_arg5)
      ∧ r.2.mem ((c.tc : Thread Cert.ReferenceStreamSampleIdeal.nD Cert.ReferenceStreamSampleIdeal.τ).loc Cert.ReferenceStreamSampleIdeal.main_arg6) = m ((c.tc : Thread Cert.ReferenceStreamSampleIdeal.nD Cert.ReferenceStreamSampleIdeal.τ).loc Cert.ReferenceStreamSampleIdeal.main_arg6))
      ∧ r.2.sem = fun _ => 0)

def quiescent_StreamPrompt [hStreamPrompt : Cert.StreamPrompt.Facts] : Prop :=
  ∀ (m : (ℓ : Loc Cert.StreamPrompt.nD Cert.StreamPrompt.τ Cert.StreamPrompt.sig) → Buf (Elt Bits) ℓ) (g : Dev Cert.StreamPrompt.nD → PrngReg), Pre_StreamPrompt m →
    θ_run (Cert.StreamPrompt.defs (F := Bits)) (onTc (τ := Cert.StreamPrompt.τ) (Cert.StreamPrompt.main (F := Bits))) ⟨m, fun _ => 0, g⟩ (fun r => (∀ c : Dev Cert.StreamPrompt.nD,
      r.2.mem ((c.tc : Thread Cert.StreamPrompt.nD Cert.StreamPrompt.τ).loc Cert.StreamPrompt.main_arg0) = m ((c.tc : Thread Cert.StreamPrompt.nD Cert.StreamPrompt.τ).loc Cert.StreamPrompt.main_arg0)
      ∧ r.2.mem ((c.tc : Thread Cert.StreamPrompt.nD Cert.StreamPrompt.τ).loc Cert.StreamPrompt.main_arg1) = m ((c.tc : Thread Cert.StreamPrompt.nD Cert.StreamPrompt.τ).loc Cert.StreamPrompt.main_arg1)
      ∧ r.2.mem ((c.tc : Thread Cert.StreamPrompt.nD Cert.StreamPrompt.τ).loc Cert.StreamPrompt.main_arg2) = m ((c.tc : Thread Cert.StreamPrompt.nD Cert.StreamPrompt.τ).loc Cert.StreamPrompt.main_arg2)
      ∧ r.2.mem ((c.tc : Thread Cert.StreamPrompt.nD Cert.StreamPrompt.τ).loc Cert.StreamPrompt.main_arg3) = m ((c.tc : Thread Cert.StreamPrompt.nD Cert.StreamPrompt.τ).loc Cert.StreamPrompt.main_arg3))
      ∧ r.2.sem = fun _ => 0)

def quiescent_StreamPromptIdeal [hStreamPromptIdeal : Cert.StreamPromptIdeal.Facts] : Prop :=
  ∀ (m : (ℓ : Loc Cert.StreamPromptIdeal.nD Cert.StreamPromptIdeal.τ Cert.StreamPromptIdeal.sig) → Buf (Elt Ideal) ℓ) (g : Dev Cert.StreamPromptIdeal.nD → PrngReg), Pre_StreamPromptIdeal m →
    θ_run (Cert.StreamPromptIdeal.defs (F := Ideal)) (onTc (τ := Cert.StreamPromptIdeal.τ) (Cert.StreamPromptIdeal.main (F := Ideal))) ⟨m, fun _ => 0, g⟩ (fun r => (∀ c : Dev Cert.StreamPromptIdeal.nD,
      r.2.mem ((c.tc : Thread Cert.StreamPromptIdeal.nD Cert.StreamPromptIdeal.τ).loc Cert.StreamPromptIdeal.main_arg0) = m ((c.tc : Thread Cert.StreamPromptIdeal.nD Cert.StreamPromptIdeal.τ).loc Cert.StreamPromptIdeal.main_arg0)
      ∧ r.2.mem ((c.tc : Thread Cert.StreamPromptIdeal.nD Cert.StreamPromptIdeal.τ).loc Cert.StreamPromptIdeal.main_arg1) = m ((c.tc : Thread Cert.StreamPromptIdeal.nD Cert.StreamPromptIdeal.τ).loc Cert.StreamPromptIdeal.main_arg1)
      ∧ r.2.mem ((c.tc : Thread Cert.StreamPromptIdeal.nD Cert.StreamPromptIdeal.τ).loc Cert.StreamPromptIdeal.main_arg2) = m ((c.tc : Thread Cert.StreamPromptIdeal.nD Cert.StreamPromptIdeal.τ).loc Cert.StreamPromptIdeal.main_arg2)
      ∧ r.2.mem ((c.tc : Thread Cert.StreamPromptIdeal.nD Cert.StreamPromptIdeal.τ).loc Cert.StreamPromptIdeal.main_arg3) = m ((c.tc : Thread Cert.StreamPromptIdeal.nD Cert.StreamPromptIdeal.τ).loc Cert.StreamPromptIdeal.main_arg3))
      ∧ r.2.sem = fun _ => 0)

def quiescent_StreamPromptIdeal_pre_finite_inputs [hStreamPromptIdeal : Cert.StreamPromptIdeal.Facts] [hPre_finite_inputs : Cert.Pre_finite_inputs.Facts] : Prop :=
  ∀ (m : (ℓ : Loc Cert.StreamPromptIdeal.nD Cert.StreamPromptIdeal.τ Cert.StreamPromptIdeal.sig) → Buf (Elt Ideal) ℓ) (g : Dev Cert.StreamPromptIdeal.nD → PrngReg), Pre_StreamPromptIdeal_finite_inputs m →
    θ_run (Cert.StreamPromptIdeal.defs (F := Ideal)) (onTc (τ := Cert.StreamPromptIdeal.τ) (Cert.StreamPromptIdeal.main (F := Ideal))) ⟨m, fun _ => 0, g⟩ (fun r => (∀ c : Dev Cert.StreamPromptIdeal.nD,
      r.2.mem ((c.tc : Thread Cert.StreamPromptIdeal.nD Cert.StreamPromptIdeal.τ).loc Cert.StreamPromptIdeal.main_arg0) = m ((c.tc : Thread Cert.StreamPromptIdeal.nD Cert.StreamPromptIdeal.τ).loc Cert.StreamPromptIdeal.main_arg0)
      ∧ r.2.mem ((c.tc : Thread Cert.StreamPromptIdeal.nD Cert.StreamPromptIdeal.τ).loc Cert.StreamPromptIdeal.main_arg1) = m ((c.tc : Thread Cert.StreamPromptIdeal.nD Cert.StreamPromptIdeal.τ).loc Cert.StreamPromptIdeal.main_arg1)
      ∧ r.2.mem ((c.tc : Thread Cert.StreamPromptIdeal.nD Cert.StreamPromptIdeal.τ).loc Cert.StreamPromptIdeal.main_arg2) = m ((c.tc : Thread Cert.StreamPromptIdeal.nD Cert.StreamPromptIdeal.τ).loc Cert.StreamPromptIdeal.main_arg2)
      ∧ r.2.mem ((c.tc : Thread Cert.StreamPromptIdeal.nD Cert.StreamPromptIdeal.τ).loc Cert.StreamPromptIdeal.main_arg3) = m ((c.tc : Thread Cert.StreamPromptIdeal.nD Cert.StreamPromptIdeal.τ).loc Cert.StreamPromptIdeal.main_arg3))
      ∧ r.2.sem = fun _ => 0)

def quiescent_ReferenceStreamPromptIdeal [hReferenceStreamPromptIdeal : Cert.ReferenceStreamPromptIdeal.Facts] : Prop :=
  ∀ (m : (ℓ : Loc Cert.ReferenceStreamPromptIdeal.nD Cert.ReferenceStreamPromptIdeal.τ Cert.ReferenceStreamPromptIdeal.sig) → Buf (Elt Ideal) ℓ) (g : Dev Cert.ReferenceStreamPromptIdeal.nD → PrngReg), Pre_ReferenceStreamPromptIdeal m →
    θ_run (Cert.ReferenceStreamPromptIdeal.defs (F := Ideal)) (onTc (τ := Cert.ReferenceStreamPromptIdeal.τ) (Cert.ReferenceStreamPromptIdeal.main (F := Ideal))) ⟨m, fun _ => 0, g⟩ (fun r => (∀ c : Dev Cert.ReferenceStreamPromptIdeal.nD,
      r.2.mem ((c.tc : Thread Cert.ReferenceStreamPromptIdeal.nD Cert.ReferenceStreamPromptIdeal.τ).loc Cert.ReferenceStreamPromptIdeal.main_arg0) = m ((c.tc : Thread Cert.ReferenceStreamPromptIdeal.nD Cert.ReferenceStreamPromptIdeal.τ).loc Cert.ReferenceStreamPromptIdeal.main_arg0)
      ∧ r.2.mem ((c.tc : Thread Cert.ReferenceStreamPromptIdeal.nD Cert.ReferenceStreamPromptIdeal.τ).loc Cert.ReferenceStreamPromptIdeal.main_arg1) = m ((c.tc : Thread Cert.ReferenceStreamPromptIdeal.nD Cert.ReferenceStreamPromptIdeal.τ).loc Cert.ReferenceStreamPromptIdeal.main_arg1)
      ∧ r.2.mem ((c.tc : Thread Cert.ReferenceStreamPromptIdeal.nD Cert.ReferenceStreamPromptIdeal.τ).loc Cert.ReferenceStreamPromptIdeal.main_arg2) = m ((c.tc : Thread Cert.ReferenceStreamPromptIdeal.nD Cert.ReferenceStreamPromptIdeal.τ).loc Cert.ReferenceStreamPromptIdeal.main_arg2)
      ∧ r.2.mem ((c.tc : Thread Cert.ReferenceStreamPromptIdeal.nD Cert.ReferenceStreamPromptIdeal.τ).loc Cert.ReferenceStreamPromptIdeal.main_arg3) = m ((c.tc : Thread Cert.ReferenceStreamPromptIdeal.nD Cert.ReferenceStreamPromptIdeal.τ).loc Cert.ReferenceStreamPromptIdeal.main_arg3))
      ∧ r.2.sem = fun _ => 0)

def quiescent_ReferenceStreamPromptIdeal_pre_finite_inputs [hReferenceStreamPromptIdeal : Cert.ReferenceStreamPromptIdeal.Facts] [hPre_finite_inputs : Cert.Pre_finite_inputs.Facts] : Prop :=
  ∀ (m : (ℓ : Loc Cert.ReferenceStreamPromptIdeal.nD Cert.ReferenceStreamPromptIdeal.τ Cert.ReferenceStreamPromptIdeal.sig) → Buf (Elt Ideal) ℓ) (g : Dev Cert.ReferenceStreamPromptIdeal.nD → PrngReg), Pre_ReferenceStreamPromptIdeal_finite_inputs m →
    θ_run (Cert.ReferenceStreamPromptIdeal.defs (F := Ideal)) (onTc (τ := Cert.ReferenceStreamPromptIdeal.τ) (Cert.ReferenceStreamPromptIdeal.main (F := Ideal))) ⟨m, fun _ => 0, g⟩ (fun r => (∀ c : Dev Cert.ReferenceStreamPromptIdeal.nD,
      r.2.mem ((c.tc : Thread Cert.ReferenceStreamPromptIdeal.nD Cert.ReferenceStreamPromptIdeal.τ).loc Cert.ReferenceStreamPromptIdeal.main_arg0) = m ((c.tc : Thread Cert.ReferenceStreamPromptIdeal.nD Cert.ReferenceStreamPromptIdeal.τ).loc Cert.ReferenceStreamPromptIdeal.main_arg0)
      ∧ r.2.mem ((c.tc : Thread Cert.ReferenceStreamPromptIdeal.nD Cert.ReferenceStreamPromptIdeal.τ).loc Cert.ReferenceStreamPromptIdeal.main_arg1) = m ((c.tc : Thread Cert.ReferenceStreamPromptIdeal.nD Cert.ReferenceStreamPromptIdeal.τ).loc Cert.ReferenceStreamPromptIdeal.main_arg1)
      ∧ r.2.mem ((c.tc : Thread Cert.ReferenceStreamPromptIdeal.nD Cert.ReferenceStreamPromptIdeal.τ).loc Cert.ReferenceStreamPromptIdeal.main_arg2) = m ((c.tc : Thread Cert.ReferenceStreamPromptIdeal.nD Cert.ReferenceStreamPromptIdeal.τ).loc Cert.ReferenceStreamPromptIdeal.main_arg2)
      ∧ r.2.mem ((c.tc : Thread Cert.ReferenceStreamPromptIdeal.nD Cert.ReferenceStreamPromptIdeal.τ).loc Cert.ReferenceStreamPromptIdeal.main_arg3) = m ((c.tc : Thread Cert.ReferenceStreamPromptIdeal.nD Cert.ReferenceStreamPromptIdeal.τ).loc Cert.ReferenceStreamPromptIdeal.main_arg3))
      ∧ r.2.sem = fun _ => 0)

def quiescent_FinishPrompt [hFinishPrompt : Cert.FinishPrompt.Facts] : Prop :=
  ∀ (m : (ℓ : Loc Cert.FinishPrompt.nD Cert.FinishPrompt.τ Cert.FinishPrompt.sig) → Buf (Elt Bits) ℓ) (g : Dev Cert.FinishPrompt.nD → PrngReg), Pre_FinishPrompt m →
    θ_run (Cert.FinishPrompt.defs (F := Bits)) (onTc (τ := Cert.FinishPrompt.τ) (Cert.FinishPrompt.main (F := Bits))) ⟨m, fun _ => 0, g⟩ (fun r => (∀ c : Dev Cert.FinishPrompt.nD,
      r.2.mem ((c.tc : Thread Cert.FinishPrompt.nD Cert.FinishPrompt.τ).loc Cert.FinishPrompt.main_arg0) = m ((c.tc : Thread Cert.FinishPrompt.nD Cert.FinishPrompt.τ).loc Cert.FinishPrompt.main_arg0)
      ∧ r.2.mem ((c.tc : Thread Cert.FinishPrompt.nD Cert.FinishPrompt.τ).loc Cert.FinishPrompt.main_arg1) = m ((c.tc : Thread Cert.FinishPrompt.nD Cert.FinishPrompt.τ).loc Cert.FinishPrompt.main_arg1)
      ∧ r.2.mem ((c.tc : Thread Cert.FinishPrompt.nD Cert.FinishPrompt.τ).loc Cert.FinishPrompt.main_arg2) = m ((c.tc : Thread Cert.FinishPrompt.nD Cert.FinishPrompt.τ).loc Cert.FinishPrompt.main_arg2)
      ∧ r.2.mem ((c.tc : Thread Cert.FinishPrompt.nD Cert.FinishPrompt.τ).loc Cert.FinishPrompt.main_arg3) = m ((c.tc : Thread Cert.FinishPrompt.nD Cert.FinishPrompt.τ).loc Cert.FinishPrompt.main_arg3))
      ∧ r.2.sem = fun _ => 0)

def quiescent_FinishPromptIdeal [hFinishPromptIdeal : Cert.FinishPromptIdeal.Facts] : Prop :=
  ∀ (m : (ℓ : Loc Cert.FinishPromptIdeal.nD Cert.FinishPromptIdeal.τ Cert.FinishPromptIdeal.sig) → Buf (Elt Ideal) ℓ) (g : Dev Cert.FinishPromptIdeal.nD → PrngReg), Pre_FinishPromptIdeal m →
    θ_run (Cert.FinishPromptIdeal.defs (F := Ideal)) (onTc (τ := Cert.FinishPromptIdeal.τ) (Cert.FinishPromptIdeal.main (F := Ideal))) ⟨m, fun _ => 0, g⟩ (fun r => (∀ c : Dev Cert.FinishPromptIdeal.nD,
      r.2.mem ((c.tc : Thread Cert.FinishPromptIdeal.nD Cert.FinishPromptIdeal.τ).loc Cert.FinishPromptIdeal.main_arg0) = m ((c.tc : Thread Cert.FinishPromptIdeal.nD Cert.FinishPromptIdeal.τ).loc Cert.FinishPromptIdeal.main_arg0)
      ∧ r.2.mem ((c.tc : Thread Cert.FinishPromptIdeal.nD Cert.FinishPromptIdeal.τ).loc Cert.FinishPromptIdeal.main_arg1) = m ((c.tc : Thread Cert.FinishPromptIdeal.nD Cert.FinishPromptIdeal.τ).loc Cert.FinishPromptIdeal.main_arg1)
      ∧ r.2.mem ((c.tc : Thread Cert.FinishPromptIdeal.nD Cert.FinishPromptIdeal.τ).loc Cert.FinishPromptIdeal.main_arg2) = m ((c.tc : Thread Cert.FinishPromptIdeal.nD Cert.FinishPromptIdeal.τ).loc Cert.FinishPromptIdeal.main_arg2)
      ∧ r.2.mem ((c.tc : Thread Cert.FinishPromptIdeal.nD Cert.FinishPromptIdeal.τ).loc Cert.FinishPromptIdeal.main_arg3) = m ((c.tc : Thread Cert.FinishPromptIdeal.nD Cert.FinishPromptIdeal.τ).loc Cert.FinishPromptIdeal.main_arg3))
      ∧ r.2.sem = fun _ => 0)

def quiescent_ReferenceFinishPromptIdeal [hReferenceFinishPromptIdeal : Cert.ReferenceFinishPromptIdeal.Facts] : Prop :=
  ∀ (m : (ℓ : Loc Cert.ReferenceFinishPromptIdeal.nD Cert.ReferenceFinishPromptIdeal.τ Cert.ReferenceFinishPromptIdeal.sig) → Buf (Elt Ideal) ℓ) (g : Dev Cert.ReferenceFinishPromptIdeal.nD → PrngReg), Pre_ReferenceFinishPromptIdeal m →
    θ_run (Cert.ReferenceFinishPromptIdeal.defs (F := Ideal)) (onTc (τ := Cert.ReferenceFinishPromptIdeal.τ) (Cert.ReferenceFinishPromptIdeal.main (F := Ideal))) ⟨m, fun _ => 0, g⟩ (fun r => (∀ c : Dev Cert.ReferenceFinishPromptIdeal.nD,
      r.2.mem ((c.tc : Thread Cert.ReferenceFinishPromptIdeal.nD Cert.ReferenceFinishPromptIdeal.τ).loc Cert.ReferenceFinishPromptIdeal.main_arg0) = m ((c.tc : Thread Cert.ReferenceFinishPromptIdeal.nD Cert.ReferenceFinishPromptIdeal.τ).loc Cert.ReferenceFinishPromptIdeal.main_arg0)
      ∧ r.2.mem ((c.tc : Thread Cert.ReferenceFinishPromptIdeal.nD Cert.ReferenceFinishPromptIdeal.τ).loc Cert.ReferenceFinishPromptIdeal.main_arg1) = m ((c.tc : Thread Cert.ReferenceFinishPromptIdeal.nD Cert.ReferenceFinishPromptIdeal.τ).loc Cert.ReferenceFinishPromptIdeal.main_arg1)
      ∧ r.2.mem ((c.tc : Thread Cert.ReferenceFinishPromptIdeal.nD Cert.ReferenceFinishPromptIdeal.τ).loc Cert.ReferenceFinishPromptIdeal.main_arg2) = m ((c.tc : Thread Cert.ReferenceFinishPromptIdeal.nD Cert.ReferenceFinishPromptIdeal.τ).loc Cert.ReferenceFinishPromptIdeal.main_arg2)
      ∧ r.2.mem ((c.tc : Thread Cert.ReferenceFinishPromptIdeal.nD Cert.ReferenceFinishPromptIdeal.τ).loc Cert.ReferenceFinishPromptIdeal.main_arg3) = m ((c.tc : Thread Cert.ReferenceFinishPromptIdeal.nD Cert.ReferenceFinishPromptIdeal.τ).loc Cert.ReferenceFinishPromptIdeal.main_arg3))
      ∧ r.2.sem = fun _ => 0)

def quiescent_AttendSample [hAttendSample : Cert.AttendSample.Facts] : Prop :=
  ∀ (m : (ℓ : Loc Cert.AttendSample.nD Cert.AttendSample.τ Cert.AttendSample.sig) → Buf (Elt Bits) ℓ) (g : Dev Cert.AttendSample.nD → PrngReg), Pre_AttendSample m →
    θ_run (Cert.AttendSample.defs (F := Bits)) (onTc (τ := Cert.AttendSample.τ) (Cert.AttendSample.main (F := Bits))) ⟨m, fun _ => 0, g⟩ (fun r => (∀ c : Dev Cert.AttendSample.nD,
      r.2.mem ((c.tc : Thread Cert.AttendSample.nD Cert.AttendSample.τ).loc Cert.AttendSample.main_arg0) = m ((c.tc : Thread Cert.AttendSample.nD Cert.AttendSample.τ).loc Cert.AttendSample.main_arg0)
      ∧ r.2.mem ((c.tc : Thread Cert.AttendSample.nD Cert.AttendSample.τ).loc Cert.AttendSample.main_arg1) = m ((c.tc : Thread Cert.AttendSample.nD Cert.AttendSample.τ).loc Cert.AttendSample.main_arg1)
      ∧ r.2.mem ((c.tc : Thread Cert.AttendSample.nD Cert.AttendSample.τ).loc Cert.AttendSample.main_arg2) = m ((c.tc : Thread Cert.AttendSample.nD Cert.AttendSample.τ).loc Cert.AttendSample.main_arg2)
      ∧ r.2.mem ((c.tc : Thread Cert.AttendSample.nD Cert.AttendSample.τ).loc Cert.AttendSample.main_arg3) = m ((c.tc : Thread Cert.AttendSample.nD Cert.AttendSample.τ).loc Cert.AttendSample.main_arg3)
      ∧ r.2.mem ((c.tc : Thread Cert.AttendSample.nD Cert.AttendSample.τ).loc Cert.AttendSample.main_arg4) = m ((c.tc : Thread Cert.AttendSample.nD Cert.AttendSample.τ).loc Cert.AttendSample.main_arg4)
      ∧ r.2.mem ((c.tc : Thread Cert.AttendSample.nD Cert.AttendSample.τ).loc Cert.AttendSample.main_arg5) = m ((c.tc : Thread Cert.AttendSample.nD Cert.AttendSample.τ).loc Cert.AttendSample.main_arg5))
      ∧ r.2.sem = fun _ => 0)

def quiescent_AttendSampleIdeal [hAttendSampleIdeal : Cert.AttendSampleIdeal.Facts] : Prop :=
  ∀ (m : (ℓ : Loc Cert.AttendSampleIdeal.nD Cert.AttendSampleIdeal.τ Cert.AttendSampleIdeal.sig) → Buf (Elt Ideal) ℓ) (g : Dev Cert.AttendSampleIdeal.nD → PrngReg), Pre_AttendSampleIdeal m →
    θ_run (Cert.AttendSampleIdeal.defs (F := Ideal)) (onTc (τ := Cert.AttendSampleIdeal.τ) (Cert.AttendSampleIdeal.main (F := Ideal))) ⟨m, fun _ => 0, g⟩ (fun r => (∀ c : Dev Cert.AttendSampleIdeal.nD,
      r.2.mem ((c.tc : Thread Cert.AttendSampleIdeal.nD Cert.AttendSampleIdeal.τ).loc Cert.AttendSampleIdeal.main_arg0) = m ((c.tc : Thread Cert.AttendSampleIdeal.nD Cert.AttendSampleIdeal.τ).loc Cert.AttendSampleIdeal.main_arg0)
      ∧ r.2.mem ((c.tc : Thread Cert.AttendSampleIdeal.nD Cert.AttendSampleIdeal.τ).loc Cert.AttendSampleIdeal.main_arg1) = m ((c.tc : Thread Cert.AttendSampleIdeal.nD Cert.AttendSampleIdeal.τ).loc Cert.AttendSampleIdeal.main_arg1)
      ∧ r.2.mem ((c.tc : Thread Cert.AttendSampleIdeal.nD Cert.AttendSampleIdeal.τ).loc Cert.AttendSampleIdeal.main_arg2) = m ((c.tc : Thread Cert.AttendSampleIdeal.nD Cert.AttendSampleIdeal.τ).loc Cert.AttendSampleIdeal.main_arg2)
      ∧ r.2.mem ((c.tc : Thread Cert.AttendSampleIdeal.nD Cert.AttendSampleIdeal.τ).loc Cert.AttendSampleIdeal.main_arg3) = m ((c.tc : Thread Cert.AttendSampleIdeal.nD Cert.AttendSampleIdeal.τ).loc Cert.AttendSampleIdeal.main_arg3)
      ∧ r.2.mem ((c.tc : Thread Cert.AttendSampleIdeal.nD Cert.AttendSampleIdeal.τ).loc Cert.AttendSampleIdeal.main_arg4) = m ((c.tc : Thread Cert.AttendSampleIdeal.nD Cert.AttendSampleIdeal.τ).loc Cert.AttendSampleIdeal.main_arg4)
      ∧ r.2.mem ((c.tc : Thread Cert.AttendSampleIdeal.nD Cert.AttendSampleIdeal.τ).loc Cert.AttendSampleIdeal.main_arg5) = m ((c.tc : Thread Cert.AttendSampleIdeal.nD Cert.AttendSampleIdeal.τ).loc Cert.AttendSampleIdeal.main_arg5))
      ∧ r.2.sem = fun _ => 0)

def quiescent_AttendSampleIdeal_pre_finite_scores [hAttendSampleIdeal : Cert.AttendSampleIdeal.Facts] [hPre_finite_scores : Cert.Pre_finite_scores.Facts] : Prop :=
  ∀ (m : (ℓ : Loc Cert.AttendSampleIdeal.nD Cert.AttendSampleIdeal.τ Cert.AttendSampleIdeal.sig) → Buf (Elt Ideal) ℓ) (g : Dev Cert.AttendSampleIdeal.nD → PrngReg), Pre_AttendSampleIdeal_finite_scores m →
    θ_run (Cert.AttendSampleIdeal.defs (F := Ideal)) (onTc (τ := Cert.AttendSampleIdeal.τ) (Cert.AttendSampleIdeal.main (F := Ideal))) ⟨m, fun _ => 0, g⟩ (fun r => (∀ c : Dev Cert.AttendSampleIdeal.nD,
      r.2.mem ((c.tc : Thread Cert.AttendSampleIdeal.nD Cert.AttendSampleIdeal.τ).loc Cert.AttendSampleIdeal.main_arg0) = m ((c.tc : Thread Cert.AttendSampleIdeal.nD Cert.AttendSampleIdeal.τ).loc Cert.AttendSampleIdeal.main_arg0)
      ∧ r.2.mem ((c.tc : Thread Cert.AttendSampleIdeal.nD Cert.AttendSampleIdeal.τ).loc Cert.AttendSampleIdeal.main_arg1) = m ((c.tc : Thread Cert.AttendSampleIdeal.nD Cert.AttendSampleIdeal.τ).loc Cert.AttendSampleIdeal.main_arg1)
      ∧ r.2.mem ((c.tc : Thread Cert.AttendSampleIdeal.nD Cert.AttendSampleIdeal.τ).loc Cert.AttendSampleIdeal.main_arg2) = m ((c.tc : Thread Cert.AttendSampleIdeal.nD Cert.AttendSampleIdeal.τ).loc Cert.AttendSampleIdeal.main_arg2)
      ∧ r.2.mem ((c.tc : Thread Cert.AttendSampleIdeal.nD Cert.AttendSampleIdeal.τ).loc Cert.AttendSampleIdeal.main_arg3) = m ((c.tc : Thread Cert.AttendSampleIdeal.nD Cert.AttendSampleIdeal.τ).loc Cert.AttendSampleIdeal.main_arg3)
      ∧ r.2.mem ((c.tc : Thread Cert.AttendSampleIdeal.nD Cert.AttendSampleIdeal.τ).loc Cert.AttendSampleIdeal.main_arg4) = m ((c.tc : Thread Cert.AttendSampleIdeal.nD Cert.AttendSampleIdeal.τ).loc Cert.AttendSampleIdeal.main_arg4)
      ∧ r.2.mem ((c.tc : Thread Cert.AttendSampleIdeal.nD Cert.AttendSampleIdeal.τ).loc Cert.AttendSampleIdeal.main_arg5) = m ((c.tc : Thread Cert.AttendSampleIdeal.nD Cert.AttendSampleIdeal.τ).loc Cert.AttendSampleIdeal.main_arg5))
      ∧ r.2.sem = fun _ => 0)

def quiescent_ReferenceAttendSampleIdeal [hReferenceAttendSampleIdeal : Cert.ReferenceAttendSampleIdeal.Facts] : Prop :=
  ∀ (m : (ℓ : Loc Cert.ReferenceAttendSampleIdeal.nD Cert.ReferenceAttendSampleIdeal.τ Cert.ReferenceAttendSampleIdeal.sig) → Buf (Elt Ideal) ℓ) (g : Dev Cert.ReferenceAttendSampleIdeal.nD → PrngReg), Pre_ReferenceAttendSampleIdeal m →
    θ_run (Cert.ReferenceAttendSampleIdeal.defs (F := Ideal)) (onTc (τ := Cert.ReferenceAttendSampleIdeal.τ) (Cert.ReferenceAttendSampleIdeal.main (F := Ideal))) ⟨m, fun _ => 0, g⟩ (fun r => (∀ c : Dev Cert.ReferenceAttendSampleIdeal.nD,
      r.2.mem ((c.tc : Thread Cert.ReferenceAttendSampleIdeal.nD Cert.ReferenceAttendSampleIdeal.τ).loc Cert.ReferenceAttendSampleIdeal.main_arg0) = m ((c.tc : Thread Cert.ReferenceAttendSampleIdeal.nD Cert.ReferenceAttendSampleIdeal.τ).loc Cert.ReferenceAttendSampleIdeal.main_arg0)
      ∧ r.2.mem ((c.tc : Thread Cert.ReferenceAttendSampleIdeal.nD Cert.ReferenceAttendSampleIdeal.τ).loc Cert.ReferenceAttendSampleIdeal.main_arg1) = m ((c.tc : Thread Cert.ReferenceAttendSampleIdeal.nD Cert.ReferenceAttendSampleIdeal.τ).loc Cert.ReferenceAttendSampleIdeal.main_arg1)
      ∧ r.2.mem ((c.tc : Thread Cert.ReferenceAttendSampleIdeal.nD Cert.ReferenceAttendSampleIdeal.τ).loc Cert.ReferenceAttendSampleIdeal.main_arg2) = m ((c.tc : Thread Cert.ReferenceAttendSampleIdeal.nD Cert.ReferenceAttendSampleIdeal.τ).loc Cert.ReferenceAttendSampleIdeal.main_arg2)
      ∧ r.2.mem ((c.tc : Thread Cert.ReferenceAttendSampleIdeal.nD Cert.ReferenceAttendSampleIdeal.τ).loc Cert.ReferenceAttendSampleIdeal.main_arg3) = m ((c.tc : Thread Cert.ReferenceAttendSampleIdeal.nD Cert.ReferenceAttendSampleIdeal.τ).loc Cert.ReferenceAttendSampleIdeal.main_arg3)
      ∧ r.2.mem ((c.tc : Thread Cert.ReferenceAttendSampleIdeal.nD Cert.ReferenceAttendSampleIdeal.τ).loc Cert.ReferenceAttendSampleIdeal.main_arg4) = m ((c.tc : Thread Cert.ReferenceAttendSampleIdeal.nD Cert.ReferenceAttendSampleIdeal.τ).loc Cert.ReferenceAttendSampleIdeal.main_arg4)
      ∧ r.2.mem ((c.tc : Thread Cert.ReferenceAttendSampleIdeal.nD Cert.ReferenceAttendSampleIdeal.τ).loc Cert.ReferenceAttendSampleIdeal.main_arg5) = m ((c.tc : Thread Cert.ReferenceAttendSampleIdeal.nD Cert.ReferenceAttendSampleIdeal.τ).loc Cert.ReferenceAttendSampleIdeal.main_arg5))
      ∧ r.2.sem = fun _ => 0)

def quiescent_ReferenceAttendSampleIdeal_pre_finite_scores [hReferenceAttendSampleIdeal : Cert.ReferenceAttendSampleIdeal.Facts] [hPre_finite_scores : Cert.Pre_finite_scores.Facts] : Prop :=
  ∀ (m : (ℓ : Loc Cert.ReferenceAttendSampleIdeal.nD Cert.ReferenceAttendSampleIdeal.τ Cert.ReferenceAttendSampleIdeal.sig) → Buf (Elt Ideal) ℓ) (g : Dev Cert.ReferenceAttendSampleIdeal.nD → PrngReg), Pre_ReferenceAttendSampleIdeal_finite_scores m →
    θ_run (Cert.ReferenceAttendSampleIdeal.defs (F := Ideal)) (onTc (τ := Cert.ReferenceAttendSampleIdeal.τ) (Cert.ReferenceAttendSampleIdeal.main (F := Ideal))) ⟨m, fun _ => 0, g⟩ (fun r => (∀ c : Dev Cert.ReferenceAttendSampleIdeal.nD,
      r.2.mem ((c.tc : Thread Cert.ReferenceAttendSampleIdeal.nD Cert.ReferenceAttendSampleIdeal.τ).loc Cert.ReferenceAttendSampleIdeal.main_arg0) = m ((c.tc : Thread Cert.ReferenceAttendSampleIdeal.nD Cert.ReferenceAttendSampleIdeal.τ).loc Cert.ReferenceAttendSampleIdeal.main_arg0)
      ∧ r.2.mem ((c.tc : Thread Cert.ReferenceAttendSampleIdeal.nD Cert.ReferenceAttendSampleIdeal.τ).loc Cert.ReferenceAttendSampleIdeal.main_arg1) = m ((c.tc : Thread Cert.ReferenceAttendSampleIdeal.nD Cert.ReferenceAttendSampleIdeal.τ).loc Cert.ReferenceAttendSampleIdeal.main_arg1)
      ∧ r.2.mem ((c.tc : Thread Cert.ReferenceAttendSampleIdeal.nD Cert.ReferenceAttendSampleIdeal.τ).loc Cert.ReferenceAttendSampleIdeal.main_arg2) = m ((c.tc : Thread Cert.ReferenceAttendSampleIdeal.nD Cert.ReferenceAttendSampleIdeal.τ).loc Cert.ReferenceAttendSampleIdeal.main_arg2)
      ∧ r.2.mem ((c.tc : Thread Cert.ReferenceAttendSampleIdeal.nD Cert.ReferenceAttendSampleIdeal.τ).loc Cert.ReferenceAttendSampleIdeal.main_arg3) = m ((c.tc : Thread Cert.ReferenceAttendSampleIdeal.nD Cert.ReferenceAttendSampleIdeal.τ).loc Cert.ReferenceAttendSampleIdeal.main_arg3)
      ∧ r.2.mem ((c.tc : Thread Cert.ReferenceAttendSampleIdeal.nD Cert.ReferenceAttendSampleIdeal.τ).loc Cert.ReferenceAttendSampleIdeal.main_arg4) = m ((c.tc : Thread Cert.ReferenceAttendSampleIdeal.nD Cert.ReferenceAttendSampleIdeal.τ).loc Cert.ReferenceAttendSampleIdeal.main_arg4)
      ∧ r.2.mem ((c.tc : Thread Cert.ReferenceAttendSampleIdeal.nD Cert.ReferenceAttendSampleIdeal.τ).loc Cert.ReferenceAttendSampleIdeal.main_arg5) = m ((c.tc : Thread Cert.ReferenceAttendSampleIdeal.nD Cert.ReferenceAttendSampleIdeal.τ).loc Cert.ReferenceAttendSampleIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v53_0)) (v1 : (c : Dev Cert.KernelIdeal.nD) → Buf (Elt Ideal) ((c.tc : Thread Cert.KernelIdeal.nD Cert.KernelIdeal.τ).loc Cert.KernelIdeal.main_v53_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53_0) = v0 c
          ∧ r.2.mem ((c.tc : Thread Cert.KernelIdeal.nD Cert.KernelIdeal.τ).loc Cert.KernelIdeal.main_v53_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v8_4) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_ProjectPrompt_ProjectPromptIdeal : Prop :=
  True

def algebraic_ProjectPromptIdeal_ReferenceProjectPromptIdeal [hProjectPromptIdeal : Cert.ProjectPromptIdeal.Facts] [hReferenceProjectPromptIdeal : Cert.ReferenceProjectPromptIdeal.Facts] : Prop :=
  ∀ (m : (ℓ : Loc Cert.ProjectPromptIdeal.nD Cert.ProjectPromptIdeal.τ Cert.ProjectPromptIdeal.sig) → Buf (Elt Ideal) ℓ) (g : Dev Cert.ProjectPromptIdeal.nD → PrngReg)
    (m' : (ℓ : Loc Cert.ReferenceProjectPromptIdeal.nD Cert.ReferenceProjectPromptIdeal.τ Cert.ReferenceProjectPromptIdeal.sig) → Buf (Elt Ideal) ℓ) (g' : Dev Cert.ReferenceProjectPromptIdeal.nD → PrngReg), Pre_ProjectPromptIdeal m →
    (∀ c : Dev Cert.ProjectPromptIdeal.nD,
      m' ((c.tc : Thread Cert.ReferenceProjectPromptIdeal.nD Cert.ReferenceProjectPromptIdeal.τ).loc Cert.ReferenceProjectPromptIdeal.main_arg0) = m ((c.tc : Thread Cert.ProjectPromptIdeal.nD Cert.ProjectPromptIdeal.τ).loc Cert.ProjectPromptIdeal.main_arg0)
      ∧ m' ((c.tc : Thread Cert.ReferenceProjectPromptIdeal.nD Cert.ReferenceProjectPromptIdeal.τ).loc Cert.ReferenceProjectPromptIdeal.main_arg1) = m ((c.tc : Thread Cert.ProjectPromptIdeal.nD Cert.ProjectPromptIdeal.τ).loc Cert.ProjectPromptIdeal.main_arg1)
      ∧ m' ((c.tc : Thread Cert.ReferenceProjectPromptIdeal.nD Cert.ReferenceProjectPromptIdeal.τ).loc Cert.ReferenceProjectPromptIdeal.main_arg2) = m ((c.tc : Thread Cert.ProjectPromptIdeal.nD Cert.ProjectPromptIdeal.τ).loc Cert.ProjectPromptIdeal.main_arg2)
      ∧ m' ((c.tc : Thread Cert.ReferenceProjectPromptIdeal.nD Cert.ReferenceProjectPromptIdeal.τ).loc Cert.ReferenceProjectPromptIdeal.main_arg3) = m ((c.tc : Thread Cert.ProjectPromptIdeal.nD Cert.ProjectPromptIdeal.τ).loc Cert.ProjectPromptIdeal.main_arg3)) →
    ∃ (v0 : (c : Dev Cert.ProjectPromptIdeal.nD) → Buf (Elt Ideal) ((c.tc : Thread Cert.ProjectPromptIdeal.nD Cert.ProjectPromptIdeal.τ).loc Cert.ProjectPromptIdeal.main_v7_0)) (v1 : (c : Dev Cert.ProjectPromptIdeal.nD) → Buf (Elt Ideal) ((c.tc : Thread Cert.ProjectPromptIdeal.nD Cert.ProjectPromptIdeal.τ).loc Cert.ProjectPromptIdeal.main_v7_1)) (v2 : (c : Dev Cert.ProjectPromptIdeal.nD) → Buf (Elt Ideal) ((c.tc : Thread Cert.ProjectPromptIdeal.nD Cert.ProjectPromptIdeal.τ).loc Cert.ProjectPromptIdeal.main_v7_2)) (v3 : (c : Dev Cert.ProjectPromptIdeal.nD) → Buf (Elt Ideal) ((c.tc : Thread Cert.ProjectPromptIdeal.nD Cert.ProjectPromptIdeal.τ).loc Cert.ProjectPromptIdeal.main_v7_3)) (v4 : (c : Dev Cert.ProjectPromptIdeal.nD) → Buf (Elt Ideal) ((c.tc : Thread Cert.ProjectPromptIdeal.nD Cert.ProjectPromptIdeal.τ).loc Cert.ProjectPromptIdeal.main_v7_4)) (v5 : (c : Dev Cert.ProjectPromptIdeal.nD) → Buf (Elt Ideal) ((c.tc : Thread Cert.ProjectPromptIdeal.nD Cert.ProjectPromptIdeal.τ).loc Cert.ProjectPromptIdeal.main_v7_5)) (v6 : (c : Dev Cert.ProjectPromptIdeal.nD) → Buf (Elt Ideal) ((c.tc : Thread Cert.ProjectPromptIdeal.nD Cert.ProjectPromptIdeal.τ).loc Cert.ProjectPromptIdeal.main_v7_6)) (v7 : (c : Dev Cert.ProjectPromptIdeal.nD) → Buf (Elt Ideal) ((c.tc : Thread Cert.ProjectPromptIdeal.nD Cert.ProjectPromptIdeal.τ).loc Cert.ProjectPromptIdeal.main_v7_7)) (v8 : (c : Dev Cert.ProjectPromptIdeal.nD) → Buf (Elt Ideal) ((c.tc : Thread Cert.ProjectPromptIdeal.nD Cert.ProjectPromptIdeal.τ).loc Cert.ProjectPromptIdeal.main_v7_8)),
      θ_run (Cert.ProjectPromptIdeal.defs (F := Ideal)) (onTc (τ := Cert.ProjectPromptIdeal.τ) (Cert.ProjectPromptIdeal.main (F := Ideal))) ⟨m, fun _ => 0, g⟩ (fun r => ∀ c : Dev Cert.ProjectPromptIdeal.nD,
          r.2.mem ((c.tc : Thread Cert.ProjectPromptIdeal.nD Cert.ProjectPromptIdeal.τ).loc Cert.ProjectPromptIdeal.main_v7_0) = v0 c
          ∧ r.2.mem ((c.tc : Thread Cert.ProjectPromptIdeal.nD Cert.ProjectPromptIdeal.τ).loc Cert.ProjectPromptIdeal.main_v7_1) = v1 c
          ∧ r.2.mem ((c.tc : Thread Cert.ProjectPromptIdeal.nD Cert.ProjectPromptIdeal.τ).loc Cert.ProjectPromptIdeal.main_v7_2) = v2 c
          ∧ r.2.mem ((c.tc : Thread Cert.ProjectPromptIdeal.nD Cert.ProjectPromptIdeal.τ).loc Cert.ProjectPromptIdeal.main_v7_3) = v3 c
          ∧ r.2.mem ((c.tc : Thread Cert.ProjectPromptIdeal.nD Cert.ProjectPromptIdeal.τ).loc Cert.ProjectPromptIdeal.main_v7_4) = v4 c
          ∧ r.2.mem ((c.tc : Thread Cert.ProjectPromptIdeal.nD Cert.ProjectPromptIdeal.τ).loc Cert.ProjectPromptIdeal.main_v7_5) = v5 c
          ∧ r.2.mem ((c.tc : Thread Cert.ProjectPromptIdeal.nD Cert.ProjectPromptIdeal.τ).loc Cert.ProjectPromptIdeal.main_v7_6) = v6 c
          ∧ r.2.mem ((c.tc : Thread Cert.ProjectPromptIdeal.nD Cert.ProjectPromptIdeal.τ).loc Cert.ProjectPromptIdeal.main_v7_7) = v7 c
          ∧ r.2.mem ((c.tc : Thread Cert.ProjectPromptIdeal.nD Cert.ProjectPromptIdeal.τ).loc Cert.ProjectPromptIdeal.main_v7_8) = v8 c
          ∧ r.2.mem ((c.tc : Thread Cert.ProjectPromptIdeal.nD Cert.ProjectPromptIdeal.τ).loc Cert.ProjectPromptIdeal.main_arg0) = m ((c.tc : Thread Cert.ProjectPromptIdeal.nD Cert.ProjectPromptIdeal.τ).loc Cert.ProjectPromptIdeal.main_arg0)
          ∧ r.2.mem ((c.tc : Thread Cert.ProjectPromptIdeal.nD Cert.ProjectPromptIdeal.τ).loc Cert.ProjectPromptIdeal.main_arg1) = m ((c.tc : Thread Cert.ProjectPromptIdeal.nD Cert.ProjectPromptIdeal.τ).loc Cert.ProjectPromptIdeal.main_arg1)
          ∧ r.2.mem ((c.tc : Thread Cert.ProjectPromptIdeal.nD Cert.ProjectPromptIdeal.τ).loc Cert.ProjectPromptIdeal.main_arg2) = m ((c.tc : Thread Cert.ProjectPromptIdeal.nD Cert.ProjectPromptIdeal.τ).loc Cert.ProjectPromptIdeal.main_arg2)
          ∧ r.2.mem ((c.tc : Thread Cert.ProjectPromptIdeal.nD Cert.ProjectPromptIdeal.τ).loc Cert.ProjectPromptIdeal.main_arg3) = m ((c.tc : Thread Cert.ProjectPromptIdeal.nD Cert.ProjectPromptIdeal.τ).loc Cert.ProjectPromptIdeal.main_arg3))
      ∧ θ_run (Cert.ReferenceProjectPromptIdeal.defs (F := Ideal)) (onTc (τ := Cert.ReferenceProjectPromptIdeal.τ) (Cert.ReferenceProjectPromptIdeal.main (F := Ideal))) ⟨m', fun _ => 0, g'⟩ (fun r => ∀ c : Dev Cert.ReferenceProjectPromptIdeal.nD,
          r.2.mem ((c.tc : Thread Cert.ReferenceProjectPromptIdeal.nD Cert.ReferenceProjectPromptIdeal.τ).loc Cert.ReferenceProjectPromptIdeal.main_v42) = v0 c
          ∧ r.2.mem ((c.tc : Thread Cert.ReferenceProjectPromptIdeal.nD Cert.ReferenceProjectPromptIdeal.τ).loc Cert.ReferenceProjectPromptIdeal.main_v43) = v1 c
          ∧ r.2.mem ((c.tc : Thread Cert.ReferenceProjectPromptIdeal.nD Cert.ReferenceProjectPromptIdeal.τ).loc Cert.ReferenceProjectPromptIdeal.main_v44) = v2 c
          ∧ r.2.mem ((c.tc : Thread Cert.ReferenceProjectPromptIdeal.nD Cert.ReferenceProjectPromptIdeal.τ).loc Cert.ReferenceProjectPromptIdeal.main_v46) = v3 c
          ∧ r.2.mem ((c.tc : Thread Cert.ReferenceProjectPromptIdeal.nD Cert.ReferenceProjectPromptIdeal.τ).loc Cert.ReferenceProjectPromptIdeal.main_v48) = v4 c
          ∧ r.2.mem ((c.tc : Thread Cert.ReferenceProjectPromptIdeal.nD Cert.ReferenceProjectPromptIdeal.τ).loc Cert.ReferenceProjectPromptIdeal.main_v50) = v5 c
          ∧ r.2.mem ((c.tc : Thread Cert.ReferenceProjectPromptIdeal.nD Cert.ReferenceProjectPromptIdeal.τ).loc Cert.ReferenceProjectPromptIdeal.main_v51) = v6 c
          ∧ r.2.mem ((c.tc : Thread Cert.ReferenceProjectPromptIdeal.nD Cert.ReferenceProjectPromptIdeal.τ).loc Cert.ReferenceProjectPromptIdeal.main_v52) = v7 c
          ∧ r.2.mem ((c.tc : Thread Cert.ReferenceProjectPromptIdeal.nD Cert.ReferenceProjectPromptIdeal.τ).loc Cert.ReferenceProjectPromptIdeal.main_v53) = v8 c
          ∧ r.2.mem ((c.tc : Thread Cert.ReferenceProjectPromptIdeal.nD Cert.ReferenceProjectPromptIdeal.τ).loc Cert.ReferenceProjectPromptIdeal.main_arg0) = m' ((c.tc : Thread Cert.ReferenceProjectPromptIdeal.nD Cert.ReferenceProjectPromptIdeal.τ).loc Cert.ReferenceProjectPromptIdeal.main_arg0)
          ∧ r.2.mem ((c.tc : Thread Cert.ReferenceProjectPromptIdeal.nD Cert.ReferenceProjectPromptIdeal.τ).loc Cert.ReferenceProjectPromptIdeal.main_arg1) = m' ((c.tc : Thread Cert.ReferenceProjectPromptIdeal.nD Cert.ReferenceProjectPromptIdeal.τ).loc Cert.ReferenceProjectPromptIdeal.main_arg1)
          ∧ r.2.mem ((c.tc : Thread Cert.ReferenceProjectPromptIdeal.nD Cert.ReferenceProjectPromptIdeal.τ).loc Cert.ReferenceProjectPromptIdeal.main_arg2) = m' ((c.tc : Thread Cert.ReferenceProjectPromptIdeal.nD Cert.ReferenceProjectPromptIdeal.τ).loc Cert.ReferenceProjectPromptIdeal.main_arg2)
          ∧ r.2.mem ((c.tc : Thread Cert.ReferenceProjectPromptIdeal.nD Cert.ReferenceProjectPromptIdeal.τ).loc Cert.ReferenceProjectPromptIdeal.main_arg3) = m' ((c.tc : Thread Cert.ReferenceProjectPromptIdeal.nD Cert.ReferenceProjectPromptIdeal.τ).loc Cert.ReferenceProjectPromptIdeal.main_arg3))

def preserves_ProjectSample_ProjectSampleIdeal : Prop :=
  True

def algebraic_ProjectSampleIdeal_ReferenceProjectSampleIdeal [hProjectSampleIdeal : Cert.ProjectSampleIdeal.Facts] [hReferenceProjectSampleIdeal : Cert.ReferenceProjectSampleIdeal.Facts] : Prop :=
  ∀ (m : (ℓ : Loc Cert.ProjectSampleIdeal.nD Cert.ProjectSampleIdeal.τ Cert.ProjectSampleIdeal.sig) → Buf (Elt Ideal) ℓ) (g : Dev Cert.ProjectSampleIdeal.nD → PrngReg)
    (m' : (ℓ : Loc Cert.ReferenceProjectSampleIdeal.nD Cert.ReferenceProjectSampleIdeal.τ Cert.ReferenceProjectSampleIdeal.sig) → Buf (Elt Ideal) ℓ) (g' : Dev Cert.ReferenceProjectSampleIdeal.nD → PrngReg), Pre_ProjectSampleIdeal m →
    (∀ c : Dev Cert.ProjectSampleIdeal.nD,
      m' ((c.tc : Thread Cert.ReferenceProjectSampleIdeal.nD Cert.ReferenceProjectSampleIdeal.τ).loc Cert.ReferenceProjectSampleIdeal.main_arg0) = m ((c.tc : Thread Cert.ProjectSampleIdeal.nD Cert.ProjectSampleIdeal.τ).loc Cert.ProjectSampleIdeal.main_arg0)
      ∧ m' ((c.tc : Thread Cert.ReferenceProjectSampleIdeal.nD Cert.ReferenceProjectSampleIdeal.τ).loc Cert.ReferenceProjectSampleIdeal.main_arg1) = m ((c.tc : Thread Cert.ProjectSampleIdeal.nD Cert.ProjectSampleIdeal.τ).loc Cert.ProjectSampleIdeal.main_arg1)
      ∧ m' ((c.tc : Thread Cert.ReferenceProjectSampleIdeal.nD Cert.ReferenceProjectSampleIdeal.τ).loc Cert.ReferenceProjectSampleIdeal.main_arg2) = m ((c.tc : Thread Cert.ProjectSampleIdeal.nD Cert.ProjectSampleIdeal.τ).loc Cert.ProjectSampleIdeal.main_arg2)
      ∧ m' ((c.tc : Thread Cert.ReferenceProjectSampleIdeal.nD Cert.ReferenceProjectSampleIdeal.τ).loc Cert.ReferenceProjectSampleIdeal.main_arg3) = m ((c.tc : Thread Cert.ProjectSampleIdeal.nD Cert.ProjectSampleIdeal.τ).loc Cert.ProjectSampleIdeal.main_arg3)) →
    ∃ (v0 : (c : Dev Cert.ProjectSampleIdeal.nD) → Buf (Elt Ideal) ((c.tc : Thread Cert.ProjectSampleIdeal.nD Cert.ProjectSampleIdeal.τ).loc Cert.ProjectSampleIdeal.main_v7_0)) (v1 : (c : Dev Cert.ProjectSampleIdeal.nD) → Buf (Elt Ideal) ((c.tc : Thread Cert.ProjectSampleIdeal.nD Cert.ProjectSampleIdeal.τ).loc Cert.ProjectSampleIdeal.main_v7_1)) (v2 : (c : Dev Cert.ProjectSampleIdeal.nD) → Buf (Elt Ideal) ((c.tc : Thread Cert.ProjectSampleIdeal.nD Cert.ProjectSampleIdeal.τ).loc Cert.ProjectSampleIdeal.main_v7_2)) (v3 : (c : Dev Cert.ProjectSampleIdeal.nD) → Buf (Elt Ideal) ((c.tc : Thread Cert.ProjectSampleIdeal.nD Cert.ProjectSampleIdeal.τ).loc Cert.ProjectSampleIdeal.main_v7_3)) (v4 : (c : Dev Cert.ProjectSampleIdeal.nD) → Buf (Elt Ideal) ((c.tc : Thread Cert.ProjectSampleIdeal.nD Cert.ProjectSampleIdeal.τ).loc Cert.ProjectSampleIdeal.main_v7_4)) (v5 : (c : Dev Cert.ProjectSampleIdeal.nD) → Buf (Elt Ideal) ((c.tc : Thread Cert.ProjectSampleIdeal.nD Cert.ProjectSampleIdeal.τ).loc Cert.ProjectSampleIdeal.main_v7_5)) (v6 : (c : Dev Cert.ProjectSampleIdeal.nD) → Buf (Elt Ideal) ((c.tc : Thread Cert.ProjectSampleIdeal.nD Cert.ProjectSampleIdeal.τ).loc Cert.ProjectSampleIdeal.main_v7_6)) (v7 : (c : Dev Cert.ProjectSampleIdeal.nD) → Buf (Elt Ideal) ((c.tc : Thread Cert.ProjectSampleIdeal.nD Cert.ProjectSampleIdeal.τ).loc Cert.ProjectSampleIdeal.main_v7_7)) (v8 : (c : Dev Cert.ProjectSampleIdeal.nD) → Buf (Elt Ideal) ((c.tc : Thread Cert.ProjectSampleIdeal.nD Cert.ProjectSampleIdeal.τ).loc Cert.ProjectSampleIdeal.main_v7_8)),
      θ_run (Cert.ProjectSampleIdeal.defs (F := Ideal)) (onTc (τ := Cert.ProjectSampleIdeal.τ) (Cert.ProjectSampleIdeal.main (F := Ideal))) ⟨m, fun _ => 0, g⟩ (fun r => ∀ c : Dev Cert.ProjectSampleIdeal.nD,
          r.2.mem ((c.tc : Thread Cert.ProjectSampleIdeal.nD Cert.ProjectSampleIdeal.τ).loc Cert.ProjectSampleIdeal.main_v7_0) = v0 c
          ∧ r.2.mem ((c.tc : Thread Cert.ProjectSampleIdeal.nD Cert.ProjectSampleIdeal.τ).loc Cert.ProjectSampleIdeal.main_v7_1) = v1 c
          ∧ r.2.mem ((c.tc : Thread Cert.ProjectSampleIdeal.nD Cert.ProjectSampleIdeal.τ).loc Cert.ProjectSampleIdeal.main_v7_2) = v2 c
          ∧ r.2.mem ((c.tc : Thread Cert.ProjectSampleIdeal.nD Cert.ProjectSampleIdeal.τ).loc Cert.ProjectSampleIdeal.main_v7_3) = v3 c
          ∧ r.2.mem ((c.tc : Thread Cert.ProjectSampleIdeal.nD Cert.ProjectSampleIdeal.τ).loc Cert.ProjectSampleIdeal.main_v7_4) = v4 c
          ∧ r.2.mem ((c.tc : Thread Cert.ProjectSampleIdeal.nD Cert.ProjectSampleIdeal.τ).loc Cert.ProjectSampleIdeal.main_v7_5) = v5 c
          ∧ r.2.mem ((c.tc : Thread Cert.ProjectSampleIdeal.nD Cert.ProjectSampleIdeal.τ).loc Cert.ProjectSampleIdeal.main_v7_6) = v6 c
          ∧ r.2.mem ((c.tc : Thread Cert.ProjectSampleIdeal.nD Cert.ProjectSampleIdeal.τ).loc Cert.ProjectSampleIdeal.main_v7_7) = v7 c
          ∧ r.2.mem ((c.tc : Thread Cert.ProjectSampleIdeal.nD Cert.ProjectSampleIdeal.τ).loc Cert.ProjectSampleIdeal.main_v7_8) = v8 c
          ∧ r.2.mem ((c.tc : Thread Cert.ProjectSampleIdeal.nD Cert.ProjectSampleIdeal.τ).loc Cert.ProjectSampleIdeal.main_arg0) = m ((c.tc : Thread Cert.ProjectSampleIdeal.nD Cert.ProjectSampleIdeal.τ).loc Cert.ProjectSampleIdeal.main_arg0)
          ∧ r.2.mem ((c.tc : Thread Cert.ProjectSampleIdeal.nD Cert.ProjectSampleIdeal.τ).loc Cert.ProjectSampleIdeal.main_arg1) = m ((c.tc : Thread Cert.ProjectSampleIdeal.nD Cert.ProjectSampleIdeal.τ).loc Cert.ProjectSampleIdeal.main_arg1)
          ∧ r.2.mem ((c.tc : Thread Cert.ProjectSampleIdeal.nD Cert.ProjectSampleIdeal.τ).loc Cert.ProjectSampleIdeal.main_arg2) = m ((c.tc : Thread Cert.ProjectSampleIdeal.nD Cert.ProjectSampleIdeal.τ).loc Cert.ProjectSampleIdeal.main_arg2)
          ∧ r.2.mem ((c.tc : Thread Cert.ProjectSampleIdeal.nD Cert.ProjectSampleIdeal.τ).loc Cert.ProjectSampleIdeal.main_arg3) = m ((c.tc : Thread Cert.ProjectSampleIdeal.nD Cert.ProjectSampleIdeal.τ).loc Cert.ProjectSampleIdeal.main_arg3))
      ∧ θ_run (Cert.ReferenceProjectSampleIdeal.defs (F := Ideal)) (onTc (τ := Cert.ReferenceProjectSampleIdeal.τ) (Cert.ReferenceProjectSampleIdeal.main (F := Ideal))) ⟨m', fun _ => 0, g'⟩ (fun r => ∀ c : Dev Cert.ReferenceProjectSampleIdeal.nD,
          r.2.mem ((c.tc : Thread Cert.ReferenceProjectSampleIdeal.nD Cert.ReferenceProjectSampleIdeal.τ).loc Cert.ReferenceProjectSampleIdeal.main_v42) = v0 c
          ∧ r.2.mem ((c.tc : Thread Cert.ReferenceProjectSampleIdeal.nD Cert.ReferenceProjectSampleIdeal.τ).loc Cert.ReferenceProjectSampleIdeal.main_v43) = v1 c
          ∧ r.2.mem ((c.tc : Thread Cert.ReferenceProjectSampleIdeal.nD Cert.ReferenceProjectSampleIdeal.τ).loc Cert.ReferenceProjectSampleIdeal.main_v44) = v2 c
          ∧ r.2.mem ((c.tc : Thread Cert.ReferenceProjectSampleIdeal.nD Cert.ReferenceProjectSampleIdeal.τ).loc Cert.ReferenceProjectSampleIdeal.main_v46) = v3 c
          ∧ r.2.mem ((c.tc : Thread Cert.ReferenceProjectSampleIdeal.nD Cert.ReferenceProjectSampleIdeal.τ).loc Cert.ReferenceProjectSampleIdeal.main_v48) = v4 c
          ∧ r.2.mem ((c.tc : Thread Cert.ReferenceProjectSampleIdeal.nD Cert.ReferenceProjectSampleIdeal.τ).loc Cert.ReferenceProjectSampleIdeal.main_v50) = v5 c
          ∧ r.2.mem ((c.tc : Thread Cert.ReferenceProjectSampleIdeal.nD Cert.ReferenceProjectSampleIdeal.τ).loc Cert.ReferenceProjectSampleIdeal.main_v51) = v6 c
          ∧ r.2.mem ((c.tc : Thread Cert.ReferenceProjectSampleIdeal.nD Cert.ReferenceProjectSampleIdeal.τ).loc Cert.ReferenceProjectSampleIdeal.main_v52) = v7 c
          ∧ r.2.mem ((c.tc : Thread Cert.ReferenceProjectSampleIdeal.nD Cert.ReferenceProjectSampleIdeal.τ).loc Cert.ReferenceProjectSampleIdeal.main_v53) = v8 c
          ∧ r.2.mem ((c.tc : Thread Cert.ReferenceProjectSampleIdeal.nD Cert.ReferenceProjectSampleIdeal.τ).loc Cert.ReferenceProjectSampleIdeal.main_arg0) = m' ((c.tc : Thread Cert.ReferenceProjectSampleIdeal.nD Cert.ReferenceProjectSampleIdeal.τ).loc Cert.ReferenceProjectSampleIdeal.main_arg0)
          ∧ r.2.mem ((c.tc : Thread Cert.ReferenceProjectSampleIdeal.nD Cert.ReferenceProjectSampleIdeal.τ).loc Cert.ReferenceProjectSampleIdeal.main_arg1) = m' ((c.tc : Thread Cert.ReferenceProjectSampleIdeal.nD Cert.ReferenceProjectSampleIdeal.τ).loc Cert.ReferenceProjectSampleIdeal.main_arg1)
          ∧ r.2.mem ((c.tc : Thread Cert.ReferenceProjectSampleIdeal.nD Cert.ReferenceProjectSampleIdeal.τ).loc Cert.ReferenceProjectSampleIdeal.main_arg2) = m' ((c.tc : Thread Cert.ReferenceProjectSampleIdeal.nD Cert.ReferenceProjectSampleIdeal.τ).loc Cert.ReferenceProjectSampleIdeal.main_arg2)
          ∧ r.2.mem ((c.tc : Thread Cert.ReferenceProjectSampleIdeal.nD Cert.ReferenceProjectSampleIdeal.τ).loc Cert.ReferenceProjectSampleIdeal.main_arg3) = m' ((c.tc : Thread Cert.ReferenceProjectSampleIdeal.nD Cert.ReferenceProjectSampleIdeal.τ).loc Cert.ReferenceProjectSampleIdeal.main_arg3))

def preserves_MergePrompt_MergePromptIdeal : Prop :=
  True

def algebraic_MergePromptIdeal_ReferenceMergePromptIdeal [hMergePromptIdeal : Cert.MergePromptIdeal.Facts] [hReferenceMergePromptIdeal : Cert.ReferenceMergePromptIdeal.Facts] : Prop :=
  ∀ (m : (ℓ : Loc Cert.MergePromptIdeal.nD Cert.MergePromptIdeal.τ Cert.MergePromptIdeal.sig) → Buf (Elt Ideal) ℓ) (g : Dev Cert.MergePromptIdeal.nD → PrngReg)
    (m' : (ℓ : Loc Cert.ReferenceMergePromptIdeal.nD Cert.ReferenceMergePromptIdeal.τ Cert.ReferenceMergePromptIdeal.sig) → Buf (Elt Ideal) ℓ) (g' : Dev Cert.ReferenceMergePromptIdeal.nD → PrngReg), Pre_MergePromptIdeal m →
    (∀ c : Dev Cert.MergePromptIdeal.nD,
      m' ((c.tc : Thread Cert.ReferenceMergePromptIdeal.nD Cert.ReferenceMergePromptIdeal.τ).loc Cert.ReferenceMergePromptIdeal.main_arg0) = m ((c.tc : Thread Cert.MergePromptIdeal.nD Cert.MergePromptIdeal.τ).loc Cert.MergePromptIdeal.main_arg0)
      ∧ m' ((c.tc : Thread Cert.ReferenceMergePromptIdeal.nD Cert.ReferenceMergePromptIdeal.τ).loc Cert.ReferenceMergePromptIdeal.main_arg1) = m ((c.tc : Thread Cert.MergePromptIdeal.nD Cert.MergePromptIdeal.τ).loc Cert.MergePromptIdeal.main_arg1)
      ∧ m' ((c.tc : Thread Cert.ReferenceMergePromptIdeal.nD Cert.ReferenceMergePromptIdeal.τ).loc Cert.ReferenceMergePromptIdeal.main_arg2) = m ((c.tc : Thread Cert.MergePromptIdeal.nD Cert.MergePromptIdeal.τ).loc Cert.MergePromptIdeal.main_arg2)
      ∧ m' ((c.tc : Thread Cert.ReferenceMergePromptIdeal.nD Cert.ReferenceMergePromptIdeal.τ).loc Cert.ReferenceMergePromptIdeal.main_arg3) = m ((c.tc : Thread Cert.MergePromptIdeal.nD Cert.MergePromptIdeal.τ).loc Cert.MergePromptIdeal.main_arg3)
      ∧ m' ((c.tc : Thread Cert.ReferenceMergePromptIdeal.nD Cert.ReferenceMergePromptIdeal.τ).loc Cert.ReferenceMergePromptIdeal.main_arg4) = m ((c.tc : Thread Cert.MergePromptIdeal.nD Cert.MergePromptIdeal.τ).loc Cert.MergePromptIdeal.main_arg4)
      ∧ m' ((c.tc : Thread Cert.ReferenceMergePromptIdeal.nD Cert.ReferenceMergePromptIdeal.τ).loc Cert.ReferenceMergePromptIdeal.main_arg5) = m ((c.tc : Thread Cert.MergePromptIdeal.nD Cert.MergePromptIdeal.τ).loc Cert.MergePromptIdeal.main_arg5)
      ∧ m' ((c.tc : Thread Cert.ReferenceMergePromptIdeal.nD Cert.ReferenceMergePromptIdeal.τ).loc Cert.ReferenceMergePromptIdeal.main_arg6) = m ((c.tc : Thread Cert.MergePromptIdeal.nD Cert.MergePromptIdeal.τ).loc Cert.MergePromptIdeal.main_arg6)
      ∧ m' ((c.tc : Thread Cert.ReferenceMergePromptIdeal.nD Cert.ReferenceMergePromptIdeal.τ).loc Cert.ReferenceMergePromptIdeal.main_arg7) = m ((c.tc : Thread Cert.MergePromptIdeal.nD Cert.MergePromptIdeal.τ).loc Cert.MergePromptIdeal.main_arg7)) →
    ∃ (v0 : (c : Dev Cert.MergePromptIdeal.nD) → Buf (Elt Ideal) ((c.tc : Thread Cert.MergePromptIdeal.nD Cert.MergePromptIdeal.τ).loc Cert.MergePromptIdeal.main_v13)),
      θ_run (Cert.MergePromptIdeal.defs (F := Ideal)) (onTc (τ := Cert.MergePromptIdeal.τ) (Cert.MergePromptIdeal.main (F := Ideal))) ⟨m, fun _ => 0, g⟩ (fun r => ∀ c : Dev Cert.MergePromptIdeal.nD,
          r.2.mem ((c.tc : Thread Cert.MergePromptIdeal.nD Cert.MergePromptIdeal.τ).loc Cert.MergePromptIdeal.main_v13) = v0 c
          ∧ r.2.mem ((c.tc : Thread Cert.MergePromptIdeal.nD Cert.MergePromptIdeal.τ).loc Cert.MergePromptIdeal.main_arg0) = m ((c.tc : Thread Cert.MergePromptIdeal.nD Cert.MergePromptIdeal.τ).loc Cert.MergePromptIdeal.main_arg0)
          ∧ r.2.mem ((c.tc : Thread Cert.MergePromptIdeal.nD Cert.MergePromptIdeal.τ).loc Cert.MergePromptIdeal.main_arg1) = m ((c.tc : Thread Cert.MergePromptIdeal.nD Cert.MergePromptIdeal.τ).loc Cert.MergePromptIdeal.main_arg1)
          ∧ r.2.mem ((c.tc : Thread Cert.MergePromptIdeal.nD Cert.MergePromptIdeal.τ).loc Cert.MergePromptIdeal.main_arg2) = m ((c.tc : Thread Cert.MergePromptIdeal.nD Cert.MergePromptIdeal.τ).loc Cert.MergePromptIdeal.main_arg2)
          ∧ r.2.mem ((c.tc : Thread Cert.MergePromptIdeal.nD Cert.MergePromptIdeal.τ).loc Cert.MergePromptIdeal.main_arg3) = m ((c.tc : Thread Cert.MergePromptIdeal.nD Cert.MergePromptIdeal.τ).loc Cert.MergePromptIdeal.main_arg3)
          ∧ r.2.mem ((c.tc : Thread Cert.MergePromptIdeal.nD Cert.MergePromptIdeal.τ).loc Cert.MergePromptIdeal.main_arg4) = m ((c.tc : Thread Cert.MergePromptIdeal.nD Cert.MergePromptIdeal.τ).loc Cert.MergePromptIdeal.main_arg4)
          ∧ r.2.mem ((c.tc : Thread Cert.MergePromptIdeal.nD Cert.MergePromptIdeal.τ).loc Cert.MergePromptIdeal.main_arg5) = m ((c.tc : Thread Cert.MergePromptIdeal.nD Cert.MergePromptIdeal.τ).loc Cert.MergePromptIdeal.main_arg5)
          ∧ r.2.mem ((c.tc : Thread Cert.MergePromptIdeal.nD Cert.MergePromptIdeal.τ).loc Cert.MergePromptIdeal.main_arg6) = m ((c.tc : Thread Cert.MergePromptIdeal.nD Cert.MergePromptIdeal.τ).loc Cert.MergePromptIdeal.main_arg6)
          ∧ r.2.mem ((c.tc : Thread Cert.MergePromptIdeal.nD Cert.MergePromptIdeal.τ).loc Cert.MergePromptIdeal.main_arg7) = m ((c.tc : Thread Cert.MergePromptIdeal.nD Cert.MergePromptIdeal.τ).loc Cert.MergePromptIdeal.main_arg7))
      ∧ θ_run (Cert.ReferenceMergePromptIdeal.defs (F := Ideal)) (onTc (τ := Cert.ReferenceMergePromptIdeal.τ) (Cert.ReferenceMergePromptIdeal.main (F := Ideal))) ⟨m', fun _ => 0, g'⟩ (fun r => ∀ c : Dev Cert.ReferenceMergePromptIdeal.nD,
          r.2.mem ((c.tc : Thread Cert.ReferenceMergePromptIdeal.nD Cert.ReferenceMergePromptIdeal.τ).loc Cert.ReferenceMergePromptIdeal.main_v22) = v0 c
          ∧ r.2.mem ((c.tc : Thread Cert.ReferenceMergePromptIdeal.nD Cert.ReferenceMergePromptIdeal.τ).loc Cert.ReferenceMergePromptIdeal.main_arg0) = m' ((c.tc : Thread Cert.ReferenceMergePromptIdeal.nD Cert.ReferenceMergePromptIdeal.τ).loc Cert.ReferenceMergePromptIdeal.main_arg0)
          ∧ r.2.mem ((c.tc : Thread Cert.ReferenceMergePromptIdeal.nD Cert.ReferenceMergePromptIdeal.τ).loc Cert.ReferenceMergePromptIdeal.main_arg1) = m' ((c.tc : Thread Cert.ReferenceMergePromptIdeal.nD Cert.ReferenceMergePromptIdeal.τ).loc Cert.ReferenceMergePromptIdeal.main_arg1)
          ∧ r.2.mem ((c.tc : Thread Cert.ReferenceMergePromptIdeal.nD Cert.ReferenceMergePromptIdeal.τ).loc Cert.ReferenceMergePromptIdeal.main_arg2) = m' ((c.tc : Thread Cert.ReferenceMergePromptIdeal.nD Cert.ReferenceMergePromptIdeal.τ).loc Cert.ReferenceMergePromptIdeal.main_arg2)
          ∧ r.2.mem ((c.tc : Thread Cert.ReferenceMergePromptIdeal.nD Cert.ReferenceMergePromptIdeal.τ).loc Cert.ReferenceMergePromptIdeal.main_arg3) = m' ((c.tc : Thread Cert.ReferenceMergePromptIdeal.nD Cert.ReferenceMergePromptIdeal.τ).loc Cert.ReferenceMergePromptIdeal.main_arg3)
          ∧ r.2.mem ((c.tc : Thread Cert.ReferenceMergePromptIdeal.nD Cert.ReferenceMergePromptIdeal.τ).loc Cert.ReferenceMergePromptIdeal.main_arg4) = m' ((c.tc : Thread Cert.ReferenceMergePromptIdeal.nD Cert.ReferenceMergePromptIdeal.τ).loc Cert.ReferenceMergePromptIdeal.main_arg4)
          ∧ r.2.mem ((c.tc : Thread Cert.ReferenceMergePromptIdeal.nD Cert.ReferenceMergePromptIdeal.τ).loc Cert.ReferenceMergePromptIdeal.main_arg5) = m' ((c.tc : Thread Cert.ReferenceMergePromptIdeal.nD Cert.ReferenceMergePromptIdeal.τ).loc Cert.ReferenceMergePromptIdeal.main_arg5)
          ∧ r.2.mem ((c.tc : Thread Cert.ReferenceMergePromptIdeal.nD Cert.ReferenceMergePromptIdeal.τ).loc Cert.ReferenceMergePromptIdeal.main_arg6) = m' ((c.tc : Thread Cert.ReferenceMergePromptIdeal.nD Cert.ReferenceMergePromptIdeal.τ).loc Cert.ReferenceMergePromptIdeal.main_arg6)
          ∧ r.2.mem ((c.tc : Thread Cert.ReferenceMergePromptIdeal.nD Cert.ReferenceMergePromptIdeal.τ).loc Cert.ReferenceMergePromptIdeal.main_arg7) = m' ((c.tc : Thread Cert.ReferenceMergePromptIdeal.nD Cert.ReferenceMergePromptIdeal.τ).loc Cert.ReferenceMergePromptIdeal.main_arg7))

def preserves_MergeSample_MergeSampleIdeal : Prop :=
  True

def algebraic_MergeSampleIdeal_ReferenceMergeSampleIdeal [hMergeSampleIdeal : Cert.MergeSampleIdeal.Facts] [hReferenceMergeSampleIdeal : Cert.ReferenceMergeSampleIdeal.Facts] : Prop :=
  ∀ (m : (ℓ : Loc Cert.MergeSampleIdeal.nD Cert.MergeSampleIdeal.τ Cert.MergeSampleIdeal.sig) → Buf (Elt Ideal) ℓ) (g : Dev Cert.MergeSampleIdeal.nD → PrngReg)
    (m' : (ℓ : Loc Cert.ReferenceMergeSampleIdeal.nD Cert.ReferenceMergeSampleIdeal.τ Cert.ReferenceMergeSampleIdeal.sig) → Buf (Elt Ideal) ℓ) (g' : Dev Cert.ReferenceMergeSampleIdeal.nD → PrngReg), Pre_MergeSampleIdeal m →
    (∀ c : Dev Cert.MergeSampleIdeal.nD,
      m' ((c.tc : Thread Cert.ReferenceMergeSampleIdeal.nD Cert.ReferenceMergeSampleIdeal.τ).loc Cert.ReferenceMergeSampleIdeal.main_arg0) = m ((c.tc : Thread Cert.MergeSampleIdeal.nD Cert.MergeSampleIdeal.τ).loc Cert.MergeSampleIdeal.main_arg0)
      ∧ m' ((c.tc : Thread Cert.ReferenceMergeSampleIdeal.nD Cert.ReferenceMergeSampleIdeal.τ).loc Cert.ReferenceMergeSampleIdeal.main_arg1) = m ((c.tc : Thread Cert.MergeSampleIdeal.nD Cert.MergeSampleIdeal.τ).loc Cert.MergeSampleIdeal.main_arg1)
      ∧ m' ((c.tc : Thread Cert.ReferenceMergeSampleIdeal.nD Cert.ReferenceMergeSampleIdeal.τ).loc Cert.ReferenceMergeSampleIdeal.main_arg2) = m ((c.tc : Thread Cert.MergeSampleIdeal.nD Cert.MergeSampleIdeal.τ).loc Cert.MergeSampleIdeal.main_arg2)
      ∧ m' ((c.tc : Thread Cert.ReferenceMergeSampleIdeal.nD Cert.ReferenceMergeSampleIdeal.τ).loc Cert.ReferenceMergeSampleIdeal.main_arg3) = m ((c.tc : Thread Cert.MergeSampleIdeal.nD Cert.MergeSampleIdeal.τ).loc Cert.MergeSampleIdeal.main_arg3)
      ∧ m' ((c.tc : Thread Cert.ReferenceMergeSampleIdeal.nD Cert.ReferenceMergeSampleIdeal.τ).loc Cert.ReferenceMergeSampleIdeal.main_arg4) = m ((c.tc : Thread Cert.MergeSampleIdeal.nD Cert.MergeSampleIdeal.τ).loc Cert.MergeSampleIdeal.main_arg4)
      ∧ m' ((c.tc : Thread Cert.ReferenceMergeSampleIdeal.nD Cert.ReferenceMergeSampleIdeal.τ).loc Cert.ReferenceMergeSampleIdeal.main_arg5) = m ((c.tc : Thread Cert.MergeSampleIdeal.nD Cert.MergeSampleIdeal.τ).loc Cert.MergeSampleIdeal.main_arg5)
      ∧ m' ((c.tc : Thread Cert.ReferenceMergeSampleIdeal.nD Cert.ReferenceMergeSampleIdeal.τ).loc Cert.ReferenceMergeSampleIdeal.main_arg6) = m ((c.tc : Thread Cert.MergeSampleIdeal.nD Cert.MergeSampleIdeal.τ).loc Cert.MergeSampleIdeal.main_arg6)
      ∧ m' ((c.tc : Thread Cert.ReferenceMergeSampleIdeal.nD Cert.ReferenceMergeSampleIdeal.τ).loc Cert.ReferenceMergeSampleIdeal.main_arg7) = m ((c.tc : Thread Cert.MergeSampleIdeal.nD Cert.MergeSampleIdeal.τ).loc Cert.MergeSampleIdeal.main_arg7)) →
    ∃ (v0 : (c : Dev Cert.MergeSampleIdeal.nD) → Buf (Elt Ideal) ((c.tc : Thread Cert.MergeSampleIdeal.nD Cert.MergeSampleIdeal.τ).loc Cert.MergeSampleIdeal.main_v13)),
      θ_run (Cert.MergeSampleIdeal.defs (F := Ideal)) (onTc (τ := Cert.MergeSampleIdeal.τ) (Cert.MergeSampleIdeal.main (F := Ideal))) ⟨m, fun _ => 0, g⟩ (fun r => ∀ c : Dev Cert.MergeSampleIdeal.nD,
          r.2.mem ((c.tc : Thread Cert.MergeSampleIdeal.nD Cert.MergeSampleIdeal.τ).loc Cert.MergeSampleIdeal.main_v13) = v0 c
          ∧ r.2.mem ((c.tc : Thread Cert.MergeSampleIdeal.nD Cert.MergeSampleIdeal.τ).loc Cert.MergeSampleIdeal.main_arg0) = m ((c.tc : Thread Cert.MergeSampleIdeal.nD Cert.MergeSampleIdeal.τ).loc Cert.MergeSampleIdeal.main_arg0)
          ∧ r.2.mem ((c.tc : Thread Cert.MergeSampleIdeal.nD Cert.MergeSampleIdeal.τ).loc Cert.MergeSampleIdeal.main_arg1) = m ((c.tc : Thread Cert.MergeSampleIdeal.nD Cert.MergeSampleIdeal.τ).loc Cert.MergeSampleIdeal.main_arg1)
          ∧ r.2.mem ((c.tc : Thread Cert.MergeSampleIdeal.nD Cert.MergeSampleIdeal.τ).loc Cert.MergeSampleIdeal.main_arg2) = m ((c.tc : Thread Cert.MergeSampleIdeal.nD Cert.MergeSampleIdeal.τ).loc Cert.MergeSampleIdeal.main_arg2)
          ∧ r.2.mem ((c.tc : Thread Cert.MergeSampleIdeal.nD Cert.MergeSampleIdeal.τ).loc Cert.MergeSampleIdeal.main_arg3) = m ((c.tc : Thread Cert.MergeSampleIdeal.nD Cert.MergeSampleIdeal.τ).loc Cert.MergeSampleIdeal.main_arg3)
          ∧ r.2.mem ((c.tc : Thread Cert.MergeSampleIdeal.nD Cert.MergeSampleIdeal.τ).loc Cert.MergeSampleIdeal.main_arg4) = m ((c.tc : Thread Cert.MergeSampleIdeal.nD Cert.MergeSampleIdeal.τ).loc Cert.MergeSampleIdeal.main_arg4)
          ∧ r.2.mem ((c.tc : Thread Cert.MergeSampleIdeal.nD Cert.MergeSampleIdeal.τ).loc Cert.MergeSampleIdeal.main_arg5) = m ((c.tc : Thread Cert.MergeSampleIdeal.nD Cert.MergeSampleIdeal.τ).loc Cert.MergeSampleIdeal.main_arg5)
          ∧ r.2.mem ((c.tc : Thread Cert.MergeSampleIdeal.nD Cert.MergeSampleIdeal.τ).loc Cert.MergeSampleIdeal.main_arg6) = m ((c.tc : Thread Cert.MergeSampleIdeal.nD Cert.MergeSampleIdeal.τ).loc Cert.MergeSampleIdeal.main_arg6)
          ∧ r.2.mem ((c.tc : Thread Cert.MergeSampleIdeal.nD Cert.MergeSampleIdeal.τ).loc Cert.MergeSampleIdeal.main_arg7) = m ((c.tc : Thread Cert.MergeSampleIdeal.nD Cert.MergeSampleIdeal.τ).loc Cert.MergeSampleIdeal.main_arg7))
      ∧ θ_run (Cert.ReferenceMergeSampleIdeal.defs (F := Ideal)) (onTc (τ := Cert.ReferenceMergeSampleIdeal.τ) (Cert.ReferenceMergeSampleIdeal.main (F := Ideal))) ⟨m', fun _ => 0, g'⟩ (fun r => ∀ c : Dev Cert.ReferenceMergeSampleIdeal.nD,
          r.2.mem ((c.tc : Thread Cert.ReferenceMergeSampleIdeal.nD Cert.ReferenceMergeSampleIdeal.τ).loc Cert.ReferenceMergeSampleIdeal.main_v22) = v0 c
          ∧ r.2.mem ((c.tc : Thread Cert.ReferenceMergeSampleIdeal.nD Cert.ReferenceMergeSampleIdeal.τ).loc Cert.ReferenceMergeSampleIdeal.main_arg0) = m' ((c.tc : Thread Cert.ReferenceMergeSampleIdeal.nD Cert.ReferenceMergeSampleIdeal.τ).loc Cert.ReferenceMergeSampleIdeal.main_arg0)
          ∧ r.2.mem ((c.tc : Thread Cert.ReferenceMergeSampleIdeal.nD Cert.ReferenceMergeSampleIdeal.τ).loc Cert.ReferenceMergeSampleIdeal.main_arg1) = m' ((c.tc : Thread Cert.ReferenceMergeSampleIdeal.nD Cert.ReferenceMergeSampleIdeal.τ).loc Cert.ReferenceMergeSampleIdeal.main_arg1)
          ∧ r.2.mem ((c.tc : Thread Cert.ReferenceMergeSampleIdeal.nD Cert.ReferenceMergeSampleIdeal.τ).loc Cert.ReferenceMergeSampleIdeal.main_arg2) = m' ((c.tc : Thread Cert.ReferenceMergeSampleIdeal.nD Cert.ReferenceMergeSampleIdeal.τ).loc Cert.ReferenceMergeSampleIdeal.main_arg2)
          ∧ r.2.mem ((c.tc : Thread Cert.ReferenceMergeSampleIdeal.nD Cert.ReferenceMergeSampleIdeal.τ).loc Cert.ReferenceMergeSampleIdeal.main_arg3) = m' ((c.tc : Thread Cert.ReferenceMergeSampleIdeal.nD Cert.ReferenceMergeSampleIdeal.τ).loc Cert.ReferenceMergeSampleIdeal.main_arg3)
          ∧ r.2.mem ((c.tc : Thread Cert.ReferenceMergeSampleIdeal.nD Cert.ReferenceMergeSampleIdeal.τ).loc Cert.ReferenceMergeSampleIdeal.main_arg4) = m' ((c.tc : Thread Cert.ReferenceMergeSampleIdeal.nD Cert.ReferenceMergeSampleIdeal.τ).loc Cert.ReferenceMergeSampleIdeal.main_arg4)
          ∧ r.2.mem ((c.tc : Thread Cert.ReferenceMergeSampleIdeal.nD Cert.ReferenceMergeSampleIdeal.τ).loc Cert.ReferenceMergeSampleIdeal.main_arg5) = m' ((c.tc : Thread Cert.ReferenceMergeSampleIdeal.nD Cert.ReferenceMergeSampleIdeal.τ).loc Cert.ReferenceMergeSampleIdeal.main_arg5)
          ∧ r.2.mem ((c.tc : Thread Cert.ReferenceMergeSampleIdeal.nD Cert.ReferenceMergeSampleIdeal.τ).loc Cert.ReferenceMergeSampleIdeal.main_arg6) = m' ((c.tc : Thread Cert.ReferenceMergeSampleIdeal.nD Cert.ReferenceMergeSampleIdeal.τ).loc Cert.ReferenceMergeSampleIdeal.main_arg6)
          ∧ r.2.mem ((c.tc : Thread Cert.ReferenceMergeSampleIdeal.nD Cert.ReferenceMergeSampleIdeal.τ).loc Cert.ReferenceMergeSampleIdeal.main_arg7) = m' ((c.tc : Thread Cert.ReferenceMergeSampleIdeal.nD Cert.ReferenceMergeSampleIdeal.τ).loc Cert.ReferenceMergeSampleIdeal.main_arg7))

def preserves_RetentionSample_RetentionSampleIdeal : Prop :=
  True

def algebraic_RetentionSampleIdeal_ReferenceRetentionSampleIdeal [hRetentionSampleIdeal : Cert.RetentionSampleIdeal.Facts] [hReferenceRetentionSampleIdeal : Cert.ReferenceRetentionSampleIdeal.Facts] : Prop :=
  ∀ (m : (ℓ : Loc Cert.RetentionSampleIdeal.nD Cert.RetentionSampleIdeal.τ Cert.RetentionSampleIdeal.sig) → Buf (Elt Ideal) ℓ) (g : Dev Cert.RetentionSampleIdeal.nD → PrngReg)
    (m' : (ℓ : Loc Cert.ReferenceRetentionSampleIdeal.nD Cert.ReferenceRetentionSampleIdeal.τ Cert.ReferenceRetentionSampleIdeal.sig) → Buf (Elt Ideal) ℓ) (g' : Dev Cert.ReferenceRetentionSampleIdeal.nD → PrngReg), Pre_RetentionSampleIdeal m →
    (∀ c : Dev Cert.RetentionSampleIdeal.nD,
      m' ((c.tc : Thread Cert.ReferenceRetentionSampleIdeal.nD Cert.ReferenceRetentionSampleIdeal.τ).loc Cert.ReferenceRetentionSampleIdeal.main_arg0) = m ((c.tc : Thread Cert.RetentionSampleIdeal.nD Cert.RetentionSampleIdeal.τ).loc Cert.RetentionSampleIdeal.main_arg0)
      ∧ m' ((c.tc : Thread Cert.ReferenceRetentionSampleIdeal.nD Cert.ReferenceRetentionSampleIdeal.τ).loc Cert.ReferenceRetentionSampleIdeal.main_arg1) = m ((c.tc : Thread Cert.RetentionSampleIdeal.nD Cert.RetentionSampleIdeal.τ).loc Cert.RetentionSampleIdeal.main_arg1)
      ∧ m' ((c.tc : Thread Cert.ReferenceRetentionSampleIdeal.nD Cert.ReferenceRetentionSampleIdeal.τ).loc Cert.ReferenceRetentionSampleIdeal.main_arg2) = m ((c.tc : Thread Cert.RetentionSampleIdeal.nD Cert.RetentionSampleIdeal.τ).loc Cert.RetentionSampleIdeal.main_arg2)
      ∧ m' ((c.tc : Thread Cert.ReferenceRetentionSampleIdeal.nD Cert.ReferenceRetentionSampleIdeal.τ).loc Cert.ReferenceRetentionSampleIdeal.main_arg3) = m ((c.tc : Thread Cert.RetentionSampleIdeal.nD Cert.RetentionSampleIdeal.τ).loc Cert.RetentionSampleIdeal.main_arg3)
      ∧ m' ((c.tc : Thread Cert.ReferenceRetentionSampleIdeal.nD Cert.ReferenceRetentionSampleIdeal.τ).loc Cert.ReferenceRetentionSampleIdeal.main_arg4) = m ((c.tc : Thread Cert.RetentionSampleIdeal.nD Cert.RetentionSampleIdeal.τ).loc Cert.RetentionSampleIdeal.main_arg4)) →
    ∃ (v0 : (c : Dev Cert.RetentionSampleIdeal.nD) → Buf (Elt Ideal) ((c.tc : Thread Cert.RetentionSampleIdeal.nD Cert.RetentionSampleIdeal.τ).loc Cert.RetentionSampleIdeal.main_v53_0)) (v1 : (c : Dev Cert.RetentionSampleIdeal.nD) → Buf (Elt Ideal) ((c.tc : Thread Cert.RetentionSampleIdeal.nD Cert.RetentionSampleIdeal.τ).loc Cert.RetentionSampleIdeal.main_v53_1)),
      θ_run (Cert.RetentionSampleIdeal.defs (F := Ideal)) (onTc (τ := Cert.RetentionSampleIdeal.τ) (Cert.RetentionSampleIdeal.main (F := Ideal))) ⟨m, fun _ => 0, g⟩ (fun r => ∀ c : Dev Cert.RetentionSampleIdeal.nD,
          r.2.mem ((c.tc : Thread Cert.RetentionSampleIdeal.nD Cert.RetentionSampleIdeal.τ).loc Cert.RetentionSampleIdeal.main_v53_0) = v0 c
          ∧ r.2.mem ((c.tc : Thread Cert.RetentionSampleIdeal.nD Cert.RetentionSampleIdeal.τ).loc Cert.RetentionSampleIdeal.main_v53_1) = v1 c
          ∧ r.2.mem ((c.tc : Thread Cert.RetentionSampleIdeal.nD Cert.RetentionSampleIdeal.τ).loc Cert.RetentionSampleIdeal.main_arg0) = m ((c.tc : Thread Cert.RetentionSampleIdeal.nD Cert.RetentionSampleIdeal.τ).loc Cert.RetentionSampleIdeal.main_arg0)
          ∧ r.2.mem ((c.tc : Thread Cert.RetentionSampleIdeal.nD Cert.RetentionSampleIdeal.τ).loc Cert.RetentionSampleIdeal.main_arg1) = m ((c.tc : Thread Cert.RetentionSampleIdeal.nD Cert.RetentionSampleIdeal.τ).loc Cert.RetentionSampleIdeal.main_arg1)
          ∧ r.2.mem ((c.tc : Thread Cert.RetentionSampleIdeal.nD Cert.RetentionSampleIdeal.τ).loc Cert.RetentionSampleIdeal.main_arg2) = m ((c.tc : Thread Cert.RetentionSampleIdeal.nD Cert.RetentionSampleIdeal.τ).loc Cert.RetentionSampleIdeal.main_arg2)
          ∧ r.2.mem ((c.tc : Thread Cert.RetentionSampleIdeal.nD Cert.RetentionSampleIdeal.τ).loc Cert.RetentionSampleIdeal.main_arg3) = m ((c.tc : Thread Cert.RetentionSampleIdeal.nD Cert.RetentionSampleIdeal.τ).loc Cert.RetentionSampleIdeal.main_arg3)
          ∧ r.2.mem ((c.tc : Thread Cert.RetentionSampleIdeal.nD Cert.RetentionSampleIdeal.τ).loc Cert.RetentionSampleIdeal.main_arg4) = m ((c.tc : Thread Cert.RetentionSampleIdeal.nD Cert.RetentionSampleIdeal.τ).loc Cert.RetentionSampleIdeal.main_arg4))
      ∧ θ_run (Cert.ReferenceRetentionSampleIdeal.defs (F := Ideal)) (onTc (τ := Cert.ReferenceRetentionSampleIdeal.τ) (Cert.ReferenceRetentionSampleIdeal.main (F := Ideal))) ⟨m', fun _ => 0, g'⟩ (fun r => ∀ c : Dev Cert.ReferenceRetentionSampleIdeal.nD,
          r.2.mem ((c.tc : Thread Cert.ReferenceRetentionSampleIdeal.nD Cert.ReferenceRetentionSampleIdeal.τ).loc Cert.ReferenceRetentionSampleIdeal.main_v86) = v0 c
          ∧ r.2.mem ((c.tc : Thread Cert.ReferenceRetentionSampleIdeal.nD Cert.ReferenceRetentionSampleIdeal.τ).loc Cert.ReferenceRetentionSampleIdeal.main_v63) = v1 c
          ∧ r.2.mem ((c.tc : Thread Cert.ReferenceRetentionSampleIdeal.nD Cert.ReferenceRetentionSampleIdeal.τ).loc Cert.ReferenceRetentionSampleIdeal.main_arg0) = m' ((c.tc : Thread Cert.ReferenceRetentionSampleIdeal.nD Cert.ReferenceRetentionSampleIdeal.τ).loc Cert.ReferenceRetentionSampleIdeal.main_arg0)
          ∧ r.2.mem ((c.tc : Thread Cert.ReferenceRetentionSampleIdeal.nD Cert.ReferenceRetentionSampleIdeal.τ).loc Cert.ReferenceRetentionSampleIdeal.main_arg1) = m' ((c.tc : Thread Cert.ReferenceRetentionSampleIdeal.nD Cert.ReferenceRetentionSampleIdeal.τ).loc Cert.ReferenceRetentionSampleIdeal.main_arg1)
          ∧ r.2.mem ((c.tc : Thread Cert.ReferenceRetentionSampleIdeal.nD Cert.ReferenceRetentionSampleIdeal.τ).loc Cert.ReferenceRetentionSampleIdeal.main_arg2) = m' ((c.tc : Thread Cert.ReferenceRetentionSampleIdeal.nD Cert.ReferenceRetentionSampleIdeal.τ).loc Cert.ReferenceRetentionSampleIdeal.main_arg2)
          ∧ r.2.mem ((c.tc : Thread Cert.ReferenceRetentionSampleIdeal.nD Cert.ReferenceRetentionSampleIdeal.τ).loc Cert.ReferenceRetentionSampleIdeal.main_arg3) = m' ((c.tc : Thread Cert.ReferenceRetentionSampleIdeal.nD Cert.ReferenceRetentionSampleIdeal.τ).loc Cert.ReferenceRetentionSampleIdeal.main_arg3)
          ∧ r.2.mem ((c.tc : Thread Cert.ReferenceRetentionSampleIdeal.nD Cert.ReferenceRetentionSampleIdeal.τ).loc Cert.ReferenceRetentionSampleIdeal.main_arg4) = m' ((c.tc : Thread Cert.ReferenceRetentionSampleIdeal.nD Cert.ReferenceRetentionSampleIdeal.τ).loc Cert.ReferenceRetentionSampleIdeal.main_arg4))

def preserves_StreamSample_StreamSampleIdeal : Prop :=
  True

def algebraic_StreamSampleIdeal_ReferenceStreamSampleIdeal [hStreamSampleIdeal : Cert.StreamSampleIdeal.Facts] [hReferenceStreamSampleIdeal : Cert.ReferenceStreamSampleIdeal.Facts] : Prop :=
  ∀ (m : (ℓ : Loc Cert.StreamSampleIdeal.nD Cert.StreamSampleIdeal.τ Cert.StreamSampleIdeal.sig) → Buf (Elt Ideal) ℓ) (g : Dev Cert.StreamSampleIdeal.nD → PrngReg)
    (m' : (ℓ : Loc Cert.ReferenceStreamSampleIdeal.nD Cert.ReferenceStreamSampleIdeal.τ Cert.ReferenceStreamSampleIdeal.sig) → Buf (Elt Ideal) ℓ) (g' : Dev Cert.ReferenceStreamSampleIdeal.nD → PrngReg), Pre_StreamSampleIdeal m →
    (∀ c : Dev Cert.StreamSampleIdeal.nD,
      m' ((c.tc : Thread Cert.ReferenceStreamSampleIdeal.nD Cert.ReferenceStreamSampleIdeal.τ).loc Cert.ReferenceStreamSampleIdeal.main_arg0) = m ((c.tc : Thread Cert.StreamSampleIdeal.nD Cert.StreamSampleIdeal.τ).loc Cert.StreamSampleIdeal.main_arg0)
      ∧ m' ((c.tc : Thread Cert.ReferenceStreamSampleIdeal.nD Cert.ReferenceStreamSampleIdeal.τ).loc Cert.ReferenceStreamSampleIdeal.main_arg1) = m ((c.tc : Thread Cert.StreamSampleIdeal.nD Cert.StreamSampleIdeal.τ).loc Cert.StreamSampleIdeal.main_arg1)
      ∧ m' ((c.tc : Thread Cert.ReferenceStreamSampleIdeal.nD Cert.ReferenceStreamSampleIdeal.τ).loc Cert.ReferenceStreamSampleIdeal.main_arg2) = m ((c.tc : Thread Cert.StreamSampleIdeal.nD Cert.StreamSampleIdeal.τ).loc Cert.StreamSampleIdeal.main_arg2)
      ∧ m' ((c.tc : Thread Cert.ReferenceStreamSampleIdeal.nD Cert.ReferenceStreamSampleIdeal.τ).loc Cert.ReferenceStreamSampleIdeal.main_arg3) = m ((c.tc : Thread Cert.StreamSampleIdeal.nD Cert.StreamSampleIdeal.τ).loc Cert.StreamSampleIdeal.main_arg3)
      ∧ m' ((c.tc : Thread Cert.ReferenceStreamSampleIdeal.nD Cert.ReferenceStreamSampleIdeal.τ).loc Cert.ReferenceStreamSampleIdeal.main_arg4) = m ((c.tc : Thread Cert.StreamSampleIdeal.nD Cert.StreamSampleIdeal.τ).loc Cert.StreamSampleIdeal.main_arg4)
      ∧ m' ((c.tc : Thread Cert.ReferenceStreamSampleIdeal.nD Cert.ReferenceStreamSampleIdeal.τ).loc Cert.ReferenceStreamSampleIdeal.main_arg5) = m ((c.tc : Thread Cert.StreamSampleIdeal.nD Cert.StreamSampleIdeal.τ).loc Cert.StreamSampleIdeal.main_arg5)
      ∧ m' ((c.tc : Thread Cert.ReferenceStreamSampleIdeal.nD Cert.ReferenceStreamSampleIdeal.τ).loc Cert.ReferenceStreamSampleIdeal.main_arg6) = m ((c.tc : Thread Cert.StreamSampleIdeal.nD Cert.StreamSampleIdeal.τ).loc Cert.StreamSampleIdeal.main_arg6)) →
    ∃ (v0 : (c : Dev Cert.StreamSampleIdeal.nD) → Buf (Elt Ideal) ((c.tc : Thread Cert.StreamSampleIdeal.nD Cert.StreamSampleIdeal.τ).loc Cert.StreamSampleIdeal.main_v69_0)) (v1 : (c : Dev Cert.StreamSampleIdeal.nD) → Buf (Elt Ideal) ((c.tc : Thread Cert.StreamSampleIdeal.nD Cert.StreamSampleIdeal.τ).loc Cert.StreamSampleIdeal.main_v69_1)) (v2 : (c : Dev Cert.StreamSampleIdeal.nD) → Buf (Elt Ideal) ((c.tc : Thread Cert.StreamSampleIdeal.nD Cert.StreamSampleIdeal.τ).loc Cert.StreamSampleIdeal.main_v15)) (v3 : (c : Dev Cert.StreamSampleIdeal.nD) → Buf (Elt Ideal) ((c.tc : Thread Cert.StreamSampleIdeal.nD Cert.StreamSampleIdeal.τ).loc Cert.StreamSampleIdeal.main_v22)),
      θ_run (Cert.StreamSampleIdeal.defs (F := Ideal)) (onTc (τ := Cert.StreamSampleIdeal.τ) (Cert.StreamSampleIdeal.main (F := Ideal))) ⟨m, fun _ => 0, g⟩ (fun r => ∀ c : Dev Cert.StreamSampleIdeal.nD,
          r.2.mem ((c.tc : Thread Cert.StreamSampleIdeal.nD Cert.StreamSampleIdeal.τ).loc Cert.StreamSampleIdeal.main_v69_0) = v0 c
          ∧ r.2.mem ((c.tc : Thread Cert.StreamSampleIdeal.nD Cert.StreamSampleIdeal.τ).loc Cert.StreamSampleIdeal.main_v69_1) = v1 c
          ∧ r.2.mem ((c.tc : Thread Cert.StreamSampleIdeal.nD Cert.StreamSampleIdeal.τ).loc Cert.StreamSampleIdeal.main_v15) = v2 c
          ∧ r.2.mem ((c.tc : Thread Cert.StreamSampleIdeal.nD Cert.StreamSampleIdeal.τ).loc Cert.StreamSampleIdeal.main_v22) = v3 c
          ∧ r.2.mem ((c.tc : Thread Cert.StreamSampleIdeal.nD Cert.StreamSampleIdeal.τ).loc Cert.StreamSampleIdeal.main_arg0) = m ((c.tc : Thread Cert.StreamSampleIdeal.nD Cert.StreamSampleIdeal.τ).loc Cert.StreamSampleIdeal.main_arg0)
          ∧ r.2.mem ((c.tc : Thread Cert.StreamSampleIdeal.nD Cert.StreamSampleIdeal.τ).loc Cert.StreamSampleIdeal.main_arg1) = m ((c.tc : Thread Cert.StreamSampleIdeal.nD Cert.StreamSampleIdeal.τ).loc Cert.StreamSampleIdeal.main_arg1)
          ∧ r.2.mem ((c.tc : Thread Cert.StreamSampleIdeal.nD Cert.StreamSampleIdeal.τ).loc Cert.StreamSampleIdeal.main_arg2) = m ((c.tc : Thread Cert.StreamSampleIdeal.nD Cert.StreamSampleIdeal.τ).loc Cert.StreamSampleIdeal.main_arg2)
          ∧ r.2.mem ((c.tc : Thread Cert.StreamSampleIdeal.nD Cert.StreamSampleIdeal.τ).loc Cert.StreamSampleIdeal.main_arg3) = m ((c.tc : Thread Cert.StreamSampleIdeal.nD Cert.StreamSampleIdeal.τ).loc Cert.StreamSampleIdeal.main_arg3)
          ∧ r.2.mem ((c.tc : Thread Cert.StreamSampleIdeal.nD Cert.StreamSampleIdeal.τ).loc Cert.StreamSampleIdeal.main_arg4) = m ((c.tc : Thread Cert.StreamSampleIdeal.nD Cert.StreamSampleIdeal.τ).loc Cert.StreamSampleIdeal.main_arg4)
          ∧ r.2.mem ((c.tc : Thread Cert.StreamSampleIdeal.nD Cert.StreamSampleIdeal.τ).loc Cert.StreamSampleIdeal.main_arg5) = m ((c.tc : Thread Cert.StreamSampleIdeal.nD Cert.StreamSampleIdeal.τ).loc Cert.StreamSampleIdeal.main_arg5)
          ∧ r.2.mem ((c.tc : Thread Cert.StreamSampleIdeal.nD Cert.StreamSampleIdeal.τ).loc Cert.StreamSampleIdeal.main_arg6) = m ((c.tc : Thread Cert.StreamSampleIdeal.nD Cert.StreamSampleIdeal.τ).loc Cert.StreamSampleIdeal.main_arg6))
      ∧ θ_run (Cert.ReferenceStreamSampleIdeal.defs (F := Ideal)) (onTc (τ := Cert.ReferenceStreamSampleIdeal.τ) (Cert.ReferenceStreamSampleIdeal.main (F := Ideal))) ⟨m', fun _ => 0, g'⟩ (fun r => ∀ c : Dev Cert.ReferenceStreamSampleIdeal.nD,
          r.2.mem ((c.tc : Thread Cert.ReferenceStreamSampleIdeal.nD Cert.ReferenceStreamSampleIdeal.τ).loc Cert.ReferenceStreamSampleIdeal.main_v129) = v0 c
          ∧ r.2.mem ((c.tc : Thread Cert.ReferenceStreamSampleIdeal.nD Cert.ReferenceStreamSampleIdeal.τ).loc Cert.ReferenceStreamSampleIdeal.main_v106) = v1 c
          ∧ r.2.mem ((c.tc : Thread Cert.ReferenceStreamSampleIdeal.nD Cert.ReferenceStreamSampleIdeal.τ).loc Cert.ReferenceStreamSampleIdeal.main_v131) = v2 c
          ∧ r.2.mem ((c.tc : Thread Cert.ReferenceStreamSampleIdeal.nD Cert.ReferenceStreamSampleIdeal.τ).loc Cert.ReferenceStreamSampleIdeal.main_v133) = v3 c
          ∧ r.2.mem ((c.tc : Thread Cert.ReferenceStreamSampleIdeal.nD Cert.ReferenceStreamSampleIdeal.τ).loc Cert.ReferenceStreamSampleIdeal.main_arg0) = m' ((c.tc : Thread Cert.ReferenceStreamSampleIdeal.nD Cert.ReferenceStreamSampleIdeal.τ).loc Cert.ReferenceStreamSampleIdeal.main_arg0)
          ∧ r.2.mem ((c.tc : Thread Cert.ReferenceStreamSampleIdeal.nD Cert.ReferenceStreamSampleIdeal.τ).loc Cert.ReferenceStreamSampleIdeal.main_arg1) = m' ((c.tc : Thread Cert.ReferenceStreamSampleIdeal.nD Cert.ReferenceStreamSampleIdeal.τ).loc Cert.ReferenceStreamSampleIdeal.main_arg1)
          ∧ r.2.mem ((c.tc : Thread Cert.ReferenceStreamSampleIdeal.nD Cert.ReferenceStreamSampleIdeal.τ).loc Cert.ReferenceStreamSampleIdeal.main_arg2) = m' ((c.tc : Thread Cert.ReferenceStreamSampleIdeal.nD Cert.ReferenceStreamSampleIdeal.τ).loc Cert.ReferenceStreamSampleIdeal.main_arg2)
          ∧ r.2.mem ((c.tc : Thread Cert.ReferenceStreamSampleIdeal.nD Cert.ReferenceStreamSampleIdeal.τ).loc Cert.ReferenceStreamSampleIdeal.main_arg3) = m' ((c.tc : Thread Cert.ReferenceStreamSampleIdeal.nD Cert.ReferenceStreamSampleIdeal.τ).loc Cert.ReferenceStreamSampleIdeal.main_arg3)
          ∧ r.2.mem ((c.tc : Thread Cert.ReferenceStreamSampleIdeal.nD Cert.ReferenceStreamSampleIdeal.τ).loc Cert.ReferenceStreamSampleIdeal.main_arg4) = m' ((c.tc : Thread Cert.ReferenceStreamSampleIdeal.nD Cert.ReferenceStreamSampleIdeal.τ).loc Cert.ReferenceStreamSampleIdeal.main_arg4)
          ∧ r.2.mem ((c.tc : Thread Cert.ReferenceStreamSampleIdeal.nD Cert.ReferenceStreamSampleIdeal.τ).loc Cert.ReferenceStreamSampleIdeal.main_arg5) = m' ((c.tc : Thread Cert.ReferenceStreamSampleIdeal.nD Cert.ReferenceStreamSampleIdeal.τ).loc Cert.ReferenceStreamSampleIdeal.main_arg5)
          ∧ r.2.mem ((c.tc : Thread Cert.ReferenceStreamSampleIdeal.nD Cert.ReferenceStreamSampleIdeal.τ).loc Cert.ReferenceStreamSampleIdeal.main_arg6) = m' ((c.tc : Thread Cert.ReferenceStreamSampleIdeal.nD Cert.ReferenceStreamSampleIdeal.τ).loc Cert.ReferenceStreamSampleIdeal.main_arg6))

def preserves_StreamPrompt_StreamPromptIdeal : Prop :=
  True

def algebraic_StreamPromptIdeal_ReferenceStreamPromptIdeal_pre_finite_inputs [hStreamPromptIdeal : Cert.StreamPromptIdeal.Facts] [hReferenceStreamPromptIdeal : Cert.ReferenceStreamPromptIdeal.Facts] [hPre_finite_inputs : Cert.Pre_finite_inputs.Facts] : Prop :=
  ∀ (m : (ℓ : Loc Cert.StreamPromptIdeal.nD Cert.StreamPromptIdeal.τ Cert.StreamPromptIdeal.sig) → Buf (Elt Ideal) ℓ) (g : Dev Cert.StreamPromptIdeal.nD → PrngReg)
    (m' : (ℓ : Loc Cert.ReferenceStreamPromptIdeal.nD Cert.ReferenceStreamPromptIdeal.τ Cert.ReferenceStreamPromptIdeal.sig) → Buf (Elt Ideal) ℓ) (g' : Dev Cert.ReferenceStreamPromptIdeal.nD → PrngReg), Pre_StreamPromptIdeal_finite_inputs m →
    (∀ c : Dev Cert.StreamPromptIdeal.nD,
      m' ((c.tc : Thread Cert.ReferenceStreamPromptIdeal.nD Cert.ReferenceStreamPromptIdeal.τ).loc Cert.ReferenceStreamPromptIdeal.main_arg0) = m ((c.tc : Thread Cert.StreamPromptIdeal.nD Cert.StreamPromptIdeal.τ).loc Cert.StreamPromptIdeal.main_arg0)
      ∧ m' ((c.tc : Thread Cert.ReferenceStreamPromptIdeal.nD Cert.ReferenceStreamPromptIdeal.τ).loc Cert.ReferenceStreamPromptIdeal.main_arg1) = m ((c.tc : Thread Cert.StreamPromptIdeal.nD Cert.StreamPromptIdeal.τ).loc Cert.StreamPromptIdeal.main_arg1)
      ∧ m' ((c.tc : Thread Cert.ReferenceStreamPromptIdeal.nD Cert.ReferenceStreamPromptIdeal.τ).loc Cert.ReferenceStreamPromptIdeal.main_arg2) = m ((c.tc : Thread Cert.StreamPromptIdeal.nD Cert.StreamPromptIdeal.τ).loc Cert.StreamPromptIdeal.main_arg2)
      ∧ m' ((c.tc : Thread Cert.ReferenceStreamPromptIdeal.nD Cert.ReferenceStreamPromptIdeal.τ).loc Cert.ReferenceStreamPromptIdeal.main_arg3) = m ((c.tc : Thread Cert.StreamPromptIdeal.nD Cert.StreamPromptIdeal.τ).loc Cert.StreamPromptIdeal.main_arg3)) →
    ∃ (v0 : (c : Dev Cert.StreamPromptIdeal.nD) → Buf (Elt Ideal) ((c.tc : Thread Cert.StreamPromptIdeal.nD Cert.StreamPromptIdeal.τ).loc Cert.StreamPromptIdeal.main_v60_0)) (v1 : (c : Dev Cert.StreamPromptIdeal.nD) → Buf (Elt Ideal) ((c.tc : Thread Cert.StreamPromptIdeal.nD Cert.StreamPromptIdeal.τ).loc Cert.StreamPromptIdeal.main_v60_1)) (v2 : (c : Dev Cert.StreamPromptIdeal.nD) → Buf (Elt Ideal) ((c.tc : Thread Cert.StreamPromptIdeal.nD Cert.StreamPromptIdeal.τ).loc Cert.StreamPromptIdeal.main_v10)) (v3 : (c : Dev Cert.StreamPromptIdeal.nD) → Buf (Elt Ideal) ((c.tc : Thread Cert.StreamPromptIdeal.nD Cert.StreamPromptIdeal.τ).loc Cert.StreamPromptIdeal.main_v13)),
      θ_run (Cert.StreamPromptIdeal.defs (F := Ideal)) (onTc (τ := Cert.StreamPromptIdeal.τ) (Cert.StreamPromptIdeal.main (F := Ideal))) ⟨m, fun _ => 0, g⟩ (fun r => ∀ c : Dev Cert.StreamPromptIdeal.nD,
          r.2.mem ((c.tc : Thread Cert.StreamPromptIdeal.nD Cert.StreamPromptIdeal.τ).loc Cert.StreamPromptIdeal.main_v60_0) = v0 c
          ∧ r.2.mem ((c.tc : Thread Cert.StreamPromptIdeal.nD Cert.StreamPromptIdeal.τ).loc Cert.StreamPromptIdeal.main_v60_1) = v1 c
          ∧ r.2.mem ((c.tc : Thread Cert.StreamPromptIdeal.nD Cert.StreamPromptIdeal.τ).loc Cert.StreamPromptIdeal.main_v10) = v2 c
          ∧ r.2.mem ((c.tc : Thread Cert.StreamPromptIdeal.nD Cert.StreamPromptIdeal.τ).loc Cert.StreamPromptIdeal.main_v13) = v3 c
          ∧ r.2.mem ((c.tc : Thread Cert.StreamPromptIdeal.nD Cert.StreamPromptIdeal.τ).loc Cert.StreamPromptIdeal.main_arg0) = m ((c.tc : Thread Cert.StreamPromptIdeal.nD Cert.StreamPromptIdeal.τ).loc Cert.StreamPromptIdeal.main_arg0)
          ∧ r.2.mem ((c.tc : Thread Cert.StreamPromptIdeal.nD Cert.StreamPromptIdeal.τ).loc Cert.StreamPromptIdeal.main_arg1) = m ((c.tc : Thread Cert.StreamPromptIdeal.nD Cert.StreamPromptIdeal.τ).loc Cert.StreamPromptIdeal.main_arg1)
          ∧ r.2.mem ((c.tc : Thread Cert.StreamPromptIdeal.nD Cert.StreamPromptIdeal.τ).loc Cert.StreamPromptIdeal.main_arg2) = m ((c.tc : Thread Cert.StreamPromptIdeal.nD Cert.StreamPromptIdeal.τ).loc Cert.StreamPromptIdeal.main_arg2)
          ∧ r.2.mem ((c.tc : Thread Cert.StreamPromptIdeal.nD Cert.StreamPromptIdeal.τ).loc Cert.StreamPromptIdeal.main_arg3) = m ((c.tc : Thread Cert.StreamPromptIdeal.nD Cert.StreamPromptIdeal.τ).loc Cert.StreamPromptIdeal.main_arg3))
      ∧ θ_run (Cert.ReferenceStreamPromptIdeal.defs (F := Ideal)) (onTc (τ := Cert.ReferenceStreamPromptIdeal.τ) (Cert.ReferenceStreamPromptIdeal.main (F := Ideal))) ⟨m', fun _ => 0, g'⟩ (fun r => ∀ c : Dev Cert.ReferenceStreamPromptIdeal.nD,
          r.2.mem ((c.tc : Thread Cert.ReferenceStreamPromptIdeal.nD Cert.ReferenceStreamPromptIdeal.τ).loc Cert.ReferenceStreamPromptIdeal.main_v72) = v0 c
          ∧ r.2.mem ((c.tc : Thread Cert.ReferenceStreamPromptIdeal.nD Cert.ReferenceStreamPromptIdeal.τ).loc Cert.ReferenceStreamPromptIdeal.main_v47_4) = v1 c
          ∧ r.2.mem ((c.tc : Thread Cert.ReferenceStreamPromptIdeal.nD Cert.ReferenceStreamPromptIdeal.τ).loc Cert.ReferenceStreamPromptIdeal.main_v74) = v2 c
          ∧ r.2.mem ((c.tc : Thread Cert.ReferenceStreamPromptIdeal.nD Cert.ReferenceStreamPromptIdeal.τ).loc Cert.ReferenceStreamPromptIdeal.main_v76) = v3 c
          ∧ r.2.mem ((c.tc : Thread Cert.ReferenceStreamPromptIdeal.nD Cert.ReferenceStreamPromptIdeal.τ).loc Cert.ReferenceStreamPromptIdeal.main_arg0) = m' ((c.tc : Thread Cert.ReferenceStreamPromptIdeal.nD Cert.ReferenceStreamPromptIdeal.τ).loc Cert.ReferenceStreamPromptIdeal.main_arg0)
          ∧ r.2.mem ((c.tc : Thread Cert.ReferenceStreamPromptIdeal.nD Cert.ReferenceStreamPromptIdeal.τ).loc Cert.ReferenceStreamPromptIdeal.main_arg1) = m' ((c.tc : Thread Cert.ReferenceStreamPromptIdeal.nD Cert.ReferenceStreamPromptIdeal.τ).loc Cert.ReferenceStreamPromptIdeal.main_arg1)
          ∧ r.2.mem ((c.tc : Thread Cert.ReferenceStreamPromptIdeal.nD Cert.ReferenceStreamPromptIdeal.τ).loc Cert.ReferenceStreamPromptIdeal.main_arg2) = m' ((c.tc : Thread Cert.ReferenceStreamPromptIdeal.nD Cert.ReferenceStreamPromptIdeal.τ).loc Cert.ReferenceStreamPromptIdeal.main_arg2)
          ∧ r.2.mem ((c.tc : Thread Cert.ReferenceStreamPromptIdeal.nD Cert.ReferenceStreamPromptIdeal.τ).loc Cert.ReferenceStreamPromptIdeal.main_arg3) = m' ((c.tc : Thread Cert.ReferenceStreamPromptIdeal.nD Cert.ReferenceStreamPromptIdeal.τ).loc Cert.ReferenceStreamPromptIdeal.main_arg3))

def preserves_FinishPrompt_FinishPromptIdeal : Prop :=
  True

def algebraic_FinishPromptIdeal_ReferenceFinishPromptIdeal [hFinishPromptIdeal : Cert.FinishPromptIdeal.Facts] [hReferenceFinishPromptIdeal : Cert.ReferenceFinishPromptIdeal.Facts] : Prop :=
  ∀ (m : (ℓ : Loc Cert.FinishPromptIdeal.nD Cert.FinishPromptIdeal.τ Cert.FinishPromptIdeal.sig) → Buf (Elt Ideal) ℓ) (g : Dev Cert.FinishPromptIdeal.nD → PrngReg)
    (m' : (ℓ : Loc Cert.ReferenceFinishPromptIdeal.nD Cert.ReferenceFinishPromptIdeal.τ Cert.ReferenceFinishPromptIdeal.sig) → Buf (Elt Ideal) ℓ) (g' : Dev Cert.ReferenceFinishPromptIdeal.nD → PrngReg), Pre_FinishPromptIdeal m →
    (∀ c : Dev Cert.FinishPromptIdeal.nD,
      m' ((c.tc : Thread Cert.ReferenceFinishPromptIdeal.nD Cert.ReferenceFinishPromptIdeal.τ).loc Cert.ReferenceFinishPromptIdeal.main_arg0) = m ((c.tc : Thread Cert.FinishPromptIdeal.nD Cert.FinishPromptIdeal.τ).loc Cert.FinishPromptIdeal.main_arg0)
      ∧ m' ((c.tc : Thread Cert.ReferenceFinishPromptIdeal.nD Cert.ReferenceFinishPromptIdeal.τ).loc Cert.ReferenceFinishPromptIdeal.main_arg1) = m ((c.tc : Thread Cert.FinishPromptIdeal.nD Cert.FinishPromptIdeal.τ).loc Cert.FinishPromptIdeal.main_arg1)
      ∧ m' ((c.tc : Thread Cert.ReferenceFinishPromptIdeal.nD Cert.ReferenceFinishPromptIdeal.τ).loc Cert.ReferenceFinishPromptIdeal.main_arg2) = m ((c.tc : Thread Cert.FinishPromptIdeal.nD Cert.FinishPromptIdeal.τ).loc Cert.FinishPromptIdeal.main_arg2)
      ∧ m' ((c.tc : Thread Cert.ReferenceFinishPromptIdeal.nD Cert.ReferenceFinishPromptIdeal.τ).loc Cert.ReferenceFinishPromptIdeal.main_arg3) = m ((c.tc : Thread Cert.FinishPromptIdeal.nD Cert.FinishPromptIdeal.τ).loc Cert.FinishPromptIdeal.main_arg3)) →
    ∃ (v0 : (c : Dev Cert.FinishPromptIdeal.nD) → Buf (Elt Ideal) ((c.tc : Thread Cert.FinishPromptIdeal.nD Cert.FinishPromptIdeal.τ).loc Cert.FinishPromptIdeal.main_v2)),
      θ_run (Cert.FinishPromptIdeal.defs (F := Ideal)) (onTc (τ := Cert.FinishPromptIdeal.τ) (Cert.FinishPromptIdeal.main (F := Ideal))) ⟨m, fun _ => 0, g⟩ (fun r => ∀ c : Dev Cert.FinishPromptIdeal.nD,
          r.2.mem ((c.tc : Thread Cert.FinishPromptIdeal.nD Cert.FinishPromptIdeal.τ).loc Cert.FinishPromptIdeal.main_v2) = v0 c
          ∧ r.2.mem ((c.tc : Thread Cert.FinishPromptIdeal.nD Cert.FinishPromptIdeal.τ).loc Cert.FinishPromptIdeal.main_arg0) = m ((c.tc : Thread Cert.FinishPromptIdeal.nD Cert.FinishPromptIdeal.τ).loc Cert.FinishPromptIdeal.main_arg0)
          ∧ r.2.mem ((c.tc : Thread Cert.FinishPromptIdeal.nD Cert.FinishPromptIdeal.τ).loc Cert.FinishPromptIdeal.main_arg1) = m ((c.tc : Thread Cert.FinishPromptIdeal.nD Cert.FinishPromptIdeal.τ).loc Cert.FinishPromptIdeal.main_arg1)
          ∧ r.2.mem ((c.tc : Thread Cert.FinishPromptIdeal.nD Cert.FinishPromptIdeal.τ).loc Cert.FinishPromptIdeal.main_arg2) = m ((c.tc : Thread Cert.FinishPromptIdeal.nD Cert.FinishPromptIdeal.τ).loc Cert.FinishPromptIdeal.main_arg2)
          ∧ r.2.mem ((c.tc : Thread Cert.FinishPromptIdeal.nD Cert.FinishPromptIdeal.τ).loc Cert.FinishPromptIdeal.main_arg3) = m ((c.tc : Thread Cert.FinishPromptIdeal.nD Cert.FinishPromptIdeal.τ).loc Cert.FinishPromptIdeal.main_arg3))
      ∧ θ_run (Cert.ReferenceFinishPromptIdeal.defs (F := Ideal)) (onTc (τ := Cert.ReferenceFinishPromptIdeal.τ) (Cert.ReferenceFinishPromptIdeal.main (F := Ideal))) ⟨m', fun _ => 0, g'⟩ (fun r => ∀ c : Dev Cert.ReferenceFinishPromptIdeal.nD,
          r.2.mem ((c.tc : Thread Cert.ReferenceFinishPromptIdeal.nD Cert.ReferenceFinishPromptIdeal.τ).loc Cert.ReferenceFinishPromptIdeal.main_v17) = v0 c
          ∧ r.2.mem ((c.tc : Thread Cert.ReferenceFinishPromptIdeal.nD Cert.ReferenceFinishPromptIdeal.τ).loc Cert.ReferenceFinishPromptIdeal.main_arg0) = m' ((c.tc : Thread Cert.ReferenceFinishPromptIdeal.nD Cert.ReferenceFinishPromptIdeal.τ).loc Cert.ReferenceFinishPromptIdeal.main_arg0)
          ∧ r.2.mem ((c.tc : Thread Cert.ReferenceFinishPromptIdeal.nD Cert.ReferenceFinishPromptIdeal.τ).loc Cert.ReferenceFinishPromptIdeal.main_arg1) = m' ((c.tc : Thread Cert.ReferenceFinishPromptIdeal.nD Cert.ReferenceFinishPromptIdeal.τ).loc Cert.ReferenceFinishPromptIdeal.main_arg1)
          ∧ r.2.mem ((c.tc : Thread Cert.ReferenceFinishPromptIdeal.nD Cert.ReferenceFinishPromptIdeal.τ).loc Cert.ReferenceFinishPromptIdeal.main_arg2) = m' ((c.tc : Thread Cert.ReferenceFinishPromptIdeal.nD Cert.ReferenceFinishPromptIdeal.τ).loc Cert.ReferenceFinishPromptIdeal.main_arg2)
          ∧ r.2.mem ((c.tc : Thread Cert.ReferenceFinishPromptIdeal.nD Cert.ReferenceFinishPromptIdeal.τ).loc Cert.ReferenceFinishPromptIdeal.main_arg3) = m' ((c.tc : Thread Cert.ReferenceFinishPromptIdeal.nD Cert.ReferenceFinishPromptIdeal.τ).loc Cert.ReferenceFinishPromptIdeal.main_arg3))

def preserves_AttendSample_AttendSampleIdeal : Prop :=
  IdealRules.named_const.Statement Cert.AttendSampleIdeal.κ "mask" .f32 0xF149F2CA#32 ⊥

def algebraic_AttendSampleIdeal_ReferenceAttendSampleIdeal_pre_finite_scores [hAttendSampleIdeal : Cert.AttendSampleIdeal.Facts] [hReferenceAttendSampleIdeal : Cert.ReferenceAttendSampleIdeal.Facts] [hPre_finite_scores : Cert.Pre_finite_scores.Facts] : Prop :=
  ∀ (m : (ℓ : Loc Cert.AttendSampleIdeal.nD Cert.AttendSampleIdeal.τ Cert.AttendSampleIdeal.sig) → Buf (Elt Ideal) ℓ) (g : Dev Cert.AttendSampleIdeal.nD → PrngReg)
    (m' : (ℓ : Loc Cert.ReferenceAttendSampleIdeal.nD Cert.ReferenceAttendSampleIdeal.τ Cert.ReferenceAttendSampleIdeal.sig) → Buf (Elt Ideal) ℓ) (g' : Dev Cert.ReferenceAttendSampleIdeal.nD → PrngReg), Pre_AttendSampleIdeal_finite_scores m →
    (∀ c : Dev Cert.AttendSampleIdeal.nD,
      m' ((c.tc : Thread Cert.ReferenceAttendSampleIdeal.nD Cert.ReferenceAttendSampleIdeal.τ).loc Cert.ReferenceAttendSampleIdeal.main_arg0) = m ((c.tc : Thread Cert.AttendSampleIdeal.nD Cert.AttendSampleIdeal.τ).loc Cert.AttendSampleIdeal.main_arg0)
      ∧ m' ((c.tc : Thread Cert.ReferenceAttendSampleIdeal.nD Cert.ReferenceAttendSampleIdeal.τ).loc Cert.ReferenceAttendSampleIdeal.main_arg1) = m ((c.tc : Thread Cert.AttendSampleIdeal.nD Cert.AttendSampleIdeal.τ).loc Cert.AttendSampleIdeal.main_arg1)
      ∧ m' ((c.tc : Thread Cert.ReferenceAttendSampleIdeal.nD Cert.ReferenceAttendSampleIdeal.τ).loc Cert.ReferenceAttendSampleIdeal.main_arg2) = m ((c.tc : Thread Cert.AttendSampleIdeal.nD Cert.AttendSampleIdeal.τ).loc Cert.AttendSampleIdeal.main_arg2)
      ∧ m' ((c.tc : Thread Cert.ReferenceAttendSampleIdeal.nD Cert.ReferenceAttendSampleIdeal.τ).loc Cert.ReferenceAttendSampleIdeal.main_arg3) = m ((c.tc : Thread Cert.AttendSampleIdeal.nD Cert.AttendSampleIdeal.τ).loc Cert.AttendSampleIdeal.main_arg3)
      ∧ m' ((c.tc : Thread Cert.ReferenceAttendSampleIdeal.nD Cert.ReferenceAttendSampleIdeal.τ).loc Cert.ReferenceAttendSampleIdeal.main_arg4) = m ((c.tc : Thread Cert.AttendSampleIdeal.nD Cert.AttendSampleIdeal.τ).loc Cert.AttendSampleIdeal.main_arg4)
      ∧ m' ((c.tc : Thread Cert.ReferenceAttendSampleIdeal.nD Cert.ReferenceAttendSampleIdeal.τ).loc Cert.ReferenceAttendSampleIdeal.main_arg5) = m ((c.tc : Thread Cert.AttendSampleIdeal.nD Cert.AttendSampleIdeal.τ).loc Cert.AttendSampleIdeal.main_arg5)) →
    ∃ (v0 : (c : Dev Cert.AttendSampleIdeal.nD) → Buf (Elt Ideal) ((c.tc : Thread Cert.AttendSampleIdeal.nD Cert.AttendSampleIdeal.τ).loc Cert.AttendSampleIdeal.main_v35)),
      θ_run (Cert.AttendSampleIdeal.defs (F := Ideal)) (onTc (τ := Cert.AttendSampleIdeal.τ) (Cert.AttendSampleIdeal.main (F := Ideal))) ⟨m, fun _ => 0, g⟩ (fun r => ∀ c : Dev Cert.AttendSampleIdeal.nD,
          r.2.mem ((c.tc : Thread Cert.AttendSampleIdeal.nD Cert.AttendSampleIdeal.τ).loc Cert.AttendSampleIdeal.main_v35) = v0 c
          ∧ r.2.mem ((c.tc : Thread Cert.AttendSampleIdeal.nD Cert.AttendSampleIdeal.τ).loc Cert.AttendSampleIdeal.main_arg0) = m ((c.tc : Thread Cert.AttendSampleIdeal.nD Cert.AttendSampleIdeal.τ).loc Cert.AttendSampleIdeal.main_arg0)
          ∧ r.2.mem ((c.tc : Thread Cert.AttendSampleIdeal.nD Cert.AttendSampleIdeal.τ).loc Cert.AttendSampleIdeal.main_arg1) = m ((c.tc : Thread Cert.AttendSampleIdeal.nD Cert.AttendSampleIdeal.τ).loc Cert.AttendSampleIdeal.main_arg1)
          ∧ r.2.mem ((c.tc : Thread Cert.AttendSampleIdeal.nD Cert.AttendSampleIdeal.τ).loc Cert.AttendSampleIdeal.main_arg2) = m ((c.tc : Thread Cert.AttendSampleIdeal.nD Cert.AttendSampleIdeal.τ).loc Cert.AttendSampleIdeal.main_arg2)
          ∧ r.2.mem ((c.tc : Thread Cert.AttendSampleIdeal.nD Cert.AttendSampleIdeal.τ).loc Cert.AttendSampleIdeal.main_arg3) = m ((c.tc : Thread Cert.AttendSampleIdeal.nD Cert.AttendSampleIdeal.τ).loc Cert.AttendSampleIdeal.main_arg3)
          ∧ r.2.mem ((c.tc : Thread Cert.AttendSampleIdeal.nD Cert.AttendSampleIdeal.τ).loc Cert.AttendSampleIdeal.main_arg4) = m ((c.tc : Thread Cert.AttendSampleIdeal.nD Cert.AttendSampleIdeal.τ).loc Cert.AttendSampleIdeal.main_arg4)
          ∧ r.2.mem ((c.tc : Thread Cert.AttendSampleIdeal.nD Cert.AttendSampleIdeal.τ).loc Cert.AttendSampleIdeal.main_arg5) = m ((c.tc : Thread Cert.AttendSampleIdeal.nD Cert.AttendSampleIdeal.τ).loc Cert.AttendSampleIdeal.main_arg5))
      ∧ θ_run (Cert.ReferenceAttendSampleIdeal.defs (F := Ideal)) (onTc (τ := Cert.ReferenceAttendSampleIdeal.τ) (Cert.ReferenceAttendSampleIdeal.main (F := Ideal))) ⟨m', fun _ => 0, g'⟩ (fun r => ∀ c : Dev Cert.ReferenceAttendSampleIdeal.nD,
          r.2.mem ((c.tc : Thread Cert.ReferenceAttendSampleIdeal.nD Cert.ReferenceAttendSampleIdeal.τ).loc Cert.ReferenceAttendSampleIdeal.main_v79) = v0 c
          ∧ r.2.mem ((c.tc : Thread Cert.ReferenceAttendSampleIdeal.nD Cert.ReferenceAttendSampleIdeal.τ).loc Cert.ReferenceAttendSampleIdeal.main_arg0) = m' ((c.tc : Thread Cert.ReferenceAttendSampleIdeal.nD Cert.ReferenceAttendSampleIdeal.τ).loc Cert.ReferenceAttendSampleIdeal.main_arg0)
          ∧ r.2.mem ((c.tc : Thread Cert.ReferenceAttendSampleIdeal.nD Cert.ReferenceAttendSampleIdeal.τ).loc Cert.ReferenceAttendSampleIdeal.main_arg1) = m' ((c.tc : Thread Cert.ReferenceAttendSampleIdeal.nD Cert.ReferenceAttendSampleIdeal.τ).loc Cert.ReferenceAttendSampleIdeal.main_arg1)
          ∧ r.2.mem ((c.tc : Thread Cert.ReferenceAttendSampleIdeal.nD Cert.ReferenceAttendSampleIdeal.τ).loc Cert.ReferenceAttendSampleIdeal.main_arg2) = m' ((c.tc : Thread Cert.ReferenceAttendSampleIdeal.nD Cert.ReferenceAttendSampleIdeal.τ).loc Cert.ReferenceAttendSampleIdeal.main_arg2)
          ∧ r.2.mem ((c.tc : Thread Cert.ReferenceAttendSampleIdeal.nD Cert.ReferenceAttendSampleIdeal.τ).loc Cert.ReferenceAttendSampleIdeal.main_arg3) = m' ((c.tc : Thread Cert.ReferenceAttendSampleIdeal.nD Cert.ReferenceAttendSampleIdeal.τ).loc Cert.ReferenceAttendSampleIdeal.main_arg3)
          ∧ r.2.mem ((c.tc : Thread Cert.ReferenceAttendSampleIdeal.nD Cert.ReferenceAttendSampleIdeal.τ).loc Cert.ReferenceAttendSampleIdeal.main_arg4) = m' ((c.tc : Thread Cert.ReferenceAttendSampleIdeal.nD Cert.ReferenceAttendSampleIdeal.τ).loc Cert.ReferenceAttendSampleIdeal.main_arg4)
          ∧ r.2.mem ((c.tc : Thread Cert.ReferenceAttendSampleIdeal.nD Cert.ReferenceAttendSampleIdeal.τ).loc Cert.ReferenceAttendSampleIdeal.main_arg5) = m' ((c.tc : Thread Cert.ReferenceAttendSampleIdeal.nD Cert.ReferenceAttendSampleIdeal.τ).loc Cert.ReferenceAttendSampleIdeal.main_arg5))

def Claim : Prop :=
  ∃ (hKernel : Cert.Kernel.Facts) (hKernelIdeal : Cert.KernelIdeal.Facts) (hReferenceIdeal : Cert.ReferenceIdeal.Facts) (hProjectPrompt : Cert.ProjectPrompt.Facts) (hProjectPromptIdeal : Cert.ProjectPromptIdeal.Facts) (hReferenceProjectPromptIdeal : Cert.ReferenceProjectPromptIdeal.Facts) (hProjectSample : Cert.ProjectSample.Facts) (hProjectSampleIdeal : Cert.ProjectSampleIdeal.Facts) (hReferenceProjectSampleIdeal : Cert.ReferenceProjectSampleIdeal.Facts) (hMergePrompt : Cert.MergePrompt.Facts) (hMergePromptIdeal : Cert.MergePromptIdeal.Facts) (hReferenceMergePromptIdeal : Cert.ReferenceMergePromptIdeal.Facts) (hMergeSample : Cert.MergeSample.Facts) (hMergeSampleIdeal : Cert.MergeSampleIdeal.Facts) (hReferenceMergeSampleIdeal : Cert.ReferenceMergeSampleIdeal.Facts) (hRetentionSample : Cert.RetentionSample.Facts) (hRetentionSampleIdeal : Cert.RetentionSampleIdeal.Facts) (hReferenceRetentionSampleIdeal : Cert.ReferenceRetentionSampleIdeal.Facts) (hStreamSample : Cert.StreamSample.Facts) (hStreamSampleIdeal : Cert.StreamSampleIdeal.Facts) (hReferenceStreamSampleIdeal : Cert.ReferenceStreamSampleIdeal.Facts) (hStreamPrompt : Cert.StreamPrompt.Facts) (hStreamPromptIdeal : Cert.StreamPromptIdeal.Facts) (hReferenceStreamPromptIdeal : Cert.ReferenceStreamPromptIdeal.Facts) (hFinishPrompt : Cert.FinishPrompt.Facts) (hFinishPromptIdeal : Cert.FinishPromptIdeal.Facts) (hReferenceFinishPromptIdeal : Cert.ReferenceFinishPromptIdeal.Facts) (hAttendSample : Cert.AttendSample.Facts) (hAttendSampleIdeal : Cert.AttendSampleIdeal.Facts) (hReferenceAttendSampleIdeal : Cert.ReferenceAttendSampleIdeal.Facts) (hPre_finite : Cert.Pre_finite.Facts) (hPre_finite_inputs : Cert.Pre_finite_inputs.Facts) (hPre_finite_scores : Cert.Pre_finite_scores.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_ProjectPrompt (hProjectPrompt := hProjectPrompt)
    ∧ quiescent_ProjectPromptIdeal (hProjectPromptIdeal := hProjectPromptIdeal)
    ∧ quiescent_ReferenceProjectPromptIdeal (hReferenceProjectPromptIdeal := hReferenceProjectPromptIdeal)
    ∧ quiescent_ProjectSample (hProjectSample := hProjectSample)
    ∧ quiescent_ProjectSampleIdeal (hProjectSampleIdeal := hProjectSampleIdeal)
    ∧ quiescent_ReferenceProjectSampleIdeal (hReferenceProjectSampleIdeal := hReferenceProjectSampleIdeal)
    ∧ quiescent_MergePrompt (hMergePrompt := hMergePrompt)
    ∧ quiescent_MergePromptIdeal (hMergePromptIdeal := hMergePromptIdeal)
    ∧ quiescent_ReferenceMergePromptIdeal (hReferenceMergePromptIdeal := hReferenceMergePromptIdeal)
    ∧ quiescent_MergeSample (hMergeSample := hMergeSample)
    ∧ quiescent_MergeSampleIdeal (hMergeSampleIdeal := hMergeSampleIdeal)
    ∧ quiescent_ReferenceMergeSampleIdeal (hReferenceMergeSampleIdeal := hReferenceMergeSampleIdeal)
    ∧ quiescent_RetentionSample (hRetentionSample := hRetentionSample)
    ∧ quiescent_RetentionSampleIdeal (hRetentionSampleIdeal := hRetentionSampleIdeal)
    ∧ quiescent_ReferenceRetentionSampleIdeal (hReferenceRetentionSampleIdeal := hReferenceRetentionSampleIdeal)
    ∧ quiescent_StreamSample (hStreamSample := hStreamSample)
    ∧ quiescent_StreamSampleIdeal (hStreamSampleIdeal := hStreamSampleIdeal)
    ∧ quiescent_ReferenceStreamSampleIdeal (hReferenceStreamSampleIdeal := hReferenceStreamSampleIdeal)
    ∧ quiescent_StreamPrompt (hStreamPrompt := hStreamPrompt)
    ∧ quiescent_StreamPromptIdeal (hStreamPromptIdeal := hStreamPromptIdeal)
    ∧ quiescent_StreamPromptIdeal_pre_finite_inputs (hStreamPromptIdeal := hStreamPromptIdeal) (hPre_finite_inputs := hPre_finite_inputs)
    ∧ quiescent_ReferenceStreamPromptIdeal (hReferenceStreamPromptIdeal := hReferenceStreamPromptIdeal)
    ∧ quiescent_ReferenceStreamPromptIdeal_pre_finite_inputs (hReferenceStreamPromptIdeal := hReferenceStreamPromptIdeal) (hPre_finite_inputs := hPre_finite_inputs)
    ∧ quiescent_FinishPrompt (hFinishPrompt := hFinishPrompt)
    ∧ quiescent_FinishPromptIdeal (hFinishPromptIdeal := hFinishPromptIdeal)
    ∧ quiescent_ReferenceFinishPromptIdeal (hReferenceFinishPromptIdeal := hReferenceFinishPromptIdeal)
    ∧ quiescent_AttendSample (hAttendSample := hAttendSample)
    ∧ quiescent_AttendSampleIdeal (hAttendSampleIdeal := hAttendSampleIdeal)
    ∧ quiescent_AttendSampleIdeal_pre_finite_scores (hAttendSampleIdeal := hAttendSampleIdeal) (hPre_finite_scores := hPre_finite_scores)
    ∧ quiescent_ReferenceAttendSampleIdeal (hReferenceAttendSampleIdeal := hReferenceAttendSampleIdeal)
    ∧ quiescent_ReferenceAttendSampleIdeal_pre_finite_scores (hReferenceAttendSampleIdeal := hReferenceAttendSampleIdeal) (hPre_finite_scores := hPre_finite_scores)
    ∧ preserves_Kernel_KernelIdeal
    ∧ algebraic_KernelIdeal_ReferenceIdeal_pre_finite (hKernelIdeal := hKernelIdeal) (hReferenceIdeal := hReferenceIdeal) (hPre_finite := hPre_finite)
    ∧ preserves_ProjectPrompt_ProjectPromptIdeal
    ∧ algebraic_ProjectPromptIdeal_ReferenceProjectPromptIdeal (hProjectPromptIdeal := hProjectPromptIdeal) (hReferenceProjectPromptIdeal := hReferenceProjectPromptIdeal)
    ∧ preserves_ProjectSample_ProjectSampleIdeal
    ∧ algebraic_ProjectSampleIdeal_ReferenceProjectSampleIdeal (hProjectSampleIdeal := hProjectSampleIdeal) (hReferenceProjectSampleIdeal := hReferenceProjectSampleIdeal)
    ∧ preserves_MergePrompt_MergePromptIdeal
    ∧ algebraic_MergePromptIdeal_ReferenceMergePromptIdeal (hMergePromptIdeal := hMergePromptIdeal) (hReferenceMergePromptIdeal := hReferenceMergePromptIdeal)
    ∧ preserves_MergeSample_MergeSampleIdeal
    ∧ algebraic_MergeSampleIdeal_ReferenceMergeSampleIdeal (hMergeSampleIdeal := hMergeSampleIdeal) (hReferenceMergeSampleIdeal := hReferenceMergeSampleIdeal)
    ∧ preserves_RetentionSample_RetentionSampleIdeal
    ∧ algebraic_RetentionSampleIdeal_ReferenceRetentionSampleIdeal (hRetentionSampleIdeal := hRetentionSampleIdeal) (hReferenceRetentionSampleIdeal := hReferenceRetentionSampleIdeal)
    ∧ preserves_StreamSample_StreamSampleIdeal
    ∧ algebraic_StreamSampleIdeal_ReferenceStreamSampleIdeal (hStreamSampleIdeal := hStreamSampleIdeal) (hReferenceStreamSampleIdeal := hReferenceStreamSampleIdeal)
    ∧ preserves_StreamPrompt_StreamPromptIdeal
    ∧ algebraic_StreamPromptIdeal_ReferenceStreamPromptIdeal_pre_finite_inputs (hStreamPromptIdeal := hStreamPromptIdeal) (hReferenceStreamPromptIdeal := hReferenceStreamPromptIdeal) (hPre_finite_inputs := hPre_finite_inputs)
    ∧ preserves_FinishPrompt_FinishPromptIdeal
    ∧ algebraic_FinishPromptIdeal_ReferenceFinishPromptIdeal (hFinishPromptIdeal := hFinishPromptIdeal) (hReferenceFinishPromptIdeal := hReferenceFinishPromptIdeal)
    ∧ preserves_AttendSample_AttendSampleIdeal
    ∧ algebraic_AttendSampleIdeal_ReferenceAttendSampleIdeal_pre_finite_scores (hAttendSampleIdeal := hAttendSampleIdeal) (hReferenceAttendSampleIdeal := hReferenceAttendSampleIdeal) (hPre_finite_scores := hPre_finite_scores)
-- ==== Pre_finite.lean ====
abbrev S4x8192x4x128 : Shape := ⟨4, ![4, 8192, 4, 128]⟩
abbrev S4x8192x4x256 : Shape := ⟨4, ![4, 8192, 4, 256]⟩
abbrev S_ : Shape := ⟨0, ![]⟩

class Facts : Prop where
  bcast_S_S4x8192x4x128 : S_.BroadcastsInDim S4x8192x4x128 (![] : Fin 0 → Fin S4x8192x4x128.rank)
  bcast_S_S4x8192x4x256 : S_.BroadcastsInDim S4x8192x4x256 (![] : Fin 0 → Fin S4x8192x4x256.rank)

variable [Facts]

def fn {F : FTy → Type} [FloatOps F] (main_arg0 : FVec F S4x8192x4x128 .f32) (main_arg1 : FVec F S4x8192x4x128 .f32) (main_arg2 : FVec F S4x8192x4x256 .f32) (main_arg3 : FVec F S4x8192x4x256 .f32) : IVec S4x8192x4x128 1 × IVec S4x8192x4x128 1 × IVec S4x8192x4x256 1 :=
  let main_v0 : FVec F S4x8192x4x128 .f32 := Host.absf main_arg0
  let main_cst : FVec F S_ .f32 := constant S_ .f32 0x7F800000#32
  let main_v1 : FVec F S4x8192x4x128 .f32 := broadcastInDim S4x8192x4x128 ![] bcast_S_S4x8192x4x128 main_cst
  let main_v2 : IVec S4x8192x4x128 1 := cmpf .olt main_v0 main_v1
  let main_v3 : FVec F S4x8192x4x128 .f32 := Host.absf main_arg1
  let main_cst_0 : FVec F S_ .f32 := constant S_ .f32 0x7F800000#32
  let main_v4 : FVec F S4x8192x4x128 .f32 := broadcastInDim S4x8192x4x128 ![] bcast_S_S4x8192x4x128 main_cst_0
  let main_v5 : IVec S4x8192x4x128 1 := cmpf .olt main_v3 main_v4
  let main_v6 : FVec F S4x8192x4x256 .f32 := Host.absf main_arg2
  let main_cst_1 : FVec F S_ .f32 := constant S_ .f32 0x7F800000#32
  let main_v7 : FVec F S4x8192x4x256 .f32 := broadcastInDim S4x8192x4x256 ![] bcast_S_S4x8192x4x256 main_cst_1
  let main_v8 : IVec S4x8192x4x256 1 := cmpf .olt main_v6 main_v7
  (main_v2, main_v5, main_v8)
-- ==== Pre_finite_inputs.lean ====
abbrev S4x8192x1024 : Shape := ⟨3, ![4, 8192, 1024]⟩
abbrev S1x1024 : Shape := ⟨2, ![1, 1024]⟩
abbrev S1x1024x5888 : Shape := ⟨3, ![1, 1024, 5888]⟩
abbrev S1x2048 : Shape := ⟨2, ![1, 2048]⟩
abbrev S_ : Shape := ⟨0, ![]⟩

class Facts : Prop where
  bcast_S_S1x1024 : S_.BroadcastsInDim S1x1024 (![] : Fin 0 → Fin S1x1024.rank)
  bcast_S_S1x1024x5888 : S_.BroadcastsInDim S1x1024x5888 (![] : Fin 0 → Fin S1x1024x5888.rank)

variable [Facts]

def fn {F : FTy → Type} [FloatOps F] (main_arg0 : FVec F S4x8192x1024 .f32) (main_arg1 : FVec F S1x1024 .f32) (main_arg2 : FVec F S1x1024x5888 .f32) (main_arg3 : FVec F S1x2048 .f32) : IVec S1x1024 1 × IVec S1x1024x5888 1 :=
  let main_v0 : FVec F S1x1024 .f32 := Host.absf main_arg1
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_v3 : FVec F S1x1024x5888 .f32 := Host.absf main_arg2
  let main_cst_0 : FVec F S_ .f32 := constant S_ .f32 0x7F800000#32
  let main_v4 : FVec F S1x1024x5888 .f32 := broadcastInDim S1x1024x5888 ![] bcast_S_S1x1024x5888 main_cst_0
  let main_v5 : IVec S1x1024x5888 1 := cmpf .olt main_v3 main_v4
  (main_v2, main_v5)
-- ==== Pre_finite_scores.lean ====
abbrev S16x16x2x4x64 : Shape := ⟨5, ![16, 16, 2, 4, 64]⟩
abbrev S16x16x2x64 : Shape := ⟨4, ![16, 16, 2, 64]⟩
abbrev S1x16x128x2x64 : Shape := ⟨5, ![1, 16, 128, 2, 64]⟩
abbrev S1x8 : Shape := ⟨2, ![1, 8]⟩
abbrev S_ : Shape := ⟨0, ![]⟩

class Facts : Prop where
  bcast_S_S16x16x2x4x64 : S_.BroadcastsInDim S16x16x2x4x64 (![] : Fin 0 → Fin S16x16x2x4x64.rank)
  bcast_S_S16x16x2x64 : S_.BroadcastsInDim S16x16x2x64 (![] : Fin 0 → Fin S16x16x2x64.rank)
  bcast_S_S1x16x128x2x64 : S_.BroadcastsInDim S1x16x128x2x64 (![] : Fin 0 → Fin S1x16x128x2x64.rank)
  bcast_S_S1x8 : S_.BroadcastsInDim S1x8 (![] : Fin 0 → Fin S1x8.rank)

variable [Facts]

def fn {F : FTy → Type} [FloatOps F] (main_arg0 : FVec F S16x16x2x4x64 .f32) (main_arg1 : FVec F S16x16x2x64 .f32) (main_arg2 : FVec F S16x16x2x64 .f32) (main_arg3 : FVec F S1x16x128x2x64 .f32) (main_arg4 : FVec F S1x16x128x2x64 .f32) (main_arg5 : FVec F S1x8 .f32) : IVec S16x16x2x4x64 1 × IVec S16x16x2x64 1 × IVec S1x16x128x2x64 1 × IVec S1x8 1 :=
  let main_v0 : FVec F S16x16x2x4x64 .f32 := Host.absf main_arg0
  let main_cst : FVec F S_ .f32 := constant S_ .f32 0x7F800000#32
  let main_v1 : FVec F S16x16x2x4x64 .f32 := broadcastInDim S16x16x2x4x64 ![] bcast_S_S16x16x2x4x64 main_cst
  let main_v2 : IVec S16x16x2x4x64 1 := cmpf .olt main_v0 main_v1
  let main_v3 : FVec F S16x16x2x64 .f32 := Host.absf main_arg1
  let main_cst_0 : FVec F S_ .f32 := constant S_ .f32 0x7F800000#32
  let main_v4 : FVec F S16x16x2x64 .f32 := broadcastInDim S16x16x2x64 ![] bcast_S_S16x16x2x64 main_cst_0
  let main_v5 : IVec S16x16x2x64 1 := cmpf .olt main_v3 main_v4
  let main_v6 : FVec F S1x16x128x2x64 .f32 := Host.absf main_arg3
  let main_cst_1 : FVec F S_ .f32 := constant S_ .f32 0x7F800000#32
  let main_v7 : FVec F S1x16x128x2x64 .f32 := broadcastInDim S1x16x128x2x64 ![] bcast_S_S1x16x128x2x64 main_cst_1
  let main_v8 : IVec S1x16x128x2x64 1 := cmpf .olt main_v6 main_v7
  let main_v9 : FVec F S1x8 .f32 := Host.absf main_arg5
  let main_cst_2 : FVec F S_ .f32 := constant S_ .f32 0x7F800000#32
  let main_v10 : FVec F S1x8 .f32 := broadcastInDim S1x8 ![] bcast_S_S1x8 main_cst_2
  let main_v11 : IVec S1x8 1 := cmpf .olt main_v9 main_v10
  (main_v2, main_v5, main_v8, main_v11)
-- ==== Kernel.lean ====
abbrev S4x8192x4x128 : Shape := ⟨4, ![4, 8192, 4, 128]⟩
abbrev S4x8192x4x256 : Shape := ⟨4, ![4, 8192, 4, 256]⟩
abbrev S_ : Shape := ⟨0, ![]⟩
abbrev S4x4x128x256 : Shape := ⟨4, ![4, 4, 128, 256]⟩
abbrev S32768x512 : Shape := ⟨2, ![32768, 512]⟩
abbrev S32768x1024 : Shape := ⟨2, ![32768, 1024]⟩
abbrev S4 : Shape := ⟨1, ![4]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S4x1x1 : Shape := ⟨3, ![4, 1, 1]⟩
abbrev S1x256x256 : Shape := ⟨3, ![1, 256, 256]⟩
abbrev S4x256x256 : Shape := ⟨3, ![4, 256, 256]⟩
abbrev S4x1 : Shape := ⟨2, ![4, 1]⟩
abbrev S4x256 : Shape := ⟨2, ![4, 256]⟩
abbrev S4x256x1 : Shape := ⟨3, ![4, 256, 1]⟩
abbrev S256x512 : Shape := ⟨2, ![256, 512]⟩
abbrev S256x1024 : Shape := ⟨2, ![256, 1024]⟩
abbrev S1x4x128x256 : Shape := ⟨4, ![1, 4, 128, 256]⟩
abbrev S256x128 : Shape := ⟨2, ![256, 128]⟩
abbrev S1x1x128x256 : Shape := ⟨4, ![1, 1, 128, 256]⟩
abbrev S128x256 : Shape := ⟨2, ![128, 256]⟩
abbrev S1x256x1 : Shape := ⟨3, ![1, 256, 1]⟩
abbrev S1 : Shape := ⟨1, ![1]⟩

abbrev nBuf : Space → Nat
  | .hbm => 71
  | .vmem => 17
  | .smem => 1
  | _ => 0

abbrev bufTy : (tb : Table) → Fin (tcTables nBuf tb) → BufTy
  | .hbm, ⟨0, _⟩ => ⟨S4x8192x4x128, .f32⟩
  | .hbm, ⟨1, _⟩ => ⟨S4x8192x4x128, .f32⟩
  | .hbm, ⟨2, _⟩ => ⟨S4x8192x4x256, .f32⟩
  | .hbm, ⟨3, _⟩ => ⟨S4x8192x4x256, .f32⟩
  | .hbm, ⟨4, _⟩ => ⟨S_, .f32⟩
  | .hbm, ⟨5, _⟩ => ⟨S4x4x128x256, .f32⟩
  | .hbm, ⟨6, _⟩ => ⟨S32768x512, .f32⟩
  | .hbm, ⟨7, _⟩ => ⟨S32768x512, .bf16⟩
  | .hbm, ⟨8, _⟩ => ⟨S32768x512, .f32⟩
  | .hbm, ⟨9, _⟩ => ⟨S32768x512, .bf16⟩
  | .hbm, ⟨10, _⟩ => ⟨S32768x1024, .f32⟩
  | .hbm, ⟨11, _⟩ => ⟨S32768x1024, .bf16⟩
  | .hbm, ⟨12, _⟩ => ⟨S32768x1024, .f32⟩
  | .hbm, ⟨13, _⟩ => ⟨S4, .f32⟩
  | .hbm, ⟨14, _⟩ => ⟨S_, .f32⟩
  | .hbm, ⟨15, _⟩ => ⟨S4, .f32⟩
  | .hbm, ⟨16, _⟩ => ⟨S4, .f32⟩
  | .hbm, ⟨17, _⟩ => ⟨S_, .f32⟩
  | .hbm, ⟨18, _⟩ => ⟨S4, .f32⟩
  | .hbm, ⟨19, _⟩ => ⟨S4, .f32⟩
  | .hbm, ⟨20, _⟩ => ⟨S4, .f32⟩
  | .hbm, ⟨21, _⟩ => ⟨S4, .f32⟩
  | .hbm, ⟨22, _⟩ => ⟨S256, .f32⟩
  | .hbm, ⟨23, _⟩ => ⟨S256x1, .f32⟩
  | .hbm, ⟨24, _⟩ => ⟨S1x256, .f32⟩
  | .hbm, ⟨25, _⟩ => ⟨S256x256, .f32⟩
  | .hbm, ⟨26, _⟩ => ⟨S256x256, .f32⟩
  | .hbm, ⟨27, _⟩ => ⟨S256x256, .f32⟩
  | .hbm, ⟨28, _⟩ => ⟨S_, .f32⟩
  | .hbm, ⟨29, _⟩ => ⟨S256x256, .f32⟩
  | .hbm, ⟨30, _⟩ => ⟨S256x256, .i1⟩
  | .hbm, ⟨31, _⟩ => ⟨S_, .f32⟩
  | .hbm, ⟨32, _⟩ => ⟨S256x256, .f32⟩
  | .hbm, ⟨33, _⟩ => ⟨S256x256, .f32⟩
  | .hbm, ⟨34, _⟩ => ⟨S4x1x1, .f32⟩
  | .hbm, ⟨35, _⟩ => ⟨S1x256x256, .f32⟩
  | .hbm, ⟨36, _⟩ => ⟨S4x256x256, .f32⟩
  | .hbm, ⟨37, _⟩ => ⟨S4x256x256, .f32⟩
  | .hbm, ⟨38, _⟩ => ⟨S4x256x256, .f32⟩
  | .hbm, ⟨39, _⟩ => ⟨S4x256x256, .f32⟩
  | .hbm, ⟨40, _⟩ => ⟨S_, .f32⟩
  | .hbm, ⟨41, _⟩ => ⟨S_, .f32⟩
  | .hbm, ⟨42, _⟩ => ⟨S4x256x256, .i1⟩
  | .hbm, ⟨43, _⟩ => ⟨S4x256x256, .f32⟩
  | .hbm, ⟨44, _⟩ => ⟨S4x256x256, .f32⟩
  | .hbm, ⟨45, _⟩ => ⟨S1x256, .f32⟩
  | .hbm, ⟨46, _⟩ => ⟨S_, .f32⟩
  | .hbm, ⟨47, _⟩ => ⟨S1x256, .f32⟩
  | .hbm, ⟨48, _⟩ => ⟨S1x256, .f32⟩
  | .hbm, ⟨49, _⟩ => ⟨S4x1, .f32⟩
  | .hbm, ⟨50, _⟩ => ⟨S4x256, .f32⟩
  | .hbm, ⟨51, _⟩ => ⟨S4x256, .f32⟩
  | .hbm, ⟨52, _⟩ => ⟨S4x256, .f32⟩
  | .hbm, ⟨53, _⟩ => ⟨S4x256, .f32⟩
  | .hbm, ⟨54, _⟩ => ⟨S4x256x1, .f32⟩
  | .hbm, ⟨55, _⟩ => ⟨S_, .f32⟩
  | .hbm, ⟨56, _⟩ => ⟨S256, .f32⟩
  | .hbm, ⟨57, _⟩ => ⟨S256, .f32⟩
  | .hbm, ⟨58, _⟩ => ⟨S1x256, .f32⟩
  | .hbm, ⟨59, _⟩ => ⟨S4x1, .f32⟩
  | .hbm, ⟨60, _⟩ => ⟨S4x256, .f32⟩
  | .hbm, ⟨61, _⟩ => ⟨S4x256, .f32⟩
  | .hbm, ⟨62, _⟩ => ⟨S4x256, .f32⟩
  | .hbm, ⟨63, _⟩ => ⟨S4x256, .f32⟩
  | .hbm, ⟨64, _⟩ => ⟨S4x256x1, .f32⟩
  | .hbm, ⟨65, _⟩ => ⟨S_, .f32⟩
  | .hbm, ⟨66, _⟩ => ⟨S4, .f32⟩
  | .hbm, ⟨67, _⟩ => ⟨S4, .f32⟩
  | .hbm, ⟨68, _⟩ => ⟨S4, .f32⟩
  | .hbm, ⟨69, _⟩ => ⟨S32768x1024, .bf16⟩
  | .hbm, ⟨70, _⟩ => ⟨S4x4x128x256, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | .local _ .vmem, ⟨7, _⟩ => ⟨S256x1024, .f32⟩
  | .local _ .vmem, ⟨8, _⟩ => ⟨S1x4x128x256, .f32⟩
  | .local _ .vmem, ⟨9, _⟩ => ⟨S1x4x128x256, .f32⟩
  | .local _ .vmem, ⟨10, _⟩ => ⟨S4x256x256, .f32⟩
  | .local _ .vmem, ⟨11, _⟩ => ⟨S4x256x1, .f32⟩
  | .local _ .vmem, ⟨12, _⟩ => ⟨S4x256x1, .f32⟩
  | .local _ .vmem, ⟨13, _⟩ => ⟨S256x1024, .bf16⟩
  | .local _ .vmem, ⟨14, _⟩ => ⟨S256x1024, .bf16⟩
  | .local _ .vmem, ⟨15, _⟩ => ⟨S1x4x128x256, .f32⟩
  | .local _ .vmem, ⟨16, _⟩ => ⟨S1x4x128x256, .f32⟩
  | .local _ .smem, ⟨0, _⟩ => ⟨S4, .f32⟩
  | _, _ => ⟨S4x8192x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_4 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_7 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53_0 : Ref sig .tc := ⟨.hbm, 69, rfl⟩
abbrev main_v53_1 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg8_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S4x256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x256x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x256x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .smem S4 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4x128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== ReferenceIdeal.lean ====
abbrev S4x8192x4x128 : Shape := ⟨4, ![4, 8192, 4, 128]⟩
abbrev S4x8192x4x256 : Shape := ⟨4, ![4, 8192, 4, 256]⟩
abbrev S_ : Shape := ⟨0, ![]⟩
abbrev S4x4x128x256 : Shape := ⟨4, ![4, 4, 128, 256]⟩
abbrev S4x128x64x4x128 : Shape := ⟨5, ![4, 128, 64, 4, 128]⟩
abbrev S128x4x64x4x128 : Shape := ⟨5, ![128, 4, 64, 4, 128]⟩
abbrev S4x128x64x4x256 : Shape := ⟨5, ![4, 128, 64, 4, 256]⟩
abbrev S128x4x64x4x256 : Shape := ⟨5, ![128, 4, 64, 4, 256]⟩
abbrev S1x4x64x4x128 : Shape := ⟨5, ![1, 4, 64, 4, 128]⟩
abbrev S4x64x4x128 : Shape := ⟨4, ![4, 64, 4, 128]⟩
abbrev S1x4x64x4x256 : Shape := ⟨5, ![1, 4, 64, 4, 256]⟩
abbrev S4x64x4x256 : Shape := ⟨4, ![4, 64, 4, 256]⟩
abbrev S4 : Shape := ⟨1, ![4]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S4x1x1 : Shape := ⟨3, ![4, 1, 1]⟩
abbrev S1x64x64 : Shape := ⟨3, ![1, 64, 64]⟩
abbrev S4x64x64 : Shape := ⟨3, ![4, 64, 64]⟩
abbrev S4x4x64x64 : Shape := ⟨4, ![4, 4, 64, 64]⟩
abbrev S1x4x64x64 : Shape := ⟨4, ![1, 4, 64, 64]⟩
abbrev S4x4x256x64 : Shape := ⟨4, ![4, 4, 256, 64]⟩
abbrev S1x4 : Shape := ⟨2, ![1, 4]⟩
abbrev S64x4 : Shape := ⟨2, ![64, 4]⟩
abbrev S1x64x4x1 : Shape := ⟨4, ![1, 64, 4, 1]⟩
abbrev S1x4x1x1 : Shape := ⟨4, ![1, 4, 1, 1]⟩
abbrev S4x8192x4 : Shape := ⟨3, ![4, 8192, 4]⟩
abbrev S4x8192x4x1 : Shape := ⟨4, ![4, 8192, 4, 1]⟩
abbrev S4x8192x1024 : Shape := ⟨3, ![4, 8192, 1024]⟩
abbrev S32768x1024 : Shape := ⟨2, ![32768, 1024]⟩

abbrev nBuf : Space → Nat
  | .hbm => 161
  | .vmem => 0
  | .smem => 0
  | _ => 0

abbrev hbmTy0_0 (i : Nat) : BufTy := match i % 128 with
  | 0 => ⟨S4x8192x4x128, .f32⟩
  | 1 => ⟨S4x8192x4x128, .f32⟩
  | 2 => ⟨S4x8192x4x256, .f32⟩
  | 3 => ⟨S4x8192x4x256, .f32⟩
  | 4 => ⟨S_, .f32⟩
  | 5 => ⟨S4x4x128x256, .f32⟩
  | 6 => ⟨S4x128x64x4x128, .f32⟩
  | 7 => ⟨S128x4x64x4x128, .f32⟩
  | 8 => ⟨S4x128x64x4x128, .f32⟩
  | 9 => ⟨S128x4x64x4x128, .f32⟩
  | 10 => ⟨S4x128x64x4x256, .f32⟩
  | 11 => ⟨S128x4x64x4x256, .f32⟩
  | 12 => ⟨S_, .f32⟩
  | 13 => ⟨S128x4x64x4x256, .f32⟩
  | 14 => ⟨S_, .i32⟩
  | 15 => ⟨S128x4x64x4x128, .f32⟩
  | 16 => ⟨S128x4x64x4x128, .f32⟩
  | 17 => ⟨S128x4x64x4x256, .f32⟩
  | 18 => ⟨S_, .i32⟩
  | 19 => ⟨S4x4x128x256, .f32⟩
  | 20 => ⟨S128x4x64x4x256, .f32⟩
  | 21 => ⟨S_, .i32⟩
  | 22 => ⟨S_, .i1⟩
  | 23 => ⟨S_, .i32⟩
  | 24 => ⟨S_, .i32⟩
  | 25 => ⟨S_, .i32⟩
  | 26 => ⟨S_, .i32⟩
  | 27 => ⟨S1x4x64x4x128, .f32⟩
  | 28 => ⟨S4x64x4x128, .f32⟩
  | 29 => ⟨S_, .i32⟩
  | 30 => ⟨S_, .i32⟩
  | 31 => ⟨S_, .i32⟩
  | 32 => ⟨S_, .i32⟩
  | 33 => ⟨S1x4x64x4x128, .f32⟩
  | 34 => ⟨S4x64x4x128, .f32⟩
  | 35 => ⟨S_, .i32⟩
  | 36 => ⟨S_, .i32⟩
  | 37 => ⟨S_, .i32⟩
  | 38 => ⟨S_, .i32⟩
  | 39 => ⟨S1x4x64x4x256, .f32⟩
  | 40 => ⟨S4x64x4x256, .f32⟩
  | 41 => ⟨S4, .f32⟩
  | 42 => ⟨S_, .f32⟩
  | 43 => ⟨S4, .f32⟩
  | 44 => ⟨S4, .f32⟩
  | 45 => ⟨S_, .f32⟩
  | 46 => ⟨S4, .f32⟩
  | 47 => ⟨S4, .f32⟩
  | 48 => ⟨S4, .f32⟩
  | 49 => ⟨S4, .f32⟩
  | 50 => ⟨S64, .f32⟩
  | 51 => ⟨S64x1, .f32⟩
  | 52 => ⟨S1x64, .f32⟩
  | 53 => ⟨S64x64, .f32⟩
  | 54 => ⟨S64x64, .f32⟩
  | 55 => ⟨S64x64, .f32⟩
  | 56 => ⟨S_, .f32⟩
  | 57 => ⟨S64x64, .f32⟩
  | 58 => ⟨S64x64, .i1⟩
  | 59 => ⟨S_, .f32⟩
  | 60 => ⟨S64x64, .f32⟩
  | 61 => ⟨S64x64, .f32⟩
  | 62 => ⟨S4x1x1, .f32⟩
  | 63 => ⟨S1x64x64, .f32⟩
  | 64 => ⟨S4x64x64, .f32⟩
  | 65 => ⟨S4x64x64, .f32⟩
  | 66 => ⟨S4x64x64, .f32⟩
  | 67 => ⟨S4x64x64, .f32⟩
  | 68 => ⟨S_, .f32⟩
  | 69 => ⟨S_, .f32⟩
  | 70 => ⟨S4x64x64, .i1⟩
  | 71 => ⟨S4x64x64, .f32⟩
  | 72 => ⟨S4x64x64, .f32⟩
  | 73 => ⟨S4x4x64x64, .f32⟩
  | 74 => ⟨S1x4x64x64, .f32⟩
  | 75 => ⟨S4x4x64x64, .f32⟩
  | 76 => ⟨S4x4x64x64, .f32⟩
  | 77 => ⟨S4x4x256x64, .f32⟩
  | 78 => ⟨S4x64x4x256, .f32⟩
  | 79 => ⟨S4x4x256x64, .f32⟩
  | 80 => ⟨S4x64x4x256, .f32⟩
  | 81 => ⟨S64x1, .f32⟩
  | 82 => ⟨S_, .f32⟩
  | 83 => ⟨S64x1, .f32⟩
  | 84 => ⟨S64x1, .f32⟩
  | 85 => ⟨S1x4, .f32⟩
  | 86 => ⟨S64x4, .f32⟩
  | 87 => ⟨S64x4, .f32⟩
  | 88 => ⟨S64x4, .f32⟩
  | 89 => ⟨S64x4, .f32⟩
  | 90 => ⟨S1x64x4x1, .f32⟩
  | 91 => ⟨S4x64x4x256, .f32⟩
  | 92 => ⟨S4x64x4x256, .f32⟩
  | 93 => ⟨S4x64x4x256, .f32⟩
  | 94 => ⟨S_, .f32⟩
  | 95 => ⟨S64, .f32⟩
  | 96 => ⟨S64, .f32⟩
  | 97 => ⟨S64x1, .f32⟩
  | 98 => ⟨S1x4, .f32⟩
  | 99 => ⟨S64x4, .f32⟩
  | 100 => ⟨S64x4, .f32⟩
  | 101 => ⟨S64x4, .f32⟩
  | 102 => ⟨S64x4, .f32⟩
  | 103 => ⟨S1x64x4x1, .f32⟩
  | 104 => ⟨S4x64x4x128, .f32⟩
  | 105 => ⟨S4x64x4x128, .f32⟩
  | 106 => ⟨S_, .f32⟩
  | 107 => ⟨S4, .f32⟩
  | 108 => ⟨S4, .f32⟩
  | 109 => ⟨S4, .f32⟩
  | 110 => ⟨S1x4x1x1, .f32⟩
  | 111 => ⟨S4x4x128x256, .f32⟩
  | 112 => ⟨S4x4x128x256, .f32⟩
  | 113 => ⟨S4x4x128x256, .f32⟩
  | 114 => ⟨S4x4x128x256, .f32⟩
  | 115 => ⟨S1x4x64x4x256, .f32⟩
  | 116 => ⟨S_, .i32⟩
  | 117 => ⟨S_, .i32⟩
  | 118 => ⟨S_, .i32⟩
  | 119 => ⟨S_, .i32⟩
  | 120 => ⟨S128x4x64x4x256, .f32⟩
  | 121 => ⟨S_, .i32⟩
  | 122 => ⟨S_, .i32⟩
  | 123 => ⟨S4x128x64x4x256, .f32⟩
  | 124 => ⟨S4x8192x4x256, .f32⟩
  | 125 => ⟨S_, .f32⟩
  | 126 => ⟨S4x8192x4, .f32⟩
  | 127 => ⟨S4x8192x4x1, .f32⟩
  | _ => ⟨S4x8192x4x128, .f32⟩

abbrev hbmTy0_1 (i : Nat) : BufTy := match i % 128 with
  | 0 => ⟨S_, .f32⟩
  | 1 => ⟨S4x8192x4x1, .f32⟩
  | 2 => ⟨S4x8192x4x1, .f32⟩
  | 3 => ⟨S4x8192x4x256, .f32⟩
  | 4 => ⟨S4x8192x4x256, .f32⟩
  | 5 => ⟨S4x8192x4x256, .f32⟩
  | 6 => ⟨S_, .f32⟩
  | 7 => ⟨S4x8192x4, .f32⟩
  | 8 => ⟨S4x8192x4x1, .f32⟩
  | 9 => ⟨S_, .f32⟩
  | 10 => ⟨S4x8192x4x1, .f32⟩
  | 11 => ⟨S4x8192x4x1, .f32⟩
  | 12 => ⟨S4x8192x4x256, .f32⟩
  | 13 => ⟨S4x8192x4x256, .f32⟩
  | 14 => ⟨S_, .f32⟩
  | 15 => ⟨S4x8192x4x1, .f32⟩
  | 16 => ⟨S4x8192x4x1, .f32⟩
  | 17 => ⟨S4x8192x4x1, .f32⟩
  | 18 => ⟨S4x8192x4x256, .f32⟩
  | 19 => ⟨S4x8192x4x256, .f32⟩
  | 20 => ⟨S4x8192x4x256, .f32⟩
  | 21 => ⟨S4x8192x4x256, .f32⟩
  | 22 => ⟨S_, .f32⟩
  | 23 => ⟨S4x8192x4x256, .f32⟩
  | 24 => ⟨S4x8192x4x256, .f32⟩
  | 25 => ⟨S_, .f32⟩
  | 26 => ⟨S4x8192x4x256, .f32⟩
  | 27 => ⟨S4x8192x4x256, .f32⟩
  | 28 => ⟨S4x8192x4x256, .f32⟩
  | 29 => ⟨S4x8192x4x256, .f32⟩
  | 30 => ⟨S4x8192x1024, .f32⟩
  | 31 => ⟨S32768x1024, .f32⟩
  | 32 => ⟨S32768x1024, .bf16⟩
  | _ => ⟨S4x8192x4x128, .f32⟩

abbrev hbmTy (i : Nat) : BufTy := match i / 128 with
  | 0 => hbmTy0_0 i
  | 1 => hbmTy0_1 i
  | _ => ⟨S4x8192x4x128, .f32⟩

abbrev bufTy : (tb : Table) → Fin (tcTables nBuf tb) → BufTy
  | .hbm, ⟨i, _⟩ => hbmTy i
  | _, _ => ⟨S4x8192x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_c : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v8_3 : Ref sig .tc := ⟨.hbm, 18, rfl⟩
abbrev main_v8_4 : Ref sig .tc := ⟨.hbm, 19, rfl⟩
abbrev main_v8_5 : Ref sig .tc := ⟨.hbm, 20, rfl⟩
abbrev main_while0c_c_11 : Ref sig .tc := ⟨.hbm, 21, rfl⟩
abbrev main_while0c_v34 : Ref sig .tc := ⟨.hbm, 22, rfl⟩
abbrev main_while0b_call0_c : Ref sig .tc := ⟨.hbm, 23, rfl⟩
abbrev main_while0b_call0_c_0 : Ref sig .tc := ⟨.hbm, 24, rfl⟩
abbrev main_while0b_call0_c_1 : Ref sig .tc := ⟨.hbm, 25, rfl⟩
abbrev main_while0b_call0_c_2 : Ref sig .tc := ⟨.hbm, 26, rfl⟩
abbrev main_while0b_call0_v0 : Ref sig .tc := ⟨.hbm, 27, rfl⟩
abbrev main_while0b_v34 : Ref sig .tc := ⟨.hbm, 28, rfl⟩
abbrev main_while0b_call1_c : Ref sig .tc := ⟨.hbm, 29, rfl⟩
abbrev main_while0b_call1_c_0 : Ref sig .tc := ⟨.hbm, 30, rfl⟩
abbrev main_while0b_call1_c_1 : Ref sig .tc := ⟨.hbm, 31, rfl⟩
abbrev main_while0b_call1_c_2 : Ref sig .tc := ⟨.hbm, 32, rfl⟩
abbrev main_while0b_call1_v0 : Ref sig .tc := ⟨.hbm, 33, rfl⟩
abbrev main_while0b_v35 : Ref sig .tc := ⟨.hbm, 34, rfl⟩
abbrev main_while0b_call2_c : Ref sig .tc := ⟨.hbm, 35, rfl⟩
abbrev main_while0b_call2_c_0 : Ref sig .tc := ⟨.hbm, 36, rfl⟩
abbrev main_while0b_call2_c_1 : Ref sig .tc := ⟨.hbm, 37, rfl⟩
abbrev main_while0b_call2_c_2 : Ref sig .tc := ⟨.hbm, 38, rfl⟩
abbrev main_while0b_call2_v0 : Ref sig .tc := ⟨.hbm, 39, rfl⟩
abbrev main_while0b_v36 : Ref sig .tc := ⟨.hbm, 40, rfl⟩
abbrev main_while0b_v37 : Ref sig .tc := ⟨.hbm, 41, rfl⟩
abbrev main_while0b_cst_11 : Ref sig .tc := ⟨.hbm, 42, rfl⟩
abbrev main_while0b_v38 : Ref sig .tc := ⟨.hbm, 43, rfl⟩
abbrev main_while0b_v39 : Ref sig .tc := ⟨.hbm, 44, rfl⟩
abbrev main_while0b_cst_12 : Ref sig .tc := ⟨.hbm, 45, rfl⟩
abbrev main_while0b_v40 : Ref sig .tc := ⟨.hbm, 46, rfl⟩
abbrev main_while0b_v41 : Ref sig .tc := ⟨.hbm, 47, rfl⟩
abbrev main_while0b_v42 : Ref sig .tc := ⟨.hbm, 48, rfl⟩
abbrev main_while0b_v43 : Ref sig .tc := ⟨.hbm, 49, rfl⟩
abbrev main_while0b_v44 : Ref sig .tc := ⟨.hbm, 50, rfl⟩
abbrev main_while0b_v45 : Ref sig .tc := ⟨.hbm, 51, rfl⟩
abbrev main_while0b_v46 : Ref sig .tc := ⟨.hbm, 52, rfl⟩
abbrev main_while0b_v47 : Ref sig .tc := ⟨.hbm, 53, rfl⟩
abbrev main_while0b_v48 : Ref sig .tc := ⟨.hbm, 54, rfl⟩
abbrev main_while0b_v49 : Ref sig .tc := ⟨.hbm, 55, rfl⟩
abbrev main_while0b_cst_13 : Ref sig .tc := ⟨.hbm, 56, rfl⟩
abbrev main_while0b_v50 : Ref sig .tc := ⟨.hbm, 57, rfl⟩
abbrev main_while0b_v51 : Ref sig .tc := ⟨.hbm, 58, rfl⟩
abbrev main_while0b_cst_14 : Ref sig .tc := ⟨.hbm, 59, rfl⟩
abbrev main_while0b_v52 : Ref sig .tc := ⟨.hbm, 60, rfl⟩
abbrev main_while0b_v53 : Ref sig .tc := ⟨.hbm, 61, rfl⟩
abbrev main_while0b_v54 : Ref sig .tc := ⟨.hbm, 62, rfl⟩
abbrev main_while0b_v55 : Ref sig .tc := ⟨.hbm, 63, rfl⟩
abbrev main_while0b_v56 : Ref sig .tc := ⟨.hbm, 64, rfl⟩
abbrev main_while0b_v57 : Ref sig .tc := ⟨.hbm, 65, rfl⟩
abbrev main_while0b_v58 : Ref sig .tc := ⟨.hbm, 66, rfl⟩
abbrev main_while0b_v59 : Ref sig .tc := ⟨.hbm, 67, rfl⟩
abbrev main_while0b_cst_15 : Ref sig .tc := ⟨.hbm, 68, rfl⟩
abbrev main_while0b_call3_v0 : Ref sig .tc := ⟨.hbm, 69, rfl⟩
abbrev main_while0b_call3_v1 : Ref sig .tc := ⟨.hbm, 70, rfl⟩
abbrev main_while0b_call3_v2 : Ref sig .tc := ⟨.hbm, 71, rfl⟩
abbrev main_while0b_v60 : Ref sig .tc := ⟨.hbm, 72, rfl⟩
abbrev main_while0b_v61 : Ref sig .tc := ⟨.hbm, 73, rfl⟩
abbrev main_while0b_v62 : Ref sig .tc := ⟨.hbm, 74, rfl⟩
abbrev main_while0b_v63 : Ref sig .tc := ⟨.hbm, 75, rfl⟩
abbrev main_while0b_v64 : Ref sig .tc := ⟨.hbm, 76, rfl⟩
abbrev main_while0b_v65 : Ref sig .tc := ⟨.hbm, 77, rfl⟩
abbrev main_while0b_v66 : Ref sig .tc := ⟨.hbm, 78, rfl⟩
abbrev main_while0b_v67 : Ref sig .tc := ⟨.hbm, 79, rfl⟩
abbrev main_while0b_v68 : Ref sig .tc := ⟨.hbm, 80, rfl⟩
abbrev main_while0b_v69 : Ref sig .tc := ⟨.hbm, 81, rfl⟩
abbrev main_while0b_cst_16 : Ref sig .tc := ⟨.hbm, 82, rfl⟩
abbrev main_while0b_v70 : Ref sig .tc := ⟨.hbm, 83, rfl⟩
abbrev main_while0b_v71 : Ref sig .tc := ⟨.hbm, 84, rfl⟩
abbrev main_while0b_v72 : Ref sig .tc := ⟨.hbm, 85, rfl⟩
abbrev main_while0b_v73 : Ref sig .tc := ⟨.hbm, 86, rfl⟩
abbrev main_while0b_v74 : Ref sig .tc := ⟨.hbm, 87, rfl⟩
abbrev main_while0b_v75 : Ref sig .tc := ⟨.hbm, 88, rfl⟩
abbrev main_while0b_v76 : Ref sig .tc := ⟨.hbm, 89, rfl⟩
abbrev main_while0b_v77 : Ref sig .tc := ⟨.hbm, 90, rfl⟩
abbrev main_while0b_v78 : Ref sig .tc := ⟨.hbm, 91, rfl⟩
abbrev main_while0b_v79 : Ref sig .tc := ⟨.hbm, 92, rfl⟩
abbrev main_while0b_v80 : Ref sig .tc := ⟨.hbm, 93, rfl⟩
abbrev main_while0b_cst_17 : Ref sig .tc := ⟨.hbm, 94, rfl⟩
abbrev main_while0b_v81 : Ref sig .tc := ⟨.hbm, 95, rfl⟩
abbrev main_while0b_v82 : Ref sig .tc := ⟨.hbm, 96, rfl⟩
abbrev main_while0b_v83 : Ref sig .tc := ⟨.hbm, 97, rfl⟩
abbrev main_while0b_v84 : Ref sig .tc := ⟨.hbm, 98, rfl⟩
abbrev main_while0b_v85 : Ref sig .tc := ⟨.hbm, 99, rfl⟩
abbrev main_while0b_v86 : Ref sig .tc := ⟨.hbm, 100, rfl⟩
abbrev main_while0b_v87 : Ref sig .tc := ⟨.hbm, 101, rfl⟩
abbrev main_while0b_v88 : Ref sig .tc := ⟨.hbm, 102, rfl⟩
abbrev main_while0b_v89 : Ref sig .tc := ⟨.hbm, 103, rfl⟩
abbrev main_while0b_v90 : Ref sig .tc := ⟨.hbm, 104, rfl⟩
abbrev main_while0b_v91 : Ref sig .tc := ⟨.hbm, 105, rfl⟩
abbrev main_while0b_cst_18 : Ref sig .tc := ⟨.hbm, 106, rfl⟩
abbrev main_while0b_v92 : Ref sig .tc := ⟨.hbm, 107, rfl⟩
abbrev main_while0b_v93 : Ref sig .tc := ⟨.hbm, 108, rfl⟩
abbrev main_while0b_v94 : Ref sig .tc := ⟨.hbm, 109, rfl⟩
abbrev main_while0b_v95 : Ref sig .tc := ⟨.hbm, 110, rfl⟩
abbrev main_while0b_v96 : Ref sig .tc := ⟨.hbm, 111, rfl⟩
abbrev main_while0b_v97 : Ref sig .tc := ⟨.hbm, 112, rfl⟩
abbrev main_while0b_v98 : Ref sig .tc := ⟨.hbm, 113, rfl⟩
abbrev main_while0b_v99 : Ref sig .tc := ⟨.hbm, 114, rfl⟩
abbrev main_while0b_call4_v0 : Ref sig .tc := ⟨.hbm, 115, rfl⟩
abbrev main_while0b_call4_c : Ref sig .tc := ⟨.hbm, 116, rfl⟩
abbrev main_while0b_call4_c_0 : Ref sig .tc := ⟨.hbm, 117, rfl⟩
abbrev main_while0b_call4_c_1 : Ref sig .tc := ⟨.hbm, 118, rfl⟩
abbrev main_while0b_call4_c_2 : Ref sig .tc := ⟨.hbm, 119, rfl⟩
abbrev main_while0b_v100 : Ref sig .tc := ⟨.hbm, 120, rfl⟩
abbrev main_while0b_c_19 : Ref sig .tc := ⟨.hbm, 121, rfl⟩
abbrev main_while0b_v101 : Ref sig .tc := ⟨.hbm, 122, rfl⟩
abbrev main_v9 : Ref sig .tc := ⟨.hbm, 123, rfl⟩
abbrev main_v10 : Ref sig .tc := ⟨.hbm, 124, rfl⟩
abbrev main_cst_1 : Ref sig .tc := ⟨.hbm, 125, rfl⟩
abbrev main_v11 : Ref sig .tc := ⟨.hbm, 126, rfl⟩
abbrev main_v12 : Ref sig .tc := ⟨.hbm, 127, rfl⟩
abbrev main_cst_2 : Ref sig .tc := ⟨.hbm, 128, rfl⟩
abbrev main_v13 : Ref sig .tc := ⟨.hbm, 129, rfl⟩
abbrev main_v14 : Ref sig .tc := ⟨.hbm, 130, rfl⟩
abbrev main_v15 : Ref sig .tc := ⟨.hbm, 131, rfl⟩
abbrev main_v16 : Ref sig .tc := ⟨.hbm, 132, rfl⟩
abbrev main_v17 : Ref sig .tc := ⟨.hbm, 133, rfl⟩
abbrev main_cst_3 : Ref sig .tc := ⟨.hbm, 134, rfl⟩
abbrev main_v18 : Ref sig .tc := ⟨.hbm, 135, rfl⟩
abbrev main_v19 : Ref sig .tc := ⟨.hbm, 136, rfl⟩
abbrev main_cst_4 : Ref sig .tc := ⟨.hbm, 137, rfl⟩
abbrev main_v20 : Ref sig .tc := ⟨.hbm, 138, rfl⟩
abbrev main_v21 : Ref sig .tc := ⟨.hbm, 139, rfl⟩
abbrev main_v22 : Ref sig .tc := ⟨.hbm, 140, rfl⟩
abbrev main_v23 : Ref sig .tc := ⟨.hbm, 141, rfl⟩
abbrev main_cst_5 : Ref sig .tc := ⟨.hbm, 142, rfl⟩
abbrev main_v24 : Ref sig .tc := ⟨.hbm, 143, rfl⟩
abbrev main_v25 : Ref sig .tc := ⟨.hbm, 144, rfl⟩
abbrev main_v26 : Ref sig .tc := ⟨.hbm, 145, rfl⟩
abbrev main_v27 : Ref sig .tc := ⟨.hbm, 146, rfl⟩
abbrev main_v28 : Ref sig .tc := ⟨.hbm, 147, rfl⟩
abbrev main_call5_v0 : Ref sig .tc := ⟨.hbm, 148, rfl⟩
abbrev main_call5_v1 : Ref sig .tc := ⟨.hbm, 149, rfl⟩
abbrev main_call5_cst : Ref sig .tc := ⟨.hbm, 150, rfl⟩
abbrev main_call5_v2 : Ref sig .tc := ⟨.hbm, 151, rfl⟩
abbrev main_call5_v3 : Ref sig .tc := ⟨.hbm, 152, rfl⟩
abbrev main_call5_cst_0 : Ref sig .tc := ⟨.hbm, 153, rfl⟩
abbrev main_call5_v4 : Ref sig .tc := ⟨.hbm, 154, rfl⟩
abbrev main_call5_v5 : Ref sig .tc := ⟨.hbm, 155, rfl⟩
abbrev main_v29 : Ref sig .tc := ⟨.hbm, 156, rfl⟩
abbrev main_v30 : Ref sig .tc := ⟨.hbm, 157, rfl⟩
abbrev main_v31 : Ref sig .tc := ⟨.hbm, 158, rfl⟩
abbrev main_v32 : Ref sig .tc := ⟨.hbm, 159, rfl⟩
abbrev main_v33 : Ref sig .tc := ⟨.hbm, 160, rfl⟩

abbrev nD : Nat := 1
abbrev τ : Topo := Topo.v7x

variable {F : FTy → Type} [FloatOps F]

abbrev main_while0_count : Scf.Loop 32 := ⟨0#32, 128#32, 1#32⟩
-- ==== ProjectPrompt.lean ====
abbrev S4x8192x1024 : Shape := ⟨3, ![4, 8192, 1024]⟩
abbrev S1x1024 : Shape := ⟨2, ![1, 1024]⟩
abbrev S1x1024x5888 : Shape := ⟨3, ![1, 1024, 5888]⟩
abbrev S1x2048 : Shape := ⟨2, ![1, 2048]⟩
abbrev S32768x1024 : Shape := ⟨2, ![32768, 1024]⟩
abbrev S1024 : Shape := ⟨1, ![1024]⟩
abbrev S1024x5888 : Shape := ⟨2, ![1024, 5888]⟩
abbrev S2048 : Shape := ⟨1, ![2048]⟩
abbrev S32768x512 : Shape := ⟨2, ![32768, 512]⟩
abbrev S32768x128 : Shape := ⟨2, ![32768, 128]⟩
abbrev S256x1024 : Shape := ⟨2, ![256, 1024]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S1024x512 : Shape := ⟨2, ![1024, 512]⟩
abbrev S1024x128 : Shape := ⟨2, ![1024, 128]⟩
abbrev S1024x1024 : Shape := ⟨2, ![1024, 1024]⟩

abbrev nBuf : Space → Nat
  | .hbm => 20
  | .vmem => 23
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1x1024x5888, .f32⟩
  | .hbm, ⟨3, _⟩ => ⟨S1x2048, .f32⟩
  | .hbm, ⟨4, _⟩ => ⟨S32768x1024, .f32⟩
  | .hbm, ⟨5, _⟩ => ⟨S1024, .f32⟩
  | .hbm, ⟨6, _⟩ => ⟨S1x1024, .f32⟩
  | .hbm, ⟨7, _⟩ => ⟨S1024x5888, .f32⟩
  | .hbm, ⟨8, _⟩ => ⟨S1024x5888, .bf16⟩
  | .hbm, ⟨9, _⟩ => ⟨S2048, .f32⟩
  | .hbm, ⟨10, _⟩ => ⟨S1x2048, .f32⟩
  | .hbm, ⟨11, _⟩ => ⟨S32768x512, .bf16⟩
  | .hbm, ⟨12, _⟩ => ⟨S32768x128, .f32⟩
  | .hbm, ⟨13, _⟩ => ⟨S32768x128, .f32⟩
  | .hbm, ⟨14, _⟩ => ⟨S32768x512, .bf16⟩
  | .hbm, ⟨15, _⟩ => ⟨S32768x512, .bf16⟩
  | .hbm, ⟨16, _⟩ => ⟨S32768x1024, .bf16⟩
  | .hbm, ⟨17, _⟩ => ⟨S32768x1024, .f32⟩
  | .hbm, ⟨18, _⟩ => ⟨S32768x1024, .f32⟩
  | .hbm, ⟨19, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x5888, .bf16⟩
  | .local _ .vmem, ⟨4, _⟩ => ⟨S1x2048, .f32⟩
  | .local _ .vmem, ⟨5, _⟩ => ⟨S256x512, .bf16⟩
  | .local _ .vmem, ⟨6, _⟩ => ⟨S256x512, .bf16⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev main_v7_3 : Ref sig .tc := ⟨.hbm, 14, rfl⟩
abbrev main_v7_4 : Ref sig .tc := ⟨.hbm, 15, rfl⟩
abbrev main_v7_5 : Ref sig .tc := ⟨.hbm, 16, rfl⟩
abbrev main_v7_6 : Ref sig .tc := ⟨.hbm, 17, rfl⟩
abbrev main_v7_7 : Ref sig .tc := ⟨.hbm, 18, rfl⟩
abbrev main_v7_8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5888 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceProjectPromptIdeal.lean ====
abbrev S4x8192x1024 : Shape := ⟨3, ![4, 8192, 1024]⟩
abbrev S1x1024 : Shape := ⟨2, ![1, 1024]⟩
abbrev S1x1024x5888 : Shape := ⟨3, ![1, 1024, 5888]⟩
abbrev S1x2048 : Shape := ⟨2, ![1, 2048]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1024x5888 : Shape := ⟨2, ![1024, 5888]⟩
abbrev S2048 : Shape := ⟨1, ![2048]⟩
abbrev S4x8192x5888 : Shape := ⟨3, ![4, 8192, 5888]⟩
abbrev S4x8192x512 : Shape := ⟨3, ![4, 8192, 512]⟩
abbrev S4x8192x128 : Shape := ⟨3, ![4, 8192, 128]⟩
abbrev S4x8192x2048 : Shape := ⟨3, ![4, 8192, 2048]⟩
abbrev S1x1x2048 : Shape := ⟨3, ![1, 1, 2048]⟩
abbrev S4x8192x2x4x64 : Shape := ⟨5, ![4, 8192, 2, 4, 64]⟩
abbrev S4x8192x2x64 : Shape := ⟨4, ![4, 8192, 2, 64]⟩
abbrev S4x8192x4x128 : Shape := ⟨4, ![4, 8192, 4, 128]⟩
abbrev S4x8192x4x256 : Shape := ⟨4, ![4, 8192, 4, 256]⟩
abbrev S32768x512 : Shape := ⟨2, ![32768, 512]⟩
abbrev S32768x128 : Shape := ⟨2, ![32768, 128]⟩
abbrev S32768x1024 : Shape := ⟨2, ![32768, 1024]⟩

abbrev nBuf : Space → Nat
  | .hbm => 63
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1x1024x5888, .f32⟩
  | .hbm, ⟨3, _⟩ => ⟨S1x2048, .f32⟩
  | .hbm, ⟨4, _⟩ => ⟨S1024, .f32⟩
  | .hbm, ⟨5, _⟩ => ⟨S4x8192x1024, .f32⟩
  | .hbm, ⟨6, _⟩ => ⟨S_, .f32⟩
  | .hbm, ⟨7, _⟩ => ⟨S4x8192, .f32⟩
  | .hbm, ⟨8, _⟩ => ⟨S4x8192x1, .f32⟩
  | .hbm, ⟨9, _⟩ => ⟨S_, .f32⟩
  | .hbm, ⟨10, _⟩ => ⟨S4x8192x1, .f32⟩
  | .hbm, ⟨11, _⟩ => ⟨S4x8192x1, .f32⟩
  | .hbm, ⟨12, _⟩ => ⟨S_, .f32⟩
  | .hbm, ⟨13, _⟩ => ⟨S4x8192x1, .f32⟩
  | .hbm, ⟨14, _⟩ => ⟨S4x8192x1, .f32⟩
  | .hbm, ⟨15, _⟩ => ⟨S4x8192x1, .f32⟩
  | .hbm, ⟨16, _⟩ => ⟨S4x8192x1024, .f32⟩
  | .hbm, ⟨17, _⟩ => ⟨S4x8192x1024, .f32⟩
  | .hbm, ⟨18, _⟩ => ⟨S1x1x1024, .f32⟩
  | .hbm, ⟨19, _⟩ => ⟨S4x8192x1024, .f32⟩
  | .hbm, ⟨20, _⟩ => ⟨S4x8192x1024, .f32⟩
  | .hbm, ⟨21, _⟩ => ⟨S1024x5888, .f32⟩
  | .hbm, ⟨22, _⟩ => ⟨S2048, .f32⟩
  | .hbm, ⟨23, _⟩ => ⟨S4x8192x5888, .f32⟩
  | .hbm, ⟨24, _⟩ => ⟨S4x8192x512, .f32⟩
  | .hbm, ⟨25, _⟩ => ⟨S4x8192x128, .f32⟩
  | .hbm, ⟨26, _⟩ => ⟨S4x8192x128, .f32⟩
  | .hbm, ⟨27, _⟩ => ⟨S4x8192x512, .f32⟩
  | .hbm, ⟨28, _⟩ => ⟨S4x8192x512, .f32⟩
  | .hbm, ⟨29, _⟩ => ⟨S4x8192x1024, .f32⟩
  | .hbm, ⟨30, _⟩ => ⟨S4x8192x1024, .f32⟩
  | .hbm, ⟨31, _⟩ => ⟨S4x8192x2048, .f32⟩
  | .hbm, ⟨32, _⟩ => ⟨S1x1x2048, .f32⟩
  | .hbm, ⟨33, _⟩ => ⟨S4x8192x2048, .f32⟩
  | .hbm, ⟨34, _⟩ => ⟨S4x8192x2048, .f32⟩
  | .hbm, ⟨35, _⟩ => ⟨S4x8192x1024, .f32⟩
  | .hbm, ⟨36, _⟩ => ⟨S4x8192x1024, .f32⟩
  | .hbm, ⟨37, _⟩ => ⟨S4x8192x2x4x64, .f32⟩
  | .hbm, ⟨38, _⟩ => ⟨S4x8192x2x64, .f32⟩
  | .hbm, ⟨39, _⟩ => ⟨S4x8192x2x64, .f32⟩
  | .hbm, ⟨40, _⟩ => ⟨S4x8192x4x128, .f32⟩
  | .hbm, ⟨41, _⟩ => ⟨S4x8192x4x128, .f32⟩
  | .hbm, ⟨42, _⟩ => ⟨S_, .f32⟩
  | .hbm, ⟨43, _⟩ => ⟨S4x8192x4x128, .f32⟩
  | .hbm, ⟨44, _⟩ => ⟨S4x8192x4x128, .f32⟩
  | .hbm, ⟨45, _⟩ => ⟨S4x8192x4x256, .f32⟩
  | .hbm, ⟨46, _⟩ => ⟨S4x8192x4x256, .f32⟩
  | .hbm, ⟨47, _⟩ => ⟨S_, .f32⟩
  | .hbm, ⟨48, _⟩ => ⟨S4x8192x2x4x64, .f32⟩
  | .hbm, ⟨49, _⟩ => ⟨S4x8192x2x4x64, .f32⟩
  | .hbm, ⟨50, _⟩ => ⟨S32768x512, .f32⟩
  | .hbm, ⟨51, _⟩ => ⟨S32768x512, .bf16⟩
  | .hbm, ⟨52, _⟩ => ⟨S32768x128, .f32⟩
  | .hbm, ⟨53, _⟩ => ⟨S32768x128, .f32⟩
  | .hbm, ⟨54, _⟩ => ⟨S32768x512, .f32⟩
  | .hbm, ⟨55, _⟩ => ⟨S32768x512, .bf16⟩
  | .hbm, ⟨56, _⟩ => ⟨S32768x512, .f32⟩
  | .hbm, ⟨57, _⟩ => ⟨S32768x512, .bf16⟩
  | .hbm, ⟨58, _⟩ => ⟨S32768x1024, .f32⟩
  | .hbm, ⟨59, _⟩ => ⟨S32768x1024, .bf16⟩
  | .hbm, ⟨60, _⟩ => ⟨S32768x1024, .f32⟩
  | .hbm, ⟨61, _⟩ => ⟨S32768x1024, .f32⟩
  | .hbm, ⟨62, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_cst_2 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_cst_3 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩

abbrev nD : Nat := 1
abbrev τ : Topo := Topo.v7x

variable {F : FTy → Type} [FloatOps F]
-- ==== ProjectSample.lean ====
abbrev S16x16x1024 : Shape := ⟨3, ![16, 16, 1024]⟩
abbrev S1x1024 : Shape := ⟨2, ![1, 1024]⟩
abbrev S1x1024x5888 : Shape := ⟨3, ![1, 1024, 5888]⟩
abbrev S1x2048 : Shape := ⟨2, ![1, 2048]⟩
abbrev S256x1024 : Shape := ⟨2, ![256, 1024]⟩
abbrev S1024 : Shape := ⟨1, ![1024]⟩
abbrev S1024x5888 : Shape := ⟨2, ![1024, 5888]⟩
abbrev S2048 : Shape := ⟨1, ![2048]⟩
abbrev S256x512 : Shape := ⟨2, ![256, 512]⟩
abbrev S256x128 : Shape := ⟨2, ![256, 128]⟩
abbrev S128x1024 : Shape := ⟨2, ![128, 1024]⟩
abbrev S128x512 : Shape := ⟨2, ![128, 512]⟩
abbrev S128x128 : Shape := ⟨2, ![128, 128]⟩
abbrev S128 : Shape := ⟨1, ![128]⟩
abbrev S128x1 : Shape := ⟨2, ![128, 1]⟩
abbrev S1024x512 : Shape := ⟨2, ![1024, 512]⟩
abbrev S1024x128 : Shape := ⟨2, ![1024, 128]⟩
abbrev S1024x1024 : Shape := ⟨2, ![1024, 1024]⟩

abbrev nBuf : Space → Nat
  | .hbm => 20
  | .vmem => 23
  | .smem => 0
  | _ => 0

abbrev bufTy : (tb : Table) → Fin (tcTables nBuf tb) → BufTy
  | .hbm, ⟨0, _⟩ => ⟨S16x16x1024, .f32⟩
  | .hbm, ⟨1, _⟩ => ⟨S1x1024, .f32⟩
  | .hbm, ⟨2, _⟩ => ⟨S1x1024x5888, .f32⟩
  | .hbm, ⟨3, _⟩ => ⟨S1x2048, .f32⟩
  | .hbm, ⟨4, _⟩ => ⟨S256x1024, .f32⟩
  | .hbm, ⟨5, _⟩ => ⟨S1024, .f32⟩
  | .hbm, ⟨6, _⟩ => ⟨S1x1024, .f32⟩
  | .hbm, ⟨7, _⟩ => ⟨S1024x5888, .f32⟩
  | .hbm, ⟨8, _⟩ => ⟨S1024x5888, .bf16⟩
  | .hbm, ⟨9, _⟩ => ⟨S2048, .f32⟩
  | .hbm, ⟨10, _⟩ => ⟨S1x2048, .f32⟩
  | .hbm, ⟨11, _⟩ => ⟨S256x512, .bf16⟩
  | .hbm, ⟨12, _⟩ => ⟨S256x128, .f32⟩
  | .hbm, ⟨13, _⟩ => ⟨S256x128, .f32⟩
  | .hbm, ⟨14, _⟩ => ⟨S256x512, .bf16⟩
  | .hbm, ⟨15, _⟩ => ⟨S256x512, .bf16⟩
  | .hbm, ⟨16, _⟩ => ⟨S256x1024, .bf16⟩
  | .hbm, ⟨17, _⟩ => ⟨S256x1024, .f32⟩
  | .hbm, ⟨18, _⟩ => ⟨S256x1024, .f32⟩
  | .hbm, ⟨19, _⟩ => ⟨S256x1024, .f32⟩
  | .local _ .vmem, ⟨0, _⟩ => ⟨S128x1024, .f32⟩
  | .local _ .vmem, ⟨1, _⟩ => ⟨S128x1024, .f32⟩
  | .local _ .vmem, ⟨2, _⟩ => ⟨S1x1024, .f32⟩
  | .local _ .vmem, ⟨3, _⟩ => ⟨S1024x5888, .bf16⟩
  | .local _ .vmem, ⟨4, _⟩ => ⟨S1x2048, .f32⟩
  | .local _ .vmem, ⟨5, _⟩ => ⟨S128x512, .bf16⟩
  | .local _ .vmem, ⟨6, _⟩ => ⟨S128x512, .bf16⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x512, .bf16⟩
  | .local _ .vmem, ⟨12, _⟩ => ⟨S128x512, .bf16⟩
  | .local _ .vmem, ⟨13, _⟩ => ⟨S128x512, .bf16⟩
  | .local _ .vmem, ⟨14, _⟩ => ⟨S128x512, .bf16⟩
  | .local _ .vmem, ⟨15, _⟩ => ⟨S128x1024, .bf16⟩
  | .local _ .vmem, ⟨16, _⟩ => ⟨S128x1024, .bf16⟩
  | .local _ .vmem, ⟨17, _⟩ => ⟨S128x1024, .f32⟩
  | .local _ .vmem, ⟨18, _⟩ => ⟨S128x1024, .f32⟩
  | .local _ .vmem, ⟨19, _⟩ => ⟨S128x1024, .f32⟩
  | .local _ .vmem, ⟨20, _⟩ => ⟨S128x1024, .f32⟩
  | .local _ .vmem, ⟨21, _⟩ => ⟨S128x1024, .f32⟩
  | .local _ .vmem, ⟨22, _⟩ => ⟨S128x1024, .f32⟩
  | _, _ => ⟨S16x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev main_v7_3 : Ref sig .tc := ⟨.hbm, 14, rfl⟩
abbrev main_v7_4 : Ref sig .tc := ⟨.hbm, 15, rfl⟩
abbrev main_v7_5 : Ref sig .tc := ⟨.hbm, 16, rfl⟩
abbrev main_v7_6 : Ref sig .tc := ⟨.hbm, 17, rfl⟩
abbrev main_v7_7 : Ref sig .tc := ⟨.hbm, 18, rfl⟩
abbrev main_v7_8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5888 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceProjectSampleIdeal.lean ====
abbrev S16x16x1024 : Shape := ⟨3, ![16, 16, 1024]⟩
abbrev S1x1024 : Shape := ⟨2, ![1, 1024]⟩
abbrev S1x1024x5888 : Shape := ⟨3, ![1, 1024, 5888]⟩
abbrev S1x2048 : Shape := ⟨2, ![1, 2048]⟩
abbrev S1024 : Shape := ⟨1, ![1024]⟩
abbrev S_ : Shape := ⟨0, ![]⟩
abbrev S16x16 : Shape := ⟨2, ![16, 16]⟩
abbrev S16x16x1 : Shape := ⟨3, ![16, 16, 1]⟩
abbrev S1x1x1024 : Shape := ⟨3, ![1, 1, 1024]⟩
abbrev S1024x5888 : Shape := ⟨2, ![1024, 5888]⟩
abbrev S2048 : Shape := ⟨1, ![2048]⟩
abbrev S16x16x5888 : Shape := ⟨3, ![16, 16, 5888]⟩
abbrev S16x16x512 : Shape := ⟨3, ![16, 16, 512]⟩
abbrev S16x16x128 : Shape := ⟨3, ![16, 16, 128]⟩
abbrev S16x16x2048 : Shape := ⟨3, ![16, 16, 2048]⟩
abbrev S1x1x2048 : Shape := ⟨3, ![1, 1, 2048]⟩
abbrev S16x16x2x4x64 : Shape := ⟨5, ![16, 16, 2, 4, 64]⟩
abbrev S16x16x2x64 : Shape := ⟨4, ![16, 16, 2, 64]⟩
abbrev S16x16x4x128 : Shape := ⟨4, ![16, 16, 4, 128]⟩
abbrev S16x16x4x256 : Shape := ⟨4, ![16, 16, 4, 256]⟩
abbrev S256x512 : Shape := ⟨2, ![256, 512]⟩
abbrev S256x128 : Shape := ⟨2, ![256, 128]⟩
abbrev S256x1024 : Shape := ⟨2, ![256, 1024]⟩

abbrev nBuf : Space → Nat
  | .hbm => 63
  | .vmem => 0
  | .smem => 0
  | _ => 0

abbrev bufTy : (tb : Table) → Fin (tcTables nBuf tb) → BufTy
  | .hbm, ⟨0, _⟩ => ⟨S16x16x1024, .f32⟩
  | .hbm, ⟨1, _⟩ => ⟨S1x1024, .f32⟩
  | .hbm, ⟨2, _⟩ => ⟨S1x1024x5888, .f32⟩
  | .hbm, ⟨3, _⟩ => ⟨S1x2048, .f32⟩
  | .hbm, ⟨4, _⟩ => ⟨S1024, .f32⟩
  | .hbm, ⟨5, _⟩ => ⟨S16x16x1024, .f32⟩
  | .hbm, ⟨6, _⟩ => ⟨S_, .f32⟩
  | .hbm, ⟨7, _⟩ => ⟨S16x16, .f32⟩
  | .hbm, ⟨8, _⟩ => ⟨S16x16x1, .f32⟩
  | .hbm, ⟨9, _⟩ => ⟨S_, .f32⟩
  | .hbm, ⟨10, _⟩ => ⟨S16x16x1, .f32⟩
  | .hbm, ⟨11, _⟩ => ⟨S16x16x1, .f32⟩
  | .hbm, ⟨12, _⟩ => ⟨S_, .f32⟩
  | .hbm, ⟨13, _⟩ => ⟨S16x16x1, .f32⟩
  | .hbm, ⟨14, _⟩ => ⟨S16x16x1, .f32⟩
  | .hbm, ⟨15, _⟩ => ⟨S16x16x1, .f32⟩
  | .hbm, ⟨16, _⟩ => ⟨S16x16x1024, .f32⟩
  | .hbm, ⟨17, _⟩ => ⟨S16x16x1024, .f32⟩
  | .hbm, ⟨18, _⟩ => ⟨S1x1x1024, .f32⟩
  | .hbm, ⟨19, _⟩ => ⟨S16x16x1024, .f32⟩
  | .hbm, ⟨20, _⟩ => ⟨S16x16x1024, .f32⟩
  | .hbm, ⟨21, _⟩ => ⟨S1024x5888, .f32⟩
  | .hbm, ⟨22, _⟩ => ⟨S2048, .f32⟩
  | .hbm, ⟨23, _⟩ => ⟨S16x16x5888, .f32⟩
  | .hbm, ⟨24, _⟩ => ⟨S16x16x512, .f32⟩
  | .hbm, ⟨25, _⟩ => ⟨S16x16x128, .f32⟩
  | .hbm, ⟨26, _⟩ => ⟨S16x16x128, .f32⟩
  | .hbm, ⟨27, _⟩ => ⟨S16x16x512, .f32⟩
  | .hbm, ⟨28, _⟩ => ⟨S16x16x512, .f32⟩
  | .hbm, ⟨29, _⟩ => ⟨S16x16x1024, .f32⟩
  | .hbm, ⟨30, _⟩ => ⟨S16x16x1024, .f32⟩
  | .hbm, ⟨31, _⟩ => ⟨S16x16x2048, .f32⟩
  | .hbm, ⟨32, _⟩ => ⟨S1x1x2048, .f32⟩
  | .hbm, ⟨33, _⟩ => ⟨S16x16x2048, .f32⟩
  | .hbm, ⟨34, _⟩ => ⟨S16x16x2048, .f32⟩
  | .hbm, ⟨35, _⟩ => ⟨S16x16x1024, .f32⟩
  | .hbm, ⟨36, _⟩ => ⟨S16x16x1024, .f32⟩
  | .hbm, ⟨37, _⟩ => ⟨S16x16x2x4x64, .f32⟩
  | .hbm, ⟨38, _⟩ => ⟨S16x16x2x64, .f32⟩
  | .hbm, ⟨39, _⟩ => ⟨S16x16x2x64, .f32⟩
  | .hbm, ⟨40, _⟩ => ⟨S16x16x4x128, .f32⟩
  | .hbm, ⟨41, _⟩ => ⟨S16x16x4x128, .f32⟩
  | .hbm, ⟨42, _⟩ => ⟨S_, .f32⟩
  | .hbm, ⟨43, _⟩ => ⟨S16x16x4x128, .f32⟩
  | .hbm, ⟨44, _⟩ => ⟨S16x16x4x128, .f32⟩
  | .hbm, ⟨45, _⟩ => ⟨S16x16x4x256, .f32⟩
  | .hbm, ⟨46, _⟩ => ⟨S16x16x4x256, .f32⟩
  | .hbm, ⟨47, _⟩ => ⟨S_, .f32⟩
  | .hbm, ⟨48, _⟩ => ⟨S16x16x2x4x64, .f32⟩
  | .hbm, ⟨49, _⟩ => ⟨S16x16x2x4x64, .f32⟩
  | .hbm, ⟨50, _⟩ => ⟨S256x512, .f32⟩
  | .hbm, ⟨51, _⟩ => ⟨S256x512, .bf16⟩
  | .hbm, ⟨52, _⟩ => ⟨S256x128, .f32⟩
  | .hbm, ⟨53, _⟩ => ⟨S256x128, .f32⟩
  | .hbm, ⟨54, _⟩ => ⟨S256x512, .f32⟩
  | .hbm, ⟨55, _⟩ => ⟨S256x512, .bf16⟩
  | .hbm, ⟨56, _⟩ => ⟨S256x512, .f32⟩
  | .hbm, ⟨57, _⟩ => ⟨S256x512, .bf16⟩
  | .hbm, ⟨58, _⟩ => ⟨S256x1024, .f32⟩
  | .hbm, ⟨59, _⟩ => ⟨S256x1024, .bf16⟩
  | .hbm, ⟨60, _⟩ => ⟨S256x1024, .f32⟩
  | .hbm, ⟨61, _⟩ => ⟨S256x1024, .f32⟩
  | .hbm, ⟨62, _⟩ => ⟨S256x1024, .f32⟩
  | _, _ => ⟨S16x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_cst_2 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_cst_3 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩

abbrev nD : Nat := 1
abbrev τ : Topo := Topo.v7x

variable {F : FTy → Type} [FloatOps F]
-- ==== MergePrompt.lean ====
abbrev S4x8192x1024 : Shape := ⟨3, ![4, 8192, 1024]⟩
abbrev S4x8192x512 : Shape := ⟨3, ![4, 8192, 512]⟩
abbrev S1x512x1024 : Shape := ⟨3, ![1, 512, 1024]⟩
abbrev S1x1024x1024 : Shape := ⟨3, ![1, 1024, 1024]⟩
abbrev S32768x1024 : Shape := ⟨2, ![32768, 1024]⟩
abbrev S32768x512 : Shape := ⟨2, ![32768, 512]⟩
abbrev S512x1024 : Shape := ⟨2, ![512, 1024]⟩
abbrev S1024x1024 : Shape := ⟨2, ![1024, 1024]⟩
abbrev S256x1024 : Shape := ⟨2, ![256, 1024]⟩
abbrev S256x512 : Shape := ⟨2, ![256, 512]⟩

abbrev nBuf : Space → Nat
  | .hbm => 22
  | .vmem => 15
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .f32⟩
  | .hbm, ⟨2, _⟩ => ⟨S4x8192x1024, .f32⟩
  | .hbm, ⟨3, _⟩ => ⟨S4x8192x1024, .f32⟩
  | .hbm, ⟨4, _⟩ => ⟨S4x8192x1024, .f32⟩
  | .hbm, ⟨5, _⟩ => ⟨S1x512x1024, .f32⟩
  | .hbm, ⟨6, _⟩ => ⟨S1x1024x1024, .f32⟩
  | .hbm, ⟨7, _⟩ => ⟨S1x1024x1024, .f32⟩
  | .hbm, ⟨8, _⟩ => ⟨S32768x1024, .f32⟩
  | .hbm, ⟨9, _⟩ => ⟨S32768x512, .f32⟩
  | .hbm, ⟨10, _⟩ => ⟨S32768x512, .bf16⟩
  | .hbm, ⟨11, _⟩ => ⟨S32768x1024, .f32⟩
  | .hbm, ⟨12, _⟩ => ⟨S32768x1024, .bf16⟩
  | .hbm, ⟨13, _⟩ => ⟨S32768x1024, .f32⟩
  | .hbm, ⟨14, _⟩ => ⟨S32768x1024, .f32⟩
  | .hbm, ⟨15, _⟩ => ⟨S512x1024, .f32⟩
  | .hbm, ⟨16, _⟩ => ⟨S512x1024, .bf16⟩
  | .hbm, ⟨17, _⟩ => ⟨S1024x1024, .f32⟩
  | .hbm, ⟨18, _⟩ => ⟨S1024x1024, .bf16⟩
  | .hbm, ⟨19, _⟩ => ⟨S1024x1024, .f32⟩
  | .hbm, ⟨20, _⟩ => ⟨S1024x1024, .bf16⟩
  | .hbm, ⟨21, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S512x1024, .bf16⟩
  | .local _ .vmem, ⟨11, _⟩ => ⟨S1024x1024, .bf16⟩
  | .local _ .vmem, ⟨12, _⟩ => ⟨S1024x1024, .bf16⟩
  | .local _ .vmem, ⟨13, _⟩ => ⟨S256x1024, .f32⟩
  | .local _ .vmem, ⟨14, _⟩ => ⟨S256x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceMergePromptIdeal.lean ====
abbrev S4x8192x1024 : Shape := ⟨3, ![4, 8192, 1024]⟩
abbrev S4x8192x512 : Shape := ⟨3, ![4, 8192, 512]⟩
abbrev S1x512x1024 : Shape := ⟨3, ![1, 512, 1024]⟩
abbrev S1x1024x1024 : Shape := ⟨3, ![1, 1024, 1024]⟩
abbrev S512x1024 : Shape := ⟨2, ![512, 1024]⟩
abbrev S1024x1024 : Shape := ⟨2, ![1024, 1024]⟩
abbrev S_ : Shape := ⟨0, ![]⟩
abbrev S32768x1024 : Shape := ⟨2, ![32768, 1024]⟩

abbrev nBuf : Space → Nat
  | .hbm => 35
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .f32⟩
  | .hbm, ⟨2, _⟩ => ⟨S4x8192x1024, .f32⟩
  | .hbm, ⟨3, _⟩ => ⟨S4x8192x1024, .f32⟩
  | .hbm, ⟨4, _⟩ => ⟨S4x8192x1024, .f32⟩
  | .hbm, ⟨5, _⟩ => ⟨S1x512x1024, .f32⟩
  | .hbm, ⟨6, _⟩ => ⟨S1x1024x1024, .f32⟩
  | .hbm, ⟨7, _⟩ => ⟨S1x1024x1024, .f32⟩
  | .hbm, ⟨8, _⟩ => ⟨S512x1024, .f32⟩
  | .hbm, ⟨9, _⟩ => ⟨S1024x1024, .f32⟩
  | .hbm, ⟨10, _⟩ => ⟨S1024x1024, .f32⟩
  | .hbm, ⟨11, _⟩ => ⟨S4x8192x1024, .f32⟩
  | .hbm, ⟨12, _⟩ => ⟨S4x8192x1024, .f32⟩
  | .hbm, ⟨13, _⟩ => ⟨S_, .f32⟩
  | .hbm, ⟨14, _⟩ => ⟨S4x8192x1024, .f32⟩
  | .hbm, ⟨15, _⟩ => ⟨S4x8192x1024, .f32⟩
  | .hbm, ⟨16, _⟩ => ⟨S_, .f32⟩
  | .hbm, ⟨17, _⟩ => ⟨S4x8192x1024, .f32⟩
  | .hbm, ⟨18, _⟩ => ⟨S4x8192x1024, .f32⟩
  | .hbm, ⟨19, _⟩ => ⟨S4x8192x1024, .f32⟩
  | .hbm, ⟨20, _⟩ => ⟨S4x8192x1024, .f32⟩
  | .hbm, ⟨21, _⟩ => ⟨S4x8192x1024, .f32⟩
  | .hbm, ⟨22, _⟩ => ⟨S4x8192x1024, .f32⟩
  | .hbm, ⟨23, _⟩ => ⟨S_, .f32⟩
  | .hbm, ⟨24, _⟩ => ⟨S4x8192x1024, .f32⟩
  | .hbm, ⟨25, _⟩ => ⟨S4x8192x1024, .f32⟩
  | .hbm, ⟨26, _⟩ => ⟨S_, .f32⟩
  | .hbm, ⟨27, _⟩ => ⟨S4x8192x1024, .f32⟩
  | .hbm, ⟨28, _⟩ => ⟨S4x8192x1024, .f32⟩
  | .hbm, ⟨29, _⟩ => ⟨S4x8192x1024, .f32⟩
  | .hbm, ⟨30, _⟩ => ⟨S4x8192x1024, .f32⟩
  | .hbm, ⟨31, _⟩ => ⟨S4x8192x1024, .f32⟩
  | .hbm, ⟨32, _⟩ => ⟨S4x8192x1024, .f32⟩
  | .hbm, ⟨33, _⟩ => ⟨S4x8192x1024, .f32⟩
  | .hbm, ⟨34, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩

abbrev nD : Nat := 1
abbrev τ : Topo := Topo.v7x

variable {F : FTy → Type} [FloatOps F]
-- ==== MergeSample.lean ====
abbrev S16x16x1024 : Shape := ⟨3, ![16, 16, 1024]⟩
abbrev S16x16x512 : Shape := ⟨3, ![16, 16, 512]⟩
abbrev S1x512x1024 : Shape := ⟨3, ![1, 512, 1024]⟩
abbrev S1x1024x1024 : Shape := ⟨3, ![1, 1024, 1024]⟩
abbrev S256x1024 : Shape := ⟨2, ![256, 1024]⟩
abbrev S256x512 : Shape := ⟨2, ![256, 512]⟩
abbrev S512x1024 : Shape := ⟨2, ![512, 1024]⟩
abbrev S1024x1024 : Shape := ⟨2, ![1024, 1024]⟩
abbrev S128x1024 : Shape := ⟨2, ![128, 1024]⟩
abbrev S128x512 : Shape := ⟨2, ![128, 512]⟩

abbrev nBuf : Space → Nat
  | .hbm => 22
  | .vmem => 15
  | .smem => 0
  | _ => 0

abbrev bufTy : (tb : Table) → Fin (tcTables nBuf tb) → BufTy
  | .hbm, ⟨0, _⟩ => ⟨S16x16x1024, .f32⟩
  | .hbm, ⟨1, _⟩ => ⟨S16x16x512, .f32⟩
  | .hbm, ⟨2, _⟩ => ⟨S16x16x1024, .f32⟩
  | .hbm, ⟨3, _⟩ => ⟨S16x16x1024, .f32⟩
  | .hbm, ⟨4, _⟩ => ⟨S16x16x1024, .f32⟩
  | .hbm, ⟨5, _⟩ => ⟨S1x512x1024, .f32⟩
  | .hbm, ⟨6, _⟩ => ⟨S1x1024x1024, .f32⟩
  | .hbm, ⟨7, _⟩ => ⟨S1x1024x1024, .f32⟩
  | .hbm, ⟨8, _⟩ => ⟨S256x1024, .f32⟩
  | .hbm, ⟨9, _⟩ => ⟨S256x512, .f32⟩
  | .hbm, ⟨10, _⟩ => ⟨S256x512, .bf16⟩
  | .hbm, ⟨11, _⟩ => ⟨S256x1024, .f32⟩
  | .hbm, ⟨12, _⟩ => ⟨S256x1024, .bf16⟩
  | .hbm, ⟨13, _⟩ => ⟨S256x1024, .f32⟩
  | .hbm, ⟨14, _⟩ => ⟨S256x1024, .f32⟩
  | .hbm, ⟨15, _⟩ => ⟨S512x1024, .f32⟩
  | .hbm, ⟨16, _⟩ => ⟨S512x1024, .bf16⟩
  | .hbm, ⟨17, _⟩ => ⟨S1024x1024, .f32⟩
  | .hbm, ⟨18, _⟩ => ⟨S1024x1024, .bf16⟩
  | .hbm, ⟨19, _⟩ => ⟨S1024x1024, .f32⟩
  | .hbm, ⟨20, _⟩ => ⟨S1024x1024, .bf16⟩
  | .hbm, ⟨21, _⟩ => ⟨S256x1024, .f32⟩
  | .local _ .vmem, ⟨0, _⟩ => ⟨S128x1024, .f32⟩
  | .local _ .vmem, ⟨1, _⟩ => ⟨S128x1024, .f32⟩
  | .local _ .vmem, ⟨2, _⟩ => ⟨S128x512, .bf16⟩
  | .local _ .vmem, ⟨3, _⟩ => ⟨S128x512, .bf16⟩
  | .local _ .vmem, ⟨4, _⟩ => ⟨S128x1024, .bf16⟩
  | .local _ .vmem, ⟨5, _⟩ => ⟨S128x1024, .bf16⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S512x1024, .bf16⟩
  | .local _ .vmem, ⟨11, _⟩ => ⟨S1024x1024, .bf16⟩
  | .local _ .vmem, ⟨12, _⟩ => ⟨S1024x1024, .bf16⟩
  | .local _ .vmem, ⟨13, _⟩ => ⟨S128x1024, .f32⟩
  | .local _ .vmem, ⟨14, _⟩ => ⟨S128x1024, .f32⟩
  | _, _ => ⟨S16x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceMergeSampleIdeal.lean ====
abbrev S16x16x1024 : Shape := ⟨3, ![16, 16, 1024]⟩
abbrev S16x16x512 : Shape := ⟨3, ![16, 16, 512]⟩
abbrev S1x512x1024 : Shape := ⟨3, ![1, 512, 1024]⟩
abbrev S1x1024x1024 : Shape := ⟨3, ![1, 1024, 1024]⟩
abbrev S512x1024 : Shape := ⟨2, ![512, 1024]⟩
abbrev S1024x1024 : Shape := ⟨2, ![1024, 1024]⟩
abbrev S_ : Shape := ⟨0, ![]⟩
abbrev S256x1024 : Shape := ⟨2, ![256, 1024]⟩

abbrev nBuf : Space → Nat
  | .hbm => 35
  | .vmem => 0
  | .smem => 0
  | _ => 0

abbrev bufTy : (tb : Table) → Fin (tcTables nBuf tb) → BufTy
  | .hbm, ⟨0, _⟩ => ⟨S16x16x1024, .f32⟩
  | .hbm, ⟨1, _⟩ => ⟨S16x16x512, .f32⟩
  | .hbm, ⟨2, _⟩ => ⟨S16x16x1024, .f32⟩
  | .hbm, ⟨3, _⟩ => ⟨S16x16x1024, .f32⟩
  | .hbm, ⟨4, _⟩ => ⟨S16x16x1024, .f32⟩
  | .hbm, ⟨5, _⟩ => ⟨S1x512x1024, .f32⟩
  | .hbm, ⟨6, _⟩ => ⟨S1x1024x1024, .f32⟩
  | .hbm, ⟨7, _⟩ => ⟨S1x1024x1024, .f32⟩
  | .hbm, ⟨8, _⟩ => ⟨S512x1024, .f32⟩
  | .hbm, ⟨9, _⟩ => ⟨S1024x1024, .f32⟩
  | .hbm, ⟨10, _⟩ => ⟨S1024x1024, .f32⟩
  | .hbm, ⟨11, _⟩ => ⟨S16x16x1024, .f32⟩
  | .hbm, ⟨12, _⟩ => ⟨S16x16x1024, .f32⟩
  | .hbm, ⟨13, _⟩ => ⟨S_, .f32⟩
  | .hbm, ⟨14, _⟩ => ⟨S16x16x1024, .f32⟩
  | .hbm, ⟨15, _⟩ => ⟨S16x16x1024, .f32⟩
  | .hbm, ⟨16, _⟩ => ⟨S_, .f32⟩
  | .hbm, ⟨17, _⟩ => ⟨S16x16x1024, .f32⟩
  | .hbm, ⟨18, _⟩ => ⟨S16x16x1024, .f32⟩
  | .hbm, ⟨19, _⟩ => ⟨S16x16x1024, .f32⟩
  | .hbm, ⟨20, _⟩ => ⟨S16x16x1024, .f32⟩
  | .hbm, ⟨21, _⟩ => ⟨S16x16x1024, .f32⟩
  | .hbm, ⟨22, _⟩ => ⟨S16x16x1024, .f32⟩
  | .hbm, ⟨23, _⟩ => ⟨S_, .f32⟩
  | .hbm, ⟨24, _⟩ => ⟨S16x16x1024, .f32⟩
  | .hbm, ⟨25, _⟩ => ⟨S16x16x1024, .f32⟩
  | .hbm, ⟨26, _⟩ => ⟨S_, .f32⟩
  | .hbm, ⟨27, _⟩ => ⟨S16x16x1024, .f32⟩
  | .hbm, ⟨28, _⟩ => ⟨S16x16x1024, .f32⟩
  | .hbm, ⟨29, _⟩ => ⟨S16x16x1024, .f32⟩
  | .hbm, ⟨30, _⟩ => ⟨S16x16x1024, .f32⟩
  | .hbm, ⟨31, _⟩ => ⟨S16x16x1024, .f32⟩
  | .hbm, ⟨32, _⟩ => ⟨S16x16x1024, .f32⟩
  | .hbm, ⟨33, _⟩ => ⟨S16x16x1024, .f32⟩
  | .hbm, ⟨34, _⟩ => ⟨S256x1024, .f32⟩
  | _, _ => ⟨S16x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩

abbrev nD : Nat := 1
abbrev τ : Topo := Topo.v7x

variable {F : FTy → Type} [FloatOps F]
-- ==== RetentionSample.lean ====
abbrev S16x16x4x128 : Shape := ⟨4, ![16, 16, 4, 128]⟩
abbrev S16x16x4x256 : Shape := ⟨4, ![16, 16, 4, 256]⟩
abbrev S1x16x4x128x256 : Shape := ⟨5, ![1, 16, 4, 128, 256]⟩
abbrev S256x512 : Shape := ⟨2, ![256, 512]⟩
abbrev S256x1024 : Shape := ⟨2, ![256, 1024]⟩
abbrev S16x4x128x256 : Shape := ⟨4, ![16, 4, 128, 256]⟩
abbrev S4 : Shape := ⟨1, ![4]⟩
abbrev S_ : Shape := ⟨0, ![]⟩
abbrev S16 : Shape := ⟨1, ![16]⟩
abbrev S16x1 : Shape := ⟨2, ![16, 1]⟩
abbrev S1x16 : Shape := ⟨2, ![1, 16]⟩
abbrev S16x16 : Shape := ⟨2, ![16, 16]⟩
abbrev S4x1x1 : Shape := ⟨3, ![4, 1, 1]⟩
abbrev S1x16x16 : Shape := ⟨3, ![1, 16, 16]⟩
abbrev S4x16x16 : Shape := ⟨3, ![4, 16, 16]⟩
abbrev S4x1 : Shape := ⟨2, ![4, 1]⟩
abbrev S4x16 : Shape := ⟨2, ![4, 16]⟩
abbrev S4x16x1 : Shape := ⟨3, ![4, 16, 1]⟩
abbrev S16x512 : Shape := ⟨2, ![16, 512]⟩
abbrev S16x1024 : Shape := ⟨2, ![16, 1024]⟩
abbrev S1x4x128x256 : Shape := ⟨4, ![1, 4, 128, 256]⟩
abbrev S16x128 : Shape := ⟨2, ![16, 128]⟩
abbrev S16x256 : Shape := ⟨2, ![16, 256]⟩
abbrev S1x1x128x256 : Shape := ⟨4, ![1, 1, 128, 256]⟩
abbrev S128x256 : Shape := ⟨2, ![128, 256]⟩
abbrev S1x16x1 : Shape := ⟨3, ![1, 16, 1]⟩
abbrev S1 : Shape := ⟨1, ![1]⟩

abbrev nBuf : Space → Nat
  | .hbm => 71
  | .vmem => 17
  | .smem => 1
  | _ => 0

abbrev bufTy : (tb : Table) → Fin (tcTables nBuf tb) → BufTy
  | .hbm, ⟨0, _⟩ => ⟨S16x16x4x128, .f32⟩
  | .hbm, ⟨1, _⟩ => ⟨S16x16x4x128, .f32⟩
  | .hbm, ⟨2, _⟩ => ⟨S16x16x4x256, .f32⟩
  | .hbm, ⟨3, _⟩ => ⟨S16x16x4x256, .f32⟩
  | .hbm, ⟨4, _⟩ => ⟨S1x16x4x128x256, .f32⟩
  | .hbm, ⟨5, _⟩ => ⟨S256x512, .f32⟩
  | .hbm, ⟨6, _⟩ => ⟨S256x512, .bf16⟩
  | .hbm, ⟨7, _⟩ => ⟨S256x512, .f32⟩
  | .hbm, ⟨8, _⟩ => ⟨S256x512, .bf16⟩
  | .hbm, ⟨9, _⟩ => ⟨S256x1024, .f32⟩
  | .hbm, ⟨10, _⟩ => ⟨S256x1024, .bf16⟩
  | .hbm, ⟨11, _⟩ => ⟨S256x1024, .f32⟩
  | .hbm, ⟨12, _⟩ => ⟨S16x4x128x256, .f32⟩
  | .hbm, ⟨13, _⟩ => ⟨S4, .f32⟩
  | .hbm, ⟨14, _⟩ => ⟨S_, .f32⟩
  | .hbm, ⟨15, _⟩ => ⟨S4, .f32⟩
  | .hbm, ⟨16, _⟩ => ⟨S4, .f32⟩
  | .hbm, ⟨17, _⟩ => ⟨S_, .f32⟩
  | .hbm, ⟨18, _⟩ => ⟨S4, .f32⟩
  | .hbm, ⟨19, _⟩ => ⟨S4, .f32⟩
  | .hbm, ⟨20, _⟩ => ⟨S4, .f32⟩
  | .hbm, ⟨21, _⟩ => ⟨S4, .f32⟩
  | .hbm, ⟨22, _⟩ => ⟨S16, .f32⟩
  | .hbm, ⟨23, _⟩ => ⟨S16x1, .f32⟩
  | .hbm, ⟨24, _⟩ => ⟨S1x16, .f32⟩
  | .hbm, ⟨25, _⟩ => ⟨S16x16, .f32⟩
  | .hbm, ⟨26, _⟩ => ⟨S16x16, .f32⟩
  | .hbm, ⟨27, _⟩ => ⟨S16x16, .f32⟩
  | .hbm, ⟨28, _⟩ => ⟨S_, .f32⟩
  | .hbm, ⟨29, _⟩ => ⟨S16x16, .f32⟩
  | .hbm, ⟨30, _⟩ => ⟨S16x16, .i1⟩
  | .hbm, ⟨31, _⟩ => ⟨S_, .f32⟩
  | .hbm, ⟨32, _⟩ => ⟨S16x16, .f32⟩
  | .hbm, ⟨33, _⟩ => ⟨S16x16, .f32⟩
  | .hbm, ⟨34, _⟩ => ⟨S4x1x1, .f32⟩
  | .hbm, ⟨35, _⟩ => ⟨S1x16x16, .f32⟩
  | .hbm, ⟨36, _⟩ => ⟨S4x16x16, .f32⟩
  | .hbm, ⟨37, _⟩ => ⟨S4x16x16, .f32⟩
  | .hbm, ⟨38, _⟩ => ⟨S4x16x16, .f32⟩
  | .hbm, ⟨39, _⟩ => ⟨S4x16x16, .f32⟩
  | .hbm, ⟨40, _⟩ => ⟨S_, .f32⟩
  | .hbm, ⟨41, _⟩ => ⟨S_, .f32⟩
  | .hbm, ⟨42, _⟩ => ⟨S4x16x16, .i1⟩
  | .hbm, ⟨43, _⟩ => ⟨S4x16x16, .f32⟩
  | .hbm, ⟨44, _⟩ => ⟨S4x16x16, .f32⟩
  | .hbm, ⟨45, _⟩ => ⟨S1x16, .f32⟩
  | .hbm, ⟨46, _⟩ => ⟨S_, .f32⟩
  | .hbm, ⟨47, _⟩ => ⟨S1x16, .f32⟩
  | .hbm, ⟨48, _⟩ => ⟨S1x16, .f32⟩
  | .hbm, ⟨49, _⟩ => ⟨S4x1, .f32⟩
  | .hbm, ⟨50, _⟩ => ⟨S4x16, .f32⟩
  | .hbm, ⟨51, _⟩ => ⟨S4x16, .f32⟩
  | .hbm, ⟨52, _⟩ => ⟨S4x16, .f32⟩
  | .hbm, ⟨53, _⟩ => ⟨S4x16, .f32⟩
  | .hbm, ⟨54, _⟩ => ⟨S4x16x1, .f32⟩
  | .hbm, ⟨55, _⟩ => ⟨S_, .f32⟩
  | .hbm, ⟨56, _⟩ => ⟨S16, .f32⟩
  | .hbm, ⟨57, _⟩ => ⟨S16, .f32⟩
  | .hbm, ⟨58, _⟩ => ⟨S1x16, .f32⟩
  | .hbm, ⟨59, _⟩ => ⟨S4x1, .f32⟩
  | .hbm, ⟨60, _⟩ => ⟨S4x16, .f32⟩
  | .hbm, ⟨61, _⟩ => ⟨S4x16, .f32⟩
  | .hbm, ⟨62, _⟩ => ⟨S4x16, .f32⟩
  | .hbm, ⟨63, _⟩ => ⟨S4x16, .f32⟩
  | .hbm, ⟨64, _⟩ => ⟨S4x16x1, .f32⟩
  | .hbm, ⟨65, _⟩ => ⟨S_, .f32⟩
  | .hbm, ⟨66, _⟩ => ⟨S4, .f32⟩
  | .hbm, ⟨67, _⟩ => ⟨S4, .f32⟩
  | .hbm, ⟨68, _⟩ => ⟨S4, .f32⟩
  | .hbm, ⟨69, _⟩ => ⟨S256x1024, .bf16⟩
  | .hbm, ⟨70, _⟩ => ⟨S16x4x128x256, .f32⟩
  | .local _ .vmem, ⟨0, _⟩ => ⟨S16x512, .bf16⟩
  | .local _ .vmem, ⟨1, _⟩ => ⟨S16x512, .bf16⟩
  | .local _ .vmem, ⟨2, _⟩ => ⟨S16x512, .bf16⟩
  | .local _ .vmem, ⟨3, _⟩ => ⟨S16x512, .bf16⟩
  | .local _ .vmem, ⟨4, _⟩ => ⟨S16x1024, .bf16⟩
  | .local _ .vmem, ⟨5, _⟩ => ⟨S16x1024, .bf16⟩
  | .local _ .vmem, ⟨6, _⟩ => ⟨S16x1024, .f32⟩
  | .local _ .vmem, ⟨7, _⟩ => ⟨S16x1024, .f32⟩
  | .local _ .vmem, ⟨8, _⟩ => ⟨S1x4x128x256, .f32⟩
  | .local _ .vmem, ⟨9, _⟩ => ⟨S1x4x128x256, .f32⟩
  | .local _ .vmem, ⟨10, _⟩ => ⟨S4x16x16, .f32⟩
  | .local _ .vmem, ⟨11, _⟩ => ⟨S4x16x1, .f32⟩
  | .local _ .vmem, ⟨12, _⟩ => ⟨S4x16x1, .f32⟩
  | .local _ .vmem, ⟨13, _⟩ => ⟨S16x1024, .bf16⟩
  | .local _ .vmem, ⟨14, _⟩ => ⟨S16x1024, .bf16⟩
  | .local _ .vmem, ⟨15, _⟩ => ⟨S1x4x128x256, .f32⟩
  | .local _ .vmem, ⟨16, _⟩ => ⟨S1x4x128x256, .f32⟩
  | .local _ .smem, ⟨0, _⟩ => ⟨S4, .f32⟩
  | _, _ => ⟨S16x16x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_1 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_5 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_6 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53_0 : Ref sig .tc := ⟨.hbm, 69, rfl⟩
abbrev main_v53_1 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg8_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S16x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S4x16x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x16x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x16x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .smem S4 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S16x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4x128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== ReferenceRetentionSampleIdeal.lean ====
abbrev S16x16x4x128 : Shape := ⟨4, ![16, 16, 4, 128]⟩
abbrev S16x16x4x256 : Shape := ⟨4, ![16, 16, 4, 256]⟩
abbrev S1x16x4x128x256 : Shape := ⟨5, ![1, 16, 4, 128, 256]⟩
abbrev S16x4x128x256 : Shape := ⟨4, ![16, 4, 128, 256]⟩
abbrev S4 : Shape := ⟨1, ![4]⟩
abbrev S_ : Shape := ⟨0, ![]⟩
abbrev S16 : Shape := ⟨1, ![16]⟩
abbrev S16x1 : Shape := ⟨2, ![16, 1]⟩
abbrev S1x16 : Shape := ⟨2, ![1, 16]⟩
abbrev S16x16 : Shape := ⟨2, ![16, 16]⟩
abbrev S4x1x1 : Shape := ⟨3, ![4, 1, 1]⟩
abbrev S1x16x16 : Shape := ⟨3, ![1, 16, 16]⟩
abbrev S4x16x16 : Shape := ⟨3, ![4, 16, 16]⟩
abbrev S16x4x16x16 : Shape := ⟨4, ![16, 4, 16, 16]⟩
abbrev S1x4x16x16 : Shape := ⟨4, ![1, 4, 16, 16]⟩
abbrev S16x4x256x16 : Shape := ⟨4, ![16, 4, 256, 16]⟩
abbrev S1x4 : Shape := ⟨2, ![1, 4]⟩
abbrev S16x4 : Shape := ⟨2, ![16, 4]⟩
abbrev S1x16x4x1 : Shape := ⟨4, ![1, 16, 4, 1]⟩
abbrev S1x4x1x1 : Shape := ⟨4, ![1, 4, 1, 1]⟩
abbrev S16x16x4 : Shape := ⟨3, ![16, 16, 4]⟩
abbrev S16x16x4x1 : Shape := ⟨4, ![16, 16, 4, 1]⟩
abbrev S16x16x1024 : Shape := ⟨3, ![16, 16, 1024]⟩
abbrev S256x1024 : Shape := ⟨2, ![256, 1024]⟩

abbrev nBuf : Space → Nat
  | .hbm => 116
  | .vmem => 0
  | .smem => 0
  | _ => 0

abbrev bufTy : (tb : Table) → Fin (tcTables nBuf tb) → BufTy
  | .hbm, ⟨0, _⟩ => ⟨S16x16x4x128, .f32⟩
  | .hbm, ⟨1, _⟩ => ⟨S16x16x4x128, .f32⟩
  | .hbm, ⟨2, _⟩ => ⟨S16x16x4x256, .f32⟩
  | .hbm, ⟨3, _⟩ => ⟨S16x16x4x256, .f32⟩
  | .hbm, ⟨4, _⟩ => ⟨S1x16x4x128x256, .f32⟩
  | .hbm, ⟨5, _⟩ => ⟨S16x4x128x256, .f32⟩
  | .hbm, ⟨6, _⟩ => ⟨S4, .f32⟩
  | .hbm, ⟨7, _⟩ => ⟨S_, .f32⟩
  | .hbm, ⟨8, _⟩ => ⟨S4, .f32⟩
  | .hbm, ⟨9, _⟩ => ⟨S4, .f32⟩
  | .hbm, ⟨10, _⟩ => ⟨S_, .f32⟩
  | .hbm, ⟨11, _⟩ => ⟨S4, .f32⟩
  | .hbm, ⟨12, _⟩ => ⟨S4, .f32⟩
  | .hbm, ⟨13, _⟩ => ⟨S4, .f32⟩
  | .hbm, ⟨14, _⟩ => ⟨S4, .f32⟩
  | .hbm, ⟨15, _⟩ => ⟨S16, .f32⟩
  | .hbm, ⟨16, _⟩ => ⟨S16x1, .f32⟩
  | .hbm, ⟨17, _⟩ => ⟨S1x16, .f32⟩
  | .hbm, ⟨18, _⟩ => ⟨S16x16, .f32⟩
  | .hbm, ⟨19, _⟩ => ⟨S16x16, .f32⟩
  | .hbm, ⟨20, _⟩ => ⟨S16x16, .f32⟩
  | .hbm, ⟨21, _⟩ => ⟨S_, .f32⟩
  | .hbm, ⟨22, _⟩ => ⟨S16x16, .f32⟩
  | .hbm, ⟨23, _⟩ => ⟨S16x16, .i1⟩
  | .hbm, ⟨24, _⟩ => ⟨S_, .f32⟩
  | .hbm, ⟨25, _⟩ => ⟨S16x16, .f32⟩
  | .hbm, ⟨26, _⟩ => ⟨S16x16, .f32⟩
  | .hbm, ⟨27, _⟩ => ⟨S4x1x1, .f32⟩
  | .hbm, ⟨28, _⟩ => ⟨S1x16x16, .f32⟩
  | .hbm, ⟨29, _⟩ => ⟨S4x16x16, .f32⟩
  | .hbm, ⟨30, _⟩ => ⟨S4x16x16, .f32⟩
  | .hbm, ⟨31, _⟩ => ⟨S4x16x16, .f32⟩
  | .hbm, ⟨32, _⟩ => ⟨S4x16x16, .f32⟩
  | .hbm, ⟨33, _⟩ => ⟨S_, .f32⟩
  | .hbm, ⟨34, _⟩ => ⟨S_, .f32⟩
  | .hbm, ⟨35, _⟩ => ⟨S4x16x16, .i1⟩
  | .hbm, ⟨36, _⟩ => ⟨S4x16x16, .f32⟩
  | .hbm, ⟨37, _⟩ => ⟨S4x16x16, .f32⟩
  | .hbm, ⟨38, _⟩ => ⟨S16x4x16x16, .f32⟩
  | .hbm, ⟨39, _⟩ => ⟨S1x4x16x16, .f32⟩
  | .hbm, ⟨40, _⟩ => ⟨S16x4x16x16, .f32⟩
  | .hbm, ⟨41, _⟩ => ⟨S16x4x16x16, .f32⟩
  | .hbm, ⟨42, _⟩ => ⟨S16x4x256x16, .f32⟩
  | .hbm, ⟨43, _⟩ => ⟨S16x16x4x256, .f32⟩
  | .hbm, ⟨44, _⟩ => ⟨S16x4x256x16, .f32⟩
  | .hbm, ⟨45, _⟩ => ⟨S16x16x4x256, .f32⟩
  | .hbm, ⟨46, _⟩ => ⟨S16x1, .f32⟩
  | .hbm, ⟨47, _⟩ => ⟨S_, .f32⟩
  | .hbm, ⟨48, _⟩ => ⟨S16x1, .f32⟩
  | .hbm, ⟨49, _⟩ => ⟨S16x1, .f32⟩
  | .hbm, ⟨50, _⟩ => ⟨S1x4, .f32⟩
  | .hbm, ⟨51, _⟩ => ⟨S16x4, .f32⟩
  | .hbm, ⟨52, _⟩ => ⟨S16x4, .f32⟩
  | .hbm, ⟨53, _⟩ => ⟨S16x4, .f32⟩
  | .hbm, ⟨54, _⟩ => ⟨S16x4, .f32⟩
  | .hbm, ⟨55, _⟩ => ⟨S1x16x4x1, .f32⟩
  | .hbm, ⟨56, _⟩ => ⟨S16x16x4x256, .f32⟩
  | .hbm, ⟨57, _⟩ => ⟨S16x16x4x256, .f32⟩
  | .hbm, ⟨58, _⟩ => ⟨S16x16x4x256, .f32⟩
  | .hbm, ⟨59, _⟩ => ⟨S_, .f32⟩
  | .hbm, ⟨60, _⟩ => ⟨S16, .f32⟩
  | .hbm, ⟨61, _⟩ => ⟨S16, .f32⟩
  | .hbm, ⟨62, _⟩ => ⟨S16x1, .f32⟩
  | .hbm, ⟨63, _⟩ => ⟨S1x4, .f32⟩
  | .hbm, ⟨64, _⟩ => ⟨S16x4, .f32⟩
  | .hbm, ⟨65, _⟩ => ⟨S16x4, .f32⟩
  | .hbm, ⟨66, _⟩ => ⟨S16x4, .f32⟩
  | .hbm, ⟨67, _⟩ => ⟨S16x4, .f32⟩
  | .hbm, ⟨68, _⟩ => ⟨S1x16x4x1, .f32⟩
  | .hbm, ⟨69, _⟩ => ⟨S16x16x4x128, .f32⟩
  | .hbm, ⟨70, _⟩ => ⟨S16x16x4x128, .f32⟩
  | .hbm, ⟨71, _⟩ => ⟨S_, .f32⟩
  | .hbm, ⟨72, _⟩ => ⟨S4, .f32⟩
  | .hbm, ⟨73, _⟩ => ⟨S4, .f32⟩
  | .hbm, ⟨74, _⟩ => ⟨S4, .f32⟩
  | .hbm, ⟨75, _⟩ => ⟨S1x4x1x1, .f32⟩
  | .hbm, ⟨76, _⟩ => ⟨S16x4x128x256, .f32⟩
  | .hbm, ⟨77, _⟩ => ⟨S16x4x128x256, .f32⟩
  | .hbm, ⟨78, _⟩ => ⟨S16x4x128x256, .f32⟩
  | .hbm, ⟨79, _⟩ => ⟨S16x4x128x256, .f32⟩
  | .hbm, ⟨80, _⟩ => ⟨S_, .f32⟩
  | .hbm, ⟨81, _⟩ => ⟨S16x16x4, .f32⟩
  | .hbm, ⟨82, _⟩ => ⟨S16x16x4x1, .f32⟩
  | .hbm, ⟨83, _⟩ => ⟨S_, .f32⟩
  | .hbm, ⟨84, _⟩ => ⟨S16x16x4x1, .f32⟩
  | .hbm, ⟨85, _⟩ => ⟨S16x16x4x1, .f32⟩
  | .hbm, ⟨86, _⟩ => ⟨S16x16x4x256, .f32⟩
  | .hbm, ⟨87, _⟩ => ⟨S16x16x4x256, .f32⟩
  | .hbm, ⟨88, _⟩ => ⟨S16x16x4x256, .f32⟩
  | .hbm, ⟨89, _⟩ => ⟨S_, .f32⟩
  | .hbm, ⟨90, _⟩ => ⟨S16x16x4, .f32⟩
  | .hbm, ⟨91, _⟩ => ⟨S16x16x4x1, .f32⟩
  | .hbm, ⟨92, _⟩ => ⟨S_, .f32⟩
  | .hbm, ⟨93, _⟩ => ⟨S16x16x4x1, .f32⟩
  | .hbm, ⟨94, _⟩ => ⟨S16x16x4x1, .f32⟩
  | .hbm, ⟨95, _⟩ => ⟨S16x16x4x256, .f32⟩
  | .hbm, ⟨96, _⟩ => ⟨S16x16x4x256, .f32⟩
  | .hbm, ⟨97, _⟩ => ⟨S_, .f32⟩
  | .hbm, ⟨98, _⟩ => ⟨S16x16x4x1, .f32⟩
  | .hbm, ⟨99, _⟩ => ⟨S16x16x4x1, .f32⟩
  | .hbm, ⟨100, _⟩ => ⟨S16x16x4x1, .f32⟩
  | .hbm, ⟨101, _⟩ => ⟨S16x16x4x256, .f32⟩
  | .hbm, ⟨102, _⟩ => ⟨S16x16x4x256, .f32⟩
  | .hbm, ⟨103, _⟩ => ⟨S16x16x4x256, .f32⟩
  | .hbm, ⟨104, _⟩ => ⟨S16x16x4x256, .f32⟩
  | .hbm, ⟨105, _⟩ => ⟨S_, .f32⟩
  | .hbm, ⟨106, _⟩ => ⟨S16x16x4x256, .f32⟩
  | .hbm, ⟨107, _⟩ => ⟨S16x16x4x256, .f32⟩
  | .hbm, ⟨108, _⟩ => ⟨S_, .f32⟩
  | .hbm, ⟨109, _⟩ => ⟨S16x16x4x256, .f32⟩
  | .hbm, ⟨110, _⟩ => ⟨S16x16x4x256, .f32⟩
  | .hbm, ⟨111, _⟩ => ⟨S16x16x4x256, .f32⟩
  | .hbm, ⟨112, _⟩ => ⟨S16x16x4x256, .f32⟩
  | .hbm, ⟨113, _⟩ => ⟨S16x16x1024, .f32⟩
  | .hbm, ⟨114, _⟩ => ⟨S256x1024, .f32⟩
  | .hbm, ⟨115, _⟩ => ⟨S256x1024, .bf16⟩
  | _, _ => ⟨S16x16x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_5 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_6 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst_7 : Ref sig .tc := ⟨.hbm, 80, rfl⟩
abbrev main_v64 : Ref sig .tc := ⟨.hbm, 81, rfl⟩
abbrev main_v65 : Ref sig .tc := ⟨.hbm, 82, rfl⟩
abbrev main_cst_8 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_cst_9 : Ref sig .tc := ⟨.hbm, 89, rfl⟩
abbrev main_v71 : Ref sig .tc := ⟨.hbm, 90, rfl⟩
abbrev main_v72 : Ref sig .tc := ⟨.hbm, 91, rfl⟩
abbrev main_cst_10 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_cst_11 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_call1_v0 : Ref sig .tc := ⟨.hbm, 103, rfl⟩
abbrev main_call1_v1 : Ref sig .tc := ⟨.hbm, 104, rfl⟩
abbrev main_call1_cst : Ref sig .tc := ⟨.hbm, 105, rfl⟩
abbrev main_call1_v2 : Ref sig .tc := ⟨.hbm, 106, rfl⟩
abbrev main_call1_v3 : Ref sig .tc := ⟨.hbm, 107, rfl⟩
abbrev main_call1_cst_0 : Ref sig .tc := ⟨.hbm, 108, rfl⟩
abbrev main_call1_v4 : Ref sig .tc := ⟨.hbm, 109, rfl⟩
abbrev main_call1_v5 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩

abbrev nD : Nat := 1
abbrev τ : Topo := Topo.v7x

variable {F : FTy → Type} [FloatOps F]
-- ==== StreamSample.lean ====
abbrev S16x16x1024 : Shape := ⟨3, ![16, 16, 1024]⟩
abbrev S1x16x128x2x64 : Shape := ⟨5, ![1, 16, 128, 2, 64]⟩
abbrev S1x16x4x128x256 : Shape := ⟨5, ![1, 16, 4, 128, 256]⟩
abbrev S1x1024 : Shape := ⟨2, ![1, 1024]⟩
abbrev S1x1024x5888 : Shape := ⟨3, ![1, 1024, 5888]⟩
abbrev S1x2048 : Shape := ⟨2, ![1, 2048]⟩
abbrev S256x1024 : Shape := ⟨2, ![256, 1024]⟩
abbrev S1024 : Shape := ⟨1, ![1024]⟩
abbrev S1024x5888 : Shape := ⟨2, ![1024, 5888]⟩
abbrev S2048 : Shape := ⟨1, ![2048]⟩
abbrev S256x512 : Shape := ⟨2, ![256, 512]⟩
abbrev S256x128 : Shape := ⟨2, ![256, 128]⟩
abbrev S128x1024 : Shape := ⟨2, ![128, 1024]⟩
abbrev S128x512 : Shape := ⟨2, ![128, 512]⟩
abbrev S128x128 : Shape := ⟨2, ![128, 128]⟩
abbrev S128 : Shape := ⟨1, ![128]⟩
abbrev S128x1 : Shape := ⟨2, ![128, 1]⟩
abbrev S1024x512 : Shape := ⟨2, ![1024, 512]⟩
abbrev S1024x128 : Shape := ⟨2, ![1024, 128]⟩
abbrev S1024x1024 : Shape := ⟨2, ![1024, 1024]⟩
abbrev S_ : Shape := ⟨0, ![]⟩
abbrev S16x112x128 : Shape := ⟨3, ![16, 112, 128]⟩
abbrev S16x128x2x64 : Shape := ⟨4, ![16, 128, 2, 64]⟩
abbrev S16x128x128 : Shape := ⟨3, ![16, 128, 128]⟩
abbrev S16x16x128 : Shape := ⟨3, ![16, 16, 128]⟩
abbrev S16x256x128 : Shape := ⟨3, ![16, 256, 128]⟩
abbrev S16x4x128x256 : Shape := ⟨4, ![16, 4, 128, 256]⟩
abbrev S4 : Shape := ⟨1, ![4]⟩
abbrev S16 : Shape := ⟨1, ![16]⟩
abbrev S16x1 : Shape := ⟨2, ![16, 1]⟩
abbrev S1x16 : Shape := ⟨2, ![1, 16]⟩
abbrev S16x16 : Shape := ⟨2, ![16, 16]⟩
abbrev S4x1x1 : Shape := ⟨3, ![4, 1, 1]⟩
abbrev S1x16x16 : Shape := ⟨3, ![1, 16, 16]⟩
abbrev S4x16x16 : Shape := ⟨3, ![4, 16, 16]⟩
abbrev S4x1 : Shape := ⟨2, ![4, 1]⟩
abbrev S4x16 : Shape := ⟨2, ![4, 16]⟩
abbrev S4x16x1 : Shape := ⟨3, ![4, 16, 1]⟩
abbrev S16x512 : Shape := ⟨2, ![16, 512]⟩
abbrev S16x1024 : Shape := ⟨2, ![16, 1024]⟩
abbrev S1x4x128x256 : Shape := ⟨4, ![1, 4, 128, 256]⟩
abbrev S16x128 : Shape := ⟨2, ![16, 128]⟩
abbrev S16x256 : Shape := ⟨2, ![16, 256]⟩
abbrev S1x1x128x256 : Shape := ⟨4, ![1, 1, 128, 256]⟩
abbrev S128x256 : Shape := ⟨2, ![128, 256]⟩
abbrev S1x16x1 : Shape := ⟨3, ![1, 16, 1]⟩
abbrev S1 : Shape := ⟨1, ![1]⟩

abbrev nBuf : Space → Nat
  | .hbm => 98
  | .vmem => 40
  | .smem => 1
  | _ => 0

abbrev bufTy : (tb : Table) → Fin (tcTables nBuf tb) → BufTy
  | .hbm, ⟨0, _⟩ => ⟨S16x16x1024, .f32⟩
  | .hbm, ⟨1, _⟩ => ⟨S1x16x128x2x64, .f32⟩
  | .hbm, ⟨2, _⟩ => ⟨S1x16x128x2x64, .f32⟩
  | .hbm, ⟨3, _⟩ => ⟨S1x16x4x128x256, .f32⟩
  | .hbm, ⟨4, _⟩ => ⟨S1x1024, .f32⟩
  | .hbm, ⟨5, _⟩ => ⟨S1x1024x5888, .f32⟩
  | .hbm, ⟨6, _⟩ => ⟨S1x2048, .f32⟩
  | .hbm, ⟨7, _⟩ => ⟨S256x1024, .f32⟩
  | .hbm, ⟨8, _⟩ => ⟨S1024, .f32⟩
  | .hbm, ⟨9, _⟩ => ⟨S1x1024, .f32⟩
  | .hbm, ⟨10, _⟩ => ⟨S1024x5888, .f32⟩
  | .hbm, ⟨11, _⟩ => ⟨S1024x5888, .bf16⟩
  | .hbm, ⟨12, _⟩ => ⟨S2048, .f32⟩
  | .hbm, ⟨13, _⟩ => ⟨S1x2048, .f32⟩
  | .hbm, ⟨14, _⟩ => ⟨S256x512, .bf16⟩
  | .hbm, ⟨15, _⟩ => ⟨S256x128, .f32⟩
  | .hbm, ⟨16, _⟩ => ⟨S256x128, .f32⟩
  | .hbm, ⟨17, _⟩ => ⟨S256x512, .bf16⟩
  | .hbm, ⟨18, _⟩ => ⟨S256x512, .bf16⟩
  | .hbm, ⟨19, _⟩ => ⟨S256x1024, .bf16⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S_, .f32⟩
  | .hbm, ⟨24, _⟩ => ⟨S16x112x128, .f32⟩
  | .hbm, ⟨25, _⟩ => ⟨S16x128x2x64, .f32⟩
  | .hbm, ⟨26, _⟩ => ⟨S16x128x128, .f32⟩
  | .hbm, ⟨27, _⟩ => ⟨S16x16x128, .f32⟩
  | .hbm, ⟨28, _⟩ => ⟨S16x256x128, .f32⟩
  | .hbm, ⟨29, _⟩ => ⟨S16x128x128, .f32⟩
  | .hbm, ⟨30, _⟩ => ⟨S16x128x2x64, .f32⟩
  | .hbm, ⟨31, _⟩ => ⟨S1x16x128x2x64, .f32⟩
  | .hbm, ⟨32, _⟩ => ⟨S16x128x2x64, .f32⟩
  | .hbm, ⟨33, _⟩ => ⟨S16x128x128, .f32⟩
  | .hbm, ⟨34, _⟩ => ⟨S16x16x128, .f32⟩
  | .hbm, ⟨35, _⟩ => ⟨S16x256x128, .f32⟩
  | .hbm, ⟨36, _⟩ => ⟨S16x128x128, .f32⟩
  | .hbm, ⟨37, _⟩ => ⟨S16x128x2x64, .f32⟩
  | .hbm, ⟨38, _⟩ => ⟨S1x16x128x2x64, .f32⟩
  | .hbm, ⟨39, _⟩ => ⟨S16x4x128x256, .f32⟩
  | .hbm, ⟨40, _⟩ => ⟨S4, .f32⟩
  | .hbm, ⟨41, _⟩ => ⟨S_, .f32⟩
  | .hbm, ⟨42, _⟩ => ⟨S4, .f32⟩
  | .hbm, ⟨43, _⟩ => ⟨S4, .f32⟩
  | .hbm, ⟨44, _⟩ => ⟨S_, .f32⟩
  | .hbm, ⟨45, _⟩ => ⟨S4, .f32⟩
  | .hbm, ⟨46, _⟩ => ⟨S4, .f32⟩
  | .hbm, ⟨47, _⟩ => ⟨S4, .f32⟩
  | .hbm, ⟨48, _⟩ => ⟨S4, .f32⟩
  | .hbm, ⟨49, _⟩ => ⟨S16, .f32⟩
  | .hbm, ⟨50, _⟩ => ⟨S16x1, .f32⟩
  | .hbm, ⟨51, _⟩ => ⟨S1x16, .f32⟩
  | .hbm, ⟨52, _⟩ => ⟨S16x16, .f32⟩
  | .hbm, ⟨53, _⟩ => ⟨S16x16, .f32⟩
  | .hbm, ⟨54, _⟩ => ⟨S16x16, .f32⟩
  | .hbm, ⟨55, _⟩ => ⟨S_, .f32⟩
  | .hbm, ⟨56, _⟩ => ⟨S16x16, .f32⟩
  | .hbm, ⟨57, _⟩ => ⟨S16x16, .i1⟩
  | .hbm, ⟨58, _⟩ => ⟨S_, .f32⟩
  | .hbm, ⟨59, _⟩ => ⟨S16x16, .f32⟩
  | .hbm, ⟨60, _⟩ => ⟨S16x16, .f32⟩
  | .hbm, ⟨61, _⟩ => ⟨S4x1x1, .f32⟩
  | .hbm, ⟨62, _⟩ => ⟨S1x16x16, .f32⟩
  | .hbm, ⟨63, _⟩ => ⟨S4x16x16, .f32⟩
  | .hbm, ⟨64, _⟩ => ⟨S4x16x16, .f32⟩
  | .hbm, ⟨65, _⟩ => ⟨S4x16x16, .f32⟩
  | .hbm, ⟨66, _⟩ => ⟨S4x16x16, .f32⟩
  | .hbm, ⟨67, _⟩ => ⟨S_, .f32⟩
  | .hbm, ⟨68, _⟩ => ⟨S_, .f32⟩
  | .hbm, ⟨69, _⟩ => ⟨S4x16x16, .i1⟩
  | .hbm, ⟨70, _⟩ => ⟨S4x16x16, .f32⟩
  | .hbm, ⟨71, _⟩ => ⟨S4x16x16, .f32⟩
  | .hbm, ⟨72, _⟩ => ⟨S1x16, .f32⟩
  | .hbm, ⟨73, _⟩ => ⟨S_, .f32⟩
  | .hbm, ⟨74, _⟩ => ⟨S1x16, .f32⟩
  | .hbm, ⟨75, _⟩ => ⟨S1x16, .f32⟩
  | .hbm, ⟨76, _⟩ => ⟨S4x1, .f32⟩
  | .hbm, ⟨77, _⟩ => ⟨S4x16, .f32⟩
  | .hbm, ⟨78, _⟩ => ⟨S4x16, .f32⟩
  | .hbm, ⟨79, _⟩ => ⟨S4x16, .f32⟩
  | .hbm, ⟨80, _⟩ => ⟨S4x16, .f32⟩
  | .hbm, ⟨81, _⟩ => ⟨S4x16x1, .f32⟩
  | .hbm, ⟨82, _⟩ => ⟨S_, .f32⟩
  | .hbm, ⟨83, _⟩ => ⟨S16, .f32⟩
  | .hbm, ⟨84, _⟩ => ⟨S16, .f32⟩
  | .hbm, ⟨85, _⟩ => ⟨S1x16, .f32⟩
  | .hbm, ⟨86, _⟩ => ⟨S4x1, .f32⟩
  | .hbm, ⟨87, _⟩ => ⟨S4x16, .f32⟩
  | .hbm, ⟨88, _⟩ => ⟨S4x16, .f32⟩
  | .hbm, ⟨89, _⟩ => ⟨S4x16, .f32⟩
  | .hbm, ⟨90, _⟩ => ⟨S4x16, .f32⟩
  | .hbm, ⟨91, _⟩ => ⟨S4x16x1, .f32⟩
  | .hbm, ⟨92, _⟩ => ⟨S_, .f32⟩
  | .hbm, ⟨93, _⟩ => ⟨S4, .f32⟩
  | .hbm, ⟨94, _⟩ => ⟨S4, .f32⟩
  | .hbm, ⟨95, _⟩ => ⟨S4, .f32⟩
  | .hbm, ⟨96, _⟩ => ⟨S256x1024, .bf16⟩
  | .hbm, ⟨97, _⟩ => ⟨S16x4x128x256, .f32⟩
  | .local _ .vmem, ⟨0, _⟩ => ⟨S128x1024, .f32⟩
  | .local _ .vmem, ⟨1, _⟩ => ⟨S128x1024, .f32⟩
  | .local _ .vmem, ⟨2, _⟩ => ⟨S1x1024, .f32⟩
  | .local _ .vmem, ⟨3, _⟩ => ⟨S1024x5888, .bf16⟩
  | .local _ .vmem, ⟨4, _⟩ => ⟨S1x2048, .f32⟩
  | .local _ .vmem, ⟨5, _⟩ => ⟨S128x512, .bf16⟩
  | .local _ .vmem, ⟨6, _⟩ => ⟨S128x512, .bf16⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x512, .bf16⟩
  | .local _ .vmem, ⟨12, _⟩ => ⟨S128x512, .bf16⟩
  | .local _ .vmem, ⟨13, _⟩ => ⟨S128x512, .bf16⟩
  | .local _ .vmem, ⟨14, _⟩ => ⟨S128x512, .bf16⟩
  | .local _ .vmem, ⟨15, _⟩ => ⟨S128x1024, .bf16⟩
  | .local _ .vmem, ⟨16, _⟩ => ⟨S128x1024, .bf16⟩
  | .local _ .vmem, ⟨17, _⟩ => ⟨S128x1024, .f32⟩
  | .local _ .vmem, ⟨18, _⟩ => ⟨S128x1024, .f32⟩
  | .local _ .vmem, ⟨19, _⟩ => ⟨S128x1024, .f32⟩
  | .local _ .vmem, ⟨20, _⟩ => ⟨S128x1024, .f32⟩
  | .local _ .vmem, ⟨21, _⟩ => ⟨S128x1024, .f32⟩
  | .local _ .vmem, ⟨22, _⟩ => ⟨S128x1024, .f32⟩
  | .local _ .vmem, ⟨23, _⟩ => ⟨S16x512, .bf16⟩
  | .local _ .vmem, ⟨24, _⟩ => ⟨S16x512, .bf16⟩
  | .local _ .vmem, ⟨25, _⟩ => ⟨S16x512, .bf16⟩
  | .local _ .vmem, ⟨26, _⟩ => ⟨S16x512, .bf16⟩
  | .local _ .vmem, ⟨27, _⟩ => ⟨S16x1024, .bf16⟩
  | .local _ .vmem, ⟨28, _⟩ => ⟨S16x1024, .bf16⟩
  | .local _ .vmem, ⟨29, _⟩ => ⟨S16x1024, .f32⟩
  | .local _ .vmem, ⟨30, _⟩ => ⟨S16x1024, .f32⟩
  | .local _ .vmem, ⟨31, _⟩ => ⟨S1x4x128x256, .f32⟩
  | .local _ .vmem, ⟨32, _⟩ => ⟨S1x4x128x256, .f32⟩
  | .local _ .vmem, ⟨33, _⟩ => ⟨S4x16x16, .f32⟩
  | .local _ .vmem, ⟨34, _⟩ => ⟨S4x16x1, .f32⟩
  | .local _ .vmem, ⟨35, _⟩ => ⟨S4x16x1, .f32⟩
  | .local _ .vmem, ⟨36, _⟩ => ⟨S16x1024, .bf16⟩
  | .local _ .vmem, ⟨37, _⟩ => ⟨S16x1024, .bf16⟩
  | .local _ .vmem, ⟨38, _⟩ => ⟨S1x4x128x256, .f32⟩
  | .local _ .vmem, ⟨39, _⟩ => ⟨S1x4x128x256, .f32⟩
  | .local _ .smem, ⟨0, _⟩ => ⟨S4, .f32⟩
  | _, _ => ⟨S16x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .smem, ⟨0, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev main_v7_4 : Ref sig .tc := ⟨.hbm, 18, rfl⟩
abbrev main_v7_5 : Ref sig .tc := ⟨.hbm, 19, rfl⟩
abbrev main_v7_6 : Ref sig .tc := ⟨.hbm, 20, rfl⟩
abbrev main_v7_7 : Ref sig .tc := ⟨.hbm, 21, rfl⟩
abbrev main_v7_8 : Ref sig .tc := ⟨.hbm, 22, rfl⟩
abbrev main_cst : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_0 : Ref sig .tc := ⟨.hbm, 41, rfl⟩
abbrev main_v25 : Ref sig .tc := ⟨.hbm, 42, rfl⟩
abbrev main_v26 : Ref sig .tc := ⟨.hbm, 43, rfl⟩
abbrev main_cst_1 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_2 : Ref sig .tc := ⟨.hbm, 55, rfl⟩
abbrev main_v37 : Ref sig .tc := ⟨.hbm, 56, rfl⟩
abbrev main_v38 : Ref sig .tc := ⟨.hbm, 57, rfl⟩
abbrev main_cst_3 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_4 : Ref sig .tc := ⟨.hbm, 67, rfl⟩
abbrev main_call0_v0 : Ref sig .tc := ⟨.hbm, 68, rfl⟩
abbrev main_call0_v1 : Ref sig .tc := ⟨.hbm, 69, rfl⟩
abbrev main_call0_v2 : Ref sig .tc := ⟨.hbm, 70, rfl⟩
abbrev main_v47 : Ref sig .tc := ⟨.hbm, 71, rfl⟩
abbrev main_v48 : Ref sig .tc := ⟨.hbm, 72, rfl⟩
abbrev main_cst_5 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_6 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_7 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69_0 : Ref sig .tc := ⟨.hbm, 96, rfl⟩
abbrev main_v69_1 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc1_stg0_0 : Ref sig .tc := ⟨.vmem, 23, rfl⟩
abbrev cc1_stg0_1 : Ref sig .tc := ⟨.vmem, 24, rfl⟩
abbrev cc1_stg1_0 : Ref sig .tc := ⟨.vmem, 25, rfl⟩
abbrev cc1_stg1_1 : Ref sig .tc := ⟨.vmem, 26, rfl⟩
abbrev cc1_stg2_0 : Ref sig .tc := ⟨.vmem, 27, rfl⟩
abbrev cc1_stg2_1 : Ref sig .tc := ⟨.vmem, 28, rfl⟩
abbrev cc1_stg3_0 : Ref sig .tc := ⟨.vmem, 29, rfl⟩
abbrev cc1_stg3_1 : Ref sig .tc := ⟨.vmem, 30, rfl⟩
abbrev cc1_stg4_0 : Ref sig .tc := ⟨.vmem, 31, rfl⟩
abbrev cc1_stg4_1 : Ref sig .tc := ⟨.vmem, 32, rfl⟩
abbrev cc1_stg5_0 : Ref sig .tc := ⟨.vmem, 33, rfl⟩
abbrev cc1_stg6_0 : Ref sig .tc := ⟨.vmem, 34, rfl⟩
abbrev cc1_stg7_0 : Ref sig .tc := ⟨.vmem, 35, rfl⟩
abbrev cc1_stg9_0 : Ref sig .tc := ⟨.vmem, 36, rfl⟩
abbrev cc1_stg9_1 : Ref sig .tc := ⟨.vmem, 37, rfl⟩
abbrev cc1_stg10_0 : Ref sig .tc := ⟨.vmem, 38, rfl⟩
abbrev cc1_stg10_1 : Ref sig .tc := ⟨.vmem, 39, rfl⟩
abbrev cc1_stg8_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc1_sem0_0 : DmaSem sig := 23
abbrev cc1_sem0_1 : DmaSem sig := 24
abbrev cc1_sem1_0 : DmaSem sig := 25
abbrev cc1_sem1_1 : DmaSem sig := 26
abbrev cc1_sem2_0 : DmaSem sig := 27
abbrev cc1_sem2_1 : DmaSem sig := 28
abbrev cc1_sem3_0 : DmaSem sig := 29
abbrev cc1_sem3_1 : DmaSem sig := 30
abbrev cc1_sem4_0 : DmaSem sig := 31
abbrev cc1_sem4_1 : DmaSem sig := 32
abbrev cc1_sem5_0 : DmaSem sig := 33
abbrev cc1_sem6_0 : DmaSem sig := 34
abbrev cc1_sem7_0 : DmaSem sig := 35
abbrev cc1_sem8_0 : DmaSem sig := 36
abbrev cc1_sem9_0 : DmaSem sig := 37
abbrev cc1_sem9_1 : DmaSem sig := 38
abbrev cc1_sem10_0 : DmaSem sig := 39
abbrev cc1_sem10_1 : DmaSem sig := 40

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5888 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨2, ![16, 1], ![false, false]⟩

def cc1_transform_0 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc1_transform_3 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_8 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc1_transform_10 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S16x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S16x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S16x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S16x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x4x128x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 1 → Memref sig .tc .vmem S4x16x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S4x16x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S4x16x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .smem S4 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 2 → Memref sig .tc .vmem S16x1024 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S1x4x128x256 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, false]
-- ==== ReferenceStreamSampleIdeal.lean ====
abbrev S16x16x1024 : Shape := ⟨3, ![16, 16, 1024]⟩
abbrev S1x16x128x2x64 : Shape := ⟨5, ![1, 16, 128, 2, 64]⟩
abbrev S1x16x4x128x256 : Shape := ⟨5, ![1, 16, 4, 128, 256]⟩
abbrev S1x1024 : Shape := ⟨2, ![1, 1024]⟩
abbrev S1x1024x5888 : Shape := ⟨3, ![1, 1024, 5888]⟩
abbrev S1x2048 : Shape := ⟨2, ![1, 2048]⟩
abbrev S1024 : Shape := ⟨1, ![1024]⟩
abbrev S_ : Shape := ⟨0, ![]⟩
abbrev S16x16 : Shape := ⟨2, ![16, 16]⟩
abbrev S16x16x1 : Shape := ⟨3, ![16, 16, 1]⟩
abbrev S1x1x1024 : Shape := ⟨3, ![1, 1, 1024]⟩
abbrev S1024x5888 : Shape := ⟨2, ![1024, 5888]⟩
abbrev S2048 : Shape := ⟨1, ![2048]⟩
abbrev S16x16x5888 : Shape := ⟨3, ![16, 16, 5888]⟩
abbrev S16x16x512 : Shape := ⟨3, ![16, 16, 512]⟩
abbrev S16x16x128 : Shape := ⟨3, ![16, 16, 128]⟩
abbrev S16x16x2048 : Shape := ⟨3, ![16, 16, 2048]⟩
abbrev S1x1x2048 : Shape := ⟨3, ![1, 1, 2048]⟩
abbrev S16x16x2x4x64 : Shape := ⟨5, ![16, 16, 2, 4, 64]⟩
abbrev S16x16x2x64 : Shape := ⟨4, ![16, 16, 2, 64]⟩
abbrev S16x16x4x128 : Shape := ⟨4, ![16, 16, 4, 128]⟩
abbrev S16x16x4x256 : Shape := ⟨4, ![16, 16, 4, 256]⟩
abbrev S16x128x2x64 : Shape := ⟨4, ![16, 128, 2, 64]⟩
abbrev S16x144x2x64 : Shape := ⟨4, ![16, 144, 2, 64]⟩
abbrev S16x4x128x256 : Shape := ⟨4, ![16, 4, 128, 256]⟩
abbrev S4 : Shape := ⟨1, ![4]⟩
abbrev S16 : Shape := ⟨1, ![16]⟩
abbrev S16x1 : Shape := ⟨2, ![16, 1]⟩
abbrev S1x16 : Shape := ⟨2, ![1, 16]⟩
abbrev S4x1x1 : Shape := ⟨3, ![4, 1, 1]⟩
abbrev S1x16x16 : Shape := ⟨3, ![1, 16, 16]⟩
abbrev S4x16x16 : Shape := ⟨3, ![4, 16, 16]⟩
abbrev S16x4x16x16 : Shape := ⟨4, ![16, 4, 16, 16]⟩
abbrev S1x4x16x16 : Shape := ⟨4, ![1, 4, 16, 16]⟩
abbrev S16x4x256x16 : Shape := ⟨4, ![16, 4, 256, 16]⟩
abbrev S1x4 : Shape := ⟨2, ![1, 4]⟩
abbrev S16x4 : Shape := ⟨2, ![16, 4]⟩
abbrev S1x16x4x1 : Shape := ⟨4, ![1, 16, 4, 1]⟩
abbrev S1x4x1x1 : Shape := ⟨4, ![1, 4, 1, 1]⟩
abbrev S16x16x4 : Shape := ⟨3, ![16, 16, 4]⟩
abbrev S16x16x4x1 : Shape := ⟨4, ![16, 16, 4, 1]⟩
abbrev S256x1024 : Shape := ⟨2, ![256, 1024]⟩

abbrev nBuf : Space → Nat
  | .hbm => 169
  | .vmem => 0
  | .smem => 0
  | _ => 0

abbrev hbmTy0_0 (i : Nat) : BufTy := match i % 128 with
  | 0 => ⟨S16x16x1024, .f32⟩
  | 1 => ⟨S1x16x128x2x64, .f32⟩
  | 2 => ⟨S1x16x128x2x64, .f32⟩
  | 3 => ⟨S1x16x4x128x256, .f32⟩
  | 4 => ⟨S1x1024, .f32⟩
  | 5 => ⟨S1x1024x5888, .f32⟩
  | 6 => ⟨S1x2048, .f32⟩
  | 7 => ⟨S1024, .f32⟩
  | 8 => ⟨S16x16x1024, .f32⟩
  | 9 => ⟨S_, .f32⟩
  | 10 => ⟨S16x16, .f32⟩
  | 11 => ⟨S16x16x1, .f32⟩
  | 12 => ⟨S_, .f32⟩
  | 13 => ⟨S16x16x1, .f32⟩
  | 14 => ⟨S16x16x1, .f32⟩
  | 15 => ⟨S_, .f32⟩
  | 16 => ⟨S16x16x1, .f32⟩
  | 17 => ⟨S16x16x1, .f32⟩
  | 18 => ⟨S16x16x1, .f32⟩
  | 19 => ⟨S16x16x1024, .f32⟩
  | 20 => ⟨S16x16x1024, .f32⟩
  | 21 => ⟨S1x1x1024, .f32⟩
  | 22 => ⟨S16x16x1024, .f32⟩
  | 23 => ⟨S16x16x1024, .f32⟩
  | 24 => ⟨S1024x5888, .f32⟩
  | 25 => ⟨S2048, .f32⟩
  | 26 => ⟨S16x16x5888, .f32⟩
  | 27 => ⟨S16x16x512, .f32⟩
  | 28 => ⟨S16x16x128, .f32⟩
  | 29 => ⟨S16x16x128, .f32⟩
  | 30 => ⟨S16x16x512, .f32⟩
  | 31 => ⟨S16x16x512, .f32⟩
  | 32 => ⟨S16x16x1024, .f32⟩
  | 33 => ⟨S16x16x1024, .f32⟩
  | 34 => ⟨S16x16x2048, .f32⟩
  | 35 => ⟨S1x1x2048, .f32⟩
  | 36 => ⟨S16x16x2048, .f32⟩
  | 37 => ⟨S16x16x2048, .f32⟩
  | 38 => ⟨S16x16x1024, .f32⟩
  | 39 => ⟨S16x16x1024, .f32⟩
  | 40 => ⟨S16x16x2x4x64, .f32⟩
  | 41 => ⟨S16x16x2x64, .f32⟩
  | 42 => ⟨S16x16x2x64, .f32⟩
  | 43 => ⟨S16x16x4x128, .f32⟩
  | 44 => ⟨S16x16x4x128, .f32⟩
  | 45 => ⟨S_, .f32⟩
  | 46 => ⟨S16x16x4x128, .f32⟩
  | 47 => ⟨S16x16x4x128, .f32⟩
  | 48 => ⟨S16x16x4x256, .f32⟩
  | 49 => ⟨S16x16x4x256, .f32⟩
  | 50 => ⟨S16x128x2x64, .f32⟩
  | 51 => ⟨S16x144x2x64, .f32⟩
  | 52 => ⟨S16x128x2x64, .f32⟩
  | 53 => ⟨S16x144x2x64, .f32⟩
  | 54 => ⟨S16x4x128x256, .f32⟩
  | 55 => ⟨S4, .f32⟩
  | 56 => ⟨S_, .f32⟩
  | 57 => ⟨S4, .f32⟩
  | 58 => ⟨S4, .f32⟩
  | 59 => ⟨S_, .f32⟩
  | 60 => ⟨S4, .f32⟩
  | 61 => ⟨S4, .f32⟩
  | 62 => ⟨S4, .f32⟩
  | 63 => ⟨S4, .f32⟩
  | 64 => ⟨S16, .f32⟩
  | 65 => ⟨S16x1, .f32⟩
  | 66 => ⟨S1x16, .f32⟩
  | 67 => ⟨S16x16, .f32⟩
  | 68 => ⟨S16x16, .f32⟩
  | 69 => ⟨S16x16, .f32⟩
  | 70 => ⟨S_, .f32⟩
  | 71 => ⟨S16x16, .f32⟩
  | 72 => ⟨S16x16, .i1⟩
  | 73 => ⟨S_, .f32⟩
  | 74 => ⟨S16x16, .f32⟩
  | 75 => ⟨S16x16, .f32⟩
  | 76 => ⟨S4x1x1, .f32⟩
  | 77 => ⟨S1x16x16, .f32⟩
  | 78 => ⟨S4x16x16, .f32⟩
  | 79 => ⟨S4x16x16, .f32⟩
  | 80 => ⟨S4x16x16, .f32⟩
  | 81 => ⟨S4x16x16, .f32⟩
  | 82 => ⟨S_, .f32⟩
  | 83 => ⟨S_, .f32⟩
  | 84 => ⟨S4x16x16, .i1⟩
  | 85 => ⟨S4x16x16, .f32⟩
  | 86 => ⟨S4x16x16, .f32⟩
  | 87 => ⟨S16x4x16x16, .f32⟩
  | 88 => ⟨S1x4x16x16, .f32⟩
  | 89 => ⟨S16x4x16x16, .f32⟩
  | 90 => ⟨S16x4x16x16, .f32⟩
  | 91 => ⟨S16x4x256x16, .f32⟩
  | 92 => ⟨S16x16x4x256, .f32⟩
  | 93 => ⟨S16x4x256x16, .f32⟩
  | 94 => ⟨S16x16x4x256, .f32⟩
  | 95 => ⟨S16x1, .f32⟩
  | 96 => ⟨S_, .f32⟩
  | 97 => ⟨S16x1, .f32⟩
  | 98 => ⟨S16x1, .f32⟩
  | 99 => ⟨S1x4, .f32⟩
  | 100 => ⟨S16x4, .f32⟩
  | 101 => ⟨S16x4, .f32⟩
  | 102 => ⟨S16x4, .f32⟩
  | 103 => ⟨S16x4, .f32⟩
  | 104 => ⟨S1x16x4x1, .f32⟩
  | 105 => ⟨S16x16x4x256, .f32⟩
  | 106 => ⟨S16x16x4x256, .f32⟩
  | 107 => ⟨S16x16x4x256, .f32⟩
  | 108 => ⟨S_, .f32⟩
  | 109 => ⟨S16, .f32⟩
  | 110 => ⟨S16, .f32⟩
  | 111 => ⟨S16x1, .f32⟩
  | 112 => ⟨S1x4, .f32⟩
  | 113 => ⟨S16x4, .f32⟩
  | 114 => ⟨S16x4, .f32⟩
  | 115 => ⟨S16x4, .f32⟩
  | 116 => ⟨S16x4, .f32⟩
  | 117 => ⟨S1x16x4x1, .f32⟩
  | 118 => ⟨S16x16x4x128, .f32⟩
  | 119 => ⟨S16x16x4x128, .f32⟩
  | 120 => ⟨S_, .f32⟩
  | 121 => ⟨S4, .f32⟩
  | 122 => ⟨S4, .f32⟩
  | 123 => ⟨S4, .f32⟩
  | 124 => ⟨S1x4x1x1, .f32⟩
  | 125 => ⟨S16x4x128x256, .f32⟩
  | 126 => ⟨S16x4x128x256, .f32⟩
  | 127 => ⟨S16x4x128x256, .f32⟩
  | _ => ⟨S16x16x1024, .f32⟩

abbrev hbmTy0_1 (i : Nat) : BufTy := match i % 128 with
  | 0 => ⟨S16x4x128x256, .f32⟩
  | 1 => ⟨S_, .f32⟩
  | 2 => ⟨S16x16x4, .f32⟩
  | 3 => ⟨S16x16x4x1, .f32⟩
  | 4 => ⟨S_, .f32⟩
  | 5 => ⟨S16x16x4x1, .f32⟩
  | 6 => ⟨S16x16x4x1, .f32⟩
  | 7 => ⟨S16x16x4x256, .f32⟩
  | 8 => ⟨S16x16x4x256, .f32⟩
  | 9 => ⟨S16x16x4x256, .f32⟩
  | 10 => ⟨S_, .f32⟩
  | 11 => ⟨S16x16x4, .f32⟩
  | 12 => ⟨S16x16x4x1, .f32⟩
  | 13 => ⟨S_, .f32⟩
  | 14 => ⟨S16x16x4x1, .f32⟩
  | 15 => ⟨S16x16x4x1, .f32⟩
  | 16 => ⟨S16x16x4x256, .f32⟩
  | 17 => ⟨S16x16x4x256, .f32⟩
  | 18 => ⟨S_, .f32⟩
  | 19 => ⟨S16x16x4x1, .f32⟩
  | 20 => ⟨S16x16x4x1, .f32⟩
  | 21 => ⟨S16x16x4x1, .f32⟩
  | 22 => ⟨S16x16x4x256, .f32⟩
  | 23 => ⟨S16x16x4x256, .f32⟩
  | 24 => ⟨S16x16x4x256, .f32⟩
  | 25 => ⟨S16x16x4x256, .f32⟩
  | 26 => ⟨S_, .f32⟩
  | 27 => ⟨S16x16x4x256, .f32⟩
  | 28 => ⟨S16x16x4x256, .f32⟩
  | 29 => ⟨S_, .f32⟩
  | 30 => ⟨S16x16x4x256, .f32⟩
  | 31 => ⟨S16x16x4x256, .f32⟩
  | 32 => ⟨S16x16x4x256, .f32⟩
  | 33 => ⟨S16x16x4x256, .f32⟩
  | 34 => ⟨S16x16x1024, .f32⟩
  | 35 => ⟨S256x1024, .f32⟩
  | 36 => ⟨S256x1024, .bf16⟩
  | 37 => ⟨S16x128x2x64, .f32⟩
  | 38 => ⟨S1x16x128x2x64, .f32⟩
  | 39 => ⟨S16x128x2x64, .f32⟩
  | 40 => ⟨S1x16x128x2x64, .f32⟩
  | _ => ⟨S16x16x1024, .f32⟩

abbrev hbmTy (i : Nat) : BufTy := match i / 128 with
  | 0 => hbmTy0_0 i
  | 1 => hbmTy0_1 i
  | _ => ⟨S16x16x1024, .f32⟩

abbrev bufTy : (tb : Table) → Fin (tcTables nBuf tb) → BufTy
  | .hbm, ⟨i, _⟩ => hbmTy i
  | _, _ => ⟨S16x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_2 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_3 : Ref sig .tc := ⟨.hbm, 56, rfl⟩
abbrev main_v45 : Ref sig .tc := ⟨.hbm, 57, rfl⟩
abbrev main_v46 : Ref sig .tc := ⟨.hbm, 58, rfl⟩
abbrev main_cst_4 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_5 : Ref sig .tc := ⟨.hbm, 70, rfl⟩
abbrev main_v57 : Ref sig .tc := ⟨.hbm, 71, rfl⟩
abbrev main_v58 : Ref sig .tc := ⟨.hbm, 72, rfl⟩
abbrev main_cst_6 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_cst_7 : Ref sig .tc := ⟨.hbm, 82, rfl⟩
abbrev main_call0_v0 : Ref sig .tc := ⟨.hbm, 83, rfl⟩
abbrev main_call0_v1 : Ref sig .tc := ⟨.hbm, 84, rfl⟩
abbrev main_call0_v2 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_cst_8 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_cst_9 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_cst_10 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_cst_11 : Ref sig .tc := ⟨.hbm, 129, rfl⟩
abbrev main_v107 : Ref sig .tc := ⟨.hbm, 130, rfl⟩
abbrev main_v108 : Ref sig .tc := ⟨.hbm, 131, rfl⟩
abbrev main_cst_12 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_cst_13 : Ref sig .tc := ⟨.hbm, 138, rfl⟩
abbrev main_v114 : Ref sig .tc := ⟨.hbm, 139, rfl⟩
abbrev main_v115 : Ref sig .tc := ⟨.hbm, 140, rfl⟩
abbrev main_cst_14 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_cst_15 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_call1_v0 : Ref sig .tc := ⟨.hbm, 152, rfl⟩
abbrev main_call1_v1 : Ref sig .tc := ⟨.hbm, 153, rfl⟩
abbrev main_call1_cst : Ref sig .tc := ⟨.hbm, 154, rfl⟩
abbrev main_call1_v2 : Ref sig .tc := ⟨.hbm, 155, rfl⟩
abbrev main_call1_v3 : Ref sig .tc := ⟨.hbm, 156, rfl⟩
abbrev main_call1_cst_0 : Ref sig .tc := ⟨.hbm, 157, rfl⟩
abbrev main_call1_v4 : Ref sig .tc := ⟨.hbm, 158, rfl⟩
abbrev main_call1_v5 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩

abbrev nD : Nat := 1
abbrev τ : Topo := Topo.v7x

variable {F : FTy → Type} [FloatOps F]
-- ==== StreamPrompt.lean ====
abbrev S4x8192x1024 : Shape := ⟨3, ![4, 8192, 1024]⟩
abbrev S1x1024 : Shape := ⟨2, ![1, 1024]⟩
abbrev S1x1024x5888 : Shape := ⟨3, ![1, 1024, 5888]⟩
abbrev S1x2048 : Shape := ⟨2, ![1, 2048]⟩
abbrev S32768x1024 : Shape := ⟨2, ![32768, 1024]⟩
abbrev S1024 : Shape := ⟨1, ![1024]⟩
abbrev S1024x5888 : Shape := ⟨2, ![1024, 5888]⟩
abbrev S2048 : Shape := ⟨1, ![2048]⟩
abbrev S32768x512 : Shape := ⟨2, ![32768, 512]⟩
abbrev S32768x128 : Shape := ⟨2, ![32768, 128]⟩
abbrev S256x1024 : Shape := ⟨2, ![256, 1024]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S1024x512 : Shape := ⟨2, ![1024, 512]⟩
abbrev S1024x128 : Shape := ⟨2, ![1024, 128]⟩
abbrev S1024x1024 : Shape := ⟨2, ![1024, 1024]⟩
abbrev S4x8192x2x64 : Shape := ⟨4, ![4, 8192, 2, 64]⟩
abbrev S4x128x2x64 : Shape := ⟨4, ![4, 128, 2, 64]⟩
abbrev S1x4x128x2x64 : Shape := ⟨5, ![1, 4, 128, 2, 64]⟩
abbrev S_ : Shape := ⟨0, ![]⟩
abbrev S4x4x128x256 : Shape := ⟨4, ![4, 4, 128, 256]⟩
abbrev S4 : Shape := ⟨1, ![4]⟩
abbrev S1x256 : Shape := ⟨2, ![1, 256]⟩
abbrev S256x256 : Shape := ⟨2, ![256, 256]⟩
abbrev S4x1x1 : Shape := ⟨3, ![4, 1, 1]⟩
abbrev S1x256x256 : Shape := ⟨3, ![1, 256, 256]⟩
abbrev S4x256x256 : Shape := ⟨3, ![4, 256, 256]⟩
abbrev S4x1 : Shape := ⟨2, ![4, 1]⟩
abbrev S4x256 : Shape := ⟨2, ![4, 256]⟩
abbrev S4x256x1 : Shape := ⟨3, ![4, 256, 1]⟩
abbrev S1x4x128x256 : Shape := ⟨4, ![1, 4, 128, 256]⟩
abbrev S1x1x128x256 : Shape := ⟨4, ![1, 1, 128, 256]⟩
abbrev S128x256 : Shape := ⟨2, ![128, 256]⟩
abbrev S1x256x1 : Shape := ⟨3, ![1, 256, 1]⟩
abbrev S1 : Shape := ⟨1, ![1]⟩

abbrev nBuf : Space → Nat
  | .hbm => 86
  | .vmem => 40
  | .smem => 1
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1x1024x5888, .f32⟩
  | .hbm, ⟨3, _⟩ => ⟨S1x2048, .f32⟩
  | .hbm, ⟨4, _⟩ => ⟨S32768x1024, .f32⟩
  | .hbm, ⟨5, _⟩ => ⟨S1024, .f32⟩
  | .hbm, ⟨6, _⟩ => ⟨S1x1024, .f32⟩
  | .hbm, ⟨7, _⟩ => ⟨S1024x5888, .f32⟩
  | .hbm, ⟨8, _⟩ => ⟨S1024x5888, .bf16⟩
  | .hbm, ⟨9, _⟩ => ⟨S2048, .f32⟩
  | .hbm, ⟨10, _⟩ => ⟨S1x2048, .f32⟩
  | .hbm, ⟨11, _⟩ => ⟨S32768x512, .bf16⟩
  | .hbm, ⟨12, _⟩ => ⟨S32768x128, .f32⟩
  | .hbm, ⟨13, _⟩ => ⟨S32768x128, .f32⟩
  | .hbm, ⟨14, _⟩ => ⟨S32768x512, .bf16⟩
  | .hbm, ⟨15, _⟩ => ⟨S32768x512, .bf16⟩
  | .hbm, ⟨16, _⟩ => ⟨S32768x1024, .bf16⟩
  | .hbm, ⟨17, _⟩ => ⟨S32768x1024, .f32⟩
  | .hbm, ⟨18, _⟩ => ⟨S32768x1024, .f32⟩
  | .hbm, ⟨19, _⟩ => ⟨S32768x1024, .f32⟩
  | .hbm, ⟨20, _⟩ => ⟨S4x8192x2x64, .f32⟩
  | .hbm, ⟨21, _⟩ => ⟨S4x128x2x64, .f32⟩
  | .hbm, ⟨22, _⟩ => ⟨S1x4x128x2x64, .f32⟩
  | .hbm, ⟨23, _⟩ => ⟨S4x8192x2x64, .f32⟩
  | .hbm, ⟨24, _⟩ => ⟨S4x128x2x64, .f32⟩
  | .hbm, ⟨25, _⟩ => ⟨S1x4x128x2x64, .f32⟩
  | .hbm, ⟨26, _⟩ => ⟨S_, .f32⟩
  | .hbm, ⟨27, _⟩ => ⟨S4x4x128x256, .f32⟩
  | .hbm, ⟨28, _⟩ => ⟨S4, .f32⟩
  | .hbm, ⟨29, _⟩ => ⟨S_, .f32⟩
  | .hbm, ⟨30, _⟩ => ⟨S4, .f32⟩
  | .hbm, ⟨31, _⟩ => ⟨S4, .f32⟩
  | .hbm, ⟨32, _⟩ => ⟨S_, .f32⟩
  | .hbm, ⟨33, _⟩ => ⟨S4, .f32⟩
  | .hbm, ⟨34, _⟩ => ⟨S4, .f32⟩
  | .hbm, ⟨35, _⟩ => ⟨S4, .f32⟩
  | .hbm, ⟨36, _⟩ => ⟨S4, .f32⟩
  | .hbm, ⟨37, _⟩ => ⟨S256, .f32⟩
  | .hbm, ⟨38, _⟩ => ⟨S256x1, .f32⟩
  | .hbm, ⟨39, _⟩ => ⟨S1x256, .f32⟩
  | .hbm, ⟨40, _⟩ => ⟨S256x256, .f32⟩
  | .hbm, ⟨41, _⟩ => ⟨S256x256, .f32⟩
  | .hbm, ⟨42, _⟩ => ⟨S256x256, .f32⟩
  | .hbm, ⟨43, _⟩ => ⟨S_, .f32⟩
  | .hbm, ⟨44, _⟩ => ⟨S256x256, .f32⟩
  | .hbm, ⟨45, _⟩ => ⟨S256x256, .i1⟩
  | .hbm, ⟨46, _⟩ => ⟨S_, .f32⟩
  | .hbm, ⟨47, _⟩ => ⟨S256x256, .f32⟩
  | .hbm, ⟨48, _⟩ => ⟨S256x256, .f32⟩
  | .hbm, ⟨49, _⟩ => ⟨S4x1x1, .f32⟩
  | .hbm, ⟨50, _⟩ => ⟨S1x256x256, .f32⟩
  | .hbm, ⟨51, _⟩ => ⟨S4x256x256, .f32⟩
  | .hbm, ⟨52, _⟩ => ⟨S4x256x256, .f32⟩
  | .hbm, ⟨53, _⟩ => ⟨S4x256x256, .f32⟩
  | .hbm, ⟨54, _⟩ => ⟨S4x256x256, .f32⟩
  | .hbm, ⟨55, _⟩ => ⟨S_, .f32⟩
  | .hbm, ⟨56, _⟩ => ⟨S_, .f32⟩
  | .hbm, ⟨57, _⟩ => ⟨S4x256x256, .i1⟩
  | .hbm, ⟨58, _⟩ => ⟨S4x256x256, .f32⟩
  | .hbm, ⟨59, _⟩ => ⟨S4x256x256, .f32⟩
  | .hbm, ⟨60, _⟩ => ⟨S1x256, .f32⟩
  | .hbm, ⟨61, _⟩ => ⟨S_, .f32⟩
  | .hbm, ⟨62, _⟩ => ⟨S1x256, .f32⟩
  | .hbm, ⟨63, _⟩ => ⟨S1x256, .f32⟩
  | .hbm, ⟨64, _⟩ => ⟨S4x1, .f32⟩
  | .hbm, ⟨65, _⟩ => ⟨S4x256, .f32⟩
  | .hbm, ⟨66, _⟩ => ⟨S4x256, .f32⟩
  | .hbm, ⟨67, _⟩ => ⟨S4x256, .f32⟩
  | .hbm, ⟨68, _⟩ => ⟨S4x256, .f32⟩
  | .hbm, ⟨69, _⟩ => ⟨S4x256x1, .f32⟩
  | .hbm, ⟨70, _⟩ => ⟨S_, .f32⟩
  | .hbm, ⟨71, _⟩ => ⟨S256, .f32⟩
  | .hbm, ⟨72, _⟩ => ⟨S256, .f32⟩
  | .hbm, ⟨73, _⟩ => ⟨S1x256, .f32⟩
  | .hbm, ⟨74, _⟩ => ⟨S4x1, .f32⟩
  | .hbm, ⟨75, _⟩ => ⟨S4x256, .f32⟩
  | .hbm, ⟨76, _⟩ => ⟨S4x256, .f32⟩
  | .hbm, ⟨77, _⟩ => ⟨S4x256, .f32⟩
  | .hbm, ⟨78, _⟩ => ⟨S4x256, .f32⟩
  | .hbm, ⟨79, _⟩ => ⟨S4x256x1, .f32⟩
  | .hbm, ⟨80, _⟩ => ⟨S_, .f32⟩
  | .hbm, ⟨81, _⟩ => ⟨S4, .f32⟩
  | .hbm, ⟨82, _⟩ => ⟨S4, .f32⟩
  | .hbm, ⟨83, _⟩ => ⟨S4, .f32⟩
  | .hbm, ⟨84, _⟩ => ⟨S32768x1024, .bf16⟩
  | .hbm, ⟨85, _⟩ => ⟨S4x4x128x256, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x5888, .bf16⟩
  | .local _ .vmem, ⟨4, _⟩ => ⟨S1x2048, .f32⟩
  | .local _ .vmem, ⟨5, _⟩ => ⟨S256x512, .bf16⟩
  | .local _ .vmem, ⟨6, _⟩ => ⟨S256x512, .bf16⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x512, .bf16⟩
  | .local _ .vmem, ⟨24, _⟩ => ⟨S256x512, .bf16⟩
  | .local _ .vmem, ⟨25, _⟩ => ⟨S256x512, .bf16⟩
  | .local _ .vmem, ⟨26, _⟩ => ⟨S256x512, .bf16⟩
  | .local _ .vmem, ⟨27, _⟩ => ⟨S256x1024, .bf16⟩
  | .local _ .vmem, ⟨28, _⟩ => ⟨S256x1024, .bf16⟩
  | .local _ .vmem, ⟨29, _⟩ => ⟨S256x1024, .f32⟩
  | .local _ .vmem, ⟨30, _⟩ => ⟨S256x1024, .f32⟩
  | .local _ .vmem, ⟨31, _⟩ => ⟨S1x4x128x256, .f32⟩
  | .local _ .vmem, ⟨32, _⟩ => ⟨S1x4x128x256, .f32⟩
  | .local _ .vmem, ⟨33, _⟩ => ⟨S4x256x256, .f32⟩
  | .local _ .vmem, ⟨34, _⟩ => ⟨S4x256x1, .f32⟩
  | .local _ .vmem, ⟨35, _⟩ => ⟨S4x256x1, .f32⟩
  | .local _ .vmem, ⟨36, _⟩ => ⟨S256x1024, .bf16⟩
  | .local _ .vmem, ⟨37, _⟩ => ⟨S256x1024, .bf16⟩
  | .local _ .vmem, ⟨38, _⟩ => ⟨S1x4x128x256, .f32⟩
  | .local _ .vmem, ⟨39, _⟩ => ⟨S1x4x128x256, .f32⟩
  | .local _ .smem, ⟨0, _⟩ => ⟨S4, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .smem, ⟨0, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev main_v7_3 : Ref sig .tc := ⟨.hbm, 14, rfl⟩
abbrev main_v7_4 : Ref sig .tc := ⟨.hbm, 15, rfl⟩
abbrev main_v7_5 : Ref sig .tc := ⟨.hbm, 16, rfl⟩
abbrev main_v7_6 : Ref sig .tc := ⟨.hbm, 17, rfl⟩
abbrev main_v7_7 : Ref sig .tc := ⟨.hbm, 18, rfl⟩
abbrev main_v7_8 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_v15 : Ref sig .tc := ⟨.hbm, 28, rfl⟩
abbrev main_cst_0 : Ref sig .tc := ⟨.hbm, 29, rfl⟩
abbrev main_v16 : Ref sig .tc := ⟨.hbm, 30, rfl⟩
abbrev main_v17 : Ref sig .tc := ⟨.hbm, 31, rfl⟩
abbrev main_cst_1 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_2 : Ref sig .tc := ⟨.hbm, 43, rfl⟩
abbrev main_v28 : Ref sig .tc := ⟨.hbm, 44, rfl⟩
abbrev main_v29 : Ref sig .tc := ⟨.hbm, 45, rfl⟩
abbrev main_cst_3 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_4 : Ref sig .tc := ⟨.hbm, 55, rfl⟩
abbrev main_call0_v0 : Ref sig .tc := ⟨.hbm, 56, rfl⟩
abbrev main_call0_v1 : Ref sig .tc := ⟨.hbm, 57, rfl⟩
abbrev main_call0_v2 : Ref sig .tc := ⟨.hbm, 58, rfl⟩
abbrev main_v38 : Ref sig .tc := ⟨.hbm, 59, rfl⟩
abbrev main_v39 : Ref sig .tc := ⟨.hbm, 60, rfl⟩
abbrev main_cst_5 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_6 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_7 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60_0 : Ref sig .tc := ⟨.hbm, 84, rfl⟩
abbrev main_v60_1 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc1_stg0_0 : Ref sig .tc := ⟨.vmem, 23, rfl⟩
abbrev cc1_stg0_1 : Ref sig .tc := ⟨.vmem, 24, rfl⟩
abbrev cc1_stg1_0 : Ref sig .tc := ⟨.vmem, 25, rfl⟩
abbrev cc1_stg1_1 : Ref sig .tc := ⟨.vmem, 26, rfl⟩
abbrev cc1_stg2_0 : Ref sig .tc := ⟨.vmem, 27, rfl⟩
abbrev cc1_stg2_1 : Ref sig .tc := ⟨.vmem, 28, rfl⟩
abbrev cc1_stg3_0 : Ref sig .tc := ⟨.vmem, 29, rfl⟩
abbrev cc1_stg3_1 : Ref sig .tc := ⟨.vmem, 30, rfl⟩
abbrev cc1_stg4_0 : Ref sig .tc := ⟨.vmem, 31, rfl⟩
abbrev cc1_stg4_1 : Ref sig .tc := ⟨.vmem, 32, rfl⟩
abbrev cc1_stg5_0 : Ref sig .tc := ⟨.vmem, 33, rfl⟩
abbrev cc1_stg6_0 : Ref sig .tc := ⟨.vmem, 34, rfl⟩
abbrev cc1_stg7_0 : Ref sig .tc := ⟨.vmem, 35, rfl⟩
abbrev cc1_stg9_0 : Ref sig .tc := ⟨.vmem, 36, rfl⟩
abbrev cc1_stg9_1 : Ref sig .tc := ⟨.vmem, 37, rfl⟩
abbrev cc1_stg10_0 : Ref sig .tc := ⟨.vmem, 38, rfl⟩
abbrev cc1_stg10_1 : Ref sig .tc := ⟨.vmem, 39, rfl⟩
abbrev cc1_stg8_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc1_sem0_0 : DmaSem sig := 23
abbrev cc1_sem0_1 : DmaSem sig := 24
abbrev cc1_sem1_0 : DmaSem sig := 25
abbrev cc1_sem1_1 : DmaSem sig := 26
abbrev cc1_sem2_0 : DmaSem sig := 27
abbrev cc1_sem2_1 : DmaSem sig := 28
abbrev cc1_sem3_0 : DmaSem sig := 29
abbrev cc1_sem3_1 : DmaSem sig := 30
abbrev cc1_sem4_0 : DmaSem sig := 31
abbrev cc1_sem4_1 : DmaSem sig := 32
abbrev cc1_sem5_0 : DmaSem sig := 33
abbrev cc1_sem6_0 : DmaSem sig := 34
abbrev cc1_sem7_0 : DmaSem sig := 35
abbrev cc1_sem8_0 : DmaSem sig := 36
abbrev cc1_sem9_0 : DmaSem sig := 37
abbrev cc1_sem9_1 : DmaSem sig := 38
abbrev cc1_sem10_0 : DmaSem sig := 39
abbrev cc1_sem10_1 : DmaSem sig := 40

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5888 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨2, ![4, 32], ![false, false]⟩

def cc1_transform_0 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc1_transform_3 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_8 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc1_transform_10 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S256x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S256x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S256x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x4x128x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 1 → Memref sig .tc .vmem S4x256x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S4x256x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S4x256x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .smem S4 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 2 → Memref sig .tc .vmem S256x1024 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S1x4x128x256 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, false]
-- ==== ReferenceStreamPromptIdeal.lean ====
abbrev S4x8192x1024 : Shape := ⟨3, ![4, 8192, 1024]⟩
abbrev S1x1024 : Shape := ⟨2, ![1, 1024]⟩
abbrev S1x1024x5888 : Shape := ⟨3, ![1, 1024, 5888]⟩
abbrev S1x2048 : Shape := ⟨2, ![1, 2048]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1024x5888 : Shape := ⟨2, ![1024, 5888]⟩
abbrev S2048 : Shape := ⟨1, ![2048]⟩
abbrev S4x8192x5888 : Shape := ⟨3, ![4, 8192, 5888]⟩
abbrev S4x8192x512 : Shape := ⟨3, ![4, 8192, 512]⟩
abbrev S4x8192x128 : Shape := ⟨3, ![4, 8192, 128]⟩
abbrev S4x8192x2048 : Shape := ⟨3, ![4, 8192, 2048]⟩
abbrev S1x1x2048 : Shape := ⟨3, ![1, 1, 2048]⟩
abbrev S4x8192x2x4x64 : Shape := ⟨5, ![4, 8192, 2, 4, 64]⟩
abbrev S4x8192x2x64 : Shape := ⟨4, ![4, 8192, 2, 64]⟩
abbrev S4x8192x4x128 : Shape := ⟨4, ![4, 8192, 4, 128]⟩
abbrev S4x8192x4x256 : Shape := ⟨4, ![4, 8192, 4, 256]⟩
abbrev S4x4x128x256 : Shape := ⟨4, ![4, 4, 128, 256]⟩
abbrev S4x128x64x4x128 : Shape := ⟨5, ![4, 128, 64, 4, 128]⟩
abbrev S128x4x64x4x128 : Shape := ⟨5, ![128, 4, 64, 4, 128]⟩
abbrev S4x128x64x4x256 : Shape := ⟨5, ![4, 128, 64, 4, 256]⟩
abbrev S128x4x64x4x256 : Shape := ⟨5, ![128, 4, 64, 4, 256]⟩
abbrev S1x4x64x4x128 : Shape := ⟨5, ![1, 4, 64, 4, 128]⟩
abbrev S4x64x4x128 : Shape := ⟨4, ![4, 64, 4, 128]⟩
abbrev S1x4x64x4x256 : Shape := ⟨5, ![1, 4, 64, 4, 256]⟩
abbrev S4x64x4x256 : Shape := ⟨4, ![4, 64, 4, 256]⟩
abbrev S4 : Shape := ⟨1, ![4]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S4x1x1 : Shape := ⟨3, ![4, 1, 1]⟩
abbrev S1x64x64 : Shape := ⟨3, ![1, 64, 64]⟩
abbrev S4x64x64 : Shape := ⟨3, ![4, 64, 64]⟩
abbrev S4x4x64x64 : Shape := ⟨4, ![4, 4, 64, 64]⟩
abbrev S1x4x64x64 : Shape := ⟨4, ![1, 4, 64, 64]⟩
abbrev S4x4x256x64 : Shape := ⟨4, ![4, 4, 256, 64]⟩
abbrev S1x4 : Shape := ⟨2, ![1, 4]⟩
abbrev S64x4 : Shape := ⟨2, ![64, 4]⟩
abbrev S1x64x4x1 : Shape := ⟨4, ![1, 64, 4, 1]⟩
abbrev S1x4x1x1 : Shape := ⟨4, ![1, 4, 1, 1]⟩
abbrev S4x8192x4 : Shape := ⟨3, ![4, 8192, 4]⟩
abbrev S4x8192x4x1 : Shape := ⟨4, ![4, 8192, 4, 1]⟩
abbrev S32768x1024 : Shape := ⟨2, ![32768, 1024]⟩
abbrev S4x128x2x64 : Shape := ⟨4, ![4, 128, 2, 64]⟩
abbrev S1x4x128x2x64 : Shape := ⟨5, ![1, 4, 128, 2, 64]⟩

abbrev nBuf : Space → Nat
  | .hbm => 208
  | .vmem => 0
  | .smem => 0
  | _ => 0

abbrev hbmTy0_0 (i : Nat) : BufTy := match i % 128 with
  | 0 => ⟨S4x8192x1024, .f32⟩
  | 1 => ⟨S1x1024, .f32⟩
  | 2 => ⟨S1x1024x5888, .f32⟩
  | 3 => ⟨S1x2048, .f32⟩
  | 4 => ⟨S1024, .f32⟩
  | 5 => ⟨S4x8192x1024, .f32⟩
  | 6 => ⟨S_, .f32⟩
  | 7 => ⟨S4x8192, .f32⟩
  | 8 => ⟨S4x8192x1, .f32⟩
  | 9 => ⟨S_, .f32⟩
  | 10 => ⟨S4x8192x1, .f32⟩
  | 11 => ⟨S4x8192x1, .f32⟩
  | 12 => ⟨S_, .f32⟩
  | 13 => ⟨S4x8192x1, .f32⟩
  | 14 => ⟨S4x8192x1, .f32⟩
  | 15 => ⟨S4x8192x1, .f32⟩
  | 16 => ⟨S4x8192x1024, .f32⟩
  | 17 => ⟨S4x8192x1024, .f32⟩
  | 18 => ⟨S1x1x1024, .f32⟩
  | 19 => ⟨S4x8192x1024, .f32⟩
  | 20 => ⟨S4x8192x1024, .f32⟩
  | 21 => ⟨S1024x5888, .f32⟩
  | 22 => ⟨S2048, .f32⟩
  | 23 => ⟨S4x8192x5888, .f32⟩
  | 24 => ⟨S4x8192x512, .f32⟩
  | 25 => ⟨S4x8192x128, .f32⟩
  | 26 => ⟨S4x8192x128, .f32⟩
  | 27 => ⟨S4x8192x512, .f32⟩
  | 28 => ⟨S4x8192x512, .f32⟩
  | 29 => ⟨S4x8192x1024, .f32⟩
  | 30 => ⟨S4x8192x1024, .f32⟩
  | 31 => ⟨S4x8192x2048, .f32⟩
  | 32 => ⟨S1x1x2048, .f32⟩
  | 33 => ⟨S4x8192x2048, .f32⟩
  | 34 => ⟨S4x8192x2048, .f32⟩
  | 35 => ⟨S4x8192x1024, .f32⟩
  | 36 => ⟨S4x8192x1024, .f32⟩
  | 37 => ⟨S4x8192x2x4x64, .f32⟩
  | 38 => ⟨S4x8192x2x64, .f32⟩
  | 39 => ⟨S4x8192x2x64, .f32⟩
  | 40 => ⟨S4x8192x4x128, .f32⟩
  | 41 => ⟨S4x8192x4x128, .f32⟩
  | 42 => ⟨S_, .f32⟩
  | 43 => ⟨S4x8192x4x128, .f32⟩
  | 44 => ⟨S4x8192x4x128, .f32⟩
  | 45 => ⟨S4x8192x4x256, .f32⟩
  | 46 => ⟨S4x8192x4x256, .f32⟩
  | 47 => ⟨S_, .f32⟩
  | 48 => ⟨S4x4x128x256, .f32⟩
  | 49 => ⟨S4x128x64x4x128, .f32⟩
  | 50 => ⟨S128x4x64x4x128, .f32⟩
  | 51 => ⟨S4x128x64x4x128, .f32⟩
  | 52 => ⟨S128x4x64x4x128, .f32⟩
  | 53 => ⟨S4x128x64x4x256, .f32⟩
  | 54 => ⟨S128x4x64x4x256, .f32⟩
  | 55 => ⟨S_, .f32⟩
  | 56 => ⟨S128x4x64x4x256, .f32⟩
  | 57 => ⟨S_, .i32⟩
  | 58 => ⟨S128x4x64x4x128, .f32⟩
  | 59 => ⟨S128x4x64x4x128, .f32⟩
  | 60 => ⟨S128x4x64x4x256, .f32⟩
  | 61 => ⟨S_, .i32⟩
  | 62 => ⟨S4x4x128x256, .f32⟩
  | 63 => ⟨S128x4x64x4x256, .f32⟩
  | 64 => ⟨S_, .i32⟩
  | 65 => ⟨S_, .i1⟩
  | 66 => ⟨S_, .i32⟩
  | 67 => ⟨S_, .i32⟩
  | 68 => ⟨S_, .i32⟩
  | 69 => ⟨S_, .i32⟩
  | 70 => ⟨S1x4x64x4x128, .f32⟩
  | 71 => ⟨S4x64x4x128, .f32⟩
  | 72 => ⟨S_, .i32⟩
  | 73 => ⟨S_, .i32⟩
  | 74 => ⟨S_, .i32⟩
  | 75 => ⟨S_, .i32⟩
  | 76 => ⟨S1x4x64x4x128, .f32⟩
  | 77 => ⟨S4x64x4x128, .f32⟩
  | 78 => ⟨S_, .i32⟩
  | 79 => ⟨S_, .i32⟩
  | 80 => ⟨S_, .i32⟩
  | 81 => ⟨S_, .i32⟩
  | 82 => ⟨S1x4x64x4x256, .f32⟩
  | 83 => ⟨S4x64x4x256, .f32⟩
  | 84 => ⟨S4, .f32⟩
  | 85 => ⟨S_, .f32⟩
  | 86 => ⟨S4, .f32⟩
  | 87 => ⟨S4, .f32⟩
  | 88 => ⟨S_, .f32⟩
  | 89 => ⟨S4, .f32⟩
  | 90 => ⟨S4, .f32⟩
  | 91 => ⟨S4, .f32⟩
  | 92 => ⟨S4, .f32⟩
  | 93 => ⟨S64, .f32⟩
  | 94 => ⟨S64x1, .f32⟩
  | 95 => ⟨S1x64, .f32⟩
  | 96 => ⟨S64x64, .f32⟩
  | 97 => ⟨S64x64, .f32⟩
  | 98 => ⟨S64x64, .f32⟩
  | 99 => ⟨S_, .f32⟩
  | 100 => ⟨S64x64, .f32⟩
  | 101 => ⟨S64x64, .i1⟩
  | 102 => ⟨S_, .f32⟩
  | 103 => ⟨S64x64, .f32⟩
  | 104 => ⟨S64x64, .f32⟩
  | 105 => ⟨S4x1x1, .f32⟩
  | 106 => ⟨S1x64x64, .f32⟩
  | 107 => ⟨S4x64x64, .f32⟩
  | 108 => ⟨S4x64x64, .f32⟩
  | 109 => ⟨S4x64x64, .f32⟩
  | 110 => ⟨S4x64x64, .f32⟩
  | 111 => ⟨S_, .f32⟩
  | 112 => ⟨S_, .f32⟩
  | 113 => ⟨S4x64x64, .i1⟩
  | 114 => ⟨S4x64x64, .f32⟩
  | 115 => ⟨S4x64x64, .f32⟩
  | 116 => ⟨S4x4x64x64, .f32⟩
  | 117 => ⟨S1x4x64x64, .f32⟩
  | 118 => ⟨S4x4x64x64, .f32⟩
  | 119 => ⟨S4x4x64x64, .f32⟩
  | 120 => ⟨S4x4x256x64, .f32⟩
  | 121 => ⟨S4x64x4x256, .f32⟩
  | 122 => ⟨S4x4x256x64, .f32⟩
  | 123 => ⟨S4x64x4x256, .f32⟩
  | 124 => ⟨S64x1, .f32⟩
  | 125 => ⟨S_, .f32⟩
  | 126 => ⟨S64x1, .f32⟩
  | 127 => ⟨S64x1, .f32⟩
  | _ => ⟨S4x8192x1024, .f32⟩

abbrev hbmTy0_1 (i : Nat) : BufTy := match i % 128 with
  | 0 => ⟨S1x4, .f32⟩
  | 1 => ⟨S64x4, .f32⟩
  | 2 => ⟨S64x4, .f32⟩
  | 3 => ⟨S64x4, .f32⟩
  | 4 => ⟨S64x4, .f32⟩
  | 5 => ⟨S1x64x4x1, .f32⟩
  | 6 => ⟨S4x64x4x256, .f32⟩
  | 7 => ⟨S4x64x4x256, .f32⟩
  | 8 => ⟨S4x64x4x256, .f32⟩
  | 9 => ⟨S_, .f32⟩
  | 10 => ⟨S64, .f32⟩
  | 11 => ⟨S64, .f32⟩
  | 12 => ⟨S64x1, .f32⟩
  | 13 => ⟨S1x4, .f32⟩
  | 14 => ⟨S64x4, .f32⟩
  | 15 => ⟨S64x4, .f32⟩
  | 16 => ⟨S64x4, .f32⟩
  | 17 => ⟨S64x4, .f32⟩
  | 18 => ⟨S1x64x4x1, .f32⟩
  | 19 => ⟨S4x64x4x128, .f32⟩
  | 20 => ⟨S4x64x4x128, .f32⟩
  | 21 => ⟨S_, .f32⟩
  | 22 => ⟨S4, .f32⟩
  | 23 => ⟨S4, .f32⟩
  | 24 => ⟨S4, .f32⟩
  | 25 => ⟨S1x4x1x1, .f32⟩
  | 26 => ⟨S4x4x128x256, .f32⟩
  | 27 => ⟨S4x4x128x256, .f32⟩
  | 28 => ⟨S4x4x128x256, .f32⟩
  | 29 => ⟨S4x4x128x256, .f32⟩
  | 30 => ⟨S1x4x64x4x256, .f32⟩
  | 31 => ⟨S_, .i32⟩
  | 32 => ⟨S_, .i32⟩
  | 33 => ⟨S_, .i32⟩
  | 34 => ⟨S_, .i32⟩
  | 35 => ⟨S128x4x64x4x256, .f32⟩
  | 36 => ⟨S_, .i32⟩
  | 37 => ⟨S_, .i32⟩
  | 38 => ⟨S4x128x64x4x256, .f32⟩
  | 39 => ⟨S4x8192x4x256, .f32⟩
  | 40 => ⟨S_, .f32⟩
  | 41 => ⟨S4x8192x4, .f32⟩
  | 42 => ⟨S4x8192x4x1, .f32⟩
  | 43 => ⟨S_, .f32⟩
  | 44 => ⟨S4x8192x4x1, .f32⟩
  | 45 => ⟨S4x8192x4x1, .f32⟩
  | 46 => ⟨S4x8192x4x256, .f32⟩
  | 47 => ⟨S4x8192x4x256, .f32⟩
  | 48 => ⟨S4x8192x4x256, .f32⟩
  | 49 => ⟨S_, .f32⟩
  | 50 => ⟨S4x8192x4, .f32⟩
  | 51 => ⟨S4x8192x4x1, .f32⟩
  | 52 => ⟨S_, .f32⟩
  | 53 => ⟨S4x8192x4x1, .f32⟩
  | 54 => ⟨S4x8192x4x1, .f32⟩
  | 55 => ⟨S4x8192x4x256, .f32⟩
  | 56 => ⟨S4x8192x4x256, .f32⟩
  | 57 => ⟨S_, .f32⟩
  | 58 => ⟨S4x8192x4x1, .f32⟩
  | 59 => ⟨S4x8192x4x1, .f32⟩
  | 60 => ⟨S4x8192x4x1, .f32⟩
  | 61 => ⟨S4x8192x4x256, .f32⟩
  | 62 => ⟨S4x8192x4x256, .f32⟩
  | 63 => ⟨S4x8192x4x256, .f32⟩
  | 64 => ⟨S4x8192x4x256, .f32⟩
  | 65 => ⟨S_, .f32⟩
  | 66 => ⟨S4x8192x4x256, .f32⟩
  | 67 => ⟨S4x8192x4x256, .f32⟩
  | 68 => ⟨S_, .f32⟩
  | 69 => ⟨S4x8192x4x256, .f32⟩
  | 70 => ⟨S4x8192x4x256, .f32⟩
  | 71 => ⟨S4x8192x4x256, .f32⟩
  | 72 => ⟨S4x8192x4x256, .f32⟩
  | 73 => ⟨S4x8192x1024, .f32⟩
  | 74 => ⟨S32768x1024, .f32⟩
  | 75 => ⟨S32768x1024, .bf16⟩
  | 76 => ⟨S4x128x2x64, .f32⟩
  | 77 => ⟨S1x4x128x2x64, .f32⟩
  | 78 => ⟨S4x128x2x64, .f32⟩
  | 79 => ⟨S1x4x128x2x64, .f32⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_cst_2 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_cst_3 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_cst_4 : Ref sig .tc := ⟨.hbm, 55, rfl⟩
abbrev main_v46 : Ref sig .tc := ⟨.hbm, 56, rfl⟩
abbrev main_c : Ref sig .tc := ⟨.hbm, 57, rfl⟩
abbrev main_v47_0 : Ref sig .tc := ⟨.hbm, 58, rfl⟩
abbrev main_v47_1 : Ref sig .tc := ⟨.hbm, 59, rfl⟩
abbrev main_v47_2 : Ref sig .tc := ⟨.hbm, 60, rfl⟩
abbrev main_v47_3 : Ref sig .tc := ⟨.hbm, 61, rfl⟩
abbrev main_v47_4 : Ref sig .tc := ⟨.hbm, 62, rfl⟩
abbrev main_v47_5 : Ref sig .tc := ⟨.hbm, 63, rfl⟩
abbrev main_while0c_c_15 : Ref sig .tc := ⟨.hbm, 64, rfl⟩
abbrev main_while0c_v77 : Ref sig .tc := ⟨.hbm, 65, rfl⟩
abbrev main_while0b_call0_c : Ref sig .tc := ⟨.hbm, 66, rfl⟩
abbrev main_while0b_call0_c_0 : Ref sig .tc := ⟨.hbm, 67, rfl⟩
abbrev main_while0b_call0_c_1 : Ref sig .tc := ⟨.hbm, 68, rfl⟩
abbrev main_while0b_call0_c_2 : Ref sig .tc := ⟨.hbm, 69, rfl⟩
abbrev main_while0b_call0_v0 : Ref sig .tc := ⟨.hbm, 70, rfl⟩
abbrev main_while0b_v77 : Ref sig .tc := ⟨.hbm, 71, rfl⟩
abbrev main_while0b_call1_c : Ref sig .tc := ⟨.hbm, 72, rfl⟩
abbrev main_while0b_call1_c_0 : Ref sig .tc := ⟨.hbm, 73, rfl⟩
abbrev main_while0b_call1_c_1 : Ref sig .tc := ⟨.hbm, 74, rfl⟩
abbrev main_while0b_call1_c_2 : Ref sig .tc := ⟨.hbm, 75, rfl⟩
abbrev main_while0b_call1_v0 : Ref sig .tc := ⟨.hbm, 76, rfl⟩
abbrev main_while0b_v78 : Ref sig .tc := ⟨.hbm, 77, rfl⟩
abbrev main_while0b_call2_c : Ref sig .tc := ⟨.hbm, 78, rfl⟩
abbrev main_while0b_call2_c_0 : Ref sig .tc := ⟨.hbm, 79, rfl⟩
abbrev main_while0b_call2_c_1 : Ref sig .tc := ⟨.hbm, 80, rfl⟩
abbrev main_while0b_call2_c_2 : Ref sig .tc := ⟨.hbm, 81, rfl⟩
abbrev main_while0b_call2_v0 : Ref sig .tc := ⟨.hbm, 82, rfl⟩
abbrev main_while0b_v79 : Ref sig .tc := ⟨.hbm, 83, rfl⟩
abbrev main_while0b_v80 : Ref sig .tc := ⟨.hbm, 84, rfl⟩
abbrev main_while0b_cst_15 : Ref sig .tc := ⟨.hbm, 85, rfl⟩
abbrev main_while0b_v81 : Ref sig .tc := ⟨.hbm, 86, rfl⟩
abbrev main_while0b_v82 : Ref sig .tc := ⟨.hbm, 87, rfl⟩
abbrev main_while0b_cst_16 : Ref sig .tc := ⟨.hbm, 88, rfl⟩
abbrev main_while0b_v83 : Ref sig .tc := ⟨.hbm, 89, rfl⟩
abbrev main_while0b_v84 : Ref sig .tc := ⟨.hbm, 90, rfl⟩
abbrev main_while0b_v85 : Ref sig .tc := ⟨.hbm, 91, rfl⟩
abbrev main_while0b_v86 : Ref sig .tc := ⟨.hbm, 92, rfl⟩
abbrev main_while0b_v87 : Ref sig .tc := ⟨.hbm, 93, rfl⟩
abbrev main_while0b_v88 : Ref sig .tc := ⟨.hbm, 94, rfl⟩
abbrev main_while0b_v89 : Ref sig .tc := ⟨.hbm, 95, rfl⟩
abbrev main_while0b_v90 : Ref sig .tc := ⟨.hbm, 96, rfl⟩
abbrev main_while0b_v91 : Ref sig .tc := ⟨.hbm, 97, rfl⟩
abbrev main_while0b_v92 : Ref sig .tc := ⟨.hbm, 98, rfl⟩
abbrev main_while0b_cst_17 : Ref sig .tc := ⟨.hbm, 99, rfl⟩
abbrev main_while0b_v93 : Ref sig .tc := ⟨.hbm, 100, rfl⟩
abbrev main_while0b_v94 : Ref sig .tc := ⟨.hbm, 101, rfl⟩
abbrev main_while0b_cst_18 : Ref sig .tc := ⟨.hbm, 102, rfl⟩
abbrev main_while0b_v95 : Ref sig .tc := ⟨.hbm, 103, rfl⟩
abbrev main_while0b_v96 : Ref sig .tc := ⟨.hbm, 104, rfl⟩
abbrev main_while0b_v97 : Ref sig .tc := ⟨.hbm, 105, rfl⟩
abbrev main_while0b_v98 : Ref sig .tc := ⟨.hbm, 106, rfl⟩
abbrev main_while0b_v99 : Ref sig .tc := ⟨.hbm, 107, rfl⟩
abbrev main_while0b_v100 : Ref sig .tc := ⟨.hbm, 108, rfl⟩
abbrev main_while0b_v101 : Ref sig .tc := ⟨.hbm, 109, rfl⟩
abbrev main_while0b_v102 : Ref sig .tc := ⟨.hbm, 110, rfl⟩
abbrev main_while0b_cst_19 : Ref sig .tc := ⟨.hbm, 111, rfl⟩
abbrev main_while0b_call3_v0 : Ref sig .tc := ⟨.hbm, 112, rfl⟩
abbrev main_while0b_call3_v1 : Ref sig .tc := ⟨.hbm, 113, rfl⟩
abbrev main_while0b_call3_v2 : Ref sig .tc := ⟨.hbm, 114, rfl⟩
abbrev main_while0b_v103 : Ref sig .tc := ⟨.hbm, 115, rfl⟩
abbrev main_while0b_v104 : Ref sig .tc := ⟨.hbm, 116, rfl⟩
abbrev main_while0b_v105 : Ref sig .tc := ⟨.hbm, 117, rfl⟩
abbrev main_while0b_v106 : Ref sig .tc := ⟨.hbm, 118, rfl⟩
abbrev main_while0b_v107 : Ref sig .tc := ⟨.hbm, 119, rfl⟩
abbrev main_while0b_v108 : Ref sig .tc := ⟨.hbm, 120, rfl⟩
abbrev main_while0b_v109 : Ref sig .tc := ⟨.hbm, 121, rfl⟩
abbrev main_while0b_v110 : Ref sig .tc := ⟨.hbm, 122, rfl⟩
abbrev main_while0b_v111 : Ref sig .tc := ⟨.hbm, 123, rfl⟩
abbrev main_while0b_v112 : Ref sig .tc := ⟨.hbm, 124, rfl⟩
abbrev main_while0b_cst_20 : Ref sig .tc := ⟨.hbm, 125, rfl⟩
abbrev main_while0b_v113 : Ref sig .tc := ⟨.hbm, 126, rfl⟩
abbrev main_while0b_v114 : Ref sig .tc := ⟨.hbm, 127, rfl⟩
abbrev main_while0b_v115 : Ref sig .tc := ⟨.hbm, 128, rfl⟩
abbrev main_while0b_v116 : Ref sig .tc := ⟨.hbm, 129, rfl⟩
abbrev main_while0b_v117 : Ref sig .tc := ⟨.hbm, 130, rfl⟩
abbrev main_while0b_v118 : Ref sig .tc := ⟨.hbm, 131, rfl⟩
abbrev main_while0b_v119 : Ref sig .tc := ⟨.hbm, 132, rfl⟩
abbrev main_while0b_v120 : Ref sig .tc := ⟨.hbm, 133, rfl⟩
abbrev main_while0b_v121 : Ref sig .tc := ⟨.hbm, 134, rfl⟩
abbrev main_while0b_v122 : Ref sig .tc := ⟨.hbm, 135, rfl⟩
abbrev main_while0b_v123 : Ref sig .tc := ⟨.hbm, 136, rfl⟩
abbrev main_while0b_cst_21 : Ref sig .tc := ⟨.hbm, 137, rfl⟩
abbrev main_while0b_v124 : Ref sig .tc := ⟨.hbm, 138, rfl⟩
abbrev main_while0b_v125 : Ref sig .tc := ⟨.hbm, 139, rfl⟩
abbrev main_while0b_v126 : Ref sig .tc := ⟨.hbm, 140, rfl⟩
abbrev main_while0b_v127 : Ref sig .tc := ⟨.hbm, 141, rfl⟩
abbrev main_while0b_v128 : Ref sig .tc := ⟨.hbm, 142, rfl⟩
abbrev main_while0b_v129 : Ref sig .tc := ⟨.hbm, 143, rfl⟩
abbrev main_while0b_v130 : Ref sig .tc := ⟨.hbm, 144, rfl⟩
abbrev main_while0b_v131 : Ref sig .tc := ⟨.hbm, 145, rfl⟩
abbrev main_while0b_v132 : Ref sig .tc := ⟨.hbm, 146, rfl⟩
abbrev main_while0b_v133 : Ref sig .tc := ⟨.hbm, 147, rfl⟩
abbrev main_while0b_v134 : Ref sig .tc := ⟨.hbm, 148, rfl⟩
abbrev main_while0b_cst_22 : Ref sig .tc := ⟨.hbm, 149, rfl⟩
abbrev main_while0b_v135 : Ref sig .tc := ⟨.hbm, 150, rfl⟩
abbrev main_while0b_v136 : Ref sig .tc := ⟨.hbm, 151, rfl⟩
abbrev main_while0b_v137 : Ref sig .tc := ⟨.hbm, 152, rfl⟩
abbrev main_while0b_v138 : Ref sig .tc := ⟨.hbm, 153, rfl⟩
abbrev main_while0b_v139 : Ref sig .tc := ⟨.hbm, 154, rfl⟩
abbrev main_while0b_v140 : Ref sig .tc := ⟨.hbm, 155, rfl⟩
abbrev main_while0b_v141 : Ref sig .tc := ⟨.hbm, 156, rfl⟩
abbrev main_while0b_v142 : Ref sig .tc := ⟨.hbm, 157, rfl⟩
abbrev main_while0b_call4_v0 : Ref sig .tc := ⟨.hbm, 158, rfl⟩
abbrev main_while0b_call4_c : Ref sig .tc := ⟨.hbm, 159, rfl⟩
abbrev main_while0b_call4_c_0 : Ref sig .tc := ⟨.hbm, 160, rfl⟩
abbrev main_while0b_call4_c_1 : Ref sig .tc := ⟨.hbm, 161, rfl⟩
abbrev main_while0b_call4_c_2 : Ref sig .tc := ⟨.hbm, 162, rfl⟩
abbrev main_while0b_v143 : Ref sig .tc := ⟨.hbm, 163, rfl⟩
abbrev main_while0b_c_23 : Ref sig .tc := ⟨.hbm, 164, rfl⟩
abbrev main_while0b_v144 : Ref sig .tc := ⟨.hbm, 165, rfl⟩
abbrev main_v48 : Ref sig .tc := ⟨.hbm, 166, rfl⟩
abbrev main_v49 : Ref sig .tc := ⟨.hbm, 167, rfl⟩
abbrev main_cst_5 : Ref sig .tc := ⟨.hbm, 168, rfl⟩
abbrev main_v50 : Ref sig .tc := ⟨.hbm, 169, rfl⟩
abbrev main_v51 : Ref sig .tc := ⟨.hbm, 170, rfl⟩
abbrev main_cst_6 : Ref sig .tc := ⟨.hbm, 171, rfl⟩
abbrev main_v52 : Ref sig .tc := ⟨.hbm, 172, rfl⟩
abbrev main_v53 : Ref sig .tc := ⟨.hbm, 173, rfl⟩
abbrev main_v54 : Ref sig .tc := ⟨.hbm, 174, rfl⟩
abbrev main_v55 : Ref sig .tc := ⟨.hbm, 175, rfl⟩
abbrev main_v56 : Ref sig .tc := ⟨.hbm, 176, rfl⟩
abbrev main_cst_7 : Ref sig .tc := ⟨.hbm, 177, rfl⟩
abbrev main_v57 : Ref sig .tc := ⟨.hbm, 178, rfl⟩
abbrev main_v58 : Ref sig .tc := ⟨.hbm, 179, rfl⟩
abbrev main_cst_8 : Ref sig .tc := ⟨.hbm, 180, rfl⟩
abbrev main_v59 : Ref sig .tc := ⟨.hbm, 181, rfl⟩
abbrev main_v60 : Ref sig .tc := ⟨.hbm, 182, rfl⟩
abbrev main_v61 : Ref sig .tc := ⟨.hbm, 183, rfl⟩
abbrev main_v62 : Ref sig .tc := ⟨.hbm, 184, rfl⟩
abbrev main_cst_9 : Ref sig .tc := ⟨.hbm, 185, rfl⟩
abbrev main_v63 : Ref sig .tc := ⟨.hbm, 186, rfl⟩
abbrev main_v64 : Ref sig .tc := ⟨.hbm, 187, rfl⟩
abbrev main_v65 : Ref sig .tc := ⟨.hbm, 188, rfl⟩
abbrev main_v66 : Ref sig .tc := ⟨.hbm, 189, rfl⟩
abbrev main_v67 : Ref sig .tc := ⟨.hbm, 190, rfl⟩
abbrev main_call5_v0 : Ref sig .tc := ⟨.hbm, 191, rfl⟩
abbrev main_call5_v1 : Ref sig .tc := ⟨.hbm, 192, rfl⟩
abbrev main_call5_cst : Ref sig .tc := ⟨.hbm, 193, rfl⟩
abbrev main_call5_v2 : Ref sig .tc := ⟨.hbm, 194, rfl⟩
abbrev main_call5_v3 : Ref sig .tc := ⟨.hbm, 195, rfl⟩
abbrev main_call5_cst_0 : Ref sig .tc := ⟨.hbm, 196, rfl⟩
abbrev main_call5_v4 : Ref sig .tc := ⟨.hbm, 197, rfl⟩
abbrev main_call5_v5 : Ref sig .tc := ⟨.hbm, 198, rfl⟩
abbrev main_v68 : Ref sig .tc := ⟨.hbm, 199, rfl⟩
abbrev main_v69 : Ref sig .tc := ⟨.hbm, 200, rfl⟩
abbrev main_v70 : Ref sig .tc := ⟨.hbm, 201, rfl⟩
abbrev main_v71 : Ref sig .tc := ⟨.hbm, 202, rfl⟩
abbrev main_v72 : Ref sig .tc := ⟨.hbm, 203, rfl⟩
abbrev main_v73 : Ref sig .tc := ⟨.hbm, 204, rfl⟩
abbrev main_v74 : Ref sig .tc := ⟨.hbm, 205, rfl⟩
abbrev main_v75 : Ref sig .tc := ⟨.hbm, 206, rfl⟩
abbrev main_v76 : Ref sig .tc := ⟨.hbm, 207, rfl⟩

abbrev nD : Nat := 1
abbrev τ : Topo := Topo.v7x

variable {F : FTy → Type} [FloatOps F]

abbrev main_while0_count : Scf.Loop 32 := ⟨0#32, 128#32, 1#32⟩
-- ==== FinishPrompt.lean ====
abbrev S4x8192x1024 : Shape := ⟨3, ![4, 8192, 1024]⟩
abbrev S18688x1024 : Shape := ⟨2, ![18688, 1024]⟩
abbrev S1024 : Shape := ⟨1, ![1024]⟩
abbrev S32768x1024 : Shape := ⟨2, ![32768, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 7
  | .vmem => 7
  | .smem => 0
  | _ => 0

abbrev bufTy : (tb : Table) → Fin (tcTables nBuf tb) → BufTy
  | .hbm, ⟨0, _⟩ => ⟨S4x8192x1024, .f32⟩
  | .hbm, ⟨1, _⟩ => ⟨S18688x1024, .f32⟩
  | .hbm, ⟨2, _⟩ => ⟨S1024, .f32⟩
  | .hbm, ⟨3, _⟩ => ⟨S32768x1024, .f32⟩
  | .hbm, ⟨4, _⟩ => ⟨S32768x1024, .f32⟩
  | .hbm, ⟨5, _⟩ => ⟨S1x1024, .f32⟩
  | .hbm, ⟨6, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x1024, .f32⟩
  | .local _ .vmem, ⟨6, _⟩ => ⟨S256x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![73], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceFinishPromptIdeal.lean ====
abbrev S4x8192x1024 : Shape := ⟨3, ![4, 8192, 1024]⟩
abbrev S18688x1024 : Shape := ⟨2, ![18688, 1024]⟩
abbrev S1024 : Shape := ⟨1, ![1024]⟩
abbrev S32768x1024 : Shape := ⟨2, ![32768, 1024]⟩
abbrev S_ : Shape := ⟨0, ![]⟩
abbrev S18688 : Shape := ⟨1, ![18688]⟩
abbrev S18688x1 : Shape := ⟨2, ![18688, 1]⟩
abbrev S1x1024 : Shape := ⟨2, ![1, 1024]⟩
abbrev S14080x1024 : Shape := ⟨2, ![14080, 1024]⟩

abbrev nBuf : Space → Nat
  | .hbm => 25
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S18688x1024, .f32⟩
  | .hbm, ⟨2, _⟩ => ⟨S1024, .f32⟩
  | .hbm, ⟨3, _⟩ => ⟨S32768x1024, .f32⟩
  | .hbm, ⟨4, _⟩ => ⟨S32768x1024, .f32⟩
  | .hbm, ⟨5, _⟩ => ⟨S18688x1024, .f32⟩
  | .hbm, ⟨6, _⟩ => ⟨S18688x1024, .f32⟩
  | .hbm, ⟨7, _⟩ => ⟨S18688x1024, .f32⟩
  | .hbm, ⟨8, _⟩ => ⟨S_, .f32⟩
  | .hbm, ⟨9, _⟩ => ⟨S18688, .f32⟩
  | .hbm, ⟨10, _⟩ => ⟨S18688x1, .f32⟩
  | .hbm, ⟨11, _⟩ => ⟨S_, .f32⟩
  | .hbm, ⟨12, _⟩ => ⟨S18688x1, .f32⟩
  | .hbm, ⟨13, _⟩ => ⟨S18688x1, .f32⟩
  | .hbm, ⟨14, _⟩ => ⟨S_, .f32⟩
  | .hbm, ⟨15, _⟩ => ⟨S18688x1, .f32⟩
  | .hbm, ⟨16, _⟩ => ⟨S18688x1, .f32⟩
  | .hbm, ⟨17, _⟩ => ⟨S18688x1, .f32⟩
  | .hbm, ⟨18, _⟩ => ⟨S18688x1024, .f32⟩
  | .hbm, ⟨19, _⟩ => ⟨S18688x1024, .f32⟩
  | .hbm, ⟨20, _⟩ => ⟨S1x1024, .f32⟩
  | .hbm, ⟨21, _⟩ => ⟨S18688x1024, .f32⟩
  | .hbm, ⟨22, _⟩ => ⟨S18688x1024, .f32⟩
  | .hbm, ⟨23, _⟩ => ⟨S14080x1024, .f32⟩
  | .hbm, ⟨24, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== AttendSample.lean ====
abbrev S16x16x2x4x64 : Shape := ⟨5, ![16, 16, 2, 4, 64]⟩
abbrev S16x16x2x64 : Shape := ⟨4, ![16, 16, 2, 64]⟩
abbrev S1x16x128x2x64 : Shape := ⟨5, ![1, 16, 128, 2, 64]⟩
abbrev S1x8 : Shape := ⟨2, ![1, 8]⟩
abbrev S16 : Shape := ⟨1, ![16]⟩
abbrev S16x1 : Shape := ⟨2, ![16, 1]⟩
abbrev S256 : Shape := ⟨1, ![256]⟩
abbrev S1x256 : Shape := ⟨2, ![1, 256]⟩
abbrev S_ : Shape := ⟨0, ![]⟩
abbrev S16x256 : Shape := ⟨2, ![16, 256]⟩
abbrev S1x16x256 : Shape := ⟨3, ![1, 16, 256]⟩
abbrev S2x16x256 : Shape := ⟨3, ![2, 16, 256]⟩
abbrev S16x112x128 : Shape := ⟨3, ![16, 112, 128]⟩
abbrev S256x512 : Shape := ⟨2, ![256, 512]⟩
abbrev S8 : Shape := ⟨1, ![8]⟩
abbrev S16x128x2x64 : Shape := ⟨4, ![16, 128, 2, 64]⟩
abbrev S16x128x128 : Shape := ⟨3, ![16, 128, 128]⟩
abbrev S16x16x128 : Shape := ⟨3, ![16, 16, 128]⟩
abbrev S16x256x128 : Shape := ⟨3, ![16, 256, 128]⟩
abbrev S4096x128 : Shape := ⟨2, ![4096, 128]⟩
abbrev S16x512 : Shape := ⟨2, ![16, 512]⟩
abbrev S128x128 : Shape := ⟨2, ![128, 128]⟩
abbrev S256x128 : Shape := ⟨2, ![256, 128]⟩
abbrev S512x128 : Shape := ⟨2, ![512, 128]⟩
abbrev S16x128 : Shape := ⟨2, ![16, 128]⟩
abbrev S1 : Shape := ⟨1, ![1]⟩

abbrev nBuf : Space → Nat
  | .hbm => 46
  | .vmem => 14
  | .smem => 1
  | _ => 0

abbrev bufTy : (tb : Table) → Fin (tcTables nBuf tb) → BufTy
  | .hbm, ⟨0, _⟩ => ⟨S16x16x2x4x64, .f32⟩
  | .hbm, ⟨1, _⟩ => ⟨S16x16x2x64, .f32⟩
  | .hbm, ⟨2, _⟩ => ⟨S16x16x2x64, .f32⟩
  | .hbm, ⟨3, _⟩ => ⟨S1x16x128x2x64, .f32⟩
  | .hbm, ⟨4, _⟩ => ⟨S1x16x128x2x64, .f32⟩
  | .hbm, ⟨5, _⟩ => ⟨S1x8, .f32⟩
  | .hbm, ⟨6, _⟩ => ⟨S16, .i32⟩
  | .hbm, ⟨7, _⟩ => ⟨S16x1, .i32⟩
  | .hbm, ⟨8, _⟩ => ⟨S256, .i32⟩
  | .hbm, ⟨9, _⟩ => ⟨S1x256, .i32⟩
  | .hbm, ⟨10, _⟩ => ⟨S_, .i32⟩
  | .hbm, ⟨11, _⟩ => ⟨S16x1, .i32⟩
  | .hbm, ⟨12, _⟩ => ⟨S16x1, .i32⟩
  | .hbm, ⟨13, _⟩ => ⟨S16x256, .i32⟩
  | .hbm, ⟨14, _⟩ => ⟨S16x256, .i32⟩
  | .hbm, ⟨15, _⟩ => ⟨S16x256, .i32⟩
  | .hbm, ⟨16, _⟩ => ⟨S16x256, .i32⟩
  | .hbm, ⟨17, _⟩ => ⟨S16x256, .f32⟩
  | .hbm, ⟨18, _⟩ => ⟨S16x256, .f32⟩
  | .hbm, ⟨19, _⟩ => ⟨S_, .i32⟩
  | .hbm, ⟨20, _⟩ => ⟨S1x256, .i32⟩
  | .hbm, ⟨21, _⟩ => ⟨S1x256, .i1⟩
  | .hbm, ⟨22, _⟩ => ⟨S16x256, .i1⟩
  | .hbm, ⟨23, _⟩ => ⟨S1x16x256, .i1⟩
  | .hbm, ⟨24, _⟩ => ⟨S1x16x256, .i1⟩
  | .hbm, ⟨25, _⟩ => ⟨S2x16x256, .i1⟩
  | .hbm, ⟨26, _⟩ => ⟨S2x16x256, .f32⟩
  | .hbm, ⟨27, _⟩ => ⟨S_, .f32⟩
  | .hbm, ⟨28, _⟩ => ⟨S16x112x128, .f32⟩
  | .hbm, ⟨29, _⟩ => ⟨S256x512, .f32⟩
  | .hbm, ⟨30, _⟩ => ⟨S_, .f32⟩
  | .hbm, ⟨31, _⟩ => ⟨S256x512, .f32⟩
  | .hbm, ⟨32, _⟩ => ⟨S256x512, .f32⟩
  | .hbm, ⟨33, _⟩ => ⟨S256x512, .bf16⟩
  | .hbm, ⟨34, _⟩ => ⟨S8, .f32⟩
  | .hbm, ⟨35, _⟩ => ⟨S16x128x2x64, .f32⟩
  | .hbm, ⟨36, _⟩ => ⟨S16x128x128, .f32⟩
  | .hbm, ⟨37, _⟩ => ⟨S16x16x128, .f32⟩
  | .hbm, ⟨38, _⟩ => ⟨S16x256x128, .f32⟩
  | .hbm, ⟨39, _⟩ => ⟨S4096x128, .f32⟩
  | .hbm, ⟨40, _⟩ => ⟨S16x128x2x64, .f32⟩
  | .hbm, ⟨41, _⟩ => ⟨S16x128x128, .f32⟩
  | .hbm, ⟨42, _⟩ => ⟨S16x16x128, .f32⟩
  | .hbm, ⟨43, _⟩ => ⟨S16x256x128, .f32⟩
  | .hbm, ⟨44, _⟩ => ⟨S4096x128, .f32⟩
  | .hbm, ⟨45, _⟩ => ⟨S256x512, .bf16⟩
  | .local _ .vmem, ⟨0, _⟩ => ⟨S16x512, .bf16⟩
  | .local _ .vmem, ⟨1, _⟩ => ⟨S16x512, .bf16⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S16x256, .f32⟩
  | .local _ .vmem, ⟨11, _⟩ => ⟨S1x16x256, .f32⟩
  | .local _ .vmem, ⟨12, _⟩ => ⟨S16x512, .bf16⟩
  | .local _ .vmem, ⟨13, _⟩ => ⟨S16x512, .bf16⟩
  | .local _ .smem, ⟨0, _⟩ => ⟨S8, .f32⟩
  | _, _ => ⟨S16x16x2x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![16, 1], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c1_i32 : BitVec 32 := 1#32
  let v1 : BitVec 32 := Scalar.addi arg1 c1_i32
  let c1_i32_0 : BitVec 32 := 1#32
  let v2 : BitVec 32 := Scalar.subi v1 c1_i32_0
  let c0_i32 : BitVec 32 := 0#32
  let v3 : BitVec 32 := Scalar.maxsi v2 c0_i32
  let v4 : BitVec 32 := Scalar.addi v0 v3
  let c0_i32_1 : BitVec 32 := 0#32
  let c0_i32_2 : BitVec 32 := 0#32
  ![v4.toNat, c0_i32_1.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c1_i32 : BitVec 32 := 1#32
  let v2 : BitVec 32 := Scalar.addi v1 c1_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c1_i32 : BitVec 32 := 1#32
  let v1 : BitVec 32 := Scalar.addi arg1 c1_i32
  let c1_i32_0 : BitVec 32 := 1#32
  let v2 : BitVec 32 := Scalar.subi v1 c1_i32_0
  let c0_i32 : BitVec 32 := 0#32
  let v3 : BitVec 32 := Scalar.maxsi v2 c0_i32
  let v4 : BitVec 32 := Scalar.addi v0 v3
  let c0_i32_1 : BitVec 32 := 0#32
  let c0_i32_2 : BitVec 32 := 0#32
  ![v4.toNat, c0_i32_1.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c1_i32 : BitVec 32 := 1#32
  let v2 : BitVec 32 := Scalar.addi v1 c1_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.minsi v0 c1_i32_0
  let c0_i32 : BitVec 32 := 0#32
  let c0_i32_1 : BitVec 32 := 0#32
  let c0_i32_2 : BitVec 32 := 0#32
  ![v1.toNat, c0_i32.toNat, c0_i32_1.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S16x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x16x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]

abbrev stage0_8 : Fin 2 → Memref sig .tc .vmem S16x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AttendSampleIdeal.lean ====
variable {F : FTy → Type} [FloatOps F] [Named F]
def κ : String → Option EReal := fun
  | "mask" => some ⊥
  | _ => none
-- ==== ReferenceAttendSampleIdeal.lean ====
abbrev S16x16x2x4x64 : Shape := ⟨5, ![16, 16, 2, 4, 64]⟩
abbrev S16x16x2x64 : Shape := ⟨4, ![16, 16, 2, 64]⟩
abbrev S1x16x128x2x64 : Shape := ⟨5, ![1, 16, 128, 2, 64]⟩
abbrev S1x8 : Shape := ⟨2, ![1, 8]⟩
abbrev S16x128x2x64 : Shape := ⟨4, ![16, 128, 2, 64]⟩
abbrev S16x144x2x64 : Shape := ⟨4, ![16, 144, 2, 64]⟩
abbrev S16 : Shape := ⟨1, ![16]⟩
abbrev S_ : Shape := ⟨0, ![]⟩
abbrev S128 : Shape := ⟨1, ![128]⟩
abbrev S144 : Shape := ⟨1, ![144]⟩
abbrev S8 : Shape := ⟨1, ![8]⟩
abbrev S16x2x144x16x4 : Shape := ⟨5, ![16, 2, 144, 16, 4]⟩
abbrev S16x2x4x16x144 : Shape := ⟨5, ![16, 2, 4, 16, 144]⟩
abbrev S16x1 : Shape := ⟨2, ![16, 1]⟩
abbrev S1x144 : Shape := ⟨2, ![1, 144]⟩
abbrev S16x144 : Shape := ⟨2, ![16, 144]⟩
abbrev S2x4x1x1 : Shape := ⟨4, ![2, 4, 1, 1]⟩
abbrev S1x1x16x144 : Shape := ⟨4, ![1, 1, 16, 144]⟩
abbrev S2x4x16x144 : Shape := ⟨4, ![2, 4, 16, 144]⟩
abbrev S1x2x4x16x144 : Shape := ⟨5, ![1, 2, 4, 16, 144]⟩
abbrev S16x2x4x16 : Shape := ⟨4, ![16, 2, 4, 16]⟩
abbrev S16x2x4x16x1 : Shape := ⟨5, ![16, 2, 4, 16, 1]⟩
abbrev S1x2x4x1x1 : Shape := ⟨5, ![1, 2, 4, 1, 1]⟩
abbrev S16x2x64x4x16 : Shape := ⟨5, ![16, 2, 64, 4, 16]⟩
abbrev S256x512 : Shape := ⟨2, ![256, 512]⟩

abbrev nBuf : Space → Nat
  | .hbm => 135
  | .vmem => 0
  | .smem => 0
  | _ => 0

abbrev hbmTy0_0 (i : Nat) : BufTy := match i % 128 with
  | 0 => ⟨S16x16x2x4x64, .f32⟩
  | 1 => ⟨S16x16x2x64, .f32⟩
  | 2 => ⟨S16x16x2x64, .f32⟩
  | 3 => ⟨S1x16x128x2x64, .f32⟩
  | 4 => ⟨S1x16x128x2x64, .f32⟩
  | 5 => ⟨S1x8, .f32⟩
  | 6 => ⟨S16x128x2x64, .f32⟩
  | 7 => ⟨S16x144x2x64, .f32⟩
  | 8 => ⟨S16x128x2x64, .f32⟩
  | 9 => ⟨S16x144x2x64, .f32⟩
  | 10 => ⟨S16, .i32⟩
  | 11 => ⟨S_, .i32⟩
  | 12 => ⟨S16, .i32⟩
  | 13 => ⟨S16, .i32⟩
  | 14 => ⟨S128, .i32⟩
  | 15 => ⟨S_, .i32⟩
  | 16 => ⟨S128, .i32⟩
  | 17 => ⟨S128, .i32⟩
  | 18 => ⟨S144, .i32⟩
  | 19 => ⟨S_, .i32⟩
  | 20 => ⟨S144, .i32⟩
  | 21 => ⟨S144, .i1⟩
  | 22 => ⟨S8, .f32⟩
  | 23 => ⟨S16x2x144x16x4, .f32⟩
  | 24 => ⟨S16x2x4x16x144, .f32⟩
  | 25 => ⟨S_, .f32⟩
  | 26 => ⟨S16x2x4x16x144, .f32⟩
  | 27 => ⟨S16x2x4x16x144, .f32⟩
  | 28 => ⟨S16x1, .i32⟩
  | 29 => ⟨S1x144, .i32⟩
  | 30 => ⟨S16x144, .i32⟩
  | 31 => ⟨S16x144, .i32⟩
  | 32 => ⟨S16x144, .i32⟩
  | 33 => ⟨S16x144, .i32⟩
  | 34 => ⟨S16x144, .f32⟩
  | 35 => ⟨S8, .f32⟩
  | 36 => ⟨S_, .f32⟩
  | 37 => ⟨S8, .f32⟩
  | 38 => ⟨S8, .f32⟩
  | 39 => ⟨S_, .f32⟩
  | 40 => ⟨S8, .f32⟩
  | 41 => ⟨S8, .f32⟩
  | 42 => ⟨S_, .f32⟩
  | 43 => ⟨S8, .f32⟩
  | 44 => ⟨S8, .f32⟩
  | 45 => ⟨S_, .f32⟩
  | 46 => ⟨S8, .f32⟩
  | 47 => ⟨S8, .f32⟩
  | 48 => ⟨S2x4x1x1, .f32⟩
  | 49 => ⟨S1x1x16x144, .f32⟩
  | 50 => ⟨S2x4x16x144, .f32⟩
  | 51 => ⟨S2x4x16x144, .f32⟩
  | 52 => ⟨S2x4x16x144, .f32⟩
  | 53 => ⟨S1x2x4x16x144, .f32⟩
  | 54 => ⟨S16x2x4x16x144, .f32⟩
  | 55 => ⟨S16x2x4x16x144, .f32⟩
  | 56 => ⟨S_, .i32⟩
  | 57 => ⟨S_, .i32⟩
  | 58 => ⟨S16x1, .i32⟩
  | 59 => ⟨S16x1, .i32⟩
  | 60 => ⟨S16x1, .i32⟩
  | 61 => ⟨S_, .i32⟩
  | 62 => ⟨S16x1, .i32⟩
  | 63 => ⟨S16x1, .i1⟩
  | 64 => ⟨S16x1, .i32⟩
  | 65 => ⟨S16x1, .i32⟩
  | 66 => ⟨S_, .i32⟩
  | 67 => ⟨S16x1, .i32⟩
  | 68 => ⟨S16x1, .i1⟩
  | 69 => ⟨S16x1, .i1⟩
  | 70 => ⟨S_, .i32⟩
  | 71 => ⟨S16x1, .i32⟩
  | 72 => ⟨S16x1, .i32⟩
  | 73 => ⟨S16x1, .i32⟩
  | 74 => ⟨S_, .i32⟩
  | 75 => ⟨S_, .i32⟩
  | 76 => ⟨S1x144, .i32⟩
  | 77 => ⟨S1x144, .i32⟩
  | 78 => ⟨S1x144, .i32⟩
  | 79 => ⟨S_, .i32⟩
  | 80 => ⟨S1x144, .i32⟩
  | 81 => ⟨S1x144, .i1⟩
  | 82 => ⟨S1x144, .i32⟩
  | 83 => ⟨S1x144, .i32⟩
  | 84 => ⟨S_, .i32⟩
  | 85 => ⟨S1x144, .i32⟩
  | 86 => ⟨S1x144, .i1⟩
  | 87 => ⟨S1x144, .i1⟩
  | 88 => ⟨S_, .i32⟩
  | 89 => ⟨S1x144, .i32⟩
  | 90 => ⟨S1x144, .i32⟩
  | 91 => ⟨S1x144, .i32⟩
  | 92 => ⟨S1x144, .i1⟩
  | 93 => ⟨S16x144, .i32⟩
  | 94 => ⟨S16x144, .i32⟩
  | 95 => ⟨S16x144, .i1⟩
  | 96 => ⟨S16x144, .i1⟩
  | 97 => ⟨S16x144, .i1⟩
  | 98 => ⟨S_, .i32⟩
  | 99 => ⟨S16x1, .i32⟩
  | 100 => ⟨S16x1, .i32⟩
  | 101 => ⟨S16x144, .i32⟩
  | 102 => ⟨S16x144, .i32⟩
  | 103 => ⟨S16x144, .i1⟩
  | 104 => ⟨S16x144, .i1⟩
  | 105 => ⟨S1x1x16x144, .i1⟩
  | 106 => ⟨S_, .f32⟩
  | 107 => ⟨S_, .f32⟩
  | 108 => ⟨S16x2x4x16x144, .i1⟩
  | 109 => ⟨S16x2x4x16x144, .f32⟩
  | 110 => ⟨S16x2x4x16x144, .f32⟩
  | 111 => ⟨S2x4x1x1, .f32⟩
  | 112 => ⟨S_, .f32⟩
  | 113 => ⟨S16x2x4x16, .f32⟩
  | 114 => ⟨S16x2x4x16x1, .f32⟩
  | 115 => ⟨S1x2x4x1x1, .f32⟩
  | 116 => ⟨S16x2x4x16x1, .f32⟩
  | 117 => ⟨S16x2x4x16x1, .f32⟩
  | 118 => ⟨S16x2x4x16x144, .f32⟩
  | 119 => ⟨S16x2x4x16x144, .f32⟩
  | 120 => ⟨S16x2x4x16x144, .f32⟩
  | 121 => ⟨S_, .f32⟩
  | 122 => ⟨S16x2x4x16, .f32⟩
  | 123 => ⟨S16x2x4x16x1, .f32⟩
  | 124 => ⟨S1x2x4x1x1, .f32⟩
  | 125 => ⟨S16x2x4x16x1, .f32⟩
  | 126 => ⟨S16x2x4x16x1, .f32⟩
  | 127 => ⟨S16x2x4x16x1, .f32⟩
  | _ => ⟨S16x16x2x4x64, .f32⟩

abbrev hbmTy0_1 (i : Nat) : BufTy := match i % 128 with
  | 0 => ⟨S16x2x4x16x1, .f32⟩
  | 1 => ⟨S16x2x4x16x144, .f32⟩
  | 2 => ⟨S16x2x4x16x144, .f32⟩
  | 3 => ⟨S16x2x64x4x16, .f32⟩
  | 4 => ⟨S16x16x2x4x64, .f32⟩
  | 5 => ⟨S256x512, .f32⟩
  | 6 => ⟨S256x512, .bf16⟩
  | _ => ⟨S16x16x2x4x64, .f32⟩

abbrev hbmTy (i : Nat) : BufTy := match i / 128 with
  | 0 => hbmTy0_0 i
  | 1 => hbmTy0_1 i
  | _ => ⟨S16x16x2x4x64, .f32⟩

abbrev bufTy : (tb : Table) → Fin (tcTables nBuf tb) → BufTy
  | .hbm, ⟨i, _⟩ => hbmTy i
  | _, _ => ⟨S16x16x2x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_c_6 : Ref sig .tc := ⟨.hbm, 56, rfl⟩
abbrev main_call0_v0 : Ref sig .tc := ⟨.hbm, 57, rfl⟩
abbrev main_call0_v1 : Ref sig .tc := ⟨.hbm, 58, rfl⟩
abbrev main_call0_v2 : Ref sig .tc := ⟨.hbm, 59, rfl⟩
abbrev main_call0_v3 : Ref sig .tc := ⟨.hbm, 60, rfl⟩
abbrev main_call0_v4 : Ref sig .tc := ⟨.hbm, 61, rfl⟩
abbrev main_call0_v5 : Ref sig .tc := ⟨.hbm, 62, rfl⟩
abbrev main_call0_v6 : Ref sig .tc := ⟨.hbm, 63, rfl⟩
abbrev main_call0_v7 : Ref sig .tc := ⟨.hbm, 64, rfl⟩
abbrev main_call0_v8 : Ref sig .tc := ⟨.hbm, 65, rfl⟩
abbrev main_call0_c : Ref sig .tc := ⟨.hbm, 66, rfl⟩
abbrev main_call0_v9 : Ref sig .tc := ⟨.hbm, 67, rfl⟩
abbrev main_call0_v10 : Ref sig .tc := ⟨.hbm, 68, rfl⟩
abbrev main_call0_v11 : Ref sig .tc := ⟨.hbm, 69, rfl⟩
abbrev main_call0_c_0 : Ref sig .tc := ⟨.hbm, 70, rfl⟩
abbrev main_call0_v12 : Ref sig .tc := ⟨.hbm, 71, rfl⟩
abbrev main_call0_v13 : Ref sig .tc := ⟨.hbm, 72, rfl⟩
abbrev main_v42 : Ref sig .tc := ⟨.hbm, 73, rfl⟩
abbrev main_c_7 : Ref sig .tc := ⟨.hbm, 74, rfl⟩
abbrev main_call1_v0 : Ref sig .tc := ⟨.hbm, 75, rfl⟩
abbrev main_call1_v1 : Ref sig .tc := ⟨.hbm, 76, rfl⟩
abbrev main_call1_v2 : Ref sig .tc := ⟨.hbm, 77, rfl⟩
abbrev main_call1_v3 : Ref sig .tc := ⟨.hbm, 78, rfl⟩
abbrev main_call1_v4 : Ref sig .tc := ⟨.hbm, 79, rfl⟩
abbrev main_call1_v5 : Ref sig .tc := ⟨.hbm, 80, rfl⟩
abbrev main_call1_v6 : Ref sig .tc := ⟨.hbm, 81, rfl⟩
abbrev main_call1_v7 : Ref sig .tc := ⟨.hbm, 82, rfl⟩
abbrev main_call1_v8 : Ref sig .tc := ⟨.hbm, 83, rfl⟩
abbrev main_call1_c : Ref sig .tc := ⟨.hbm, 84, rfl⟩
abbrev main_call1_v9 : Ref sig .tc := ⟨.hbm, 85, rfl⟩
abbrev main_call1_v10 : Ref sig .tc := ⟨.hbm, 86, rfl⟩
abbrev main_call1_v11 : Ref sig .tc := ⟨.hbm, 87, rfl⟩
abbrev main_call1_c_0 : Ref sig .tc := ⟨.hbm, 88, rfl⟩
abbrev main_call1_v12 : Ref sig .tc := ⟨.hbm, 89, rfl⟩
abbrev main_call1_v13 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_c_8 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_cst_9 : Ref sig .tc := ⟨.hbm, 106, rfl⟩
abbrev main_call2_v0 : Ref sig .tc := ⟨.hbm, 107, rfl⟩
abbrev main_call2_v1 : Ref sig .tc := ⟨.hbm, 108, rfl⟩
abbrev main_call2_v2 : Ref sig .tc := ⟨.hbm, 109, rfl⟩
abbrev main_v57 : Ref sig .tc := ⟨.hbm, 110, rfl⟩
abbrev main_v58 : Ref sig .tc := ⟨.hbm, 111, rfl⟩
abbrev main_cst_10 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_cst_11 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩

abbrev nD : Nat := 1
abbrev τ : Topo := Topo.v7x

variable {F : FTy → Type} [FloatOps F]
-- ==== Proof.Chunk.lean ====
module

public import Idealize.ShloMosaic.Lib.Pointwise
public import Idealize.ShloMosaic.Lib.IdealHost

@[expose] public section

set_option maxRecDepth 16384

noncomputable section

namespace Cert.Retention

open Idealize.ShloMosaic

/-- Column `w` of head `h` in a row of four heads of 256 values. -/
def wide (h : Fin 4) (w : Fin 256) : Fin 1024 := ⟨256 * h.val + w.val, by omega⟩

/-- Column `d` of head `h` in a row of four heads of 128 values. -/
def slim (h : Fin 4) (d : Fin 128) : Fin 512 := ⟨128 * h.val + d.val, by omega⟩

/-- One chunk's output row `l` at column `w`: the tokens of the chunk against each other under the decay table `ia`,
    and the query against the state under the decay `rd`. -/
def chunkOut {L : ℕ} (q k : Fin L → Fin 128 → EReal) (v : Fin L → Fin 256 → EReal) (st : Fin 128 → Fin 256 → EReal)
    (ia : Fin L → Fin L → EReal) (rd : Fin L → EReal) (l : Fin L) (w : Fin 256) : EReal :=
  ∑ n : Fin L, (∑ d : Fin 128, q l d * k n d) * ia l n * v n w + (∑ d : Fin 128, q l d * st d w) * rd l

/-- The state after one chunk: the old state decayed by `sd`, and the chunk's keys, each decayed by `kd`, against its values. -/
def chunkState {L : ℕ} (k : Fin L → Fin 128 → EReal) (v : Fin L → Fin 256 → EReal) (st : Fin 128 → Fin 256 → EReal)
    (kd : Fin L → EReal) (sd : EReal) (d : Fin 128) (w : Fin 256) : EReal :=
  sd * st d w + ∑ n : Fin L, k n d * kd n * v n w

/-- A row's normalisation: its mean taken off, and divided by the root of its variance. -/
def normed (o : Fin 256 → EReal) (w : Fin 256) : EReal :=
  (o w - Ideal.div (∑ x, o x) (Ideal.ofBits .f32 0x43800000#32))
    * Ideal.rsqrt (Ideal.div (∑ x, (o x - Ideal.div (∑ x, o x) (Ideal.ofBits .f32 0x43800000#32))
        * (o x - Ideal.div (∑ x, o x) (Ideal.ofBits .f32 0x43800000#32))) (Ideal.ofBits .f32 0x43800000#32)
        + Ideal.ofBits .f32 0x358637BD#32)

/-- The normalised row under its gate. -/
def gated (o r : Fin 256 → EReal) (w : Fin 256) : EReal :=
  normed o w * (r w * Ideal.logistic (r w))

/-! ## The two programs' decay tables are real -/

/-- A position as the number both programs make of it. -/
abbrev num (n : ℕ) : EReal := FloatOps.sitofp (F := Ideal) .f32 (BitVec.ofNat 32 n)

theorem num_eq (n : ℕ) (h : n < 2 ^ 31) : num n = ((n : ℝ) : EReal) := by
  have : (BitVec.ofNat 32 n).toInt = n := by
    rw [BitVec.toInt_eq_toNat_cond, BitVec.toNat_ofNat, Nat.mod_eq_of_lt (by omega), if_pos (by omega)]
  show (((BitVec.ofNat 32 n).toInt : ℝ) : EReal) = _
  rw [this]; norm_num

/-- The logarithm of head `g`'s decay, as both programs compute it. -/
abbrev logDecay (g : Fin 4) : EReal :=
  Ideal.log1p (-Ideal.pow (Ideal.ofBits .f32 0x40000000#32) (Ideal.ofBits .f32 0xC0A00000#32 - num g.val))

/-- The logarithm of head `g`'s decay. -/
def lg (g : Fin 4) : ℝ := Real.log (1 + -Real.rpow 2 (-5 - (g.val : ℝ)))

theorem two_eq : Ideal.ofBits .f32 0x40000000#32 = ((2 : ℝ) : EReal) := by
  simp [Ideal.ofBits, Ideal.ieee, -EReal.coe_mul]; norm_num
theorem minus_five_eq : Ideal.ofBits .f32 0xC0A00000#32 = ((-5 : ℝ) : EReal) := by
  simp [Ideal.ofBits, Ideal.ieee, -EReal.coe_mul]; norm_num
theorem c255_eq : Ideal.ofBits .f32 0x437F0000#32 = ((255 : ℝ) : EReal) := by
  simp [Ideal.ofBits, Ideal.ieee, -EReal.coe_mul]; norm_num
theorem c256_eq : Ideal.ofBits .f32 0x43800000#32 = ((256 : ℝ) : EReal) := by
  simp [Ideal.ofBits, Ideal.ieee, -EReal.coe_mul]; norm_num
theorem c63_eq : Ideal.ofBits .f32 0x427C0000#32 = ((63 : ℝ) : EReal) := by
  simp [Ideal.ofBits, Ideal.ieee, -EReal.coe_mul]; norm_num
theorem c64_eq : Ideal.ofBits .f32 0x42800000#32 = ((64 : ℝ) : EReal) := by
  simp [Ideal.ofBits, Ideal.ieee, -EReal.coe_mul]; norm_num

theorem logDecay_eq (g : Fin 4) : logDecay g = ((lg g : ℝ) : EReal) := by
  unfold logDecay
  rw [two_eq, minus_five_eq, num_eq g.val (by omega), ← EReal.coe_sub, Ideal.pow_coe_coe, ← EReal.coe_neg, Ideal.log1p, ← EReal.coe_one, ← EReal.coe_add,
    Ideal.log_coe, if_neg]
  · rfl
  · have h : Real.rpow 2 (-5 - (g.val : ℝ)) < 1 := by
      apply Real.rpow_lt_one_of_one_lt_of_neg (by norm_num)
      have : (0 : ℝ) ≤ g.val := Nat.cast_nonneg _
      linarith
    linarith

/-- Head `g`'s decay per token. -/
def decay (g : Fin 4) : ℝ := Real.exp (lg g)

/-- A number of tokens times the logarithm, exponentiated: the power of the decay. -/
theorem exp_mul (n : ℕ) (g : Fin 4) : Ideal.exp (((n : ℝ) : EReal) * logDecay g) = ((decay g ^ n : ℝ) : EReal) := by
  rw [logDecay_eq, ← EReal.coe_mul, Ideal.exp_coe, decay, ← Real.exp_nat_mul]

theorem rd_eq (n : ℕ) (h : n < 2 ^ 31) (g : Fin 4) : Ideal.exp ((num n + 1) * logDecay g) = ((decay g ^ (n + 1) : ℝ) : EReal) := by
  rw [← exp_mul, num_eq n h, ← EReal.coe_one, ← EReal.coe_add, Nat.cast_succ]

theorem kd_eq (c : ℝ) (L n : ℕ) (hc : c = L) (hn : n ≤ L) (h : n < 2 ^ 31) (g : Fin 4) :
    Ideal.exp (((c : EReal) - num n) * logDecay g) = ((decay g ^ (L - n) : ℝ) : EReal) := by
  rw [← exp_mul, num_eq n h, ← EReal.coe_sub, hc, Nat.cast_sub hn]

/-- The decay between two tokens of a chunk, zero from a later one. -/
def between (g : Fin 4) (l n : ℕ) : ℝ := if n ≤ l then decay g ^ (l - n) else 0

theorem ia_eq (l n : ℕ) (hl : l < 2 ^ 31) (hn : n < 2 ^ 31) (g : Fin 4) :
    (if num l - num n ≥ 0 then Ideal.exp (max (num l - num n) 0 * logDecay g) else 0) = ((between g l n : ℝ) : EReal) := by
  rw [num_eq l hl, num_eq n hn, ← EReal.coe_sub, between]
  by_cases h : n ≤ l
  · have h' : (0 : ℝ) ≤ (l : ℝ) - n := by have : (n : ℝ) ≤ l := by exact_mod_cast h
                                          linarith
    rw [if_pos (by exact_mod_cast h'), if_pos h, max_eq_left (by exact_mod_cast h'), ← Nat.cast_sub h, exp_mul]
  · have h' : ¬ (0 : ℝ) ≤ (l : ℝ) - n := by have : (l : ℝ) < n := by exact_mod_cast (not_le.mp h)
                                            linarith
    rw [if_neg (by exact_mod_cast h'), if_neg h, EReal.coe_zero]

/-! ## The recurrence over a whole stream -/

theorem coe_sum {L : ℕ} (f : Fin L → ℝ) : ((∑ i, f i : ℝ) : EReal) = ∑ i, (f i : EReal) := by
  induction L with
  | zero => simp
  | succ n ih => rw [Fin.sum_univ_succ, Fin.sum_univ_succ, EReal.coe_add, ih]

variable (γ : ℝ) (q k : ℕ → Fin 128 → ℝ) (v : ℕ → Fin 256 → ℝ)

/-- The state before token `n`: every earlier key against its value, decayed by its distance. -/
def stateAt (n : ℕ) (d : Fin 128) (w : Fin 256) : ℝ :=
  ∑ m ∈ Finset.range n, γ ^ (n - 1 - m) * (k m d * v m w)

/-- The output at token `n`: every value up to it, by its key's product with the query, decayed by its distance. -/
def outputAt (n : ℕ) (w : Fin 256) : ℝ :=
  ∑ m ∈ Finset.range (n + 1), γ ^ (n - m) * ((∑ d, q n d * k m d) * v m w)

theorem stateAt_chunk (n L : ℕ) (d : Fin 128) (w : Fin 256) :
    stateAt γ k v (n + L) d w
      = γ ^ L * stateAt γ k v n d w + ∑ i : Fin L, k (n + i.val) d * γ ^ (L - 1 - i.val) * v (n + i.val) w := by
  unfold stateAt
  rw [Finset.sum_range_add, Finset.mul_sum, Fin.sum_univ_eq_sum_range (fun i => k (n + i) d * γ ^ (L - 1 - i) * v (n + i) w) L]
  congr 1
  · refine Finset.sum_congr rfl fun m hm => ?_
    have hm := Finset.mem_range.mp hm
    rw [show n + L - 1 - m = L + (n - 1 - m) by omega, pow_add, mul_assoc]
  · refine Finset.sum_congr rfl fun m hm => ?_
    have hm := Finset.mem_range.mp hm
    rw [show n + L - 1 - (n + m) = L - 1 - m by omega]
    ring

theorem outputAt_chunk (n L : ℕ) (l : Fin L) (w : Fin 256) :
    outputAt γ q k v (n + l.val) w
      = ∑ i : Fin L, (∑ d, q (n + l.val) d * k (n + i.val) d) * (if i.val ≤ l.val then γ ^ (l.val - i.val) else 0) * v (n + i.val) w
        + (∑ d, q (n + l.val) d * stateAt γ k v n d w) * γ ^ (l.val + 1) := by
  unfold outputAt stateAt
  rw [show n + l.val + 1 = n + (l.val + 1) by omega, Finset.sum_range_add, add_comm]
  congr 1
  · rw [Fin.sum_univ_eq_sum_range (fun i => (∑ d, q (n + l.val) d * k (n + i) d) * (if i ≤ l.val then γ ^ (l.val - i) else 0) * v (n + i) w) L]
    rw [← Finset.sum_subset (Finset.range_subset_range.mpr (show l.val + 1 ≤ L from l.isLt))]
    · refine Finset.sum_congr rfl fun m hm => ?_
      have hm := Finset.mem_range.mp hm
      rw [if_pos (by omega), show n + l.val - (n + m) = l.val - m by omega]
      ring
    · intro m _ hm
      rw [Finset.mem_range] at hm
      rw [if_neg (by omega)]; ring
  · rw [Finset.sum_mul]
    simp only [Finset.mul_sum, Finset.sum_mul]
    rw [Finset.sum_comm]
    refine Finset.sum_congr rfl fun d _ => ?_
    refine Finset.sum_congr rfl fun m hm => ?_
    have hm := Finset.mem_range.mp hm
    rw [show n + l.val - m = (n - 1 - m) + (l.val + 1) by omega, pow_add]
    ring

/-- A chunk of `L` tokens from token `n` on, entered with the state before `n`, leaves the state before `n + L`. -/
theorem chunkState_eq (g : Fin 4) (n L : ℕ) (d : Fin 128) (w : Fin 256)
    {K : Fin L → Fin 128 → EReal} {V : Fin L → Fin 256 → EReal} {S : Fin 128 → Fin 256 → EReal} {kd : Fin L → EReal} {sd : EReal}
    (hK : ∀ i d, K i d = ((k (n + i.val) d : ℝ) : EReal)) (hV : ∀ i w, V i w = ((v (n + i.val) w : ℝ) : EReal))
    (hS : ∀ d w, S d w = ((stateAt (decay g) k v n d w : ℝ) : EReal))
    (hkd : ∀ i, kd i = ((decay g ^ (L - 1 - i.val) : ℝ) : EReal)) (hsd : sd = ((decay g ^ L : ℝ) : EReal)) :
    chunkState K V S kd sd d w = ((stateAt (decay g) k v (n + L) d w : ℝ) : EReal) := by
  rw [stateAt_chunk, chunkState, EReal.coe_add, coe_sum, hsd, hS, EReal.coe_mul]
  congr 1
  refine Finset.sum_congr rfl fun i _ => ?_
  rw [hK, hV, hkd, EReal.coe_mul, EReal.coe_mul]

/-- Such a chunk's output is the stream's, token by token. -/
theorem chunkOut_eq (g : Fin 4) (n L : ℕ) (l : Fin L) (w : Fin 256)
    {Q K : Fin L → Fin 128 → EReal} {V : Fin L → Fin 256 → EReal} {S : Fin 128 → Fin 256 → EReal}
    {ia : Fin L → Fin L → EReal} {rd : Fin L → EReal}
    (hQ : ∀ i d, Q i d = ((q (n + i.val) d : ℝ) : EReal))
    (hK : ∀ i d, K i d = ((k (n + i.val) d : ℝ) : EReal)) (hV : ∀ i w, V i w = ((v (n + i.val) w : ℝ) : EReal))
    (hS : ∀ d w, S d w = ((stateAt (decay g) k v n d w : ℝ) : EReal))
    (hia : ∀ l i, ia l i = ((between g l.val i.val : ℝ) : EReal)) (hrd : ∀ i, rd i = ((decay g ^ (i.val + 1) : ℝ) : EReal)) :
    chunkOut Q K V S ia rd l w = ((outputAt (decay g) q k v (n + l.val) w : ℝ) : EReal) := by
  rw [outputAt_chunk, chunkOut, EReal.coe_add, coe_sum, EReal.coe_mul, coe_sum, hrd]
  congr 1
  · refine Finset.sum_congr rfl fun i _ => ?_
    rw [hV, hia, EReal.coe_mul, EReal.coe_mul, coe_sum, between]
    congr 2
    refine Finset.sum_congr rfl fun d _ => ?_
    rw [hQ, hK, EReal.coe_mul]
  · congr 1
    refine Finset.sum_congr rfl fun d _ => ?_
    rw [hQ, hS, EReal.coe_mul]

/-! ## An array's tokens as real numbers -/

/-- Token `n` of stream `b` and head `g`, as real numbers (zero past the end). -/
def tok {D : ℕ} (X : FVec Ideal ⟨4, ![4, 8192, 4, D]⟩ .f32) (b g : Fin 4) (n : ℕ) (d : Fin D) : ℝ :=
  if h : n < 8192 then EReal.toReal (X (ix4 b ⟨n, h⟩ g d)) else 0

/-- Every entry is a real number. -/
def Real' {s : Shape} (X : FVec Ideal s .f32) : Prop := ∀ i, ∃ r : ℝ, X i = ((r : ℝ) : EReal)

theorem tok_eq {D : ℕ} (X : FVec Ideal ⟨4, ![4, 8192, 4, D]⟩ .f32) (hX : Real' X) (b g : Fin 4) (s : Fin 8192) (d : Fin D)
    (n : ℕ) (hn : n = s.val) : X (ix4 b s g d) = ((tok X b g n d : ℝ) : EReal) := by
  subst hn
  obtain ⟨r, hr⟩ := hX (ix4 b s g d)
  rw [tok, dif_pos s.isLt, hr]
  exact congrArg _ (EReal.toReal_coe r).symm

end Cert.Retention
-- ==== Proof.Block.lean ====
module

public import proofs.«01_k».proof.Proof.Chunk
public import proofs.«01_k».proof.Proof.Gen.KernelIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Block

open Cert.KernelIdeal Cert.KernelIdeal.Gen Cert.Retention Idealize.ShloMosaic Idealize.ShloMosaic.TcCoe Idealize.SL.Sem
open Idealize.ShloMosaic.Pipeline (Dat)

variable (m : (ℓ : Loc nD τ sig) → Buf (Elt Ideal) ℓ)

/-- The state a point starts from: at a stream's first chunk the given one, later what the point before left. -/
def before (c : Dev nD) (t : Fin cfg0.N) : Vec Ideal S1x4x128x256 .f32 :=
  if t.val % 32 = 0 then iblk m c 4 t else (outsAt0 m c (t.val - 1) (Nat.lt_of_le_of_lt (Nat.sub_le _ _) t.isLt)).2

section loads

variable {α : EltTy}

/-- A load of columns from `o` on of a matrix. -/
theorem ld2 {a b p q : ℕ} (X : Vec Ideal ⟨2, ![a, b]⟩ α) (o : ℕ)
    (inb : ∀ i, (![0, o] : Fin 2 → ℕ) i + (![p, q] : Fin 2 → ℕ) i ≤ (![a, b] : Fin 2 → ℕ) i) (n : Fin p) (d : Fin q) :
    View.ld X (Rect.unit (s := ⟨2, ![a, b]⟩) ![0, o] ![p, q] inb) (ix2 n d)
      = X (ix2 ⟨n.val, by have := inb 0; simp at this; omega⟩ ⟨o + d.val, by have := inb 1; simp at this; omega⟩) := by
  refine congrArg X (funext fun i => ?_)
  match i with
  | ⟨0, _⟩ => exact Fin.ext (by simp [Rect.unit, LoadRect.idx])
  | ⟨1, _⟩ => exact Fin.ext (by simp [Rect.unit])

/-- A load of one matrix of a stack. -/
theorem ld3 {a b e p q : ℕ} (X : Vec Ideal ⟨3, ![a, b, e]⟩ α) (o : ℕ)
    (inb : ∀ i, (![o, 0, 0] : Fin 3 → ℕ) i + (![1, p, q] : Fin 3 → ℕ) i ≤ (![a, b, e] : Fin 3 → ℕ) i) (n : Fin p) (d : Fin q) :
    View.ld X (Rect.unit (s := ⟨3, ![a, b, e]⟩) ![o, 0, 0] ![1, p, q] inb) (ix3 0 n d)
      = X (ix3 ⟨o, by have := inb 0; simp at this; omega⟩ ⟨n.val, by have := inb 1; simp at this; omega⟩
          ⟨d.val, by have := inb 2; simp at this; omega⟩) := by
  refine congrArg X (funext fun i => ?_)
  match i with
  | ⟨0, _⟩ => exact Fin.ext (by simp [Rect.unit])
  | ⟨1, _⟩ => exact Fin.ext (by simp [Rect.unit])
  | ⟨2, _⟩ => exact Fin.ext (by simp [Rect.unit])

/-- A load of one head's matrix of a state. -/
theorem ld4 {a b e p q : ℕ} (X : Vec Ideal ⟨4, ![1, a, b, e]⟩ α) (o : ℕ)
    (inb : ∀ i, (![0, o, 0, 0] : Fin 4 → ℕ) i + (![1, 1, p, q] : Fin 4 → ℕ) i ≤ (![1, a, b, e] : Fin 4 → ℕ) i) (n : Fin p) (d : Fin q) :
    View.ld X (Rect.unit (s := ⟨4, ![1, a, b, e]⟩) ![0, o, 0, 0] ![1, 1, p, q] inb) (ix4 0 0 n d)
      = X (ix4 0 ⟨o, by have := inb 1; simp at this; omega⟩ ⟨n.val, by have := inb 2; simp at this; omega⟩
          ⟨d.val, by have := inb 3; simp at this; omega⟩) := by
  refine congrArg X (funext fun i => ?_)
  match i with
  | ⟨0, _⟩ => exact Fin.ext (by simp [Rect.unit])
  | ⟨1, _⟩ => exact Fin.ext (by simp [Rect.unit])
  | ⟨2, _⟩ => exact Fin.ext (by simp [Rect.unit])
  | ⟨3, _⟩ => exact Fin.ext (by simp [Rect.unit])

/-- A load of one entry of a vector. -/
theorem ld1 {a : ℕ} (X : Vec Ideal ⟨1, ![a]⟩ α) (o : ℕ)
    (inb : ∀ i, (![o] : Fin 1 → ℕ) i + (![1] : Fin 1 → ℕ) i ≤ (![a] : Fin 1 → ℕ) i) (hp) :
    View.ld X (Rect.unit (s := ⟨1, ![a]⟩) ![o] ![1] inb) (Shape.Idx.first hp)
      = X (ix1 ⟨o, by have := inb 0; simp at this; omega⟩) := by
  refine congrArg X (funext fun i => ?_)
  match i with
  | ⟨0, _⟩ => exact Fin.ext (by simp [Rect.unit])

end loads

/-- The state block copied as it is. -/
theorem copy (X : Vec Ideal S1x4x128x256 .f32) : k0_pay3 X = X := by
  funext x; pointwise [k0_pay3]

/-- An index of one head's state is its row and its column. -/
theorem eq4 (x : S1x1x128x256.Idx) : ∃ d w, x = ix4 0 0 d w :=
  ⟨x 2, x 3, funext fun i => match i with
    | ⟨0, _⟩ => Fin.ext (by have := (x 0).isLt; simp at this ⊢)
    | ⟨1, _⟩ => Fin.ext (by have := (x 1).isLt; simp at this ⊢)
    | ⟨2, _⟩ => rfl
    | ⟨3, _⟩ => rfl⟩

/-- Head 0's new state. -/
theorem st0 (k : Vec Ideal S256x128 .bf16) (v : Vec Ideal S256x256 .bf16) (st : Vec Ideal S1x1x128x256 .f32)
    (kd : Vec Ideal S1x256x1 .f32) (sd : Elt Ideal .f32) (x : S1x1x128x256.Idx) :
    k0_pay10 (k0_pay5 v) (k0_pay6 st) (k0_pay8 k kd) (k0_pay9 sd) x
      = chunkState (fun n d => k (ix2 n d)) (fun n w => v (ix2 n w)) (fun d w => st (ix4 0 0 d w)) (fun n => kd (ix3 0 n 0)) sd (x 2) (x 3) := by
  obtain ⟨d, w, rfl⟩ := eq4 x; pointwise [k0_pay10, k0_pay5, k0_pay6, k0_pay8, k0_pay9, k0_pay4, chunkState]

theorem st1 (k : Vec Ideal S256x128 .bf16) (v : Vec Ideal S256x256 .bf16) (st : Vec Ideal S1x1x128x256 .f32)
    (kd : Vec Ideal S1x256x1 .f32) (sd : Elt Ideal .f32) (x : S1x1x128x256.Idx) :
    k0_pay16 (k0_pay13 k) (k0_pay14 v) st kd sd x
      = chunkState (fun n d => k (ix2 n d)) (fun n w => v (ix2 n w)) (fun d w => st (ix4 0 0 d w)) (fun n => kd (ix3 0 n 0)) sd (x 2) (x 3) := by
  obtain ⟨d, w, rfl⟩ := eq4 x; pointwise [k0_pay16, k0_pay13, k0_pay14, k0_pay15, chunkState]

theorem st2 (k : Vec Ideal S256x128 .bf16) (v : Vec Ideal S256x256 .bf16) (st : Vec Ideal S1x1x128x256 .f32)
    (kd : Vec Ideal S1x256x1 .f32) (sd : Elt Ideal .f32) (x : S1x1x128x256.Idx) :
    k0_pay27 (k0_pay21 k) (k0_pay22 v) (k0_pay23 st) kd sd x
      = chunkState (fun n d => k (ix2 n d)) (fun n w => v (ix2 n w)) (fun d w => st (ix4 0 0 d w)) (fun n => kd (ix3 0 n 0)) sd (x 2) (x 3) := by
  obtain ⟨d, w, rfl⟩ := eq4 x; pointwise [k0_pay27, k0_pay21, k0_pay22, k0_pay23, chunkState]

theorem st3 (k : Vec Ideal S256x128 .bf16) (v : Vec Ideal S256x256 .bf16) (st : Vec Ideal S1x1x128x256 .f32)
    (kd : Vec Ideal S1x256x1 .f32) (sd : Elt Ideal .f32) (x : S1x1x128x256.Idx) :
    k0_pay1 (k0_pay33 k v st kd sd) x
      = chunkState (fun n d => k (ix2 n d)) (fun n w => v (ix2 n w)) (fun d w => st (ix4 0 0 d w)) (fun n => kd (ix3 0 n 0)) sd (x 2) (x 3) := by
  obtain ⟨d, w, rfl⟩ := eq4 x; pointwise [k0_pay1, k0_pay33, k0_pay29, k0_pay30, k0_pay31, chunkState]

theorem o0 (q k : Vec Ideal S256x128 .bf16) (v : Vec Ideal S256x256 .bf16) (st : Vec Ideal S1x1x128x256 .f32)
    (ia : Vec Ideal S1x256x256 .f32) (rd : Vec Ideal S1x256x1 .f32) (r : Vec Ideal S256x256 .f32) (x : S256x256.Idx) :
    k0_pay11 (k0_pay7 q k v st ia rd) r x
      = gated (chunkOut (fun n d => q (ix2 n d)) (fun n d => k (ix2 n d)) (fun n w => v (ix2 n w)) (fun d w => st (ix4 0 0 d w))
          (fun l n => ia (ix3 0 l n)) (fun n => rd (ix3 0 n 0)) (x 0)) (fun w => r (ix2 (x 0) w)) (x 1) := by
  pointwise [k0_pay11, k0_pay7, k0_pay4, k0_pay5, k0_pay6, gated, normed, chunkOut]

theorem o1 (q k : Vec Ideal S256x128 .bf16) (v : Vec Ideal S256x256 .bf16) (st : Vec Ideal S1x1x128x256 .f32)
    (ia : Vec Ideal S1x256x256 .f32) (rd : Vec Ideal S1x256x1 .f32) (r : Vec Ideal S256x256 .f32) (x : S256x256.Idx) :
    k0_pay19 (k0_pay17 (k0_pay12 q) (k0_pay13 k) (k0_pay14 v) st ia rd) (k0_pay18 (k0_pay12 q) (k0_pay13 k) (k0_pay14 v) st ia rd) r x
      = gated (chunkOut (fun n d => q (ix2 n d)) (fun n d => k (ix2 n d)) (fun n w => v (ix2 n w)) (fun d w => st (ix4 0 0 d w))
          (fun l n => ia (ix3 0 l n)) (fun n => rd (ix3 0 n 0)) (x 0)) (fun w => r (ix2 (x 0) w)) (x 1) := by
  pointwise [k0_pay19, k0_pay17, k0_pay18, k0_pay12, k0_pay13, k0_pay14, k0_pay15, gated, normed, chunkOut]

theorem o2 (q k : Vec Ideal S256x128 .bf16) (v : Vec Ideal S256x256 .bf16) (st : Vec Ideal S1x1x128x256 .f32)
    (ia : Vec Ideal S1x256x256 .f32) (rd : Vec Ideal S1x256x1 .f32) (r : Vec Ideal S256x256 .f32) (x : S256x256.Idx) :
    k0_pay28 (k0_pay24 q k v ia) (k0_pay25 q st) (k0_pay26 rd) r x
      = gated (chunkOut (fun n d => q (ix2 n d)) (fun n d => k (ix2 n d)) (fun n w => v (ix2 n w)) (fun d w => st (ix4 0 0 d w))
          (fun l n => ia (ix3 0 l n)) (fun n => rd (ix3 0 n 0)) (x 0)) (fun w => r (ix2 (x 0) w)) (x 1) := by
  pointwise [k0_pay28, k0_pay24, k0_pay25, k0_pay26, k0_pay20, k0_pay21, k0_pay22, k0_pay23, gated, normed, chunkOut]

theorem o3 (q k : Vec Ideal S256x128 .bf16) (v : Vec Ideal S256x256 .bf16) (st : Vec Ideal S1x1x128x256 .f32)
    (ia : Vec Ideal S1x256x256 .f32) (rd : Vec Ideal S1x256x1 .f32) (r : Vec Ideal S256x256 .f32) (x : S256x256.Idx) :
    k0_pay2 (k0_pay32 q k v st ia rd) r x
      = gated (chunkOut (fun n d => q (ix2 n d)) (fun n d => k (ix2 n d)) (fun n w => v (ix2 n w)) (fun d w => st (ix4 0 0 d w))
          (fun l n => ia (ix3 0 l n)) (fun n => rd (ix3 0 n 0)) (x 0)) (fun w => r (ix2 (x 0) w)) (x 1) := by
  pointwise [k0_pay2, k0_pay32, k0_pay29, k0_pay30, k0_pay31, gated, normed, chunkOut]

/-- The new state of one head from a point's blocks. -/
abbrev nextState (K : Vec Ideal S256x512 .bf16) (V : Vec Ideal S256x1024 .bf16) (S : Vec Ideal S1x4x128x256 .f32)
    (KD : Vec Ideal S4x256x1 .f32) (SD : Vec Ideal S4 .f32) (g : Fin 4) (d : Fin 128) (w : Fin 256) : EReal :=
  chunkState (fun n d => K (ix2 n (slim g d))) (fun n w => V (ix2 n (wide g w))) (fun d w => S (ix4 0 g d w))
    (fun n => KD (ix3 g n 0)) (SD (ix1 g)) d w

/-- The output of one head from a point's blocks. -/
abbrev nextOut (Q K : Vec Ideal S256x512 .bf16) (V : Vec Ideal S256x1024 .bf16) (R : Vec Ideal S256x1024 .f32)
    (S : Vec Ideal S1x4x128x256 .f32) (IA : Vec Ideal S4x256x256 .f32) (RD : Vec Ideal S4x256x1 .f32)
    (g : Fin 4) (l : Fin 256) (w : Fin 256) : EReal :=
  gated (chunkOut (fun n d => Q (ix2 n (slim g d))) (fun n d => K (ix2 n (slim g d))) (fun n w => V (ix2 n (wide g w)))
      (fun d w => S (ix4 0 g d w)) (fun l n => IA (ix3 g l n)) (fun n => RD (ix3 g n 0)) l)
    (fun w => R (ix2 l (wide g w))) w

theorem chunkState_congr {L : ℕ} {k k' : Fin L → Fin 128 → EReal} {v v' : Fin L → Fin 256 → EReal} {st st' : Fin 128 → Fin 256 → EReal}
    {kd kd' : Fin L → EReal} {sd sd' : EReal} (hk : ∀ n d, k n d = k' n d) (hv : ∀ n w, v n w = v' n w)
    (hst : ∀ d w, st d w = st' d w) (hkd : ∀ n, kd n = kd' n) (hsd : sd = sd') (d : Fin 128) (w : Fin 256) :
    chunkState k v st kd sd d w = chunkState k' v' st' kd' sd' d w := by
  rw [funext fun n => funext (hk n), funext fun n => funext (hv n), funext fun n => funext (hst n), funext hkd, hsd]

theorem gated_congr {L : ℕ} {q q' k k' : Fin L → Fin 128 → EReal} {v v' : Fin L → Fin 256 → EReal} {st st' : Fin 128 → Fin 256 → EReal}
    {ia ia' : Fin L → Fin L → EReal} {rd rd' : Fin L → EReal} {r r' : Fin 256 → EReal}
    (hq : ∀ n d, q n d = q' n d) (hk : ∀ n d, k n d = k' n d) (hv : ∀ n w, v n w = v' n w)
    (hst : ∀ d w, st d w = st' d w) (hia : ∀ l n, ia l n = ia' l n) (hrd : ∀ n, rd n = rd' n) (hr : ∀ w, r w = r' w) (l : Fin L) (w : Fin 256) :
    gated (chunkOut q k v st ia rd l) r w = gated (chunkOut q' k' v' st' ia' rd' l) r' w := by
  rw [funext fun n => funext (hq n), funext fun n => funext (hk n), funext fun n => funext (hv n), funext fun n => funext (hst n),
    funext fun n => funext (hia n), funext hrd, funext hr]

theorem head_state0 (K : Vec Ideal S256x512 .bf16) (V : Vec Ideal S256x1024 .bf16) (S : Vec Ideal S1x4x128x256 .f32)
    (KD : Vec Ideal S4x256x1 .f32) (SD : Vec Ideal S4 .f32) (x : S1x1x128x256.Idx) (g : Fin 4) (d : Fin 128) (w : Fin 256)
    (hg : g.val = 0) (hd : d.val = (x 2).val) (hw : w.val = (x 3).val) :
    k0_pay10 (k0_pay5 (View.ld V (Rect.unit (s := S256x1024) ![0, 0] ![256, 256] inb_S256x1024_S256x256_0_0))) (k0_pay6 (View.ld S (Rect.unit (s := S1x4x128x256) ![0, 0, 0, 0] ![1, 1, 128, 256] inb_S1x4x128x256_S1x1x128x256_0_0_0_0))) (k0_pay8 (View.ld K (Rect.unit (s := S256x512) ![0, 0] ![256, 128] inb_S256x512_S256x128_0_0)) (View.ld KD (Rect.unit (s := S4x256x1) ![0, 0, 0] ![1, 256, 1] inb_S4x256x1_S1x256x1_0_0_0))) (k0_pay9 (View.ld SD (Rect.unit (s := S4) ![0] ![1] inb_S4_S1_0) (Shape.Idx.first (by decide)))) x = nextState K V S KD SD g d w := by
  obtain rfl : g = 0 := Fin.ext hg
  rw [st0, show x 2 = d from Fin.ext hd.symm, show x 3 = w from Fin.ext hw.symm]
  exact chunkState_congr (fun _ _ => ld2 K _ _ _ _) (fun _ _ => ld2 V _ _ _ _) (fun _ _ => ld4 S _ _ _ _) (fun _ => ld3 KD _ _ _ _) (ld1 SD _ _ _) _ _

theorem head_out0 (Q K : Vec Ideal S256x512 .bf16) (V : Vec Ideal S256x1024 .bf16) (R : Vec Ideal S256x1024 .f32)
    (S : Vec Ideal S1x4x128x256 .f32) (IA : Vec Ideal S4x256x256 .f32) (RD : Vec Ideal S4x256x1 .f32)
    (x : S256x256.Idx) (g : Fin 4) (l : Fin 256) (w : Fin 256)
    (hg : g.val = 0) (hl : l.val = (x 0).val) (hw : w.val = (x 1).val) :
    k0_pay11 (k0_pay7 (View.ld Q (Rect.unit (s := S256x512) ![0, 0] ![256, 128] inb_S256x512_S256x128_0_0)) (View.ld K (Rect.unit (s := S256x512) ![0, 0] ![256, 128] inb_S256x512_S256x128_0_0)) (View.ld V (Rect.unit (s := S256x1024) ![0, 0] ![256, 256] inb_S256x1024_S256x256_0_0)) (View.ld S (Rect.unit (s := S1x4x128x256) ![0, 0, 0, 0] ![1, 1, 128, 256] inb_S1x4x128x256_S1x1x128x256_0_0_0_0)) (View.ld IA (Rect.unit (s := S4x256x256) ![0, 0, 0] ![1, 256, 256] inb_S4x256x256_S1x256x256_0_0_0)) (View.ld RD (Rect.unit (s := S4x256x1) ![0, 0, 0] ![1, 256, 1] inb_S4x256x1_S1x256x1_0_0_0))) (View.ld R (Rect.unit (s := S256x1024) ![0, 0] ![256, 256] inb_S256x1024_S256x256_0_0)) x = nextOut Q K V R S IA RD g l w := by
  obtain rfl : g = 0 := Fin.ext hg
  rw [o0, show x 0 = l from Fin.ext hl.symm, show x 1 = w from Fin.ext hw.symm]
  exact gated_congr (fun _ _ => ld2 Q _ _ _ _) (fun _ _ => ld2 K _ _ _ _) (fun _ _ => ld2 V _ _ _ _) (fun _ _ => ld4 S _ _ _ _)
    (fun _ _ => ld3 IA _ _ _ _) (fun _ => ld3 RD _ _ _ _) (fun _ => ld2 R _ _ _ _) _ _

theorem head_state1 (K : Vec Ideal S256x512 .bf16) (V : Vec Ideal S256x1024 .bf16) (S : Vec Ideal S1x4x128x256 .f32)
    (KD : Vec Ideal S4x256x1 .f32) (SD : Vec Ideal S4 .f32) (x : S1x1x128x256.Idx) (g : Fin 4) (d : Fin 128) (w : Fin 256)
    (hg : g.val = 1) (hd : d.val = (x 2).val) (hw : w.val = (x 3).val) :
    k0_pay16 (k0_pay13 (View.ld K (Rect.unit (s := S256x512) ![0, 128] ![256, 128] inb_S256x512_S256x128_0_128))) (k0_pay14 (View.ld V (Rect.unit (s := S256x1024) ![0, 256] ![256, 256] inb_S256x1024_S256x256_0_256))) (View.ld S (Rect.unit (s := S1x4x128x256) ![0, 1, 0, 0] ![1, 1, 128, 256] inb_S1x4x128x256_S1x1x128x256_0_1_0_0)) (View.ld KD (Rect.unit (s := S4x256x1) ![1, 0, 0] ![1, 256, 1] inb_S4x256x1_S1x256x1_1_0_0)) (View.ld SD (Rect.unit (s := S4) ![1] ![1] inb_S4_S1_1) (Shape.Idx.first (by decide))) x = nextState K V S KD SD g d w := by
  obtain rfl : g = 1 := Fin.ext hg
  rw [st1, show x 2 = d from Fin.ext hd.symm, show x 3 = w from Fin.ext hw.symm]
  exact chunkState_congr (fun _ _ => ld2 K _ _ _ _) (fun _ _ => ld2 V _ _ _ _) (fun _ _ => ld4 S _ _ _ _) (fun _ => ld3 KD _ _ _ _) (ld1 SD _ _ _) _ _

theorem head_out1 (Q K : Vec Ideal S256x512 .bf16) (V : Vec Ideal S256x1024 .bf16) (R : Vec Ideal S256x1024 .f32)
    (S : Vec Ideal S1x4x128x256 .f32) (IA : Vec Ideal S4x256x256 .f32) (RD : Vec Ideal S4x256x1 .f32)
    (x : S256x256.Idx) (g : Fin 4) (l : Fin 256) (w : Fin 256)
    (hg : g.val = 1) (hl : l.val = (x 0).val) (hw : w.val = (x 1).val) :
    k0_pay19 (k0_pay17 (k0_pay12 (View.ld Q (Rect.unit (s := S256x512) ![0, 128] ![256, 128] inb_S256x512_S256x128_0_128))) (k0_pay13 (View.ld K (Rect.unit (s := S256x512) ![0, 128] ![256, 128] inb_S256x512_S256x128_0_128))) (k0_pay14 (View.ld V (Rect.unit (s := S256x1024) ![0, 256] ![256, 256] inb_S256x1024_S256x256_0_256))) (View.ld S (Rect.unit (s := S1x4x128x256) ![0, 1, 0, 0] ![1, 1, 128, 256] inb_S1x4x128x256_S1x1x128x256_0_1_0_0)) (View.ld IA (Rect.unit (s := S4x256x256) ![1, 0, 0] ![1, 256, 256] inb_S4x256x256_S1x256x256_1_0_0)) (View.ld RD (Rect.unit (s := S4x256x1) ![1, 0, 0] ![1, 256, 1] inb_S4x256x1_S1x256x1_1_0_0))) (k0_pay18 (k0_pay12 (View.ld Q (Rect.unit (s := S256x512) ![0, 128] ![256, 128] inb_S256x512_S256x128_0_128))) (k0_pay13 (View.ld K (Rect.unit (s := S256x512) ![0, 128] ![256, 128] inb_S256x512_S256x128_0_128))) (k0_pay14 (View.ld V (Rect.unit (s := S256x1024) ![0, 256] ![256, 256] inb_S256x1024_S256x256_0_256))) (View.ld S (Rect.unit (s := S1x4x128x256) ![0, 1, 0, 0] ![1, 1, 128, 256] inb_S1x4x128x256_S1x1x128x256_0_1_0_0)) (View.ld IA (Rect.unit (s := S4x256x256) ![1, 0, 0] ![1, 256, 256] inb_S4x256x256_S1x256x256_1_0_0)) (View.ld RD (Rect.unit (s := S4x256x1) ![1, 0, 0] ![1, 256, 1] inb_S4x256x1_S1x256x1_1_0_0))) (View.ld R (Rect.unit (s := S256x1024) ![0, 256] ![256, 256] inb_S256x1024_S256x256_0_256)) x = nextOut Q K V R S IA RD g l w := by
  obtain rfl : g = 1 := Fin.ext hg
  rw [o1, show x 0 = l from Fin.ext hl.symm, show x 1 = w from Fin.ext hw.symm]
  exact gated_congr (fun _ _ => ld2 Q _ _ _ _) (fun _ _ => ld2 K _ _ _ _) (fun _ _ => ld2 V _ _ _ _) (fun _ _ => ld4 S _ _ _ _)
    (fun _ _ => ld3 IA _ _ _ _) (fun _ => ld3 RD _ _ _ _) (fun _ => ld2 R _ _ _ _) _ _

theorem head_state2 (K : Vec Ideal S256x512 .bf16) (V : Vec Ideal S256x1024 .bf16) (S : Vec Ideal S1x4x128x256 .f32)
    (KD : Vec Ideal S4x256x1 .f32) (SD : Vec Ideal S4 .f32) (x : S1x1x128x256.Idx) (g : Fin 4) (d : Fin 128) (w : Fin 256)
    (hg : g.val = 2) (hd : d.val = (x 2).val) (hw : w.val = (x 3).val) :
    k0_pay27 (k0_pay21 (View.ld K (Rect.unit (s := S256x512) ![0, 256] ![256, 128] inb_S256x512_S256x128_0_256))) (k0_pay22 (View.ld V (Rect.unit (s := S256x1024) ![0, 512] ![256, 256] inb_S256x1024_S256x256_0_512))) (k0_pay23 (View.ld S (Rect.unit (s := S1x4x128x256) ![0, 2, 0, 0] ![1, 1, 128, 256] inb_S1x4x128x256_S1x1x128x256_0_2_0_0))) (View.ld KD (Rect.unit (s := S4x256x1) ![2, 0, 0] ![1, 256, 1] inb_S4x256x1_S1x256x1_2_0_0)) (View.ld SD (Rect.unit (s := S4) ![2] ![1] inb_S4_S1_2) (Shape.Idx.first (by decide))) x = nextState K V S KD SD g d w := by
  obtain rfl : g = 2 := Fin.ext hg
  rw [st2, show x 2 = d from Fin.ext hd.symm, show x 3 = w from Fin.ext hw.symm]
  exact chunkState_congr (fun _ _ => ld2 K _ _ _ _) (fun _ _ => ld2 V _ _ _ _) (fun _ _ => ld4 S _ _ _ _) (fun _ => ld3 KD _ _ _ _) (ld1 SD _ _ _) _ _

theorem head_out2 (Q K : Vec Ideal S256x512 .bf16) (V : Vec Ideal S256x1024 .bf16) (R : Vec Ideal S256x1024 .f32)
    (S : Vec Ideal S1x4x128x256 .f32) (IA : Vec Ideal S4x256x256 .f32) (RD : Vec Ideal S4x256x1 .f32)
    (x : S256x256.Idx) (g : Fin 4) (l : Fin 256) (w : Fin 256)
    (hg : g.val = 2) (hl : l.val = (x 0).val) (hw : w.val = (x 1).val) :
    k0_pay28 (k0_pay24 (View.ld Q (Rect.unit (s := S256x512) ![0, 256] ![256, 128] inb_S256x512_S256x128_0_256)) (View.ld K (Rect.unit (s := S256x512) ![0, 256] ![256, 128] inb_S256x512_S256x128_0_256)) (View.ld V (Rect.unit (s := S256x1024) ![0, 512] ![256, 256] inb_S256x1024_S256x256_0_512)) (View.ld IA (Rect.unit (s := S4x256x256) ![2, 0, 0] ![1, 256, 256] inb_S4x256x256_S1x256x256_2_0_0))) (k0_pay25 (View.ld Q (Rect.unit (s := S256x512) ![0, 256] ![256, 128] inb_S256x512_S256x128_0_256)) (View.ld S (Rect.unit (s := S1x4x128x256) ![0, 2, 0, 0] ![1, 1, 128, 256] inb_S1x4x128x256_S1x1x128x256_0_2_0_0))) (k0_pay26 (View.ld RD (Rect.unit (s := S4x256x1) ![2, 0, 0] ![1, 256, 1] inb_S4x256x1_S1x256x1_2_0_0))) (View.ld R (Rect.unit (s := S256x1024) ![0, 512] ![256, 256] inb_S256x1024_S256x256_0_512)) x = nextOut Q K V R S IA RD g l w := by
  obtain rfl : g = 2 := Fin.ext hg
  rw [o2, show x 0 = l from Fin.ext hl.symm, show x 1 = w from Fin.ext hw.symm]
  exact gated_congr (fun _ _ => ld2 Q _ _ _ _) (fun _ _ => ld2 K _ _ _ _) (fun _ _ => ld2 V _ _ _ _) (fun _ _ => ld4 S _ _ _ _)
    (fun _ _ => ld3 IA _ _ _ _) (fun _ => ld3 RD _ _ _ _) (fun _ => ld2 R _ _ _ _) _ _

theorem head_state3 (K : Vec Ideal S256x512 .bf16) (V : Vec Ideal S256x1024 .bf16) (S : Vec Ideal S1x4x128x256 .f32)
    (KD : Vec Ideal S4x256x1 .f32) (SD : Vec Ideal S4 .f32) (x : S1x1x128x256.Idx) (g : Fin 4) (d : Fin 128) (w : Fin 256)
    (hg : g.val = 3) (hd : d.val = (x 2).val) (hw : w.val = (x 3).val) :
    k0_pay1 (k0_pay33 (View.ld K (Rect.unit (s := S256x512) ![0, 384] ![256, 128] inb_S256x512_S256x128_0_384)) (View.ld V (Rect.unit (s := S256x1024) ![0, 768] ![256, 256] inb_S256x1024_S256x256_0_768)) (View.ld S (Rect.unit (s := S1x4x128x256) ![0, 3, 0, 0] ![1, 1, 128, 256] inb_S1x4x128x256_S1x1x128x256_0_3_0_0)) (View.ld KD (Rect.unit (s := S4x256x1) ![3, 0, 0] ![1, 256, 1] inb_S4x256x1_S1x256x1_3_0_0)) (View.ld SD (Rect.unit (s := S4) ![3] ![1] inb_S4_S1_3) (Shape.Idx.first (by decide)))) x = nextState K V S KD SD g d w := by
  obtain rfl : g = 3 := Fin.ext hg
  rw [st3, show x 2 = d from Fin.ext hd.symm, show x 3 = w from Fin.ext hw.symm]
  exact chunkState_congr (fun _ _ => ld2 K _ _ _ _) (fun _ _ => ld2 V _ _ _ _) (fun _ _ => ld4 S _ _ _ _) (fun _ => ld3 KD _ _ _ _) (ld1 SD _ _ _) _ _

theorem head_out3 (Q K : Vec Ideal S256x512 .bf16) (V : Vec Ideal S256x1024 .bf16) (R : Vec Ideal S256x1024 .f32)
    (S : Vec Ideal S1x4x128x256 .f32) (IA : Vec Ideal S4x256x256 .f32) (RD : Vec Ideal S4x256x1 .f32)
    (x : S256x256.Idx) (g : Fin 4) (l : Fin 256) (w : Fin 256)
    (hg : g.val = 3) (hl : l.val = (x 0).val) (hw : w.val = (x 1).val) :
    k0_pay2 (k0_pay32 (View.ld Q (Rect.unit (s := S256x512) ![0, 384] ![256, 128] inb_S256x512_S256x128_0_384)) (View.ld K (Rect.unit (s := S256x512) ![0, 384] ![256, 128] inb_S256x512_S256x128_0_384)) (View.ld V (Rect.unit (s := S256x1024) ![0, 768] ![256, 256] inb_S256x1024_S256x256_0_768)) (View.ld S (Rect.unit (s := S1x4x128x256) ![0, 3, 0, 0] ![1, 1, 128, 256] inb_S1x4x128x256_S1x1x128x256_0_3_0_0)) (View.ld IA (Rect.unit (s := S4x256x256) ![3, 0, 0] ![1, 256, 256] inb_S4x256x256_S1x256x256_3_0_0)) (View.ld RD (Rect.unit (s := S4x256x1) ![3, 0, 0] ![1, 256, 1] inb_S4x256x1_S1x256x1_3_0_0))) (View.ld R (Rect.unit (s := S256x1024) ![0, 768] ![256, 256] inb_S256x1024_S256x256_0_768)) x = nextOut Q K V R S IA RD g l w := by
  obtain rfl : g = 3 := Fin.ext hg
  rw [o3, show x 0 = l from Fin.ext hl.symm, show x 1 = w from Fin.ext hw.symm]
  exact gated_congr (fun _ _ => ld2 Q _ _ _ _) (fun _ _ => ld2 K _ _ _ _) (fun _ _ => ld2 V _ _ _ _) (fun _ _ => ld4 S _ _ _ _)
    (fun _ _ => ld3 IA _ _ _ _) (fun _ => ld3 RD _ _ _ _) (fun _ => ld2 R _ _ _ _) _ _

set_option maxHeartbeats 400000

theorem state_A (c : Dev nD) (t : Fin cfg0.N) (h0 : t.val % 32 = 0) (g : Fin 4) (d : Fin 128) (w : Fin 256) :
    (outsAt0 m c t.val t.isLt).2 (ix4 0 g d w)
      = nextState (iblk m c 1 t) (iblk m c 2 t) (before m c t) (iblk m c 7 t) (iblk m c 8 t) g d w := by
  rw [outsAt0_A m c t h0]
  simp only [before, if_pos h0]
  frame_open
  simp (disch := decide) only [↓ View.readCov_skip, ↓ View.readCov_cons_toLoadRect, ↓ View.readCov_fill]
  frame_out
  simp only [copy]
  refine View.canon_append_of_piecesOf (Val := Elt Ideal) (e := .f32) (s := S1x4x128x256) (fun y : S1x4x128x256.Idx => nextState (iblk m c 1 t) (iblk m c 2 t) (iblk m c 4 t) (iblk m c 7 t) (iblk m c 8 t) (y 1) (y 2) (y 3))
    [_] [_, _, _, _] ⟨fun x => ?_, fun x => ?_, fun x => ?_, fun x => ?_, trivial⟩ (ix4 0 g d w) ?_
  · have x1 := (x 1).isLt
    exact head_state3 (iblk m c 1 t) (iblk m c 2 t) (iblk m c 4 t) (iblk m c 7 t) (iblk m c 8 t) x _ _ _ (by rw [Rect.emb_apply]; simp [Rect.unit] at x1 ⊢) (by rw [Rect.emb_apply]; simp [Rect.unit])
      (by rw [Rect.emb_apply]; simp [Rect.unit])
  · have x1 := (x 1).isLt
    exact head_state2 (iblk m c 1 t) (iblk m c 2 t) (iblk m c 4 t) (iblk m c 7 t) (iblk m c 8 t) x _ _ _ (by rw [Rect.emb_apply]; simp [Rect.unit] at x1 ⊢) (by rw [Rect.emb_apply]; simp [Rect.unit])
      (by rw [Rect.emb_apply]; simp [Rect.unit])
  · have x1 := (x 1).isLt
    exact head_state1 (iblk m c 1 t) (iblk m c 2 t) (iblk m c 4 t) (iblk m c 7 t) (iblk m c 8 t) x _ _ _ (by rw [Rect.emb_apply]; simp [Rect.unit] at x1 ⊢) (by rw [Rect.emb_apply]; simp [Rect.unit])
      (by rw [Rect.emb_apply]; simp [Rect.unit])
  · have x1 := (x 1).isLt
    exact head_state0 (iblk m c 1 t) (iblk m c 2 t) (iblk m c 4 t) (iblk m c 7 t) (iblk m c 8 t) x _ _ _ (by rw [Rect.emb_apply]; simp [Rect.unit] at x1 ⊢) (by rw [Rect.emb_apply]; simp [Rect.unit])
      (by rw [Rect.emb_apply]; simp [Rect.unit])
  · exact View.cover_of_tiled_head _ _ _ (by rfl) _

theorem state_B (c : Dev nD) (t : Fin cfg0.N) (h0 : ¬t.val % 32 = 0) (g : Fin 4) (d : Fin 128) (w : Fin 256) :
    (outsAt0 m c t.val t.isLt).2 (ix4 0 g d w)
      = nextState (iblk m c 1 t) (iblk m c 2 t) (before m c t) (iblk m c 7 t) (iblk m c 8 t) g d w := by
  obtain ⟨y, hy⟩ : ∃ y : S1x4x128x256.Idx, y = ix4 0 g d w := ⟨_, rfl⟩
  have a1 : (y 1).val = g.val := by rw [hy]; rfl
  have a2 : (y 2).val = d.val := by rw [hy]; rfl
  have a3 : (y 3).val = w.val := by rw [hy]; rfl
  rw [← hy, outsAt0_B m c t h0]
  clear hy
  simp only [before, if_neg h0]
  generalize (outsAt0 m c (t.val - 1) (Nat.lt_of_le_of_lt (Nat.sub_le _ _) t.isLt)).2 = X
  frame_out
  canon_tiles x h
  · exact head_state3 (iblk m c 1 t) (iblk m c 2 t) X (iblk m c 7 t) (iblk m c 8 t) x g d w (by omega) (by omega) (by omega)
  · exact head_state2 (iblk m c 1 t) (iblk m c 2 t) X (iblk m c 7 t) (iblk m c 8 t) x g d w (by omega) (by omega) (by omega)
  · exact head_state1 (iblk m c 1 t) (iblk m c 2 t) X (iblk m c 7 t) (iblk m c 8 t) x g d w (by omega) (by omega) (by omega)
  · exact head_state0 (iblk m c 1 t) (iblk m c 2 t) X (iblk m c 7 t) (iblk m c 8 t) x g d w (by omega) (by omega) (by omega)

theorem out_A (c : Dev nD) (t : Fin cfg0.N) (h0 : t.val % 32 = 0) (g : Fin 4) (l : Fin 256) (w : Fin 256) :
    (outsAt0 m c t.val t.isLt).1 (ix2 l (wide g w))
      = nextOut (iblk m c 0 t) (iblk m c 1 t) (iblk m c 2 t) (iblk m c 3 t) (before m c t) (iblk m c 5 t) (iblk m c 6 t) g l w := by
  obtain ⟨y, hy⟩ : ∃ y : S256x1024.Idx, y = ix2 l (wide g w) := ⟨_, rfl⟩
  have a0 : (y 0).val = l.val := by rw [hy]; rfl
  have a1 : (y 1).val = 256 * g.val + w.val := by rw [hy]; rfl
  rw [← hy, outsAt0_A m c t h0]
  clear hy
  simp only [before, if_pos h0]
  frame_open
  simp (disch := decide) only [↓ View.readCov_skip, ↓ View.readCov_cons_toLoadRect, ↓ View.readCov_fill]
  frame_out
  simp only [copy]
  canon_tiles x h
  · exact head_out3 (iblk m c 0 t) (iblk m c 1 t) (iblk m c 2 t) (iblk m c 3 t) (iblk m c 4 t) (iblk m c 5 t) (iblk m c 6 t) x g l w
      (by omega) (by omega) (by omega)
  · exact head_out2 (iblk m c 0 t) (iblk m c 1 t) (iblk m c 2 t) (iblk m c 3 t) (iblk m c 4 t) (iblk m c 5 t) (iblk m c 6 t) x g l w
      (by omega) (by omega) (by omega)
  · exact head_out1 (iblk m c 0 t) (iblk m c 1 t) (iblk m c 2 t) (iblk m c 3 t) (iblk m c 4 t) (iblk m c 5 t) (iblk m c 6 t) x g l w
      (by omega) (by omega) (by omega)
  · exact head_out0 (iblk m c 0 t) (iblk m c 1 t) (iblk m c 2 t) (iblk m c 3 t) (iblk m c 4 t) (iblk m c 5 t) (iblk m c 6 t) x g l w
      (by omega) (by omega) (by omega)

theorem out_B (c : Dev nD) (t : Fin cfg0.N) (h0 : ¬t.val % 32 = 0) (g : Fin 4) (l : Fin 256) (w : Fin 256) :
    (outsAt0 m c t.val t.isLt).1 (ix2 l (wide g w))
      = nextOut (iblk m c 0 t) (iblk m c 1 t) (iblk m c 2 t) (iblk m c 3 t) (before m c t) (iblk m c 5 t) (iblk m c 6 t) g l w := by
  obtain ⟨y, hy⟩ : ∃ y : S256x1024.Idx, y = ix2 l (wide g w) := ⟨_, rfl⟩
  have a0 : (y 0).val = l.val := by rw [hy]; rfl
  have a1 : (y 1).val = 256 * g.val + w.val := by rw [hy]; rfl
  rw [← hy, outsAt0_B m c t h0]
  clear hy
  simp only [before, if_neg h0]
  generalize (outsAt0 m c (t.val - 1) (Nat.lt_of_le_of_lt (Nat.sub_le _ _) t.isLt)).2 = X
  frame_out
  canon_tiles x h
  · exact head_out3 (iblk m c 0 t) (iblk m c 1 t) (iblk m c 2 t) (iblk m c 3 t) X (iblk m c 5 t) (iblk m c 6 t) x g l w
      (by omega) (by omega) (by omega)
  · exact head_out2 (iblk m c 0 t) (iblk m c 1 t) (iblk m c 2 t) (iblk m c 3 t) X (iblk m c 5 t) (iblk m c 6 t) x g l w
      (by omega) (by omega) (by omega)
  · exact head_out1 (iblk m c 0 t) (iblk m c 1 t) (iblk m c 2 t) (iblk m c 3 t) X (iblk m c 5 t) (iblk m c 6 t) x g l w
      (by omega) (by omega) (by omega)
  · exact head_out0 (iblk m c 0 t) (iblk m c 1 t) (iblk m c 2 t) (iblk m c 3 t) X (iblk m c 5 t) (iblk m c 6 t) x g l w
      (by omega) (by omega) (by omega)

end Cert.KernelIdeal.Block
-- ==== Proof.Entry.lean ====
module

public import proofs.«01_k».proof.Proof.Block
public import Idealize.ShloMosaic.Lib.Claim
public import Idealize.ShloMosaic.Lib.StableHlo.RunRead

@[expose] public section

set_option maxRecDepth 16384

noncomputable section

namespace Cert.KernelIdeal.Block

open Cert.KernelIdeal Cert.KernelIdeal.Gen Cert.Retention Idealize.ShloMosaic Idealize.ShloMosaic.TcCoe Idealize.SL.Sem
open Idealize.ShloMosaic.Pipeline (Dat)

variable (m : (ℓ : Loc nD τ sig) → Buf (Elt Ideal) ℓ)

/-- Which block of its array each window holds at a point. -/
theorem idx : ∀ t : Fin grid0.N,
    (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = t.val / 32 ∧ win0_4.index t 1 = 0 ∧ win0_4.index t 2 = 0 ∧ win0_4.index t 3 = 0)
    ∧ (win0_5.index t 0 = 0 ∧ win0_5.index t 1 = 0 ∧ win0_5.index t 2 = 0)
    ∧ (win0_6.index t 0 = 0 ∧ win0_6.index t 1 = 0 ∧ win0_6.index t 2 = 0)
    ∧ (win0_7.index t 0 = 0 ∧ win0_7.index t 1 = 0 ∧ win0_7.index t 2 = 0)
    ∧ (win0_8.index t 0 = 0)
    ∧ (win0_9.index t 0 = t.val ∧ win0_9.index t 1 = 0)
    ∧ (win0_10.index t 0 = t.val / 32 ∧ win0_10.index t 1 = 0 ∧ win0_10.index t 2 = 0 ∧ win0_10.index t 3 = 0) := by
  decide +kernel

theorem entry2 (c : Dev nD) : @Eq (FVec Ideal S32768x512 .bf16) (V m c main_v2)
    (truncf .bf16 (shapeCast S32768x512 (m ((c : Thread nD τ).loc main_arg0) : FVec Ideal S4x8192x4x128 .f32) shapeCasts_S4x8192x4x128_S32768x512) bitsLt_bf16_f32) := by
  unfold V
  simp only [hostOps0, hostOps0_1, hostOps0_2, List.flatten_cons, List.flatten_nil, List.append_nil, List.cons_append, List.nil_append]
  after_reads_simp
  rfl

theorem entry4 (c : Dev nD) : @Eq (FVec Ideal S32768x512 .bf16) (V m c main_v4)
    (truncf .bf16 (shapeCast S32768x512 (m ((c : Thread nD τ).loc main_arg1) : FVec Ideal S4x8192x4x128 .f32) shapeCasts_S4x8192x4x128_S32768x512) bitsLt_bf16_f32) := by
  unfold V
  simp only [hostOps0, hostOps0_1, hostOps0_2, List.flatten_cons, List.flatten_nil, List.append_nil, List.cons_append, List.nil_append]
  after_reads_simp
  rfl

theorem entry6 (c : Dev nD) : @Eq (FVec Ideal S32768x1024 .bf16) (V m c main_v6)
    (truncf .bf16 (shapeCast S32768x1024 (m ((c : Thread nD τ).loc main_arg2) : FVec Ideal S4x8192x4x256 .f32) shapeCasts_S4x8192x4x256_S32768x1024) bitsLt_bf16_f32) := by
  unfold V
  simp only [hostOps0, hostOps0_1, hostOps0_2, List.flatten_cons, List.flatten_nil, List.append_nil, List.cons_append, List.nil_append]
  after_reads_simp
  rfl

theorem entry7 (c : Dev nD) : @Eq (FVec Ideal S32768x1024 .f32) (V m c main_v7)
    (shapeCast S32768x1024 (m ((c : Thread nD τ).loc main_arg3) : FVec Ideal S4x8192x4x256 .f32) shapeCasts_S4x8192x4x256_S32768x1024) := by
  unfold V
  simp only [hostOps0, hostOps0_1, hostOps0_2, List.flatten_cons, List.flatten_nil, List.append_nil, List.cons_append, List.nil_append]
  after_reads_simp
  rfl

theorem entry0 (c : Dev nD) : @Eq (FVec Ideal S4x4x128x256 .f32) (V m c main_v0)
    (broadcastInDim S4x4x128x256 ![] bcast_S_S4x4x128x256 (constant (F := Ideal) S_ .f32 0x00000000#32)) := by
  unfold V
  simp only [hostOps0, hostOps0_1, hostOps0_2, List.flatten_cons, List.flatten_nil, List.append_nil, List.cons_append, List.nil_append]
  after_reads_simp

theorem entry31 (c : Dev nD) (g : Fin 4) (l n : Fin 256) :
    (V m c main_v31 : FVec Ideal S4x256x256 .f32) (ix3 g l n) = ((between g l.val n.val : ℝ) : EReal) := by
  rw [← ia_eq l.val n.val (by omega) (by omega) g]
  unfold V
  simp only [hostOps0, hostOps0_1, hostOps0_2, List.flatten_cons, List.flatten_nil, List.append_nil, List.cons_append, List.nil_append]
  after_reads_simp
  show select (broadcastInDim S4x256x256 ![1, 2] bcast_S256x256_S4x256x256_1_2
      (cmpf .oge
        (subf
          (broadcastInDim S256x256 ![0, 1] bcast_S256x1_S256x256_0_1
            (broadcastInDim S256x1 ![0] bcast_S256_S256x1_0 (sitofp (F := Ideal) .f32 (iotaInDim S256 32 0))))
          (broadcastInDim S256x256 ![0, 1] bcast_S1x256_S256x256_0_1
            (broadcastInDim S1x256 ![1] bcast_S256_S1x256_1 (sitofp .f32 (iotaInDim S256 32 0)))))
        (broadcastInDim S256x256 ![] bcast_S_S256x256 (constant S_ .f32 0#32))))
    (Host.exp
      (mulf
        (broadcastInDim S4x256x256 ![0, 1, 2] bcast_S1x256x256_S4x256x256_0_1_2
          (broadcastInDim S1x256x256 ![1, 2] bcast_S256x256_S1x256x256_1_2
            (maximumf
              (subf
                (broadcastInDim S256x256 ![0, 1] bcast_S256x1_S256x256_0_1
                  (broadcastInDim S256x1 ![0] bcast_S256_S256x1_0 (sitofp .f32 (iotaInDim S256 32 0))))
                (broadcastInDim S256x256 ![0, 1] bcast_S1x256_S256x256_0_1
                  (broadcastInDim S1x256 ![1] bcast_S256_S1x256_1 (sitofp .f32 (iotaInDim S256 32 0)))))
              (broadcastInDim S256x256 ![] bcast_S_S256x256 (constant S_ .f32 0#32)))))
        (broadcastInDim S4x256x256 ![0, 1, 2] bcast_S4x1x1_S4x256x256_0_1_2
          (broadcastInDim S4x1x1 ![0] bcast_S4_S4x1x1_0
            (Host.log1p
              (Host.negf
                (Host.powf (broadcastInDim S4 ![] bcast_S_S4 (constant S_ .f32 1073741824#32))
                  (subf (broadcastInDim S4 ![] bcast_S_S4 (constant S_ .f32 3231711232#32))
                    (sitofp .f32 (iotaInDim S4 32 0)))))))))
      ) (broadcastInDim S4x256x256 ![] bcast_S_S4x256x256 (constant S_ .f32 0#32)) (ix3 g l n) = _
  pointwise

theorem entry40 (c : Dev nD) (g : Fin 4) (l : Fin 256) :
    (V m c main_v40 : FVec Ideal S4x256x1 .f32) (ix3 g l 0) = ((decay g ^ (l.val + 1) : ℝ) : EReal) := by
  rw [← rd_eq l.val (by omega) g]
  unfold V
  simp only [hostOps0, hostOps0_1, hostOps0_2, List.flatten_cons, List.flatten_nil, List.append_nil, List.cons_append, List.nil_append]
  after_reads_simp
  pointwise

theorem entry49 (c : Dev nD) (g : Fin 4) (l : Fin 256) :
    (V m c main_v49 : FVec Ideal S4x256x1 .f32) (ix3 g l 0) = ((decay g ^ (255 - l.val) : ℝ) : EReal) := by
  rw [← kd_eq 255 255 l.val (by norm_num) (by omega) (by omega) g, ← c255_eq]
  unfold V
  simp only [hostOps0, hostOps0_1, hostOps0_2, List.flatten_cons, List.flatten_nil, List.append_nil, List.cons_append, List.nil_append]
  after_reads_simp
  pointwise

theorem entry52 (c : Dev nD) (g : Fin 4) :
    (V m c main_v52 : FVec Ideal S4 .f32) (ix1 g) = ((decay g ^ 256 : ℝ) : EReal) := by
  rw [← exp_mul, show (((256 : ℕ) : ℝ) : EReal) = ((256 : ℝ) : EReal) by norm_num, ← c256_eq]
  unfold V
  simp only [hostOps0, hostOps0_1, hostOps0_2, List.flatten_cons, List.flatten_nil, List.append_nil, List.cons_append, List.nil_append]
  after_reads_simp
  pointwise

/-! ## The blocks of a point -/

/-- A flattened array's row and column are the token's stream, position, head and coordinate. -/
theorem row512 (X : FVec Ideal S4x8192x4x128 .f32) (r : Fin 32768) (g : Fin 4) (d : Fin 128) (b : Fin 4) (s : Fin 8192)
    (hr : r.val = 8192 * b.val + s.val) :
    shapeCast S32768x512 X shapeCasts_S4x8192x4x128_S32768x512 (ix2 r (slim g d)) = X (ix4 b s g d) := by
  pointwise
  have e0 : ∀ h, (⟨r.val / 8192, h⟩ : Fin 4) = b := fun _ => Fin.ext (by simp only; omega)
  have e3 : ∀ h, (⟨(slim g d).val / 128, h⟩ : Fin 4) = g := fun _ => Fin.ext (by simp only [slim]; omega)
  have e4 : ∀ h, (⟨(slim g d).val % 128, h⟩ : Fin 128) = d := fun _ => Fin.ext (by simp only [slim]; omega)
  have e5 : ∀ h, (⟨r.val % 8192, h⟩ : Fin 8192) = s := fun _ => Fin.ext (by simp only; omega)
  simp only [e0, e3, e4, e5]

/-- A flattened array's row and column are the token's stream, position, head and coordinate. -/
theorem row1024 (X : FVec Ideal S4x8192x4x256 .f32) (r : Fin 32768) (g : Fin 4) (d : Fin 256) (b : Fin 4) (s : Fin 8192)
    (hr : r.val = 8192 * b.val + s.val) :
    shapeCast S32768x1024 X shapeCasts_S4x8192x4x256_S32768x1024 (ix2 r (wide g d)) = X (ix4 b s g d) := by
  pointwise
  have e0 : ∀ h, (⟨r.val / 8192, h⟩ : Fin 4) = b := fun _ => Fin.ext (by simp only; omega)
  have e3 : ∀ h, (⟨(wide g d).val / 256, h⟩ : Fin 4) = g := fun _ => Fin.ext (by simp only [wide]; omega)
  have e4 : ∀ h, (⟨(wide g d).val % 256, h⟩ : Fin 256) = d := fun _ => Fin.ext (by simp only [wide]; omega)
  have e5 : ∀ h, (⟨r.val % 8192, h⟩ : Fin 8192) = s := fun _ => Fin.ext (by simp only; omega)
  simp only [e0, e3, e4, e5]

theorem at0 (F : FVec Ideal S32768x512 .bf16) (t : Fin cfg0.N) (n : Fin 256) (x : Fin 512) (r : Fin 32768) (hr : r.val = 256 * t.val + n.val) :
    F (((cfg0.win 0).blk t).view.emb (ix2 n x)) = F (ix2 r x) := by
  blk_ext [idx t]

theorem blk0 (c : Dev nD) (t : Fin cfg0.N) (n : Fin 256) (g : Fin 4) (d : Fin 128) (b : Fin 4) (s : Fin 8192)
    (hs : 8192 * b.val + s.val = 256 * t.val + n.val) :
    (iblk m c 0 t : FVec Ideal S256x512 .bf16) (ix2 n (slim g d)) = (m ((c : Thread nD τ).loc main_arg0) : FVec Ideal S4x8192x4x128 .f32) (ix4 b s g d) := by
  have ht : t.val < 128 := lt_of_lt_of_eq t.isLt N_0
  refine (at0 (V m c main_v2) t n (slim g d) ⟨256 * t.val + n.val, by omega⟩ rfl).trans ?_
  rw [entry2]
  exact row512 _ _ g d b s hs.symm

theorem at1 (F : FVec Ideal S32768x512 .bf16) (t : Fin cfg0.N) (n : Fin 256) (x : Fin 512) (r : Fin 32768) (hr : r.val = 256 * t.val + n.val) :
    F (((cfg0.win 1).blk t).view.emb (ix2 n x)) = F (ix2 r x) := by
  blk_ext [idx t]

theorem blk1 (c : Dev nD) (t : Fin cfg0.N) (n : Fin 256) (g : Fin 4) (d : Fin 128) (b : Fin 4) (s : Fin 8192)
    (hs : 8192 * b.val + s.val = 256 * t.val + n.val) :
    (iblk m c 1 t : FVec Ideal S256x512 .bf16) (ix2 n (slim g d)) = (m ((c : Thread nD τ).loc main_arg1) : FVec Ideal S4x8192x4x128 .f32) (ix4 b s g d) := by
  have ht : t.val < 128 := lt_of_lt_of_eq t.isLt N_0
  refine (at1 (V m c main_v4) t n (slim g d) ⟨256 * t.val + n.val, by omega⟩ rfl).trans ?_
  rw [entry4]
  exact row512 _ _ g d b s hs.symm

theorem at2 (F : FVec Ideal S32768x1024 .bf16) (t : Fin cfg0.N) (n : Fin 256) (x : Fin 1024) (r : Fin 32768) (hr : r.val = 256 * t.val + n.val) :
    F (((cfg0.win 2).blk t).view.emb (ix2 n x)) = F (ix2 r x) := by
  blk_ext [idx t]

theorem blk2 (c : Dev nD) (t : Fin cfg0.N) (n : Fin 256) (g : Fin 4) (d : Fin 256) (b : Fin 4) (s : Fin 8192)
    (hs : 8192 * b.val + s.val = 256 * t.val + n.val) :
    (iblk m c 2 t : FVec Ideal S256x1024 .bf16) (ix2 n (wide g d)) = (m ((c : Thread nD τ).loc main_arg2) : FVec Ideal S4x8192x4x256 .f32) (ix4 b s g d) := by
  have ht : t.val < 128 := lt_of_lt_of_eq t.isLt N_0
  refine (at2 (V m c main_v6) t n (wide g d) ⟨256 * t.val + n.val, by omega⟩ rfl).trans ?_
  rw [entry6]
  exact row1024 _ _ g d b s hs.symm

theorem at3 (F : FVec Ideal S32768x1024 .f32) (t : Fin cfg0.N) (n : Fin 256) (x : Fin 1024) (r : Fin 32768) (hr : r.val = 256 * t.val + n.val) :
    F (((cfg0.win 3).blk t).view.emb (ix2 n x)) = F (ix2 r x) := by
  blk_ext [idx t]

theorem blk3 (c : Dev nD) (t : Fin cfg0.N) (n : Fin 256) (g : Fin 4) (d : Fin 256) (b : Fin 4) (s : Fin 8192)
    (hs : 8192 * b.val + s.val = 256 * t.val + n.val) :
    (iblk m c 3 t : FVec Ideal S256x1024 .f32) (ix2 n (wide g d)) = (m ((c : Thread nD τ).loc main_arg3) : FVec Ideal S4x8192x4x256 .f32) (ix4 b s g d) := by
  have ht : t.val < 128 := lt_of_lt_of_eq t.isLt N_0
  refine (at3 (V m c main_v7) t n (wide g d) ⟨256 * t.val + n.val, by omega⟩ rfl).trans ?_
  rw [entry7]
  exact row1024 _ _ g d b s hs.symm

theorem at4 (F : FVec Ideal S4x4x128x256 .f32) (t : Fin cfg0.N) (g : Fin 4) (d : Fin 128) (w : Fin 256) (b : Fin 4) (hb : b.val = t.val / 32) :
    F (((cfg0.win 4).blk t).view.emb (ix4 0 g d w)) = F (ix4 b g d w) := by
  blk_ext [idx t]

theorem blk4 (c : Dev nD) (t : Fin cfg0.N) (g : Fin 4) (d : Fin 128) (w : Fin 256) :
    (iblk m c 4 t : FVec Ideal S1x4x128x256 .f32) (ix4 0 g d w) = (0 : EReal) := by
  have ht : t.val < 128 := lt_of_lt_of_eq t.isLt N_0
  refine (at4 (V m c main_v0) t g d w ⟨t.val / 32, by omega⟩ rfl).trans ?_
  rw [entry0]
  pointwise

theorem at5 (F : FVec Ideal S4x256x256 .f32) (t : Fin cfg0.N) (g : Fin 4) (l n : Fin 256) :
    F (((cfg0.win 5).blk t).view.emb (ix3 g l n)) = F (ix3 g l n) := by
  blk_ext [idx t]

theorem blk5 (c : Dev nD) (t : Fin cfg0.N) (g : Fin 4) (l n : Fin 256) :
    (iblk m c 5 t : FVec Ideal S4x256x256 .f32) (ix3 g l n) = ((between g l.val n.val : ℝ) : EReal) :=
  (at5 (V m c main_v31) t g l n).trans (entry31 m c g l n)

theorem at6 (F : FVec Ideal S4x256x1 .f32) (t : Fin cfg0.N) (g : Fin 4) (l : Fin 256) :
    F (((cfg0.win 6).blk t).view.emb (ix3 g l 0)) = F (ix3 g l 0) := by
  blk_ext [idx t]

theorem blk6 (c : Dev nD) (t : Fin cfg0.N) (g : Fin 4) (l : Fin 256) :
    (iblk m c 6 t : FVec Ideal S4x256x1 .f32) (ix3 g l 0) = ((decay g ^ (l.val + 1) : ℝ) : EReal) :=
  (at6 (V m c main_v40) t g l).trans (entry40 m c g l)

theorem at7 (F : FVec Ideal S4x256x1 .f32) (t : Fin cfg0.N) (g : Fin 4) (l : Fin 256) :
    F (((cfg0.win 7).blk t).view.emb (ix3 g l 0)) = F (ix3 g l 0) := by
  blk_ext [idx t]

theorem blk7 (c : Dev nD) (t : Fin cfg0.N) (g : Fin 4) (l : Fin 256) :
    (iblk m c 7 t : FVec Ideal S4x256x1 .f32) (ix3 g l 0) = ((decay g ^ (255 - l.val) : ℝ) : EReal) :=
  (at7 (V m c main_v49) t g l).trans (entry49 m c g l)

theorem at8 (F : FVec Ideal S4 .f32) (t : Fin cfg0.N) (g : Fin 4) :
    F (((cfg0.win 8).blk t).view.emb (ix1 g)) = F (ix1 g) := by
  blk_ext [idx t]

theorem blk8 (c : Dev nD) (t : Fin cfg0.N) (g : Fin 4) :
    (iblk m c 8 t : FVec Ideal S4 .f32) (ix1 g) = ((decay g ^ 256 : ℝ) : EReal) :=
  (at8 (V m c main_v52) t g).trans (entry52 m c g)

end Cert.KernelIdeal.Block
-- ==== Proof.Points.lean ====
module

public import proofs.«01_k».proof.Proof.Entry

@[expose] public section

set_option maxRecDepth 16384

noncomputable section

namespace Cert.KernelIdeal.Block

open Cert.KernelIdeal Cert.KernelIdeal.Gen Cert.Retention Idealize.ShloMosaic Idealize.ShloMosaic.TcCoe Idealize.SL.Sem
open Idealize.ShloMosaic.Pipeline (Dat)

variable (m : (ℓ : Loc nD τ sig) → Buf (Elt Ideal) ℓ)

/-- The queries, keys, values and gates a core is launched with. -/
abbrev aq (c : Dev nD) : FVec Ideal S4x8192x4x128 .f32 := m ((c : Thread nD τ).loc main_arg0)
abbrev ak (c : Dev nD) : FVec Ideal S4x8192x4x128 .f32 := m ((c : Thread nD τ).loc main_arg1)
abbrev av (c : Dev nD) : FVec Ideal S4x8192x4x256 .f32 := m ((c : Thread nD τ).loc main_arg2)
abbrev ar (c : Dev nD) : FVec Ideal S4x8192x4x256 .f32 := m ((c : Thread nD τ).loc main_arg3)

variable {m}

/-- A point's chunk, entered with the stream's state, leaves the stream's state after the chunk. -/
theorem state_next (c : Dev nD) (hk : Real' (ak m c)) (hv : Real' (av m c)) (t : Fin cfg0.N) (b : Fin 4) (n : ℕ) (hn : 8192 * b.val + n = 256 * t.val) (hn' : n + 256 ≤ 8192)
    (hb : ∀ g d w, before m c t (ix4 0 g d w) = ((stateAt (decay g) (tok (ak m c) b g) (tok (av m c) b g) n d w : ℝ) : EReal))
    (g : Fin 4) (d : Fin 128) (w : Fin 256) :
    (outsAt0 m c t.val t.isLt).2 (ix4 0 g d w) = ((stateAt (decay g) (tok (ak m c) b g) (tok (av m c) b g) (n + 256) d w : ℝ) : EReal) := by
  have e : (outsAt0 m c t.val t.isLt).2 (ix4 0 g d w)
      = nextState (iblk m c 1 t) (iblk m c 2 t) (before m c t) (iblk m c 7 t) (iblk m c 8 t) g d w := by
    by_cases h0 : t.val % 32 = 0
    · exact state_A m c t h0 g d w
    · exact state_B m c t h0 g d w
  rw [e]
  exact chunkState_eq _ _ g n 256 d w
    (fun i d => (blk1 m c t i g d b ⟨n + i.val, by omega⟩ (by simp only; omega)).trans (tok_eq _ hk b g _ d _ rfl))
    (fun i w => (blk2 m c t i g w b ⟨n + i.val, by omega⟩ (by simp only; omega)).trans (tok_eq _ hv b g _ w _ rfl))
    (fun d w => hb g d w) (fun i => blk7 m c t g i) (blk8 m c t g)

/-- The state before every point. -/
theorem before_eq (c : Dev nD) (hk : Real' (ak m c)) (hv : Real' (av m c)) (b : Fin 4) : ∀ (j : ℕ) (hj : j < 32) (t : Fin cfg0.N) (ht : t.val = 32 * b.val + j) (g : Fin 4) (d : Fin 128) (w : Fin 256),
    before m c t (ix4 0 g d w) = ((stateAt (decay g) (tok (ak m c) b g) (tok (av m c) b g) (256 * j) d w : ℝ) : EReal)
  | 0, hj, t, ht, g, d, w => by
    rw [before, if_pos (by omega)]
    exact (blk4 m c t g d w).trans (by simp [stateAt])
  | j + 1, hj, t, ht, g, d, w => by
    rw [before, if_neg (by omega)]
    have hN : cfg0.N = 128 := N_0
    exact state_next c hk hv ⟨t.val - 1, by omega⟩ b (256 * j) (by simp only; omega) (by omega)
      (fun g d w => before_eq c hk hv b j (by omega) ⟨t.val - 1, by omega⟩ (by simp only; omega) g d w) g d w

/-- The state after a stream's last point. -/
theorem last_state (c : Dev nD) (hk : Real' (ak m c)) (hv : Real' (av m c)) (b : Fin 4) (t : Fin cfg0.N) (ht : t.val = 32 * b.val + 31) (g : Fin 4) (d : Fin 128) (w : Fin 256) :
    (outsAt0 m c t.val t.isLt).2 (ix4 0 g d w) = ((stateAt (decay g) (tok (ak m c) b g) (tok (av m c) b g) 8192 d w : ℝ) : EReal) :=
  state_next c hk hv t b 7936 (by omega) (by omega) (fun g d w => before_eq c hk hv b 31 (by omega) t ht g d w) g d w

/-- The output rows of a point. -/
theorem point_out (c : Dev nD) (hq : Real' (aq m c)) (hk : Real' (ak m c)) (hv : Real' (av m c)) (b : Fin 4) (t : Fin cfg0.N) (l : Fin 256) (s : Fin 8192)
    (hs : 8192 * b.val + s.val = 256 * t.val + l.val) (g : Fin 4) (w : Fin 256) :
    (outsAt0 m c t.val t.isLt).1 (ix2 l (wide g w))
      = gated (fun w => ((outputAt (decay g) (tok (aq m c) b g) (tok (ak m c) b g) (tok (av m c) b g) s.val w : ℝ) : EReal)) (fun w => ar m c (ix4 b s g w)) w := by
  have hN : cfg0.N = 128 := N_0
  have ht : t.val < 128 := lt_of_lt_of_eq t.isLt N_0
  have e : (outsAt0 m c t.val t.isLt).1 (ix2 l (wide g w))
      = nextOut (iblk m c 0 t) (iblk m c 1 t) (iblk m c 2 t) (iblk m c 3 t) (before m c t) (iblk m c 5 t) (iblk m c 6 t) g l w := by
    by_cases h0 : t.val % 32 = 0
    · exact out_A m c t h0 g l w
    · exact out_B m c t h0 g l w
  rw [e]
  have hs' : s.val = 256 * (t.val % 32) + l.val := by omega
  refine congrArg₂ (gated · · w) (funext fun w => ?_) (funext fun w => blk3 m c t l g w b s hs)
  rw [hs']
  exact chunkOut_eq _ _ _ g (256 * (t.val % 32)) 256 l w
    (fun i d => (blk0 m c t i g d b ⟨256 * (t.val % 32) + i.val, by omega⟩ (by simp only; omega)).trans (tok_eq _ hq b g _ d _ rfl))
    (fun i d => (blk1 m c t i g d b ⟨256 * (t.val % 32) + i.val, by omega⟩ (by simp only; omega)).trans (tok_eq _ hk b g _ d _ rfl))
    (fun i w => (blk2 m c t i g w b ⟨256 * (t.val % 32) + i.val, by omega⟩ (by simp only; omega)).trans (tok_eq _ hv b g _ w _ rfl))
    (fun d w => before_eq c hk hv b (t.val % 32) (by omega) t (by omega) g d w) (fun l i => blk5 m c t g l i) (fun i => blk6 m c t g i)

/-! ## The result arrays -/

/-- The stream and position of a row, the head and channel of a column. -/
def stream (r : Fin 32768) : Fin 4 := ⟨r.val / 8192, by omega⟩
def place (r : Fin 32768) : Fin 8192 := ⟨r.val % 8192, by omega⟩
def head (x : Fin 1024) : Fin 4 := ⟨x.val / 256, by omega⟩
def channel (x : Fin 1024) : Fin 256 := ⟨x.val % 256, by omega⟩

/-- The output array and the state array, from the arguments. -/
def G9 (q k : FVec Ideal S4x8192x4x128 .f32) (v r : FVec Ideal S4x8192x4x256 .f32) : FVec Ideal S32768x1024 .bf16 := fun i =>
  gated (fun w => ((outputAt (decay (head (i 1))) (tok q (stream (i 0)) (head (i 1))) (tok k (stream (i 0)) (head (i 1)))
      (tok v (stream (i 0)) (head (i 1))) (place (i 0)).val w : ℝ) : EReal))
    (fun w => r (ix4 (stream (i 0)) (place (i 0)) (head (i 1)) w)) (channel (i 1))

def G10 (k : FVec Ideal S4x8192x4x128 .f32) (v : FVec Ideal S4x8192x4x256 .f32) : FVec Ideal S4x4x128x256 .f32 := fun i =>
  ((stateAt (decay (i 1)) (tok k (i 0) (i 1)) (tok v (i 0) (i 1)) 8192 (i 2) (i 3) : ℝ) : EReal)

theorem G9_eq (q k : FVec Ideal S4x8192x4x128 .f32) (v a : FVec Ideal S4x8192x4x256 .f32) (b : Fin 4) (s : Fin 8192) (g : Fin 4) (w : Fin 256) (r : Fin 32768) (hr : r.val = 8192 * b.val + s.val) :
    G9 q k v a (ix2 r (wide g w))
      = gated (fun w => ((outputAt (decay g) (tok q b g) (tok k b g) (tok v b g) s.val w : ℝ) : EReal)) (fun w => a (ix4 b s g w)) w := by
  have e0 : stream r = b := Fin.ext (by simp only [stream]; omega)
  have e3 : head (wide g w) = g := Fin.ext (by simp only [wide, head]; omega)
  have e4 : channel (wide g w) = w := Fin.ext (by simp only [wide, channel]; omega)
  have e5 : place r = s := Fin.ext (by simp only [place]; omega)
  show gated (fun w' => ((outputAt (decay (head (wide g w))) (tok q (stream r) (head (wide g w))) (tok k (stream r) (head (wide g w)))
      (tok v (stream r) (head (wide g w))) (place r).val w' : ℝ) : EReal))
    (fun w' => a (ix4 (stream r) (place r) (head (wide g w)) w')) (channel (wide g w)) = _
  simp only [e0, e3, e4, e5]

theorem at9 (F : FVec Ideal S32768x1024 .bf16) (t : Fin cfg0.N) (n : Fin 256) (x : Fin 1024) (r : Fin 32768) (hr : r.val = 256 * t.val + n.val) :
    F (((cfg0.win 9).blk t).view.emb (ix2 n x)) = F (ix2 r x) := by
  blk_ext [idx t]

theorem at10 (F : FVec Ideal S4x4x128x256 .f32) (t : Fin cfg0.N) (b : Fin 4) (ht : b.val = t.val / 32) (g : Fin 4) (d : Fin 128) (w : Fin 256) :
    F (((cfg0.win 10).blk t).view.emb (ix4 0 g d w)) = F (ix4 b g d w) := by
  blk_ext [idx t]

theorem wide_head (x : Fin 1024) : wide (head x) (channel x) = x := Fin.ext (by simp only [wide, head, channel]; omega)

theorem arr9 (c : Dev nD) (hq : Real' (aq m c)) (hk : Real' (ak m c)) (hv : Real' (av m c)) :
    (dats m 0 c).arrAt 9 cfg0.N = G9 (aq m c) (ak m c) (av m c) (ar m c) := by
  have hN : cfg0.N = 128 := N_0
  refine (dats m 0 c).arrAt_eq_of_covers 9 _ (by decide +kernel) fun t hf y => ?_
  have ht : t.val < 128 := lt_of_lt_of_eq t.isLt N_0
  blk_simp
  rw [after0_9]
  have y2 : ∃ (l : Fin 256) (x : Fin 1024), y = ix2 l x := ⟨y 0, y 1, by funext a; fin_cases a <;> rfl⟩
  obtain ⟨l, x, rfl⟩ := y2
  rw [← wide_head x]
  have hs : 8192 * (t.val / 32) + (256 * (t.val % 32) + l.val) = 256 * t.val + l.val := by omega
  refine (point_out c hq hk hv ⟨t.val / 32, by omega⟩ t l ⟨256 * (t.val % 32) + l.val, by omega⟩ hs (head x) (channel x)).trans ?_
  refine Eq.trans ?_ (at9 (G9 (aq m c) (ak m c) (av m c) (ar m c)) t l (wide (head x) (channel x)) ⟨256 * t.val + l.val, by omega⟩ rfl).symm
  exact (G9_eq _ _ _ _ ⟨t.val / 32, by omega⟩ ⟨256 * (t.val % 32) + l.val, by omega⟩ (head x) (channel x) _ hs.symm).symm

theorem arr10 (c : Dev nD) (hk : Real' (ak m c)) (hv : Real' (av m c)) :
    (dats m 0 c).arrAt 10 cfg0.N = G10 (ak m c) (av m c) := by
  have hN : cfg0.N = 128 := N_0
  refine (dats m 0 c).arrAt_eq_of_covers 10 _ (by decide +kernel) fun t hf y => ?_
  have ht : t.val < 128 := lt_of_lt_of_eq t.isLt N_0
  have h31 := flush0_10 t
  blk_simp
  rw [after0_10]
  have y4 : ∃ (a : Fin 1) (g : Fin 4) (d : Fin 128) (w : Fin 256), y = ix4 a g d w := ⟨y 0, y 1, y 2, y 3, by funext a; fin_cases a <;> rfl⟩
  obtain ⟨a, g, d, w, rfl⟩ := y4
  obtain rfl : a = 0 := Subsingleton.elim _ _
  have h := h31.mp hf
  refine (last_state c hk hv ⟨t.val / 32, by omega⟩ t (by simp only; omega) g d w).trans ?_
  exact (at10 (G10 (ak m c) (av m c)) t ⟨t.val / 32, by omega⟩ rfl g d w).symm

end Cert.KernelIdeal.Block
-- ==== Proof.Trip.lean ====
module

public import proofs.«01_k».proof.Proof.Chunk
public import proofs.«01_k».proof.Proof.Gen.ReferenceIdeal.Run
public import Idealize.ShloMosaic.Lib.DynamicIndex
public import Idealize.ShloMosaic.Lib.Pipeline.Value
public import Idealize.ShloMosaic.Lib.Pointwise

@[expose] public section

set_option maxRecDepth 16384

noncomputable section

namespace Cert.ReferenceIdeal.Trip

open Cert.ReferenceIdeal Cert.ReferenceIdeal.Gen Cert.ReferenceIdeal.Value Cert.Retention Idealize.ShloMosaic Idealize.ShloMosaic.TcCoe Idealize.SL.Sem
open Idealize.ShloMosaic.StableHlo

/-- A loop index written as a 32-bit word. -/
theorem word (n : Fin 128) : (BitVec.ofNat 32 n.val).toInt = (n.val : ℤ) := by
  rw [BitVec.toInt_eq_toNat_cond, BitVec.toNat_ofNat, Nat.mod_eq_of_lt (by omega), if_pos (by omega)]

/-- The starts of a trip's slice: the trip's number, and zero on every other axis. -/
theorem starts (n : Fin 128) (a : Fin 5) :
    (((![fun _ => BitVec.ofNat 32 n.val, constantI S_ 32 0#32, constantI S_ 32 0#32, constantI S_ 32 0#32, constantI S_ 32 0#32] : Fin 5 → IVec S_ 32)) a (Shape.Idx.first h_S_)).toInt
      = ((![n.val, 0, 0, 0, 0] : Fin 5 → ℕ) a : ℤ) := by
  fin_cases a
  · exact word n
  all_goals rfl

theorem fits128 (n : Fin 128) : S128x4x64x4x128.Slices (![n.val, 0, 0, 0, 0] : Fin 5 → ℕ) S1x4x64x4x128 := by
  refine ⟨rfl, fun a => ?_⟩
  fin_cases a <;> simp [Shape.size] <;> omega

/-- The trip's slice of an array of chunks of 128-wide rows. -/
theorem slice128 (X : FVec Ideal S128x4x64x4x128 .f32) (n : Fin 128) (b : Fin 4) (l : Fin 64) (g : Fin 4) (d : Fin 128) :
    shapeCast S4x64x4x128 (Host.dynamicSlice S1x4x64x4x128 X (fun k => (((![fun _ => BitVec.ofNat 32 n.val, constantI S_ 32 0#32, constantI S_ 32 0#32, constantI S_ 32 0#32, constantI S_ 32 0#32] : Fin 5 → IVec S_ 32)) k (Shape.Idx.first h_S_)).toInt) sliceFits_S128x4x64x4x128_S1x4x64x4x128) shapeCasts_S1x4x64x4x128_S4x64x4x128 (ix4 b l g d)
      = X (ix5 n b l g d) := by
  rw [Host.dynamicSlice_eq_extractStridedSlice (s := S128x4x64x4x128) S1x4x64x4x128 X _ ![n.val, 0, 0, 0, 0] _ (fits128 n) (starts n)]
  pointwise

theorem fits256 (n : Fin 128) : S128x4x64x4x256.Slices (![n.val, 0, 0, 0, 0] : Fin 5 → ℕ) S1x4x64x4x256 := by
  refine ⟨rfl, fun a => ?_⟩
  fin_cases a <;> simp [Shape.size] <;> omega

/-- The trip's slice of an array of chunks of 256-wide rows. -/
theorem slice256 (X : FVec Ideal S128x4x64x4x256 .f32) (n : Fin 128) (b : Fin 4) (l : Fin 64) (g : Fin 4) (d : Fin 256) :
    shapeCast S4x64x4x256 (Host.dynamicSlice S1x4x64x4x256 X (fun k => (((![fun _ => BitVec.ofNat 32 n.val, constantI S_ 32 0#32, constantI S_ 32 0#32, constantI S_ 32 0#32, constantI S_ 32 0#32] : Fin 5 → IVec S_ 32)) k (Shape.Idx.first h_S_)).toInt) sliceFits_S128x4x64x4x256_S1x4x64x4x256) shapeCasts_S1x4x64x4x256_S4x64x4x256 (ix4 b l g d)
      = X (ix5 n b l g d) := by
  rw [Host.dynamicSlice_eq_extractStridedSlice (s := S128x4x64x4x256) S1x4x64x4x256 X _ ![n.val, 0, 0, 0, 0] _ (fits256 n) (starts n)]
  pointwise

/-- The trip's write into the array of chunks: its own chunk is the update, the others stay. -/
theorem update256 (X : FVec Ideal S128x4x64x4x256 .f32) (U : FVec Ideal S1x4x64x4x256 .f32) (n n' : Fin 128) (b : Fin 4) (l : Fin 64) (g : Fin 4) (d : Fin 256) :
    Host.dynamicUpdateSlice X U (fun k => (((![fun _ => BitVec.ofNat 32 n.val, constantI S_ 32 0#32, constantI S_ 32 0#32, constantI S_ 32 0#32, constantI S_ 32 0#32] : Fin 5 → IVec S_ 32)) k (Shape.Idx.first h_S_)).toInt) updateFits_S128x4x64x4x256_S1x4x64x4x256 (ix5 n' b l g d)
      = if n' = n then U (ix5 0 b l g d) else X (ix5 n' b l g d) := by
  rw [Host.dynamicUpdateSlice_eq_updateSlice (s := S128x4x64x4x256) X U _ _ ![n.val, 0, 0, 0, 0] (fun a => by rw [starts n a]; have := (fits256 n).2 a; omega) (fits256 n)]
  pointwise
  by_cases h : n' = n
  · subst h
    rw [dif_pos (by omega), if_pos rfl]
    congr 1; simp
  · have h' : n'.val ≠ n.val := fun e => h (Fin.ext e)
    rw [dif_neg (by omega), if_neg h]

theorem state_step (K : FVec Ideal S4x64x4x128 .f32) (Vv : FVec Ideal S4x64x4x256 .f32) (S : FVec Ideal S4x4x128x256 .f32)
    (V0 : Valuation τ sig (Elt Ideal))
    (b g : Fin 4) (d : Fin 128) (w : Fin 256) :
    addf (mulf (broadcastInDim S4x4x128x256 ![0, 1, 2, 3] bcast_S1x4x1x1_S4x4x128x256_0_1_2_3 (broadcastInDim S1x4x1x1 ![1] bcast_S4_S1x4x1x1_1 (Host.exp (mulf (broadcastInDim S4 ![] bcast_S_S4 (constant S_ .f32 0x42800000#32)) (res_main_while0b_v43 V0))))) S) (Host.dotGeneral dot_S4x64x4x128_S4x64x4x256_S4x4x128x256_1_1_3_3_02_02 none (mulf K (broadcastInDim S4x64x4x128 ![0, 1, 2, 3] bcast_S1x64x4x1_S4x64x4x128_0_1_2_3 (broadcastInDim S1x64x4x1 ![1, 2] bcast_S64x4_S1x64x4x1_1_2 (Host.exp (mulf (broadcastInDim S64x4 ![0, 1] bcast_S64x1_S64x4_0_1 (broadcastInDim S64x1 ![0] bcast_S64_S64x1_0 (subf (broadcastInDim S64 ![] bcast_S_S64 (constant S_ .f32 0x427C0000#32)) (res_main_while0b_v44 V0)))) (broadcastInDim S64x4 ![0, 1] bcast_S1x4_S64x4_0_1 (broadcastInDim S1x4 ![1] bcast_S4_S1x4_1 (res_main_while0b_v43 V0)))))))) Vv) (ix4 b g d w)
      = chunkState (fun n d => K (ix4 b n g d)) (fun n w => Vv (ix4 b n g w)) (fun d w => S (ix4 b g d w))
          (fun n => Ideal.exp ((Ideal.ofBits .f32 0x427C0000#32 - num n.val) * logDecay g))
          (Ideal.exp (Ideal.ofBits .f32 0x42800000#32 * logDecay g)) d w := by
  unfold chunkState logDecay num
  pointwise [res_main_while0b_v43, res_main_while0b_v44]

theorem out_step (Q K : FVec Ideal S4x64x4x128 .f32) (Vv : FVec Ideal S4x64x4x256 .f32) (S : FVec Ideal S4x4x128x256 .f32)
    (V0 : Valuation τ sig (Elt Ideal)) (b : Fin 4) (l : Fin 64) (g : Fin 4) (w : Fin 256) :
    broadcastInDim S1x4x64x4x256 ![1, 2, 3, 4] bcast_S4x64x4x256_S1x4x64x4x256_1_2_3_4 (addf (transpose S4x64x4x256 [0, 3, 1, 2] (Host.dotGeneral dot_S4x64x4x256_S4x4x64x64_S4x4x256x64_1_3_3_2_02_01 none Vv (mulf (Host.dotGeneral dot_S4x64x4x128_S4x64x4x128_S4x4x64x64_3_3_1_1_02_02 none Q K) (broadcastInDim S4x4x64x64 ![0, 1, 2, 3] bcast_S1x4x64x64_S4x4x64x64_0_1_2_3 (broadcastInDim S1x4x64x64 ![1, 2, 3] bcast_S4x64x64_S1x4x64x64_1_2_3 (select (broadcastInDim S4x64x64 ![1, 2] bcast_S64x64_S4x64x64_1_2 (cmpf .oge (res_main_while0b_v49 V0) (broadcastInDim S64x64 ![] bcast_S_S64x64 (constant S_ .f32 0x00000000#32)))) (Host.exp (mulf (broadcastInDim S4x64x64 ![0, 1, 2] bcast_S1x64x64_S4x64x64_0_1_2 (broadcastInDim S1x64x64 ![1, 2] bcast_S64x64_S1x64x64_1_2 (maximumf (res_main_while0b_v49 V0) (broadcastInDim S64x64 ![] bcast_S_S64x64 (constant S_ .f32 0x00000000#32))))) (broadcastInDim S4x64x64 ![0, 1, 2] bcast_S4x1x1_S4x64x64_0_1_2 (broadcastInDim S4x1x1 ![0] bcast_S4_S4x1x1_0 (res_main_while0b_v43 V0))))) (broadcastInDim S4x64x64 ![] bcast_S_S4x64x64 (id (constant S_ .f32 0x00000000#32)))))))) transposes_S4x4x256x64_S4x64x4x256_0_3_1_2) (mulf (transpose S4x64x4x256 [0, 3, 1, 2] (Host.dotGeneral dot_S4x4x128x256_S4x64x4x128_S4x4x256x64_2_3_3_1_01_02 none S Q) transposes_S4x4x256x64_S4x64x4x256_0_3_1_2) (broadcastInDim S4x64x4x256 ![0, 1, 2, 3] bcast_S1x64x4x1_S4x64x4x256_0_1_2_3 (broadcastInDim S1x64x4x1 ![1, 2] bcast_S64x4_S1x64x4x1_1_2 (Host.exp (mulf (broadcastInDim S64x4 ![0, 1] bcast_S64x1_S64x4_0_1 (addf (broadcastInDim S64x1 ![0] bcast_S64_S64x1_0 (res_main_while0b_v44 V0)) (broadcastInDim S64x1 ![] bcast_S_S64x1 (constant S_ .f32 0x3F800000#32)))) (broadcastInDim S64x4 ![0, 1] bcast_S1x4_S64x4_0_1 (broadcastInDim S1x4 ![1] bcast_S4_S1x4_1 (res_main_while0b_v43 V0))))))))) (ix5 0 b l g w)
      = chunkOut (fun n d => Q (ix4 b n g d)) (fun n d => K (ix4 b n g d)) (fun n w => Vv (ix4 b n g w)) (fun d w => S (ix4 b g d w))
          (fun l n => if num l.val - num n.val ≥ 0 then Ideal.exp (max (num l.val - num n.val) 0 * logDecay g) else 0)
          (fun n => Ideal.exp ((num n.val + 1) * logDecay g)) l w := by
  unfold chunkOut logDecay num
  pointwise [res_main_while0b_v43, res_main_while0b_v44, res_main_while0b_v49]
  have hz : id (constant (F := Ideal) S_ .f32 0#32) ix0 = 0 := Ideal.ofBits_zero_f32
  simp only [hz, ge_iff_le]
  exact congrArg₂ (· + ·) (Finset.sum_congr rfl fun x _ => mul_comm _ _)
    (congrArg (· * _) (Finset.sum_congr rfl fun x _ => mul_comm _ _))

theorem out_norm (O : FVec Ideal S128x4x64x4x256 .f32) (R : FVec Ideal S4x8192x4x256 .f32) (b : Fin 4) (s : Fin 8192) (g : Fin 4) (w : Fin 256)
   (r : Fin 32768) (hr : r.val = 8192 * b.val + s.val) (n : Fin 128) (l : Fin 64) (hn : s.val = 64 * n.val + l.val) :
    (truncf .bf16 (shapeCast _ (shapeCast _ (mulf (mulf (subf (shapeCast _ (transpose S4x128x64x4x256 [1, 0, 2, 3, 4] O transposes_S128x4x64x4x256_S4x128x64x4x256_1_0_2_3_4) shapeCasts_S4x128x64x4x256_S4x8192x4x256) (broadcastInDim S4x8192x4x256 ![0, 1, 2, 3] bcast_S4x8192x4x1_S4x8192x4x256_0_1_2_3 (Host.divf (broadcastInDim S4x8192x4x1 ![0, 1, 2] bcast_S4x8192x4_S4x8192x4x1_0_1_2 (Host.reduceAdd (shapeCast _ (transpose S4x128x64x4x256 [1, 0, 2, 3, 4] O transposes_S128x4x64x4x256_S4x128x64x4x256_1_0_2_3_4) shapeCasts_S4x128x64x4x256_S4x8192x4x256) (constant S_ .f32 0x00000000#32) reducesTo_S4x8192x4x256_S4x8192x4_d3 h_S_)) (broadcastInDim S4x8192x4x1 ![] bcast_S_S4x8192x4x1 (constant S_ .f32 0x43800000#32))))) (broadcastInDim S4x8192x4x256 ![0, 1, 2, 3] bcast_S4x8192x4x1_S4x8192x4x256_0_1_2_3 (Host.rsqrt (addf (Host.divf (broadcastInDim S4x8192x4x1 ![0, 1, 2] bcast_S4x8192x4_S4x8192x4x1_0_1_2 (Host.reduceAdd (mulf (subf (shapeCast _ (transpose S4x128x64x4x256 [1, 0, 2, 3, 4] O transposes_S128x4x64x4x256_S4x128x64x4x256_1_0_2_3_4) shapeCasts_S4x128x64x4x256_S4x8192x4x256) (broadcastInDim S4x8192x4x256 ![0, 1, 2, 3] bcast_S4x8192x4x1_S4x8192x4x256_0_1_2_3 (Host.divf (broadcastInDim S4x8192x4x1 ![0, 1, 2] bcast_S4x8192x4_S4x8192x4x1_0_1_2 (Host.reduceAdd (shapeCast _ (transpose S4x128x64x4x256 [1, 0, 2, 3, 4] O transposes_S128x4x64x4x256_S4x128x64x4x256_1_0_2_3_4) shapeCasts_S4x128x64x4x256_S4x8192x4x256) (constant S_ .f32 0x00000000#32) reducesTo_S4x8192x4x256_S4x8192x4_d3 h_S_)) (broadcastInDim S4x8192x4x1 ![] bcast_S_S4x8192x4x1 (constant S_ .f32 0x43800000#32))))) (subf (shapeCast _ (transpose S4x128x64x4x256 [1, 0, 2, 3, 4] O transposes_S128x4x64x4x256_S4x128x64x4x256_1_0_2_3_4) shapeCasts_S4x128x64x4x256_S4x8192x4x256) (broadcastInDim S4x8192x4x256 ![0, 1, 2, 3] bcast_S4x8192x4x1_S4x8192x4x256_0_1_2_3 (Host.divf (broadcastInDim S4x8192x4x1 ![0, 1, 2] bcast_S4x8192x4_S4x8192x4x1_0_1_2 (Host.reduceAdd (shapeCast _ (transpose S4x128x64x4x256 [1, 0, 2, 3, 4] O transposes_S128x4x64x4x256_S4x128x64x4x256_1_0_2_3_4) shapeCasts_S4x128x64x4x256_S4x8192x4x256) (constant S_ .f32 0x00000000#32) reducesTo_S4x8192x4x256_S4x8192x4_d3 h_S_)) (broadcastInDim S4x8192x4x1 ![] bcast_S_S4x8192x4x1 (constant S_ .f32 0x43800000#32)))))) (constant S_ .f32 0x00000000#32) reducesTo_S4x8192x4x256_S4x8192x4_d3 h_S_)) (broadcastInDim S4x8192x4x1 ![] bcast_S_S4x8192x4x1 (constant S_ .f32 0x43800000#32))) (broadcastInDim S4x8192x4x1 ![] bcast_S_S4x8192x4x1 (constant S_ .f32 0x358637BD#32)))))) (mulf R (Host.divf (broadcastInDim S4x8192x4x256 ![] bcast_S_S4x8192x4x256 (constant S_ .f32 0x3F800000#32)) (addf (broadcastInDim S4x8192x4x256 ![] bcast_S_S4x8192x4x256 (constant S_ .f32 0x3F800000#32)) (Host.exp (Host.negf R)))))) shapeCasts_S4x8192x4x256_S4x8192x1024) shapeCasts_S4x8192x1024_S32768x1024) bitsLt_bf16_f32 : FVec Ideal S32768x1024 .bf16) (ix2 r (wide g w))
      = gated (fun w => O (ix5 n b l g w)) (fun w => R (ix4 b s g w)) w := by
  unfold gated normed
  pointwise
  have e0 : ∀ h, (⟨r.val / 8192, h⟩ : Fin 4) = b := fun _ => Fin.ext (by simp only; omega)
  have e1 : ∀ h, (⟨r.val % 8192 / 64, h⟩ : Fin 128) = n := fun _ => Fin.ext (by simp only; omega)
  have e2 : ∀ h, (⟨r.val % 8192 % 64, h⟩ : Fin 64) = l := fun _ => Fin.ext (by simp only; omega)
  have e3 : ∀ h, (⟨(wide g w).val / 256, h⟩ : Fin 4) = g := fun _ => Fin.ext (by simp only [wide]; omega)
  have e4 : ∀ h, (⟨(wide g w).val % 256, h⟩ : Fin 256) = w := fun _ => Fin.ext (by simp only [wide]; omega)
  have e5 : ∀ h, (⟨r.val % 8192, h⟩ : Fin 8192) = s := fun _ => Fin.ext (by simp only; omega)
  simp only [e0, e1, e2, e3, e4, e5]
  rfl

/-! ## The loop -/

/-- One trip: from the state before chunk `n` and the chunks' outputs so far, the next. -/
theorem trip (V0 : Valuation τ sig (Elt Ideal)) (n : Fin 128)
    (q k : Fin 4 → Fin 4 → ℕ → Fin 128 → ℝ) (v : Fin 4 → Fin 4 → ℕ → Fin 256 → ℝ)
    (h0 : ∀ b l g d, (V0 (Proc.devRef .tc main_v8_0) : FVec Ideal S128x4x64x4x128 .f32) (ix5 n b l g d) = ((q b g (64 * n.val + l.val) d : ℝ) : EReal))
    (h1 : ∀ b l g d, (V0 (Proc.devRef .tc main_v8_1) : FVec Ideal S128x4x64x4x128 .f32) (ix5 n b l g d) = ((k b g (64 * n.val + l.val) d : ℝ) : EReal))
    (h2 : ∀ b l g d, (V0 (Proc.devRef .tc main_v8_2) : FVec Ideal S128x4x64x4x256 .f32) (ix5 n b l g d) = ((v b g (64 * n.val + l.val) d : ℝ) : EReal))
    (h3 : (V0 (Proc.devRef .tc main_v8_3) : IVec S_ 32) = fun _ => BitVec.ofNat 32 n.val)
    (h4 : ∀ b g d w, (V0 (Proc.devRef .tc main_v8_4) : FVec Ideal S4x4x128x256 .f32) (ix4 b g d w)
      = ((stateAt (decay g) (k b g) (v b g) (64 * n.val) d w : ℝ) : EReal)) :
    (∀ b g d w, (STEP V0 (Proc.devRef .tc main_v8_4) : FVec Ideal S4x4x128x256 .f32) (ix4 b g d w)
      = ((stateAt (decay g) (k b g) (v b g) (64 * n.val + 64) d w : ℝ) : EReal))
    ∧ (∀ n' b l g w, (STEP V0 (Proc.devRef .tc main_v8_5) : FVec Ideal S128x4x64x4x256 .f32) (ix5 n' b l g w)
      = if n' = n then ((outputAt (decay g) (q b g) (k b g) (v b g) (64 * n.val + l.val) w : ℝ) : EReal)
        else (V0 (Proc.devRef .tc main_v8_5) : FVec Ideal S128x4x64x4x256 .f32) (ix5 n' b l g w)) := by
  have e34 : ∀ b l g d, (res_main_while0b_v34 V0 : FVec Ideal S4x64x4x128 .f32) (ix4 b l g d) = ((q b g (64 * n.val + l.val) d : ℝ) : EReal) := by
    intro b l g d
    unfold res_main_while0b_v34
    rw [h3]
    exact (slice128 _ n b l g d).trans (h0 b l g d)
  have e35 : ∀ b l g d, (res_main_while0b_v35 V0 : FVec Ideal S4x64x4x128 .f32) (ix4 b l g d) = ((k b g (64 * n.val + l.val) d : ℝ) : EReal) := by
    intro b l g d
    unfold res_main_while0b_v35
    rw [h3]
    exact (slice128 _ n b l g d).trans (h1 b l g d)
  have e36 : ∀ b l g d, (res_main_while0b_v36 V0 : FVec Ideal S4x64x4x256 .f32) (ix4 b l g d) = ((v b g (64 * n.val + l.val) d : ℝ) : EReal) := by
    intro b l g d
    unfold res_main_while0b_v36
    rw [h3]
    exact (slice256 _ n b l g d).trans (h2 b l g d)
  refine ⟨fun b g d w => ?_, fun n' b l g w => ?_⟩
  · rw [STEP_main_v8_4]
    unfold step_main_v8_4
    refine (state_step _ _ _ V0 b g d w).trans ?_
    exact chunkState_eq (k b g) (v b g) g (64 * n.val) 64 d w (fun i d => e35 b i g d) (fun i w => e36 b i g w) (fun d w => h4 b g d w)
      (fun i => by rw [c63_eq, kd_eq 63 63 i.val (by norm_num) (by omega) (by omega)])
      (by rw [c64_eq, show ((64 : ℝ) : EReal) = (((64 : ℕ) : ℝ) : EReal) by norm_num, exp_mul])
  · rw [STEP_main_v8_5]
    unfold step_main_v8_5
    rw [h3]
    refine (update256 _ _ n n' b l g w).trans ?_
    by_cases hn : n' = n
    · rw [if_pos hn, if_pos hn]
      refine (out_step _ _ _ _ V0 b l g w).trans ?_
      exact chunkOut_eq (q b g) (k b g) (v b g) g (64 * n.val) 64 l w (fun i d => e34 b i g d) (fun i d => e35 b i g d) (fun i w => e36 b i g w)
        (fun d w => h4 b g d w) (fun l i => ia_eq l.val i.val (by omega) (by omega) g) (fun i => rd_eq i.val (by omega) g)
    · rw [if_neg hn, if_neg hn]

section Loop

variable (m : (ℓ : Loc nD τ sig) → Buf (Elt Ideal) ℓ)

theorem entry_main_v8_0 (c : Dev nD) (n : Fin 128) (b : Fin 4) (l : Fin 64) (g : Fin 4) (d : Fin 128) (s : Fin 8192) (hs : s.val = 64 * n.val + l.val) :
    (entryContents preI m c (Proc.devRef .tc main_v8_0) : FVec Ideal S128x4x64x4x128 .f32) (ix5 n b l g d)
      = (m ((c.tc : Thread nD τ).loc main_arg0) : FVec Ideal S4x8192x4x128 .f32) (ix4 b s g d) := by
  simp only [entryContents, preI, afterL_cons, afterL_nil, hostOps0]
  after_results
  pointwise
  rw [id_eq]
  pointwise
  exact congrArg (fun s => (m ((c.tc : Thread nD τ).loc main_arg0) : FVec Ideal S4x8192x4x128 .f32) (ix4 b s g d)) (Fin.ext (by simp only; omega))

theorem entry_main_v8_1 (c : Dev nD) (n : Fin 128) (b : Fin 4) (l : Fin 64) (g : Fin 4) (d : Fin 128) (s : Fin 8192) (hs : s.val = 64 * n.val + l.val) :
    (entryContents preI m c (Proc.devRef .tc main_v8_1) : FVec Ideal S128x4x64x4x128 .f32) (ix5 n b l g d)
      = (m ((c.tc : Thread nD τ).loc main_arg1) : FVec Ideal S4x8192x4x128 .f32) (ix4 b s g d) := by
  simp only [entryContents, preI, afterL_cons, afterL_nil, hostOps0]
  after_results
  pointwise
  rw [id_eq]
  pointwise
  exact congrArg (fun s => (m ((c.tc : Thread nD τ).loc main_arg1) : FVec Ideal S4x8192x4x128 .f32) (ix4 b s g d)) (Fin.ext (by simp only; omega))

theorem entry_main_v8_2 (c : Dev nD) (n : Fin 128) (b : Fin 4) (l : Fin 64) (g : Fin 4) (d : Fin 256) (s : Fin 8192) (hs : s.val = 64 * n.val + l.val) :
    (entryContents preI m c (Proc.devRef .tc main_v8_2) : FVec Ideal S128x4x64x4x256 .f32) (ix5 n b l g d)
      = (m ((c.tc : Thread nD τ).loc main_arg2) : FVec Ideal S4x8192x4x256 .f32) (ix4 b s g d) := by
  simp only [entryContents, preI, afterL_cons, afterL_nil, hostOps0]
  after_results
  pointwise
  rw [id_eq]
  pointwise
  exact congrArg (fun s => (m ((c.tc : Thread nD τ).loc main_arg2) : FVec Ideal S4x8192x4x256 .f32) (ix4 b s g d)) (Fin.ext (by simp only; omega))

theorem entry_main_v8_4 (c : Dev nD) (b g : Fin 4) (d : Fin 128) (w : Fin 256) :
    (entryContents preI m c (Proc.devRef .tc main_v8_4) : FVec Ideal S4x4x128x256 .f32) (ix4 b g d w) = (0 : EReal) := by
  simp only [entryContents, preI, afterL_cons, afterL_nil, hostOps0]
  after_results
  rw [id_eq]
  pointwise

/-- After `n` trips: the state before chunk `n`, and the outputs of the chunks before it. -/
theorem loop (c : Dev nD)
    (hq : Real' (m ((c.tc : Thread nD τ).loc main_arg0) : FVec Ideal S4x8192x4x128 .f32))
    (hk : Real' (m ((c.tc : Thread nD τ).loc main_arg1) : FVec Ideal S4x8192x4x128 .f32))
    (hv : Real' (m ((c.tc : Thread nD τ).loc main_arg2) : FVec Ideal S4x8192x4x256 .f32)) :
    ∀ n ≤ 128,
      (STEP^[n] (entryContents preI m c)) (Proc.devRef .tc main_v8_0) = entryContents preI m c (Proc.devRef .tc main_v8_0)
      ∧ (STEP^[n] (entryContents preI m c)) (Proc.devRef .tc main_v8_1) = entryContents preI m c (Proc.devRef .tc main_v8_1)
      ∧ (STEP^[n] (entryContents preI m c)) (Proc.devRef .tc main_v8_2) = entryContents preI m c (Proc.devRef .tc main_v8_2)
      ∧ ((STEP^[n] (entryContents preI m c)) (Proc.devRef .tc main_v8_3) : IVec S_ 32) = (fun _ => BitVec.ofNat 32 n)
      ∧ (∀ b g d w, ((STEP^[n] (entryContents preI m c)) (Proc.devRef .tc main_v8_4) : FVec Ideal S4x4x128x256 .f32) (ix4 b g d w)
          = ((stateAt (decay g) (tok (m ((c.tc : Thread nD τ).loc main_arg1)) b g) (tok (m ((c.tc : Thread nD τ).loc main_arg2)) b g) (64 * n) d w : ℝ) : EReal))
      ∧ (∀ n' : Fin 128, n'.val < n → ∀ b l g w, ((STEP^[n] (entryContents preI m c)) (Proc.devRef .tc main_v8_5) : FVec Ideal S128x4x64x4x256 .f32) (ix5 n' b l g w)
          = ((outputAt (decay g) (tok (m ((c.tc : Thread nD τ).loc main_arg0)) b g) (tok (m ((c.tc : Thread nD τ).loc main_arg1)) b g)
              (tok (m ((c.tc : Thread nD τ).loc main_arg2)) b g) (64 * n'.val + l.val) w : ℝ) : EReal))
  | 0, _ => ⟨rfl, rfl, rfl, ctr_entry m c, fun b g d w => (entry_main_v8_4 m c b g d w).trans (by simp [stateAt]), fun _ h => absurd h (Nat.not_lt_zero _)⟩
  | n + 1, hn => by
    obtain ⟨i0, i1, i2, i3, i4, i5⟩ := loop c hq hk hv n (by omega)
    rw [Function.iterate_succ_apply']
    generalize STEP^[n] (entryContents preI m c) = V0 at i0 i1 i2 i3 i4 i5 ⊢
    have hN : n < 128 := by omega
    obtain ⟨t4, t5⟩ := trip V0 ⟨n, hN⟩ (tok (m ((c.tc : Thread nD τ).loc main_arg0))) (tok (m ((c.tc : Thread nD τ).loc main_arg1)))
      (tok (m ((c.tc : Thread nD τ).loc main_arg2)))
      (fun b l g d => by
        rw [i0]
        exact (entry_main_v8_0 m c ⟨n, hN⟩ b l g d ⟨64 * n + l.val, by omega⟩ rfl).trans (tok_eq _ hq b g _ d _ rfl))
      (fun b l g d => by
        rw [i1]
        exact (entry_main_v8_1 m c ⟨n, hN⟩ b l g d ⟨64 * n + l.val, by omega⟩ rfl).trans (tok_eq _ hk b g _ d _ rfl))
      (fun b l g d => by
        rw [i2]
        exact (entry_main_v8_2 m c ⟨n, hN⟩ b l g d ⟨64 * n + l.val, by omega⟩ rfl).trans (tok_eq _ hv b g _ d _ rfl))
      i3 i4
    refine ⟨(STEP_main_v8_0 V0).trans i0, (STEP_main_v8_1 V0).trans i1, (STEP_main_v8_2 V0).trans i2, ?_, t4, ?_⟩
    · rw [STEP_main_v8_3]
      unfold step_main_v8_3
      rw [i3, id_eq]
      funext x
      show BitVec.ofNat 32 n + 1#32 = BitVec.ofNat 32 (n + 1)
      rw [BitVec.ofNat_add]
    · intro n' h' b l g w
      rw [t5]
      by_cases e : n' = ⟨n, hN⟩
      · rw [if_pos e, e]
      · rw [if_neg e]
        exact i5 n' (by have : n'.val ≠ n := fun h => e (Fin.ext h)
                        omega) b l g w

/-- The state the loop ends with. -/
theorem final_state (c : Dev nD)
    (hq : Real' (m ((c.tc : Thread nD τ).loc main_arg0) : FVec Ideal S4x8192x4x128 .f32))
    (hk : Real' (m ((c.tc : Thread nD τ).loc main_arg1) : FVec Ideal S4x8192x4x128 .f32))
    (hv : Real' (m ((c.tc : Thread nD τ).loc main_arg2) : FVec Ideal S4x8192x4x256 .f32)) (b g : Fin 4) (d : Fin 128) (w : Fin 256) :
    ((STEP^[128] (entryContents preI m c)) (Proc.devRef .tc main_v8_4) : FVec Ideal S4x4x128x256 .f32) (ix4 b g d w)
      = ((stateAt (decay g) (tok (m ((c.tc : Thread nD τ).loc main_arg1)) b g) (tok (m ((c.tc : Thread nD τ).loc main_arg2)) b g) 8192 d w : ℝ) : EReal) :=
  (loop m c hq hk hv 128 le_rfl).2.2.2.2.1 b g d w

/-- The output the operations after the loop make. -/
theorem final_out (c : Dev nD)
    (hq : Real' (m ((c.tc : Thread nD τ).loc main_arg0) : FVec Ideal S4x8192x4x128 .f32))
    (hk : Real' (m ((c.tc : Thread nD τ).loc main_arg1) : FVec Ideal S4x8192x4x128 .f32))
    (hv : Real' (m ((c.tc : Thread nD τ).loc main_arg2) : FVec Ideal S4x8192x4x256 .f32)) (b : Fin 4) (s : Fin 8192) (g : Fin 4) (w : Fin 256)
    (r : Fin 32768) (hr : r.val = 8192 * b.val + s.val) :
    (out_main_v33 (STEP^[128] (entryContents preI m c)) : FVec Ideal S32768x1024 .bf16) (ix2 r (wide g w))
      = gated (fun w => ((outputAt (decay g) (tok (m ((c.tc : Thread nD τ).loc main_arg0)) b g) (tok (m ((c.tc : Thread nD τ).loc main_arg1)) b g)
              (tok (m ((c.tc : Thread nD τ).loc main_arg2)) b g) s.val w : ℝ) : EReal))
          (fun w => (m ((c.tc : Thread nD τ).loc main_arg3) : FVec Ideal S4x8192x4x256 .f32) (ix4 b s g w)) w := by
  unfold out_main_v33
  rw [iter_main_arg3]
  have hs : s.val = 64 * (⟨s.val / 64, by omega⟩ : Fin 128).val + (⟨s.val % 64, by omega⟩ : Fin 64).val := by simp only; omega
  refine (out_norm _ _ b s g w r hr ⟨s.val / 64, by omega⟩ ⟨s.val % 64, by omega⟩ hs).trans ?_
  refine congrArg (gated · _ w) (funext fun w => ?_)
  rw [(loop m c hq hk hv 128 le_rfl).2.2.2.2.2 _ (Fin.isLt _), ← hs]

end Loop

end Cert.ReferenceIdeal.Trip
-- ==== Proof.Finite.lean ====
module

public import proofs.«01_k».proof.Defs
public import proofs.«01_k».proof.Proof.Points
public import proofs.«01_k».proof.Proof.Trip
public import Idealize.ShloMosaic.Lib.Quiescent

@[expose] public section

set_option maxRecDepth 16384

noncomputable section

namespace Cert.Retention

open Idealize.ShloMosaic Idealize.ShloMosaic.TcCoe Idealize.SL.Sem

instance preFacts : Cert.Pre_finite.Facts := ⟨by decide, by decide⟩

/-- An array whose magnitudes are all below infinity holds real numbers. -/
theorem finite_real {S : Shape} (X Y : FVec Ideal S .f32) (hY : ∀ i, Y i = ⊤) (h : cmpf .olt (Host.absf X) Y = (fun _ => 1#1)) : Real' X := by
  intro i
  have hi := congrFun h i
  have hy := hY i
  pointwise [] at hi
  rw [hy] at hi
  have hlt : (FloatOps.absf (X i) : EReal) < ⊤ := by
    by_contra hn
    rw [decide_eq_false hn] at hi
    exact absurd hi (by decide)
  change max (X i : EReal) (-(X i)) < ⊤ at hlt
  refine ⟨(X i : EReal).toReal, (EReal.coe_toReal ?_ ?_).symm⟩
  · intro e
    rw [e] at hlt
    simp at hlt
  · intro e
    rw [e] at hlt
    simp at hlt

theorem top_word {S T : Shape} {d : Fin S.rank → Fin T.rank} (hd : S.BroadcastsInDim T d) : ∀ i, (broadcastInDim T d hd (constant S .f32 0x7F800000#32) : FVec Ideal T .f32) i = ⊤ := by
  intro i
  pointwise []
  simp [Ideal.ofBits, Ideal.ieee]

theorem finite_args (q k : FVec Ideal Cert.Pre_finite.S4x8192x4x128 .f32) (v r : FVec Ideal Cert.Pre_finite.S4x8192x4x256 .f32)
    (h : (Cert.Pre_finite.fn q k v r).1 = (fun _ => 1#1) ∧ (Cert.Pre_finite.fn q k v r).2.1 = (fun _ => 1#1) ∧ (Cert.Pre_finite.fn q k v r).2.2 = (fun _ => 1#1)) :
    Real' q ∧ Real' k ∧ Real' v :=
  ⟨finite_real q _ (top_word _) h.1, finite_real k _ (top_word _) h.2.1, finite_real v _ (top_word _) h.2.2⟩

section Reference

open Cert.ReferenceIdeal Cert.ReferenceIdeal.Gen Cert.ReferenceIdeal.Value Cert.Retention Idealize.ShloMosaic Idealize.ShloMosaic.TcCoe Idealize.SL.Sem
open Idealize.ShloMosaic.StableHlo

variable (m : (ℓ : Loc nD τ sig) → Buf (Elt Ideal) ℓ)

abbrev bq (c : Dev nD) : FVec Ideal S4x8192x4x128 .f32 := m ((c.tc : Thread nD τ).loc main_arg0)
abbrev bk (c : Dev nD) : FVec Ideal S4x8192x4x128 .f32 := m ((c.tc : Thread nD τ).loc main_arg1)
abbrev bv (c : Dev nD) : FVec Ideal S4x8192x4x256 .f32 := m ((c.tc : Thread nD τ).loc main_arg2)
abbrev br (c : Dev nD) : FVec Ideal S4x8192x4x256 .f32 := m ((c.tc : Thread nD τ).loc main_arg3)

/-- The reference's output and state arrays are the kernel's. -/
theorem ref_out (c : Dev nD) (hq : Real' (bq m c)) (hk : Real' (bk m c)) (hv : Real' (bv m c)) :
    (out_main_v33 (STEP^[128] (entryContents preI m c)) : FVec Ideal S32768x1024 .bf16) = Cert.KernelIdeal.Block.G9 (bq m c) (bk m c) (bv m c) (br m c) := by
  funext i
  have y2 : ∃ (l : Fin 32768) (x : Fin 1024), i = ix2 l x := ⟨i 0, i 1, by funext a; fin_cases a <;> rfl⟩
  obtain ⟨l, x, rfl⟩ := y2
  have hl : l.val = 8192 * (⟨l.val / 8192, by omega⟩ : Fin 4).val + (⟨l.val % 8192, by omega⟩ : Fin 8192).val := by simp only; omega
  rw [← Cert.KernelIdeal.Block.wide_head x]
  exact (Cert.ReferenceIdeal.Trip.final_out m c hq hk hv _ _ _ _ l hl).trans (Cert.KernelIdeal.Block.G9_eq _ _ _ _ _ _ _ _ l hl).symm

theorem ref_state (c : Dev nD) (hq : Real' (bq m c)) (hk : Real' (bk m c)) (hv : Real' (bv m c)) :
    ((STEP^[128] (entryContents preI m c)) (Proc.devRef .tc main_v8_4) : FVec Ideal S4x4x128x256 .f32) = Cert.KernelIdeal.Block.G10 (bk m c) (bv m c) := by
  funext i
  have y4 : ∃ (b g : Fin 4) (d : Fin 128) (w : Fin 256), i = ix4 b g d w := ⟨i 0, i 1, i 2, i 3, by funext a; fin_cases a <;> rfl⟩
  obtain ⟨b, g, d, w, rfl⟩ := y4
  exact Cert.ReferenceIdeal.Trip.final_state m c hq hk hv b g d w

end Reference

end Cert.Retention
-- ==== Proof.Rows.lean ====
module

public import Idealize.ShloMosaic.Lib.Pointwise

@[expose] public section

set_option maxRecDepth 16384

noncomputable section

namespace Cert.Rows

open Idealize.ShloMosaic

/-- One token's merged branches: each branch's output through its projection, weighed by the sigmoid of its gate,
their sum through the output projection, added to the token. -/
def rowMerge (x : Fin 1024 → EReal) (oa : Fin 512 → EReal) (ob ga gb : Fin 1024 → EReal) (wa : Fin 512 → Fin 1024 → EReal)
    (wb wo : Fin 1024 → Fin 1024 → EReal) (j : Fin 1024) : EReal :=
  x j + ∑ k, (Ideal.div 1 (1 + Ideal.exp (-ga k)) * (∑ i, oa i * wa i k) + Ideal.div 1 (1 + Ideal.exp (-gb k)) * (∑ i, ob i * wb i k)) * wo k j

theorem merge_congr {x x' : Fin 1024 → EReal} {oa oa' : Fin 512 → EReal} {ob ob' ga ga' gb gb' : Fin 1024 → EReal} {wa wa' : Fin 512 → Fin 1024 → EReal}
    {wb wb' wo wo' : Fin 1024 → Fin 1024 → EReal} (j : Fin 1024) (h0 : ∀ k, x k = x' k) (h1 : ∀ k, oa k = oa' k) (h2 : ∀ k, ob k = ob' k) (h3 : ∀ k, ga k = ga' k)
    (h4 : ∀ k, gb k = gb' k) (h5 : ∀ i k, wa i k = wa' i k) (h6 : ∀ i k, wb i k = wb' i k) (h7 : ∀ i k, wo i k = wo' i k) :
    rowMerge x oa ob ga gb wa wb wo j = rowMerge x' oa' ob' ga' gb' wa' wb' wo' j := by
  obtain rfl : x = x' := funext h0
  obtain rfl : oa = oa' := funext h1
  obtain rfl : ob = ob' := funext h2
  obtain rfl : ga = ga' := funext h3
  obtain rfl : gb = gb' := funext h4
  obtain rfl : wa = wa' := funext fun i => funext (h5 i)
  obtain rfl : wb = wb' := funext fun i => funext (h6 i)
  obtain rfl : wo = wo' := funext fun i => funext (h7 i)
  rfl

/-- A read of some columns of an array. -/
theorem ld2 {a b p q : ℕ} {α : EltTy} (X : Vec Ideal ⟨2, ![a, b]⟩ α) (o : ℕ)
    (inb : ∀ i, (![0, o] : Fin 2 → ℕ) i + (![p, q] : Fin 2 → ℕ) i ≤ (![a, b] : Fin 2 → ℕ) i) (n : Fin p) (d : Fin q) (n' : Fin a) (d' : Fin b)
    (hn : n'.val = n.val) (hd : d'.val = o + d.val) :
    View.ld X (Rect.unit (s := ⟨2, ![a, b]⟩) ![0, o] ![p, q] inb) (ix2 n d) = X (ix2 n' d') := by
  refine congrArg X (funext fun i => ?_)
  match i with
  | ⟨0, _⟩ => exact Fin.ext (by simp [Rect.unit, LoadRect.idx, hn])
  | ⟨1, _⟩ => exact Fin.ext (by simp [Rect.unit, hd])

/-- A token over the root of its mean square, times the gain. -/
def normed (x g : Fin 1024 → EReal) (k : Fin 1024) : EReal :=
  x k * Ideal.rsqrt (Ideal.div (∑ i, x i * x i) (Ideal.ofBits .f32 0x44800000#32) + Ideal.ofBits .f32 0x358637BD#32) * g k

/-- One column of the projections of a normalised token. -/
def projected (x g : Fin 1024 → EReal) (w : Fin 1024 → Fin 5888 → EReal) (j : Fin 5888) : EReal :=
  ∑ k, normed x g k * w k j

theorem projected_congr {h : Fin 1024 → EReal} {u : Fin 1024 → EReal} {x x' g g' : Fin 1024 → EReal} {w : Fin 1024 → Fin 5888 → EReal} (j : Fin 5888)
    (hh : ∀ k, h k = normed x g k) (hx : ∀ k, x k = x' k) (hg : ∀ k, g k = g' k) (hu : ∀ k, u k = w k j) :
    ∑ k, h k * u k = projected x' g' w j := by
  obtain rfl : x = x' := funext hx
  obtain rfl : g = g' := funext hg
  exact Finset.sum_congr rfl fun k _ => by rw [hh, hu]

end Cert.Rows
-- ==== Proof.MergePromptRows.lean ====
module

public import proofs.«01_k».proof.Proof.Gen.MergePromptIdeal.Value
public import proofs.«01_k».proof.Proof.Gen.ReferenceMergePromptIdeal.Run
public import proofs.«01_k».proof.Proof.Rows
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

namespace Cert.MergePromptIdeal.Rows

section reference

open Cert.ReferenceMergePromptIdeal Cert.ReferenceMergePromptIdeal.Gen Cert.Rows Idealize.ShloMosaic

/-- The merged branches as the reference computes them. -/
abbrev merged (x0 : FVec Ideal S4x8192x1024 .f32) (x1 : FVec Ideal S4x8192x512 .f32) (x2 x3 x4 : FVec Ideal S4x8192x1024 .f32)
    (x5 : FVec Ideal S1x512x1024 .f32) (x6 x7 : FVec Ideal S1x1024x1024 .f32) : FVec Ideal S32768x1024 .f32 :=
  shapeCast S32768x1024 (addf x0 (Host.dotGeneral dot_S4x8192x1024_S1024x1024_S4x8192x1024_2_0_01_1_n_n none (addf (mulf (Host.divf (broadcastInDim S4x8192x1024 ![] bcast_S_S4x8192x1024 (constant S_ .f32 0x3F800000#32)) (addf (broadcastInDim S4x8192x1024 ![] bcast_S_S4x8192x1024 (constant S_ .f32 0x3F800000#32)) (Host.exp (Host.negf x3)))) (Host.dotGeneral dot_S4x8192x512_S512x1024_S4x8192x1024_2_0_01_1_n_n none x1 (shapeCast _ x5 shapeCasts_S1x512x1024_S512x1024))) (mulf (Host.divf (broadcastInDim S4x8192x1024 ![] bcast_S_S4x8192x1024 (constant S_ .f32 0x3F800000#32)) (addf (broadcastInDim S4x8192x1024 ![] bcast_S_S4x8192x1024 (constant S_ .f32 0x3F800000#32)) (Host.exp (Host.negf x4)))) (Host.dotGeneral dot_S4x8192x1024_S1024x1024_S4x8192x1024_2_0_01_1_n_n none x2 (shapeCast _ x6 shapeCasts_S1x1024x1024_S1024x1024)))) (shapeCast _ x7 shapeCasts_S1x1024x1024_S1024x1024))) shapeCasts_S4x8192x1024_S32768x1024

theorem merged_at (x0 : FVec Ideal S4x8192x1024 .f32) (x1 : FVec Ideal S4x8192x512 .f32) (x2 x3 x4 : FVec Ideal S4x8192x1024 .f32)
    (x5 : FVec Ideal S1x512x1024 .f32) (x6 x7 : FVec Ideal S1x1024x1024 .f32) (r : Fin 32768) (j : Fin 1024) (b : Fin 4) (s : Fin 8192) (hr : r.val = 8192 * b.val + s.val) :
    merged x0 x1 x2 x3 x4 x5 x6 x7 (ix2 r j)
      = rowMerge (fun k => x0 (ix3 b s k)) (fun k => x1 (ix3 b s k)) (fun k => x2 (ix3 b s k)) (fun k => x3 (ix3 b s k)) (fun k => x4 (ix3 b s k))
      (fun i k => x5 (ix3 0 i k)) (fun i k => x6 (ix3 0 i k)) (fun i k => x7 (ix3 0 i k)) j := by
  pointwise [merged, rowMerge]
  have e0 : ∀ h, (⟨r.val / 8192, h⟩ : Fin 4) = b := fun _ => Fin.ext (by simp only; omega)
  have e1 : ∀ h, (⟨r.val % 8192, h⟩ : Fin 8192) = s := fun _ => Fin.ext (by simp only; omega)
  simp only [e0, e1]

end reference

open Cert.MergePromptIdeal Cert.MergePromptIdeal.Gen Cert.Rows Idealize.ShloMosaic Idealize.ShloMosaic.TcCoe Idealize.SL.Sem
open Idealize.ShloMosaic.Pipeline (Dat)

/-- What the body stores, at an index of its block. -/
theorem stored_at (v0 : FVec Ideal S256x512 .bf16) (v2 : FVec Ideal S512x1024 .bf16) (v5 : FVec Ideal S256x1024 .bf16) (v7 : FVec Ideal S1024x1024 .bf16)
    (v10 v14 v19 : FVec Ideal S256x1024 .f32) (v22 : FVec Ideal S1024x1024 .bf16) (l : Fin 256) (j : Fin 1024) :
    (k0_pay1 v0 v2 v5 v7 v10 v14 v19 v22 : FVec Ideal S256x1024 .f32) (ix2 l j)
      = rowMerge (fun k => v19 (ix2 l k)) (fun k => v0 (ix2 l k)) (fun k => v5 (ix2 l k)) (fun k => v10 (ix2 l k)) (fun k => v14 (ix2 l k))
      (fun i k => v2 (ix2 i k)) (fun i k => v7 (ix2 i k)) (fun i k => v22 (ix2 i k)) j := by
  pointwise [k0_pay1, rowMerge]
  rfl

variable (m : (ℓ : Loc nD τ sig) → Buf (Elt Ideal) ℓ)

/-- Which block of its array each window holds at a point. -/
theorem idx : ∀ t : Fin grid0.N,
    win0_0.index t = ![t.val, 0] ∧ win0_1.index t = ![t.val, 0] ∧ win0_2.index t = ![t.val, 0] ∧ win0_3.index t = ![t.val, 0]
    ∧ win0_4.index t = ![t.val, 0] ∧ win0_5.index t = ![0, 0] ∧ win0_6.index t = ![0, 0] ∧ win0_7.index t = ![0, 0]
    ∧ win0_8.index t = ![t.val, 0] := by
  decide +kernel

/-- A row of a flattened array is a token of a stream. -/
theorem row1024 (X : FVec Ideal S4x8192x1024 .f32) (r : Fin 32768) (x : Fin 1024) (b : Fin 4) (s : Fin 8192) (hr : r.val = 8192 * b.val + s.val) :
    shapeCast S32768x1024 X shapeCasts_S4x8192x1024_S32768x1024 (ix2 r x) = X (ix3 b s x) := by
  pointwise
  have e0 : ∀ h, (⟨r.val / 8192, h⟩ : Fin 4) = b := fun _ => Fin.ext (by simp only; omega)
  have e1 : ∀ h, (⟨r.val % 8192, h⟩ : Fin 8192) = s := fun _ => Fin.ext (by simp only; omega)
  simp only [e0, e1]

/-- A row of a flattened array is a token of a stream. -/
theorem row512 (X : FVec Ideal S4x8192x512 .f32) (r : Fin 32768) (x : Fin 512) (b : Fin 4) (s : Fin 8192) (hr : r.val = 8192 * b.val + s.val) :
    shapeCast S32768x512 X shapeCasts_S4x8192x512_S32768x512 (ix2 r x) = X (ix3 b s x) := by
  pointwise
  have e0 : ∀ h, (⟨r.val / 8192, h⟩ : Fin 4) = b := fun _ => Fin.ext (by simp only; omega)
  have e1 : ∀ h, (⟨r.val % 8192, h⟩ : Fin 8192) = s := fun _ => Fin.ext (by simp only; omega)
  simp only [e0, e1]

/-- The weights of a layer of one. -/
theorem wholeS512x1024 (X : FVec Ideal S1x512x1024 .f32) (i : Fin 512) (x : Fin 1024) :
    shapeCast S512x1024 X shapeCasts_S1x512x1024_S512x1024 (ix2 i x) = X (ix3 0 i x) := by
  pointwise

/-- The weights of a layer of one. -/
theorem wholeS1024x1024 (X : FVec Ideal S1x1024x1024 .f32) (i : Fin 1024) (x : Fin 1024) :
    shapeCast S1024x1024 X shapeCasts_S1x1024x1024_S1024x1024 (ix2 i x) = X (ix3 0 i x) := by
  pointwise

theorem entry0 (c : Dev nD) : @Eq (FVec Ideal S32768x1024 .f32) (V m c main_v0) (shapeCast S32768x1024 (m ((c : Thread nD τ).loc main_arg0) : FVec Ideal S4x8192x1024 .f32) shapeCasts_S4x8192x1024_S32768x1024) := by
  unfold V
  simp only [hostOps0]
  after_reads_simp
  rfl

theorem at0 (F : FVec Ideal S32768x1024 .f32) (t : Fin cfg0.N) (l : Fin 256) (x : Fin 1024) (r : Fin 32768) (hr : r.val = 256 * t.val + l.val) :
    F (((cfg0.win 0).blk t).view.emb (ix2 l x)) = F (ix2 r x) := by
  blk_ext [idx t]

theorem blk0 (c : Dev nD) (t : Fin cfg0.N) (l : Fin 256) (x : Fin 1024) (b : Fin 4) (s : Fin 8192) (hs : 8192 * b.val + s.val = 256 * t.val + l.val) :
    (iblk m c 0 t : FVec Ideal S256x1024 .f32) (ix2 l x) = (m ((c : Thread nD τ).loc main_arg0) : FVec Ideal S4x8192x1024 .f32) (ix3 b s x) := by
  have ht : t.val < 128 := lt_of_lt_of_eq t.isLt N_0
  refine (at0 (V m c main_v0) t l x ⟨256 * t.val + l.val, by omega⟩ rfl).trans ?_
  rw [entry0]
  exact row1024 _ _ x b s hs.symm

theorem entry1 (c : Dev nD) : @Eq (FVec Ideal S32768x512 .bf16) (V m c main_v2) (truncf .bf16 (shapeCast S32768x512 (m ((c : Thread nD τ).loc main_arg1) : FVec Ideal S4x8192x512 .f32) shapeCasts_S4x8192x512_S32768x512) bitsLt_bf16_f32) := by
  unfold V
  simp only [hostOps0]
  after_reads_simp
  rfl

theorem at1 (F : FVec Ideal S32768x512 .bf16) (t : Fin cfg0.N) (l : Fin 256) (x : Fin 512) (r : Fin 32768) (hr : r.val = 256 * t.val + l.val) :
    F (((cfg0.win 1).blk t).view.emb (ix2 l x)) = F (ix2 r x) := by
  blk_ext [idx t]

theorem blk1 (c : Dev nD) (t : Fin cfg0.N) (l : Fin 256) (x : Fin 512) (b : Fin 4) (s : Fin 8192) (hs : 8192 * b.val + s.val = 256 * t.val + l.val) :
    (iblk m c 1 t : FVec Ideal S256x512 .bf16) (ix2 l x) = (m ((c : Thread nD τ).loc main_arg1) : FVec Ideal S4x8192x512 .f32) (ix3 b s x) := by
  have ht : t.val < 128 := lt_of_lt_of_eq t.isLt N_0
  refine (at1 (V m c main_v2) t l x ⟨256 * t.val + l.val, by omega⟩ rfl).trans ?_
  rw [entry1]
  exact row512 _ _ x b s hs.symm

theorem entry2 (c : Dev nD) : @Eq (FVec Ideal S32768x1024 .bf16) (V m c main_v4) (truncf .bf16 (shapeCast S32768x1024 (m ((c : Thread nD τ).loc main_arg2) : FVec Ideal S4x8192x1024 .f32) shapeCasts_S4x8192x1024_S32768x1024) bitsLt_bf16_f32) := by
  unfold V
  simp only [hostOps0]
  after_reads_simp
  rfl

theorem at2 (F : FVec Ideal S32768x1024 .bf16) (t : Fin cfg0.N) (l : Fin 256) (x : Fin 1024) (r : Fin 32768) (hr : r.val = 256 * t.val + l.val) :
    F (((cfg0.win 2).blk t).view.emb (ix2 l x)) = F (ix2 r x) := by
  blk_ext [idx t]

theorem blk2 (c : Dev nD) (t : Fin cfg0.N) (l : Fin 256) (x : Fin 1024) (b : Fin 4) (s : Fin 8192) (hs : 8192 * b.val + s.val = 256 * t.val + l.val) :
    (iblk m c 2 t : FVec Ideal S256x1024 .bf16) (ix2 l x) = (m ((c : Thread nD τ).loc main_arg2) : FVec Ideal S4x8192x1024 .f32) (ix3 b s x) := by
  have ht : t.val < 128 := lt_of_lt_of_eq t.isLt N_0
  refine (at2 (V m c main_v4) t l x ⟨256 * t.val + l.val, by omega⟩ rfl).trans ?_
  rw [entry2]
  exact row1024 _ _ x b s hs.symm

theorem entry3 (c : Dev nD) : @Eq (FVec Ideal S32768x1024 .f32) (V m c main_v5) (shapeCast S32768x1024 (m ((c : Thread nD τ).loc main_arg3) : FVec Ideal S4x8192x1024 .f32) shapeCasts_S4x8192x1024_S32768x1024) := by
  unfold V
  simp only [hostOps0]
  after_reads_simp
  rfl

theorem at3 (F : FVec Ideal S32768x1024 .f32) (t : Fin cfg0.N) (l : Fin 256) (x : Fin 1024) (r : Fin 32768) (hr : r.val = 256 * t.val + l.val) :
    F (((cfg0.win 3).blk t).view.emb (ix2 l x)) = F (ix2 r x) := by
  blk_ext [idx t]

theorem blk3 (c : Dev nD) (t : Fin cfg0.N) (l : Fin 256) (x : Fin 1024) (b : Fin 4) (s : Fin 8192) (hs : 8192 * b.val + s.val = 256 * t.val + l.val) :
    (iblk m c 3 t : FVec Ideal S256x1024 .f32) (ix2 l x) = (m ((c : Thread nD τ).loc main_arg3) : FVec Ideal S4x8192x1024 .f32) (ix3 b s x) := by
  have ht : t.val < 128 := lt_of_lt_of_eq t.isLt N_0
  refine (at3 (V m c main_v5) t l x ⟨256 * t.val + l.val, by omega⟩ rfl).trans ?_
  rw [entry3]
  exact row1024 _ _ x b s hs.symm

theorem entry4 (c : Dev nD) : @Eq (FVec Ideal S32768x1024 .f32) (V m c main_v6) (shapeCast S32768x1024 (m ((c : Thread nD τ).loc main_arg4) : FVec Ideal S4x8192x1024 .f32) shapeCasts_S4x8192x1024_S32768x1024) := by
  unfold V
  simp only [hostOps0]
  after_reads_simp
  rfl

theorem at4 (F : FVec Ideal S32768x1024 .f32) (t : Fin cfg0.N) (l : Fin 256) (x : Fin 1024) (r : Fin 32768) (hr : r.val = 256 * t.val + l.val) :
    F (((cfg0.win 4).blk t).view.emb (ix2 l x)) = F (ix2 r x) := by
  blk_ext [idx t]

theorem blk4 (c : Dev nD) (t : Fin cfg0.N) (l : Fin 256) (x : Fin 1024) (b : Fin 4) (s : Fin 8192) (hs : 8192 * b.val + s.val = 256 * t.val + l.val) :
    (iblk m c 4 t : FVec Ideal S256x1024 .f32) (ix2 l x) = (m ((c : Thread nD τ).loc main_arg4) : FVec Ideal S4x8192x1024 .f32) (ix3 b s x) := by
  have ht : t.val < 128 := lt_of_lt_of_eq t.isLt N_0
  refine (at4 (V m c main_v6) t l x ⟨256 * t.val + l.val, by omega⟩ rfl).trans ?_
  rw [entry4]
  exact row1024 _ _ x b s hs.symm

theorem entry5 (c : Dev nD) : @Eq (FVec Ideal S512x1024 .bf16) (V m c main_v8) (truncf .bf16 (shapeCast S512x1024 (m ((c : Thread nD τ).loc main_arg5) : FVec Ideal S1x512x1024 .f32) shapeCasts_S1x512x1024_S512x1024) bitsLt_bf16_f32) := by
  unfold V
  simp only [hostOps0]
  after_reads_simp
  rfl

theorem at5 (F : FVec Ideal S512x1024 .bf16) (t : Fin cfg0.N) (i : Fin 512) (x : Fin 1024) :
    F (((cfg0.win 5).blk t).view.emb (ix2 i x)) = F (ix2 i x) := by
  blk_ext [idx t]

theorem blk5 (c : Dev nD) (t : Fin cfg0.N) (i : Fin 512) (x : Fin 1024) :
    (iblk m c 5 t : FVec Ideal S512x1024 .bf16) (ix2 i x) = (m ((c : Thread nD τ).loc main_arg5) : FVec Ideal S1x512x1024 .f32) (ix3 0 i x) := by
  refine (at5 (V m c main_v8) t i x).trans ?_
  rw [entry5]
  exact wholeS512x1024 _ i x

theorem entry6 (c : Dev nD) : @Eq (FVec Ideal S1024x1024 .bf16) (V m c main_v10) (truncf .bf16 (shapeCast S1024x1024 (m ((c : Thread nD τ).loc main_arg6) : FVec Ideal S1x1024x1024 .f32) shapeCasts_S1x1024x1024_S1024x1024) bitsLt_bf16_f32) := by
  unfold V
  simp only [hostOps0]
  after_reads_simp
  rfl

theorem at6 (F : FVec Ideal S1024x1024 .bf16) (t : Fin cfg0.N) (i : Fin 1024) (x : Fin 1024) :
    F (((cfg0.win 6).blk t).view.emb (ix2 i x)) = F (ix2 i x) := by
  blk_ext [idx t]

theorem blk6 (c : Dev nD) (t : Fin cfg0.N) (i : Fin 1024) (x : Fin 1024) :
    (iblk m c 6 t : FVec Ideal S1024x1024 .bf16) (ix2 i x) = (m ((c : Thread nD τ).loc main_arg6) : FVec Ideal S1x1024x1024 .f32) (ix3 0 i x) := by
  refine (at6 (V m c main_v10) t i x).trans ?_
  rw [entry6]
  exact wholeS1024x1024 _ i x

theorem entry7 (c : Dev nD) : @Eq (FVec Ideal S1024x1024 .bf16) (V m c main_v12) (truncf .bf16 (shapeCast S1024x1024 (m ((c : Thread nD τ).loc main_arg7) : FVec Ideal S1x1024x1024 .f32) shapeCasts_S1x1024x1024_S1024x1024) bitsLt_bf16_f32) := by
  unfold V
  simp only [hostOps0]
  after_reads_simp
  rfl

theorem at7 (F : FVec Ideal S1024x1024 .bf16) (t : Fin cfg0.N) (i : Fin 1024) (x : Fin 1024) :
    F (((cfg0.win 7).blk t).view.emb (ix2 i x)) = F (ix2 i x) := by
  blk_ext [idx t]

theorem blk7 (c : Dev nD) (t : Fin cfg0.N) (i : Fin 1024) (x : Fin 1024) :
    (iblk m c 7 t : FVec Ideal S1024x1024 .bf16) (ix2 i x) = (m ((c : Thread nD τ).loc main_arg7) : FVec Ideal S1x1024x1024 .f32) (ix3 0 i x) := by
  refine (at7 (V m c main_v12) t i x).trans ?_
  rw [entry7]
  exact wholeS1024x1024 _ i x

theorem at8 (F : FVec Ideal S32768x1024 .f32) (t : Fin cfg0.N) (l : Fin 256) (x : Fin 1024) (r : Fin 32768) (hr : r.val = 256 * t.val + l.val) :
    F (((cfg0.win 8).blk t).view.emb (ix2 l x)) = F (ix2 r x) := by
  blk_ext [idx t]

/-- The result array is the reference's. -/
theorem final (c : Dev nD) : (dats m 0 c).arrAt 8 cfg0.N = merged (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t hf y => ?_
  have ht : t.val < 128 := lt_of_lt_of_eq t.isLt N_0
  blk_simp
  rw [after0_8]
  frame_out
  have y2 : ∃ (l : Fin 256) (x : Fin 1024), y = ix2 l x := ⟨y 0, y 1, by funext a; fin_cases a <;> rfl⟩
  obtain ⟨l, j, rfl⟩ := y2
  have hs : 8192 * (⟨(256 * t.val + l.val) / 8192, by omega⟩ : Fin 4).val + (⟨(256 * t.val + l.val) % 8192, by omega⟩ : Fin 8192).val = 256 * t.val + l.val := by simp only; omega
  refine (stored_at (iblk m c 1 t) (iblk m c 5 t) (iblk m c 2 t) (iblk m c 6 t) (iblk m c 3 t) (iblk m c 4 t) (iblk m c 0 t) (iblk m c 7 t) l j).trans ?_
  refine Eq.trans ?_ (at8 (merged (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) t l j ⟨256 * t.val + l.val, by omega⟩ rfl).symm
  refine Eq.trans ?_ (merged_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) ⟨256 * t.val + l.val, by omega⟩ j _ _ hs.symm).symm
  exact merge_congr j (fun k => blk0 m c t l k _ _ hs) (fun k => blk1 m c t l k _ _ hs) (fun k => blk2 m c t l k _ _ hs) (fun k => blk3 m c t l k _ _ hs)
    (fun k => blk4 m c t l k _ _ hs) (fun i k => blk5 m c t i k) (fun i k => blk6 m c t i k) (fun i k => blk7 m c t i k)

end Cert.MergePromptIdeal.Rows
-- ==== Proof.MergeSampleRows.lean ====
module

public import proofs.«01_k».proof.Proof.Gen.MergeSampleIdeal.Value
public import proofs.«01_k».proof.Proof.Gen.ReferenceMergeSampleIdeal.Run
public import proofs.«01_k».proof.Proof.Rows
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

namespace Cert.MergeSampleIdeal.Rows

section reference

open Cert.ReferenceMergeSampleIdeal Cert.ReferenceMergeSampleIdeal.Gen Cert.Rows Idealize.ShloMosaic

/-- The merged branches as the reference computes them. -/
abbrev merged (x0 : FVec Ideal S16x16x1024 .f32) (x1 : FVec Ideal S16x16x512 .f32) (x2 x3 x4 : FVec Ideal S16x16x1024 .f32)
    (x5 : FVec Ideal S1x512x1024 .f32) (x6 x7 : FVec Ideal S1x1024x1024 .f32) : FVec Ideal S256x1024 .f32 :=
  shapeCast S256x1024 (addf x0 (Host.dotGeneral dot_S16x16x1024_S1024x1024_S16x16x1024_2_0_01_1_n_n none (addf (mulf (Host.divf (broadcastInDim S16x16x1024 ![] bcast_S_S16x16x1024 (constant S_ .f32 0x3F800000#32)) (addf (broadcastInDim S16x16x1024 ![] bcast_S_S16x16x1024 (constant S_ .f32 0x3F800000#32)) (Host.exp (Host.negf x3)))) (Host.dotGeneral dot_S16x16x512_S512x1024_S16x16x1024_2_0_01_1_n_n none x1 (shapeCast _ x5 shapeCasts_S1x512x1024_S512x1024))) (mulf (Host.divf (broadcastInDim S16x16x1024 ![] bcast_S_S16x16x1024 (constant S_ .f32 0x3F800000#32)) (addf (broadcastInDim S16x16x1024 ![] bcast_S_S16x16x1024 (constant S_ .f32 0x3F800000#32)) (Host.exp (Host.negf x4)))) (Host.dotGeneral dot_S16x16x1024_S1024x1024_S16x16x1024_2_0_01_1_n_n none x2 (shapeCast _ x6 shapeCasts_S1x1024x1024_S1024x1024)))) (shapeCast _ x7 shapeCasts_S1x1024x1024_S1024x1024))) shapeCasts_S16x16x1024_S256x1024

theorem merged_at (x0 : FVec Ideal S16x16x1024 .f32) (x1 : FVec Ideal S16x16x512 .f32) (x2 x3 x4 : FVec Ideal S16x16x1024 .f32)
    (x5 : FVec Ideal S1x512x1024 .f32) (x6 x7 : FVec Ideal S1x1024x1024 .f32) (r : Fin 256) (j : Fin 1024) (b : Fin 16) (s : Fin 16) (hr : r.val = 16 * b.val + s.val) :
    merged x0 x1 x2 x3 x4 x5 x6 x7 (ix2 r j)
      = rowMerge (fun k => x0 (ix3 b s k)) (fun k => x1 (ix3 b s k)) (fun k => x2 (ix3 b s k)) (fun k => x3 (ix3 b s k)) (fun k => x4 (ix3 b s k))
      (fun i k => x5 (ix3 0 i k)) (fun i k => x6 (ix3 0 i k)) (fun i k => x7 (ix3 0 i k)) j := by
  pointwise [merged, rowMerge]
  have e0 : ∀ h, (⟨r.val / 16, h⟩ : Fin 16) = b := fun _ => Fin.ext (by simp only; omega)
  have e1 : ∀ h, (⟨r.val % 16, h⟩ : Fin 16) = s := fun _ => Fin.ext (by simp only; omega)
  simp only [e0, e1]

end reference

open Cert.MergeSampleIdeal Cert.MergeSampleIdeal.Gen Cert.Rows Idealize.ShloMosaic Idealize.ShloMosaic.TcCoe Idealize.SL.Sem
open Idealize.ShloMosaic.Pipeline (Dat)

/-- What the body stores, at an index of its block. -/
theorem stored_at (v0 : FVec Ideal S128x512 .bf16) (v2 : FVec Ideal S512x1024 .bf16) (v5 : FVec Ideal S128x1024 .bf16) (v7 : FVec Ideal S1024x1024 .bf16)
    (v10 v14 v19 : FVec Ideal S128x1024 .f32) (v22 : FVec Ideal S1024x1024 .bf16) (l : Fin 128) (j : Fin 1024) :
    (k0_pay1 v0 v2 v5 v7 v10 v14 v19 v22 : FVec Ideal S128x1024 .f32) (ix2 l j)
      = rowMerge (fun k => v19 (ix2 l k)) (fun k => v0 (ix2 l k)) (fun k => v5 (ix2 l k)) (fun k => v10 (ix2 l k)) (fun k => v14 (ix2 l k))
      (fun i k => v2 (ix2 i k)) (fun i k => v7 (ix2 i k)) (fun i k => v22 (ix2 i k)) j := by
  pointwise [k0_pay1, rowMerge]
  rfl

variable (m : (ℓ : Loc nD τ sig) → Buf (Elt Ideal) ℓ)

/-- Which block of its array each window holds at a point. -/
theorem idx : ∀ t : Fin grid0.N,
    win0_0.index t = ![t.val, 0] ∧ win0_1.index t = ![t.val, 0] ∧ win0_2.index t = ![t.val, 0] ∧ win0_3.index t = ![t.val, 0]
    ∧ win0_4.index t = ![t.val, 0] ∧ win0_5.index t = ![0, 0] ∧ win0_6.index t = ![0, 0] ∧ win0_7.index t = ![0, 0]
    ∧ win0_8.index t = ![t.val, 0] := by
  decide +kernel

/-- A row of a flattened array is a token of a stream. -/
theorem row1024 (X : FVec Ideal S16x16x1024 .f32) (r : Fin 256) (x : Fin 1024) (b : Fin 16) (s : Fin 16) (hr : r.val = 16 * b.val + s.val) :
    shapeCast S256x1024 X shapeCasts_S16x16x1024_S256x1024 (ix2 r x) = X (ix3 b s x) := by
  pointwise
  have e0 : ∀ h, (⟨r.val / 16, h⟩ : Fin 16) = b := fun _ => Fin.ext (by simp only; omega)
  have e1 : ∀ h, (⟨r.val % 16, h⟩ : Fin 16) = s := fun _ => Fin.ext (by simp only; omega)
  simp only [e0, e1]

/-- A row of a flattened array is a token of a stream. -/
theorem row512 (X : FVec Ideal S16x16x512 .f32) (r : Fin 256) (x : Fin 512) (b : Fin 16) (s : Fin 16) (hr : r.val = 16 * b.val + s.val) :
    shapeCast S256x512 X shapeCasts_S16x16x512_S256x512 (ix2 r x) = X (ix3 b s x) := by
  pointwise
  have e0 : ∀ h, (⟨r.val / 16, h⟩ : Fin 16) = b := fun _ => Fin.ext (by simp only; omega)
  have e1 : ∀ h, (⟨r.val % 16, h⟩ : Fin 16) = s := fun _ => Fin.ext (by simp only; omega)
  simp only [e0, e1]

/-- The weights of a layer of one. -/
theorem wholeS512x1024 (X : FVec Ideal S1x512x1024 .f32) (i : Fin 512) (x : Fin 1024) :
    shapeCast S512x1024 X shapeCasts_S1x512x1024_S512x1024 (ix2 i x) = X (ix3 0 i x) := by
  pointwise

/-- The weights of a layer of one. -/
theorem wholeS1024x1024 (X : FVec Ideal S1x1024x1024 .f32) (i : Fin 1024) (x : Fin 1024) :
    shapeCast S1024x1024 X shapeCasts_S1x1024x1024_S1024x1024 (ix2 i x) = X (ix3 0 i x) := by
  pointwise

theorem entry0 (c : Dev nD) : @Eq (FVec Ideal S256x1024 .f32) (V m c main_v0) (shapeCast S256x1024 (m ((c : Thread nD τ).loc main_arg0) : FVec Ideal S16x16x1024 .f32) shapeCasts_S16x16x1024_S256x1024) := by
  unfold V
  simp only [hostOps0]
  after_reads_simp
  rfl

theorem at0 (F : FVec Ideal S256x1024 .f32) (t : Fin cfg0.N) (l : Fin 128) (x : Fin 1024) (r : Fin 256) (hr : r.val = 128 * t.val + l.val) :
    F (((cfg0.win 0).blk t).view.emb (ix2 l x)) = F (ix2 r x) := by
  blk_ext [idx t]

theorem blk0 (c : Dev nD) (t : Fin cfg0.N) (l : Fin 128) (x : Fin 1024) (b : Fin 16) (s : Fin 16) (hs : 16 * b.val + s.val = 128 * t.val + l.val) :
    (iblk m c 0 t : FVec Ideal S128x1024 .f32) (ix2 l x) = (m ((c : Thread nD τ).loc main_arg0) : FVec Ideal S16x16x1024 .f32) (ix3 b s x) := by
  have ht : t.val < 2 := lt_of_lt_of_eq t.isLt N_0
  refine (at0 (V m c main_v0) t l x ⟨128 * t.val + l.val, by omega⟩ rfl).trans ?_
  rw [entry0]
  exact row1024 _ _ x b s hs.symm

theorem entry1 (c : Dev nD) : @Eq (FVec Ideal S256x512 .bf16) (V m c main_v2) (truncf .bf16 (shapeCast S256x512 (m ((c : Thread nD τ).loc main_arg1) : FVec Ideal S16x16x512 .f32) shapeCasts_S16x16x512_S256x512) bitsLt_bf16_f32) := by
  unfold V
  simp only [hostOps0]
  after_reads_simp
  rfl

theorem at1 (F : FVec Ideal S256x512 .bf16) (t : Fin cfg0.N) (l : Fin 128) (x : Fin 512) (r : Fin 256) (hr : r.val = 128 * t.val + l.val) :
    F (((cfg0.win 1).blk t).view.emb (ix2 l x)) = F (ix2 r x) := by
  blk_ext [idx t]

theorem blk1 (c : Dev nD) (t : Fin cfg0.N) (l : Fin 128) (x : Fin 512) (b : Fin 16) (s : Fin 16) (hs : 16 * b.val + s.val = 128 * t.val + l.val) :
    (iblk m c 1 t : FVec Ideal S128x512 .bf16) (ix2 l x) = (m ((c : Thread nD τ).loc main_arg1) : FVec Ideal S16x16x512 .f32) (ix3 b s x) := by
  have ht : t.val < 2 := lt_of_lt_of_eq t.isLt N_0
  refine (at1 (V m c main_v2) t l x ⟨128 * t.val + l.val, by omega⟩ rfl).trans ?_
  rw [entry1]
  exact row512 _ _ x b s hs.symm

theorem entry2 (c : Dev nD) : @Eq (FVec Ideal S256x1024 .bf16) (V m c main_v4) (truncf .bf16 (shapeCast S256x1024 (m ((c : Thread nD τ).loc main_arg2) : FVec Ideal S16x16x1024 .f32) shapeCasts_S16x16x1024_S256x1024) bitsLt_bf16_f32) := by
  unfold V
  simp only [hostOps0]
  after_reads_simp
  rfl

theorem at2 (F : FVec Ideal S256x1024 .bf16) (t : Fin cfg0.N) (l : Fin 128) (x : Fin 1024) (r : Fin 256) (hr : r.val = 128 * t.val + l.val) :
    F (((cfg0.win 2).blk t).view.emb (ix2 l x)) = F (ix2 r x) := by
  blk_ext [idx t]

theorem blk2 (c : Dev nD) (t : Fin cfg0.N) (l : Fin 128) (x : Fin 1024) (b : Fin 16) (s : Fin 16) (hs : 16 * b.val + s.val = 128 * t.val + l.val) :
    (iblk m c 2 t : FVec Ideal S128x1024 .bf16) (ix2 l x) = (m ((c : Thread nD τ).loc main_arg2) : FVec Ideal S16x16x1024 .f32) (ix3 b s x) := by
  have ht : t.val < 2 := lt_of_lt_of_eq t.isLt N_0
  refine (at2 (V m c main_v4) t l x ⟨128 * t.val + l.val, by omega⟩ rfl).trans ?_
  rw [entry2]
  exact row1024 _ _ x b s hs.symm

theorem entry3 (c : Dev nD) : @Eq (FVec Ideal S256x1024 .f32) (V m c main_v5) (shapeCast S256x1024 (m ((c : Thread nD τ).loc main_arg3) : FVec Ideal S16x16x1024 .f32) shapeCasts_S16x16x1024_S256x1024) := by
  unfold V
  simp only [hostOps0]
  after_reads_simp
  rfl

theorem at3 (F : FVec Ideal S256x1024 .f32) (t : Fin cfg0.N) (l : Fin 128) (x : Fin 1024) (r : Fin 256) (hr : r.val = 128 * t.val + l.val) :
    F (((cfg0.win 3).blk t).view.emb (ix2 l x)) = F (ix2 r x) := by
  blk_ext [idx t]

theorem blk3 (c : Dev nD) (t : Fin cfg0.N) (l : Fin 128) (x : Fin 1024) (b : Fin 16) (s : Fin 16) (hs : 16 * b.val + s.val = 128 * t.val + l.val) :
    (iblk m c 3 t : FVec Ideal S128x1024 .f32) (ix2 l x) = (m ((c : Thread nD τ).loc main_arg3) : FVec Ideal S16x16x1024 .f32) (ix3 b s x) := by
  have ht : t.val < 2 := lt_of_lt_of_eq t.isLt N_0
  refine (at3 (V m c main_v5) t l x ⟨128 * t.val + l.val, by omega⟩ rfl).trans ?_
  rw [entry3]
  exact row1024 _ _ x b s hs.symm

theorem entry4 (c : Dev nD) : @Eq (FVec Ideal S256x1024 .f32) (V m c main_v6) (shapeCast S256x1024 (m ((c : Thread nD τ).loc main_arg4) : FVec Ideal S16x16x1024 .f32) shapeCasts_S16x16x1024_S256x1024) := by
  unfold V
  simp only [hostOps0]
  after_reads_simp
  rfl

theorem at4 (F : FVec Ideal S256x1024 .f32) (t : Fin cfg0.N) (l : Fin 128) (x : Fin 1024) (r : Fin 256) (hr : r.val = 128 * t.val + l.val) :
    F (((cfg0.win 4).blk t).view.emb (ix2 l x)) = F (ix2 r x) := by
  blk_ext [idx t]

theorem blk4 (c : Dev nD) (t : Fin cfg0.N) (l : Fin 128) (x : Fin 1024) (b : Fin 16) (s : Fin 16) (hs : 16 * b.val + s.val = 128 * t.val + l.val) :
    (iblk m c 4 t : FVec Ideal S128x1024 .f32) (ix2 l x) = (m ((c : Thread nD τ).loc main_arg4) : FVec Ideal S16x16x1024 .f32) (ix3 b s x) := by
  have ht : t.val < 2 := lt_of_lt_of_eq t.isLt N_0
  refine (at4 (V m c main_v6) t l x ⟨128 * t.val + l.val, by omega⟩ rfl).trans ?_
  rw [entry4]
  exact row1024 _ _ x b s hs.symm

theorem entry5 (c : Dev nD) : @Eq (FVec Ideal S512x1024 .bf16) (V m c main_v8) (truncf .bf16 (shapeCast S512x1024 (m ((c : Thread nD τ).loc main_arg5) : FVec Ideal S1x512x1024 .f32) shapeCasts_S1x512x1024_S512x1024) bitsLt_bf16_f32) := by
  unfold V
  simp only [hostOps0]
  after_reads_simp
  rfl

theorem at5 (F : FVec Ideal S512x1024 .bf16) (t : Fin cfg0.N) (i : Fin 512) (x : Fin 1024) :
    F (((cfg0.win 5).blk t).view.emb (ix2 i x)) = F (ix2 i x) := by
  blk_ext [idx t]

theorem blk5 (c : Dev nD) (t : Fin cfg0.N) (i : Fin 512) (x : Fin 1024) :
    (iblk m c 5 t : FVec Ideal S512x1024 .bf16) (ix2 i x) = (m ((c : Thread nD τ).loc main_arg5) : FVec Ideal S1x512x1024 .f32) (ix3 0 i x) := by
  refine (at5 (V m c main_v8) t i x).trans ?_
  rw [entry5]
  exact wholeS512x1024 _ i x

theorem entry6 (c : Dev nD) : @Eq (FVec Ideal S1024x1024 .bf16) (V m c main_v10) (truncf .bf16 (shapeCast S1024x1024 (m ((c : Thread nD τ).loc main_arg6) : FVec Ideal S1x1024x1024 .f32) shapeCasts_S1x1024x1024_S1024x1024) bitsLt_bf16_f32) := by
  unfold V
  simp only [hostOps0]
  after_reads_simp
  rfl

theorem at6 (F : FVec Ideal S1024x1024 .bf16) (t : Fin cfg0.N) (i : Fin 1024) (x : Fin 1024) :
    F (((cfg0.win 6).blk t).view.emb (ix2 i x)) = F (ix2 i x) := by
  blk_ext [idx t]

theorem blk6 (c : Dev nD) (t : Fin cfg0.N) (i : Fin 1024) (x : Fin 1024) :
    (iblk m c 6 t : FVec Ideal S1024x1024 .bf16) (ix2 i x) = (m ((c : Thread nD τ).loc main_arg6) : FVec Ideal S1x1024x1024 .f32) (ix3 0 i x) := by
  refine (at6 (V m c main_v10) t i x).trans ?_
  rw [entry6]
  exact wholeS1024x1024 _ i x

theorem entry7 (c : Dev nD) : @Eq (FVec Ideal S1024x1024 .bf16) (V m c main_v12) (truncf .bf16 (shapeCast S1024x1024 (m ((c : Thread nD τ).loc main_arg7) : FVec Ideal S1x1024x1024 .f32) shapeCasts_S1x1024x1024_S1024x1024) bitsLt_bf16_f32) := by
  unfold V
  simp only [hostOps0]
  after_reads_simp
  rfl

theorem at7 (F : FVec Ideal S1024x1024 .bf16) (t : Fin cfg0.N) (i : Fin 1024) (x : Fin 1024) :
    F (((cfg0.win 7).blk t).view.emb (ix2 i x)) = F (ix2 i x) := by
  blk_ext [idx t]

theorem blk7 (c : Dev nD) (t : Fin cfg0.N) (i : Fin 1024) (x : Fin 1024) :
    (iblk m c 7 t : FVec Ideal S1024x1024 .bf16) (ix2 i x) = (m ((c : Thread nD τ).loc main_arg7) : FVec Ideal S1x1024x1024 .f32) (ix3 0 i x) := by
  refine (at7 (V m c main_v12) t i x).trans ?_
  rw [entry7]
  exact wholeS1024x1024 _ i x

theorem at8 (F : FVec Ideal S256x1024 .f32) (t : Fin cfg0.N) (l : Fin 128) (x : Fin 1024) (r : Fin 256) (hr : r.val = 128 * t.val + l.val) :
    F (((cfg0.win 8).blk t).view.emb (ix2 l x)) = F (ix2 r x) := by
  blk_ext [idx t]

/-- The result array is the reference's. -/
theorem final (c : Dev nD) : (dats m 0 c).arrAt 8 cfg0.N = merged (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t hf y => ?_
  have ht : t.val < 2 := lt_of_lt_of_eq t.isLt N_0
  blk_simp
  rw [after0_8]
  frame_out
  have y2 : ∃ (l : Fin 128) (x : Fin 1024), y = ix2 l x := ⟨y 0, y 1, by funext a; fin_cases a <;> rfl⟩
  obtain ⟨l, j, rfl⟩ := y2
  have hs : 16 * (⟨(128 * t.val + l.val) / 16, by omega⟩ : Fin 16).val + (⟨(128 * t.val + l.val) % 16, by omega⟩ : Fin 16).val = 128 * t.val + l.val := by simp only; omega
  refine (stored_at (iblk m c 1 t) (iblk m c 5 t) (iblk m c 2 t) (iblk m c 6 t) (iblk m c 3 t) (iblk m c 4 t) (iblk m c 0 t) (iblk m c 7 t) l j).trans ?_
  refine Eq.trans ?_ (at8 (merged (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) t l j ⟨128 * t.val + l.val, by omega⟩ rfl).symm
  refine Eq.trans ?_ (merged_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) ⟨128 * t.val + l.val, by omega⟩ j _ _ hs.symm).symm
  exact merge_congr j (fun k => blk0 m c t l k _ _ hs) (fun k => blk1 m c t l k _ _ hs) (fun k => blk2 m c t l k _ _ hs) (fun k => blk3 m c t l k _ _ hs)
    (fun k => blk4 m c t l k _ _ hs) (fun i k => blk5 m c t i k) (fun i k => blk6 m c t i k) (fun i k => blk7 m c t i k)

end Cert.MergeSampleIdeal.Rows
-- ==== Proof.ProjectPromptRows.lean ====
module

public import proofs.«01_k».proof.Proof.Gen.ProjectPromptIdeal.Value
public import proofs.«01_k».proof.Proof.Gen.ReferenceProjectPromptIdeal.Run
public import proofs.«01_k».proof.Proof.Rows
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

namespace Cert.ProjectPromptIdeal.Rows

section reference

open Cert.ReferenceProjectPromptIdeal Cert.ReferenceProjectPromptIdeal.Gen Cert.Rows Idealize.ShloMosaic

/-- All the projections of all tokens, as the reference computes them. -/
abbrev columns (x0 : FVec Ideal S4x8192x1024 .f32) (x1 : FVec Ideal S1x1024 .f32) (x2 : FVec Ideal S1x1024x5888 .f32) : FVec Ideal S4x8192x5888 .f32 :=
  Host.dotGeneral dot_S4x8192x1024_S1024x5888_S4x8192x5888_2_0_01_1_n_n none (mulf (mulf x0 (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf x0 x0) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 (shapeCast S1024 x1 shapeCasts_S1x1024_S1024)))) (shapeCast S1024x5888 x2 shapeCasts_S1x1024x5888_S1024x5888)

theorem columns_at (x0 : FVec Ideal S4x8192x1024 .f32) (x1 : FVec Ideal S1x1024 .f32) (x2 : FVec Ideal S1x1024x5888 .f32) (b : Fin 4) (s : Fin 8192) (j : Fin 5888) :
    columns x0 x1 x2 (ix3 b s j) = projected (fun k => x0 (ix3 b s k)) (fun k => x1 (ix2 0 k)) (fun k j => x2 (ix3 0 k j)) j := by
  pointwise [columns, projected, normed]

abbrev res4 (y : FVec Ideal S4x8192x5888 .f32) (x3 : FVec Ideal S1x2048 .f32) : FVec Ideal S32768x512 .bf16 :=
  truncf .bf16 (shapeCast S32768x512 (mulf (shapeCast S4x8192x2x4x64 (extractStridedSlice S4x8192x512 ![0, 0, 0] y slices_S4x8192x5888_S4x8192x512_0_0_0) shapeCasts_S4x8192x512_S4x8192x2x4x64) (broadcastInDim S4x8192x2x4x64 ![] bcast_S_S4x8192x2x4x64 (constant S_ .f32 0x3E000000#32))) shapeCasts_S4x8192x2x4x64_S32768x512) bitsLt_bf16_f32

theorem res4_at (y : FVec Ideal S4x8192x5888 .f32) (x3 : FVec Ideal S1x2048 .f32) (r : Fin 32768) (j : Fin 512) (b : Fin 4) (s : Fin 8192) (hr : r.val = 8192 * b.val + s.val) :
    res4 y x3 (ix2 r j) = y (ix3 b s ⟨0 + j.val, by omega⟩) * Ideal.ofBits .f32 0x3E000000#32 := by
  pointwise [res4]
  have e0 : ∀ h, (⟨r.val / 8192, h⟩ : Fin 4) = b := fun _ => Fin.ext (by simp only; omega)
  have e1 : ∀ h, (⟨r.val % 8192, h⟩ : Fin 8192) = s := fun _ => Fin.ext (by simp only; omega)
  simp only [e0, e1]

abbrev res5 (y : FVec Ideal S4x8192x5888 .f32) (x3 : FVec Ideal S1x2048 .f32) : FVec Ideal S32768x128 .f32 :=
  shapeCast S32768x128 (shapeCast S4x8192x2x64 (extractStridedSlice S4x8192x128 ![0, 0, 512] y slices_S4x8192x5888_S4x8192x128_0_0_512) shapeCasts_S4x8192x128_S4x8192x2x64) shapeCasts_S4x8192x2x64_S32768x128

theorem res5_at (y : FVec Ideal S4x8192x5888 .f32) (x3 : FVec Ideal S1x2048 .f32) (r : Fin 32768) (j : Fin 128) (b : Fin 4) (s : Fin 8192) (hr : r.val = 8192 * b.val + s.val) :
    res5 y x3 (ix2 r j) = y (ix3 b s ⟨512 + j.val, by omega⟩) := by
  pointwise [res5]
  have e0 : ∀ h, (⟨r.val / 8192, h⟩ : Fin 4) = b := fun _ => Fin.ext (by simp only; omega)
  have e1 : ∀ h, (⟨r.val % 8192, h⟩ : Fin 8192) = s := fun _ => Fin.ext (by simp only; omega)
  simp only [e0, e1]

abbrev res6 (y : FVec Ideal S4x8192x5888 .f32) (x3 : FVec Ideal S1x2048 .f32) : FVec Ideal S32768x128 .f32 :=
  shapeCast S32768x128 (shapeCast S4x8192x2x64 (extractStridedSlice S4x8192x128 ![0, 0, 640] y slices_S4x8192x5888_S4x8192x128_0_0_640) shapeCasts_S4x8192x128_S4x8192x2x64) shapeCasts_S4x8192x2x64_S32768x128

theorem res6_at (y : FVec Ideal S4x8192x5888 .f32) (x3 : FVec Ideal S1x2048 .f32) (r : Fin 32768) (j : Fin 128) (b : Fin 4) (s : Fin 8192) (hr : r.val = 8192 * b.val + s.val) :
    res6 y x3 (ix2 r j) = y (ix3 b s ⟨640 + j.val, by omega⟩) := by
  pointwise [res6]
  have e0 : ∀ h, (⟨r.val / 8192, h⟩ : Fin 4) = b := fun _ => Fin.ext (by simp only; omega)
  have e1 : ∀ h, (⟨r.val % 8192, h⟩ : Fin 8192) = s := fun _ => Fin.ext (by simp only; omega)
  simp only [e0, e1]

abbrev res7 (y : FVec Ideal S4x8192x5888 .f32) (x3 : FVec Ideal S1x2048 .f32) : FVec Ideal S32768x512 .bf16 :=
  truncf .bf16 (shapeCast S32768x512 (shapeCast S4x8192x4x128 (extractStridedSlice S4x8192x512 ![0, 0, 768] y slices_S4x8192x5888_S4x8192x512_0_0_768) shapeCasts_S4x8192x512_S4x8192x4x128) shapeCasts_S4x8192x4x128_S32768x512) bitsLt_bf16_f32

theorem res7_at (y : FVec Ideal S4x8192x5888 .f32) (x3 : FVec Ideal S1x2048 .f32) (r : Fin 32768) (j : Fin 512) (b : Fin 4) (s : Fin 8192) (hr : r.val = 8192 * b.val + s.val) :
    res7 y x3 (ix2 r j) = y (ix3 b s ⟨768 + j.val, by omega⟩) := by
  pointwise [res7]
  have e0 : ∀ h, (⟨r.val / 8192, h⟩ : Fin 4) = b := fun _ => Fin.ext (by simp only; omega)
  have e1 : ∀ h, (⟨r.val % 8192, h⟩ : Fin 8192) = s := fun _ => Fin.ext (by simp only; omega)
  simp only [e0, e1]

abbrev res8 (y : FVec Ideal S4x8192x5888 .f32) (x3 : FVec Ideal S1x2048 .f32) : FVec Ideal S32768x512 .bf16 :=
  truncf .bf16 (shapeCast S32768x512 (mulf (shapeCast S4x8192x4x128 (extractStridedSlice S4x8192x512 ![0, 0, 1280] y slices_S4x8192x5888_S4x8192x512_0_0_1280) shapeCasts_S4x8192x512_S4x8192x4x128) (broadcastInDim S4x8192x4x128 ![] bcast_S_S4x8192x4x128 (constant S_ .f32 0x3DB504F3#32))) shapeCasts_S4x8192x4x128_S32768x512) bitsLt_bf16_f32

theorem res8_at (y : FVec Ideal S4x8192x5888 .f32) (x3 : FVec Ideal S1x2048 .f32) (r : Fin 32768) (j : Fin 512) (b : Fin 4) (s : Fin 8192) (hr : r.val = 8192 * b.val + s.val) :
    res8 y x3 (ix2 r j) = y (ix3 b s ⟨1280 + j.val, by omega⟩) * Ideal.ofBits .f32 0x3DB504F3#32 := by
  pointwise [res8]
  have e0 : ∀ h, (⟨r.val / 8192, h⟩ : Fin 4) = b := fun _ => Fin.ext (by simp only; omega)
  have e1 : ∀ h, (⟨r.val % 8192, h⟩ : Fin 8192) = s := fun _ => Fin.ext (by simp only; omega)
  simp only [e0, e1]

abbrev res9 (y : FVec Ideal S4x8192x5888 .f32) (x3 : FVec Ideal S1x2048 .f32) : FVec Ideal S32768x1024 .bf16 :=
  truncf .bf16 (shapeCast S32768x1024 (shapeCast S4x8192x4x256 (extractStridedSlice S4x8192x1024 ![0, 0, 1792] y slices_S4x8192x5888_S4x8192x1024_0_0_1792) shapeCasts_S4x8192x1024_S4x8192x4x256) shapeCasts_S4x8192x4x256_S32768x1024) bitsLt_bf16_f32

theorem res9_at (y : FVec Ideal S4x8192x5888 .f32) (x3 : FVec Ideal S1x2048 .f32) (r : Fin 32768) (j : Fin 1024) (b : Fin 4) (s : Fin 8192) (hr : r.val = 8192 * b.val + s.val) :
    res9 y x3 (ix2 r j) = y (ix3 b s ⟨1792 + j.val, by omega⟩) := by
  pointwise [res9]
  have e0 : ∀ h, (⟨r.val / 8192, h⟩ : Fin 4) = b := fun _ => Fin.ext (by simp only; omega)
  have e1 : ∀ h, (⟨r.val % 8192, h⟩ : Fin 8192) = s := fun _ => Fin.ext (by simp only; omega)
  simp only [e0, e1]

abbrev res10 (y : FVec Ideal S4x8192x5888 .f32) (x3 : FVec Ideal S1x2048 .f32) : FVec Ideal S32768x1024 .f32 :=
  shapeCast S32768x1024 (shapeCast S4x8192x4x256 (extractStridedSlice S4x8192x1024 ![0, 0, 2816] y slices_S4x8192x5888_S4x8192x1024_0_0_2816) shapeCasts_S4x8192x1024_S4x8192x4x256) shapeCasts_S4x8192x4x256_S32768x1024

theorem res10_at (y : FVec Ideal S4x8192x5888 .f32) (x3 : FVec Ideal S1x2048 .f32) (r : Fin 32768) (j : Fin 1024) (b : Fin 4) (s : Fin 8192) (hr : r.val = 8192 * b.val + s.val) :
    res10 y x3 (ix2 r j) = y (ix3 b s ⟨2816 + j.val, by omega⟩) := by
  pointwise [res10]
  have e0 : ∀ h, (⟨r.val / 8192, h⟩ : Fin 4) = b := fun _ => Fin.ext (by simp only; omega)
  have e1 : ∀ h, (⟨r.val % 8192, h⟩ : Fin 8192) = s := fun _ => Fin.ext (by simp only; omega)
  simp only [e0, e1]

abbrev res11 (y : FVec Ideal S4x8192x5888 .f32) (x3 : FVec Ideal S1x2048 .f32) : FVec Ideal S32768x1024 .f32 :=
  shapeCast S32768x1024 (extractStridedSlice S4x8192x1024 ![0, 0, 0] (addf (extractStridedSlice S4x8192x2048 ![0, 0, 3840] y slices_S4x8192x5888_S4x8192x2048_0_0_3840) (broadcastInDim S4x8192x2048 ![0, 1, 2] bcast_S1x1x2048_S4x8192x2048_0_1_2 (broadcastInDim S1x1x2048 ![2] bcast_S2048_S1x1x2048_2 (shapeCast S2048 x3 shapeCasts_S1x2048_S2048)))) slices_S4x8192x2048_S4x8192x1024_0_0_0) shapeCasts_S4x8192x1024_S32768x1024

theorem res11_at (y : FVec Ideal S4x8192x5888 .f32) (x3 : FVec Ideal S1x2048 .f32) (r : Fin 32768) (j : Fin 1024) (b : Fin 4) (s : Fin 8192) (hr : r.val = 8192 * b.val + s.val) :
    res11 y x3 (ix2 r j) = y (ix3 b s ⟨3840 + j.val, by omega⟩) + x3 (ix2 0 ⟨0 + j.val, by omega⟩) := by
  pointwise [res11]
  have e0 : ∀ h, (⟨r.val / 8192, h⟩ : Fin 4) = b := fun _ => Fin.ext (by simp only; omega)
  have e1 : ∀ h, (⟨r.val % 8192, h⟩ : Fin 8192) = s := fun _ => Fin.ext (by simp only; omega)
  simp only [e0, e1]

abbrev res12 (y : FVec Ideal S4x8192x5888 .f32) (x3 : FVec Ideal S1x2048 .f32) : FVec Ideal S32768x1024 .f32 :=
  shapeCast S32768x1024 (extractStridedSlice S4x8192x1024 ![0, 0, 1024] (addf (extractStridedSlice S4x8192x2048 ![0, 0, 3840] y slices_S4x8192x5888_S4x8192x2048_0_0_3840) (broadcastInDim S4x8192x2048 ![0, 1, 2] bcast_S1x1x2048_S4x8192x2048_0_1_2 (broadcastInDim S1x1x2048 ![2] bcast_S2048_S1x1x2048_2 (shapeCast S2048 x3 shapeCasts_S1x2048_S2048)))) slices_S4x8192x2048_S4x8192x1024_0_0_1024) shapeCasts_S4x8192x1024_S32768x1024

theorem res12_at (y : FVec Ideal S4x8192x5888 .f32) (x3 : FVec Ideal S1x2048 .f32) (r : Fin 32768) (j : Fin 1024) (b : Fin 4) (s : Fin 8192) (hr : r.val = 8192 * b.val + s.val) :
    res12 y x3 (ix2 r j) = y (ix3 b s ⟨4864 + j.val, by omega⟩) + x3 (ix2 0 ⟨1024 + j.val, by omega⟩) := by
  pointwise [res12]
  have e0 : ∀ h, (⟨r.val / 8192, h⟩ : Fin 4) = b := fun _ => Fin.ext (by simp only; omega)
  have e1 : ∀ h, (⟨r.val % 8192, h⟩ : Fin 8192) = s := fun _ => Fin.ext (by simp only; omega)
  simp only [e0, e1]
  have e2 : ∀ h, (⟨3840 + (1024 + j.val), h⟩ : Fin 5888) = ⟨4864 + j.val, by omega⟩ := fun _ => Fin.ext (by simp only; omega)
  simp only [e2]

end reference

open Cert.ProjectPromptIdeal Cert.ProjectPromptIdeal.Gen Cert.Rows Idealize.ShloMosaic Idealize.ShloMosaic.TcCoe Idealize.SL.Sem
open Idealize.ShloMosaic.Pipeline (Dat)

theorem normed_at (v0 : FVec Ideal S256x1024 .f32) (v2 : FVec Ideal S1x1024 .f32) (l : Fin 256) (k : Fin 1024) :
    (k0_pay2 v0 v2 : FVec Ideal S256x1024 .bf16) (ix2 l k) = normed (fun k => v0 (ix2 l k)) (fun k => v2 (ix2 0 k)) k := by
  pointwise [k0_pay2, normed]

theorem kept_at (x0 : Vec Ideal S256x1024 .f32) (x1 : Vec Ideal S1x1024 .f32) (x2 : Vec Ideal S1024x5888 .bf16) (x3 : Vec Ideal S1x2048 .f32) (l : Fin 256) (k : Fin 1024) :
    (k0_pay11 x0 x1 x2 x3 : FVec Ideal S256x1024 .bf16) (ix2 l k) = normed (fun k => x0 (ix2 l k)) (fun k => x1 (ix2 0 k)) k := by
  have h0 : (fun k => View.ld x0 r0_0 (ix2 l k)) = fun k => x0 (ix2 l k) := funext fun k => ld2 x0 0 _ l k l k rfl (by omega)
  have h1 : (fun k => View.ld x1 r0_1 (ix2 0 k)) = fun k => x1 (ix2 0 k) := funext fun k => ld2 x1 0 _ 0 k 0 k rfl (by omega)
  refine (normed_at (View.ld x0 r0_0) (View.ld x1 r0_1) l k).trans ?_
  rw [h0, h1]

theorem stored4 (v0 : FVec Ideal S256x1024 .f32) (v2 : FVec Ideal S1x1024 .f32) (w : FVec Ideal S1024x512 .bf16) (l : Fin 256) (j : Fin 512) :
    (k0_pay3 v0 v2 w : FVec Ideal S256x512 .bf16) (ix2 l j) = (∑ k, (k0_pay2 v0 v2 : FVec Ideal S256x1024 .bf16) (ix2 l k) * w (ix2 k j)) * Ideal.ofBits .f32 0x3E000000#32 := by
  pointwise [k0_pay3]

theorem stored5 (v0 : FVec Ideal S256x1024 .f32) (v2 : FVec Ideal S1x1024 .f32) (w : FVec Ideal S1024x128 .bf16) (l : Fin 256) (j : Fin 128) :
    (k0_pay4 v0 v2 w : FVec Ideal S256x128 .f32) (ix2 l j) = (∑ k, (k0_pay2 v0 v2 : FVec Ideal S256x1024 .bf16) (ix2 l k) * w (ix2 k j)) := by
  pointwise [k0_pay4]

theorem stored6 (v0 : FVec Ideal S256x1024 .f32) (v2 : FVec Ideal S1x1024 .f32) (w : FVec Ideal S1024x128 .bf16) (l : Fin 256) (j : Fin 128) :
    (k0_pay5 v0 v2 w : FVec Ideal S256x128 .f32) (ix2 l j) = (∑ k, (k0_pay2 v0 v2 : FVec Ideal S256x1024 .bf16) (ix2 l k) * w (ix2 k j)) := by
  pointwise [k0_pay5]

theorem stored7 (h : FVec Ideal S256x1024 .bf16) (w : FVec Ideal S1024x512 .bf16) (l : Fin 256) (j : Fin 512) :
    (k0_pay6 h w : FVec Ideal S256x512 .bf16) (ix2 l j) = (∑ k, (h : FVec Ideal S256x1024 .bf16) (ix2 l k) * w (ix2 k j)) := by
  pointwise [k0_pay6]

theorem stored8 (h : FVec Ideal S256x1024 .bf16) (w : FVec Ideal S1024x512 .bf16) (l : Fin 256) (j : Fin 512) :
    (k0_pay7 h w : FVec Ideal S256x512 .bf16) (ix2 l j) = (∑ k, (h : FVec Ideal S256x1024 .bf16) (ix2 l k) * w (ix2 k j)) * Ideal.ofBits .f32 0x3DB504F3#32 := by
  pointwise [k0_pay7]

theorem stored9 (h : FVec Ideal S256x1024 .bf16) (w : FVec Ideal S1024x1024 .bf16) (l : Fin 256) (j : Fin 1024) :
    (k0_pay8 h w : FVec Ideal S256x1024 .bf16) (ix2 l j) = (∑ k, (h : FVec Ideal S256x1024 .bf16) (ix2 l k) * w (ix2 k j)) := by
  pointwise [k0_pay8]

theorem stored10 (h : FVec Ideal S256x1024 .bf16) (w : FVec Ideal S1024x1024 .bf16) (l : Fin 256) (j : Fin 1024) :
    (k0_pay9 h w : FVec Ideal S256x1024 .f32) (ix2 l j) = (∑ k, (h : FVec Ideal S256x1024 .bf16) (ix2 l k) * w (ix2 k j)) := by
  pointwise [k0_pay9]

theorem stored11 (h : FVec Ideal S256x1024 .bf16) (w : FVec Ideal S1024x1024 .bf16) (u : FVec Ideal S1x1024 .f32) (l : Fin 256) (j : Fin 1024) :
    (k0_pay10 h w u : FVec Ideal S256x1024 .f32) (ix2 l j) = (∑ k, (h : FVec Ideal S256x1024 .bf16) (ix2 l k) * w (ix2 k j)) + u (ix2 0 j) := by
  pointwise [k0_pay10]

theorem stored12 (h : FVec Ideal S256x1024 .bf16) (w : FVec Ideal S1024x1024 .bf16) (u : FVec Ideal S1x1024 .f32) (l : Fin 256) (j : Fin 1024) :
    (k0_pay1 h w u : FVec Ideal S256x1024 .f32) (ix2 l j) = (∑ k, (h : FVec Ideal S256x1024 .bf16) (ix2 l k) * w (ix2 k j)) + u (ix2 0 j) := by
  pointwise [k0_pay1]

variable (m : (ℓ : Loc nD τ sig) → Buf (Elt Ideal) ℓ)

/-- Which block of its array each window holds at a point. -/
theorem idx : ∀ t : Fin grid0.N,
    win0_0.index t = ![t.val, 0] ∧ win0_1.index t = ![0, 0] ∧ win0_2.index t = ![0, 0] ∧ win0_3.index t = ![0, 0]
    ∧ win0_4.index t = ![t.val, 0] ∧ win0_5.index t = ![t.val, 0] ∧ win0_6.index t = ![t.val, 0] ∧ win0_7.index t = ![t.val, 0] ∧ win0_8.index t = ![t.val, 0] ∧ win0_9.index t = ![t.val, 0] ∧ win0_10.index t = ![t.val, 0] ∧ win0_11.index t = ![t.val, 0] ∧ win0_12.index t = ![t.val, 0] := by
  decide +kernel

/-- A vector laid out as a row. -/
theorem vec1024 (X : FVec Ideal S1x1024 .f32) (x : Fin 1024) :
    broadcastInDim S1x1024 ![1] bcast_S1024_S1x1024_1 (shapeCast S1024 X shapeCasts_S1x1024_S1024) (ix2 0 x) = X (ix2 0 x) := by
  pointwise

theorem vec2048 (X : FVec Ideal S1x2048 .f32) (x : Fin 2048) :
    broadcastInDim S1x2048 ![1] bcast_S2048_S1x2048_1 (shapeCast S2048 X shapeCasts_S1x2048_S2048) (ix2 0 x) = X (ix2 0 x) := by
  pointwise

/-- A row of a flattened array is a token of a stream. -/
theorem row1024 (X : FVec Ideal S4x8192x1024 .f32) (r : Fin 32768) (x : Fin 1024) (b : Fin 4) (s : Fin 8192) (hr : r.val = 8192 * b.val + s.val) :
    shapeCast S32768x1024 X shapeCasts_S4x8192x1024_S32768x1024 (ix2 r x) = X (ix3 b s x) := by
  pointwise
  have e0 : ∀ h, (⟨r.val / 8192, h⟩ : Fin 4) = b := fun _ => Fin.ext (by simp only; omega)
  have e1 : ∀ h, (⟨r.val % 8192, h⟩ : Fin 8192) = s := fun _ => Fin.ext (by simp only; omega)
  simp only [e0, e1]

/-- The weights of a layer of one. -/
theorem wholeS1024x5888 (X : FVec Ideal S1x1024x5888 .f32) (i : Fin 1024) (x : Fin 5888) :
    shapeCast S1024x5888 X shapeCasts_S1x1024x5888_S1024x5888 (ix2 i x) = X (ix3 0 i x) := by
  pointwise

theorem entry0 (c : Dev nD) : @Eq (FVec Ideal S32768x1024 .f32) (V m c main_v0) (shapeCast S32768x1024 (m ((c : Thread nD τ).loc main_arg0) : FVec Ideal S4x8192x1024 .f32) shapeCasts_S4x8192x1024_S32768x1024) := by
  unfold V
  simp only [hostOps0]
  after_reads_simp
  rfl

theorem at0 (F : FVec Ideal S32768x1024 .f32) (t : Fin cfg0.N) (l : Fin 256) (x : Fin 1024) (r : Fin 32768) (hr : r.val = 256 * t.val + l.val) :
    F (((cfg0.win 0).blk t).view.emb (ix2 l x)) = F (ix2 r x) := by
  blk_ext [idx t]

theorem blk0 (c : Dev nD) (t : Fin cfg0.N) (l : Fin 256) (x : Fin 1024) (b : Fin 4) (s : Fin 8192) (hs : 8192 * b.val + s.val = 256 * t.val + l.val) :
    (iblk m c 0 t : FVec Ideal S256x1024 .f32) (ix2 l x) = (m ((c : Thread nD τ).loc main_arg0) : FVec Ideal S4x8192x1024 .f32) (ix3 b s x) := by
  have ht : t.val < 128 := lt_of_lt_of_eq t.isLt N_0
  refine (at0 (V m c main_v0) t l x ⟨256 * t.val + l.val, by omega⟩ rfl).trans ?_
  rw [entry0]
  exact row1024 _ _ x b s hs.symm

theorem entry1 (c : Dev nD) : @Eq (FVec Ideal S1x1024 .f32) (V m c main_v2) (broadcastInDim S1x1024 ![1] bcast_S1024_S1x1024_1 (shapeCast S1024 (m ((c : Thread nD τ).loc main_arg1) : FVec Ideal S1x1024 .f32) shapeCasts_S1x1024_S1024)) := by
  unfold V
  simp only [hostOps0]
  after_reads_simp
  rfl

theorem at1 (F : FVec Ideal S1x1024 .f32) (t : Fin cfg0.N)  (x : Fin 1024) :
    F (((cfg0.win 1).blk t).view.emb (ix2 0 x)) = F (ix2 0 x) := by
  blk_ext [idx t]

theorem blk1 (c : Dev nD) (t : Fin cfg0.N)  (x : Fin 1024) :
    (iblk m c 1 t : FVec Ideal S1x1024 .f32) (ix2 0 x) = (m ((c : Thread nD τ).loc main_arg1) : FVec Ideal S1x1024 .f32) (ix2 0 x) := by
  refine (at1 (V m c main_v2) t x).trans ?_
  rw [entry1]
  exact vec1024 _ x

theorem entry3 (c : Dev nD) : @Eq (FVec Ideal S1x2048 .f32) (V m c main_v6) (broadcastInDim S1x2048 ![1] bcast_S2048_S1x2048_1 (shapeCast S2048 (m ((c : Thread nD τ).loc main_arg3) : FVec Ideal S1x2048 .f32) shapeCasts_S1x2048_S2048)) := by
  unfold V
  simp only [hostOps0]
  after_reads_simp
  rfl

theorem at3 (F : FVec Ideal S1x2048 .f32) (t : Fin cfg0.N)  (x : Fin 2048) :
    F (((cfg0.win 3).blk t).view.emb (ix2 0 x)) = F (ix2 0 x) := by
  blk_ext [idx t]

theorem blk3 (c : Dev nD) (t : Fin cfg0.N)  (x : Fin 2048) :
    (iblk m c 3 t : FVec Ideal S1x2048 .f32) (ix2 0 x) = (m ((c : Thread nD τ).loc main_arg3) : FVec Ideal S1x2048 .f32) (ix2 0 x) := by
  refine (at3 (V m c main_v6) t x).trans ?_
  rw [entry3]
  exact vec2048 _ x

theorem entry2 (c : Dev nD) : @Eq (FVec Ideal S1024x5888 .bf16) (V m c main_v4) (truncf .bf16 (shapeCast S1024x5888 (m ((c : Thread nD τ).loc main_arg2) : FVec Ideal S1x1024x5888 .f32) shapeCasts_S1x1024x5888_S1024x5888) bitsLt_bf16_f32) := by
  unfold V
  simp only [hostOps0]
  after_reads_simp
  rfl

theorem at2 (F : FVec Ideal S1024x5888 .bf16) (t : Fin cfg0.N) (i : Fin 1024) (x : Fin 5888) :
    F (((cfg0.win 2).blk t).view.emb (ix2 i x)) = F (ix2 i x) := by
  blk_ext [idx t]

theorem blk2 (c : Dev nD) (t : Fin cfg0.N) (i : Fin 1024) (x : Fin 5888) :
    (iblk m c 2 t : FVec Ideal S1024x5888 .bf16) (ix2 i x) = (m ((c : Thread nD τ).loc main_arg2) : FVec Ideal S1x1024x5888 .f32) (ix3 0 i x) := by
  refine (at2 (V m c main_v4) t i x).trans ?_
  rw [entry2]
  exact wholeS1024x5888 _ i x

theorem at4 (F : FVec Ideal S32768x512 .bf16) (t : Fin cfg0.N) (l : Fin 256) (x : Fin 512) (r : Fin 32768) (hr : r.val = 256 * t.val + l.val) :
    F (((cfg0.win 4).blk t).view.emb (ix2 l x)) = F (ix2 r x) := by
  blk_ext [idx t]

theorem final4 (c : Dev nD) : (dats m 0 c).arrAt 4 cfg0.N = res4 (columns (m ((c : Thread nD τ).loc main_arg0)) (m ((c : Thread nD τ).loc main_arg1)) (m ((c : Thread nD τ).loc main_arg2))) (m ((c : Thread nD τ).loc main_arg3)) := by
  refine (dats m 0 c).arrAt_eq_of_covers 4 _ (by decide +kernel) fun t hf y => ?_
  have ht : t.val < 128 := lt_of_lt_of_eq t.isLt N_0
  blk_simp
  rw [after0_4]
  frame_out
  have y2 : ∃ (l : Fin 256) (x : Fin 512), y = ix2 l x := ⟨y 0, y 1, by funext a; fin_cases a <;> rfl⟩
  obtain ⟨l, j, rfl⟩ := y2
  have hs : 8192 * (⟨(256 * t.val + l.val) / 8192, by omega⟩ : Fin 4).val + (⟨(256 * t.val + l.val) % 8192, by omega⟩ : Fin 8192).val = 256 * t.val + l.val := by simp only; omega
  refine (stored4 (iblk m c 0 t) (iblk m c 1 t) (View.ld (iblk m c 2 t : FVec Ideal S1024x5888 .bf16) (Rect.unit (s := S1024x5888) ![0, 0] S1024x512.size inb_S1024x5888_S1024x512_0_0)) l j).trans ?_
  refine Eq.trans ?_ (at4 (res4 (columns (m ((c : Thread nD τ).loc main_arg0)) (m ((c : Thread nD τ).loc main_arg1)) (m ((c : Thread nD τ).loc main_arg2))) (m ((c : Thread nD τ).loc main_arg3))) t l j ⟨256 * t.val + l.val, by omega⟩ rfl).symm
  refine Eq.trans ?_ (res4_at (columns (m ((c : Thread nD τ).loc main_arg0)) (m ((c : Thread nD τ).loc main_arg1)) (m ((c : Thread nD τ).loc main_arg2))) (m ((c : Thread nD τ).loc main_arg3)) ⟨256 * t.val + l.val, by omega⟩ j _ _ hs.symm).symm
  rw [columns_at]
  exact congrArg (· * Ideal.ofBits .f32 0x3E000000#32) (projected_congr ⟨0 + j.val, by omega⟩ (fun k => normed_at (iblk m c 0 t) (iblk m c 1 t) l k) (fun k => blk0 m c t l k _ _ hs) (fun k => blk1 m c t k)
    (fun k => (ld2 (iblk m c 2 t) 0 _ k j k ⟨0 + j.val, by omega⟩ rfl rfl).trans (blk2 m c t k _)))

theorem at5 (F : FVec Ideal S32768x128 .f32) (t : Fin cfg0.N) (l : Fin 256) (x : Fin 128) (r : Fin 32768) (hr : r.val = 256 * t.val + l.val) :
    F (((cfg0.win 5).blk t).view.emb (ix2 l x)) = F (ix2 r x) := by
  blk_ext [idx t]

theorem final5 (c : Dev nD) : (dats m 0 c).arrAt 5 cfg0.N = res5 (columns (m ((c : Thread nD τ).loc main_arg0)) (m ((c : Thread nD τ).loc main_arg1)) (m ((c : Thread nD τ).loc main_arg2))) (m ((c : Thread nD τ).loc main_arg3)) := by
  refine (dats m 0 c).arrAt_eq_of_covers 5 _ (by decide +kernel) fun t hf y => ?_
  have ht : t.val < 128 := lt_of_lt_of_eq t.isLt N_0
  blk_simp
  rw [after0_5]
  frame_out
  have y2 : ∃ (l : Fin 256) (x : Fin 128), y = ix2 l x := ⟨y 0, y 1, by funext a; fin_cases a <;> rfl⟩
  obtain ⟨l, j, rfl⟩ := y2
  have hs : 8192 * (⟨(256 * t.val + l.val) / 8192, by omega⟩ : Fin 4).val + (⟨(256 * t.val + l.val) % 8192, by omega⟩ : Fin 8192).val = 256 * t.val + l.val := by simp only; omega
  refine (stored5 (iblk m c 0 t) (iblk m c 1 t) (View.ld (iblk m c 2 t : FVec Ideal S1024x5888 .bf16) (Rect.unit (s := S1024x5888) ![0, 512] S1024x128.size inb_S1024x5888_S1024x128_0_512)) l j).trans ?_
  refine Eq.trans ?_ (at5 (res5 (columns (m ((c : Thread nD τ).loc main_arg0)) (m ((c : Thread nD τ).loc main_arg1)) (m ((c : Thread nD τ).loc main_arg2))) (m ((c : Thread nD τ).loc main_arg3))) t l j ⟨256 * t.val + l.val, by omega⟩ rfl).symm
  refine Eq.trans ?_ (res5_at (columns (m ((c : Thread nD τ).loc main_arg0)) (m ((c : Thread nD τ).loc main_arg1)) (m ((c : Thread nD τ).loc main_arg2))) (m ((c : Thread nD τ).loc main_arg3)) ⟨256 * t.val + l.val, by omega⟩ j _ _ hs.symm).symm
  rw [columns_at]
  exact projected_congr ⟨512 + j.val, by omega⟩ (fun k => normed_at (iblk m c 0 t) (iblk m c 1 t) l k) (fun k => blk0 m c t l k _ _ hs) (fun k => blk1 m c t k)
    (fun k => (ld2 (iblk m c 2 t) 512 _ k j k ⟨512 + j.val, by omega⟩ rfl rfl).trans (blk2 m c t k _))

theorem at6 (F : FVec Ideal S32768x128 .f32) (t : Fin cfg0.N) (l : Fin 256) (x : Fin 128) (r : Fin 32768) (hr : r.val = 256 * t.val + l.val) :
    F (((cfg0.win 6).blk t).view.emb (ix2 l x)) = F (ix2 r x) := by
  blk_ext [idx t]

theorem final6 (c : Dev nD) : (dats m 0 c).arrAt 6 cfg0.N = res6 (columns (m ((c : Thread nD τ).loc main_arg0)) (m ((c : Thread nD τ).loc main_arg1)) (m ((c : Thread nD τ).loc main_arg2))) (m ((c : Thread nD τ).loc main_arg3)) := by
  refine (dats m 0 c).arrAt_eq_of_covers 6 _ (by decide +kernel) fun t hf y => ?_
  have ht : t.val < 128 := lt_of_lt_of_eq t.isLt N_0
  blk_simp
  rw [after0_6]
  frame_out
  have y2 : ∃ (l : Fin 256) (x : Fin 128), y = ix2 l x := ⟨y 0, y 1, by funext a; fin_cases a <;> rfl⟩
  obtain ⟨l, j, rfl⟩ := y2
  have hs : 8192 * (⟨(256 * t.val + l.val) / 8192, by omega⟩ : Fin 4).val + (⟨(256 * t.val + l.val) % 8192, by omega⟩ : Fin 8192).val = 256 * t.val + l.val := by simp only; omega
  refine (stored6 (iblk m c 0 t) (iblk m c 1 t) (View.ld (iblk m c 2 t : FVec Ideal S1024x5888 .bf16) (Rect.unit (s := S1024x5888) ![0, 640] S1024x128.size inb_S1024x5888_S1024x128_0_640)) l j).trans ?_
  refine Eq.trans ?_ (at6 (res6 (columns (m ((c : Thread nD τ).loc main_arg0)) (m ((c : Thread nD τ).loc main_arg1)) (m ((c : Thread nD τ).loc main_arg2))) (m ((c : Thread nD τ).loc main_arg3))) t l j ⟨256 * t.val + l.val, by omega⟩ rfl).symm
  refine Eq.trans ?_ (res6_at (columns (m ((c : Thread nD τ).loc main_arg0)) (m ((c : Thread nD τ).loc main_arg1)) (m ((c : Thread nD τ).loc main_arg2))) (m ((c : Thread nD τ).loc main_arg3)) ⟨256 * t.val + l.val, by omega⟩ j _ _ hs.symm).symm
  rw [columns_at]
  exact projected_congr ⟨640 + j.val, by omega⟩ (fun k => normed_at (iblk m c 0 t) (iblk m c 1 t) l k) (fun k => blk0 m c t l k _ _ hs) (fun k => blk1 m c t k)
    (fun k => (ld2 (iblk m c 2 t) 640 _ k j k ⟨640 + j.val, by omega⟩ rfl rfl).trans (blk2 m c t k _))

theorem at7 (F : FVec Ideal S32768x512 .bf16) (t : Fin cfg0.N) (l : Fin 256) (x : Fin 512) (r : Fin 32768) (hr : r.val = 256 * t.val + l.val) :
    F (((cfg0.win 7).blk t).view.emb (ix2 l x)) = F (ix2 r x) := by
  blk_ext [idx t]

theorem final7 (c : Dev nD) : (dats m 0 c).arrAt 7 cfg0.N = res7 (columns (m ((c : Thread nD τ).loc main_arg0)) (m ((c : Thread nD τ).loc main_arg1)) (m ((c : Thread nD τ).loc main_arg2))) (m ((c : Thread nD τ).loc main_arg3)) := by
  refine (dats m 0 c).arrAt_eq_of_covers 7 _ (by decide +kernel) fun t hf y => ?_
  have ht : t.val < 128 := lt_of_lt_of_eq t.isLt N_0
  blk_simp
  rw [after0_7]
  frame_out
  have y2 : ∃ (l : Fin 256) (x : Fin 512), y = ix2 l x := ⟨y 0, y 1, by funext a; fin_cases a <;> rfl⟩
  obtain ⟨l, j, rfl⟩ := y2
  have hs : 8192 * (⟨(256 * t.val + l.val) / 8192, by omega⟩ : Fin 4).val + (⟨(256 * t.val + l.val) % 8192, by omega⟩ : Fin 8192).val = 256 * t.val + l.val := by simp only; omega
  refine (stored7 (k0_pay11 (iblk m c 0 t) (iblk m c 1 t) (iblk m c 2 t) (iblk m c 3 t)) (View.ld (iblk m c 2 t : FVec Ideal S1024x5888 .bf16) (Rect.unit (s := S1024x5888) ![0, 768] S1024x512.size inb_S1024x5888_S1024x512_0_768)) l j).trans ?_
  refine Eq.trans ?_ (at7 (res7 (columns (m ((c : Thread nD τ).loc main_arg0)) (m ((c : Thread nD τ).loc main_arg1)) (m ((c : Thread nD τ).loc main_arg2))) (m ((c : Thread nD τ).loc main_arg3))) t l j ⟨256 * t.val + l.val, by omega⟩ rfl).symm
  refine Eq.trans ?_ (res7_at (columns (m ((c : Thread nD τ).loc main_arg0)) (m ((c : Thread nD τ).loc main_arg1)) (m ((c : Thread nD τ).loc main_arg2))) (m ((c : Thread nD τ).loc main_arg3)) ⟨256 * t.val + l.val, by omega⟩ j _ _ hs.symm).symm
  rw [columns_at]
  exact projected_congr ⟨768 + j.val, by omega⟩ (fun k => kept_at (iblk m c 0 t) (iblk m c 1 t) (iblk m c 2 t) (iblk m c 3 t) l k) (fun k => blk0 m c t l k _ _ hs) (fun k => blk1 m c t k)
    (fun k => (ld2 (iblk m c 2 t) 768 _ k j k ⟨768 + j.val, by omega⟩ rfl rfl).trans (blk2 m c t k _))

theorem at8 (F : FVec Ideal S32768x512 .bf16) (t : Fin cfg0.N) (l : Fin 256) (x : Fin 512) (r : Fin 32768) (hr : r.val = 256 * t.val + l.val) :
    F (((cfg0.win 8).blk t).view.emb (ix2 l x)) = F (ix2 r x) := by
  blk_ext [idx t]

theorem final8 (c : Dev nD) : (dats m 0 c).arrAt 8 cfg0.N = res8 (columns (m ((c : Thread nD τ).loc main_arg0)) (m ((c : Thread nD τ).loc main_arg1)) (m ((c : Thread nD τ).loc main_arg2))) (m ((c : Thread nD τ).loc main_arg3)) := by
  refine (dats m 0 c).arrAt_eq_of_covers 8 _ (by decide +kernel) fun t hf y => ?_
  have ht : t.val < 128 := lt_of_lt_of_eq t.isLt N_0
  blk_simp
  rw [after0_8]
  frame_out
  have y2 : ∃ (l : Fin 256) (x : Fin 512), y = ix2 l x := ⟨y 0, y 1, by funext a; fin_cases a <;> rfl⟩
  obtain ⟨l, j, rfl⟩ := y2
  have hs : 8192 * (⟨(256 * t.val + l.val) / 8192, by omega⟩ : Fin 4).val + (⟨(256 * t.val + l.val) % 8192, by omega⟩ : Fin 8192).val = 256 * t.val + l.val := by simp only; omega
  refine (stored8 (k0_pay11 (iblk m c 0 t) (iblk m c 1 t) (iblk m c 2 t) (iblk m c 3 t)) (View.ld (iblk m c 2 t : FVec Ideal S1024x5888 .bf16) (Rect.unit (s := S1024x5888) ![0, 1280] S1024x512.size inb_S1024x5888_S1024x512_0_1280)) l j).trans ?_
  refine Eq.trans ?_ (at8 (res8 (columns (m ((c : Thread nD τ).loc main_arg0)) (m ((c : Thread nD τ).loc main_arg1)) (m ((c : Thread nD τ).loc main_arg2))) (m ((c : Thread nD τ).loc main_arg3))) t l j ⟨256 * t.val + l.val, by omega⟩ rfl).symm
  refine Eq.trans ?_ (res8_at (columns (m ((c : Thread nD τ).loc main_arg0)) (m ((c : Thread nD τ).loc main_arg1)) (m ((c : Thread nD τ).loc main_arg2))) (m ((c : Thread nD τ).loc main_arg3)) ⟨256 * t.val + l.val, by omega⟩ j _ _ hs.symm).symm
  rw [columns_at]
  exact congrArg (· * Ideal.ofBits .f32 0x3DB504F3#32) (projected_congr ⟨1280 + j.val, by omega⟩ (fun k => kept_at (iblk m c 0 t) (iblk m c 1 t) (iblk m c 2 t) (iblk m c 3 t) l k) (fun k => blk0 m c t l k _ _ hs) (fun k => blk1 m c t k)
    (fun k => (ld2 (iblk m c 2 t) 1280 _ k j k ⟨1280 + j.val, by omega⟩ rfl rfl).trans (blk2 m c t k _)))

theorem at9 (F : FVec Ideal S32768x1024 .bf16) (t : Fin cfg0.N) (l : Fin 256) (x : Fin 1024) (r : Fin 32768) (hr : r.val = 256 * t.val + l.val) :
    F (((cfg0.win 9).blk t).view.emb (ix2 l x)) = F (ix2 r x) := by
  blk_ext [idx t]

theorem final9 (c : Dev nD) : (dats m 0 c).arrAt 9 cfg0.N = res9 (columns (m ((c : Thread nD τ).loc main_arg0)) (m ((c : Thread nD τ).loc main_arg1)) (m ((c : Thread nD τ).loc main_arg2))) (m ((c : Thread nD τ).loc main_arg3)) := by
  refine (dats m 0 c).arrAt_eq_of_covers 9 _ (by decide +kernel) fun t hf y => ?_
  have ht : t.val < 128 := lt_of_lt_of_eq t.isLt N_0
  blk_simp
  rw [after0_9]
  frame_out
  have y2 : ∃ (l : Fin 256) (x : Fin 1024), y = ix2 l x := ⟨y 0, y 1, by funext a; fin_cases a <;> rfl⟩
  obtain ⟨l, j, rfl⟩ := y2
  have hs : 8192 * (⟨(256 * t.val + l.val) / 8192, by omega⟩ : Fin 4).val + (⟨(256 * t.val + l.val) % 8192, by omega⟩ : Fin 8192).val = 256 * t.val + l.val := by simp only; omega
  refine (stored9 (k0_pay11 (iblk m c 0 t) (iblk m c 1 t) (iblk m c 2 t) (iblk m c 3 t)) (View.ld (iblk m c 2 t : FVec Ideal S1024x5888 .bf16) (Rect.unit (s := S1024x5888) ![0, 1792] S1024x1024.size inb_S1024x5888_S1024x1024_0_1792)) l j).trans ?_
  refine Eq.trans ?_ (at9 (res9 (columns (m ((c : Thread nD τ).loc main_arg0)) (m ((c : Thread nD τ).loc main_arg1)) (m ((c : Thread nD τ).loc main_arg2))) (m ((c : Thread nD τ).loc main_arg3))) t l j ⟨256 * t.val + l.val, by omega⟩ rfl).symm
  refine Eq.trans ?_ (res9_at (columns (m ((c : Thread nD τ).loc main_arg0)) (m ((c : Thread nD τ).loc main_arg1)) (m ((c : Thread nD τ).loc main_arg2))) (m ((c : Thread nD τ).loc main_arg3)) ⟨256 * t.val + l.val, by omega⟩ j _ _ hs.symm).symm
  rw [columns_at]
  exact projected_congr ⟨1792 + j.val, by omega⟩ (fun k => kept_at (iblk m c 0 t) (iblk m c 1 t) (iblk m c 2 t) (iblk m c 3 t) l k) (fun k => blk0 m c t l k _ _ hs) (fun k => blk1 m c t k)
    (fun k => (ld2 (iblk m c 2 t) 1792 _ k j k ⟨1792 + j.val, by omega⟩ rfl rfl).trans (blk2 m c t k _))

theorem at10 (F : FVec Ideal S32768x1024 .f32) (t : Fin cfg0.N) (l : Fin 256) (x : Fin 1024) (r : Fin 32768) (hr : r.val = 256 * t.val + l.val) :
    F (((cfg0.win 10).blk t).view.emb (ix2 l x)) = F (ix2 r x) := by
  blk_ext [idx t]

theorem final10 (c : Dev nD) : (dats m 0 c).arrAt 10 cfg0.N = res10 (columns (m ((c : Thread nD τ).loc main_arg0)) (m ((c : Thread nD τ).loc main_arg1)) (m ((c : Thread nD τ).loc main_arg2))) (m ((c : Thread nD τ).loc main_arg3)) := by
  refine (dats m 0 c).arrAt_eq_of_covers 10 _ (by decide +kernel) fun t hf y => ?_
  have ht : t.val < 128 := lt_of_lt_of_eq t.isLt N_0
  blk_simp
  rw [after0_10]
  frame_out
  have y2 : ∃ (l : Fin 256) (x : Fin 1024), y = ix2 l x := ⟨y 0, y 1, by funext a; fin_cases a <;> rfl⟩
  obtain ⟨l, j, rfl⟩ := y2
  have hs : 8192 * (⟨(256 * t.val + l.val) / 8192, by omega⟩ : Fin 4).val + (⟨(256 * t.val + l.val) % 8192, by omega⟩ : Fin 8192).val = 256 * t.val + l.val := by simp only; omega
  refine (stored10 (k0_pay11 (iblk m c 0 t) (iblk m c 1 t) (iblk m c 2 t) (iblk m c 3 t)) (View.ld (iblk m c 2 t : FVec Ideal S1024x5888 .bf16) (Rect.unit (s := S1024x5888) ![0, 2816] S1024x1024.size inb_S1024x5888_S1024x1024_0_2816)) l j).trans ?_
  refine Eq.trans ?_ (at10 (res10 (columns (m ((c : Thread nD τ).loc main_arg0)) (m ((c : Thread nD τ).loc main_arg1)) (m ((c : Thread nD τ).loc main_arg2))) (m ((c : Thread nD τ).loc main_arg3))) t l j ⟨256 * t.val + l.val, by omega⟩ rfl).symm
  refine Eq.trans ?_ (res10_at (columns (m ((c : Thread nD τ).loc main_arg0)) (m ((c : Thread nD τ).loc main_arg1)) (m ((c : Thread nD τ).loc main_arg2))) (m ((c : Thread nD τ).loc main_arg3)) ⟨256 * t.val + l.val, by omega⟩ j _ _ hs.symm).symm
  rw [columns_at]
  exact projected_congr ⟨2816 + j.val, by omega⟩ (fun k => kept_at (iblk m c 0 t) (iblk m c 1 t) (iblk m c 2 t) (iblk m c 3 t) l k) (fun k => blk0 m c t l k _ _ hs) (fun k => blk1 m c t k)
    (fun k => (ld2 (iblk m c 2 t) 2816 _ k j k ⟨2816 + j.val, by omega⟩ rfl rfl).trans (blk2 m c t k _))

theorem at11 (F : FVec Ideal S32768x1024 .f32) (t : Fin cfg0.N) (l : Fin 256) (x : Fin 1024) (r : Fin 32768) (hr : r.val = 256 * t.val + l.val) :
    F (((cfg0.win 11).blk t).view.emb (ix2 l x)) = F (ix2 r x) := by
  blk_ext [idx t]

theorem final11 (c : Dev nD) : (dats m 0 c).arrAt 11 cfg0.N = res11 (columns (m ((c : Thread nD τ).loc main_arg0)) (m ((c : Thread nD τ).loc main_arg1)) (m ((c : Thread nD τ).loc main_arg2))) (m ((c : Thread nD τ).loc main_arg3)) := by
  refine (dats m 0 c).arrAt_eq_of_covers 11 _ (by decide +kernel) fun t hf y => ?_
  have ht : t.val < 128 := lt_of_lt_of_eq t.isLt N_0
  blk_simp
  rw [after0_11]
  frame_out
  have y2 : ∃ (l : Fin 256) (x : Fin 1024), y = ix2 l x := ⟨y 0, y 1, by funext a; fin_cases a <;> rfl⟩
  obtain ⟨l, j, rfl⟩ := y2
  have hs : 8192 * (⟨(256 * t.val + l.val) / 8192, by omega⟩ : Fin 4).val + (⟨(256 * t.val + l.val) % 8192, by omega⟩ : Fin 8192).val = 256 * t.val + l.val := by simp only; omega
  refine (stored11 (k0_pay11 (iblk m c 0 t) (iblk m c 1 t) (iblk m c 2 t) (iblk m c 3 t)) (View.ld (iblk m c 2 t : FVec Ideal S1024x5888 .bf16) (Rect.unit (s := S1024x5888) ![0, 3840] S1024x1024.size inb_S1024x5888_S1024x1024_0_3840)) (View.ld (iblk m c 3 t : FVec Ideal S1x2048 .f32) (Rect.unit (s := S1x2048) ![0, 0] S1x1024.size inb_S1x2048_S1x1024_0_0)) l j).trans ?_
  refine Eq.trans ?_ (at11 (res11 (columns (m ((c : Thread nD τ).loc main_arg0)) (m ((c : Thread nD τ).loc main_arg1)) (m ((c : Thread nD τ).loc main_arg2))) (m ((c : Thread nD τ).loc main_arg3))) t l j ⟨256 * t.val + l.val, by omega⟩ rfl).symm
  refine Eq.trans ?_ (res11_at (columns (m ((c : Thread nD τ).loc main_arg0)) (m ((c : Thread nD τ).loc main_arg1)) (m ((c : Thread nD τ).loc main_arg2))) (m ((c : Thread nD τ).loc main_arg3)) ⟨256 * t.val + l.val, by omega⟩ j _ _ hs.symm).symm
  rw [columns_at]
  exact congrArg₂ (· + ·) (projected_congr ⟨3840 + j.val, by omega⟩ (fun k => kept_at (iblk m c 0 t) (iblk m c 1 t) (iblk m c 2 t) (iblk m c 3 t) l k) (fun k => blk0 m c t l k _ _ hs) (fun k => blk1 m c t k)
    (fun k => (ld2 (iblk m c 2 t) 3840 _ k j k ⟨3840 + j.val, by omega⟩ rfl rfl).trans (blk2 m c t k _))) ((ld2 (iblk m c 3 t) 0 _ 0 j 0 ⟨0 + j.val, by omega⟩ rfl rfl).trans (blk3 m c t _))

theorem at12 (F : FVec Ideal S32768x1024 .f32) (t : Fin cfg0.N) (l : Fin 256) (x : Fin 1024) (r : Fin 32768) (hr : r.val = 256 * t.val + l.val) :
    F (((cfg0.win 12).blk t).view.emb (ix2 l x)) = F (ix2 r x) := by
  blk_ext [idx t]

theorem final12 (c : Dev nD) : (dats m 0 c).arrAt 12 cfg0.N = res12 (columns (m ((c : Thread nD τ).loc main_arg0)) (m ((c : Thread nD τ).loc main_arg1)) (m ((c : Thread nD τ).loc main_arg2))) (m ((c : Thread nD τ).loc main_arg3)) := by
  refine (dats m 0 c).arrAt_eq_of_covers 12 _ (by decide +kernel) fun t hf y => ?_
  have ht : t.val < 128 := lt_of_lt_of_eq t.isLt N_0
  blk_simp
  rw [after0_12]
  frame_out
  have y2 : ∃ (l : Fin 256) (x : Fin 1024), y = ix2 l x := ⟨y 0, y 1, by funext a; fin_cases a <;> rfl⟩
  obtain ⟨l, j, rfl⟩ := y2
  have hs : 8192 * (⟨(256 * t.val + l.val) / 8192, by omega⟩ : Fin 4).val + (⟨(256 * t.val + l.val) % 8192, by omega⟩ : Fin 8192).val = 256 * t.val + l.val := by simp only; omega
  refine (stored12 (k0_pay11 (iblk m c 0 t) (iblk m c 1 t) (iblk m c 2 t) (iblk m c 3 t)) (View.ld (iblk m c 2 t : FVec Ideal S1024x5888 .bf16) (Rect.unit (s := S1024x5888) ![0, 4864] S1024x1024.size inb_S1024x5888_S1024x1024_0_4864)) (View.ld (iblk m c 3 t : FVec Ideal S1x2048 .f32) (Rect.unit (s := S1x2048) ![0, 1024] S1x1024.size inb_S1x2048_S1x1024_0_1024)) l j).trans ?_
  refine Eq.trans ?_ (at12 (res12 (columns (m ((c : Thread nD τ).loc main_arg0)) (m ((c : Thread nD τ).loc main_arg1)) (m ((c : Thread nD τ).loc main_arg2))) (m ((c : Thread nD τ).loc main_arg3))) t l j ⟨256 * t.val + l.val, by omega⟩ rfl).symm
  refine Eq.trans ?_ (res12_at (columns (m ((c : Thread nD τ).loc main_arg0)) (m ((c : Thread nD τ).loc main_arg1)) (m ((c : Thread nD τ).loc main_arg2))) (m ((c : Thread nD τ).loc main_arg3)) ⟨256 * t.val + l.val, by omega⟩ j _ _ hs.symm).symm
  rw [columns_at]
  exact congrArg₂ (· + ·) (projected_congr ⟨4864 + j.val, by omega⟩ (fun k => kept_at (iblk m c 0 t) (iblk m c 1 t) (iblk m c 2 t) (iblk m c 3 t) l k) (fun k => blk0 m c t l k _ _ hs) (fun k => blk1 m c t k)
    (fun k => (ld2 (iblk m c 2 t) 4864 _ k j k ⟨4864 + j.val, by omega⟩ rfl rfl).trans (blk2 m c t k _))) ((ld2 (iblk m c 3 t) 1024 _ 0 j 0 ⟨1024 + j.val, by omega⟩ rfl rfl).trans (blk3 m c t _))

end Cert.ProjectPromptIdeal.Rows
-- ==== Proof.ProjectSampleRows.lean ====
module

public import proofs.«01_k».proof.Proof.Gen.ProjectSampleIdeal.Value
public import proofs.«01_k».proof.Proof.Gen.ReferenceProjectSampleIdeal.Run
public import proofs.«01_k».proof.Proof.Rows
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

namespace Cert.ProjectSampleIdeal.Rows

section reference

open Cert.ReferenceProjectSampleIdeal Cert.ReferenceProjectSampleIdeal.Gen Cert.Rows Idealize.ShloMosaic

/-- All the projections of all tokens, as the reference computes them. -/
abbrev columns (x0 : FVec Ideal S16x16x1024 .f32) (x1 : FVec Ideal S1x1024 .f32) (x2 : FVec Ideal S1x1024x5888 .f32) : FVec Ideal S16x16x5888 .f32 :=
  Host.dotGeneral dot_S16x16x1024_S1024x5888_S16x16x5888_2_0_01_1_n_n none (mulf (mulf x0 (broadcastInDim S16x16x1024 ![0, 1, 2] bcast_S16x16x1_S16x16x1024_0_1_2 (Host.rsqrt (addf (Host.divf (broadcastInDim S16x16x1 ![0, 1] bcast_S16x16_S16x16x1_0_1 (Host.reduceAdd (mulf x0 x0) (constant S_ .f32 0x00000000#32) reducesTo_S16x16x1024_S16x16_d2 h_S_)) (broadcastInDim S16x16x1 ![] bcast_S_S16x16x1 (constant S_ .f32 0x44800000#32))) (broadcastInDim S16x16x1 ![] bcast_S_S16x16x1 (constant S_ .f32 0x358637BD#32)))))) (broadcastInDim S16x16x1024 ![0, 1, 2] bcast_S1x1x1024_S16x16x1024_0_1_2 (broadcastInDim S1x1x1024 ![2] bcast_S1024_S1x1x1024_2 (shapeCast S1024 x1 shapeCasts_S1x1024_S1024)))) (shapeCast S1024x5888 x2 shapeCasts_S1x1024x5888_S1024x5888)

theorem columns_at (x0 : FVec Ideal S16x16x1024 .f32) (x1 : FVec Ideal S1x1024 .f32) (x2 : FVec Ideal S1x1024x5888 .f32) (b : Fin 16) (s : Fin 16) (j : Fin 5888) :
    columns x0 x1 x2 (ix3 b s j) = projected (fun k => x0 (ix3 b s k)) (fun k => x1 (ix2 0 k)) (fun k j => x2 (ix3 0 k j)) j := by
  pointwise [columns, projected, normed]

abbrev res4 (y : FVec Ideal S16x16x5888 .f32) (x3 : FVec Ideal S1x2048 .f32) : FVec Ideal S256x512 .bf16 :=
  truncf .bf16 (shapeCast S256x512 (mulf (shapeCast S16x16x2x4x64 (extractStridedSlice S16x16x512 ![0, 0, 0] y slices_S16x16x5888_S16x16x512_0_0_0) shapeCasts_S16x16x512_S16x16x2x4x64) (broadcastInDim S16x16x2x4x64 ![] bcast_S_S16x16x2x4x64 (constant S_ .f32 0x3E000000#32))) shapeCasts_S16x16x2x4x64_S256x512) bitsLt_bf16_f32

theorem res4_at (y : FVec Ideal S16x16x5888 .f32) (x3 : FVec Ideal S1x2048 .f32) (r : Fin 256) (j : Fin 512) (b : Fin 16) (s : Fin 16) (hr : r.val = 16 * b.val + s.val) :
    res4 y x3 (ix2 r j) = y (ix3 b s ⟨0 + j.val, by omega⟩) * Ideal.ofBits .f32 0x3E000000#32 := by
  pointwise [res4]
  have e0 : ∀ h, (⟨r.val / 16, h⟩ : Fin 16) = b := fun _ => Fin.ext (by simp only; omega)
  have e1 : ∀ h, (⟨r.val % 16, h⟩ : Fin 16) = s := fun _ => Fin.ext (by simp only; omega)
  simp only [e0, e1]

abbrev res5 (y : FVec Ideal S16x16x5888 .f32) (x3 : FVec Ideal S1x2048 .f32) : FVec Ideal S256x128 .f32 :=
  shapeCast S256x128 (shapeCast S16x16x2x64 (extractStridedSlice S16x16x128 ![0, 0, 512] y slices_S16x16x5888_S16x16x128_0_0_512) shapeCasts_S16x16x128_S16x16x2x64) shapeCasts_S16x16x2x64_S256x128

theorem res5_at (y : FVec Ideal S16x16x5888 .f32) (x3 : FVec Ideal S1x2048 .f32) (r : Fin 256) (j : Fin 128) (b : Fin 16) (s : Fin 16) (hr : r.val = 16 * b.val + s.val) :
    res5 y x3 (ix2 r j) = y (ix3 b s ⟨512 + j.val, by omega⟩) := by
  pointwise [res5]
  have e0 : ∀ h, (⟨r.val / 16, h⟩ : Fin 16) = b := fun _ => Fin.ext (by simp only; omega)
  have e1 : ∀ h, (⟨r.val % 16, h⟩ : Fin 16) = s := fun _ => Fin.ext (by simp only; omega)
  simp only [e0, e1]

abbrev res6 (y : FVec Ideal S16x16x5888 .f32) (x3 : FVec Ideal S1x2048 .f32) : FVec Ideal S256x128 .f32 :=
  shapeCast S256x128 (shapeCast S16x16x2x64 (extractStridedSlice S16x16x128 ![0, 0, 640] y slices_S16x16x5888_S16x16x128_0_0_640) shapeCasts_S16x16x128_S16x16x2x64) shapeCasts_S16x16x2x64_S256x128

theorem res6_at (y : FVec Ideal S16x16x5888 .f32) (x3 : FVec Ideal S1x2048 .f32) (r : Fin 256) (j : Fin 128) (b : Fin 16) (s : Fin 16) (hr : r.val = 16 * b.val + s.val) :
    res6 y x3 (ix2 r j) = y (ix3 b s ⟨640 + j.val, by omega⟩) := by
  pointwise [res6]
  have e0 : ∀ h, (⟨r.val / 16, h⟩ : Fin 16) = b := fun _ => Fin.ext (by simp only; omega)
  have e1 : ∀ h, (⟨r.val % 16, h⟩ : Fin 16) = s := fun _ => Fin.ext (by simp only; omega)
  simp only [e0, e1]

abbrev res7 (y : FVec Ideal S16x16x5888 .f32) (x3 : FVec Ideal S1x2048 .f32) : FVec Ideal S256x512 .bf16 :=
  truncf .bf16 (shapeCast S256x512 (shapeCast S16x16x4x128 (extractStridedSlice S16x16x512 ![0, 0, 768] y slices_S16x16x5888_S16x16x512_0_0_768) shapeCasts_S16x16x512_S16x16x4x128) shapeCasts_S16x16x4x128_S256x512) bitsLt_bf16_f32

theorem res7_at (y : FVec Ideal S16x16x5888 .f32) (x3 : FVec Ideal S1x2048 .f32) (r : Fin 256) (j : Fin 512) (b : Fin 16) (s : Fin 16) (hr : r.val = 16 * b.val + s.val) :
    res7 y x3 (ix2 r j) = y (ix3 b s ⟨768 + j.val, by omega⟩) := by
  pointwise [res7]
  have e0 : ∀ h, (⟨r.val / 16, h⟩ : Fin 16) = b := fun _ => Fin.ext (by simp only; omega)
  have e1 : ∀ h, (⟨r.val % 16, h⟩ : Fin 16) = s := fun _ => Fin.ext (by simp only; omega)
  simp only [e0, e1]

abbrev res8 (y : FVec Ideal S16x16x5888 .f32) (x3 : FVec Ideal S1x2048 .f32) : FVec Ideal S256x512 .bf16 :=
  truncf .bf16 (shapeCast S256x512 (mulf (shapeCast S16x16x4x128 (extractStridedSlice S16x16x512 ![0, 0, 1280] y slices_S16x16x5888_S16x16x512_0_0_1280) shapeCasts_S16x16x512_S16x16x4x128) (broadcastInDim S16x16x4x128 ![] bcast_S_S16x16x4x128 (constant S_ .f32 0x3DB504F3#32))) shapeCasts_S16x16x4x128_S256x512) bitsLt_bf16_f32

theorem res8_at (y : FVec Ideal S16x16x5888 .f32) (x3 : FVec Ideal S1x2048 .f32) (r : Fin 256) (j : Fin 512) (b : Fin 16) (s : Fin 16) (hr : r.val = 16 * b.val + s.val) :
    res8 y x3 (ix2 r j) = y (ix3 b s ⟨1280 + j.val, by omega⟩) * Ideal.ofBits .f32 0x3DB504F3#32 := by
  pointwise [res8]
  have e0 : ∀ h, (⟨r.val / 16, h⟩ : Fin 16) = b := fun _ => Fin.ext (by simp only; omega)
  have e1 : ∀ h, (⟨r.val % 16, h⟩ : Fin 16) = s := fun _ => Fin.ext (by simp only; omega)
  simp only [e0, e1]

abbrev res9 (y : FVec Ideal S16x16x5888 .f32) (x3 : FVec Ideal S1x2048 .f32) : FVec Ideal S256x1024 .bf16 :=
  truncf .bf16 (shapeCast S256x1024 (shapeCast S16x16x4x256 (extractStridedSlice S16x16x1024 ![0, 0, 1792] y slices_S16x16x5888_S16x16x1024_0_0_1792) shapeCasts_S16x16x1024_S16x16x4x256) shapeCasts_S16x16x4x256_S256x1024) bitsLt_bf16_f32

theorem res9_at (y : FVec Ideal S16x16x5888 .f32) (x3 : FVec Ideal S1x2048 .f32) (r : Fin 256) (j : Fin 1024) (b : Fin 16) (s : Fin 16) (hr : r.val = 16 * b.val + s.val) :
    res9 y x3 (ix2 r j) = y (ix3 b s ⟨1792 + j.val, by omega⟩) := by
  pointwise [res9]
  have e0 : ∀ h, (⟨r.val / 16, h⟩ : Fin 16) = b := fun _ => Fin.ext (by simp only; omega)
  have e1 : ∀ h, (⟨r.val % 16, h⟩ : Fin 16) = s := fun _ => Fin.ext (by simp only; omega)
  simp only [e0, e1]

abbrev res10 (y : FVec Ideal S16x16x5888 .f32) (x3 : FVec Ideal S1x2048 .f32) : FVec Ideal S256x1024 .f32 :=
  shapeCast S256x1024 (shapeCast S16x16x4x256 (extractStridedSlice S16x16x1024 ![0, 0, 2816] y slices_S16x16x5888_S16x16x1024_0_0_2816) shapeCasts_S16x16x1024_S16x16x4x256) shapeCasts_S16x16x4x256_S256x1024

theorem res10_at (y : FVec Ideal S16x16x5888 .f32) (x3 : FVec Ideal S1x2048 .f32) (r : Fin 256) (j : Fin 1024) (b : Fin 16) (s : Fin 16) (hr : r.val = 16 * b.val + s.val) :
    res10 y x3 (ix2 r j) = y (ix3 b s ⟨2816 + j.val, by omega⟩) := by
  pointwise [res10]
  have e0 : ∀ h, (⟨r.val / 16, h⟩ : Fin 16) = b := fun _ => Fin.ext (by simp only; omega)
  have e1 : ∀ h, (⟨r.val % 16, h⟩ : Fin 16) = s := fun _ => Fin.ext (by simp only; omega)
  simp only [e0, e1]

abbrev res11 (y : FVec Ideal S16x16x5888 .f32) (x3 : FVec Ideal S1x2048 .f32) : FVec Ideal S256x1024 .f32 :=
  shapeCast S256x1024 (extractStridedSlice S16x16x1024 ![0, 0, 0] (addf (extractStridedSlice S16x16x2048 ![0, 0, 3840] y slices_S16x16x5888_S16x16x2048_0_0_3840) (broadcastInDim S16x16x2048 ![0, 1, 2] bcast_S1x1x2048_S16x16x2048_0_1_2 (broadcastInDim S1x1x2048 ![2] bcast_S2048_S1x1x2048_2 (shapeCast S2048 x3 shapeCasts_S1x2048_S2048)))) slices_S16x16x2048_S16x16x1024_0_0_0) shapeCasts_S16x16x1024_S256x1024

theorem res11_at (y : FVec Ideal S16x16x5888 .f32) (x3 : FVec Ideal S1x2048 .f32) (r : Fin 256) (j : Fin 1024) (b : Fin 16) (s : Fin 16) (hr : r.val = 16 * b.val + s.val) :
    res11 y x3 (ix2 r j) = y (ix3 b s ⟨3840 + j.val, by omega⟩) + x3 (ix2 0 ⟨0 + j.val, by omega⟩) := by
  pointwise [res11]
  have e0 : ∀ h, (⟨r.val / 16, h⟩ : Fin 16) = b := fun _ => Fin.ext (by simp only; omega)
  have e1 : ∀ h, (⟨r.val % 16, h⟩ : Fin 16) = s := fun _ => Fin.ext (by simp only; omega)
  simp only [e0, e1]

abbrev res12 (y : FVec Ideal S16x16x5888 .f32) (x3 : FVec Ideal S1x2048 .f32) : FVec Ideal S256x1024 .f32 :=
  shapeCast S256x1024 (extractStridedSlice S16x16x1024 ![0, 0, 1024] (addf (extractStridedSlice S16x16x2048 ![0, 0, 3840] y slices_S16x16x5888_S16x16x2048_0_0_3840) (broadcastInDim S16x16x2048 ![0, 1, 2] bcast_S1x1x2048_S16x16x2048_0_1_2 (broadcastInDim S1x1x2048 ![2] bcast_S2048_S1x1x2048_2 (shapeCast S2048 x3 shapeCasts_S1x2048_S2048)))) slices_S16x16x2048_S16x16x1024_0_0_1024) shapeCasts_S16x16x1024_S256x1024

theorem res12_at (y : FVec Ideal S16x16x5888 .f32) (x3 : FVec Ideal S1x2048 .f32) (r : Fin 256) (j : Fin 1024) (b : Fin 16) (s : Fin 16) (hr : r.val = 16 * b.val + s.val) :
    res12 y x3 (ix2 r j) = y (ix3 b s ⟨4864 + j.val, by omega⟩) + x3 (ix2 0 ⟨1024 + j.val, by omega⟩) := by
  pointwise [res12]
  have e0 : ∀ h, (⟨r.val / 16, h⟩ : Fin 16) = b := fun _ => Fin.ext (by simp only; omega)
  have e1 : ∀ h, (⟨r.val % 16, h⟩ : Fin 16) = s := fun _ => Fin.ext (by simp only; omega)
  simp only [e0, e1]
  have e2 : ∀ h, (⟨3840 + (1024 + j.val), h⟩ : Fin 5888) = ⟨4864 + j.val, by omega⟩ := fun _ => Fin.ext (by simp only; omega)
  simp only [e2]

end reference

open Cert.ProjectSampleIdeal Cert.ProjectSampleIdeal.Gen Cert.Rows Idealize.ShloMosaic Idealize.ShloMosaic.TcCoe Idealize.SL.Sem
open Idealize.ShloMosaic.Pipeline (Dat)

theorem normed_at (v0 : FVec Ideal S128x1024 .f32) (v2 : FVec Ideal S1x1024 .f32) (l : Fin 128) (k : Fin 1024) :
    (k0_pay2 v0 v2 : FVec Ideal S128x1024 .bf16) (ix2 l k) = normed (fun k => v0 (ix2 l k)) (fun k => v2 (ix2 0 k)) k := by
  pointwise [k0_pay2, normed]

theorem kept_at (x0 : Vec Ideal S128x1024 .f32) (x1 : Vec Ideal S1x1024 .f32) (x2 : Vec Ideal S1024x5888 .bf16) (x3 : Vec Ideal S1x2048 .f32) (l : Fin 128) (k : Fin 1024) :
    (k0_pay11 x0 x1 x2 x3 : FVec Ideal S128x1024 .bf16) (ix2 l k) = normed (fun k => x0 (ix2 l k)) (fun k => x1 (ix2 0 k)) k := by
  have h0 : (fun k => View.ld x0 r0_0 (ix2 l k)) = fun k => x0 (ix2 l k) := funext fun k => ld2 x0 0 _ l k l k rfl (by omega)
  have h1 : (fun k => View.ld x1 r0_1 (ix2 0 k)) = fun k => x1 (ix2 0 k) := funext fun k => ld2 x1 0 _ 0 k 0 k rfl (by omega)
  refine (normed_at (View.ld x0 r0_0) (View.ld x1 r0_1) l k).trans ?_
  rw [h0, h1]

theorem stored4 (v0 : FVec Ideal S128x1024 .f32) (v2 : FVec Ideal S1x1024 .f32) (w : FVec Ideal S1024x512 .bf16) (l : Fin 128) (j : Fin 512) :
    (k0_pay3 v0 v2 w : FVec Ideal S128x512 .bf16) (ix2 l j) = (∑ k, (k0_pay2 v0 v2 : FVec Ideal S128x1024 .bf16) (ix2 l k) * w (ix2 k j)) * Ideal.ofBits .f32 0x3E000000#32 := by
  pointwise [k0_pay3]

theorem stored5 (v0 : FVec Ideal S128x1024 .f32) (v2 : FVec Ideal S1x1024 .f32) (w : FVec Ideal S1024x128 .bf16) (l : Fin 128) (j : Fin 128) :
    (k0_pay4 v0 v2 w : FVec Ideal S128x128 .f32) (ix2 l j) = (∑ k, (k0_pay2 v0 v2 : FVec Ideal S128x1024 .bf16) (ix2 l k) * w (ix2 k j)) := by
  pointwise [k0_pay4]

theorem stored6 (v0 : FVec Ideal S128x1024 .f32) (v2 : FVec Ideal S1x1024 .f32) (w : FVec Ideal S1024x128 .bf16) (l : Fin 128) (j : Fin 128) :
    (k0_pay5 v0 v2 w : FVec Ideal S128x128 .f32) (ix2 l j) = (∑ k, (k0_pay2 v0 v2 : FVec Ideal S128x1024 .bf16) (ix2 l k) * w (ix2 k j)) := by
  pointwise [k0_pay5]

theorem stored7 (h : FVec Ideal S128x1024 .bf16) (w : FVec Ideal S1024x512 .bf16) (l : Fin 128) (j : Fin 512) :
    (k0_pay6 h w : FVec Ideal S128x512 .bf16) (ix2 l j) = (∑ k, (h : FVec Ideal S128x1024 .bf16) (ix2 l k) * w (ix2 k j)) := by
  pointwise [k0_pay6]

theorem stored8 (h : FVec Ideal S128x1024 .bf16) (w : FVec Ideal S1024x512 .bf16) (l : Fin 128) (j : Fin 512) :
    (k0_pay7 h w : FVec Ideal S128x512 .bf16) (ix2 l j) = (∑ k, (h : FVec Ideal S128x1024 .bf16) (ix2 l k) * w (ix2 k j)) * Ideal.ofBits .f32 0x3DB504F3#32 := by
  pointwise [k0_pay7]

theorem stored9 (h : FVec Ideal S128x1024 .bf16) (w : FVec Ideal S1024x1024 .bf16) (l : Fin 128) (j : Fin 1024) :
    (k0_pay8 h w : FVec Ideal S128x1024 .bf16) (ix2 l j) = (∑ k, (h : FVec Ideal S128x1024 .bf16) (ix2 l k) * w (ix2 k j)) := by
  pointwise [k0_pay8]

theorem stored10 (h : FVec Ideal S128x1024 .bf16) (w : FVec Ideal S1024x1024 .bf16) (l : Fin 128) (j : Fin 1024) :
    (k0_pay9 h w : FVec Ideal S128x1024 .f32) (ix2 l j) = (∑ k, (h : FVec Ideal S128x1024 .bf16) (ix2 l k) * w (ix2 k j)) := by
  pointwise [k0_pay9]

theorem stored11 (h : FVec Ideal S128x1024 .bf16) (w : FVec Ideal S1024x1024 .bf16) (u : FVec Ideal S1x1024 .f32) (l : Fin 128) (j : Fin 1024) :
    (k0_pay10 h w u : FVec Ideal S128x1024 .f32) (ix2 l j) = (∑ k, (h : FVec Ideal S128x1024 .bf16) (ix2 l k) * w (ix2 k j)) + u (ix2 0 j) := by
  pointwise [k0_pay10]

theorem stored12 (h : FVec Ideal S128x1024 .bf16) (w : FVec Ideal S1024x1024 .bf16) (u : FVec Ideal S1x1024 .f32) (l : Fin 128) (j : Fin 1024) :
    (k0_pay1 h w u : FVec Ideal S128x1024 .f32) (ix2 l j) = (∑ k, (h : FVec Ideal S128x1024 .bf16) (ix2 l k) * w (ix2 k j)) + u (ix2 0 j) := by
  pointwise [k0_pay1]

variable (m : (ℓ : Loc nD τ sig) → Buf (Elt Ideal) ℓ)

/-- Which block of its array each window holds at a point. -/
theorem idx : ∀ t : Fin grid0.N,
    win0_0.index t = ![t.val, 0] ∧ win0_1.index t = ![0, 0] ∧ win0_2.index t = ![0, 0] ∧ win0_3.index t = ![0, 0]
    ∧ win0_4.index t = ![t.val, 0] ∧ win0_5.index t = ![t.val, 0] ∧ win0_6.index t = ![t.val, 0] ∧ win0_7.index t = ![t.val, 0] ∧ win0_8.index t = ![t.val, 0] ∧ win0_9.index t = ![t.val, 0] ∧ win0_10.index t = ![t.val, 0] ∧ win0_11.index t = ![t.val, 0] ∧ win0_12.index t = ![t.val, 0] := by
  decide +kernel

/-- A vector laid out as a row. -/
theorem vec1024 (X : FVec Ideal S1x1024 .f32) (x : Fin 1024) :
    broadcastInDim S1x1024 ![1] bcast_S1024_S1x1024_1 (shapeCast S1024 X shapeCasts_S1x1024_S1024) (ix2 0 x) = X (ix2 0 x) := by
  pointwise

theorem vec2048 (X : FVec Ideal S1x2048 .f32) (x : Fin 2048) :
    broadcastInDim S1x2048 ![1] bcast_S2048_S1x2048_1 (shapeCast S2048 X shapeCasts_S1x2048_S2048) (ix2 0 x) = X (ix2 0 x) := by
  pointwise

/-- A row of a flattened array is a token of a stream. -/
theorem row1024 (X : FVec Ideal S16x16x1024 .f32) (r : Fin 256) (x : Fin 1024) (b : Fin 16) (s : Fin 16) (hr : r.val = 16 * b.val + s.val) :
    shapeCast S256x1024 X shapeCasts_S16x16x1024_S256x1024 (ix2 r x) = X (ix3 b s x) := by
  pointwise
  have e0 : ∀ h, (⟨r.val / 16, h⟩ : Fin 16) = b := fun _ => Fin.ext (by simp only; omega)
  have e1 : ∀ h, (⟨r.val % 16, h⟩ : Fin 16) = s := fun _ => Fin.ext (by simp only; omega)
  simp only [e0, e1]

/-- The weights of a layer of one. -/
theorem wholeS1024x5888 (X : FVec Ideal S1x1024x5888 .f32) (i : Fin 1024) (x : Fin 5888) :
    shapeCast S1024x5888 X shapeCasts_S1x1024x5888_S1024x5888 (ix2 i x) = X (ix3 0 i x) := by
  pointwise

theorem entry0 (c : Dev nD) : @Eq (FVec Ideal S256x1024 .f32) (V m c main_v0) (shapeCast S256x1024 (m ((c : Thread nD τ).loc main_arg0) : FVec Ideal S16x16x1024 .f32) shapeCasts_S16x16x1024_S256x1024) := by
  unfold V
  simp only [hostOps0]
  after_reads_simp
  rfl

theorem at0 (F : FVec Ideal S256x1024 .f32) (t : Fin cfg0.N) (l : Fin 128) (x : Fin 1024) (r : Fin 256) (hr : r.val = 128 * t.val + l.val) :
    F (((cfg0.win 0).blk t).view.emb (ix2 l x)) = F (ix2 r x) := by
  blk_ext [idx t]

theorem blk0 (c : Dev nD) (t : Fin cfg0.N) (l : Fin 128) (x : Fin 1024) (b : Fin 16) (s : Fin 16) (hs : 16 * b.val + s.val = 128 * t.val + l.val) :
    (iblk m c 0 t : FVec Ideal S128x1024 .f32) (ix2 l x) = (m ((c : Thread nD τ).loc main_arg0) : FVec Ideal S16x16x1024 .f32) (ix3 b s x) := by
  have ht : t.val < 2 := lt_of_lt_of_eq t.isLt N_0
  refine (at0 (V m c main_v0) t l x ⟨128 * t.val + l.val, by omega⟩ rfl).trans ?_
  rw [entry0]
  exact row1024 _ _ x b s hs.symm

theorem entry1 (c : Dev nD) : @Eq (FVec Ideal S1x1024 .f32) (V m c main_v2) (broadcastInDim S1x1024 ![1] bcast_S1024_S1x1024_1 (shapeCast S1024 (m ((c : Thread nD τ).loc main_arg1) : FVec Ideal S1x1024 .f32) shapeCasts_S1x1024_S1024)) := by
  unfold V
  simp only [hostOps0]
  after_reads_simp
  rfl

theorem at1 (F : FVec Ideal S1x1024 .f32) (t : Fin cfg0.N)  (x : Fin 1024) :
    F (((cfg0.win 1).blk t).view.emb (ix2 0 x)) = F (ix2 0 x) := by
  blk_ext [idx t]

theorem blk1 (c : Dev nD) (t : Fin cfg0.N)  (x : Fin 1024) :
    (iblk m c 1 t : FVec Ideal S1x1024 .f32) (ix2 0 x) = (m ((c : Thread nD τ).loc main_arg1) : FVec Ideal S1x1024 .f32) (ix2 0 x) := by
  refine (at1 (V m c main_v2) t x).trans ?_
  rw [entry1]
  exact vec1024 _ x

theorem entry3 (c : Dev nD) : @Eq (FVec Ideal S1x2048 .f32) (V m c main_v6) (broadcastInDim S1x2048 ![1] bcast_S2048_S1x2048_1 (shapeCast S2048 (m ((c : Thread nD τ).loc main_arg3) : FVec Ideal S1x2048 .f32) shapeCasts_S1x2048_S2048)) := by
  unfold V
  simp only [hostOps0]
  after_reads_simp
  rfl

theorem at3 (F : FVec Ideal S1x2048 .f32) (t : Fin cfg0.N)  (x : Fin 2048) :
    F (((cfg0.win 3).blk t).view.emb (ix2 0 x)) = F (ix2 0 x) := by
  blk_ext [idx t]

theorem blk3 (c : Dev nD) (t : Fin cfg0.N)  (x : Fin 2048) :
    (iblk m c 3 t : FVec Ideal S1x2048 .f32) (ix2 0 x) = (m ((c : Thread nD τ).loc main_arg3) : FVec Ideal S1x2048 .f32) (ix2 0 x) := by
  refine (at3 (V m c main_v6) t x).trans ?_
  rw [entry3]
  exact vec2048 _ x

theorem entry2 (c : Dev nD) : @Eq (FVec Ideal S1024x5888 .bf16) (V m c main_v4) (truncf .bf16 (shapeCast S1024x5888 (m ((c : Thread nD τ).loc main_arg2) : FVec Ideal S1x1024x5888 .f32) shapeCasts_S1x1024x5888_S1024x5888) bitsLt_bf16_f32) := by
  unfold V
  simp only [hostOps0]
  after_reads_simp
  rfl

theorem at2 (F : FVec Ideal S1024x5888 .bf16) (t : Fin cfg0.N) (i : Fin 1024) (x : Fin 5888) :
    F (((cfg0.win 2).blk t).view.emb (ix2 i x)) = F (ix2 i x) := by
  blk_ext [idx t]

theorem blk2 (c : Dev nD) (t : Fin cfg0.N) (i : Fin 1024) (x : Fin 5888) :
    (iblk m c 2 t : FVec Ideal S1024x5888 .bf16) (ix2 i x) = (m ((c : Thread nD τ).loc main_arg2) : FVec Ideal S1x1024x5888 .f32) (ix3 0 i x) := by
  refine (at2 (V m c main_v4) t i x).trans ?_
  rw [entry2]
  exact wholeS1024x5888 _ i x

theorem at4 (F : FVec Ideal S256x512 .bf16) (t : Fin cfg0.N) (l : Fin 128) (x : Fin 512) (r : Fin 256) (hr : r.val = 128 * t.val + l.val) :
    F (((cfg0.win 4).blk t).view.emb (ix2 l x)) = F (ix2 r x) := by
  blk_ext [idx t]

theorem final4 (c : Dev nD) : (dats m 0 c).arrAt 4 cfg0.N = res4 (columns (m ((c : Thread nD τ).loc main_arg0)) (m ((c : Thread nD τ).loc main_arg1)) (m ((c : Thread nD τ).loc main_arg2))) (m ((c : Thread nD τ).loc main_arg3)) := by
  refine (dats m 0 c).arrAt_eq_of_covers 4 _ (by decide +kernel) fun t hf y => ?_
  have ht : t.val < 2 := lt_of_lt_of_eq t.isLt N_0
  blk_simp
  rw [after0_4]
  frame_out
  have y2 : ∃ (l : Fin 128) (x : Fin 512), y = ix2 l x := ⟨y 0, y 1, by funext a; fin_cases a <;> rfl⟩
  obtain ⟨l, j, rfl⟩ := y2
  have hs : 16 * (⟨(128 * t.val + l.val) / 16, by omega⟩ : Fin 16).val + (⟨(128 * t.val + l.val) % 16, by omega⟩ : Fin 16).val = 128 * t.val + l.val := by simp only; omega
  refine (stored4 (iblk m c 0 t) (iblk m c 1 t) (View.ld (iblk m c 2 t : FVec Ideal S1024x5888 .bf16) (Rect.unit (s := S1024x5888) ![0, 0] S1024x512.size inb_S1024x5888_S1024x512_0_0)) l j).trans ?_
  refine Eq.trans ?_ (at4 (res4 (columns (m ((c : Thread nD τ).loc main_arg0)) (m ((c : Thread nD τ).loc main_arg1)) (m ((c : Thread nD τ).loc main_arg2))) (m ((c : Thread nD τ).loc main_arg3))) t l j ⟨128 * t.val + l.val, by omega⟩ rfl).symm
  refine Eq.trans ?_ (res4_at (columns (m ((c : Thread nD τ).loc main_arg0)) (m ((c : Thread nD τ).loc main_arg1)) (m ((c : Thread nD τ).loc main_arg2))) (m ((c : Thread nD τ).loc main_arg3)) ⟨128 * t.val + l.val, by omega⟩ j _ _ hs.symm).symm
  rw [columns_at]
  exact congrArg (· * Ideal.ofBits .f32 0x3E000000#32) (projected_congr ⟨0 + j.val, by omega⟩ (fun k => normed_at (iblk m c 0 t) (iblk m c 1 t) l k) (fun k => blk0 m c t l k _ _ hs) (fun k => blk1 m c t k)
    (fun k => (ld2 (iblk m c 2 t) 0 _ k j k ⟨0 + j.val, by omega⟩ rfl rfl).trans (blk2 m c t k _)))

theorem at5 (F : FVec Ideal S256x128 .f32) (t : Fin cfg0.N) (l : Fin 128) (x : Fin 128) (r : Fin 256) (hr : r.val = 128 * t.val + l.val) :
    F (((cfg0.win 5).blk t).view.emb (ix2 l x)) = F (ix2 r x) := by
  blk_ext [idx t]

theorem final5 (c : Dev nD) : (dats m 0 c).arrAt 5 cfg0.N = res5 (columns (m ((c : Thread nD τ).loc main_arg0)) (m ((c : Thread nD τ).loc main_arg1)) (m ((c : Thread nD τ).loc main_arg2))) (m ((c : Thread nD τ).loc main_arg3)) := by
  refine (dats m 0 c).arrAt_eq_of_covers 5 _ (by decide +kernel) fun t hf y => ?_
  have ht : t.val < 2 := lt_of_lt_of_eq t.isLt N_0
  blk_simp
  rw [after0_5]
  frame_out
  have y2 : ∃ (l : Fin 128) (x : Fin 128), y = ix2 l x := ⟨y 0, y 1, by funext a; fin_cases a <;> rfl⟩
  obtain ⟨l, j, rfl⟩ := y2
  have hs : 16 * (⟨(128 * t.val + l.val) / 16, by omega⟩ : Fin 16).val + (⟨(128 * t.val + l.val) % 16, by omega⟩ : Fin 16).val = 128 * t.val + l.val := by simp only; omega
  refine (stored5 (iblk m c 0 t) (iblk m c 1 t) (View.ld (iblk m c 2 t : FVec Ideal S1024x5888 .bf16) (Rect.unit (s := S1024x5888) ![0, 512] S1024x128.size inb_S1024x5888_S1024x128_0_512)) l j).trans ?_
  refine Eq.trans ?_ (at5 (res5 (columns (m ((c : Thread nD τ).loc main_arg0)) (m ((c : Thread nD τ).loc main_arg1)) (m ((c : Thread nD τ).loc main_arg2))) (m ((c : Thread nD τ).loc main_arg3))) t l j ⟨128 * t.val + l.val, by omega⟩ rfl).symm
  refine Eq.trans ?_ (res5_at (columns (m ((c : Thread nD τ).loc main_arg0)) (m ((c : Thread nD τ).loc main_arg1)) (m ((c : Thread nD τ).loc main_arg2))) (m ((c : Thread nD τ).loc main_arg3)) ⟨128 * t.val + l.val, by omega⟩ j _ _ hs.symm).symm
  rw [columns_at]
  exact projected_congr ⟨512 + j.val, by omega⟩ (fun k => normed_at (iblk m c 0 t) (iblk m c 1 t) l k) (fun k => blk0 m c t l k _ _ hs) (fun k => blk1 m c t k)
    (fun k => (ld2 (iblk m c 2 t) 512 _ k j k ⟨512 + j.val, by omega⟩ rfl rfl).trans (blk2 m c t k _))

theorem at6 (F : FVec Ideal S256x128 .f32) (t : Fin cfg0.N) (l : Fin 128) (x : Fin 128) (r : Fin 256) (hr : r.val = 128 * t.val + l.val) :
    F (((cfg0.win 6).blk t).view.emb (ix2 l x)) = F (ix2 r x) := by
  blk_ext [idx t]

theorem final6 (c : Dev nD) : (dats m 0 c).arrAt 6 cfg0.N = res6 (columns (m ((c : Thread nD τ).loc main_arg0)) (m ((c : Thread nD τ).loc main_arg1)) (m ((c : Thread nD τ).loc main_arg2))) (m ((c : Thread nD τ).loc main_arg3)) := by
  refine (dats m 0 c).arrAt_eq_of_covers 6 _ (by decide +kernel) fun t hf y => ?_
  have ht : t.val < 2 := lt_of_lt_of_eq t.isLt N_0
  blk_simp
  rw [after0_6]
  frame_out
  have y2 : ∃ (l : Fin 128) (x : Fin 128), y = ix2 l x := ⟨y 0, y 1, by funext a; fin_cases a <;> rfl⟩
  obtain ⟨l, j, rfl⟩ := y2
  have hs : 16 * (⟨(128 * t.val + l.val) / 16, by omega⟩ : Fin 16).val + (⟨(128 * t.val + l.val) % 16, by omega⟩ : Fin 16).val = 128 * t.val + l.val := by simp only; omega
  refine (stored6 (iblk m c 0 t) (iblk m c 1 t) (View.ld (iblk m c 2 t : FVec Ideal S1024x5888 .bf16) (Rect.unit (s := S1024x5888) ![0, 640] S1024x128.size inb_S1024x5888_S1024x128_0_640)) l j).trans ?_
  refine Eq.trans ?_ (at6 (res6 (columns (m ((c : Thread nD τ).loc main_arg0)) (m ((c : Thread nD τ).loc main_arg1)) (m ((c : Thread nD τ).loc main_arg2))) (m ((c : Thread nD τ).loc main_arg3))) t l j ⟨128 * t.val + l.val, by omega⟩ rfl).symm
  refine Eq.trans ?_ (res6_at (columns (m ((c : Thread nD τ).loc main_arg0)) (m ((c : Thread nD τ).loc main_arg1)) (m ((c : Thread nD τ).loc main_arg2))) (m ((c : Thread nD τ).loc main_arg3)) ⟨128 * t.val + l.val, by omega⟩ j _ _ hs.symm).symm
  rw [columns_at]
  exact projected_congr ⟨640 + j.val, by omega⟩ (fun k => normed_at (iblk m c 0 t) (iblk m c 1 t) l k) (fun k => blk0 m c t l k _ _ hs) (fun k => blk1 m c t k)
    (fun k => (ld2 (iblk m c 2 t) 640 _ k j k ⟨640 + j.val, by omega⟩ rfl rfl).trans (blk2 m c t k _))

theorem at7 (F : FVec Ideal S256x512 .bf16) (t : Fin cfg0.N) (l : Fin 128) (x : Fin 512) (r : Fin 256) (hr : r.val = 128 * t.val + l.val) :
    F (((cfg0.win 7).blk t).view.emb (ix2 l x)) = F (ix2 r x) := by
  blk_ext [idx t]

theorem final7 (c : Dev nD) : (dats m 0 c).arrAt 7 cfg0.N = res7 (columns (m ((c : Thread nD τ).loc main_arg0)) (m ((c : Thread nD τ).loc main_arg1)) (m ((c : Thread nD τ).loc main_arg2))) (m ((c : Thread nD τ).loc main_arg3)) := by
  refine (dats m 0 c).arrAt_eq_of_covers 7 _ (by decide +kernel) fun t hf y => ?_
  have ht : t.val < 2 := lt_of_lt_of_eq t.isLt N_0
  blk_simp
  rw [after0_7]
  frame_out
  have y2 : ∃ (l : Fin 128) (x : Fin 512), y = ix2 l x := ⟨y 0, y 1, by funext a; fin_cases a <;> rfl⟩
  obtain ⟨l, j, rfl⟩ := y2
  have hs : 16 * (⟨(128 * t.val + l.val) / 16, by omega⟩ : Fin 16).val + (⟨(128 * t.val + l.val) % 16, by omega⟩ : Fin 16).val = 128 * t.val + l.val := by simp only; omega
  refine (stored7 (k0_pay11 (iblk m c 0 t) (iblk m c 1 t) (iblk m c 2 t) (iblk m c 3 t)) (View.ld (iblk m c 2 t : FVec Ideal S1024x5888 .bf16) (Rect.unit (s := S1024x5888) ![0, 768] S1024x512.size inb_S1024x5888_S1024x512_0_768)) l j).trans ?_
  refine Eq.trans ?_ (at7 (res7 (columns (m ((c : Thread nD τ).loc main_arg0)) (m ((c : Thread nD τ).loc main_arg1)) (m ((c : Thread nD τ).loc main_arg2))) (m ((c : Thread nD τ).loc main_arg3))) t l j ⟨128 * t.val + l.val, by omega⟩ rfl).symm
  refine Eq.trans ?_ (res7_at (columns (m ((c : Thread nD τ).loc main_arg0)) (m ((c : Thread nD τ).loc main_arg1)) (m ((c : Thread nD τ).loc main_arg2))) (m ((c : Thread nD τ).loc main_arg3)) ⟨128 * t.val + l.val, by omega⟩ j _ _ hs.symm).symm
  rw [columns_at]
  exact projected_congr ⟨768 + j.val, by omega⟩ (fun k => kept_at (iblk m c 0 t) (iblk m c 1 t) (iblk m c 2 t) (iblk m c 3 t) l k) (fun k => blk0 m c t l k _ _ hs) (fun k => blk1 m c t k)
    (fun k => (ld2 (iblk m c 2 t) 768 _ k j k ⟨768 + j.val, by omega⟩ rfl rfl).trans (blk2 m c t k _))

theorem at8 (F : FVec Ideal S256x512 .bf16) (t : Fin cfg0.N) (l : Fin 128) (x : Fin 512) (r : Fin 256) (hr : r.val = 128 * t.val + l.val) :
    F (((cfg0.win 8).blk t).view.emb (ix2 l x)) = F (ix2 r x) := by
  blk_ext [idx t]

theorem final8 (c : Dev nD) : (dats m 0 c).arrAt 8 cfg0.N = res8 (columns (m ((c : Thread nD τ).loc main_arg0)) (m ((c : Thread nD τ).loc main_arg1)) (m ((c : Thread nD τ).loc main_arg2))) (m ((c : Thread nD τ).loc main_arg3)) := by
  refine (dats m 0 c).arrAt_eq_of_covers 8 _ (by decide +kernel) fun t hf y => ?_
  have ht : t.val < 2 := lt_of_lt_of_eq t.isLt N_0
  blk_simp
  rw [after0_8]
  frame_out
  have y2 : ∃ (l : Fin 128) (x : Fin 512), y = ix2 l x := ⟨y 0, y 1, by funext a; fin_cases a <;> rfl⟩
  obtain ⟨l, j, rfl⟩ := y2
  have hs : 16 * (⟨(128 * t.val + l.val) / 16, by omega⟩ : Fin 16).val + (⟨(128 * t.val + l.val) % 16, by omega⟩ : Fin 16).val = 128 * t.val + l.val := by simp only; omega
  refine (stored8 (k0_pay11 (iblk m c 0 t) (iblk m c 1 t) (iblk m c 2 t) (iblk m c 3 t)) (View.ld (iblk m c 2 t : FVec Ideal S1024x5888 .bf16) (Rect.unit (s := S1024x5888) ![0, 1280] S1024x512.size inb_S1024x5888_S1024x512_0_1280)) l j).trans ?_
  refine Eq.trans ?_ (at8 (res8 (columns (m ((c : Thread nD τ).loc main_arg0)) (m ((c : Thread nD τ).loc main_arg1)) (m ((c : Thread nD τ).loc main_arg2))) (m ((c : Thread nD τ).loc main_arg3))) t l j ⟨128 * t.val + l.val, by omega⟩ rfl).symm
  refine Eq.trans ?_ (res8_at (columns (m ((c : Thread nD τ).loc main_arg0)) (m ((c : Thread nD τ).loc main_arg1)) (m ((c : Thread nD τ).loc main_arg2))) (m ((c : Thread nD τ).loc main_arg3)) ⟨128 * t.val + l.val, by omega⟩ j _ _ hs.symm).symm
  rw [columns_at]
  exact congrArg (· * Ideal.ofBits .f32 0x3DB504F3#32) (projected_congr ⟨1280 + j.val, by omega⟩ (fun k => kept_at (iblk m c 0 t) (iblk m c 1 t) (iblk m c 2 t) (iblk m c 3 t) l k) (fun k => blk0 m c t l k _ _ hs) (fun k => blk1 m c t k)
    (fun k => (ld2 (iblk m c 2 t) 1280 _ k j k ⟨1280 + j.val, by omega⟩ rfl rfl).trans (blk2 m c t k _)))

theorem at9 (F : FVec Ideal S256x1024 .bf16) (t : Fin cfg0.N) (l : Fin 128) (x : Fin 1024) (r : Fin 256) (hr : r.val = 128 * t.val + l.val) :
    F (((cfg0.win 9).blk t).view.emb (ix2 l x)) = F (ix2 r x) := by
  blk_ext [idx t]

theorem final9 (c : Dev nD) : (dats m 0 c).arrAt 9 cfg0.N = res9 (columns (m ((c : Thread nD τ).loc main_arg0)) (m ((c : Thread nD τ).loc main_arg1)) (m ((c : Thread nD τ).loc main_arg2))) (m ((c : Thread nD τ).loc main_arg3)) := by
  refine (dats m 0 c).arrAt_eq_of_covers 9 _ (by decide +kernel) fun t hf y => ?_
  have ht : t.val < 2 := lt_of_lt_of_eq t.isLt N_0
  blk_simp
  rw [after0_9]
  frame_out
  have y2 : ∃ (l : Fin 128) (x : Fin 1024), y = ix2 l x := ⟨y 0, y 1, by funext a; fin_cases a <;> rfl⟩
  obtain ⟨l, j, rfl⟩ := y2
  have hs : 16 * (⟨(128 * t.val + l.val) / 16, by omega⟩ : Fin 16).val + (⟨(128 * t.val + l.val) % 16, by omega⟩ : Fin 16).val = 128 * t.val + l.val := by simp only; omega
  refine (stored9 (k0_pay11 (iblk m c 0 t) (iblk m c 1 t) (iblk m c 2 t) (iblk m c 3 t)) (View.ld (iblk m c 2 t : FVec Ideal S1024x5888 .bf16) (Rect.unit (s := S1024x5888) ![0, 1792] S1024x1024.size inb_S1024x5888_S1024x1024_0_1792)) l j).trans ?_
  refine Eq.trans ?_ (at9 (res9 (columns (m ((c : Thread nD τ).loc main_arg0)) (m ((c : Thread nD τ).loc main_arg1)) (m ((c : Thread nD τ).loc main_arg2))) (m ((c : Thread nD τ).loc main_arg3))) t l j ⟨128 * t.val + l.val, by omega⟩ rfl).symm
  refine Eq.trans ?_ (res9_at (columns (m ((c : Thread nD τ).loc main_arg0)) (m ((c : Thread nD τ).loc main_arg1)) (m ((c : Thread nD τ).loc main_arg2))) (m ((c : Thread nD τ).loc main_arg3)) ⟨128 * t.val + l.val, by omega⟩ j _ _ hs.symm).symm
  rw [columns_at]
  exact projected_congr ⟨1792 + j.val, by omega⟩ (fun k => kept_at (iblk m c 0 t) (iblk m c 1 t) (iblk m c 2 t) (iblk m c 3 t) l k) (fun k => blk0 m c t l k _ _ hs) (fun k => blk1 m c t k)
    (fun k => (ld2 (iblk m c 2 t) 1792 _ k j k ⟨1792 + j.val, by omega⟩ rfl rfl).trans (blk2 m c t k _))

theorem at10 (F : FVec Ideal S256x1024 .f32) (t : Fin cfg0.N) (l : Fin 128) (x : Fin 1024) (r : Fin 256) (hr : r.val = 128 * t.val + l.val) :
    F (((cfg0.win 10).blk t).view.emb (ix2 l x)) = F (ix2 r x) := by
  blk_ext [idx t]

theorem final10 (c : Dev nD) : (dats m 0 c).arrAt 10 cfg0.N = res10 (columns (m ((c : Thread nD τ).loc main_arg0)) (m ((c : Thread nD τ).loc main_arg1)) (m ((c : Thread nD τ).loc main_arg2))) (m ((c : Thread nD τ).loc main_arg3)) := by
  refine (dats m 0 c).arrAt_eq_of_covers 10 _ (by decide +kernel) fun t hf y => ?_
  have ht : t.val < 2 := lt_of_lt_of_eq t.isLt N_0
  blk_simp
  rw [after0_10]
  frame_out
  have y2 : ∃ (l : Fin 128) (x : Fin 1024), y = ix2 l x := ⟨y 0, y 1, by funext a; fin_cases a <;> rfl⟩
  obtain ⟨l, j, rfl⟩ := y2
  have hs : 16 * (⟨(128 * t.val + l.val) / 16, by omega⟩ : Fin 16).val + (⟨(128 * t.val + l.val) % 16, by omega⟩ : Fin 16).val = 128 * t.val + l.val := by simp only; omega
  refine (stored10 (k0_pay11 (iblk m c 0 t) (iblk m c 1 t) (iblk m c 2 t) (iblk m c 3 t)) (View.ld (iblk m c 2 t : FVec Ideal S1024x5888 .bf16) (Rect.unit (s := S1024x5888) ![0, 2816] S1024x1024.size inb_S1024x5888_S1024x1024_0_2816)) l j).trans ?_
  refine Eq.trans ?_ (at10 (res10 (columns (m ((c : Thread nD τ).loc main_arg0)) (m ((c : Thread nD τ).loc main_arg1)) (m ((c : Thread nD τ).loc main_arg2))) (m ((c : Thread nD τ).loc main_arg3))) t l j ⟨128 * t.val + l.val, by omega⟩ rfl).symm
  refine Eq.trans ?_ (res10_at (columns (m ((c : Thread nD τ).loc main_arg0)) (m ((c : Thread nD τ).loc main_arg1)) (m ((c : Thread nD τ).loc main_arg2))) (m ((c : Thread nD τ).loc main_arg3)) ⟨128 * t.val + l.val, by omega⟩ j _ _ hs.symm).symm
  rw [columns_at]
  exact projected_congr ⟨2816 + j.val, by omega⟩ (fun k => kept_at (iblk m c 0 t) (iblk m c 1 t) (iblk m c 2 t) (iblk m c 3 t) l k) (fun k => blk0 m c t l k _ _ hs) (fun k => blk1 m c t k)
    (fun k => (ld2 (iblk m c 2 t) 2816 _ k j k ⟨2816 + j.val, by omega⟩ rfl rfl).trans (blk2 m c t k _))

theorem at11 (F : FVec Ideal S256x1024 .f32) (t : Fin cfg0.N) (l : Fin 128) (x : Fin 1024) (r : Fin 256) (hr : r.val = 128 * t.val + l.val) :
    F (((cfg0.win 11).blk t).view.emb (ix2 l x)) = F (ix2 r x) := by
  blk_ext [idx t]

theorem final11 (c : Dev nD) : (dats m 0 c).arrAt 11 cfg0.N = res11 (columns (m ((c : Thread nD τ).loc main_arg0)) (m ((c : Thread nD τ).loc main_arg1)) (m ((c : Thread nD τ).loc main_arg2))) (m ((c : Thread nD τ).loc main_arg3)) := by
  refine (dats m 0 c).arrAt_eq_of_covers 11 _ (by decide +kernel) fun t hf y => ?_
  have ht : t.val < 2 := lt_of_lt_of_eq t.isLt N_0
  blk_simp
  rw [after0_11]
  frame_out
  have y2 : ∃ (l : Fin 128) (x : Fin 1024), y = ix2 l x := ⟨y 0, y 1, by funext a; fin_cases a <;> rfl⟩
  obtain ⟨l, j, rfl⟩ := y2
  have hs : 16 * (⟨(128 * t.val + l.val) / 16, by omega⟩ : Fin 16).val + (⟨(128 * t.val + l.val) % 16, by omega⟩ : Fin 16).val = 128 * t.val + l.val := by simp only; omega
  refine (stored11 (k0_pay11 (iblk m c 0 t) (iblk m c 1 t) (iblk m c 2 t) (iblk m c 3 t)) (View.ld (iblk m c 2 t : FVec Ideal S1024x5888 .bf16) (Rect.unit (s := S1024x5888) ![0, 3840] S1024x1024.size inb_S1024x5888_S1024x1024_0_3840)) (View.ld (iblk m c 3 t : FVec Ideal S1x2048 .f32) (Rect.unit (s := S1x2048) ![0, 0] S1x1024.size inb_S1x2048_S1x1024_0_0)) l j).trans ?_
  refine Eq.trans ?_ (at11 (res11 (columns (m ((c : Thread nD τ).loc main_arg0)) (m ((c : Thread nD τ).loc main_arg1)) (m ((c : Thread nD τ).loc main_arg2))) (m ((c : Thread nD τ).loc main_arg3))) t l j ⟨128 * t.val + l.val, by omega⟩ rfl).symm
  refine Eq.trans ?_ (res11_at (columns (m ((c : Thread nD τ).loc main_arg0)) (m ((c : Thread nD τ).loc main_arg1)) (m ((c : Thread nD τ).loc main_arg2))) (m ((c : Thread nD τ).loc main_arg3)) ⟨128 * t.val + l.val, by omega⟩ j _ _ hs.symm).symm
  rw [columns_at]
  exact congrArg₂ (· + ·) (projected_congr ⟨3840 + j.val, by omega⟩ (fun k => kept_at (iblk m c 0 t) (iblk m c 1 t) (iblk m c 2 t) (iblk m c 3 t) l k) (fun k => blk0 m c t l k _ _ hs) (fun k => blk1 m c t k)
    (fun k => (ld2 (iblk m c 2 t) 3840 _ k j k ⟨3840 + j.val, by omega⟩ rfl rfl).trans (blk2 m c t k _))) ((ld2 (iblk m c 3 t) 0 _ 0 j 0 ⟨0 + j.val, by omega⟩ rfl rfl).trans (blk3 m c t _))

theorem at12 (F : FVec Ideal S256x1024 .f32) (t : Fin cfg0.N) (l : Fin 128) (x : Fin 1024) (r : Fin 256) (hr : r.val = 128 * t.val + l.val) :
    F (((cfg0.win 12).blk t).view.emb (ix2 l x)) = F (ix2 r x) := by
  blk_ext [idx t]

theorem final12 (c : Dev nD) : (dats m 0 c).arrAt 12 cfg0.N = res12 (columns (m ((c : Thread nD τ).loc main_arg0)) (m ((c : Thread nD τ).loc main_arg1)) (m ((c : Thread nD τ).loc main_arg2))) (m ((c : Thread nD τ).loc main_arg3)) := by
  refine (dats m 0 c).arrAt_eq_of_covers 12 _ (by decide +kernel) fun t hf y => ?_
  have ht : t.val < 2 := lt_of_lt_of_eq t.isLt N_0
  blk_simp
  rw [after0_12]
  frame_out
  have y2 : ∃ (l : Fin 128) (x : Fin 1024), y = ix2 l x := ⟨y 0, y 1, by funext a; fin_cases a <;> rfl⟩
  obtain ⟨l, j, rfl⟩ := y2
  have hs : 16 * (⟨(128 * t.val + l.val) / 16, by omega⟩ : Fin 16).val + (⟨(128 * t.val + l.val) % 16, by omega⟩ : Fin 16).val = 128 * t.val + l.val := by simp only; omega
  refine (stored12 (k0_pay11 (iblk m c 0 t) (iblk m c 1 t) (iblk m c 2 t) (iblk m c 3 t)) (View.ld (iblk m c 2 t : FVec Ideal S1024x5888 .bf16) (Rect.unit (s := S1024x5888) ![0, 4864] S1024x1024.size inb_S1024x5888_S1024x1024_0_4864)) (View.ld (iblk m c 3 t : FVec Ideal S1x2048 .f32) (Rect.unit (s := S1x2048) ![0, 1024] S1x1024.size inb_S1x2048_S1x1024_0_1024)) l j).trans ?_
  refine Eq.trans ?_ (at12 (res12 (columns (m ((c : Thread nD τ).loc main_arg0)) (m ((c : Thread nD τ).loc main_arg1)) (m ((c : Thread nD τ).loc main_arg2))) (m ((c : Thread nD τ).loc main_arg3))) t l j ⟨128 * t.val + l.val, by omega⟩ rfl).symm
  refine Eq.trans ?_ (res12_at (columns (m ((c : Thread nD τ).loc main_arg0)) (m ((c : Thread nD τ).loc main_arg1)) (m ((c : Thread nD τ).loc main_arg2))) (m ((c : Thread nD τ).loc main_arg3)) ⟨128 * t.val + l.val, by omega⟩ j _ _ hs.symm).symm
  rw [columns_at]
  exact congrArg₂ (· + ·) (projected_congr ⟨4864 + j.val, by omega⟩ (fun k => kept_at (iblk m c 0 t) (iblk m c 1 t) (iblk m c 2 t) (iblk m c 3 t) l k) (fun k => blk0 m c t l k _ _ hs) (fun k => blk1 m c t k)
    (fun k => (ld2 (iblk m c 2 t) 4864 _ k j k ⟨4864 + j.val, by omega⟩ rfl rfl).trans (blk2 m c t k _))) ((ld2 (iblk m c 3 t) 1024 _ 0 j 0 ⟨1024 + j.val, by omega⟩ rfl rfl).trans (blk3 m c t _))

end Cert.ProjectSampleIdeal.Rows
-- ==== Proof.SampleBlock.lean ====
module

public import proofs.«01_k».proof.Proof.Block
public import proofs.«01_k».proof.Proof.Gen.RetentionSampleIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.RetentionSampleIdeal.Sample

open Cert.RetentionSampleIdeal Cert.RetentionSampleIdeal.Gen Cert.Retention Idealize.ShloMosaic Idealize.ShloMosaic.TcCoe Idealize.SL.Sem
open Idealize.ShloMosaic.Pipeline (Dat)
open Cert.KernelIdeal.Block (ld1 ld2 ld3 ld4 chunkState_congr gated_congr)

variable (m : (ℓ : Loc nD τ sig) → Buf (Elt Ideal) ℓ)

/-- The state block copied as it is. -/
theorem copy (X : Vec Ideal S1x4x128x256 .f32) : k0_pay3 X = X := by
  funext x; pointwise [k0_pay3]

/-- An index of one head's state is its row and its column. -/
theorem eq4 (x : S1x1x128x256.Idx) : ∃ d w, x = ix4 0 0 d w :=
  ⟨x 2, x 3, funext fun i => match i with
    | ⟨0, _⟩ => Fin.ext (by have := (x 0).isLt; simp at this ⊢)
    | ⟨1, _⟩ => Fin.ext (by have := (x 1).isLt; simp at this ⊢)
    | ⟨2, _⟩ => rfl
    | ⟨3, _⟩ => rfl⟩

/-- Head 0's new state. -/
theorem st0 (k : Vec Ideal S16x128 .bf16) (v : Vec Ideal S16x256 .bf16) (st : Vec Ideal S1x1x128x256 .f32)
    (kd : Vec Ideal S1x16x1 .f32) (sd : Elt Ideal .f32) (x : S1x1x128x256.Idx) :
    k0_pay10 (k0_pay5 v) (k0_pay6 st) (k0_pay8 k kd) (k0_pay9 sd) x
      = chunkState (fun n d => k (ix2 n d)) (fun n w => v (ix2 n w)) (fun d w => st (ix4 0 0 d w)) (fun n => kd (ix3 0 n 0)) sd (x 2) (x 3) := by
  obtain ⟨d, w, rfl⟩ := eq4 x; pointwise [k0_pay10, k0_pay5, k0_pay6, k0_pay8, k0_pay9, k0_pay4, chunkState]

theorem st1 (k : Vec Ideal S16x128 .bf16) (v : Vec Ideal S16x256 .bf16) (st : Vec Ideal S1x1x128x256 .f32)
    (kd : Vec Ideal S1x16x1 .f32) (sd : Elt Ideal .f32) (x : S1x1x128x256.Idx) :
    k0_pay16 (k0_pay13 k) (k0_pay14 v) st kd sd x
      = chunkState (fun n d => k (ix2 n d)) (fun n w => v (ix2 n w)) (fun d w => st (ix4 0 0 d w)) (fun n => kd (ix3 0 n 0)) sd (x 2) (x 3) := by
  obtain ⟨d, w, rfl⟩ := eq4 x; pointwise [k0_pay16, k0_pay13, k0_pay14, k0_pay15, chunkState]

theorem st2 (k : Vec Ideal S16x128 .bf16) (v : Vec Ideal S16x256 .bf16) (st : Vec Ideal S1x1x128x256 .f32)
    (kd : Vec Ideal S1x16x1 .f32) (sd : Elt Ideal .f32) (x : S1x1x128x256.Idx) :
    k0_pay27 (k0_pay21 k) (k0_pay22 v) (k0_pay23 st) kd sd x
      = chunkState (fun n d => k (ix2 n d)) (fun n w => v (ix2 n w)) (fun d w => st (ix4 0 0 d w)) (fun n => kd (ix3 0 n 0)) sd (x 2) (x 3) := by
  obtain ⟨d, w, rfl⟩ := eq4 x; pointwise [k0_pay27, k0_pay21, k0_pay22, k0_pay23, chunkState]

theorem st3 (k : Vec Ideal S16x128 .bf16) (v : Vec Ideal S16x256 .bf16) (st : Vec Ideal S1x1x128x256 .f32)
    (kd : Vec Ideal S1x16x1 .f32) (sd : Elt Ideal .f32) (x : S1x1x128x256.Idx) :
    k0_pay1 (k0_pay33 k v st kd sd) x
      = chunkState (fun n d => k (ix2 n d)) (fun n w => v (ix2 n w)) (fun d w => st (ix4 0 0 d w)) (fun n => kd (ix3 0 n 0)) sd (x 2) (x 3) := by
  obtain ⟨d, w, rfl⟩ := eq4 x; pointwise [k0_pay1, k0_pay33, k0_pay29, k0_pay30, k0_pay31, chunkState]

theorem o0 (q k : Vec Ideal S16x128 .bf16) (v : Vec Ideal S16x256 .bf16) (st : Vec Ideal S1x1x128x256 .f32)
    (ia : Vec Ideal S1x16x16 .f32) (rd : Vec Ideal S1x16x1 .f32) (r : Vec Ideal S16x256 .f32) (x : S16x256.Idx) :
    k0_pay11 (k0_pay7 q k v st ia rd) r x
      = gated (chunkOut (fun n d => q (ix2 n d)) (fun n d => k (ix2 n d)) (fun n w => v (ix2 n w)) (fun d w => st (ix4 0 0 d w))
          (fun l n => ia (ix3 0 l n)) (fun n => rd (ix3 0 n 0)) (x 0)) (fun w => r (ix2 (x 0) w)) (x 1) := by
  pointwise [k0_pay11, k0_pay7, k0_pay4, k0_pay5, k0_pay6, gated, normed, chunkOut]

theorem o1 (q k : Vec Ideal S16x128 .bf16) (v : Vec Ideal S16x256 .bf16) (st : Vec Ideal S1x1x128x256 .f32)
    (ia : Vec Ideal S1x16x16 .f32) (rd : Vec Ideal S1x16x1 .f32) (r : Vec Ideal S16x256 .f32) (x : S16x256.Idx) :
    k0_pay19 (k0_pay17 (k0_pay12 q) (k0_pay13 k) (k0_pay14 v) st ia rd) (k0_pay18 (k0_pay12 q) (k0_pay13 k) (k0_pay14 v) st ia rd) r x
      = gated (chunkOut (fun n d => q (ix2 n d)) (fun n d => k (ix2 n d)) (fun n w => v (ix2 n w)) (fun d w => st (ix4 0 0 d w))
          (fun l n => ia (ix3 0 l n)) (fun n => rd (ix3 0 n 0)) (x 0)) (fun w => r (ix2 (x 0) w)) (x 1) := by
  pointwise [k0_pay19, k0_pay17, k0_pay18, k0_pay12, k0_pay13, k0_pay14, k0_pay15, gated, normed, chunkOut]

theorem o2 (q k : Vec Ideal S16x128 .bf16) (v : Vec Ideal S16x256 .bf16) (st : Vec Ideal S1x1x128x256 .f32)
    (ia : Vec Ideal S1x16x16 .f32) (rd : Vec Ideal S1x16x1 .f32) (r : Vec Ideal S16x256 .f32) (x : S16x256.Idx) :
    k0_pay28 (k0_pay24 q k v ia) (k0_pay25 q st) (k0_pay26 rd) r x
      = gated (chunkOut (fun n d => q (ix2 n d)) (fun n d => k (ix2 n d)) (fun n w => v (ix2 n w)) (fun d w => st (ix4 0 0 d w))
          (fun l n => ia (ix3 0 l n)) (fun n => rd (ix3 0 n 0)) (x 0)) (fun w => r (ix2 (x 0) w)) (x 1) := by
  pointwise [k0_pay28, k0_pay24, k0_pay25, k0_pay26, k0_pay20, k0_pay21, k0_pay22, k0_pay23, gated, normed, chunkOut]

theorem o3 (q k : Vec Ideal S16x128 .bf16) (v : Vec Ideal S16x256 .bf16) (st : Vec Ideal S1x1x128x256 .f32)
    (ia : Vec Ideal S1x16x16 .f32) (rd : Vec Ideal S1x16x1 .f32) (r : Vec Ideal S16x256 .f32) (x : S16x256.Idx) :
    k0_pay2 (k0_pay32 q k v st ia rd) r x
      = gated (chunkOut (fun n d => q (ix2 n d)) (fun n d => k (ix2 n d)) (fun n w => v (ix2 n w)) (fun d w => st (ix4 0 0 d w))
          (fun l n => ia (ix3 0 l n)) (fun n => rd (ix3 0 n 0)) (x 0)) (fun w => r (ix2 (x 0) w)) (x 1) := by
  pointwise [k0_pay2, k0_pay32, k0_pay29, k0_pay30, k0_pay31, gated, normed, chunkOut]

/-- The new state of one head from a point's blocks. -/
abbrev nextState (K : Vec Ideal S16x512 .bf16) (V : Vec Ideal S16x1024 .bf16) (S : Vec Ideal S1x4x128x256 .f32)
    (KD : Vec Ideal S4x16x1 .f32) (SD : Vec Ideal S4 .f32) (g : Fin 4) (d : Fin 128) (w : Fin 256) : EReal :=
  chunkState (fun n d => K (ix2 n (slim g d))) (fun n w => V (ix2 n (wide g w))) (fun d w => S (ix4 0 g d w))
    (fun n => KD (ix3 g n 0)) (SD (ix1 g)) d w

/-- The output of one head from a point's blocks. -/
abbrev nextOut (Q K : Vec Ideal S16x512 .bf16) (V : Vec Ideal S16x1024 .bf16) (R : Vec Ideal S16x1024 .f32)
    (S : Vec Ideal S1x4x128x256 .f32) (IA : Vec Ideal S4x16x16 .f32) (RD : Vec Ideal S4x16x1 .f32)
    (g : Fin 4) (l : Fin 16) (w : Fin 256) : EReal :=
  gated (chunkOut (fun n d => Q (ix2 n (slim g d))) (fun n d => K (ix2 n (slim g d))) (fun n w => V (ix2 n (wide g w)))
      (fun d w => S (ix4 0 g d w)) (fun l n => IA (ix3 g l n)) (fun n => RD (ix3 g n 0)) l)
    (fun w => R (ix2 l (wide g w))) w

theorem head_state0 (K : Vec Ideal S16x512 .bf16) (V : Vec Ideal S16x1024 .bf16) (S : Vec Ideal S1x4x128x256 .f32)
    (KD : Vec Ideal S4x16x1 .f32) (SD : Vec Ideal S4 .f32) (x : S1x1x128x256.Idx) (g : Fin 4) (d : Fin 128) (w : Fin 256)
    (hg : g.val = 0) (hd : d.val = (x 2).val) (hw : w.val = (x 3).val) :
    k0_pay10 (k0_pay5 (View.ld V (Rect.unit (s := S16x1024) ![0, 0] ![16, 256] inb_S16x1024_S16x256_0_0))) (k0_pay6 (View.ld S (Rect.unit (s := S1x4x128x256) ![0, 0, 0, 0] ![1, 1, 128, 256] inb_S1x4x128x256_S1x1x128x256_0_0_0_0))) (k0_pay8 (View.ld K (Rect.unit (s := S16x512) ![0, 0] ![16, 128] inb_S16x512_S16x128_0_0)) (View.ld KD (Rect.unit (s := S4x16x1) ![0, 0, 0] ![1, 16, 1] inb_S4x16x1_S1x16x1_0_0_0))) (k0_pay9 (View.ld SD (Rect.unit (s := S4) ![0] ![1] inb_S4_S1_0) (Shape.Idx.first (by decide)))) x = nextState K V S KD SD g d w := by
  obtain rfl : g = 0 := Fin.ext hg
  rw [st0, show x 2 = d from Fin.ext hd.symm, show x 3 = w from Fin.ext hw.symm]
  exact chunkState_congr (fun _ _ => ld2 K _ _ _ _) (fun _ _ => ld2 V _ _ _ _) (fun _ _ => ld4 S _ _ _ _) (fun _ => ld3 KD _ _ _ _) (ld1 SD _ _ _) _ _

theorem head_out0 (Q K : Vec Ideal S16x512 .bf16) (V : Vec Ideal S16x1024 .bf16) (R : Vec Ideal S16x1024 .f32)
    (S : Vec Ideal S1x4x128x256 .f32) (IA : Vec Ideal S4x16x16 .f32) (RD : Vec Ideal S4x16x1 .f32)
    (x : S16x256.Idx) (g : Fin 4) (l : Fin 16) (w : Fin 256)
    (hg : g.val = 0) (hl : l.val = (x 0).val) (hw : w.val = (x 1).val) :
    k0_pay11 (k0_pay7 (View.ld Q (Rect.unit (s := S16x512) ![0, 0] ![16, 128] inb_S16x512_S16x128_0_0)) (View.ld K (Rect.unit (s := S16x512) ![0, 0] ![16, 128] inb_S16x512_S16x128_0_0)) (View.ld V (Rect.unit (s := S16x1024) ![0, 0] ![16, 256] inb_S16x1024_S16x256_0_0)) (View.ld S (Rect.unit (s := S1x4x128x256) ![0, 0, 0, 0] ![1, 1, 128, 256] inb_S1x4x128x256_S1x1x128x256_0_0_0_0)) (View.ld IA (Rect.unit (s := S4x16x16) ![0, 0, 0] ![1, 16, 16] inb_S4x16x16_S1x16x16_0_0_0)) (View.ld RD (Rect.unit (s := S4x16x1) ![0, 0, 0] ![1, 16, 1] inb_S4x16x1_S1x16x1_0_0_0))) (View.ld R (Rect.unit (s := S16x1024) ![0, 0] ![16, 256] inb_S16x1024_S16x256_0_0)) x = nextOut Q K V R S IA RD g l w := by
  obtain rfl : g = 0 := Fin.ext hg
  rw [o0, show x 0 = l from Fin.ext hl.symm, show x 1 = w from Fin.ext hw.symm]
  exact gated_congr (fun _ _ => ld2 Q _ _ _ _) (fun _ _ => ld2 K _ _ _ _) (fun _ _ => ld2 V _ _ _ _) (fun _ _ => ld4 S _ _ _ _)
    (fun _ _ => ld3 IA _ _ _ _) (fun _ => ld3 RD _ _ _ _) (fun _ => ld2 R _ _ _ _) _ _

theorem head_state1 (K : Vec Ideal S16x512 .bf16) (V : Vec Ideal S16x1024 .bf16) (S : Vec Ideal S1x4x128x256 .f32)
    (KD : Vec Ideal S4x16x1 .f32) (SD : Vec Ideal S4 .f32) (x : S1x1x128x256.Idx) (g : Fin 4) (d : Fin 128) (w : Fin 256)
    (hg : g.val = 1) (hd : d.val = (x 2).val) (hw : w.val = (x 3).val) :
    k0_pay16 (k0_pay13 (View.ld K (Rect.unit (s := S16x512) ![0, 128] ![16, 128] inb_S16x512_S16x128_0_128))) (k0_pay14 (View.ld V (Rect.unit (s := S16x1024) ![0, 256] ![16, 256] inb_S16x1024_S16x256_0_256))) (View.ld S (Rect.unit (s := S1x4x128x256) ![0, 1, 0, 0] ![1, 1, 128, 256] inb_S1x4x128x256_S1x1x128x256_0_1_0_0)) (View.ld KD (Rect.unit (s := S4x16x1) ![1, 0, 0] ![1, 16, 1] inb_S4x16x1_S1x16x1_1_0_0)) (View.ld SD (Rect.unit (s := S4) ![1] ![1] inb_S4_S1_1) (Shape.Idx.first (by decide))) x = nextState K V S KD SD g d w := by
  obtain rfl : g = 1 := Fin.ext hg
  rw [st1, show x 2 = d from Fin.ext hd.symm, show x 3 = w from Fin.ext hw.symm]
  exact chunkState_congr (fun _ _ => ld2 K _ _ _ _) (fun _ _ => ld2 V _ _ _ _) (fun _ _ => ld4 S _ _ _ _) (fun _ => ld3 KD _ _ _ _) (ld1 SD _ _ _) _ _

theorem head_out1 (Q K : Vec Ideal S16x512 .bf16) (V : Vec Ideal S16x1024 .bf16) (R : Vec Ideal S16x1024 .f32)
    (S : Vec Ideal S1x4x128x256 .f32) (IA : Vec Ideal S4x16x16 .f32) (RD : Vec Ideal S4x16x1 .f32)
    (x : S16x256.Idx) (g : Fin 4) (l : Fin 16) (w : Fin 256)
    (hg : g.val = 1) (hl : l.val = (x 0).val) (hw : w.val = (x 1).val) :
    k0_pay19 (k0_pay17 (k0_pay12 (View.ld Q (Rect.unit (s := S16x512) ![0, 128] ![16, 128] inb_S16x512_S16x128_0_128))) (k0_pay13 (View.ld K (Rect.unit (s := S16x512) ![0, 128] ![16, 128] inb_S16x512_S16x128_0_128))) (k0_pay14 (View.ld V (Rect.unit (s := S16x1024) ![0, 256] ![16, 256] inb_S16x1024_S16x256_0_256))) (View.ld S (Rect.unit (s := S1x4x128x256) ![0, 1, 0, 0] ![1, 1, 128, 256] inb_S1x4x128x256_S1x1x128x256_0_1_0_0)) (View.ld IA (Rect.unit (s := S4x16x16) ![1, 0, 0] ![1, 16, 16] inb_S4x16x16_S1x16x16_1_0_0)) (View.ld RD (Rect.unit (s := S4x16x1) ![1, 0, 0] ![1, 16, 1] inb_S4x16x1_S1x16x1_1_0_0))) (k0_pay18 (k0_pay12 (View.ld Q (Rect.unit (s := S16x512) ![0, 128] ![16, 128] inb_S16x512_S16x128_0_128))) (k0_pay13 (View.ld K (Rect.unit (s := S16x512) ![0, 128] ![16, 128] inb_S16x512_S16x128_0_128))) (k0_pay14 (View.ld V (Rect.unit (s := S16x1024) ![0, 256] ![16, 256] inb_S16x1024_S16x256_0_256))) (View.ld S (Rect.unit (s := S1x4x128x256) ![0, 1, 0, 0] ![1, 1, 128, 256] inb_S1x4x128x256_S1x1x128x256_0_1_0_0)) (View.ld IA (Rect.unit (s := S4x16x16) ![1, 0, 0] ![1, 16, 16] inb_S4x16x16_S1x16x16_1_0_0)) (View.ld RD (Rect.unit (s := S4x16x1) ![1, 0, 0] ![1, 16, 1] inb_S4x16x1_S1x16x1_1_0_0))) (View.ld R (Rect.unit (s := S16x1024) ![0, 256] ![16, 256] inb_S16x1024_S16x256_0_256)) x = nextOut Q K V R S IA RD g l w := by
  obtain rfl : g = 1 := Fin.ext hg
  rw [o1, show x 0 = l from Fin.ext hl.symm, show x 1 = w from Fin.ext hw.symm]
  exact gated_congr (fun _ _ => ld2 Q _ _ _ _) (fun _ _ => ld2 K _ _ _ _) (fun _ _ => ld2 V _ _ _ _) (fun _ _ => ld4 S _ _ _ _)
    (fun _ _ => ld3 IA _ _ _ _) (fun _ => ld3 RD _ _ _ _) (fun _ => ld2 R _ _ _ _) _ _

theorem head_state2 (K : Vec Ideal S16x512 .bf16) (V : Vec Ideal S16x1024 .bf16) (S : Vec Ideal S1x4x128x256 .f32)
    (KD : Vec Ideal S4x16x1 .f32) (SD : Vec Ideal S4 .f32) (x : S1x1x128x256.Idx) (g : Fin 4) (d : Fin 128) (w : Fin 256)
    (hg : g.val = 2) (hd : d.val = (x 2).val) (hw : w.val = (x 3).val) :
    k0_pay27 (k0_pay21 (View.ld K (Rect.unit (s := S16x512) ![0, 256] ![16, 128] inb_S16x512_S16x128_0_256))) (k0_pay22 (View.ld V (Rect.unit (s := S16x1024) ![0, 512] ![16, 256] inb_S16x1024_S16x256_0_512))) (k0_pay23 (View.ld S (Rect.unit (s := S1x4x128x256) ![0, 2, 0, 0] ![1, 1, 128, 256] inb_S1x4x128x256_S1x1x128x256_0_2_0_0))) (View.ld KD (Rect.unit (s := S4x16x1) ![2, 0, 0] ![1, 16, 1] inb_S4x16x1_S1x16x1_2_0_0)) (View.ld SD (Rect.unit (s := S4) ![2] ![1] inb_S4_S1_2) (Shape.Idx.first (by decide))) x = nextState K V S KD SD g d w := by
  obtain rfl : g = 2 := Fin.ext hg
  rw [st2, show x 2 = d from Fin.ext hd.symm, show x 3 = w from Fin.ext hw.symm]
  exact chunkState_congr (fun _ _ => ld2 K _ _ _ _) (fun _ _ => ld2 V _ _ _ _) (fun _ _ => ld4 S _ _ _ _) (fun _ => ld3 KD _ _ _ _) (ld1 SD _ _ _) _ _

theorem head_out2 (Q K : Vec Ideal S16x512 .bf16) (V : Vec Ideal S16x1024 .bf16) (R : Vec Ideal S16x1024 .f32)
    (S : Vec Ideal S1x4x128x256 .f32) (IA : Vec Ideal S4x16x16 .f32) (RD : Vec Ideal S4x16x1 .f32)
    (x : S16x256.Idx) (g : Fin 4) (l : Fin 16) (w : Fin 256)
    (hg : g.val = 2) (hl : l.val = (x 0).val) (hw : w.val = (x 1).val) :
    k0_pay28 (k0_pay24 (View.ld Q (Rect.unit (s := S16x512) ![0, 256] ![16, 128] inb_S16x512_S16x128_0_256)) (View.ld K (Rect.unit (s := S16x512) ![0, 256] ![16, 128] inb_S16x512_S16x128_0_256)) (View.ld V (Rect.unit (s := S16x1024) ![0, 512] ![16, 256] inb_S16x1024_S16x256_0_512)) (View.ld IA (Rect.unit (s := S4x16x16) ![2, 0, 0] ![1, 16, 16] inb_S4x16x16_S1x16x16_2_0_0))) (k0_pay25 (View.ld Q (Rect.unit (s := S16x512) ![0, 256] ![16, 128] inb_S16x512_S16x128_0_256)) (View.ld S (Rect.unit (s := S1x4x128x256) ![0, 2, 0, 0] ![1, 1, 128, 256] inb_S1x4x128x256_S1x1x128x256_0_2_0_0))) (k0_pay26 (View.ld RD (Rect.unit (s := S4x16x1) ![2, 0, 0] ![1, 16, 1] inb_S4x16x1_S1x16x1_2_0_0))) (View.ld R (Rect.unit (s := S16x1024) ![0, 512] ![16, 256] inb_S16x1024_S16x256_0_512)) x = nextOut Q K V R S IA RD g l w := by
  obtain rfl : g = 2 := Fin.ext hg
  rw [o2, show x 0 = l from Fin.ext hl.symm, show x 1 = w from Fin.ext hw.symm]
  exact gated_congr (fun _ _ => ld2 Q _ _ _ _) (fun _ _ => ld2 K _ _ _ _) (fun _ _ => ld2 V _ _ _ _) (fun _ _ => ld4 S _ _ _ _)
    (fun _ _ => ld3 IA _ _ _ _) (fun _ => ld3 RD _ _ _ _) (fun _ => ld2 R _ _ _ _) _ _

theorem head_state3 (K : Vec Ideal S16x512 .bf16) (V : Vec Ideal S16x1024 .bf16) (S : Vec Ideal S1x4x128x256 .f32)
    (KD : Vec Ideal S4x16x1 .f32) (SD : Vec Ideal S4 .f32) (x : S1x1x128x256.Idx) (g : Fin 4) (d : Fin 128) (w : Fin 256)
    (hg : g.val = 3) (hd : d.val = (x 2).val) (hw : w.val = (x 3).val) :
    k0_pay1 (k0_pay33 (View.ld K (Rect.unit (s := S16x512) ![0, 384] ![16, 128] inb_S16x512_S16x128_0_384)) (View.ld V (Rect.unit (s := S16x1024) ![0, 768] ![16, 256] inb_S16x1024_S16x256_0_768)) (View.ld S (Rect.unit (s := S1x4x128x256) ![0, 3, 0, 0] ![1, 1, 128, 256] inb_S1x4x128x256_S1x1x128x256_0_3_0_0)) (View.ld KD (Rect.unit (s := S4x16x1) ![3, 0, 0] ![1, 16, 1] inb_S4x16x1_S1x16x1_3_0_0)) (View.ld SD (Rect.unit (s := S4) ![3] ![1] inb_S4_S1_3) (Shape.Idx.first (by decide)))) x = nextState K V S KD SD g d w := by
  obtain rfl : g = 3 := Fin.ext hg
  rw [st3, show x 2 = d from Fin.ext hd.symm, show x 3 = w from Fin.ext hw.symm]
  exact chunkState_congr (fun _ _ => ld2 K _ _ _ _) (fun _ _ => ld2 V _ _ _ _) (fun _ _ => ld4 S _ _ _ _) (fun _ => ld3 KD _ _ _ _) (ld1 SD _ _ _) _ _

theorem head_out3 (Q K : Vec Ideal S16x512 .bf16) (V : Vec Ideal S16x1024 .bf16) (R : Vec Ideal S16x1024 .f32)
    (S : Vec Ideal S1x4x128x256 .f32) (IA : Vec Ideal S4x16x16 .f32) (RD : Vec Ideal S4x16x1 .f32)
    (x : S16x256.Idx) (g : Fin 4) (l : Fin 16) (w : Fin 256)
    (hg : g.val = 3) (hl : l.val = (x 0).val) (hw : w.val = (x 1).val) :
    k0_pay2 (k0_pay32 (View.ld Q (Rect.unit (s := S16x512) ![0, 384] ![16, 128] inb_S16x512_S16x128_0_384)) (View.ld K (Rect.unit (s := S16x512) ![0, 384] ![16, 128] inb_S16x512_S16x128_0_384)) (View.ld V (Rect.unit (s := S16x1024) ![0, 768] ![16, 256] inb_S16x1024_S16x256_0_768)) (View.ld S (Rect.unit (s := S1x4x128x256) ![0, 3, 0, 0] ![1, 1, 128, 256] inb_S1x4x128x256_S1x1x128x256_0_3_0_0)) (View.ld IA (Rect.unit (s := S4x16x16) ![3, 0, 0] ![1, 16, 16] inb_S4x16x16_S1x16x16_3_0_0)) (View.ld RD (Rect.unit (s := S4x16x1) ![3, 0, 0] ![1, 16, 1] inb_S4x16x1_S1x16x1_3_0_0))) (View.ld R (Rect.unit (s := S16x1024) ![0, 768] ![16, 256] inb_S16x1024_S16x256_0_768)) x = nextOut Q K V R S IA RD g l w := by
  obtain rfl : g = 3 := Fin.ext hg
  rw [o3, show x 0 = l from Fin.ext hl.symm, show x 1 = w from Fin.ext hw.symm]
  exact gated_congr (fun _ _ => ld2 Q _ _ _ _) (fun _ _ => ld2 K _ _ _ _) (fun _ _ => ld2 V _ _ _ _) (fun _ _ => ld4 S _ _ _ _)
    (fun _ _ => ld3 IA _ _ _ _) (fun _ => ld3 RD _ _ _ _) (fun _ => ld2 R _ _ _ _) _ _

set_option maxHeartbeats 400000

theorem state_A (c : Dev nD) (t : Fin cfg0.N) (g : Fin 4) (d : Fin 128) (w : Fin 256) :
    (outsAt0 m c t).2 (ix4 0 g d w)
      = nextState (iblk m c 1 t) (iblk m c 2 t) (iblk m c 4 t) (iblk m c 7 t) (iblk m c 8 t) g d w := by
  unfold outsAt0
  frame_open
  simp (disch := decide) only [↓ View.readCov_skip, ↓ View.readCov_cons_toLoadRect, ↓ View.readCov_fill]
  frame_out
  simp only [copy]
  refine View.canon_append_of_piecesOf (Val := Elt Ideal) (e := .f32) (s := S1x4x128x256) (fun y : S1x4x128x256.Idx => nextState (iblk m c 1 t) (iblk m c 2 t) (iblk m c 4 t) (iblk m c 7 t) (iblk m c 8 t) (y 1) (y 2) (y 3))
    [_] [_, _, _, _] ⟨fun x => ?_, fun x => ?_, fun x => ?_, fun x => ?_, trivial⟩ (ix4 0 g d w) ?_
  · have x1 := (x 1).isLt
    exact head_state3 (iblk m c 1 t) (iblk m c 2 t) (iblk m c 4 t) (iblk m c 7 t) (iblk m c 8 t) x _ _ _ (by rw [Rect.emb_apply]; simp [Rect.unit] at x1 ⊢) (by rw [Rect.emb_apply]; simp [Rect.unit])
      (by rw [Rect.emb_apply]; simp [Rect.unit])
  · have x1 := (x 1).isLt
    exact head_state2 (iblk m c 1 t) (iblk m c 2 t) (iblk m c 4 t) (iblk m c 7 t) (iblk m c 8 t) x _ _ _ (by rw [Rect.emb_apply]; simp [Rect.unit] at x1 ⊢) (by rw [Rect.emb_apply]; simp [Rect.unit])
      (by rw [Rect.emb_apply]; simp [Rect.unit])
  · have x1 := (x 1).isLt
    exact head_state1 (iblk m c 1 t) (iblk m c 2 t) (iblk m c 4 t) (iblk m c 7 t) (iblk m c 8 t) x _ _ _ (by rw [Rect.emb_apply]; simp [Rect.unit] at x1 ⊢) (by rw [Rect.emb_apply]; simp [Rect.unit])
      (by rw [Rect.emb_apply]; simp [Rect.unit])
  · have x1 := (x 1).isLt
    exact head_state0 (iblk m c 1 t) (iblk m c 2 t) (iblk m c 4 t) (iblk m c 7 t) (iblk m c 8 t) x _ _ _ (by rw [Rect.emb_apply]; simp [Rect.unit] at x1 ⊢) (by rw [Rect.emb_apply]; simp [Rect.unit])
      (by rw [Rect.emb_apply]; simp [Rect.unit])
  · exact View.cover_of_tiled_head _ _ _ (by rfl) _

theorem out_A (c : Dev nD) (t : Fin cfg0.N) (g : Fin 4) (l : Fin 16) (w : Fin 256) :
    (outsAt0 m c t).1 (ix2 l (wide g w))
      = nextOut (iblk m c 0 t) (iblk m c 1 t) (iblk m c 2 t) (iblk m c 3 t) (iblk m c 4 t) (iblk m c 5 t) (iblk m c 6 t) g l w := by
  obtain ⟨y, hy⟩ : ∃ y : S16x1024.Idx, y = ix2 l (wide g w) := ⟨_, rfl⟩
  have a0 : (y 0).val = l.val := by rw [hy]; rfl
  have a1 : (y 1).val = 256 * g.val + w.val := by rw [hy]; rfl
  rw [← hy]
  unfold outsAt0
  clear hy
  frame_open
  simp (disch := decide) only [↓ View.readCov_skip, ↓ View.readCov_cons_toLoadRect, ↓ View.readCov_fill]
  frame_out
  simp only [copy]
  canon_tiles x h
  · exact head_out3 (iblk m c 0 t) (iblk m c 1 t) (iblk m c 2 t) (iblk m c 3 t) (iblk m c 4 t) (iblk m c 5 t) (iblk m c 6 t) x g l w
      (by omega) (by omega) (by omega)
  · exact head_out2 (iblk m c 0 t) (iblk m c 1 t) (iblk m c 2 t) (iblk m c 3 t) (iblk m c 4 t) (iblk m c 5 t) (iblk m c 6 t) x g l w
      (by omega) (by omega) (by omega)
  · exact head_out1 (iblk m c 0 t) (iblk m c 1 t) (iblk m c 2 t) (iblk m c 3 t) (iblk m c 4 t) (iblk m c 5 t) (iblk m c 6 t) x g l w
      (by omega) (by omega) (by omega)
  · exact head_out0 (iblk m c 0 t) (iblk m c 1 t) (iblk m c 2 t) (iblk m c 3 t) (iblk m c 4 t) (iblk m c 5 t) (iblk m c 6 t) x g l w
      (by omega) (by omega) (by omega)

end Cert.RetentionSampleIdeal.Sample
-- ==== Proof.SampleEntry.lean ====
module

public import proofs.«01_k».proof.Proof.SampleBlock
public import Idealize.ShloMosaic.Lib.Claim
public import Idealize.ShloMosaic.Lib.StableHlo.RunRead

@[expose] public section

set_option maxRecDepth 16384

noncomputable section

namespace Cert.RetentionSampleIdeal.Sample

open Cert.RetentionSampleIdeal Cert.RetentionSampleIdeal.Gen Cert.Retention Idealize.ShloMosaic Idealize.ShloMosaic.TcCoe Idealize.SL.Sem
open Idealize.ShloMosaic.Pipeline (Dat)

variable (m : (ℓ : Loc nD τ sig) → Buf (Elt Ideal) ℓ)

/-- Which block of its array each window holds at a point. -/
theorem idx : ∀ t : Fin grid0.N,
    (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0 ∧ win0_4.index t 2 = 0 ∧ win0_4.index t 3 = 0)
    ∧ (win0_5.index t 0 = 0 ∧ win0_5.index t 1 = 0 ∧ win0_5.index t 2 = 0)
    ∧ (win0_6.index t 0 = 0 ∧ win0_6.index t 1 = 0 ∧ win0_6.index t 2 = 0)
    ∧ (win0_7.index t 0 = 0 ∧ win0_7.index t 1 = 0 ∧ win0_7.index t 2 = 0)
    ∧ (win0_8.index t 0 = 0)
    ∧ (win0_9.index t 0 = t.val ∧ win0_9.index t 1 = 0)
    ∧ (win0_10.index t 0 = t.val ∧ win0_10.index t 1 = 0 ∧ win0_10.index t 2 = 0 ∧ win0_10.index t 3 = 0) := by
  decide +kernel

theorem c15_eq : Ideal.ofBits .f32 0x41700000#32 = ((15 : ℝ) : EReal) := by
  simp [Ideal.ofBits, Ideal.ieee, -EReal.coe_mul]; norm_num
theorem c16_eq : Ideal.ofBits .f32 0x41800000#32 = ((16 : ℝ) : EReal) := by
  simp [Ideal.ofBits, Ideal.ieee, -EReal.coe_mul]; norm_num

theorem entryX1 (c : Dev nD) : @Eq (FVec Ideal S256x512 .bf16) (V m c main_v1)
    (truncf .bf16 (shapeCast S256x512 (m ((c : Thread nD τ).loc main_arg0) : FVec Ideal S16x16x4x128 .f32) shapeCasts_S16x16x4x128_S256x512) bitsLt_bf16_f32) := by
  unfold V
  simp only [hostOps0, hostOps0_1, hostOps0_2, List.flatten_cons, List.flatten_nil, List.append_nil, List.cons_append, List.nil_append]
  after_reads_simp
  rfl

theorem entryX3 (c : Dev nD) : @Eq (FVec Ideal S256x512 .bf16) (V m c main_v3)
    (truncf .bf16 (shapeCast S256x512 (m ((c : Thread nD τ).loc main_arg1) : FVec Ideal S16x16x4x128 .f32) shapeCasts_S16x16x4x128_S256x512) bitsLt_bf16_f32) := by
  unfold V
  simp only [hostOps0, hostOps0_1, hostOps0_2, List.flatten_cons, List.flatten_nil, List.append_nil, List.cons_append, List.nil_append]
  after_reads_simp
  rfl

theorem entryX5 (c : Dev nD) : @Eq (FVec Ideal S256x1024 .bf16) (V m c main_v5)
    (truncf .bf16 (shapeCast S256x1024 (m ((c : Thread nD τ).loc main_arg2) : FVec Ideal S16x16x4x256 .f32) shapeCasts_S16x16x4x256_S256x1024) bitsLt_bf16_f32) := by
  unfold V
  simp only [hostOps0, hostOps0_1, hostOps0_2, List.flatten_cons, List.flatten_nil, List.append_nil, List.cons_append, List.nil_append]
  after_reads_simp
  rfl

theorem entryX6 (c : Dev nD) : @Eq (FVec Ideal S256x1024 .f32) (V m c main_v6)
    (shapeCast S256x1024 (m ((c : Thread nD τ).loc main_arg3) : FVec Ideal S16x16x4x256 .f32) shapeCasts_S16x16x4x256_S256x1024) := by
  unfold V
  simp only [hostOps0, hostOps0_1, hostOps0_2, List.flatten_cons, List.flatten_nil, List.append_nil, List.cons_append, List.nil_append]
  after_reads_simp
  rfl

theorem entryX7 (c : Dev nD) : @Eq (FVec Ideal S16x4x128x256 .f32) (V m c main_v7)
    (shapeCast S16x4x128x256 (m ((c : Thread nD τ).loc main_arg4) : FVec Ideal S1x16x4x128x256 .f32) shapeCasts_S1x16x4x128x256_S16x4x128x256) := by
  unfold V
  simp only [hostOps0, hostOps0_1, hostOps0_2, List.flatten_cons, List.flatten_nil, List.append_nil, List.cons_append, List.nil_append]
  after_reads_simp
  rfl

theorem entryX31 (c : Dev nD) (g : Fin 4) (l n : Fin 16) :
    (V m c main_v31 : FVec Ideal S4x16x16 .f32) (ix3 g l n) = ((between g l.val n.val : ℝ) : EReal) := by
  rw [← ia_eq l.val n.val (by omega) (by omega) g]
  unfold V
  simp only [hostOps0, hostOps0_1, hostOps0_2, List.flatten_cons, List.flatten_nil, List.append_nil, List.cons_append, List.nil_append]
  after_reads_simp
  show select (broadcastInDim S4x16x16 ![1, 2] bcast_S16x16_S4x16x16_1_2
      (cmpf .oge
        (subf
          (broadcastInDim S16x16 ![0, 1] bcast_S16x1_S16x16_0_1
            (broadcastInDim S16x1 ![0] bcast_S16_S16x1_0 (sitofp (F := Ideal) .f32 (iotaInDim S16 32 0))))
          (broadcastInDim S16x16 ![0, 1] bcast_S1x16_S16x16_0_1
            (broadcastInDim S1x16 ![1] bcast_S16_S1x16_1 (sitofp .f32 (iotaInDim S16 32 0)))))
        (broadcastInDim S16x16 ![] bcast_S_S16x16 (constant S_ .f32 0#32))))
    (Host.exp
      (mulf
        (broadcastInDim S4x16x16 ![0, 1, 2] bcast_S1x16x16_S4x16x16_0_1_2
          (broadcastInDim S1x16x16 ![1, 2] bcast_S16x16_S1x16x16_1_2
            (maximumf
              (subf
                (broadcastInDim S16x16 ![0, 1] bcast_S16x1_S16x16_0_1
                  (broadcastInDim S16x1 ![0] bcast_S16_S16x1_0 (sitofp .f32 (iotaInDim S16 32 0))))
                (broadcastInDim S16x16 ![0, 1] bcast_S1x16_S16x16_0_1
                  (broadcastInDim S1x16 ![1] bcast_S16_S1x16_1 (sitofp .f32 (iotaInDim S16 32 0)))))
              (broadcastInDim S16x16 ![] bcast_S_S16x16 (constant S_ .f32 0#32)))))
        (broadcastInDim S4x16x16 ![0, 1, 2] bcast_S4x1x1_S4x16x16_0_1_2
          (broadcastInDim S4x1x1 ![0] bcast_S4_S4x1x1_0
            (Host.log1p
              (Host.negf
                (Host.powf (broadcastInDim S4 ![] bcast_S_S4 (constant S_ .f32 1073741824#32))
                  (subf (broadcastInDim S4 ![] bcast_S_S4 (constant S_ .f32 3231711232#32))
                    (sitofp .f32 (iotaInDim S4 32 0)))))))))
      ) (broadcastInDim S4x16x16 ![] bcast_S_S4x16x16 (constant S_ .f32 0#32)) (ix3 g l n) = _
  pointwise

theorem entryX40 (c : Dev nD) (g : Fin 4) (l : Fin 16) :
    (V m c main_v40 : FVec Ideal S4x16x1 .f32) (ix3 g l 0) = ((decay g ^ (l.val + 1) : ℝ) : EReal) := by
  rw [← rd_eq l.val (by omega) g]
  unfold V
  simp only [hostOps0, hostOps0_1, hostOps0_2, List.flatten_cons, List.flatten_nil, List.append_nil, List.cons_append, List.nil_append]
  after_reads_simp
  pointwise

theorem entryX49 (c : Dev nD) (g : Fin 4) (l : Fin 16) :
    (V m c main_v49 : FVec Ideal S4x16x1 .f32) (ix3 g l 0) = ((decay g ^ (15 - l.val) : ℝ) : EReal) := by
  rw [← kd_eq 15 15 l.val (by norm_num) (by omega) (by omega) g, ← c15_eq]
  unfold V
  simp only [hostOps0, hostOps0_1, hostOps0_2, List.flatten_cons, List.flatten_nil, List.append_nil, List.cons_append, List.nil_append]
  after_reads_simp
  pointwise

theorem entryX52 (c : Dev nD) (g : Fin 4) :
    (V m c main_v52 : FVec Ideal S4 .f32) (ix1 g) = ((decay g ^ 16 : ℝ) : EReal) := by
  rw [← exp_mul, show (((16 : ℕ) : ℝ) : EReal) = ((16 : ℝ) : EReal) by norm_num, ← c16_eq]
  unfold V
  simp only [hostOps0, hostOps0_1, hostOps0_2, List.flatten_cons, List.flatten_nil, List.append_nil, List.cons_append, List.nil_append]
  after_reads_simp
  pointwise

/-! ## The blocks of a point -/

/-- A flattened array's row and column are the token's stream, position, head and coordinate. -/
theorem row512 (X : FVec Ideal S16x16x4x128 .f32) (r : Fin 256) (g : Fin 4) (d : Fin 128) (b : Fin 16) (s : Fin 16)
    (hr : r.val = 16 * b.val + s.val) :
    shapeCast S256x512 X shapeCasts_S16x16x4x128_S256x512 (ix2 r (slim g d)) = X (ix4 b s g d) := by
  pointwise
  have e0 : ∀ h, (⟨r.val / 16, h⟩ : Fin 16) = b := fun _ => Fin.ext (by simp only; omega)
  have e3 : ∀ h, (⟨(slim g d).val / 128, h⟩ : Fin 4) = g := fun _ => Fin.ext (by simp only [slim]; omega)
  have e4 : ∀ h, (⟨(slim g d).val % 128, h⟩ : Fin 128) = d := fun _ => Fin.ext (by simp only [slim]; omega)
  have e5 : ∀ h, (⟨r.val % 16, h⟩ : Fin 16) = s := fun _ => Fin.ext (by simp only; omega)
  simp only [e0, e3, e4, e5]

/-- A flattened array's row and column are the token's stream, position, head and coordinate. -/
theorem row1024 (X : FVec Ideal S16x16x4x256 .f32) (r : Fin 256) (g : Fin 4) (d : Fin 256) (b : Fin 16) (s : Fin 16)
    (hr : r.val = 16 * b.val + s.val) :
    shapeCast S256x1024 X shapeCasts_S16x16x4x256_S256x1024 (ix2 r (wide g d)) = X (ix4 b s g d) := by
  pointwise
  have e0 : ∀ h, (⟨r.val / 16, h⟩ : Fin 16) = b := fun _ => Fin.ext (by simp only; omega)
  have e3 : ∀ h, (⟨(wide g d).val / 256, h⟩ : Fin 4) = g := fun _ => Fin.ext (by simp only [wide]; omega)
  have e4 : ∀ h, (⟨(wide g d).val % 256, h⟩ : Fin 256) = d := fun _ => Fin.ext (by simp only [wide]; omega)
  have e5 : ∀ h, (⟨r.val % 16, h⟩ : Fin 16) = s := fun _ => Fin.ext (by simp only; omega)
  simp only [e0, e3, e4, e5]

theorem at0 (F : FVec Ideal S256x512 .bf16) (t : Fin cfg0.N) (n : Fin 16) (x : Fin 512) (r : Fin 256) (hr : r.val = 16 * t.val + n.val) :
    F (((cfg0.win 0).blk t).view.emb (ix2 n x)) = F (ix2 r x) := by
  blk_ext [idx t]

theorem blk0 (c : Dev nD) (t : Fin cfg0.N) (n : Fin 16) (g : Fin 4) (d : Fin 128) (b : Fin 16) (s : Fin 16)
    (hs : 16 * b.val + s.val = 16 * t.val + n.val) :
    (iblk m c 0 t : FVec Ideal S16x512 .bf16) (ix2 n (slim g d)) = (m ((c : Thread nD τ).loc main_arg0) : FVec Ideal S16x16x4x128 .f32) (ix4 b s g d) := by
  have ht : t.val < 16 := lt_of_lt_of_eq t.isLt N_0
  refine (at0 (V m c main_v1) t n (slim g d) ⟨16 * t.val + n.val, by omega⟩ rfl).trans ?_
  rw [entryX1]
  exact row512 _ _ g d b s hs.symm

theorem at1 (F : FVec Ideal S256x512 .bf16) (t : Fin cfg0.N) (n : Fin 16) (x : Fin 512) (r : Fin 256) (hr : r.val = 16 * t.val + n.val) :
    F (((cfg0.win 1).blk t).view.emb (ix2 n x)) = F (ix2 r x) := by
  blk_ext [idx t]

theorem blk1 (c : Dev nD) (t : Fin cfg0.N) (n : Fin 16) (g : Fin 4) (d : Fin 128) (b : Fin 16) (s : Fin 16)
    (hs : 16 * b.val + s.val = 16 * t.val + n.val) :
    (iblk m c 1 t : FVec Ideal S16x512 .bf16) (ix2 n (slim g d)) = (m ((c : Thread nD τ).loc main_arg1) : FVec Ideal S16x16x4x128 .f32) (ix4 b s g d) := by
  have ht : t.val < 16 := lt_of_lt_of_eq t.isLt N_0
  refine (at1 (V m c main_v3) t n (slim g d) ⟨16 * t.val + n.val, by omega⟩ rfl).trans ?_
  rw [entryX3]
  exact row512 _ _ g d b s hs.symm

theorem at2 (F : FVec Ideal S256x1024 .bf16) (t : Fin cfg0.N) (n : Fin 16) (x : Fin 1024) (r : Fin 256) (hr : r.val = 16 * t.val + n.val) :
    F (((cfg0.win 2).blk t).view.emb (ix2 n x)) = F (ix2 r x) := by
  blk_ext [idx t]

theorem blk2 (c : Dev nD) (t : Fin cfg0.N) (n : Fin 16) (g : Fin 4) (d : Fin 256) (b : Fin 16) (s : Fin 16)
    (hs : 16 * b.val + s.val = 16 * t.val + n.val) :
    (iblk m c 2 t : FVec Ideal S16x1024 .bf16) (ix2 n (wide g d)) = (m ((c : Thread nD τ).loc main_arg2) : FVec Ideal S16x16x4x256 .f32) (ix4 b s g d) := by
  have ht : t.val < 16 := lt_of_lt_of_eq t.isLt N_0
  refine (at2 (V m c main_v5) t n (wide g d) ⟨16 * t.val + n.val, by omega⟩ rfl).trans ?_
  rw [entryX5]
  exact row1024 _ _ g d b s hs.symm

theorem at3 (F : FVec Ideal S256x1024 .f32) (t : Fin cfg0.N) (n : Fin 16) (x : Fin 1024) (r : Fin 256) (hr : r.val = 16 * t.val + n.val) :
    F (((cfg0.win 3).blk t).view.emb (ix2 n x)) = F (ix2 r x) := by
  blk_ext [idx t]

theorem blk3 (c : Dev nD) (t : Fin cfg0.N) (n : Fin 16) (g : Fin 4) (d : Fin 256) (b : Fin 16) (s : Fin 16)
    (hs : 16 * b.val + s.val = 16 * t.val + n.val) :
    (iblk m c 3 t : FVec Ideal S16x1024 .f32) (ix2 n (wide g d)) = (m ((c : Thread nD τ).loc main_arg3) : FVec Ideal S16x16x4x256 .f32) (ix4 b s g d) := by
  have ht : t.val < 16 := lt_of_lt_of_eq t.isLt N_0
  refine (at3 (V m c main_v6) t n (wide g d) ⟨16 * t.val + n.val, by omega⟩ rfl).trans ?_
  rw [entryX6]
  exact row1024 _ _ g d b s hs.symm

theorem at4 (F : FVec Ideal S16x4x128x256 .f32) (t : Fin cfg0.N) (g : Fin 4) (d : Fin 128) (w : Fin 256) (b : Fin 16) (hb : b.val = t.val) :
    F (((cfg0.win 4).blk t).view.emb (ix4 0 g d w)) = F (ix4 b g d w) := by
  blk_ext [idx t]

/-- A stream's state. -/
theorem rowState (X : FVec Ideal S1x16x4x128x256 .f32) (b : Fin 16) (g : Fin 4) (d : Fin 128) (w : Fin 256) :
    shapeCast S16x4x128x256 X shapeCasts_S1x16x4x128x256_S16x4x128x256 (ix4 b g d w) = X (ix5 0 b g d w) := by
  pointwise

theorem blk4 (c : Dev nD) (t : Fin cfg0.N) (g : Fin 4) (d : Fin 128) (w : Fin 256) (b : Fin 16) (hb : b.val = t.val) :
    (iblk m c 4 t : FVec Ideal S1x4x128x256 .f32) (ix4 0 g d w) = (m ((c : Thread nD τ).loc main_arg4) : FVec Ideal S1x16x4x128x256 .f32) (ix5 0 b g d w) := by
  refine (at4 (V m c main_v7) t g d w b hb).trans ?_
  rw [entryX7]
  exact rowState _ b g d w

theorem at5 (F : FVec Ideal S4x16x16 .f32) (t : Fin cfg0.N) (g : Fin 4) (l n : Fin 16) :
    F (((cfg0.win 5).blk t).view.emb (ix3 g l n)) = F (ix3 g l n) := by
  blk_ext [idx t]

theorem blk5 (c : Dev nD) (t : Fin cfg0.N) (g : Fin 4) (l n : Fin 16) :
    (iblk m c 5 t : FVec Ideal S4x16x16 .f32) (ix3 g l n) = ((between g l.val n.val : ℝ) : EReal) :=
  (at5 (V m c main_v31) t g l n).trans (entryX31 m c g l n)

theorem at6 (F : FVec Ideal S4x16x1 .f32) (t : Fin cfg0.N) (g : Fin 4) (l : Fin 16) :
    F (((cfg0.win 6).blk t).view.emb (ix3 g l 0)) = F (ix3 g l 0) := by
  blk_ext [idx t]

theorem blk6 (c : Dev nD) (t : Fin cfg0.N) (g : Fin 4) (l : Fin 16) :
    (iblk m c 6 t : FVec Ideal S4x16x1 .f32) (ix3 g l 0) = ((decay g ^ (l.val + 1) : ℝ) : EReal) :=
  (at6 (V m c main_v40) t g l).trans (entryX40 m c g l)

theorem at7 (F : FVec Ideal S4x16x1 .f32) (t : Fin cfg0.N) (g : Fin 4) (l : Fin 16) :
    F (((cfg0.win 7).blk t).view.emb (ix3 g l 0)) = F (ix3 g l 0) := by
  blk_ext [idx t]

theorem blk7 (c : Dev nD) (t : Fin cfg0.N) (g : Fin 4) (l : Fin 16) :
    (iblk m c 7 t : FVec Ideal S4x16x1 .f32) (ix3 g l 0) = ((decay g ^ (15 - l.val) : ℝ) : EReal) :=
  (at7 (V m c main_v49) t g l).trans (entryX49 m c g l)

theorem at8 (F : FVec Ideal S4 .f32) (t : Fin cfg0.N) (g : Fin 4) :
    F (((cfg0.win 8).blk t).view.emb (ix1 g)) = F (ix1 g) := by
  blk_ext [idx t]

theorem blk8 (c : Dev nD) (t : Fin cfg0.N) (g : Fin 4) :
    (iblk m c 8 t : FVec Ideal S4 .f32) (ix1 g) = ((decay g ^ 16 : ℝ) : EReal) :=
  (at8 (V m c main_v52) t g).trans (entryX52 m c g)

end Cert.RetentionSampleIdeal.Sample
-- ==== Proof.SamplePoints.lean ====
module

public import proofs.«01_k».proof.Proof.Gen.RetentionSampleIdeal.Value
public import proofs.«01_k».proof.Proof.Gen.ReferenceRetentionSampleIdeal.Run
public import proofs.«01_k».proof.Proof.SampleEntry
public import proofs.«01_k».proof.Proof.Points
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

namespace Cert.RetentionSampleIdeal.Sample

section reference

open Cert.ReferenceRetentionSampleIdeal Cert.ReferenceRetentionSampleIdeal.Gen Cert.Retention Idealize.ShloMosaic

/-- The chunk's output and the state after it, and the output under its gate, as the reference computes them. -/
abbrev refChunk (x0 x1 : FVec Ideal S16x16x4x128 .f32) (x2 : FVec Ideal S16x16x4x256 .f32) (x4 : FVec Ideal S1x16x4x128x256 .f32) : FVec Ideal S16x16x4x256 .f32 :=
  addf (transpose S16x16x4x256 [0, 3, 1, 2] (Host.dotGeneral dot_S16x16x4x256_S16x4x16x16_S16x4x256x16_1_3_3_2_02_01 none x2 (mulf (Host.dotGeneral dot_S16x16x4x128_S16x16x4x128_S16x4x16x16_3_3_1_1_02_02 none x0 x1) (broadcastInDim S16x4x16x16 ![0, 1, 2, 3] bcast_S1x4x16x16_S16x4x16x16_0_1_2_3 (broadcastInDim S1x4x16x16 ![1, 2, 3] bcast_S4x16x16_S1x4x16x16_1_2_3 (select (broadcastInDim S4x16x16 ![1, 2] bcast_S16x16_S4x16x16_1_2 (cmpf .oge (subf (broadcastInDim S16x16 ![0, 1] bcast_S16x1_S16x16_0_1 (broadcastInDim S16x1 ![0] bcast_S16_S16x1_0 (sitofp .f32 (iotaInDim S16 32 0)))) (broadcastInDim S16x16 ![0, 1] bcast_S1x16_S16x16_0_1 (broadcastInDim S1x16 ![1] bcast_S16_S1x16_1 (sitofp .f32 (iotaInDim S16 32 0)))) : FVec Ideal S16x16 .f32) (broadcastInDim S16x16 ![] bcast_S_S16x16 (constant S_ .f32 0x00000000#32)))) (Host.exp (mulf (broadcastInDim S4x16x16 ![0, 1, 2] bcast_S1x16x16_S4x16x16_0_1_2 (broadcastInDim S1x16x16 ![1, 2] bcast_S16x16_S1x16x16_1_2 (maximumf (subf (broadcastInDim S16x16 ![0, 1] bcast_S16x1_S16x16_0_1 (broadcastInDim S16x1 ![0] bcast_S16_S16x1_0 (sitofp .f32 (iotaInDim S16 32 0)))) (broadcastInDim S16x16 ![0, 1] bcast_S1x16_S16x16_0_1 (broadcastInDim S1x16 ![1] bcast_S16_S1x16_1 (sitofp .f32 (iotaInDim S16 32 0))))) (broadcastInDim S16x16 ![] bcast_S_S16x16 (constant S_ .f32 0x00000000#32))))) (broadcastInDim S4x16x16 ![0, 1, 2] bcast_S4x1x1_S4x16x16_0_1_2 (broadcastInDim S4x1x1 ![0] bcast_S4_S4x1x1_0 (Host.log1p (Host.negf (Host.powf (broadcastInDim S4 ![] bcast_S_S4 (constant S_ .f32 0x40000000#32)) (subf (broadcastInDim S4 ![] bcast_S_S4 (constant S_ .f32 0xC0A00000#32)) (sitofp .f32 (iotaInDim S4 32 0)))))))))) (broadcastInDim S4x16x16 ![] bcast_S_S4x16x16 (id (constant S_ .f32 0x00000000#32)))))))) transposes_S16x4x256x16_S16x16x4x256_0_3_1_2) (mulf (transpose S16x16x4x256 [0, 3, 1, 2] (Host.dotGeneral dot_S16x4x128x256_S16x16x4x128_S16x4x256x16_2_3_3_1_01_02 none (shapeCast S16x4x128x256 x4 shapeCasts_S1x16x4x128x256_S16x4x128x256) x0) transposes_S16x4x256x16_S16x16x4x256_0_3_1_2) (broadcastInDim S16x16x4x256 ![0, 1, 2, 3] bcast_S1x16x4x1_S16x16x4x256_0_1_2_3 (broadcastInDim S1x16x4x1 ![1, 2] bcast_S16x4_S1x16x4x1_1_2 (Host.exp (mulf (broadcastInDim S16x4 ![0, 1] bcast_S16x1_S16x4_0_1 (addf (broadcastInDim S16x1 ![0] bcast_S16_S16x1_0 (sitofp .f32 (iotaInDim S16 32 0))) (broadcastInDim S16x1 ![] bcast_S_S16x1 (constant S_ .f32 0x3F800000#32)))) (broadcastInDim S16x4 ![0, 1] bcast_S1x4_S16x4_0_1 (broadcastInDim S1x4 ![1] bcast_S4_S1x4_1 (Host.log1p (Host.negf (Host.powf (broadcastInDim S4 ![] bcast_S_S4 (constant S_ .f32 0x40000000#32)) (subf (broadcastInDim S4 ![] bcast_S_S4 (constant S_ .f32 0xC0A00000#32)) (sitofp .f32 (iotaInDim S4 32 0)))))))))))))

abbrev refState (x1 : FVec Ideal S16x16x4x128 .f32) (x2 : FVec Ideal S16x16x4x256 .f32) (x4 : FVec Ideal S1x16x4x128x256 .f32) : FVec Ideal S16x4x128x256 .f32 :=
  addf (mulf (broadcastInDim S16x4x128x256 ![0, 1, 2, 3] bcast_S1x4x1x1_S16x4x128x256_0_1_2_3 (broadcastInDim S1x4x1x1 ![1] bcast_S4_S1x4x1x1_1 (Host.exp (mulf (broadcastInDim S4 ![] bcast_S_S4 (constant S_ .f32 0x41800000#32)) (Host.log1p (Host.negf (Host.powf (broadcastInDim S4 ![] bcast_S_S4 (constant S_ .f32 0x40000000#32)) (subf (broadcastInDim S4 ![] bcast_S_S4 (constant S_ .f32 0xC0A00000#32)) (sitofp .f32 (iotaInDim S4 32 0)))))))))) (shapeCast S16x4x128x256 x4 shapeCasts_S1x16x4x128x256_S16x4x128x256)) (Host.dotGeneral dot_S16x16x4x128_S16x16x4x256_S16x4x128x256_1_1_3_3_02_02 none (mulf x1 (broadcastInDim S16x16x4x128 ![0, 1, 2, 3] bcast_S1x16x4x1_S16x16x4x128_0_1_2_3 (broadcastInDim S1x16x4x1 ![1, 2] bcast_S16x4_S1x16x4x1_1_2 (Host.exp (mulf (broadcastInDim S16x4 ![0, 1] bcast_S16x1_S16x4_0_1 (broadcastInDim S16x1 ![0] bcast_S16_S16x1_0 (subf (broadcastInDim S16 ![] bcast_S_S16 (constant S_ .f32 0x41700000#32)) (sitofp .f32 (iotaInDim S16 32 0))))) (broadcastInDim S16x4 ![0, 1] bcast_S1x4_S16x4_0_1 (broadcastInDim S1x4 ![1] bcast_S4_S1x4_1 (Host.log1p (Host.negf (Host.powf (broadcastInDim S4 ![] bcast_S_S4 (constant S_ .f32 0x40000000#32)) (subf (broadcastInDim S4 ![] bcast_S_S4 (constant S_ .f32 0xC0A00000#32)) (sitofp .f32 (iotaInDim S4 32 0))))))))))))) x2)

abbrev refGate (y x3 : FVec Ideal S16x16x4x256 .f32) : FVec Ideal S256x1024 .bf16 :=
  truncf .bf16 (shapeCast S256x1024 (shapeCast S16x16x1024 (mulf (mulf (subf y (broadcastInDim S16x16x4x256 ![0, 1, 2, 3] bcast_S16x16x4x1_S16x16x4x256_0_1_2_3 (Host.divf (broadcastInDim S16x16x4x1 ![0, 1, 2] bcast_S16x16x4_S16x16x4x1_0_1_2 (Host.reduceAdd y (constant S_ .f32 0x00000000#32) reducesTo_S16x16x4x256_S16x16x4_d3 h_S_)) (broadcastInDim S16x16x4x1 ![] bcast_S_S16x16x4x1 (constant S_ .f32 0x43800000#32))))) (broadcastInDim S16x16x4x256 ![0, 1, 2, 3] bcast_S16x16x4x1_S16x16x4x256_0_1_2_3 (Host.rsqrt (addf (Host.divf (broadcastInDim S16x16x4x1 ![0, 1, 2] bcast_S16x16x4_S16x16x4x1_0_1_2 (Host.reduceAdd (mulf (subf y (broadcastInDim S16x16x4x256 ![0, 1, 2, 3] bcast_S16x16x4x1_S16x16x4x256_0_1_2_3 (Host.divf (broadcastInDim S16x16x4x1 ![0, 1, 2] bcast_S16x16x4_S16x16x4x1_0_1_2 (Host.reduceAdd y (constant S_ .f32 0x00000000#32) reducesTo_S16x16x4x256_S16x16x4_d3 h_S_)) (broadcastInDim S16x16x4x1 ![] bcast_S_S16x16x4x1 (constant S_ .f32 0x43800000#32))))) (subf y (broadcastInDim S16x16x4x256 ![0, 1, 2, 3] bcast_S16x16x4x1_S16x16x4x256_0_1_2_3 (Host.divf (broadcastInDim S16x16x4x1 ![0, 1, 2] bcast_S16x16x4_S16x16x4x1_0_1_2 (Host.reduceAdd y (constant S_ .f32 0x00000000#32) reducesTo_S16x16x4x256_S16x16x4_d3 h_S_)) (broadcastInDim S16x16x4x1 ![] bcast_S_S16x16x4x1 (constant S_ .f32 0x43800000#32)))))) (constant S_ .f32 0x00000000#32) reducesTo_S16x16x4x256_S16x16x4_d3 h_S_)) (broadcastInDim S16x16x4x1 ![] bcast_S_S16x16x4x1 (constant S_ .f32 0x43800000#32))) (broadcastInDim S16x16x4x1 ![] bcast_S_S16x16x4x1 (constant S_ .f32 0x358637BD#32)))))) (mulf x3 (Host.divf (broadcastInDim S16x16x4x256 ![] bcast_S_S16x16x4x256 (constant S_ .f32 0x3F800000#32)) (addf (broadcastInDim S16x16x4x256 ![] bcast_S_S16x16x4x256 (constant S_ .f32 0x3F800000#32)) (Host.exp (Host.negf x3)))))) shapeCasts_S16x16x4x256_S16x16x1024) shapeCasts_S16x16x1024_S256x1024) bitsLt_bf16_f32

/-- One stream's chunk. -/
abbrev outRow (x0 x1 : FVec Ideal S16x16x4x128 .f32) (x2 : FVec Ideal S16x16x4x256 .f32) (x4 : FVec Ideal S1x16x4x128x256 .f32) (b : Fin 16) (g : Fin 4) (l : Fin 16) (w : Fin 256) : EReal :=
  chunkOut (fun n d => x0 (ix4 b n g d)) (fun n d => x1 (ix4 b n g d)) (fun n w => x2 (ix4 b n g w)) (fun d w => x4 (ix5 0 b g d w))
    (fun l n => ((between g l.val n.val : ℝ) : EReal)) (fun n => ((decay g ^ (n.val + 1) : ℝ) : EReal)) l w

theorem refChunk_at (x0 x1 : FVec Ideal S16x16x4x128 .f32) (x2 : FVec Ideal S16x16x4x256 .f32) (x4 : FVec Ideal S1x16x4x128x256 .f32) (b : Fin 16) (l : Fin 16) (g : Fin 4) (w : Fin 256) :
    refChunk x0 x1 x2 x4 (ix4 b l g w) = outRow x0 x1 x2 x4 b g l w := by
  have hia : (fun (l n : Fin 16) => ((between g l.val n.val : ℝ) : EReal)) = fun l n => if num l.val - num n.val ≥ 0 then Ideal.exp (max (num l.val - num n.val) 0 * logDecay g) else 0 :=
    funext fun l => funext fun n => (ia_eq l.val n.val (by omega) (by omega) g).symm
  have hrd : (fun n : Fin 16 => ((decay g ^ (n.val + 1) : ℝ) : EReal)) = fun n => Ideal.exp ((num n.val + 1) * logDecay g) :=
    funext fun n => (rd_eq n.val (by omega) g).symm
  unfold outRow
  rw [hia, hrd]
  unfold chunkOut logDecay num
  pointwise [refChunk]
  have hz : id (constant (F := Ideal) S_ .f32 0#32) ix0 = 0 := Ideal.ofBits_zero_f32
  simp only [hz, ge_iff_le]
  exact congrArg₂ (· + ·) (Finset.sum_congr rfl fun x _ => mul_comm _ _)
    (congrArg (· * _) (Finset.sum_congr rfl fun x _ => mul_comm _ _))

theorem refState_at (x1 : FVec Ideal S16x16x4x128 .f32) (x2 : FVec Ideal S16x16x4x256 .f32) (x4 : FVec Ideal S1x16x4x128x256 .f32) (b : Fin 16) (g : Fin 4) (d : Fin 128) (w : Fin 256) :
    refState x1 x2 x4 (ix4 b g d w) = chunkState (fun n d => x1 (ix4 b n g d)) (fun n w => x2 (ix4 b n g w)) (fun d w => x4 (ix5 0 b g d w))
      (fun n : Fin 16 => ((decay g ^ (15 - n.val) : ℝ) : EReal)) ((decay g ^ 16 : ℝ) : EReal) d w := by
  have hkd : (fun n : Fin 16 => ((decay g ^ (15 - n.val) : ℝ) : EReal)) = fun n => Ideal.exp ((Ideal.ofBits .f32 0x41700000#32 - num n.val) * logDecay g) :=
    funext fun n => by rw [c15_eq, kd_eq 15 15 n.val (by norm_num) (by omega) (by omega)]
  have hsd : ((decay g ^ 16 : ℝ) : EReal) = Ideal.exp (Ideal.ofBits .f32 0x41800000#32 * logDecay g) := by
    rw [c16_eq, show ((16 : ℝ) : EReal) = (((16 : ℕ) : ℝ) : EReal) by norm_num, exp_mul]
  rw [hkd, hsd]
  unfold chunkState logDecay num
  pointwise [refState]

theorem refGate_at (y x3 : FVec Ideal S16x16x4x256 .f32) (b : Fin 16) (s : Fin 16) (g : Fin 4) (w : Fin 256) (r : Fin 256) (hr : r.val = 16 * b.val + s.val) :
    refGate y x3 (ix2 r (wide g w)) = gated (fun w => y (ix4 b s g w)) (fun w => x3 (ix4 b s g w)) w := by
  unfold gated normed
  pointwise [refGate]
  have e0 : ∀ h, (⟨r.val / 16, h⟩ : Fin 16) = b := fun _ => Fin.ext (by simp only; omega)
  have e3 : ∀ h, (⟨(wide g w).val / 256, h⟩ : Fin 4) = g := fun _ => Fin.ext (by simp only [wide]; omega)
  have e4 : ∀ h, (⟨(wide g w).val % 256, h⟩ : Fin 256) = w := fun _ => Fin.ext (by simp only [wide]; omega)
  have e5 : ∀ h, (⟨r.val % 16, h⟩ : Fin 16) = s := fun _ => Fin.ext (by simp only; omega)
  simp only [e0, e3, e4, e5]
  rfl

end reference

open Cert.RetentionSampleIdeal Cert.RetentionSampleIdeal.Gen Cert.Retention Idealize.ShloMosaic Idealize.ShloMosaic.TcCoe Idealize.SL.Sem
open Idealize.ShloMosaic.Pipeline (Dat)
open Cert.KernelIdeal.Block (head channel wide_head chunkState_congr gated_congr)

variable (m : (ℓ : Loc nD τ sig) → Buf (Elt Ideal) ℓ)

/-- The queries, keys, values, gates and states a core is launched with. -/
abbrev aq (c : Dev nD) : FVec Ideal S16x16x4x128 .f32 := m ((c : Thread nD τ).loc main_arg0)
abbrev ak (c : Dev nD) : FVec Ideal S16x16x4x128 .f32 := m ((c : Thread nD τ).loc main_arg1)
abbrev av (c : Dev nD) : FVec Ideal S16x16x4x256 .f32 := m ((c : Thread nD τ).loc main_arg2)
abbrev ar (c : Dev nD) : FVec Ideal S16x16x4x256 .f32 := m ((c : Thread nD τ).loc main_arg3)
abbrev ast (c : Dev nD) : FVec Ideal S1x16x4x128x256 .f32 := m ((c : Thread nD τ).loc main_arg4)

theorem chunkOut_congr {L : ℕ} {q q' k k' : Fin L → Fin 128 → EReal} {v v' : Fin L → Fin 256 → EReal} {st st' : Fin 128 → Fin 256 → EReal}
    {ia ia' : Fin L → Fin L → EReal} {rd rd' : Fin L → EReal}
    (hq : ∀ n d, q n d = q' n d) (hk : ∀ n d, k n d = k' n d) (hv : ∀ n w, v n w = v' n w)
    (hst : ∀ d w, st d w = st' d w) (hia : ∀ l n, ia l n = ia' l n) (hrd : ∀ n, rd n = rd' n) (l : Fin L) (w : Fin 256) :
    chunkOut q k v st ia rd l w = chunkOut q' k' v' st' ia' rd' l w := by
  rw [funext fun n => funext (hq n), funext fun n => funext (hk n), funext fun n => funext (hv n), funext fun n => funext (hst n),
    funext fun n => funext (hia n), funext hrd]

theorem at9 (F : FVec Ideal S256x1024 .bf16) (t : Fin cfg0.N) (n : Fin 16) (x : Fin 1024) (r : Fin 256) (hr : r.val = 16 * t.val + n.val) :
    F (((cfg0.win 9).blk t).view.emb (ix2 n x)) = F (ix2 r x) := by
  blk_ext [idx t]

theorem at10 (F : FVec Ideal S16x4x128x256 .f32) (t : Fin cfg0.N) (b : Fin 16) (ht : b.val = t.val) (g : Fin 4) (d : Fin 128) (w : Fin 256) :
    F (((cfg0.win 10).blk t).view.emb (ix4 0 g d w)) = F (ix4 b g d w) := by
  blk_ext [idx t]

theorem arr9 (c : Dev nD) : (dats m 0 c).arrAt 9 cfg0.N = refGate (refChunk (aq m c) (ak m c) (av m c) (ast m c)) (ar m c) := by
  refine (dats m 0 c).arrAt_eq_of_covers 9 _ (by decide +kernel) fun t hf y => ?_
  have ht : t.val < 16 := lt_of_lt_of_eq t.isLt N_0
  blk_simp
  rw [after0_9]
  have y2 : ∃ (l : Fin 16) (x : Fin 1024), y = ix2 l x := ⟨y 0, y 1, by funext a; fin_cases a <;> rfl⟩
  obtain ⟨l, x, rfl⟩ := y2
  rw [← wide_head x]
  refine (out_A m c t (head x) l (channel x)).trans ?_
  refine Eq.trans ?_ (at9 (refGate (refChunk (aq m c) (ak m c) (av m c) (ast m c)) (ar m c)) t l (wide (head x) (channel x)) ⟨16 * t.val + l.val, by omega⟩ rfl).symm
  refine Eq.trans ?_ (refGate_at _ _ ⟨t.val, ht⟩ l (head x) (channel x) _ rfl).symm
  refine congrArg₂ (gated · · (channel x)) (funext fun w => ?_) (funext fun w => blk3 m c t l (head x) w ⟨t.val, ht⟩ l rfl)
  refine Eq.trans ?_ (refChunk_at _ _ _ _ ⟨t.val, ht⟩ l (head x) w).symm
  have h0 : ∀ n d, (iblk m c 0 t : FVec Ideal S16x512 .bf16) (ix2 n (slim (head x) d)) = aq m c (ix4 ⟨t.val, ht⟩ n (head x) d) := fun n d => blk0 m c t n (head x) d ⟨t.val, ht⟩ n rfl
  have h1 : ∀ n d, (iblk m c 1 t : FVec Ideal S16x512 .bf16) (ix2 n (slim (head x) d)) = ak m c (ix4 ⟨t.val, ht⟩ n (head x) d) := fun n d => blk1 m c t n (head x) d ⟨t.val, ht⟩ n rfl
  have h2 : ∀ n d, (iblk m c 2 t : FVec Ideal S16x1024 .bf16) (ix2 n (wide (head x) d)) = av m c (ix4 ⟨t.val, ht⟩ n (head x) d) := fun n d => blk2 m c t n (head x) d ⟨t.val, ht⟩ n rfl
  have h4 : ∀ d w, (iblk m c 4 t : FVec Ideal S1x4x128x256 .f32) (ix4 0 (head x) d w) = ast m c (ix5 0 ⟨t.val, ht⟩ (head x) d w) := fun d w => blk4 m c t (head x) d w ⟨t.val, ht⟩ rfl
  have h5 : ∀ l n, (iblk m c 5 t : FVec Ideal S4x16x16 .f32) (ix3 (head x) l n) = ((between (head x) l.val n.val : ℝ) : EReal) := fun l n => blk5 m c t (head x) l n
  have h6 : ∀ n, (iblk m c 6 t : FVec Ideal S4x16x1 .f32) (ix3 (head x) n 0) = ((decay (head x) ^ (n.val + 1) : ℝ) : EReal) := fun n => blk6 m c t (head x) n
  unfold outRow
  exact chunkOut_congr h0 h1 h2 h4 h5 h6 l w

theorem arr10 (c : Dev nD) : (dats m 0 c).arrAt 10 cfg0.N = refState (ak m c) (av m c) (ast m c) := by
  refine (dats m 0 c).arrAt_eq_of_covers 10 _ (by decide +kernel) fun t hf y => ?_
  have ht : t.val < 16 := lt_of_lt_of_eq t.isLt N_0
  blk_simp
  rw [after0_10]
  have y4 : ∃ (a : Fin 1) (g : Fin 4) (d : Fin 128) (w : Fin 256), y = ix4 a g d w := ⟨y 0, y 1, y 2, y 3, by funext a; fin_cases a <;> rfl⟩
  obtain ⟨a, g, d, w, rfl⟩ := y4
  obtain rfl : a = 0 := Subsingleton.elim _ _
  refine (state_A m c t g d w).trans ?_
  refine Eq.trans ?_ (at10 (refState (ak m c) (av m c) (ast m c)) t ⟨t.val, ht⟩ rfl g d w).symm
  refine Eq.trans ?_ (refState_at _ _ _ ⟨t.val, ht⟩ g d w).symm
  have h1 : ∀ n d, (iblk m c 1 t : FVec Ideal S16x512 .bf16) (ix2 n (slim g d)) = ak m c (ix4 ⟨t.val, ht⟩ n g d) := fun n d => blk1 m c t n g d ⟨t.val, ht⟩ n rfl
  have h2 : ∀ n d, (iblk m c 2 t : FVec Ideal S16x1024 .bf16) (ix2 n (wide g d)) = av m c (ix4 ⟨t.val, ht⟩ n g d) := fun n d => blk2 m c t n g d ⟨t.val, ht⟩ n rfl
  have h4 : ∀ d w, (iblk m c 4 t : FVec Ideal S1x4x128x256 .f32) (ix4 0 g d w) = ast m c (ix5 0 ⟨t.val, ht⟩ g d w) := fun d w => blk4 m c t g d w ⟨t.val, ht⟩ rfl
  have h7 : ∀ n, (iblk m c 7 t : FVec Ideal S4x16x1 .f32) (ix3 g n 0) = ((decay g ^ (15 - n.val) : ℝ) : EReal) := fun n => blk7 m c t g n
  exact chunkState_congr h1 h2 h4 h7 (blk8 m c t g) d w

end Cert.RetentionSampleIdeal.Sample
-- ==== Proof.StreamSampleBlock.lean ====
module

public import proofs.«01_k».proof.Proof.Block
public import proofs.«01_k».proof.Proof.Gen.StreamSampleIdeal.Frame
public import Idealize.ShloMosaic.Lib.Pipeline.ValueKit
public import Idealize.ShloMosaic.Lib.Pipeline.ReadBack
public import Idealize.ShloMosaic.Lib.Pointwise

@[expose] public section

set_option maxRecDepth 16384

noncomputable section

namespace Cert.StreamSampleIdeal.Sample

open Cert.StreamSampleIdeal Cert.StreamSampleIdeal.Gen Cert.Retention Idealize.ShloMosaic Idealize.ShloMosaic.TcCoe Idealize.SL.Sem
open Idealize.ShloMosaic.Pipeline (Dat)
open Cert.KernelIdeal.Block (ld1 ld2 ld3 ld4 chunkState_congr gated_congr)

variable (Z : (c : Dev nD) → (b : Ref sig .tc) → Buf (Elt Ideal) ((c : Thread nD τ).loc b))

/-- The state block copied as it is. -/
theorem copy (X : Vec Ideal S1x4x128x256 .f32) : k1_pay3 X = X := by
  funext x; pointwise [k1_pay3]

/-- An index of one head's state is its row and its column. -/
theorem eq4 (x : S1x1x128x256.Idx) : ∃ d w, x = ix4 0 0 d w :=
  ⟨x 2, x 3, funext fun i => match i with
    | ⟨0, _⟩ => Fin.ext (by have := (x 0).isLt; simp at this ⊢)
    | ⟨1, _⟩ => Fin.ext (by have := (x 1).isLt; simp at this ⊢)
    | ⟨2, _⟩ => rfl
    | ⟨3, _⟩ => rfl⟩

/-- Head 0's new state. -/
theorem st0 (k : Vec Ideal S16x128 .bf16) (v : Vec Ideal S16x256 .bf16) (st : Vec Ideal S1x1x128x256 .f32)
    (kd : Vec Ideal S1x16x1 .f32) (sd : Elt Ideal .f32) (x : S1x1x128x256.Idx) :
    k1_pay10 (k1_pay5 v) (k1_pay6 st) (k1_pay8 k kd) (k1_pay9 sd) x
      = chunkState (fun n d => k (ix2 n d)) (fun n w => v (ix2 n w)) (fun d w => st (ix4 0 0 d w)) (fun n => kd (ix3 0 n 0)) sd (x 2) (x 3) := by
  obtain ⟨d, w, rfl⟩ := eq4 x; pointwise [k1_pay10, k1_pay5, k1_pay6, k1_pay8, k1_pay9, k1_pay4, chunkState]

theorem st1 (k : Vec Ideal S16x128 .bf16) (v : Vec Ideal S16x256 .bf16) (st : Vec Ideal S1x1x128x256 .f32)
    (kd : Vec Ideal S1x16x1 .f32) (sd : Elt Ideal .f32) (x : S1x1x128x256.Idx) :
    k1_pay16 (k1_pay13 k) (k1_pay14 v) st kd sd x
      = chunkState (fun n d => k (ix2 n d)) (fun n w => v (ix2 n w)) (fun d w => st (ix4 0 0 d w)) (fun n => kd (ix3 0 n 0)) sd (x 2) (x 3) := by
  obtain ⟨d, w, rfl⟩ := eq4 x; pointwise [k1_pay16, k1_pay13, k1_pay14, k1_pay15, chunkState]

theorem st2 (k : Vec Ideal S16x128 .bf16) (v : Vec Ideal S16x256 .bf16) (st : Vec Ideal S1x1x128x256 .f32)
    (kd : Vec Ideal S1x16x1 .f32) (sd : Elt Ideal .f32) (x : S1x1x128x256.Idx) :
    k1_pay27 (k1_pay21 k) (k1_pay22 v) (k1_pay23 st) kd sd x
      = chunkState (fun n d => k (ix2 n d)) (fun n w => v (ix2 n w)) (fun d w => st (ix4 0 0 d w)) (fun n => kd (ix3 0 n 0)) sd (x 2) (x 3) := by
  obtain ⟨d, w, rfl⟩ := eq4 x; pointwise [k1_pay27, k1_pay21, k1_pay22, k1_pay23, chunkState]

theorem st3 (k : Vec Ideal S16x128 .bf16) (v : Vec Ideal S16x256 .bf16) (st : Vec Ideal S1x1x128x256 .f32)
    (kd : Vec Ideal S1x16x1 .f32) (sd : Elt Ideal .f32) (x : S1x1x128x256.Idx) :
    k1_pay1 (k1_pay33 k v st kd sd) x
      = chunkState (fun n d => k (ix2 n d)) (fun n w => v (ix2 n w)) (fun d w => st (ix4 0 0 d w)) (fun n => kd (ix3 0 n 0)) sd (x 2) (x 3) := by
  obtain ⟨d, w, rfl⟩ := eq4 x; pointwise [k1_pay1, k1_pay33, k1_pay29, k1_pay30, k1_pay31, chunkState]

theorem o0 (q k : Vec Ideal S16x128 .bf16) (v : Vec Ideal S16x256 .bf16) (st : Vec Ideal S1x1x128x256 .f32)
    (ia : Vec Ideal S1x16x16 .f32) (rd : Vec Ideal S1x16x1 .f32) (r : Vec Ideal S16x256 .f32) (x : S16x256.Idx) :
    k1_pay11 (k1_pay7 q k v st ia rd) r x
      = gated (chunkOut (fun n d => q (ix2 n d)) (fun n d => k (ix2 n d)) (fun n w => v (ix2 n w)) (fun d w => st (ix4 0 0 d w))
          (fun l n => ia (ix3 0 l n)) (fun n => rd (ix3 0 n 0)) (x 0)) (fun w => r (ix2 (x 0) w)) (x 1) := by
  pointwise [k1_pay11, k1_pay7, k1_pay4, k1_pay5, k1_pay6, gated, normed, chunkOut]

theorem o1 (q k : Vec Ideal S16x128 .bf16) (v : Vec Ideal S16x256 .bf16) (st : Vec Ideal S1x1x128x256 .f32)
    (ia : Vec Ideal S1x16x16 .f32) (rd : Vec Ideal S1x16x1 .f32) (r : Vec Ideal S16x256 .f32) (x : S16x256.Idx) :
    k1_pay19 (k1_pay17 (k1_pay12 q) (k1_pay13 k) (k1_pay14 v) st ia rd) (k1_pay18 (k1_pay12 q) (k1_pay13 k) (k1_pay14 v) st ia rd) r x
      = gated (chunkOut (fun n d => q (ix2 n d)) (fun n d => k (ix2 n d)) (fun n w => v (ix2 n w)) (fun d w => st (ix4 0 0 d w))
          (fun l n => ia (ix3 0 l n)) (fun n => rd (ix3 0 n 0)) (x 0)) (fun w => r (ix2 (x 0) w)) (x 1) := by
  pointwise [k1_pay19, k1_pay17, k1_pay18, k1_pay12, k1_pay13, k1_pay14, k1_pay15, gated, normed, chunkOut]

theorem o2 (q k : Vec Ideal S16x128 .bf16) (v : Vec Ideal S16x256 .bf16) (st : Vec Ideal S1x1x128x256 .f32)
    (ia : Vec Ideal S1x16x16 .f32) (rd : Vec Ideal S1x16x1 .f32) (r : Vec Ideal S16x256 .f32) (x : S16x256.Idx) :
    k1_pay28 (k1_pay24 q k v ia) (k1_pay25 q st) (k1_pay26 rd) r x
      = gated (chunkOut (fun n d => q (ix2 n d)) (fun n d => k (ix2 n d)) (fun n w => v (ix2 n w)) (fun d w => st (ix4 0 0 d w))
          (fun l n => ia (ix3 0 l n)) (fun n => rd (ix3 0 n 0)) (x 0)) (fun w => r (ix2 (x 0) w)) (x 1) := by
  pointwise [k1_pay28, k1_pay24, k1_pay25, k1_pay26, k1_pay20, k1_pay21, k1_pay22, k1_pay23, gated, normed, chunkOut]

theorem o3 (q k : Vec Ideal S16x128 .bf16) (v : Vec Ideal S16x256 .bf16) (st : Vec Ideal S1x1x128x256 .f32)
    (ia : Vec Ideal S1x16x16 .f32) (rd : Vec Ideal S1x16x1 .f32) (r : Vec Ideal S16x256 .f32) (x : S16x256.Idx) :
    k1_pay2 (k1_pay32 q k v st ia rd) r x
      = gated (chunkOut (fun n d => q (ix2 n d)) (fun n d => k (ix2 n d)) (fun n w => v (ix2 n w)) (fun d w => st (ix4 0 0 d w))
          (fun l n => ia (ix3 0 l n)) (fun n => rd (ix3 0 n 0)) (x 0)) (fun w => r (ix2 (x 0) w)) (x 1) := by
  pointwise [k1_pay2, k1_pay32, k1_pay29, k1_pay30, k1_pay31, gated, normed, chunkOut]

/-- The new state of one head from a point's blocks. -/
abbrev nextState (K : Vec Ideal S16x512 .bf16) (V : Vec Ideal S16x1024 .bf16) (S : Vec Ideal S1x4x128x256 .f32)
    (KD : Vec Ideal S4x16x1 .f32) (SD : Vec Ideal S4 .f32) (g : Fin 4) (d : Fin 128) (w : Fin 256) : EReal :=
  chunkState (fun n d => K (ix2 n (slim g d))) (fun n w => V (ix2 n (wide g w))) (fun d w => S (ix4 0 g d w))
    (fun n => KD (ix3 g n 0)) (SD (ix1 g)) d w

/-- The output of one head from a point's blocks. -/
abbrev nextOut (Q K : Vec Ideal S16x512 .bf16) (V : Vec Ideal S16x1024 .bf16) (R : Vec Ideal S16x1024 .f32)
    (S : Vec Ideal S1x4x128x256 .f32) (IA : Vec Ideal S4x16x16 .f32) (RD : Vec Ideal S4x16x1 .f32)
    (g : Fin 4) (l : Fin 16) (w : Fin 256) : EReal :=
  gated (chunkOut (fun n d => Q (ix2 n (slim g d))) (fun n d => K (ix2 n (slim g d))) (fun n w => V (ix2 n (wide g w)))
      (fun d w => S (ix4 0 g d w)) (fun l n => IA (ix3 g l n)) (fun n => RD (ix3 g n 0)) l)
    (fun w => R (ix2 l (wide g w))) w

theorem head_state0 (K : Vec Ideal S16x512 .bf16) (V : Vec Ideal S16x1024 .bf16) (S : Vec Ideal S1x4x128x256 .f32)
    (KD : Vec Ideal S4x16x1 .f32) (SD : Vec Ideal S4 .f32) (x : S1x1x128x256.Idx) (g : Fin 4) (d : Fin 128) (w : Fin 256)
    (hg : g.val = 0) (hd : d.val = (x 2).val) (hw : w.val = (x 3).val) :
    k1_pay10 (k1_pay5 (View.ld V (Rect.unit (s := S16x1024) ![0, 0] ![16, 256] inb_S16x1024_S16x256_0_0))) (k1_pay6 (View.ld S (Rect.unit (s := S1x4x128x256) ![0, 0, 0, 0] ![1, 1, 128, 256] inb_S1x4x128x256_S1x1x128x256_0_0_0_0))) (k1_pay8 (View.ld K (Rect.unit (s := S16x512) ![0, 0] ![16, 128] inb_S16x512_S16x128_0_0)) (View.ld KD (Rect.unit (s := S4x16x1) ![0, 0, 0] ![1, 16, 1] inb_S4x16x1_S1x16x1_0_0_0))) (k1_pay9 (View.ld SD (Rect.unit (s := S4) ![0] ![1] inb_S4_S1_0) (Shape.Idx.first (by decide)))) x = nextState K V S KD SD g d w := by
  obtain rfl : g = 0 := Fin.ext hg
  rw [st0, show x 2 = d from Fin.ext hd.symm, show x 3 = w from Fin.ext hw.symm]
  exact chunkState_congr (fun _ _ => ld2 K _ _ _ _) (fun _ _ => ld2 V _ _ _ _) (fun _ _ => ld4 S _ _ _ _) (fun _ => ld3 KD _ _ _ _) (ld1 SD _ _ _) _ _

theorem head_out0 (Q K : Vec Ideal S16x512 .bf16) (V : Vec Ideal S16x1024 .bf16) (R : Vec Ideal S16x1024 .f32)
    (S : Vec Ideal S1x4x128x256 .f32) (IA : Vec Ideal S4x16x16 .f32) (RD : Vec Ideal S4x16x1 .f32)
    (x : S16x256.Idx) (g : Fin 4) (l : Fin 16) (w : Fin 256)
    (hg : g.val = 0) (hl : l.val = (x 0).val) (hw : w.val = (x 1).val) :
    k1_pay11 (k1_pay7 (View.ld Q (Rect.unit (s := S16x512) ![0, 0] ![16, 128] inb_S16x512_S16x128_0_0)) (View.ld K (Rect.unit (s := S16x512) ![0, 0] ![16, 128] inb_S16x512_S16x128_0_0)) (View.ld V (Rect.unit (s := S16x1024) ![0, 0] ![16, 256] inb_S16x1024_S16x256_0_0)) (View.ld S (Rect.unit (s := S1x4x128x256) ![0, 0, 0, 0] ![1, 1, 128, 256] inb_S1x4x128x256_S1x1x128x256_0_0_0_0)) (View.ld IA (Rect.unit (s := S4x16x16) ![0, 0, 0] ![1, 16, 16] inb_S4x16x16_S1x16x16_0_0_0)) (View.ld RD (Rect.unit (s := S4x16x1) ![0, 0, 0] ![1, 16, 1] inb_S4x16x1_S1x16x1_0_0_0))) (View.ld R (Rect.unit (s := S16x1024) ![0, 0] ![16, 256] inb_S16x1024_S16x256_0_0)) x = nextOut Q K V R S IA RD g l w := by
  obtain rfl : g = 0 := Fin.ext hg
  rw [o0, show x 0 = l from Fin.ext hl.symm, show x 1 = w from Fin.ext hw.symm]
  exact gated_congr (fun _ _ => ld2 Q _ _ _ _) (fun _ _ => ld2 K _ _ _ _) (fun _ _ => ld2 V _ _ _ _) (fun _ _ => ld4 S _ _ _ _)
    (fun _ _ => ld3 IA _ _ _ _) (fun _ => ld3 RD _ _ _ _) (fun _ => ld2 R _ _ _ _) _ _

theorem head_state1 (K : Vec Ideal S16x512 .bf16) (V : Vec Ideal S16x1024 .bf16) (S : Vec Ideal S1x4x128x256 .f32)
    (KD : Vec Ideal S4x16x1 .f32) (SD : Vec Ideal S4 .f32) (x : S1x1x128x256.Idx) (g : Fin 4) (d : Fin 128) (w : Fin 256)
    (hg : g.val = 1) (hd : d.val = (x 2).val) (hw : w.val = (x 3).val) :
    k1_pay16 (k1_pay13 (View.ld K (Rect.unit (s := S16x512) ![0, 128] ![16, 128] inb_S16x512_S16x128_0_128))) (k1_pay14 (View.ld V (Rect.unit (s := S16x1024) ![0, 256] ![16, 256] inb_S16x1024_S16x256_0_256))) (View.ld S (Rect.unit (s := S1x4x128x256) ![0, 1, 0, 0] ![1, 1, 128, 256] inb_S1x4x128x256_S1x1x128x256_0_1_0_0)) (View.ld KD (Rect.unit (s := S4x16x1) ![1, 0, 0] ![1, 16, 1] inb_S4x16x1_S1x16x1_1_0_0)) (View.ld SD (Rect.unit (s := S4) ![1] ![1] inb_S4_S1_1) (Shape.Idx.first (by decide))) x = nextState K V S KD SD g d w := by
  obtain rfl : g = 1 := Fin.ext hg
  rw [st1, show x 2 = d from Fin.ext hd.symm, show x 3 = w from Fin.ext hw.symm]
  exact chunkState_congr (fun _ _ => ld2 K _ _ _ _) (fun _ _ => ld2 V _ _ _ _) (fun _ _ => ld4 S _ _ _ _) (fun _ => ld3 KD _ _ _ _) (ld1 SD _ _ _) _ _

theorem head_out1 (Q K : Vec Ideal S16x512 .bf16) (V : Vec Ideal S16x1024 .bf16) (R : Vec Ideal S16x1024 .f32)
    (S : Vec Ideal S1x4x128x256 .f32) (IA : Vec Ideal S4x16x16 .f32) (RD : Vec Ideal S4x16x1 .f32)
    (x : S16x256.Idx) (g : Fin 4) (l : Fin 16) (w : Fin 256)
    (hg : g.val = 1) (hl : l.val = (x 0).val) (hw : w.val = (x 1).val) :
    k1_pay19 (k1_pay17 (k1_pay12 (View.ld Q (Rect.unit (s := S16x512) ![0, 128] ![16, 128] inb_S16x512_S16x128_0_128))) (k1_pay13 (View.ld K (Rect.unit (s := S16x512) ![0, 128] ![16, 128] inb_S16x512_S16x128_0_128))) (k1_pay14 (View.ld V (Rect.unit (s := S16x1024) ![0, 256] ![16, 256] inb_S16x1024_S16x256_0_256))) (View.ld S (Rect.unit (s := S1x4x128x256) ![0, 1, 0, 0] ![1, 1, 128, 256] inb_S1x4x128x256_S1x1x128x256_0_1_0_0)) (View.ld IA (Rect.unit (s := S4x16x16) ![1, 0, 0] ![1, 16, 16] inb_S4x16x16_S1x16x16_1_0_0)) (View.ld RD (Rect.unit (s := S4x16x1) ![1, 0, 0] ![1, 16, 1] inb_S4x16x1_S1x16x1_1_0_0))) (k1_pay18 (k1_pay12 (View.ld Q (Rect.unit (s := S16x512) ![0, 128] ![16, 128] inb_S16x512_S16x128_0_128))) (k1_pay13 (View.ld K (Rect.unit (s := S16x512) ![0, 128] ![16, 128] inb_S16x512_S16x128_0_128))) (k1_pay14 (View.ld V (Rect.unit (s := S16x1024) ![0, 256] ![16, 256] inb_S16x1024_S16x256_0_256))) (View.ld S (Rect.unit (s := S1x4x128x256) ![0, 1, 0, 0] ![1, 1, 128, 256] inb_S1x4x128x256_S1x1x128x256_0_1_0_0)) (View.ld IA (Rect.unit (s := S4x16x16) ![1, 0, 0] ![1, 16, 16] inb_S4x16x16_S1x16x16_1_0_0)) (View.ld RD (Rect.unit (s := S4x16x1) ![1, 0, 0] ![1, 16, 1] inb_S4x16x1_S1x16x1_1_0_0))) (View.ld R (Rect.unit (s := S16x1024) ![0, 256] ![16, 256] inb_S16x1024_S16x256_0_256)) x = nextOut Q K V R S IA RD g l w := by
  obtain rfl : g = 1 := Fin.ext hg
  rw [o1, show x 0 = l from Fin.ext hl.symm, show x 1 = w from Fin.ext hw.symm]
  exact gated_congr (fun _ _ => ld2 Q _ _ _ _) (fun _ _ => ld2 K _ _ _ _) (fun _ _ => ld2 V _ _ _ _) (fun _ _ => ld4 S _ _ _ _)
    (fun _ _ => ld3 IA _ _ _ _) (fun _ => ld3 RD _ _ _ _) (fun _ => ld2 R _ _ _ _) _ _

theorem head_state2 (K : Vec Ideal S16x512 .bf16) (V : Vec Ideal S16x1024 .bf16) (S : Vec Ideal S1x4x128x256 .f32)
    (KD : Vec Ideal S4x16x1 .f32) (SD : Vec Ideal S4 .f32) (x : S1x1x128x256.Idx) (g : Fin 4) (d : Fin 128) (w : Fin 256)
    (hg : g.val = 2) (hd : d.val = (x 2).val) (hw : w.val = (x 3).val) :
    k1_pay27 (k1_pay21 (View.ld K (Rect.unit (s := S16x512) ![0, 256] ![16, 128] inb_S16x512_S16x128_0_256))) (k1_pay22 (View.ld V (Rect.unit (s := S16x1024) ![0, 512] ![16, 256] inb_S16x1024_S16x256_0_512))) (k1_pay23 (View.ld S (Rect.unit (s := S1x4x128x256) ![0, 2, 0, 0] ![1, 1, 128, 256] inb_S1x4x128x256_S1x1x128x256_0_2_0_0))) (View.ld KD (Rect.unit (s := S4x16x1) ![2, 0, 0] ![1, 16, 1] inb_S4x16x1_S1x16x1_2_0_0)) (View.ld SD (Rect.unit (s := S4) ![2] ![1] inb_S4_S1_2) (Shape.Idx.first (by decide))) x = nextState K V S KD SD g d w := by
  obtain rfl : g = 2 := Fin.ext hg
  rw [st2, show x 2 = d from Fin.ext hd.symm, show x 3 = w from Fin.ext hw.symm]
  exact chunkState_congr (fun _ _ => ld2 K _ _ _ _) (fun _ _ => ld2 V _ _ _ _) (fun _ _ => ld4 S _ _ _ _) (fun _ => ld3 KD _ _ _ _) (ld1 SD _ _ _) _ _

theorem head_out2 (Q K : Vec Ideal S16x512 .bf16) (V : Vec Ideal S16x1024 .bf16) (R : Vec Ideal S16x1024 .f32)
    (S : Vec Ideal S1x4x128x256 .f32) (IA : Vec Ideal S4x16x16 .f32) (RD : Vec Ideal S4x16x1 .f32)
    (x : S16x256.Idx) (g : Fin 4) (l : Fin 16) (w : Fin 256)
    (hg : g.val = 2) (hl : l.val = (x 0).val) (hw : w.val = (x 1).val) :
    k1_pay28 (k1_pay24 (View.ld Q (Rect.unit (s := S16x512) ![0, 256] ![16, 128] inb_S16x512_S16x128_0_256)) (View.ld K (Rect.unit (s := S16x512) ![0, 256] ![16, 128] inb_S16x512_S16x128_0_256)) (View.ld V (Rect.unit (s := S16x1024) ![0, 512] ![16, 256] inb_S16x1024_S16x256_0_512)) (View.ld IA (Rect.unit (s := S4x16x16) ![2, 0, 0] ![1, 16, 16] inb_S4x16x16_S1x16x16_2_0_0))) (k1_pay25 (View.ld Q (Rect.unit (s := S16x512) ![0, 256] ![16, 128] inb_S16x512_S16x128_0_256)) (View.ld S (Rect.unit (s := S1x4x128x256) ![0, 2, 0, 0] ![1, 1, 128, 256] inb_S1x4x128x256_S1x1x128x256_0_2_0_0))) (k1_pay26 (View.ld RD (Rect.unit (s := S4x16x1) ![2, 0, 0] ![1, 16, 1] inb_S4x16x1_S1x16x1_2_0_0))) (View.ld R (Rect.unit (s := S16x1024) ![0, 512] ![16, 256] inb_S16x1024_S16x256_0_512)) x = nextOut Q K V R S IA RD g l w := by
  obtain rfl : g = 2 := Fin.ext hg
  rw [o2, show x 0 = l from Fin.ext hl.symm, show x 1 = w from Fin.ext hw.symm]
  exact gated_congr (fun _ _ => ld2 Q _ _ _ _) (fun _ _ => ld2 K _ _ _ _) (fun _ _ => ld2 V _ _ _ _) (fun _ _ => ld4 S _ _ _ _)
    (fun _ _ => ld3 IA _ _ _ _) (fun _ => ld3 RD _ _ _ _) (fun _ => ld2 R _ _ _ _) _ _

theorem head_state3 (K : Vec Ideal S16x512 .bf16) (V : Vec Ideal S16x1024 .bf16) (S : Vec Ideal S1x4x128x256 .f32)
    (KD : Vec Ideal S4x16x1 .f32) (SD : Vec Ideal S4 .f32) (x : S1x1x128x256.Idx) (g : Fin 4) (d : Fin 128) (w : Fin 256)
    (hg : g.val = 3) (hd : d.val = (x 2).val) (hw : w.val = (x 3).val) :
    k1_pay1 (k1_pay33 (View.ld K (Rect.unit (s := S16x512) ![0, 384] ![16, 128] inb_S16x512_S16x128_0_384)) (View.ld V (Rect.unit (s := S16x1024) ![0, 768] ![16, 256] inb_S16x1024_S16x256_0_768)) (View.ld S (Rect.unit (s := S1x4x128x256) ![0, 3, 0, 0] ![1, 1, 128, 256] inb_S1x4x128x256_S1x1x128x256_0_3_0_0)) (View.ld KD (Rect.unit (s := S4x16x1) ![3, 0, 0] ![1, 16, 1] inb_S4x16x1_S1x16x1_3_0_0)) (View.ld SD (Rect.unit (s := S4) ![3] ![1] inb_S4_S1_3) (Shape.Idx.first (by decide)))) x = nextState K V S KD SD g d w := by
  obtain rfl : g = 3 := Fin.ext hg
  rw [st3, show x 2 = d from Fin.ext hd.symm, show x 3 = w from Fin.ext hw.symm]
  exact chunkState_congr (fun _ _ => ld2 K _ _ _ _) (fun _ _ => ld2 V _ _ _ _) (fun _ _ => ld4 S _ _ _ _) (fun _ => ld3 KD _ _ _ _) (ld1 SD _ _ _) _ _

theorem head_out3 (Q K : Vec Ideal S16x512 .bf16) (V : Vec Ideal S16x1024 .bf16) (R : Vec Ideal S16x1024 .f32)
    (S : Vec Ideal S1x4x128x256 .f32) (IA : Vec Ideal S4x16x16 .f32) (RD : Vec Ideal S4x16x1 .f32)
    (x : S16x256.Idx) (g : Fin 4) (l : Fin 16) (w : Fin 256)
    (hg : g.val = 3) (hl : l.val = (x 0).val) (hw : w.val = (x 1).val) :
    k1_pay2 (k1_pay32 (View.ld Q (Rect.unit (s := S16x512) ![0, 384] ![16, 128] inb_S16x512_S16x128_0_384)) (View.ld K (Rect.unit (s := S16x512) ![0, 384] ![16, 128] inb_S16x512_S16x128_0_384)) (View.ld V (Rect.unit (s := S16x1024) ![0, 768] ![16, 256] inb_S16x1024_S16x256_0_768)) (View.ld S (Rect.unit (s := S1x4x128x256) ![0, 3, 0, 0] ![1, 1, 128, 256] inb_S1x4x128x256_S1x1x128x256_0_3_0_0)) (View.ld IA (Rect.unit (s := S4x16x16) ![3, 0, 0] ![1, 16, 16] inb_S4x16x16_S1x16x16_3_0_0)) (View.ld RD (Rect.unit (s := S4x16x1) ![3, 0, 0] ![1, 16, 1] inb_S4x16x1_S1x16x1_3_0_0))) (View.ld R (Rect.unit (s := S16x1024) ![0, 768] ![16, 256] inb_S16x1024_S16x256_0_768)) x = nextOut Q K V R S IA RD g l w := by
  obtain rfl : g = 3 := Fin.ext hg
  rw [o3, show x 0 = l from Fin.ext hl.symm, show x 1 = w from Fin.ext hw.symm]
  exact gated_congr (fun _ _ => ld2 Q _ _ _ _) (fun _ _ => ld2 K _ _ _ _) (fun _ _ => ld2 V _ _ _ _) (fun _ _ => ld4 S _ _ _ _)
    (fun _ _ => ld3 IA _ _ _ _) (fun _ => ld3 RD _ _ _ _) (fun _ => ld2 R _ _ _ _) _ _

set_option maxHeartbeats 400000

theorem state_A (c : Dev nD) (t : Fin cfg1.N) (g : Fin 4) (d : Fin 128) (w : Fin 256) :
    (outsAt1 Z c t).2 (ix4 0 g d w)
      = nextState (iblk1 Z c 1 t) (iblk1 Z c 2 t) (iblk1 Z c 4 t) (iblk1 Z c 7 t) (iblk1 Z c 8 t) g d w := by
  unfold outsAt1
  frame_open
  simp (disch := decide) only [↓ View.readCov_skip, ↓ View.readCov_cons_toLoadRect, ↓ View.readCov_fill]
  frame_out
  simp only [copy]
  refine View.canon_append_of_piecesOf (Val := Elt Ideal) (e := .f32) (s := S1x4x128x256) (fun y : S1x4x128x256.Idx => nextState (iblk1 Z c 1 t) (iblk1 Z c 2 t) (iblk1 Z c 4 t) (iblk1 Z c 7 t) (iblk1 Z c 8 t) (y 1) (y 2) (y 3))
    [_] [_, _, _, _] ⟨fun x => ?_, fun x => ?_, fun x => ?_, fun x => ?_, trivial⟩ (ix4 0 g d w) ?_
  · have x1 := (x 1).isLt
    exact head_state3 (iblk1 Z c 1 t) (iblk1 Z c 2 t) (iblk1 Z c 4 t) (iblk1 Z c 7 t) (iblk1 Z c 8 t) x _ _ _ (by rw [Rect.emb_apply]; simp [Rect.unit] at x1 ⊢) (by rw [Rect.emb_apply]; simp [Rect.unit])
      (by rw [Rect.emb_apply]; simp [Rect.unit])
  · have x1 := (x 1).isLt
    exact head_state2 (iblk1 Z c 1 t) (iblk1 Z c 2 t) (iblk1 Z c 4 t) (iblk1 Z c 7 t) (iblk1 Z c 8 t) x _ _ _ (by rw [Rect.emb_apply]; simp [Rect.unit] at x1 ⊢) (by rw [Rect.emb_apply]; simp [Rect.unit])
      (by rw [Rect.emb_apply]; simp [Rect.unit])
  · have x1 := (x 1).isLt
    exact head_state1 (iblk1 Z c 1 t) (iblk1 Z c 2 t) (iblk1 Z c 4 t) (iblk1 Z c 7 t) (iblk1 Z c 8 t) x _ _ _ (by rw [Rect.emb_apply]; simp [Rect.unit] at x1 ⊢) (by rw [Rect.emb_apply]; simp [Rect.unit])
      (by rw [Rect.emb_apply]; simp [Rect.unit])
  · have x1 := (x 1).isLt
    exact head_state0 (iblk1 Z c 1 t) (iblk1 Z c 2 t) (iblk1 Z c 4 t) (iblk1 Z c 7 t) (iblk1 Z c 8 t) x _ _ _ (by rw [Rect.emb_apply]; simp [Rect.unit] at x1 ⊢) (by rw [Rect.emb_apply]; simp [Rect.unit])
      (by rw [Rect.emb_apply]; simp [Rect.unit])
  · exact View.cover_of_tiled_head _ _ _ (by rfl) _

theorem out_A (c : Dev nD) (t : Fin cfg1.N) (g : Fin 4) (l : Fin 16) (w : Fin 256) :
    (outsAt1 Z c t).1 (ix2 l (wide g w))
      = nextOut (iblk1 Z c 0 t) (iblk1 Z c 1 t) (iblk1 Z c 2 t) (iblk1 Z c 3 t) (iblk1 Z c 4 t) (iblk1 Z c 5 t) (iblk1 Z c 6 t) g l w := by
  obtain ⟨y, hy⟩ : ∃ y : S16x1024.Idx, y = ix2 l (wide g w) := ⟨_, rfl⟩
  have a0 : (y 0).val = l.val := by rw [hy]; rfl
  have a1 : (y 1).val = 256 * g.val + w.val := by rw [hy]; rfl
  rw [← hy]
  unfold outsAt1
  clear hy
  frame_open
  simp (disch := decide) only [↓ View.readCov_skip, ↓ View.readCov_cons_toLoadRect, ↓ View.readCov_fill]
  frame_out
  simp only [copy]
  canon_tiles x h
  · exact head_out3 (iblk1 Z c 0 t) (iblk1 Z c 1 t) (iblk1 Z c 2 t) (iblk1 Z c 3 t) (iblk1 Z c 4 t) (iblk1 Z c 5 t) (iblk1 Z c 6 t) x g l w
      (by omega) (by omega) (by omega)
  · exact head_out2 (iblk1 Z c 0 t) (iblk1 Z c 1 t) (iblk1 Z c 2 t) (iblk1 Z c 3 t) (iblk1 Z c 4 t) (iblk1 Z c 5 t) (iblk1 Z c 6 t) x g l w
      (by omega) (by omega) (by omega)
  · exact head_out1 (iblk1 Z c 0 t) (iblk1 Z c 1 t) (iblk1 Z c 2 t) (iblk1 Z c 3 t) (iblk1 Z c 4 t) (iblk1 Z c 5 t) (iblk1 Z c 6 t) x g l w
      (by omega) (by omega) (by omega)
  · exact head_out0 (iblk1 Z c 0 t) (iblk1 Z c 1 t) (iblk1 Z c 2 t) (iblk1 Z c 3 t) (iblk1 Z c 4 t) (iblk1 Z c 5 t) (iblk1 Z c 6 t) x g l w
      (by omega) (by omega) (by omega)

end Cert.StreamSampleIdeal.Sample
-- ==== Proof.StreamSampleRows.lean ====
module

public import proofs.«01_k».proof.Proof.Gen.StreamSampleIdeal.Frame
public import proofs.«01_k».proof.Proof.ProjectSampleRows
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.StableHlo.RunRead

@[expose] public section

set_option maxRecDepth 16384

noncomputable section

namespace Cert.StreamSampleIdeal.Rows

open Cert.StreamSampleIdeal Cert.StreamSampleIdeal.Gen Cert.Rows Idealize.ShloMosaic Idealize.ShloMosaic.TcCoe Idealize.SL.Sem
open Idealize.ShloMosaic.Pipeline (Dat)
open Cert.ProjectSampleIdeal.Rows (columns columns_at res10 res10_at       res5 res5_at res6 res6_at res7 res7_at res8 res8_at res9 res9_at)

theorem normed_at (v0 : FVec Ideal S128x1024 .f32) (v2 : FVec Ideal S1x1024 .f32) (l : Fin 128) (k : Fin 1024) :
    (k0_pay2 v0 v2 : FVec Ideal S128x1024 .bf16) (ix2 l k) = normed (fun k => v0 (ix2 l k)) (fun k => v2 (ix2 0 k)) k := by
  pointwise [k0_pay2, normed]

theorem kept_at (x0 : Vec Ideal S128x1024 .f32) (x1 : Vec Ideal S1x1024 .f32) (x2 : Vec Ideal S1024x5888 .bf16) (x3 : Vec Ideal S1x2048 .f32) (l : Fin 128) (k : Fin 1024) :
    (k0_pay11 x0 x1 x2 x3 : FVec Ideal S128x1024 .bf16) (ix2 l k) = normed (fun k => x0 (ix2 l k)) (fun k => x1 (ix2 0 k)) k := by
  have h0 : (fun k => View.ld x0 r0_0 (ix2 l k)) = fun k => x0 (ix2 l k) := funext fun k => ld2 x0 0 _ l k l k rfl (by omega)
  have h1 : (fun k => View.ld x1 r0_1 (ix2 0 k)) = fun k => x1 (ix2 0 k) := funext fun k => ld2 x1 0 _ 0 k 0 k rfl (by omega)
  refine (normed_at (View.ld x0 r0_0) (View.ld x1 r0_1) l k).trans ?_
  rw [h0, h1]

theorem stored5 (v0 : FVec Ideal S128x1024 .f32) (v2 : FVec Ideal S1x1024 .f32) (w : FVec Ideal S1024x128 .bf16) (l : Fin 128) (j : Fin 128) :
    (k0_pay4 v0 v2 w : FVec Ideal S128x128 .f32) (ix2 l j) = (∑ k, (k0_pay2 v0 v2 : FVec Ideal S128x1024 .bf16) (ix2 l k) * w (ix2 k j)) := by
  pointwise [k0_pay4]

theorem stored6 (v0 : FVec Ideal S128x1024 .f32) (v2 : FVec Ideal S1x1024 .f32) (w : FVec Ideal S1024x128 .bf16) (l : Fin 128) (j : Fin 128) :
    (k0_pay5 v0 v2 w : FVec Ideal S128x128 .f32) (ix2 l j) = (∑ k, (k0_pay2 v0 v2 : FVec Ideal S128x1024 .bf16) (ix2 l k) * w (ix2 k j)) := by
  pointwise [k0_pay5]

theorem stored7 (h : FVec Ideal S128x1024 .bf16) (w : FVec Ideal S1024x512 .bf16) (l : Fin 128) (j : Fin 512) :
    (k0_pay6 h w : FVec Ideal S128x512 .bf16) (ix2 l j) = (∑ k, (h : FVec Ideal S128x1024 .bf16) (ix2 l k) * w (ix2 k j)) := by
  pointwise [k0_pay6]

theorem stored8 (h : FVec Ideal S128x1024 .bf16) (w : FVec Ideal S1024x512 .bf16) (l : Fin 128) (j : Fin 512) :
    (k0_pay7 h w : FVec Ideal S128x512 .bf16) (ix2 l j) = (∑ k, (h : FVec Ideal S128x1024 .bf16) (ix2 l k) * w (ix2 k j)) * Ideal.ofBits .f32 0x3DB504F3#32 := by
  pointwise [k0_pay7]

theorem stored9 (h : FVec Ideal S128x1024 .bf16) (w : FVec Ideal S1024x1024 .bf16) (l : Fin 128) (j : Fin 1024) :
    (k0_pay8 h w : FVec Ideal S128x1024 .bf16) (ix2 l j) = (∑ k, (h : FVec Ideal S128x1024 .bf16) (ix2 l k) * w (ix2 k j)) := by
  pointwise [k0_pay8]

theorem stored10 (h : FVec Ideal S128x1024 .bf16) (w : FVec Ideal S1024x1024 .bf16) (l : Fin 128) (j : Fin 1024) :
    (k0_pay9 h w : FVec Ideal S128x1024 .f32) (ix2 l j) = (∑ k, (h : FVec Ideal S128x1024 .bf16) (ix2 l k) * w (ix2 k j)) := by
  pointwise [k0_pay9]

variable (m : (ℓ : Loc nD τ sig) → Buf (Elt Ideal) ℓ) (ρ : Dev nD → PrngReg)

/-- Which block of its array each window holds at a point. -/
theorem idx : ∀ t : Fin grid0.N,
    win0_0.index t = ![t.val, 0] ∧ win0_1.index t = ![0, 0] ∧ win0_2.index t = ![0, 0] ∧ win0_3.index t = ![0, 0]
    ∧ win0_4.index t = ![t.val, 0] ∧ win0_5.index t = ![t.val, 0] ∧ win0_6.index t = ![t.val, 0] ∧ win0_7.index t = ![t.val, 0] ∧ win0_8.index t = ![t.val, 0] ∧ win0_9.index t = ![t.val, 0] ∧ win0_10.index t = ![t.val, 0] ∧ win0_11.index t = ![t.val, 0] ∧ win0_12.index t = ![t.val, 0] := by
  decide +kernel

/-- A vector laid out as a row. -/
theorem vec1024 (X : FVec Ideal S1x1024 .f32) (x : Fin 1024) :
    broadcastInDim S1x1024 ![1] bcast_S1024_S1x1024_1 (shapeCast S1024 X shapeCasts_S1x1024_S1024) (ix2 0 x) = X (ix2 0 x) := by
  pointwise

theorem vec2048 (X : FVec Ideal S1x2048 .f32) (x : Fin 2048) :
    broadcastInDim S1x2048 ![1] bcast_S2048_S1x2048_1 (shapeCast S2048 X shapeCasts_S1x2048_S2048) (ix2 0 x) = X (ix2 0 x) := by
  pointwise

/-- A row of a flattened array is a token of a stream. -/
theorem row1024 (X : FVec Ideal S16x16x1024 .f32) (r : Fin 256) (x : Fin 1024) (b : Fin 16) (s : Fin 16) (hr : r.val = 16 * b.val + s.val) :
    shapeCast S256x1024 X shapeCasts_S16x16x1024_S256x1024 (ix2 r x) = X (ix3 b s x) := by
  pointwise
  have e0 : ∀ h, (⟨r.val / 16, h⟩ : Fin 16) = b := fun _ => Fin.ext (by simp only; omega)
  have e1 : ∀ h, (⟨r.val % 16, h⟩ : Fin 16) = s := fun _ => Fin.ext (by simp only; omega)
  simp only [e0, e1]

/-- The weights of a layer of one. -/
theorem wholeS1024x5888 (X : FVec Ideal S1x1024x5888 .f32) (i : Fin 1024) (x : Fin 5888) :
    shapeCast S1024x5888 X shapeCasts_S1x1024x5888_S1024x5888 (ix2 i x) = X (ix3 0 i x) := by
  pointwise

theorem entry0 (c : Dev nD) : @Eq (FVec Ideal S256x1024 .f32) (V1 m ρ c main_v0) (shapeCast S256x1024 (m ((c : Thread nD τ).loc main_arg0) : FVec Ideal S16x16x1024 .f32) shapeCasts_S16x16x1024_S256x1024) := by
  simp only [V1, W1, hostOps0]
  after_reads_simp <;> rfl

theorem at0 (F : FVec Ideal S256x1024 .f32) (t : Fin cfg0.N) (l : Fin 128) (x : Fin 1024) (r : Fin 256) (hr : r.val = 128 * t.val + l.val) :
    F (((cfg0.win 0).blk t).view.emb (ix2 l x)) = F (ix2 r x) := by
  blk_ext [idx t]

theorem blk0 (c : Dev nD) (t : Fin cfg0.N) (l : Fin 128) (x : Fin 1024) (b : Fin 16) (s : Fin 16) (hs : 16 * b.val + s.val = 128 * t.val + l.val) :
    (iblk0 (V1 m ρ) c 0 t : FVec Ideal S128x1024 .f32) (ix2 l x) = (m ((c : Thread nD τ).loc main_arg0) : FVec Ideal S16x16x1024 .f32) (ix3 b s x) := by
  have ht : t.val < 2 := lt_of_lt_of_eq t.isLt N_0
  refine (at0 (V1 m ρ c main_v0) t l x ⟨128 * t.val + l.val, by omega⟩ rfl).trans ?_
  rw [entry0]
  exact row1024 _ _ x b s hs.symm

theorem entry1 (c : Dev nD) : @Eq (FVec Ideal S1x1024 .f32) (V1 m ρ c main_v2) (broadcastInDim S1x1024 ![1] bcast_S1024_S1x1024_1 (shapeCast S1024 (m ((c : Thread nD τ).loc main_arg4) : FVec Ideal S1x1024 .f32) shapeCasts_S1x1024_S1024)) := by
  simp only [V1, W1, hostOps0]
  after_reads_simp <;> rfl

theorem at1 (F : FVec Ideal S1x1024 .f32) (t : Fin cfg0.N)  (x : Fin 1024) :
    F (((cfg0.win 1).blk t).view.emb (ix2 0 x)) = F (ix2 0 x) := by
  blk_ext [idx t]

theorem blk1 (c : Dev nD) (t : Fin cfg0.N)  (x : Fin 1024) :
    (iblk0 (V1 m ρ) c 1 t : FVec Ideal S1x1024 .f32) (ix2 0 x) = (m ((c : Thread nD τ).loc main_arg4) : FVec Ideal S1x1024 .f32) (ix2 0 x) := by
  refine (at1 (V1 m ρ c main_v2) t x).trans ?_
  rw [entry1]
  exact vec1024 _ x

theorem entry3 (c : Dev nD) : @Eq (FVec Ideal S1x2048 .f32) (V1 m ρ c main_v6) (broadcastInDim S1x2048 ![1] bcast_S2048_S1x2048_1 (shapeCast S2048 (m ((c : Thread nD τ).loc main_arg6) : FVec Ideal S1x2048 .f32) shapeCasts_S1x2048_S2048)) := by
  simp only [V1, W1, hostOps0]
  after_reads_simp <;> rfl

theorem at3 (F : FVec Ideal S1x2048 .f32) (t : Fin cfg0.N)  (x : Fin 2048) :
    F (((cfg0.win 3).blk t).view.emb (ix2 0 x)) = F (ix2 0 x) := by
  blk_ext [idx t]

theorem blk3 (c : Dev nD) (t : Fin cfg0.N)  (x : Fin 2048) :
    (iblk0 (V1 m ρ) c 3 t : FVec Ideal S1x2048 .f32) (ix2 0 x) = (m ((c : Thread nD τ).loc main_arg6) : FVec Ideal S1x2048 .f32) (ix2 0 x) := by
  refine (at3 (V1 m ρ c main_v6) t x).trans ?_
  rw [entry3]
  exact vec2048 _ x

theorem entry2 (c : Dev nD) : @Eq (FVec Ideal S1024x5888 .bf16) (V1 m ρ c main_v4) (truncf .bf16 (shapeCast S1024x5888 (m ((c : Thread nD τ).loc main_arg5) : FVec Ideal S1x1024x5888 .f32) shapeCasts_S1x1024x5888_S1024x5888) bitsLt_bf16_f32) := by
  simp only [V1, W1, hostOps0]
  after_reads_simp <;> rfl

theorem at2 (F : FVec Ideal S1024x5888 .bf16) (t : Fin cfg0.N) (i : Fin 1024) (x : Fin 5888) :
    F (((cfg0.win 2).blk t).view.emb (ix2 i x)) = F (ix2 i x) := by
  blk_ext [idx t]

theorem blk2 (c : Dev nD) (t : Fin cfg0.N) (i : Fin 1024) (x : Fin 5888) :
    (iblk0 (V1 m ρ) c 2 t : FVec Ideal S1024x5888 .bf16) (ix2 i x) = (m ((c : Thread nD τ).loc main_arg5) : FVec Ideal S1x1024x5888 .f32) (ix3 0 i x) := by
  refine (at2 (V1 m ρ c main_v4) t i x).trans ?_
  rw [entry2]
  exact wholeS1024x5888 _ i x

theorem at5 (F : FVec Ideal S256x128 .f32) (t : Fin cfg0.N) (l : Fin 128) (x : Fin 128) (r : Fin 256) (hr : r.val = 128 * t.val + l.val) :
    F (((cfg0.win 5).blk t).view.emb (ix2 l x)) = F (ix2 r x) := by
  blk_ext [idx t]

theorem final5 (c : Dev nD) : (dat0 (V1 m ρ) c).arrAt 5 cfg0.N = res5 (columns (m ((c : Thread nD τ).loc main_arg0)) (m ((c : Thread nD τ).loc main_arg4)) (m ((c : Thread nD τ).loc main_arg5))) (m ((c : Thread nD τ).loc main_arg6)) := by
  refine (dat0 (V1 m ρ) c).arrAt_eq_of_covers 5 _ (by decide +kernel) fun t hf y => ?_
  have ht : t.val < 2 := lt_of_lt_of_eq t.isLt N_0
  blk_simp
  rw [after0_5]
  frame_out
  have y2 : ∃ (l : Fin 128) (x : Fin 128), y = ix2 l x := ⟨y 0, y 1, by funext a; fin_cases a <;> rfl⟩
  obtain ⟨l, j, rfl⟩ := y2
  have hs : 16 * (⟨(128 * t.val + l.val) / 16, by omega⟩ : Fin 16).val + (⟨(128 * t.val + l.val) % 16, by omega⟩ : Fin 16).val = 128 * t.val + l.val := by simp only; omega
  refine (stored5 (iblk0 (V1 m ρ) c 0 t) (iblk0 (V1 m ρ) c 1 t) (View.ld (iblk0 (V1 m ρ) c 2 t : FVec Ideal S1024x5888 .bf16) (Rect.unit (s := S1024x5888) ![0, 512] S1024x128.size inb_S1024x5888_S1024x128_0_512)) l j).trans ?_
  refine Eq.trans ?_ (at5 (res5 (columns (m ((c : Thread nD τ).loc main_arg0)) (m ((c : Thread nD τ).loc main_arg4)) (m ((c : Thread nD τ).loc main_arg5))) (m ((c : Thread nD τ).loc main_arg6))) t l j ⟨128 * t.val + l.val, by omega⟩ rfl).symm
  refine Eq.trans ?_ (res5_at (columns (m ((c : Thread nD τ).loc main_arg0)) (m ((c : Thread nD τ).loc main_arg4)) (m ((c : Thread nD τ).loc main_arg5))) (m ((c : Thread nD τ).loc main_arg6)) ⟨128 * t.val + l.val, by omega⟩ j _ _ hs.symm).symm
  rw [columns_at]
  exact projected_congr ⟨512 + j.val, by omega⟩ (fun k => normed_at (iblk0 (V1 m ρ) c 0 t) (iblk0 (V1 m ρ) c 1 t) l k) (fun k => blk0 m ρ c t l k _ _ hs) (fun k => blk1 m ρ c t k)
    (fun k => (ld2 (iblk0 (V1 m ρ) c 2 t) 512 _ k j k ⟨512 + j.val, by omega⟩ rfl rfl).trans (blk2 m ρ c t k _))

theorem at6 (F : FVec Ideal S256x128 .f32) (t : Fin cfg0.N) (l : Fin 128) (x : Fin 128) (r : Fin 256) (hr : r.val = 128 * t.val + l.val) :
    F (((cfg0.win 6).blk t).view.emb (ix2 l x)) = F (ix2 r x) := by
  blk_ext [idx t]

theorem final6 (c : Dev nD) : (dat0 (V1 m ρ) c).arrAt 6 cfg0.N = res6 (columns (m ((c : Thread nD τ).loc main_arg0)) (m ((c : Thread nD τ).loc main_arg4)) (m ((c : Thread nD τ).loc main_arg5))) (m ((c : Thread nD τ).loc main_arg6)) := by
  refine (dat0 (V1 m ρ) c).arrAt_eq_of_covers 6 _ (by decide +kernel) fun t hf y => ?_
  have ht : t.val < 2 := lt_of_lt_of_eq t.isLt N_0
  blk_simp
  rw [after0_6]
  frame_out
  have y2 : ∃ (l : Fin 128) (x : Fin 128), y = ix2 l x := ⟨y 0, y 1, by funext a; fin_cases a <;> rfl⟩
  obtain ⟨l, j, rfl⟩ := y2
  have hs : 16 * (⟨(128 * t.val + l.val) / 16, by omega⟩ : Fin 16).val + (⟨(128 * t.val + l.val) % 16, by omega⟩ : Fin 16).val = 128 * t.val + l.val := by simp only; omega
  refine (stored6 (iblk0 (V1 m ρ) c 0 t) (iblk0 (V1 m ρ) c 1 t) (View.ld (iblk0 (V1 m ρ) c 2 t : FVec Ideal S1024x5888 .bf16) (Rect.unit (s := S1024x5888) ![0, 640] S1024x128.size inb_S1024x5888_S1024x128_0_640)) l j).trans ?_
  refine Eq.trans ?_ (at6 (res6 (columns (m ((c : Thread nD τ).loc main_arg0)) (m ((c : Thread nD τ).loc main_arg4)) (m ((c : Thread nD τ).loc main_arg5))) (m ((c : Thread nD τ).loc main_arg6))) t l j ⟨128 * t.val + l.val, by omega⟩ rfl).symm
  refine Eq.trans ?_ (res6_at (columns (m ((c : Thread nD τ).loc main_arg0)) (m ((c : Thread nD τ).loc main_arg4)) (m ((c : Thread nD τ).loc main_arg5))) (m ((c : Thread nD τ).loc main_arg6)) ⟨128 * t.val + l.val, by omega⟩ j _ _ hs.symm).symm
  rw [columns_at]
  exact projected_congr ⟨640 + j.val, by omega⟩ (fun k => normed_at (iblk0 (V1 m ρ) c 0 t) (iblk0 (V1 m ρ) c 1 t) l k) (fun k => blk0 m ρ c t l k _ _ hs) (fun k => blk1 m ρ c t k)
    (fun k => (ld2 (iblk0 (V1 m ρ) c 2 t) 640 _ k j k ⟨640 + j.val, by omega⟩ rfl rfl).trans (blk2 m ρ c t k _))

theorem at7 (F : FVec Ideal S256x512 .bf16) (t : Fin cfg0.N) (l : Fin 128) (x : Fin 512) (r : Fin 256) (hr : r.val = 128 * t.val + l.val) :
    F (((cfg0.win 7).blk t).view.emb (ix2 l x)) = F (ix2 r x) := by
  blk_ext [idx t]

theorem final7 (c : Dev nD) : (dat0 (V1 m ρ) c).arrAt 7 cfg0.N = res7 (columns (m ((c : Thread nD τ).loc main_arg0)) (m ((c : Thread nD τ).loc main_arg4)) (m ((c : Thread nD τ).loc main_arg5))) (m ((c : Thread nD τ).loc main_arg6)) := by
  refine (dat0 (V1 m ρ) c).arrAt_eq_of_covers 7 _ (by decide +kernel) fun t hf y => ?_
  have ht : t.val < 2 := lt_of_lt_of_eq t.isLt N_0
  blk_simp
  rw [after0_7]
  frame_out
  have y2 : ∃ (l : Fin 128) (x : Fin 512), y = ix2 l x := ⟨y 0, y 1, by funext a; fin_cases a <;> rfl⟩
  obtain ⟨l, j, rfl⟩ := y2
  have hs : 16 * (⟨(128 * t.val + l.val) / 16, by omega⟩ : Fin 16).val + (⟨(128 * t.val + l.val) % 16, by omega⟩ : Fin 16).val = 128 * t.val + l.val := by simp only; omega
  refine (stored7 (k0_pay11 (iblk0 (V1 m ρ) c 0 t) (iblk0 (V1 m ρ) c 1 t) (iblk0 (V1 m ρ) c 2 t) (iblk0 (V1 m ρ) c 3 t)) (View.ld (iblk0 (V1 m ρ) c 2 t : FVec Ideal S1024x5888 .bf16) (Rect.unit (s := S1024x5888) ![0, 768] S1024x512.size inb_S1024x5888_S1024x512_0_768)) l j).trans ?_
  refine Eq.trans ?_ (at7 (res7 (columns (m ((c : Thread nD τ).loc main_arg0)) (m ((c : Thread nD τ).loc main_arg4)) (m ((c : Thread nD τ).loc main_arg5))) (m ((c : Thread nD τ).loc main_arg6))) t l j ⟨128 * t.val + l.val, by omega⟩ rfl).symm
  refine Eq.trans ?_ (res7_at (columns (m ((c : Thread nD τ).loc main_arg0)) (m ((c : Thread nD τ).loc main_arg4)) (m ((c : Thread nD τ).loc main_arg5))) (m ((c : Thread nD τ).loc main_arg6)) ⟨128 * t.val + l.val, by omega⟩ j _ _ hs.symm).symm
  rw [columns_at]
  exact projected_congr ⟨768 + j.val, by omega⟩ (fun k => kept_at (iblk0 (V1 m ρ) c 0 t) (iblk0 (V1 m ρ) c 1 t) (iblk0 (V1 m ρ) c 2 t) (iblk0 (V1 m ρ) c 3 t) l k) (fun k => blk0 m ρ c t l k _ _ hs) (fun k => blk1 m ρ c t k)
    (fun k => (ld2 (iblk0 (V1 m ρ) c 2 t) 768 _ k j k ⟨768 + j.val, by omega⟩ rfl rfl).trans (blk2 m ρ c t k _))

theorem at8 (F : FVec Ideal S256x512 .bf16) (t : Fin cfg0.N) (l : Fin 128) (x : Fin 512) (r : Fin 256) (hr : r.val = 128 * t.val + l.val) :
    F (((cfg0.win 8).blk t).view.emb (ix2 l x)) = F (ix2 r x) := by
  blk_ext [idx t]

theorem final8 (c : Dev nD) : (dat0 (V1 m ρ) c).arrAt 8 cfg0.N = res8 (columns (m ((c : Thread nD τ).loc main_arg0)) (m ((c : Thread nD τ).loc main_arg4)) (m ((c : Thread nD τ).loc main_arg5))) (m ((c : Thread nD τ).loc main_arg6)) := by
  refine (dat0 (V1 m ρ) c).arrAt_eq_of_covers 8 _ (by decide +kernel) fun t hf y => ?_
  have ht : t.val < 2 := lt_of_lt_of_eq t.isLt N_0
  blk_simp
  rw [after0_8]
  frame_out
  have y2 : ∃ (l : Fin 128) (x : Fin 512), y = ix2 l x := ⟨y 0, y 1, by funext a; fin_cases a <;> rfl⟩
  obtain ⟨l, j, rfl⟩ := y2
  have hs : 16 * (⟨(128 * t.val + l.val) / 16, by omega⟩ : Fin 16).val + (⟨(128 * t.val + l.val) % 16, by omega⟩ : Fin 16).val = 128 * t.val + l.val := by simp only; omega
  refine (stored8 (k0_pay11 (iblk0 (V1 m ρ) c 0 t) (iblk0 (V1 m ρ) c 1 t) (iblk0 (V1 m ρ) c 2 t) (iblk0 (V1 m ρ) c 3 t)) (View.ld (iblk0 (V1 m ρ) c 2 t : FVec Ideal S1024x5888 .bf16) (Rect.unit (s := S1024x5888) ![0, 1280] S1024x512.size inb_S1024x5888_S1024x512_0_1280)) l j).trans ?_
  refine Eq.trans ?_ (at8 (res8 (columns (m ((c : Thread nD τ).loc main_arg0)) (m ((c : Thread nD τ).loc main_arg4)) (m ((c : Thread nD τ).loc main_arg5))) (m ((c : Thread nD τ).loc main_arg6))) t l j ⟨128 * t.val + l.val, by omega⟩ rfl).symm
  refine Eq.trans ?_ (res8_at (columns (m ((c : Thread nD τ).loc main_arg0)) (m ((c : Thread nD τ).loc main_arg4)) (m ((c : Thread nD τ).loc main_arg5))) (m ((c : Thread nD τ).loc main_arg6)) ⟨128 * t.val + l.val, by omega⟩ j _ _ hs.symm).symm
  rw [columns_at]
  exact congrArg (· * Ideal.ofBits .f32 0x3DB504F3#32) (projected_congr ⟨1280 + j.val, by omega⟩ (fun k => kept_at (iblk0 (V1 m ρ) c 0 t) (iblk0 (V1 m ρ) c 1 t) (iblk0 (V1 m ρ) c 2 t) (iblk0 (V1 m ρ) c 3 t) l k) (fun k => blk0 m ρ c t l k _ _ hs) (fun k => blk1 m ρ c t k)
    (fun k => (ld2 (iblk0 (V1 m ρ) c 2 t) 1280 _ k j k ⟨1280 + j.val, by omega⟩ rfl rfl).trans (blk2 m ρ c t k _)))

theorem at9 (F : FVec Ideal S256x1024 .bf16) (t : Fin cfg0.N) (l : Fin 128) (x : Fin 1024) (r : Fin 256) (hr : r.val = 128 * t.val + l.val) :
    F (((cfg0.win 9).blk t).view.emb (ix2 l x)) = F (ix2 r x) := by
  blk_ext [idx t]

theorem final9 (c : Dev nD) : (dat0 (V1 m ρ) c).arrAt 9 cfg0.N = res9 (columns (m ((c : Thread nD τ).loc main_arg0)) (m ((c : Thread nD τ).loc main_arg4)) (m ((c : Thread nD τ).loc main_arg5))) (m ((c : Thread nD τ).loc main_arg6)) := by
  refine (dat0 (V1 m ρ) c).arrAt_eq_of_covers 9 _ (by decide +kernel) fun t hf y => ?_
  have ht : t.val < 2 := lt_of_lt_of_eq t.isLt N_0
  blk_simp
  rw [after0_9]
  frame_out
  have y2 : ∃ (l : Fin 128) (x : Fin 1024), y = ix2 l x := ⟨y 0, y 1, by funext a; fin_cases a <;> rfl⟩
  obtain ⟨l, j, rfl⟩ := y2
  have hs : 16 * (⟨(128 * t.val + l.val) / 16, by omega⟩ : Fin 16).val + (⟨(128 * t.val + l.val) % 16, by omega⟩ : Fin 16).val = 128 * t.val + l.val := by simp only; omega
  refine (stored9 (k0_pay11 (iblk0 (V1 m ρ) c 0 t) (iblk0 (V1 m ρ) c 1 t) (iblk0 (V1 m ρ) c 2 t) (iblk0 (V1 m ρ) c 3 t)) (View.ld (iblk0 (V1 m ρ) c 2 t : FVec Ideal S1024x5888 .bf16) (Rect.unit (s := S1024x5888) ![0, 1792] S1024x1024.size inb_S1024x5888_S1024x1024_0_1792)) l j).trans ?_
  refine Eq.trans ?_ (at9 (res9 (columns (m ((c : Thread nD τ).loc main_arg0)) (m ((c : Thread nD τ).loc main_arg4)) (m ((c : Thread nD τ).loc main_arg5))) (m ((c : Thread nD τ).loc main_arg6))) t l j ⟨128 * t.val + l.val, by omega⟩ rfl).symm
  refine Eq.trans ?_ (res9_at (columns (m ((c : Thread nD τ).loc main_arg0)) (m ((c : Thread nD τ).loc main_arg4)) (m ((c : Thread nD τ).loc main_arg5))) (m ((c : Thread nD τ).loc main_arg6)) ⟨128 * t.val + l.val, by omega⟩ j _ _ hs.symm).symm
  rw [columns_at]
  exact projected_congr ⟨1792 + j.val, by omega⟩ (fun k => kept_at (iblk0 (V1 m ρ) c 0 t) (iblk0 (V1 m ρ) c 1 t) (iblk0 (V1 m ρ) c 2 t) (iblk0 (V1 m ρ) c 3 t) l k) (fun k => blk0 m ρ c t l k _ _ hs) (fun k => blk1 m ρ c t k)
    (fun k => (ld2 (iblk0 (V1 m ρ) c 2 t) 1792 _ k j k ⟨1792 + j.val, by omega⟩ rfl rfl).trans (blk2 m ρ c t k _))

theorem at10 (F : FVec Ideal S256x1024 .f32) (t : Fin cfg0.N) (l : Fin 128) (x : Fin 1024) (r : Fin 256) (hr : r.val = 128 * t.val + l.val) :
    F (((cfg0.win 10).blk t).view.emb (ix2 l x)) = F (ix2 r x) := by
  blk_ext [idx t]

theorem final10 (c : Dev nD) : (dat0 (V1 m ρ) c).arrAt 10 cfg0.N = res10 (columns (m ((c : Thread nD τ).loc main_arg0)) (m ((c : Thread nD τ).loc main_arg4)) (m ((c : Thread nD τ).loc main_arg5))) (m ((c : Thread nD τ).loc main_arg6)) := by
  refine (dat0 (V1 m ρ) c).arrAt_eq_of_covers 10 _ (by decide +kernel) fun t hf y => ?_
  have ht : t.val < 2 := lt_of_lt_of_eq t.isLt N_0
  blk_simp
  rw [after0_10]
  frame_out
  have y2 : ∃ (l : Fin 128) (x : Fin 1024), y = ix2 l x := ⟨y 0, y 1, by funext a; fin_cases a <;> rfl⟩
  obtain ⟨l, j, rfl⟩ := y2
  have hs : 16 * (⟨(128 * t.val + l.val) / 16, by omega⟩ : Fin 16).val + (⟨(128 * t.val + l.val) % 16, by omega⟩ : Fin 16).val = 128 * t.val + l.val := by simp only; omega
  refine (stored10 (k0_pay11 (iblk0 (V1 m ρ) c 0 t) (iblk0 (V1 m ρ) c 1 t) (iblk0 (V1 m ρ) c 2 t) (iblk0 (V1 m ρ) c 3 t)) (View.ld (iblk0 (V1 m ρ) c 2 t : FVec Ideal S1024x5888 .bf16) (Rect.unit (s := S1024x5888) ![0, 2816] S1024x1024.size inb_S1024x5888_S1024x1024_0_2816)) l j).trans ?_
  refine Eq.trans ?_ (at10 (res10 (columns (m ((c : Thread nD τ).loc main_arg0)) (m ((c : Thread nD τ).loc main_arg4)) (m ((c : Thread nD τ).loc main_arg5))) (m ((c : Thread nD τ).loc main_arg6))) t l j ⟨128 * t.val + l.val, by omega⟩ rfl).symm
  refine Eq.trans ?_ (res10_at (columns (m ((c : Thread nD τ).loc main_arg0)) (m ((c : Thread nD τ).loc main_arg4)) (m ((c : Thread nD τ).loc main_arg5))) (m ((c : Thread nD τ).loc main_arg6)) ⟨128 * t.val + l.val, by omega⟩ j _ _ hs.symm).symm
  rw [columns_at]
  exact projected_congr ⟨2816 + j.val, by omega⟩ (fun k => kept_at (iblk0 (V1 m ρ) c 0 t) (iblk0 (V1 m ρ) c 1 t) (iblk0 (V1 m ρ) c 2 t) (iblk0 (V1 m ρ) c 3 t) l k) (fun k => blk0 m ρ c t l k _ _ hs) (fun k => blk1 m ρ c t k)
    (fun k => (ld2 (iblk0 (V1 m ρ) c 2 t) 2816 _ k j k ⟨2816 + j.val, by omega⟩ rfl rfl).trans (blk2 m ρ c t k _))

end Cert.StreamSampleIdeal.Rows
-- ==== Proof.StreamSampleEntry.lean ====
module

public import proofs.«01_k».proof.Proof.StreamSampleBlock
public import proofs.«01_k».proof.Proof.StreamSampleRows
public import proofs.«01_k».proof.Proof.SamplePoints
public import Idealize.ShloMosaic.Lib.Claim
public import Idealize.ShloMosaic.Lib.StableHlo.RunRead

@[expose] public section

set_option maxRecDepth 16384

noncomputable section

namespace Cert.StreamSampleIdeal.Sample

section heads

open Cert.ReferenceProjectSampleIdeal Cert.ReferenceProjectSampleIdeal.Gen Idealize.ShloMosaic

/-- The queries, keys, values and gates out of the projections. -/
abbrev heads7 (y : FVec Ideal S16x16x5888 .f32) : FVec Ideal S16x16x4x128 .f32 :=
  shapeCast S16x16x4x128 (extractStridedSlice S16x16x512 ![0, 0, 768] y slices_S16x16x5888_S16x16x512_0_0_768) shapeCasts_S16x16x512_S16x16x4x128
abbrev heads8 (y : FVec Ideal S16x16x5888 .f32) : FVec Ideal S16x16x4x128 .f32 :=
  mulf (shapeCast S16x16x4x128 (extractStridedSlice S16x16x512 ![0, 0, 1280] y slices_S16x16x5888_S16x16x512_0_0_1280) shapeCasts_S16x16x512_S16x16x4x128) (broadcastInDim S16x16x4x128 ![] bcast_S_S16x16x4x128 (constant S_ .f32 0x3DB504F3#32))
abbrev heads9 (y : FVec Ideal S16x16x5888 .f32) : FVec Ideal S16x16x4x256 .f32 :=
  shapeCast S16x16x4x256 (extractStridedSlice S16x16x1024 ![0, 0, 1792] y slices_S16x16x5888_S16x16x1024_0_0_1792) shapeCasts_S16x16x1024_S16x16x4x256
abbrev heads10 (y : FVec Ideal S16x16x5888 .f32) : FVec Ideal S16x16x4x256 .f32 :=
  shapeCast S16x16x4x256 (extractStridedSlice S16x16x1024 ![0, 0, 2816] y slices_S16x16x5888_S16x16x1024_0_0_2816) shapeCasts_S16x16x1024_S16x16x4x256

end heads

open Cert.StreamSampleIdeal Cert.StreamSampleIdeal.Gen Cert.Retention Idealize.ShloMosaic Idealize.ShloMosaic.TcCoe Idealize.SL.Sem
open Idealize.ShloMosaic.Pipeline (Dat)
open Cert.ReferenceProjectSampleIdeal (S16x16x5888)
open Cert.RetentionSampleIdeal (S16x16x4x128 S16x16x4x256)
open Cert.RetentionSampleIdeal.Gen (shapeCasts_S16x16x4x128_S256x512 shapeCasts_S16x16x4x256_S256x1024)
open Cert.RetentionSampleIdeal.Sample (c15_eq c16_eq row512 row1024 rowState)
open Cert.ProjectSampleIdeal.Rows (columns)

variable (m : (ℓ : Loc nD τ sig) → Buf (Elt Ideal) ℓ) (ρ : Dev nD → PrngReg)

/-- What the projection leaves for the queries, keys, values and gates, token by token and head by head. -/
abbrev y0 (c : Dev nD) : FVec Ideal S16x16x5888 .f32 :=
  columns (m ((c : Thread nD τ).loc main_arg0)) (m ((c : Thread nD τ).loc main_arg4)) (m ((c : Thread nD τ).loc main_arg5))
abbrev aq (c : Dev nD) : FVec Ideal S16x16x4x128 .f32 := heads7 (y0 m c)
abbrev ak (c : Dev nD) : FVec Ideal S16x16x4x128 .f32 := heads8 (y0 m c)
abbrev av (c : Dev nD) : FVec Ideal S16x16x4x256 .f32 := heads9 (y0 m c)
abbrev ar (c : Dev nD) : FVec Ideal S16x16x4x256 .f32 := heads10 (y0 m c)
abbrev ast (c : Dev nD) : FVec Ideal S1x16x4x128x256 .f32 := m ((c : Thread nD τ).loc main_arg3)

/-- Which block of its array each window holds at a point. -/
theorem idx : ∀ t : Fin grid1.N,
    (win1_0.index t 0 = t.val ∧ win1_0.index t 1 = 0) ∧ (win1_1.index t 0 = t.val ∧ win1_1.index t 1 = 0)
    ∧ (win1_2.index t 0 = t.val ∧ win1_2.index t 1 = 0) ∧ (win1_3.index t 0 = t.val ∧ win1_3.index t 1 = 0)
    ∧ (win1_4.index t 0 = t.val ∧ win1_4.index t 1 = 0 ∧ win1_4.index t 2 = 0 ∧ win1_4.index t 3 = 0)
    ∧ (win1_5.index t 0 = 0 ∧ win1_5.index t 1 = 0 ∧ win1_5.index t 2 = 0)
    ∧ (win1_6.index t 0 = 0 ∧ win1_6.index t 1 = 0 ∧ win1_6.index t 2 = 0)
    ∧ (win1_7.index t 0 = 0 ∧ win1_7.index t 1 = 0 ∧ win1_7.index t 2 = 0)
    ∧ (win1_8.index t 0 = 0)
    ∧ (win1_9.index t 0 = t.val ∧ win1_9.index t 1 = 0)
    ∧ (win1_10.index t 0 = t.val ∧ win1_10.index t 1 = 0 ∧ win1_10.index t 2 = 0 ∧ win1_10.index t 3 = 0) := by
  decide +kernel

theorem entryX1 (c : Dev nD) : @Eq (FVec Ideal S256x512 .bf16) (V5 m ρ c main_v7_3)
    (truncf .bf16 (shapeCast S256x512 (aq m c) shapeCasts_S16x16x4x128_S256x512) bitsLt_bf16_f32) :=
  ((W5_of m ρ c main_v7_3 (by decide)).trans ((W4_of m ρ c main_v7_3 (by decide)).trans ((W3_of m ρ c main_v7_3 (by decide)).trans
    (W2_arr m ρ c 7)))).trans (Cert.StreamSampleIdeal.Rows.final7 m ρ c)

theorem entryX3 (c : Dev nD) : @Eq (FVec Ideal S256x512 .bf16) (V5 m ρ c main_v7_4)
    (truncf .bf16 (shapeCast S256x512 (ak m c) shapeCasts_S16x16x4x128_S256x512) bitsLt_bf16_f32) :=
  ((W5_of m ρ c main_v7_4 (by decide)).trans ((W4_of m ρ c main_v7_4 (by decide)).trans ((W3_of m ρ c main_v7_4 (by decide)).trans
    (W2_arr m ρ c 8)))).trans (Cert.StreamSampleIdeal.Rows.final8 m ρ c)

theorem entryX5 (c : Dev nD) : @Eq (FVec Ideal S256x1024 .bf16) (V5 m ρ c main_v7_5)
    (truncf .bf16 (shapeCast S256x1024 (av m c) shapeCasts_S16x16x4x256_S256x1024) bitsLt_bf16_f32) :=
  ((W5_of m ρ c main_v7_5 (by decide)).trans ((W4_of m ρ c main_v7_5 (by decide)).trans ((W3_of m ρ c main_v7_5 (by decide)).trans
    (W2_arr m ρ c 9)))).trans (Cert.StreamSampleIdeal.Rows.final9 m ρ c)

theorem entryX6 (c : Dev nD) : @Eq (FVec Ideal S256x1024 .f32) (V5 m ρ c main_v7_6)
    (shapeCast S256x1024 (ar m c) shapeCasts_S16x16x4x256_S256x1024) :=
  ((W5_of m ρ c main_v7_6 (by decide)).trans ((W4_of m ρ c main_v7_6 (by decide)).trans ((W3_of m ρ c main_v7_6 (by decide)).trans
    (W2_arr m ρ c 10)))).trans (Cert.StreamSampleIdeal.Rows.final10 m ρ c)

theorem entryX7 (c : Dev nD) : @Eq (FVec Ideal S16x4x128x256 .f32) (V5 m ρ c main_v23)
    (shapeCast S16x4x128x256 (m ((c : Thread nD τ).loc main_arg3) : FVec Ideal S1x16x4x128x256 .f32) shapeCasts_S1x16x4x128x256_S16x4x128x256) := by
  simp only [V5, W5, W4, W3, hostOps1, hostOps1_1, hostOps1_2, List.flatten_cons, List.flatten_nil, List.append_nil, List.cons_append, List.nil_append]
  after_reads_simp
  rw [W2_args m ρ c main_arg3 (by decide)]
  rfl

theorem entryX31 (c : Dev nD) (g : Fin 4) (l n : Fin 16) :
    (V5 m ρ c main_v47 : FVec Ideal S4x16x16 .f32) (ix3 g l n) = ((between g l.val n.val : ℝ) : EReal) := by
  rw [← ia_eq l.val n.val (by omega) (by omega) g]
  simp only [V5, W5, W4, W3, hostOps1, hostOps1_1, hostOps1_2, List.flatten_cons, List.flatten_nil, List.append_nil, List.cons_append, List.nil_append]
  after_reads_simp
  show select (broadcastInDim S4x16x16 ![1, 2] bcast_S16x16_S4x16x16_1_2
      (cmpf .oge
        (subf
          (broadcastInDim S16x16 ![0, 1] bcast_S16x1_S16x16_0_1
            (broadcastInDim S16x1 ![0] bcast_S16_S16x1_0 (sitofp (F := Ideal) .f32 (iotaInDim S16 32 0))))
          (broadcastInDim S16x16 ![0, 1] bcast_S1x16_S16x16_0_1
            (broadcastInDim S1x16 ![1] bcast_S16_S1x16_1 (sitofp .f32 (iotaInDim S16 32 0)))))
        (broadcastInDim S16x16 ![] bcast_S_S16x16 (constant S_ .f32 0#32))))
    (Host.exp
      (mulf
        (broadcastInDim S4x16x16 ![0, 1, 2] bcast_S1x16x16_S4x16x16_0_1_2
          (broadcastInDim S1x16x16 ![1, 2] bcast_S16x16_S1x16x16_1_2
            (maximumf
              (subf
                (broadcastInDim S16x16 ![0, 1] bcast_S16x1_S16x16_0_1
                  (broadcastInDim S16x1 ![0] bcast_S16_S16x1_0 (sitofp .f32 (iotaInDim S16 32 0))))
                (broadcastInDim S16x16 ![0, 1] bcast_S1x16_S16x16_0_1
                  (broadcastInDim S1x16 ![1] bcast_S16_S1x16_1 (sitofp .f32 (iotaInDim S16 32 0)))))
              (broadcastInDim S16x16 ![] bcast_S_S16x16 (constant S_ .f32 0#32)))))
        (broadcastInDim S4x16x16 ![0, 1, 2] bcast_S4x1x1_S4x16x16_0_1_2
          (broadcastInDim S4x1x1 ![0] bcast_S4_S4x1x1_0
            (Host.log1p
              (Host.negf
                (Host.powf (broadcastInDim S4 ![] bcast_S_S4 (constant S_ .f32 1073741824#32))
                  (subf (broadcastInDim S4 ![] bcast_S_S4 (constant S_ .f32 3231711232#32))
                    (sitofp .f32 (iotaInDim S4 32 0)))))))))
      ) (broadcastInDim S4x16x16 ![] bcast_S_S4x16x16 (constant S_ .f32 0#32)) (ix3 g l n) = _
  pointwise

theorem entryX40 (c : Dev nD) (g : Fin 4) (l : Fin 16) :
    (V5 m ρ c main_v56 : FVec Ideal S4x16x1 .f32) (ix3 g l 0) = ((decay g ^ (l.val + 1) : ℝ) : EReal) := by
  rw [← rd_eq l.val (by omega) g]
  simp only [V5, W5, W4, W3, hostOps1, hostOps1_1, hostOps1_2, List.flatten_cons, List.flatten_nil, List.append_nil, List.cons_append, List.nil_append]
  after_reads_simp
  pointwise

theorem entryX49 (c : Dev nD) (g : Fin 4) (l : Fin 16) :
    (V5 m ρ c main_v65 : FVec Ideal S4x16x1 .f32) (ix3 g l 0) = ((decay g ^ (15 - l.val) : ℝ) : EReal) := by
  rw [← kd_eq 15 15 l.val (by norm_num) (by omega) (by omega) g, ← c15_eq]
  simp only [V5, W5, W4, W3, hostOps1, hostOps1_1, hostOps1_2, List.flatten_cons, List.flatten_nil, List.append_nil, List.cons_append, List.nil_append]
  after_reads_simp
  pointwise

theorem entryX52 (c : Dev nD) (g : Fin 4) :
    (V5 m ρ c main_v68 : FVec Ideal S4 .f32) (ix1 g) = ((decay g ^ 16 : ℝ) : EReal) := by
  rw [← exp_mul, show (((16 : ℕ) : ℝ) : EReal) = ((16 : ℝ) : EReal) by norm_num, ← c16_eq]
  simp only [V5, W5, W4, W3, hostOps1, hostOps1_1, hostOps1_2, List.flatten_cons, List.flatten_nil, List.append_nil, List.cons_append, List.nil_append]
  after_reads_simp
  pointwise

/-! ## The blocks of a point -/

theorem at0 (F : FVec Ideal S256x512 .bf16) (t : Fin cfg1.N) (n : Fin 16) (x : Fin 512) (r : Fin 256) (hr : r.val = 16 * t.val + n.val) :
    F (((cfg1.win 0).blk t).view.emb (ix2 n x)) = F (ix2 r x) := by
  blk_ext [idx t]

theorem blk0 (c : Dev nD) (t : Fin cfg1.N) (n : Fin 16) (g : Fin 4) (d : Fin 128) (b : Fin 16) (s : Fin 16)
    (hs : 16 * b.val + s.val = 16 * t.val + n.val) :
    (iblk1 (V5 m ρ) c 0 t : FVec Ideal S16x512 .bf16) (ix2 n (slim g d)) = (aq m c) (ix4 b s g d) := by
  have ht : t.val < 16 := lt_of_lt_of_eq t.isLt N_1
  refine (at0 (V5 m ρ c main_v7_3) t n (slim g d) ⟨16 * t.val + n.val, by omega⟩ rfl).trans ?_
  rw [entryX1]
  exact row512 (aq m c) ⟨16 * t.val + n.val, by omega⟩ g d b s hs.symm

theorem at1 (F : FVec Ideal S256x512 .bf16) (t : Fin cfg1.N) (n : Fin 16) (x : Fin 512) (r : Fin 256) (hr : r.val = 16 * t.val + n.val) :
    F (((cfg1.win 1).blk t).view.emb (ix2 n x)) = F (ix2 r x) := by
  blk_ext [idx t]

theorem blk1 (c : Dev nD) (t : Fin cfg1.N) (n : Fin 16) (g : Fin 4) (d : Fin 128) (b : Fin 16) (s : Fin 16)
    (hs : 16 * b.val + s.val = 16 * t.val + n.val) :
    (iblk1 (V5 m ρ) c 1 t : FVec Ideal S16x512 .bf16) (ix2 n (slim g d)) = (ak m c) (ix4 b s g d) := by
  have ht : t.val < 16 := lt_of_lt_of_eq t.isLt N_1
  refine (at1 (V5 m ρ c main_v7_4) t n (slim g d) ⟨16 * t.val + n.val, by omega⟩ rfl).trans ?_
  rw [entryX3]
  exact row512 (ak m c) ⟨16 * t.val + n.val, by omega⟩ g d b s hs.symm

theorem at2 (F : FVec Ideal S256x1024 .bf16) (t : Fin cfg1.N) (n : Fin 16) (x : Fin 1024) (r : Fin 256) (hr : r.val = 16 * t.val + n.val) :
    F (((cfg1.win 2).blk t).view.emb (ix2 n x)) = F (ix2 r x) := by
  blk_ext [idx t]

theorem blk2 (c : Dev nD) (t : Fin cfg1.N) (n : Fin 16) (g : Fin 4) (d : Fin 256) (b : Fin 16) (s : Fin 16)
    (hs : 16 * b.val + s.val = 16 * t.val + n.val) :
    (iblk1 (V5 m ρ) c 2 t : FVec Ideal S16x1024 .bf16) (ix2 n (wide g d)) = (av m c) (ix4 b s g d) := by
  have ht : t.val < 16 := lt_of_lt_of_eq t.isLt N_1
  refine (at2 (V5 m ρ c main_v7_5) t n (wide g d) ⟨16 * t.val + n.val, by omega⟩ rfl).trans ?_
  rw [entryX5]
  exact row1024 (av m c) ⟨16 * t.val + n.val, by omega⟩ g d b s hs.symm

theorem at3 (F : FVec Ideal S256x1024 .f32) (t : Fin cfg1.N) (n : Fin 16) (x : Fin 1024) (r : Fin 256) (hr : r.val = 16 * t.val + n.val) :
    F (((cfg1.win 3).blk t).view.emb (ix2 n x)) = F (ix2 r x) := by
  blk_ext [idx t]

theorem blk3 (c : Dev nD) (t : Fin cfg1.N) (n : Fin 16) (g : Fin 4) (d : Fin 256) (b : Fin 16) (s : Fin 16)
    (hs : 16 * b.val + s.val = 16 * t.val + n.val) :
    (iblk1 (V5 m ρ) c 3 t : FVec Ideal S16x1024 .f32) (ix2 n (wide g d)) = (ar m c) (ix4 b s g d) := by
  have ht : t.val < 16 := lt_of_lt_of_eq t.isLt N_1
  refine (at3 (V5 m ρ c main_v7_6) t n (wide g d) ⟨16 * t.val + n.val, by omega⟩ rfl).trans ?_
  rw [entryX6]
  exact row1024 (ar m c) ⟨16 * t.val + n.val, by omega⟩ g d b s hs.symm

theorem at4 (F : FVec Ideal S16x4x128x256 .f32) (t : Fin cfg1.N) (g : Fin 4) (d : Fin 128) (w : Fin 256) (b : Fin 16) (hb : b.val = t.val) :
    F (((cfg1.win 4).blk t).view.emb (ix4 0 g d w)) = F (ix4 b g d w) := by
  blk_ext [idx t]

theorem blk4 (c : Dev nD) (t : Fin cfg1.N) (g : Fin 4) (d : Fin 128) (w : Fin 256) (b : Fin 16) (hb : b.val = t.val) :
    (iblk1 (V5 m ρ) c 4 t : FVec Ideal S1x4x128x256 .f32) (ix4 0 g d w) = (m ((c : Thread nD τ).loc main_arg3) : FVec Ideal S1x16x4x128x256 .f32) (ix5 0 b g d w) := by
  refine (at4 (V5 m ρ c main_v23) t g d w b hb).trans ?_
  rw [entryX7]
  exact rowState _ b g d w

theorem at5 (F : FVec Ideal S4x16x16 .f32) (t : Fin cfg1.N) (g : Fin 4) (l n : Fin 16) :
    F (((cfg1.win 5).blk t).view.emb (ix3 g l n)) = F (ix3 g l n) := by
  blk_ext [idx t]

theorem blk5 (c : Dev nD) (t : Fin cfg1.N) (g : Fin 4) (l n : Fin 16) :
    (iblk1 (V5 m ρ) c 5 t : FVec Ideal S4x16x16 .f32) (ix3 g l n) = ((between g l.val n.val : ℝ) : EReal) :=
  (at5 (V5 m ρ c main_v47) t g l n).trans (entryX31 m ρ c g l n)

theorem at6 (F : FVec Ideal S4x16x1 .f32) (t : Fin cfg1.N) (g : Fin 4) (l : Fin 16) :
    F (((cfg1.win 6).blk t).view.emb (ix3 g l 0)) = F (ix3 g l 0) := by
  blk_ext [idx t]

theorem blk6 (c : Dev nD) (t : Fin cfg1.N) (g : Fin 4) (l : Fin 16) :
    (iblk1 (V5 m ρ) c 6 t : FVec Ideal S4x16x1 .f32) (ix3 g l 0) = ((decay g ^ (l.val + 1) : ℝ) : EReal) :=
  (at6 (V5 m ρ c main_v56) t g l).trans (entryX40 m ρ c g l)

theorem at7 (F : FVec Ideal S4x16x1 .f32) (t : Fin cfg1.N) (g : Fin 4) (l : Fin 16) :
    F (((cfg1.win 7).blk t).view.emb (ix3 g l 0)) = F (ix3 g l 0) := by
  blk_ext [idx t]

theorem blk7 (c : Dev nD) (t : Fin cfg1.N) (g : Fin 4) (l : Fin 16) :
    (iblk1 (V5 m ρ) c 7 t : FVec Ideal S4x16x1 .f32) (ix3 g l 0) = ((decay g ^ (15 - l.val) : ℝ) : EReal) :=
  (at7 (V5 m ρ c main_v65) t g l).trans (entryX49 m ρ c g l)

theorem at8 (F : FVec Ideal S4 .f32) (t : Fin cfg1.N) (g : Fin 4) :
    F (((cfg1.win 8).blk t).view.emb (ix1 g)) = F (ix1 g) := by
  blk_ext [idx t]

theorem blk8 (c : Dev nD) (t : Fin cfg1.N) (g : Fin 4) :
    (iblk1 (V5 m ρ) c 8 t : FVec Ideal S4 .f32) (ix1 g) = ((decay g ^ 16 : ℝ) : EReal) :=
  (at8 (V5 m ρ c main_v68) t g).trans (entryX52 m ρ c g)

end Cert.StreamSampleIdeal.Sample
-- ==== Proof.StreamSamplePoints.lean ====
module

public import proofs.«01_k».proof.Proof.StreamSampleEntry
public import Idealize.ShloMosaic.Lib.Claim
public import Idealize.ShloMosaic.Lib.StableHlo.RunRead

@[expose] public section

set_option maxRecDepth 16384

noncomputable section

namespace Cert.StreamSampleIdeal.Sample

open Cert.StreamSampleIdeal Cert.StreamSampleIdeal.Gen Cert.Retention Idealize.ShloMosaic Idealize.ShloMosaic.TcCoe Idealize.SL.Sem
open Idealize.ShloMosaic.Pipeline (Dat)
open Cert.KernelIdeal.Block (head channel wide_head chunkState_congr gated_congr)
open Cert.RetentionSampleIdeal.Sample (refGate refGate_at refChunk refChunk_at refState refState_at outRow chunkOut_congr)

variable (m : (ℓ : Loc nD τ sig) → Buf (Elt Ideal) ℓ) (ρ : Dev nD → PrngReg)

theorem at9 (F : FVec Ideal S256x1024 .bf16) (t : Fin cfg1.N) (n : Fin 16) (x : Fin 1024) (r : Fin 256) (hr : r.val = 16 * t.val + n.val) :
    F (((cfg1.win 9).blk t).view.emb (ix2 n x)) = F (ix2 r x) := by
  blk_ext [idx t]

theorem at10 (F : FVec Ideal S16x4x128x256 .f32) (t : Fin cfg1.N) (b : Fin 16) (ht : b.val = t.val) (g : Fin 4) (d : Fin 128) (w : Fin 256) :
    F (((cfg1.win 10).blk t).view.emb (ix4 0 g d w)) = F (ix4 b g d w) := by
  blk_ext [idx t]

theorem arr9 (c : Dev nD) : (dat1 (V5 m ρ) c).arrAt 9 cfg1.N = refGate (refChunk (aq m c) (ak m c) (av m c) (ast m c)) (ar m c) := by
  refine (dat1 (V5 m ρ) c).arrAt_eq_of_covers 9 _ (by decide +kernel) fun t hf y => ?_
  have ht : t.val < 16 := lt_of_lt_of_eq t.isLt N_1
  blk_simp
  rw [after1_9]
  have y2 : ∃ (l : Fin 16) (x : Fin 1024), y = ix2 l x := ⟨y 0, y 1, by funext a; fin_cases a <;> rfl⟩
  obtain ⟨l, x, rfl⟩ := y2
  rw [← wide_head x]
  refine (out_A (V5 m ρ) c t (head x) l (channel x)).trans ?_
  refine Eq.trans ?_ (at9 (refGate (refChunk (aq m c) (ak m c) (av m c) (ast m c)) (ar m c)) t l (wide (head x) (channel x)) ⟨16 * t.val + l.val, by omega⟩ rfl).symm
  refine Eq.trans ?_ (refGate_at _ _ ⟨t.val, ht⟩ l (head x) (channel x) _ rfl).symm
  refine congrArg₂ (gated · · (channel x)) (funext fun w => ?_) (funext fun w => blk3 m ρ c t l (head x) w ⟨t.val, ht⟩ l rfl)
  refine Eq.trans ?_ (refChunk_at _ _ _ _ ⟨t.val, ht⟩ l (head x) w).symm
  have h0 : ∀ n d, (iblk1 (V5 m ρ) c 0 t : FVec Ideal S16x512 .bf16) (ix2 n (slim (head x) d)) = aq m c (ix4 ⟨t.val, ht⟩ n (head x) d) := fun n d => blk0 m ρ c t n (head x) d ⟨t.val, ht⟩ n rfl
  have h1 : ∀ n d, (iblk1 (V5 m ρ) c 1 t : FVec Ideal S16x512 .bf16) (ix2 n (slim (head x) d)) = ak m c (ix4 ⟨t.val, ht⟩ n (head x) d) := fun n d => blk1 m ρ c t n (head x) d ⟨t.val, ht⟩ n rfl
  have h2 : ∀ n d, (iblk1 (V5 m ρ) c 2 t : FVec Ideal S16x1024 .bf16) (ix2 n (wide (head x) d)) = av m c (ix4 ⟨t.val, ht⟩ n (head x) d) := fun n d => blk2 m ρ c t n (head x) d ⟨t.val, ht⟩ n rfl
  have h4 : ∀ d w, (iblk1 (V5 m ρ) c 4 t : FVec Ideal S1x4x128x256 .f32) (ix4 0 (head x) d w) = ast m c (ix5 0 ⟨t.val, ht⟩ (head x) d w) := fun d w => blk4 m ρ c t (head x) d w ⟨t.val, ht⟩ rfl
  have h5 : ∀ l n, (iblk1 (V5 m ρ) c 5 t : FVec Ideal S4x16x16 .f32) (ix3 (head x) l n) = ((between (head x) l.val n.val : ℝ) : EReal) := fun l n => blk5 m ρ c t (head x) l n
  have h6 : ∀ n, (iblk1 (V5 m ρ) c 6 t : FVec Ideal S4x16x1 .f32) (ix3 (head x) n 0) = ((decay (head x) ^ (n.val + 1) : ℝ) : EReal) := fun n => blk6 m ρ c t (head x) n
  unfold outRow
  exact chunkOut_congr h0 h1 h2 h4 h5 h6 l w

theorem arr10 (c : Dev nD) : (dat1 (V5 m ρ) c).arrAt 10 cfg1.N = refState (ak m c) (av m c) (ast m c) := by
  refine (dat1 (V5 m ρ) c).arrAt_eq_of_covers 10 _ (by decide +kernel) fun t hf y => ?_
  have ht : t.val < 16 := lt_of_lt_of_eq t.isLt N_1
  blk_simp
  rw [after1_10]
  have y4 : ∃ (a : Fin 1) (g : Fin 4) (d : Fin 128) (w : Fin 256), y = ix4 a g d w := ⟨y 0, y 1, y 2, y 3, by funext a; fin_cases a <;> rfl⟩
  obtain ⟨a, g, d, w, rfl⟩ := y4
  obtain rfl : a = 0 := Subsingleton.elim _ _
  refine (state_A (V5 m ρ) c t g d w).trans ?_
  refine Eq.trans ?_ (at10 (refState (ak m c) (av m c) (ast m c)) t ⟨t.val, ht⟩ rfl g d w).symm
  refine Eq.trans ?_ (refState_at _ _ _ ⟨t.val, ht⟩ g d w).symm
  have h1 : ∀ n d, (iblk1 (V5 m ρ) c 1 t : FVec Ideal S16x512 .bf16) (ix2 n (slim g d)) = ak m c (ix4 ⟨t.val, ht⟩ n g d) := fun n d => blk1 m ρ c t n g d ⟨t.val, ht⟩ n rfl
  have h2 : ∀ n d, (iblk1 (V5 m ρ) c 2 t : FVec Ideal S16x1024 .bf16) (ix2 n (wide g d)) = av m c (ix4 ⟨t.val, ht⟩ n g d) := fun n d => blk2 m ρ c t n g d ⟨t.val, ht⟩ n rfl
  have h4 : ∀ d w, (iblk1 (V5 m ρ) c 4 t : FVec Ideal S1x4x128x256 .f32) (ix4 0 g d w) = ast m c (ix5 0 ⟨t.val, ht⟩ g d w) := fun d w => blk4 m ρ c t g d w ⟨t.val, ht⟩ rfl
  have h7 : ∀ n, (iblk1 (V5 m ρ) c 7 t : FVec Ideal S4x16x1 .f32) (ix3 g n 0) = ((decay g ^ (15 - n.val) : ℝ) : EReal) := fun n => blk7 m ρ c t g n
  exact chunkState_congr h1 h2 h4 h7 (blk8 m ρ c t g) d w

end Cert.StreamSampleIdeal.Sample
-- ==== Proof.StreamSampleRun.lean ====
module

public import proofs.«01_k».proof.Proof.Gen.StreamSampleIdeal.Frame

@[expose] public section

set_option maxRecDepth 16384

noncomputable section

namespace Cert.StreamSampleIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.StreamSampleIdeal.Gen

variable {F : FTy → Type} [FloatOps F]

variable (m : (ℓ : Loc nD τ sig) → Buf (Elt F) ℓ) (ρ : Dev nD → PrngReg)

set_option backward.isDefEq.respectTransparency.types false in
/-- From any memory every fair execution ends, and every array of the core outside the kernels' own
    buffers ends as the second region leaves it. -/
theorem run_exit : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ => h)

end Cert.StreamSampleIdeal.Run
-- ==== Proof.StreamSampleValue.lean ====
module

public import proofs.«01_k».proof.Defs
public import proofs.«01_k».proof.Proof.StreamSamplePoints
public import proofs.«01_k».proof.Proof.StreamSampleRun
public import proofs.«01_k».proof.Proof.Gen.ReferenceStreamSampleIdeal
public import proofs.«01_k».proof.Proof.Gen.ReferenceStreamSampleIdeal.Run
public import Idealize.ShloMosaic.Lib.Claim
public import Idealize.ShloMosaic.Lib.Quiescent
public import Idealize.ShloMosaic.Lib.StableHlo.RunRead

@[expose] public section

set_option maxRecDepth 16384

noncomputable section

namespace Cert.StreamSampleIdeal.Sample

section reference

open Cert.ReferenceStreamSampleIdeal Cert.ReferenceStreamSampleIdeal.Gen Cert.Retention Idealize.ShloMosaic

/-- A cache sixteen tokens later, as the reference computes it. -/
abbrev refCache (a : FVec Ideal S1x16x128x2x64 .f32) (x : FVec Ideal S16x16x2x64 .f32) : FVec Ideal S1x16x128x2x64 .f32 :=
  broadcastInDim S1x16x128x2x64 ![1, 2, 3, 4] bcast_S16x128x2x64_S1x16x128x2x64_1_2_3_4 (extractStridedSlice S16x128x2x64 ![0, 16, 0, 0] (concatenate S16x144x2x64 1 [⟨S16x128x2x64, (shapeCast S16x128x2x64 a shapeCasts_S1x16x128x2x64_S16x128x2x64)⟩, ⟨S16x16x2x64, x⟩] concatenates_S16x128x2x64_S16x16x2x64_S16x144x2x64_d1) slices_S16x144x2x64_S16x128x2x64_0_16_0_0)

/-- The tokens moved up, and the new ones behind them. -/
def later (a : FVec Ideal S1x16x128x2x64 .f32) (x : FVec Ideal S16x16x2x64 .f32) (b : Fin 16) (p : Fin 128) (h : Fin 2) (e : Fin 64) : EReal :=
  if hp : p.val < 112 then a (ix5 0 b ⟨p.val + 16, by omega⟩ h e) else x (ix4 b ⟨p.val - 112, by omega⟩ h e)

theorem refCache_at (a : FVec Ideal S1x16x128x2x64 .f32) (x : FVec Ideal S16x16x2x64 .f32) (b : Fin 16) (p : Fin 128) (h : Fin 2) (e : Fin 64) :
    refCache a x (ix5 0 b p h e) = later a x b p h e := by
  unfold later
  pointwise [refCache]
  split <;> split
  all_goals first | omega | (congr 1; funext i; fin_cases i <;> (first | rfl | (apply Fin.ext; simp; try omega)))

abbrev heads5 (y : FVec Ideal S16x16x5888 .f32) : FVec Ideal S16x16x2x64 .f32 :=
  shapeCast S16x16x2x64 (extractStridedSlice S16x16x128 ![0, 0, 512] y slices_S16x16x5888_S16x16x128_0_0_512) shapeCasts_S16x16x128_S16x16x2x64
abbrev heads6 (y : FVec Ideal S16x16x5888 .f32) : FVec Ideal S16x16x2x64 .f32 :=
  shapeCast S16x16x2x64 (extractStridedSlice S16x16x128 ![0, 0, 640] y slices_S16x16x5888_S16x16x128_0_0_640) shapeCasts_S16x16x128_S16x16x2x64

end reference

open Cert.StreamSampleIdeal Cert.StreamSampleIdeal.Gen Cert.Retention Idealize.ShloMosaic Idealize.ShloMosaic.TcCoe Idealize.SL.Sem
open Idealize.ShloMosaic.Pipeline (Dat)
open Cert.RetentionSampleIdeal.Sample (refGate refChunk refState)
open Cert.ReferenceStreamSampleIdeal (S16x16x2x64)
open Cert.ReferenceProjectSampleIdeal.Gen (shapeCasts_S16x16x2x64_S256x128)

/-- A cache sixteen tokens later, as the kernel's own operations compute it. -/
abbrev kept (a : FVec Ideal S1x16x128x2x64 .f32) (x : FVec Ideal S256x128 .f32) : FVec Ideal S1x16x128x2x64 .f32 :=
  broadcastInDim S1x16x128x2x64 ![1, 2, 3, 4] bcast_S16x128x2x64_S1x16x128x2x64_1_2_3_4 (shapeCast S16x128x2x64 (extractStridedSlice S16x128x128 ![0, 16, 0] (concatenate S16x256x128 1 [⟨S16x128x128, (shapeCast S16x128x128 (shapeCast S16x128x2x64 a shapeCasts_S1x16x128x2x64_S16x128x2x64) shapeCasts_S16x128x2x64_S16x128x128)⟩, ⟨S16x16x128, (shapeCast S16x16x128 x shapeCasts_S256x128_S16x16x128)⟩, ⟨S16x112x128, (broadcastInDim S16x112x128 ![] bcast_S_S16x112x128 (constant S_ .f32 0x00000000#32))⟩] concatenates_S16x128x128_S16x16x128_S16x112x128_S16x256x128_d1) slices_S16x256x128_S16x128x128_0_16_0) shapeCasts_S16x128x128_S16x128x2x64)

theorem kept_at (a : FVec Ideal S1x16x128x2x64 .f32) (x : FVec Ideal S16x16x2x64 .f32) (b : Fin 16) (p : Fin 128) (h : Fin 2) (e : Fin 64) :
    kept a (shapeCast S256x128 x shapeCasts_S16x16x2x64_S256x128) (ix5 0 b p h e) = later a x b p h e := by
  unfold later
  pointwise [kept]
  by_cases hp : p.val < 112
  · rw [dif_pos (show 16 + p.val < 128 by omega), dif_pos hp]
    exact congrArg a (congrArg (fun q => ix5 0 b q h e) (Fin.ext (Nat.add_comm _ _)))
  · rw [dif_neg (show ¬16 + p.val < 128 by omega), dif_pos (show 16 + p.val - 128 < 16 by omega), dif_neg hp]
    exact congrArg x (congrArg (fun q => ix4 b q h e) (Fin.ext (show 16 + p.val - 128 = p.val - 112 by omega)))

theorem kept_eq (a : FVec Ideal S1x16x128x2x64 .f32) (x : FVec Ideal S16x16x2x64 .f32) :
    kept a (shapeCast S256x128 x shapeCasts_S16x16x2x64_S256x128) = refCache a x := by
  funext y
  have y5 : ∃ (z : Fin 1) (b : Fin 16) (p : Fin 128) (h : Fin 2) (e : Fin 64), y = ix5 z b p h e :=
    ⟨y 0, y 1, y 2, y 3, y 4, by funext a; fin_cases a <;> rfl⟩
  obtain ⟨z, b, p, h, e, rfl⟩ := y5
  obtain rfl : z = 0 := Subsingleton.elim _ _
  exact (kept_at a x b p h e).trans (refCache_at a x b p h e).symm

variable (m : (ℓ : Loc nD τ sig) → Buf (Elt Ideal) ℓ) (ρ : Dev nD → PrngReg)

abbrev ck (c : Dev nD) : FVec Ideal S1x16x128x2x64 .f32 := m ((c : Thread nD τ).loc main_arg1)
abbrev cv (c : Dev nD) : FVec Ideal S1x16x128x2x64 .f32 := m ((c : Thread nD τ).loc main_arg2)

theorem cache_k (c : Dev nD) : W6 m ρ c (Proc.devRef .tc main_v15) = refCache (ck m c) (heads5 (y0 m c)) := by
  refine ((W6_of m ρ c main_v15 (by decide)).trans ((W5_of m ρ c main_v15 (by decide)).trans (W4_of m ρ c main_v15 (by decide)))).trans ?_
  have h : W3 m ρ c (Proc.devRef .tc main_v15) = kept (W2 m ρ c (Proc.devRef .tc main_arg1)) (W2 m ρ c (Proc.devRef .tc main_v7_1)) := by
    simp only [W3, hostOps1]
    after_reads_simp <;> rfl
  rw [h, W2_args m ρ c main_arg1 (by decide), show W2 m ρ c (Proc.devRef .tc main_v7_1) = _ from (W2_arr m ρ c 5).trans (Cert.StreamSampleIdeal.Rows.final5 m ρ c)]
  exact kept_eq (ck m c) (heads5 (y0 m c))

theorem cache_v (c : Dev nD) : W6 m ρ c (Proc.devRef .tc main_v22) = refCache (cv m c) (heads6 (y0 m c)) := by
  refine ((W6_of m ρ c main_v22 (by decide)).trans ((W5_of m ρ c main_v22 (by decide)).trans (W4_of m ρ c main_v22 (by decide)))).trans ?_
  have h : W3 m ρ c (Proc.devRef .tc main_v22) = kept (W2 m ρ c (Proc.devRef .tc main_arg2)) (W2 m ρ c (Proc.devRef .tc main_v7_2)) := by
    simp only [W3, hostOps1]
    after_reads_simp <;> rfl
  rw [h, W2_args m ρ c main_arg2 (by decide), show W2 m ρ c (Proc.devRef .tc main_v7_2) = _ from (W2_arr m ρ c 6).trans (Cert.StreamSampleIdeal.Rows.final6 m ρ c)]
  exact kept_eq (cv m c) (heads6 (y0 m c))

end Cert.StreamSampleIdeal.Sample
-- ==== Proof.StreamSampleClaim.lean ====
module

public import proofs.«01_k».proof.Proof.StreamSampleValue

@[expose] public section

set_option maxRecDepth 16384

noncomputable section

namespace Cert.StreamSample

open Idealize.ShloMosaic Idealize.ShloMosaic.TcCoe Idealize.SL.Sem

/-- From the arguments, the kernels and the reference leave the same output, state and caches. -/
theorem value : Cert.algebraic_StreamSampleIdeal_ReferenceStreamSampleIdeal (hStreamSampleIdeal := Cert.StreamSampleIdeal.Gen.facts)
    (hReferenceStreamSampleIdeal := Cert.ReferenceStreamSampleIdeal.Gen.facts) := by
  intro m ρ m' ρ' _ hag
  refine ⟨fun c => Cert.RetentionSampleIdeal.Sample.refGate (Cert.RetentionSampleIdeal.Sample.refChunk (Cert.StreamSampleIdeal.Sample.heads7 (Cert.ProjectSampleIdeal.Rows.columns (m ((c.tc : Thread Cert.StreamSampleIdeal.nD Cert.StreamSampleIdeal.τ).loc Cert.StreamSampleIdeal.main_arg0)) (m ((c.tc : Thread Cert.StreamSampleIdeal.nD Cert.StreamSampleIdeal.τ).loc Cert.StreamSampleIdeal.main_arg4)) (m ((c.tc : Thread Cert.StreamSampleIdeal.nD Cert.StreamSampleIdeal.τ).loc Cert.StreamSampleIdeal.main_arg5)))) (Cert.StreamSampleIdeal.Sample.heads8 (Cert.ProjectSampleIdeal.Rows.columns (m ((c.tc : Thread Cert.StreamSampleIdeal.nD Cert.StreamSampleIdeal.τ).loc Cert.StreamSampleIdeal.main_arg0)) (m ((c.tc : Thread Cert.StreamSampleIdeal.nD Cert.StreamSampleIdeal.τ).loc Cert.StreamSampleIdeal.main_arg4)) (m ((c.tc : Thread Cert.StreamSampleIdeal.nD Cert.StreamSampleIdeal.τ).loc Cert.StreamSampleIdeal.main_arg5)))) (Cert.StreamSampleIdeal.Sample.heads9 (Cert.ProjectSampleIdeal.Rows.columns (m ((c.tc : Thread Cert.StreamSampleIdeal.nD Cert.StreamSampleIdeal.τ).loc Cert.StreamSampleIdeal.main_arg0)) (m ((c.tc : Thread Cert.StreamSampleIdeal.nD Cert.StreamSampleIdeal.τ).loc Cert.StreamSampleIdeal.main_arg4)) (m ((c.tc : Thread Cert.StreamSampleIdeal.nD Cert.StreamSampleIdeal.τ).loc Cert.StreamSampleIdeal.main_arg5)))) (m ((c.tc : Thread Cert.StreamSampleIdeal.nD Cert.StreamSampleIdeal.τ).loc Cert.StreamSampleIdeal.main_arg3))) (Cert.StreamSampleIdeal.Sample.heads10 (Cert.ProjectSampleIdeal.Rows.columns (m ((c.tc : Thread Cert.StreamSampleIdeal.nD Cert.StreamSampleIdeal.τ).loc Cert.StreamSampleIdeal.main_arg0)) (m ((c.tc : Thread Cert.StreamSampleIdeal.nD Cert.StreamSampleIdeal.τ).loc Cert.StreamSampleIdeal.main_arg4)) (m ((c.tc : Thread Cert.StreamSampleIdeal.nD Cert.StreamSampleIdeal.τ).loc Cert.StreamSampleIdeal.main_arg5)))),
    fun c => Cert.RetentionSampleIdeal.Sample.refState (Cert.StreamSampleIdeal.Sample.heads8 (Cert.ProjectSampleIdeal.Rows.columns (m ((c.tc : Thread Cert.StreamSampleIdeal.nD Cert.StreamSampleIdeal.τ).loc Cert.StreamSampleIdeal.main_arg0)) (m ((c.tc : Thread Cert.StreamSampleIdeal.nD Cert.StreamSampleIdeal.τ).loc Cert.StreamSampleIdeal.main_arg4)) (m ((c.tc : Thread Cert.StreamSampleIdeal.nD Cert.StreamSampleIdeal.τ).loc Cert.StreamSampleIdeal.main_arg5)))) (Cert.StreamSampleIdeal.Sample.heads9 (Cert.ProjectSampleIdeal.Rows.columns (m ((c.tc : Thread Cert.StreamSampleIdeal.nD Cert.StreamSampleIdeal.τ).loc Cert.StreamSampleIdeal.main_arg0)) (m ((c.tc : Thread Cert.StreamSampleIdeal.nD Cert.StreamSampleIdeal.τ).loc Cert.StreamSampleIdeal.main_arg4)) (m ((c.tc : Thread Cert.StreamSampleIdeal.nD Cert.StreamSampleIdeal.τ).loc Cert.StreamSampleIdeal.main_arg5)))) (m ((c.tc : Thread Cert.StreamSampleIdeal.nD Cert.StreamSampleIdeal.τ).loc Cert.StreamSampleIdeal.main_arg3)),
    fun c => Cert.StreamSampleIdeal.Sample.refCache (m ((c.tc : Thread Cert.StreamSampleIdeal.nD Cert.StreamSampleIdeal.τ).loc Cert.StreamSampleIdeal.main_arg1)) (Cert.StreamSampleIdeal.Sample.heads5 (Cert.ProjectSampleIdeal.Rows.columns (m ((c.tc : Thread Cert.StreamSampleIdeal.nD Cert.StreamSampleIdeal.τ).loc Cert.StreamSampleIdeal.main_arg0)) (m ((c.tc : Thread Cert.StreamSampleIdeal.nD Cert.StreamSampleIdeal.τ).loc Cert.StreamSampleIdeal.main_arg4)) (m ((c.tc : Thread Cert.StreamSampleIdeal.nD Cert.StreamSampleIdeal.τ).loc Cert.StreamSampleIdeal.main_arg5)))),
    fun c => Cert.StreamSampleIdeal.Sample.refCache (m ((c.tc : Thread Cert.StreamSampleIdeal.nD Cert.StreamSampleIdeal.τ).loc Cert.StreamSampleIdeal.main_arg2)) (Cert.StreamSampleIdeal.Sample.heads6 (Cert.ProjectSampleIdeal.Rows.columns (m ((c.tc : Thread Cert.StreamSampleIdeal.nD Cert.StreamSampleIdeal.τ).loc Cert.StreamSampleIdeal.main_arg0)) (m ((c.tc : Thread Cert.StreamSampleIdeal.nD Cert.StreamSampleIdeal.τ).loc Cert.StreamSampleIdeal.main_arg4)) (m ((c.tc : Thread Cert.StreamSampleIdeal.nD Cert.StreamSampleIdeal.τ).loc Cert.StreamSampleIdeal.main_arg5)))), ?_, ?_⟩
  · exact (θ_run _ _ _).mono (fun r h c => ⟨(h c _ (Cert.StreamSampleIdeal.Gen.mem_uc Cert.StreamSampleIdeal.main_v69_0 (by decide))).trans ((Cert.StreamSampleIdeal.Gen.W6_arr m ρ c 9).trans (Cert.StreamSampleIdeal.Sample.arr9 m ρ c)),
      (h c _ (Cert.StreamSampleIdeal.Gen.mem_uc Cert.StreamSampleIdeal.main_v69_1 (by decide))).trans ((Cert.StreamSampleIdeal.Gen.W6_arr m ρ c 10).trans (Cert.StreamSampleIdeal.Sample.arr10 m ρ c)),
      (h c _ (Cert.StreamSampleIdeal.Gen.mem_uc Cert.StreamSampleIdeal.main_v15 (by decide))).trans (Cert.StreamSampleIdeal.Sample.cache_k m ρ c),
      (h c _ (Cert.StreamSampleIdeal.Gen.mem_uc Cert.StreamSampleIdeal.main_v22 (by decide))).trans (Cert.StreamSampleIdeal.Sample.cache_v m ρ c),
      (h c _ (Cert.StreamSampleIdeal.Gen.mem_uc Cert.StreamSampleIdeal.main_arg0 (by decide))).trans (Cert.StreamSampleIdeal.Gen.W6_main_arg0 m ρ c),
      (h c _ (Cert.StreamSampleIdeal.Gen.mem_uc Cert.StreamSampleIdeal.main_arg1 (by decide))).trans (Cert.StreamSampleIdeal.Gen.W6_main_arg1 m ρ c),
      (h c _ (Cert.StreamSampleIdeal.Gen.mem_uc Cert.StreamSampleIdeal.main_arg2 (by decide))).trans (Cert.StreamSampleIdeal.Gen.W6_main_arg2 m ρ c),
      (h c _ (Cert.StreamSampleIdeal.Gen.mem_uc Cert.StreamSampleIdeal.main_arg3 (by decide))).trans (Cert.StreamSampleIdeal.Gen.W6_main_arg3 m ρ c),
      (h c _ (Cert.StreamSampleIdeal.Gen.mem_uc Cert.StreamSampleIdeal.main_arg4 (by decide))).trans (Cert.StreamSampleIdeal.Gen.W6_main_arg4 m ρ c),
      (h c _ (Cert.StreamSampleIdeal.Gen.mem_uc Cert.StreamSampleIdeal.main_arg5 (by decide))).trans (Cert.StreamSampleIdeal.Gen.W6_main_arg5 m ρ c),
      (h c _ (Cert.StreamSampleIdeal.Gen.mem_uc Cert.StreamSampleIdeal.main_arg6 (by decide))).trans (Cert.StreamSampleIdeal.Gen.W6_main_arg6 m ρ c)⟩) (Cert.StreamSampleIdeal.Run.run_exit m ρ)
  · refine (θ_run _ _ _).mono (fun r h c => ?_) (Cert.ReferenceStreamSampleIdeal.Value.run m' ρ')
    have e0 := (hag c).1
    have e1 := (hag c).2.1
    have e2 := (hag c).2.2.1
    have e3 := (hag c).2.2.2.1
    have e4 := (hag c).2.2.2.2.1
    have e5 := (hag c).2.2.2.2.2.1
    have e6 := (hag c).2.2.2.2.2.2
    have r0 : _ = Cert.RetentionSampleIdeal.Sample.refGate (Cert.RetentionSampleIdeal.Sample.refChunk (Cert.StreamSampleIdeal.Sample.heads7 (Cert.ProjectSampleIdeal.Rows.columns (m ((c.tc : Thread Cert.StreamSampleIdeal.nD Cert.StreamSampleIdeal.τ).loc Cert.StreamSampleIdeal.main_arg0)) (m ((c.tc : Thread Cert.StreamSampleIdeal.nD Cert.StreamSampleIdeal.τ).loc Cert.StreamSampleIdeal.main_arg4)) (m ((c.tc : Thread Cert.StreamSampleIdeal.nD Cert.StreamSampleIdeal.τ).loc Cert.StreamSampleIdeal.main_arg5)))) (Cert.StreamSampleIdeal.Sample.heads8 (Cert.ProjectSampleIdeal.Rows.columns (m ((c.tc : Thread Cert.StreamSampleIdeal.nD Cert.StreamSampleIdeal.τ).loc Cert.StreamSampleIdeal.main_arg0)) (m ((c.tc : Thread Cert.StreamSampleIdeal.nD Cert.StreamSampleIdeal.τ).loc Cert.StreamSampleIdeal.main_arg4)) (m ((c.tc : Thread Cert.StreamSampleIdeal.nD Cert.StreamSampleIdeal.τ).loc Cert.StreamSampleIdeal.main_arg5)))) (Cert.StreamSampleIdeal.Sample.heads9 (Cert.ProjectSampleIdeal.Rows.columns (m ((c.tc : Thread Cert.StreamSampleIdeal.nD Cert.StreamSampleIdeal.τ).loc Cert.StreamSampleIdeal.main_arg0)) (m ((c.tc : Thread Cert.StreamSampleIdeal.nD Cert.StreamSampleIdeal.τ).loc Cert.StreamSampleIdeal.main_arg4)) (m ((c.tc : Thread Cert.StreamSampleIdeal.nD Cert.StreamSampleIdeal.τ).loc Cert.StreamSampleIdeal.main_arg5)))) (m ((c.tc : Thread Cert.StreamSampleIdeal.nD Cert.StreamSampleIdeal.τ).loc Cert.StreamSampleIdeal.main_arg3))) (Cert.StreamSampleIdeal.Sample.heads10 (Cert.ProjectSampleIdeal.Rows.columns (m ((c.tc : Thread Cert.StreamSampleIdeal.nD Cert.StreamSampleIdeal.τ).loc Cert.StreamSampleIdeal.main_arg0)) (m ((c.tc : Thread Cert.StreamSampleIdeal.nD Cert.StreamSampleIdeal.τ).loc Cert.StreamSampleIdeal.main_arg4)) (m ((c.tc : Thread Cert.StreamSampleIdeal.nD Cert.StreamSampleIdeal.τ).loc Cert.StreamSampleIdeal.main_arg5)))) := (h c).1.trans (show Cert.RetentionSampleIdeal.Sample.refGate (Cert.RetentionSampleIdeal.Sample.refChunk (Cert.StreamSampleIdeal.Sample.heads7 (Cert.ProjectSampleIdeal.Rows.columns (m' ((c.tc : Thread Cert.ReferenceStreamSampleIdeal.nD Cert.ReferenceStreamSampleIdeal.τ).loc Cert.ReferenceStreamSampleIdeal.main_arg0)) (m' ((c.tc : Thread Cert.ReferenceStreamSampleIdeal.nD Cert.ReferenceStreamSampleIdeal.τ).loc Cert.ReferenceStreamSampleIdeal.main_arg4)) (m' ((c.tc : Thread Cert.ReferenceStreamSampleIdeal.nD Cert.ReferenceStreamSampleIdeal.τ).loc Cert.ReferenceStreamSampleIdeal.main_arg5)))) (Cert.StreamSampleIdeal.Sample.heads8 (Cert.ProjectSampleIdeal.Rows.columns (m' ((c.tc : Thread Cert.ReferenceStreamSampleIdeal.nD Cert.ReferenceStreamSampleIdeal.τ).loc Cert.ReferenceStreamSampleIdeal.main_arg0)) (m' ((c.tc : Thread Cert.ReferenceStreamSampleIdeal.nD Cert.ReferenceStreamSampleIdeal.τ).loc Cert.ReferenceStreamSampleIdeal.main_arg4)) (m' ((c.tc : Thread Cert.ReferenceStreamSampleIdeal.nD Cert.ReferenceStreamSampleIdeal.τ).loc Cert.ReferenceStreamSampleIdeal.main_arg5)))) (Cert.StreamSampleIdeal.Sample.heads9 (Cert.ProjectSampleIdeal.Rows.columns (m' ((c.tc : Thread Cert.ReferenceStreamSampleIdeal.nD Cert.ReferenceStreamSampleIdeal.τ).loc Cert.ReferenceStreamSampleIdeal.main_arg0)) (m' ((c.tc : Thread Cert.ReferenceStreamSampleIdeal.nD Cert.ReferenceStreamSampleIdeal.τ).loc Cert.ReferenceStreamSampleIdeal.main_arg4)) (m' ((c.tc : Thread Cert.ReferenceStreamSampleIdeal.nD Cert.ReferenceStreamSampleIdeal.τ).loc Cert.ReferenceStreamSampleIdeal.main_arg5)))) (m' ((c.tc : Thread Cert.ReferenceStreamSampleIdeal.nD Cert.ReferenceStreamSampleIdeal.τ).loc Cert.ReferenceStreamSampleIdeal.main_arg3))) (Cert.StreamSampleIdeal.Sample.heads10 (Cert.ProjectSampleIdeal.Rows.columns (m' ((c.tc : Thread Cert.ReferenceStreamSampleIdeal.nD Cert.ReferenceStreamSampleIdeal.τ).loc Cert.ReferenceStreamSampleIdeal.main_arg0)) (m' ((c.tc : Thread Cert.ReferenceStreamSampleIdeal.nD Cert.ReferenceStreamSampleIdeal.τ).loc Cert.ReferenceStreamSampleIdeal.main_arg4)) (m' ((c.tc : Thread Cert.ReferenceStreamSampleIdeal.nD Cert.ReferenceStreamSampleIdeal.τ).loc Cert.ReferenceStreamSampleIdeal.main_arg5)))) = Cert.RetentionSampleIdeal.Sample.refGate (Cert.RetentionSampleIdeal.Sample.refChunk (Cert.StreamSampleIdeal.Sample.heads7 (Cert.ProjectSampleIdeal.Rows.columns (m ((c.tc : Thread Cert.StreamSampleIdeal.nD Cert.StreamSampleIdeal.τ).loc Cert.StreamSampleIdeal.main_arg0)) (m ((c.tc : Thread Cert.StreamSampleIdeal.nD Cert.StreamSampleIdeal.τ).loc Cert.StreamSampleIdeal.main_arg4)) (m ((c.tc : Thread Cert.StreamSampleIdeal.nD Cert.StreamSampleIdeal.τ).loc Cert.StreamSampleIdeal.main_arg5)))) (Cert.StreamSampleIdeal.Sample.heads8 (Cert.ProjectSampleIdeal.Rows.columns (m ((c.tc : Thread Cert.StreamSampleIdeal.nD Cert.StreamSampleIdeal.τ).loc Cert.StreamSampleIdeal.main_arg0)) (m ((c.tc : Thread Cert.StreamSampleIdeal.nD Cert.StreamSampleIdeal.τ).loc Cert.StreamSampleIdeal.main_arg4)) (m ((c.tc : Thread Cert.StreamSampleIdeal.nD Cert.StreamSampleIdeal.τ).loc Cert.StreamSampleIdeal.main_arg5)))) (Cert.StreamSampleIdeal.Sample.heads9 (Cert.ProjectSampleIdeal.Rows.columns (m ((c.tc : Thread Cert.StreamSampleIdeal.nD Cert.StreamSampleIdeal.τ).loc Cert.StreamSampleIdeal.main_arg0)) (m ((c.tc : Thread Cert.StreamSampleIdeal.nD Cert.StreamSampleIdeal.τ).loc Cert.StreamSampleIdeal.main_arg4)) (m ((c.tc : Thread Cert.StreamSampleIdeal.nD Cert.StreamSampleIdeal.τ).loc Cert.StreamSampleIdeal.main_arg5)))) (m ((c.tc : Thread Cert.StreamSampleIdeal.nD Cert.StreamSampleIdeal.τ).loc Cert.StreamSampleIdeal.main_arg3))) (Cert.StreamSampleIdeal.Sample.heads10 (Cert.ProjectSampleIdeal.Rows.columns (m ((c.tc : Thread Cert.StreamSampleIdeal.nD Cert.StreamSampleIdeal.τ).loc Cert.StreamSampleIdeal.main_arg0)) (m ((c.tc : Thread Cert.StreamSampleIdeal.nD Cert.StreamSampleIdeal.τ).loc Cert.StreamSampleIdeal.main_arg4)) (m ((c.tc : Thread Cert.StreamSampleIdeal.nD Cert.StreamSampleIdeal.τ).loc Cert.StreamSampleIdeal.main_arg5)))) by rw [e0, e3, e4, e5])
    have r1 : _ = Cert.RetentionSampleIdeal.Sample.refState (Cert.StreamSampleIdeal.Sample.heads8 (Cert.ProjectSampleIdeal.Rows.columns (m ((c.tc : Thread Cert.StreamSampleIdeal.nD Cert.StreamSampleIdeal.τ).loc Cert.StreamSampleIdeal.main_arg0)) (m ((c.tc : Thread Cert.StreamSampleIdeal.nD Cert.StreamSampleIdeal.τ).loc Cert.StreamSampleIdeal.main_arg4)) (m ((c.tc : Thread Cert.StreamSampleIdeal.nD Cert.StreamSampleIdeal.τ).loc Cert.StreamSampleIdeal.main_arg5)))) (Cert.StreamSampleIdeal.Sample.heads9 (Cert.ProjectSampleIdeal.Rows.columns (m ((c.tc : Thread Cert.StreamSampleIdeal.nD Cert.StreamSampleIdeal.τ).loc Cert.StreamSampleIdeal.main_arg0)) (m ((c.tc : Thread Cert.StreamSampleIdeal.nD Cert.StreamSampleIdeal.τ).loc Cert.StreamSampleIdeal.main_arg4)) (m ((c.tc : Thread Cert.StreamSampleIdeal.nD Cert.StreamSampleIdeal.τ).loc Cert.StreamSampleIdeal.main_arg5)))) (m ((c.tc : Thread Cert.StreamSampleIdeal.nD Cert.StreamSampleIdeal.τ).loc Cert.StreamSampleIdeal.main_arg3)) := (h c).2.1.trans (show Cert.RetentionSampleIdeal.Sample.refState (Cert.StreamSampleIdeal.Sample.heads8 (Cert.ProjectSampleIdeal.Rows.columns (m' ((c.tc : Thread Cert.ReferenceStreamSampleIdeal.nD Cert.ReferenceStreamSampleIdeal.τ).loc Cert.ReferenceStreamSampleIdeal.main_arg0)) (m' ((c.tc : Thread Cert.ReferenceStreamSampleIdeal.nD Cert.ReferenceStreamSampleIdeal.τ).loc Cert.ReferenceStreamSampleIdeal.main_arg4)) (m' ((c.tc : Thread Cert.ReferenceStreamSampleIdeal.nD Cert.ReferenceStreamSampleIdeal.τ).loc Cert.ReferenceStreamSampleIdeal.main_arg5)))) (Cert.StreamSampleIdeal.Sample.heads9 (Cert.ProjectSampleIdeal.Rows.columns (m' ((c.tc : Thread Cert.ReferenceStreamSampleIdeal.nD Cert.ReferenceStreamSampleIdeal.τ).loc Cert.ReferenceStreamSampleIdeal.main_arg0)) (m' ((c.tc : Thread Cert.ReferenceStreamSampleIdeal.nD Cert.ReferenceStreamSampleIdeal.τ).loc Cert.ReferenceStreamSampleIdeal.main_arg4)) (m' ((c.tc : Thread Cert.ReferenceStreamSampleIdeal.nD Cert.ReferenceStreamSampleIdeal.τ).loc Cert.ReferenceStreamSampleIdeal.main_arg5)))) (m' ((c.tc : Thread Cert.ReferenceStreamSampleIdeal.nD Cert.ReferenceStreamSampleIdeal.τ).loc Cert.ReferenceStreamSampleIdeal.main_arg3)) = Cert.RetentionSampleIdeal.Sample.refState (Cert.StreamSampleIdeal.Sample.heads8 (Cert.ProjectSampleIdeal.Rows.columns (m ((c.tc : Thread Cert.StreamSampleIdeal.nD Cert.StreamSampleIdeal.τ).loc Cert.StreamSampleIdeal.main_arg0)) (m ((c.tc : Thread Cert.StreamSampleIdeal.nD Cert.StreamSampleIdeal.τ).loc Cert.StreamSampleIdeal.main_arg4)) (m ((c.tc : Thread Cert.StreamSampleIdeal.nD Cert.StreamSampleIdeal.τ).loc Cert.StreamSampleIdeal.main_arg5)))) (Cert.StreamSampleIdeal.Sample.heads9 (Cert.ProjectSampleIdeal.Rows.columns (m ((c.tc : Thread Cert.StreamSampleIdeal.nD Cert.StreamSampleIdeal.τ).loc Cert.StreamSampleIdeal.main_arg0)) (m ((c.tc : Thread Cert.StreamSampleIdeal.nD Cert.StreamSampleIdeal.τ).loc Cert.StreamSampleIdeal.main_arg4)) (m ((c.tc : Thread Cert.StreamSampleIdeal.nD Cert.StreamSampleIdeal.τ).loc Cert.StreamSampleIdeal.main_arg5)))) (m ((c.tc : Thread Cert.StreamSampleIdeal.nD Cert.StreamSampleIdeal.τ).loc Cert.StreamSampleIdeal.main_arg3)) by rw [e0, e3, e4, e5])
    have r2 : _ = Cert.StreamSampleIdeal.Sample.refCache (m ((c.tc : Thread Cert.StreamSampleIdeal.nD Cert.StreamSampleIdeal.τ).loc Cert.StreamSampleIdeal.main_arg1)) (Cert.StreamSampleIdeal.Sample.heads5 (Cert.ProjectSampleIdeal.Rows.columns (m ((c.tc : Thread Cert.StreamSampleIdeal.nD Cert.StreamSampleIdeal.τ).loc Cert.StreamSampleIdeal.main_arg0)) (m ((c.tc : Thread Cert.StreamSampleIdeal.nD Cert.StreamSampleIdeal.τ).loc Cert.StreamSampleIdeal.main_arg4)) (m ((c.tc : Thread Cert.StreamSampleIdeal.nD Cert.StreamSampleIdeal.τ).loc Cert.StreamSampleIdeal.main_arg5)))) := (h c).2.2.1.trans (show Cert.StreamSampleIdeal.Sample.refCache (m' ((c.tc : Thread Cert.ReferenceStreamSampleIdeal.nD Cert.ReferenceStreamSampleIdeal.τ).loc Cert.ReferenceStreamSampleIdeal.main_arg1)) (Cert.StreamSampleIdeal.Sample.heads5 (Cert.ProjectSampleIdeal.Rows.columns (m' ((c.tc : Thread Cert.ReferenceStreamSampleIdeal.nD Cert.ReferenceStreamSampleIdeal.τ).loc Cert.ReferenceStreamSampleIdeal.main_arg0)) (m' ((c.tc : Thread Cert.ReferenceStreamSampleIdeal.nD Cert.ReferenceStreamSampleIdeal.τ).loc Cert.ReferenceStreamSampleIdeal.main_arg4)) (m' ((c.tc : Thread Cert.ReferenceStreamSampleIdeal.nD Cert.ReferenceStreamSampleIdeal.τ).loc Cert.ReferenceStreamSampleIdeal.main_arg5)))) = Cert.StreamSampleIdeal.Sample.refCache (m ((c.tc : Thread Cert.StreamSampleIdeal.nD Cert.StreamSampleIdeal.τ).loc Cert.StreamSampleIdeal.main_arg1)) (Cert.StreamSampleIdeal.Sample.heads5 (Cert.ProjectSampleIdeal.Rows.columns (m ((c.tc : Thread Cert.StreamSampleIdeal.nD Cert.StreamSampleIdeal.τ).loc Cert.StreamSampleIdeal.main_arg0)) (m ((c.tc : Thread Cert.StreamSampleIdeal.nD Cert.StreamSampleIdeal.τ).loc Cert.StreamSampleIdeal.main_arg4)) (m ((c.tc : Thread Cert.StreamSampleIdeal.nD Cert.StreamSampleIdeal.τ).loc Cert.StreamSampleIdeal.main_arg5)))) by rw [e0, e1, e4, e5])
    have r3 : _ = Cert.StreamSampleIdeal.Sample.refCache (m ((c.tc : Thread Cert.StreamSampleIdeal.nD Cert.StreamSampleIdeal.τ).loc Cert.StreamSampleIdeal.main_arg2)) (Cert.StreamSampleIdeal.Sample.heads6 (Cert.ProjectSampleIdeal.Rows.columns (m ((c.tc : Thread Cert.StreamSampleIdeal.nD Cert.StreamSampleIdeal.τ).loc Cert.StreamSampleIdeal.main_arg0)) (m ((c.tc : Thread Cert.StreamSampleIdeal.nD Cert.StreamSampleIdeal.τ).loc Cert.StreamSampleIdeal.main_arg4)) (m ((c.tc : Thread Cert.StreamSampleIdeal.nD Cert.StreamSampleIdeal.τ).loc Cert.StreamSampleIdeal.main_arg5)))) := (h c).2.2.2.1.trans (show Cert.StreamSampleIdeal.Sample.refCache (m' ((c.tc : Thread Cert.ReferenceStreamSampleIdeal.nD Cert.ReferenceStreamSampleIdeal.τ).loc Cert.ReferenceStreamSampleIdeal.main_arg2)) (Cert.StreamSampleIdeal.Sample.heads6 (Cert.ProjectSampleIdeal.Rows.columns (m' ((c.tc : Thread Cert.ReferenceStreamSampleIdeal.nD Cert.ReferenceStreamSampleIdeal.τ).loc Cert.ReferenceStreamSampleIdeal.main_arg0)) (m' ((c.tc : Thread Cert.ReferenceStreamSampleIdeal.nD Cert.ReferenceStreamSampleIdeal.τ).loc Cert.ReferenceStreamSampleIdeal.main_arg4)) (m' ((c.tc : Thread Cert.ReferenceStreamSampleIdeal.nD Cert.ReferenceStreamSampleIdeal.τ).loc Cert.ReferenceStreamSampleIdeal.main_arg5)))) = Cert.StreamSampleIdeal.Sample.refCache (m ((c.tc : Thread Cert.StreamSampleIdeal.nD Cert.StreamSampleIdeal.τ).loc Cert.StreamSampleIdeal.main_arg2)) (Cert.StreamSampleIdeal.Sample.heads6 (Cert.ProjectSampleIdeal.Rows.columns (m ((c.tc : Thread Cert.StreamSampleIdeal.nD Cert.StreamSampleIdeal.τ).loc Cert.StreamSampleIdeal.main_arg0)) (m ((c.tc : Thread Cert.StreamSampleIdeal.nD Cert.StreamSampleIdeal.τ).loc Cert.StreamSampleIdeal.main_arg4)) (m ((c.tc : Thread Cert.StreamSampleIdeal.nD Cert.StreamSampleIdeal.τ).loc Cert.StreamSampleIdeal.main_arg5)))) by rw [e0, e2, e4, e5])
    exact ⟨r0, r1, r2, r3, (h c).2.2.2.2⟩

end Cert.StreamSample
-- ==== Proof.StreamPromptHeads.lean ====
module

public import proofs.«01_k».proof.Proof.ProjectPromptRows

@[expose] public section

set_option maxRecDepth 16384

noncomputable section

namespace Cert.StreamPromptIdeal.Block

section heads

open Cert.ReferenceProjectPromptIdeal Cert.ReferenceProjectPromptIdeal.Gen Idealize.ShloMosaic

/-- The window keys and values, queries, keys, values and gates out of the projections. -/
abbrev heads5 (y : FVec Ideal S4x8192x5888 .f32) : FVec Ideal S4x8192x2x64 .f32 :=
  shapeCast S4x8192x2x64 (extractStridedSlice S4x8192x128 ![0, 0, 512] y slices_S4x8192x5888_S4x8192x128_0_0_512) shapeCasts_S4x8192x128_S4x8192x2x64
abbrev heads6 (y : FVec Ideal S4x8192x5888 .f32) : FVec Ideal S4x8192x2x64 .f32 :=
  shapeCast S4x8192x2x64 (extractStridedSlice S4x8192x128 ![0, 0, 640] y slices_S4x8192x5888_S4x8192x128_0_0_640) shapeCasts_S4x8192x128_S4x8192x2x64
abbrev heads7 (y : FVec Ideal S4x8192x5888 .f32) : FVec Ideal S4x8192x4x128 .f32 :=
  shapeCast S4x8192x4x128 (extractStridedSlice S4x8192x512 ![0, 0, 768] y slices_S4x8192x5888_S4x8192x512_0_0_768) shapeCasts_S4x8192x512_S4x8192x4x128
abbrev heads8 (y : FVec Ideal S4x8192x5888 .f32) : FVec Ideal S4x8192x4x128 .f32 :=
  mulf (shapeCast S4x8192x4x128 (extractStridedSlice S4x8192x512 ![0, 0, 1280] y slices_S4x8192x5888_S4x8192x512_0_0_1280) shapeCasts_S4x8192x512_S4x8192x4x128) (broadcastInDim S4x8192x4x128 ![] bcast_S_S4x8192x4x128 (constant S_ .f32 0x3DB504F3#32))
abbrev heads9 (y : FVec Ideal S4x8192x5888 .f32) : FVec Ideal S4x8192x4x256 .f32 :=
  shapeCast S4x8192x4x256 (extractStridedSlice S4x8192x1024 ![0, 0, 1792] y slices_S4x8192x5888_S4x8192x1024_0_0_1792) shapeCasts_S4x8192x1024_S4x8192x4x256
abbrev heads10 (y : FVec Ideal S4x8192x5888 .f32) : FVec Ideal S4x8192x4x256 .f32 :=
  shapeCast S4x8192x4x256 (extractStridedSlice S4x8192x1024 ![0, 0, 2816] y slices_S4x8192x5888_S4x8192x1024_0_0_2816) shapeCasts_S4x8192x1024_S4x8192x4x256

end heads

end Cert.StreamPromptIdeal.Block
-- ==== Proof.StreamPromptTrip.lean ====
module

public import proofs.«01_k».proof.Proof.Trip
public import proofs.«01_k».proof.Proof.Points
public import proofs.«01_k».proof.Proof.StreamPromptHeads
public import proofs.«01_k».proof.Proof.Gen.ReferenceStreamPromptIdeal.Run
public import Idealize.ShloMosaic.Lib.DynamicIndex
public import Idealize.ShloMosaic.Lib.Pipeline.Value
public import Idealize.ShloMosaic.Lib.Pointwise

@[expose] public section

set_option maxRecDepth 16384

noncomputable section

namespace Cert.ReferenceStreamPromptIdeal.Trip

open Cert.ReferenceStreamPromptIdeal Cert.ReferenceStreamPromptIdeal.Gen Cert.ReferenceStreamPromptIdeal.Value Cert.Retention Idealize.ShloMosaic Idealize.ShloMosaic.TcCoe Idealize.SL.Sem
open Idealize.ShloMosaic.StableHlo
open Cert.ReferenceIdeal.Trip (slice128 slice256 update256 out_norm)
open Cert.KernelIdeal.Block (head channel G9 G10 G9_eq wide_head)
open Cert.StreamPromptIdeal.Block (heads5 heads6 heads7 heads8 heads9 heads10)
open Cert.ProjectPromptIdeal.Rows (columns)

theorem state_step (K : FVec Ideal S4x64x4x128 .f32) (Vv : FVec Ideal S4x64x4x256 .f32) (S : FVec Ideal S4x4x128x256 .f32)
    (V0 : Valuation τ sig (Elt Ideal))
    (b g : Fin 4) (d : Fin 128) (w : Fin 256) :
    addf (mulf (broadcastInDim S4x4x128x256 ![0, 1, 2, 3] bcast_S1x4x1x1_S4x4x128x256_0_1_2_3 (broadcastInDim S1x4x1x1 ![1] bcast_S4_S1x4x1x1_1 (Host.exp (mulf (broadcastInDim S4 ![] bcast_S_S4 (constant S_ .f32 0x42800000#32)) (res_main_while0b_v86 V0))))) S) (Host.dotGeneral dot_S4x64x4x128_S4x64x4x256_S4x4x128x256_1_1_3_3_02_02 none (mulf K (broadcastInDim S4x64x4x128 ![0, 1, 2, 3] bcast_S1x64x4x1_S4x64x4x128_0_1_2_3 (broadcastInDim S1x64x4x1 ![1, 2] bcast_S64x4_S1x64x4x1_1_2 (Host.exp (mulf (broadcastInDim S64x4 ![0, 1] bcast_S64x1_S64x4_0_1 (broadcastInDim S64x1 ![0] bcast_S64_S64x1_0 (subf (broadcastInDim S64 ![] bcast_S_S64 (constant S_ .f32 0x427C0000#32)) (res_main_while0b_v87 V0)))) (broadcastInDim S64x4 ![0, 1] bcast_S1x4_S64x4_0_1 (broadcastInDim S1x4 ![1] bcast_S4_S1x4_1 (res_main_while0b_v86 V0)))))))) Vv) (ix4 b g d w)
      = chunkState (fun n d => K (ix4 b n g d)) (fun n w => Vv (ix4 b n g w)) (fun d w => S (ix4 b g d w))
          (fun n => Ideal.exp ((Ideal.ofBits .f32 0x427C0000#32 - num n.val) * logDecay g))
          (Ideal.exp (Ideal.ofBits .f32 0x42800000#32 * logDecay g)) d w := by
  unfold chunkState logDecay num
  pointwise [res_main_while0b_v86, res_main_while0b_v87]

theorem out_step (Q K : FVec Ideal S4x64x4x128 .f32) (Vv : FVec Ideal S4x64x4x256 .f32) (S : FVec Ideal S4x4x128x256 .f32)
    (V0 : Valuation τ sig (Elt Ideal)) (b : Fin 4) (l : Fin 64) (g : Fin 4) (w : Fin 256) :
    broadcastInDim S1x4x64x4x256 ![1, 2, 3, 4] bcast_S4x64x4x256_S1x4x64x4x256_1_2_3_4 (addf (transpose S4x64x4x256 [0, 3, 1, 2] (Host.dotGeneral dot_S4x64x4x256_S4x4x64x64_S4x4x256x64_1_3_3_2_02_01 none Vv (mulf (Host.dotGeneral dot_S4x64x4x128_S4x64x4x128_S4x4x64x64_3_3_1_1_02_02 none Q K) (broadcastInDim S4x4x64x64 ![0, 1, 2, 3] bcast_S1x4x64x64_S4x4x64x64_0_1_2_3 (broadcastInDim S1x4x64x64 ![1, 2, 3] bcast_S4x64x64_S1x4x64x64_1_2_3 (select (broadcastInDim S4x64x64 ![1, 2] bcast_S64x64_S4x64x64_1_2 (cmpf .oge (res_main_while0b_v92 V0) (broadcastInDim S64x64 ![] bcast_S_S64x64 (constant S_ .f32 0x00000000#32)))) (Host.exp (mulf (broadcastInDim S4x64x64 ![0, 1, 2] bcast_S1x64x64_S4x64x64_0_1_2 (broadcastInDim S1x64x64 ![1, 2] bcast_S64x64_S1x64x64_1_2 (maximumf (res_main_while0b_v92 V0) (broadcastInDim S64x64 ![] bcast_S_S64x64 (constant S_ .f32 0x00000000#32))))) (broadcastInDim S4x64x64 ![0, 1, 2] bcast_S4x1x1_S4x64x64_0_1_2 (broadcastInDim S4x1x1 ![0] bcast_S4_S4x1x1_0 (res_main_while0b_v86 V0))))) (broadcastInDim S4x64x64 ![] bcast_S_S4x64x64 (id (constant S_ .f32 0x00000000#32)))))))) transposes_S4x4x256x64_S4x64x4x256_0_3_1_2) (mulf (transpose S4x64x4x256 [0, 3, 1, 2] (Host.dotGeneral dot_S4x4x128x256_S4x64x4x128_S4x4x256x64_2_3_3_1_01_02 none S Q) transposes_S4x4x256x64_S4x64x4x256_0_3_1_2) (broadcastInDim S4x64x4x256 ![0, 1, 2, 3] bcast_S1x64x4x1_S4x64x4x256_0_1_2_3 (broadcastInDim S1x64x4x1 ![1, 2] bcast_S64x4_S1x64x4x1_1_2 (Host.exp (mulf (broadcastInDim S64x4 ![0, 1] bcast_S64x1_S64x4_0_1 (addf (broadcastInDim S64x1 ![0] bcast_S64_S64x1_0 (res_main_while0b_v87 V0)) (broadcastInDim S64x1 ![] bcast_S_S64x1 (constant S_ .f32 0x3F800000#32)))) (broadcastInDim S64x4 ![0, 1] bcast_S1x4_S64x4_0_1 (broadcastInDim S1x4 ![1] bcast_S4_S1x4_1 (res_main_while0b_v86 V0))))))))) (ix5 0 b l g w)
      = chunkOut (fun n d => Q (ix4 b n g d)) (fun n d => K (ix4 b n g d)) (fun n w => Vv (ix4 b n g w)) (fun d w => S (ix4 b g d w))
          (fun l n => if num l.val - num n.val ≥ 0 then Ideal.exp (max (num l.val - num n.val) 0 * logDecay g) else 0)
          (fun n => Ideal.exp ((num n.val + 1) * logDecay g)) l w := by
  unfold chunkOut logDecay num
  pointwise [res_main_while0b_v86, res_main_while0b_v87, res_main_while0b_v92]
  have hz : id (constant (F := Ideal) S_ .f32 0#32) ix0 = 0 := Ideal.ofBits_zero_f32
  simp only [hz, ge_iff_le]
  exact congrArg₂ (· + ·) (Finset.sum_congr rfl fun x _ => mul_comm _ _)
    (congrArg (· * _) (Finset.sum_congr rfl fun x _ => mul_comm _ _))

/-- One trip: from the state before chunk `n` and the chunks' outputs so far, the next. -/
theorem trip (V0 : Valuation τ sig (Elt Ideal)) (n : Fin 128)
    (q k : Fin 4 → Fin 4 → ℕ → Fin 128 → ℝ) (v : Fin 4 → Fin 4 → ℕ → Fin 256 → ℝ)
    (h0 : ∀ b l g d, (V0 (Proc.devRef .tc main_v47_0) : FVec Ideal S128x4x64x4x128 .f32) (ix5 n b l g d) = ((q b g (64 * n.val + l.val) d : ℝ) : EReal))
    (h1 : ∀ b l g d, (V0 (Proc.devRef .tc main_v47_1) : FVec Ideal S128x4x64x4x128 .f32) (ix5 n b l g d) = ((k b g (64 * n.val + l.val) d : ℝ) : EReal))
    (h2 : ∀ b l g d, (V0 (Proc.devRef .tc main_v47_2) : FVec Ideal S128x4x64x4x256 .f32) (ix5 n b l g d) = ((v b g (64 * n.val + l.val) d : ℝ) : EReal))
    (h3 : (V0 (Proc.devRef .tc main_v47_3) : IVec S_ 32) = fun _ => BitVec.ofNat 32 n.val)
    (h4 : ∀ b g d w, (V0 (Proc.devRef .tc main_v47_4) : FVec Ideal S4x4x128x256 .f32) (ix4 b g d w)
      = ((stateAt (decay g) (k b g) (v b g) (64 * n.val) d w : ℝ) : EReal)) :
    (∀ b g d w, (STEP V0 (Proc.devRef .tc main_v47_4) : FVec Ideal S4x4x128x256 .f32) (ix4 b g d w)
      = ((stateAt (decay g) (k b g) (v b g) (64 * n.val + 64) d w : ℝ) : EReal))
    ∧ (∀ n' b l g w, (STEP V0 (Proc.devRef .tc main_v47_5) : FVec Ideal S128x4x64x4x256 .f32) (ix5 n' b l g w)
      = if n' = n then ((outputAt (decay g) (q b g) (k b g) (v b g) (64 * n.val + l.val) w : ℝ) : EReal)
        else (V0 (Proc.devRef .tc main_v47_5) : FVec Ideal S128x4x64x4x256 .f32) (ix5 n' b l g w)) := by
  have e34 : ∀ b l g d, (res_main_while0b_v77 V0 : FVec Ideal S4x64x4x128 .f32) (ix4 b l g d) = ((q b g (64 * n.val + l.val) d : ℝ) : EReal) := by
    intro b l g d
    unfold res_main_while0b_v77
    rw [h3]
    exact (slice128 _ n b l g d).trans (h0 b l g d)
  have e35 : ∀ b l g d, (res_main_while0b_v78 V0 : FVec Ideal S4x64x4x128 .f32) (ix4 b l g d) = ((k b g (64 * n.val + l.val) d : ℝ) : EReal) := by
    intro b l g d
    unfold res_main_while0b_v78
    rw [h3]
    exact (slice128 _ n b l g d).trans (h1 b l g d)
  have e36 : ∀ b l g d, (res_main_while0b_v79 V0 : FVec Ideal S4x64x4x256 .f32) (ix4 b l g d) = ((v b g (64 * n.val + l.val) d : ℝ) : EReal) := by
    intro b l g d
    unfold res_main_while0b_v79
    rw [h3]
    exact (slice256 _ n b l g d).trans (h2 b l g d)
  refine ⟨fun b g d w => ?_, fun n' b l g w => ?_⟩
  · rw [STEP_main_v47_4]
    unfold step_main_v47_4
    refine (state_step _ _ _ V0 b g d w).trans ?_
    exact chunkState_eq (k b g) (v b g) g (64 * n.val) 64 d w (fun i d => e35 b i g d) (fun i w => e36 b i g w) (fun d w => h4 b g d w)
      (fun i => by rw [c63_eq, kd_eq 63 63 i.val (by norm_num) (by omega) (by omega)])
      (by rw [c64_eq, show ((64 : ℝ) : EReal) = (((64 : ℕ) : ℝ) : EReal) by norm_num, exp_mul])
  · rw [STEP_main_v47_5]
    unfold step_main_v47_5
    rw [h3]
    refine (update256 _ _ n n' b l g w).trans ?_
    by_cases hn : n' = n
    · rw [if_pos hn, if_pos hn]
      refine (out_step _ _ _ _ V0 b l g w).trans ?_
      exact chunkOut_eq (q b g) (k b g) (v b g) g (64 * n.val) 64 l w (fun i d => e34 b i g d) (fun i d => e35 b i g d) (fun i w => e36 b i g w)
        (fun d w => h4 b g d w) (fun l i => ia_eq l.val i.val (by omega) (by omega) g) (fun i => rd_eq i.val (by omega) g)
    · rw [if_neg hn, if_neg hn]

section Loop

variable (m : (ℓ : Loc nD τ sig) → Buf (Elt Ideal) ℓ)

/-- The projections, and the queries, keys, values and gates they hold. -/
abbrev by0 (c : Dev nD) : FVec Ideal S4x8192x5888 .f32 :=
  columns (m ((c.tc : Thread nD τ).loc main_arg0)) (m ((c.tc : Thread nD τ).loc main_arg1)) (m ((c.tc : Thread nD τ).loc main_arg2))
abbrev bq (c : Dev nD) : FVec Ideal S4x8192x4x128 .f32 := heads7 (by0 m c)
abbrev bk (c : Dev nD) : FVec Ideal S4x8192x4x128 .f32 := heads8 (by0 m c)
abbrev bv (c : Dev nD) : FVec Ideal S4x8192x4x256 .f32 := heads9 (by0 m c)
abbrev br (c : Dev nD) : FVec Ideal S4x8192x4x256 .f32 := heads10 (by0 m c)

/-- A token's row in the array of chunks. -/
theorem chunked128 (X : FVec Ideal S4x8192x4x128 .f32) (n : Fin 128) (b : Fin 4) (l : Fin 64) (g : Fin 4) (d : Fin 128) (s : Fin 8192) (hs : s.val = 64 * n.val + l.val) :
    transpose S128x4x64x4x128 [1, 0, 2, 3, 4] (shapeCast S4x128x64x4x128 X shapeCasts_S4x8192x4x128_S4x128x64x4x128) transposes_S4x128x64x4x128_S128x4x64x4x128_1_0_2_3_4 (ix5 n b l g d)
      = X (ix4 b s g d) := by
  pointwise
  exact congrArg (fun s => X (ix4 b s g d)) (Fin.ext (by simp only; omega))

/-- A token's row in the array of chunks. -/
theorem chunked256 (X : FVec Ideal S4x8192x4x256 .f32) (n : Fin 128) (b : Fin 4) (l : Fin 64) (g : Fin 4) (d : Fin 256) (s : Fin 8192) (hs : s.val = 64 * n.val + l.val) :
    transpose S128x4x64x4x256 [1, 0, 2, 3, 4] (shapeCast S4x128x64x4x256 X shapeCasts_S4x8192x4x256_S4x128x64x4x256) transposes_S4x128x64x4x256_S128x4x64x4x256_1_0_2_3_4 (ix5 n b l g d)
      = X (ix4 b s g d) := by
  pointwise
  exact congrArg (fun s => X (ix4 b s g d)) (Fin.ext (by simp only; omega))

theorem read0 (c : Dev nD) : @Eq (FVec Ideal S128x4x64x4x128 .f32) (entryContents preI m c (Proc.devRef .tc main_v47_0))
    (transpose S128x4x64x4x128 [1, 0, 2, 3, 4] (shapeCast S4x128x64x4x128 (bq m c) shapeCasts_S4x8192x4x128_S4x128x64x4x128) transposes_S4x128x64x4x128_S128x4x64x4x128_1_0_2_3_4) := by
  simp only [entryContents, preI, afterL_cons, afterL_nil, hostOps0]
  after_results
  rfl

theorem entry_main_v47_0 (c : Dev nD) (n : Fin 128) (b : Fin 4) (l : Fin 64) (g : Fin 4) (d : Fin 128) (s : Fin 8192) (hs : s.val = 64 * n.val + l.val) :
    (entryContents preI m c (Proc.devRef .tc main_v47_0) : FVec Ideal S128x4x64x4x128 .f32) (ix5 n b l g d) = bq m c (ix4 b s g d) := by
  rw [read0]
  exact chunked128 (bq m c) n b l g d s hs

theorem read1 (c : Dev nD) : @Eq (FVec Ideal S128x4x64x4x128 .f32) (entryContents preI m c (Proc.devRef .tc main_v47_1))
    (transpose S128x4x64x4x128 [1, 0, 2, 3, 4] (shapeCast S4x128x64x4x128 (bk m c) shapeCasts_S4x8192x4x128_S4x128x64x4x128) transposes_S4x128x64x4x128_S128x4x64x4x128_1_0_2_3_4) := by
  simp only [entryContents, preI, afterL_cons, afterL_nil, hostOps0]
  after_results
  rfl

theorem entry_main_v47_1 (c : Dev nD) (n : Fin 128) (b : Fin 4) (l : Fin 64) (g : Fin 4) (d : Fin 128) (s : Fin 8192) (hs : s.val = 64 * n.val + l.val) :
    (entryContents preI m c (Proc.devRef .tc main_v47_1) : FVec Ideal S128x4x64x4x128 .f32) (ix5 n b l g d) = bk m c (ix4 b s g d) := by
  rw [read1]
  exact chunked128 (bk m c) n b l g d s hs

theorem read2 (c : Dev nD) : @Eq (FVec Ideal S128x4x64x4x256 .f32) (entryContents preI m c (Proc.devRef .tc main_v47_2))
    (transpose S128x4x64x4x256 [1, 0, 2, 3, 4] (shapeCast S4x128x64x4x256 (bv m c) shapeCasts_S4x8192x4x256_S4x128x64x4x256) transposes_S4x128x64x4x256_S128x4x64x4x256_1_0_2_3_4) := by
  simp only [entryContents, preI, afterL_cons, afterL_nil, hostOps0]
  after_results
  rfl

theorem entry_main_v47_2 (c : Dev nD) (n : Fin 128) (b : Fin 4) (l : Fin 64) (g : Fin 4) (d : Fin 256) (s : Fin 8192) (hs : s.val = 64 * n.val + l.val) :
    (entryContents preI m c (Proc.devRef .tc main_v47_2) : FVec Ideal S128x4x64x4x256 .f32) (ix5 n b l g d) = bv m c (ix4 b s g d) := by
  rw [read2]
  exact chunked256 (bv m c) n b l g d s hs

theorem entry_main_v47_4 (c : Dev nD) (b g : Fin 4) (d : Fin 128) (w : Fin 256) :
    (entryContents preI m c (Proc.devRef .tc main_v47_4) : FVec Ideal S4x4x128x256 .f32) (ix4 b g d w) = (0 : EReal) := by
  simp only [entryContents, preI, afterL_cons, afterL_nil, hostOps0]
  after_results
  rw [id_eq]
  pointwise

theorem made_main_v31 (c : Dev nD) : @Eq (FVec Ideal S4x8192x2x64 .f32) (entryContents preI m c (Proc.devRef .tc main_v31)) (heads5 (by0 m c)) := by
  simp only [entryContents, preI, afterL_cons, afterL_nil, hostOps0]
  after_results
  rfl

theorem made_main_v32 (c : Dev nD) : @Eq (FVec Ideal S4x8192x2x64 .f32) (entryContents preI m c (Proc.devRef .tc main_v32)) (heads6 (by0 m c)) := by
  simp only [entryContents, preI, afterL_cons, afterL_nil, hostOps0]
  after_results
  rfl

theorem made_main_v38 (c : Dev nD) : @Eq (FVec Ideal S4x8192x4x256 .f32) (entryContents preI m c (Proc.devRef .tc main_v38)) (br m c) := by
  simp only [entryContents, preI, afterL_cons, afterL_nil, hostOps0]
  after_results
  rfl

/-- After `n` trips: the state before chunk `n`, and the outputs of the chunks before it. -/
theorem loop (c : Dev nD)
    (hq : Real' (bq m c))
    (hk : Real' (bk m c))
    (hv : Real' (bv m c)) :
    ∀ n ≤ 128,
      (STEP^[n] (entryContents preI m c)) (Proc.devRef .tc main_v47_0) = entryContents preI m c (Proc.devRef .tc main_v47_0)
      ∧ (STEP^[n] (entryContents preI m c)) (Proc.devRef .tc main_v47_1) = entryContents preI m c (Proc.devRef .tc main_v47_1)
      ∧ (STEP^[n] (entryContents preI m c)) (Proc.devRef .tc main_v47_2) = entryContents preI m c (Proc.devRef .tc main_v47_2)
      ∧ ((STEP^[n] (entryContents preI m c)) (Proc.devRef .tc main_v47_3) : IVec S_ 32) = (fun _ => BitVec.ofNat 32 n)
      ∧ (∀ b g d w, ((STEP^[n] (entryContents preI m c)) (Proc.devRef .tc main_v47_4) : FVec Ideal S4x4x128x256 .f32) (ix4 b g d w)
          = ((stateAt (decay g) (tok (bk m c) b g) (tok (bv m c) b g) (64 * n) d w : ℝ) : EReal))
      ∧ (∀ n' : Fin 128, n'.val < n → ∀ b l g w, ((STEP^[n] (entryContents preI m c)) (Proc.devRef .tc main_v47_5) : FVec Ideal S128x4x64x4x256 .f32) (ix5 n' b l g w)
          = ((outputAt (decay g) (tok (bq m c) b g) (tok (bk m c) b g)
              (tok (bv m c) b g) (64 * n'.val + l.val) w : ℝ) : EReal))
  | 0, _ => ⟨rfl, rfl, rfl, ctr_entry m c, fun b g d w => (entry_main_v47_4 m c b g d w).trans (by simp [stateAt]), fun _ h => absurd h (Nat.not_lt_zero _)⟩
  | n + 1, hn => by
    obtain ⟨i0, i1, i2, i3, i4, i5⟩ := loop c hq hk hv n (by omega)
    rw [Function.iterate_succ_apply']
    generalize STEP^[n] (entryContents preI m c) = V0 at i0 i1 i2 i3 i4 i5 ⊢
    have hN : n < 128 := by omega
    obtain ⟨t4, t5⟩ := trip V0 ⟨n, hN⟩ (tok (bq m c)) (tok (bk m c))
      (tok (bv m c))
      (fun b l g d => by
        rw [i0]
        exact (entry_main_v47_0 m c ⟨n, hN⟩ b l g d ⟨64 * n + l.val, by omega⟩ rfl).trans (tok_eq _ hq b g _ d _ rfl))
      (fun b l g d => by
        rw [i1]
        exact (entry_main_v47_1 m c ⟨n, hN⟩ b l g d ⟨64 * n + l.val, by omega⟩ rfl).trans (tok_eq _ hk b g _ d _ rfl))
      (fun b l g d => by
        rw [i2]
        exact (entry_main_v47_2 m c ⟨n, hN⟩ b l g d ⟨64 * n + l.val, by omega⟩ rfl).trans (tok_eq _ hv b g _ d _ rfl))
      i3 i4
    refine ⟨(STEP_main_v47_0 V0).trans i0, (STEP_main_v47_1 V0).trans i1, (STEP_main_v47_2 V0).trans i2, ?_, t4, ?_⟩
    · rw [STEP_main_v47_3]
      unfold step_main_v47_3
      rw [i3, id_eq]
      funext x
      show BitVec.ofNat 32 n + 1#32 = BitVec.ofNat 32 (n + 1)
      rw [BitVec.ofNat_add]
    · intro n' h' b l g w
      rw [t5]
      by_cases e : n' = ⟨n, hN⟩
      · rw [if_pos e, e]
      · rw [if_neg e]
        exact i5 n' (by have : n'.val ≠ n := fun h => e (Fin.ext h)
                        omega) b l g w

/-- The state the loop ends with. -/
theorem final_state (c : Dev nD)
    (hq : Real' (bq m c))
    (hk : Real' (bk m c))
    (hv : Real' (bv m c)) (b g : Fin 4) (d : Fin 128) (w : Fin 256) :
    ((STEP^[128] (entryContents preI m c)) (Proc.devRef .tc main_v47_4) : FVec Ideal S4x4x128x256 .f32) (ix4 b g d w)
      = ((stateAt (decay g) (tok (bk m c) b g) (tok (bv m c) b g) 8192 d w : ℝ) : EReal) :=
  (loop m c hq hk hv 128 le_rfl).2.2.2.2.1 b g d w

/-- What the operations after the loop write, stretch by stretch. -/
abbrev wrote1 : List (Ref sig .tc) := [main_v48, main_v49, main_cst_5, main_v50, main_v51, main_cst_6, main_v52, main_v53, main_v54, main_v55, main_v56, main_cst_7, main_v57, main_v58, main_cst_8, main_v59, main_v60, main_v61, main_v62, main_cst_9, main_v63, main_v64, main_v65, main_v66, main_v67]
theorem wrote1_sub : (hostOps0_1 : List (HloOp τ sig (Elt Ideal))).Forall fun op => op.writes ⊆ (wrote1.map (Proc.devRef (τ := τ) .tc)).toFinset :=
  StableHlo.forall_writes_sub_of_map rfl

/-- What the operations after the loop write, stretch by stretch. -/
abbrev wrote2 : List (Ref sig .tc) := [main_call5_v0, main_call5_v1, main_call5_cst, main_call5_v2, main_call5_v3, main_call5_cst_0, main_call5_v4, main_call5_v5, main_v68]
theorem wrote2_sub : (hostOps0_2 : List (HloOp τ sig (Elt Ideal))).Forall fun op => op.writes ⊆ (wrote2.map (Proc.devRef (τ := τ) .tc)).toFinset :=
  StableHlo.forall_writes_sub_of_map rfl

/-- What the operations after the loop write, stretch by stretch. -/
abbrev wrote3 : List (Ref sig .tc) := [main_v69, main_v70, main_v71, main_v72, main_v73, main_v74, main_v75, main_v76]
theorem wrote3_sub : (hostOps0_3 : List (HloOp τ sig (Elt Ideal))).Forall fun op => op.writes ⊆ (wrote3.map (Proc.devRef (τ := τ) .tc)).toFinset :=
  StableHlo.forall_writes_sub_of_map rfl

/-- A buffer that no trip writes keeps its contents through every trip. -/
theorem kept (b : Ref sig .tc) (hc : b ∉ condOps_W) (h0 : b ∉ while0Ops0_W) (h1 : b ∉ while0Ops0_1_W) (h2 : b ∉ while0Ops0_2_W) (h3 : b ∉ while0Ops0_3_W) (h4 : b ∉ while0Ops0_4_W) (h5 : b ∉ while0Ops0_5_W) (h6 : b ∉ while0Ops0_6_W) (h7 : b ∉ while0Ops0_7_W) (c : Dev nD) :
    ∀ k, atK m k c (Proc.devRef .tc b) = entryContents preI m c (Proc.devRef .tc b)
  | 0 => rfl
  | k + 1 => by
    rw [show atK m (k + 1) c = afterL bodyI (after condOps (atK m k c)) from rfl]
    simp only [afterL_cons, afterL_nil]
    rw [after_of_writes_sub while0Ops0_7 _ while0Ops0_7_writes h7, after_of_writes_sub while0Ops0_6 _ while0Ops0_6_writes h6, after_of_writes_sub while0Ops0_5 _ while0Ops0_5_writes h5, after_of_writes_sub while0Ops0_4 _ while0Ops0_4_writes h4, after_of_writes_sub while0Ops0_3 _ while0Ops0_3_writes h3, after_of_writes_sub while0Ops0_2 _ while0Ops0_2_writes h2, after_of_writes_sub while0Ops0_1 _ while0Ops0_1_writes h1, after_of_writes_sub while0Ops0 _ while0Ops0_writes h0,
      after_of_writes_sub condOps _ condOps_writes hc, kept b hc h0 h1 h2 h3 h4 h5 h6 h7 c k]
    rfl

/-- A buffer that no operation after the loop writes keeps its contents. -/
theorem left (b : Ref sig .tc) (h1 : b ∉ wrote1) (h2 : b ∉ wrote2) (h3 : b ∉ wrote3) (X : Valuation τ sig (Elt Ideal)) :
    afterL postI X (Proc.devRef .tc b) = X (Proc.devRef .tc b) := by
  simp only [postI, afterL_cons, afterL_nil]
  rw [after_of_writes_sub hostOps0_3 _ wrote3_sub h3, after_of_writes_sub hostOps0_2 _ wrote2_sub h2, after_of_writes_sub hostOps0_1 _ wrote1_sub h1]

/-- What the operations after the loop start from. -/
abbrev ended (c : Dev nD) : Valuation τ sig (Elt Ideal) := after condOps (atK m 128 c)

theorem ended_kept (b : Ref sig .tc) (hc : b ∉ condOps_W) (h0 : b ∉ while0Ops0_W) (h1 : b ∉ while0Ops0_1_W) (h2 : b ∉ while0Ops0_2_W) (h3 : b ∉ while0Ops0_3_W) (h4 : b ∉ while0Ops0_4_W) (h5 : b ∉ while0Ops0_5_W) (h6 : b ∉ while0Ops0_6_W) (h7 : b ∉ while0Ops0_7_W) (c : Dev nD) :
    ended m c (Proc.devRef .tc b) = entryContents preI m c (Proc.devRef .tc b) :=
  (after_of_writes_sub condOps _ condOps_writes hc).trans (kept m b hc h0 h1 h2 h3 h4 h5 h6 h7 c 128)

theorem ended_carried (b : Ref sig .tc) (hb : b ∈ carriedRefs) (c : Dev nD) :
    ended m c (Proc.devRef .tc b) = (STEP^[128] (entryContents preI m c)) (Proc.devRef .tc b) :=
  (cond_keeps (atK m 128 c) b hb).trans (atK_agree m c 128 b hb)

theorem arg0 (c : Dev nD) : finalContents condOps preI bodyI postI 128 m c (Proc.devRef .tc main_arg0) = m ((c.tc : Thread nD τ).loc main_arg0) :=
  (left main_arg0 (by decide +kernel) (by decide +kernel) (by decide +kernel) _).trans ((ended_kept m main_arg0 (by decide +kernel) (by decide +kernel) (by decide +kernel) (by decide +kernel) (by decide +kernel) (by decide +kernel) (by decide +kernel) (by decide +kernel) (by decide +kernel) c).trans
    (after_of_writes_sub hostOps0 _ hostOps0_writes (by decide +kernel)))

theorem arg1 (c : Dev nD) : finalContents condOps preI bodyI postI 128 m c (Proc.devRef .tc main_arg1) = m ((c.tc : Thread nD τ).loc main_arg1) :=
  (left main_arg1 (by decide +kernel) (by decide +kernel) (by decide +kernel) _).trans ((ended_kept m main_arg1 (by decide +kernel) (by decide +kernel) (by decide +kernel) (by decide +kernel) (by decide +kernel) (by decide +kernel) (by decide +kernel) (by decide +kernel) (by decide +kernel) c).trans
    (after_of_writes_sub hostOps0 _ hostOps0_writes (by decide +kernel)))

theorem arg2 (c : Dev nD) : finalContents condOps preI bodyI postI 128 m c (Proc.devRef .tc main_arg2) = m ((c.tc : Thread nD τ).loc main_arg2) :=
  (left main_arg2 (by decide +kernel) (by decide +kernel) (by decide +kernel) _).trans ((ended_kept m main_arg2 (by decide +kernel) (by decide +kernel) (by decide +kernel) (by decide +kernel) (by decide +kernel) (by decide +kernel) (by decide +kernel) (by decide +kernel) (by decide +kernel) c).trans
    (after_of_writes_sub hostOps0 _ hostOps0_writes (by decide +kernel)))

theorem arg3 (c : Dev nD) : finalContents condOps preI bodyI postI 128 m c (Proc.devRef .tc main_arg3) = m ((c.tc : Thread nD τ).loc main_arg3) :=
  (left main_arg3 (by decide +kernel) (by decide +kernel) (by decide +kernel) _).trans ((ended_kept m main_arg3 (by decide +kernel) (by decide +kernel) (by decide +kernel) (by decide +kernel) (by decide +kernel) (by decide +kernel) (by decide +kernel) (by decide +kernel) (by decide +kernel) c).trans
    (after_of_writes_sub hostOps0 _ hostOps0_writes (by decide +kernel)))

/-! ## After the loop -/

/-- The output as the operations after the loop make it, and a stream's newest rows of a window's keys or values. -/
abbrev gatedOut (O : FVec Ideal S128x4x64x4x256 .f32) (R : FVec Ideal S4x8192x4x256 .f32) : FVec Ideal S32768x1024 .bf16 :=
  (truncf .bf16 (shapeCast _ (shapeCast _ (mulf (mulf (subf (shapeCast _ (transpose S4x128x64x4x256 [1, 0, 2, 3, 4] O transposes_S128x4x64x4x256_S4x128x64x4x256_1_0_2_3_4) shapeCasts_S4x128x64x4x256_S4x8192x4x256) (broadcastInDim S4x8192x4x256 ![0, 1, 2, 3] bcast_S4x8192x4x1_S4x8192x4x256_0_1_2_3 (Host.divf (broadcastInDim S4x8192x4x1 ![0, 1, 2] bcast_S4x8192x4_S4x8192x4x1_0_1_2 (Host.reduceAdd (shapeCast _ (transpose S4x128x64x4x256 [1, 0, 2, 3, 4] O transposes_S128x4x64x4x256_S4x128x64x4x256_1_0_2_3_4) shapeCasts_S4x128x64x4x256_S4x8192x4x256) (constant S_ .f32 0x00000000#32) reducesTo_S4x8192x4x256_S4x8192x4_d3 h_S_)) (broadcastInDim S4x8192x4x1 ![] bcast_S_S4x8192x4x1 (constant S_ .f32 0x43800000#32))))) (broadcastInDim S4x8192x4x256 ![0, 1, 2, 3] bcast_S4x8192x4x1_S4x8192x4x256_0_1_2_3 (Host.rsqrt (addf (Host.divf (broadcastInDim S4x8192x4x1 ![0, 1, 2] bcast_S4x8192x4_S4x8192x4x1_0_1_2 (Host.reduceAdd (mulf (subf (shapeCast _ (transpose S4x128x64x4x256 [1, 0, 2, 3, 4] O transposes_S128x4x64x4x256_S4x128x64x4x256_1_0_2_3_4) shapeCasts_S4x128x64x4x256_S4x8192x4x256) (broadcastInDim S4x8192x4x256 ![0, 1, 2, 3] bcast_S4x8192x4x1_S4x8192x4x256_0_1_2_3 (Host.divf (broadcastInDim S4x8192x4x1 ![0, 1, 2] bcast_S4x8192x4_S4x8192x4x1_0_1_2 (Host.reduceAdd (shapeCast _ (transpose S4x128x64x4x256 [1, 0, 2, 3, 4] O transposes_S128x4x64x4x256_S4x128x64x4x256_1_0_2_3_4) shapeCasts_S4x128x64x4x256_S4x8192x4x256) (constant S_ .f32 0x00000000#32) reducesTo_S4x8192x4x256_S4x8192x4_d3 h_S_)) (broadcastInDim S4x8192x4x1 ![] bcast_S_S4x8192x4x1 (constant S_ .f32 0x43800000#32))))) (subf (shapeCast _ (transpose S4x128x64x4x256 [1, 0, 2, 3, 4] O transposes_S128x4x64x4x256_S4x128x64x4x256_1_0_2_3_4) shapeCasts_S4x128x64x4x256_S4x8192x4x256) (broadcastInDim S4x8192x4x256 ![0, 1, 2, 3] bcast_S4x8192x4x1_S4x8192x4x256_0_1_2_3 (Host.divf (broadcastInDim S4x8192x4x1 ![0, 1, 2] bcast_S4x8192x4_S4x8192x4x1_0_1_2 (Host.reduceAdd (shapeCast _ (transpose S4x128x64x4x256 [1, 0, 2, 3, 4] O transposes_S128x4x64x4x256_S4x128x64x4x256_1_0_2_3_4) shapeCasts_S4x128x64x4x256_S4x8192x4x256) (constant S_ .f32 0x00000000#32) reducesTo_S4x8192x4x256_S4x8192x4_d3 h_S_)) (broadcastInDim S4x8192x4x1 ![] bcast_S_S4x8192x4x1 (constant S_ .f32 0x43800000#32)))))) (constant S_ .f32 0x00000000#32) reducesTo_S4x8192x4x256_S4x8192x4_d3 h_S_)) (broadcastInDim S4x8192x4x1 ![] bcast_S_S4x8192x4x1 (constant S_ .f32 0x43800000#32))) (broadcastInDim S4x8192x4x1 ![] bcast_S_S4x8192x4x1 (constant S_ .f32 0x358637BD#32)))))) (mulf R (Host.divf (broadcastInDim S4x8192x4x256 ![] bcast_S_S4x8192x4x256 (constant S_ .f32 0x3F800000#32)) (addf (broadcastInDim S4x8192x4x256 ![] bcast_S_S4x8192x4x256 (constant S_ .f32 0x3F800000#32)) (Host.exp (Host.negf R)))))) shapeCasts_S4x8192x4x256_S4x8192x1024) shapeCasts_S4x8192x1024_S32768x1024) bitsLt_bf16_f32 : FVec Ideal S32768x1024 .bf16)
abbrev newest (X : FVec Ideal S4x8192x2x64 .f32) : FVec Ideal S1x4x128x2x64 .f32 :=
  broadcastInDim S1x4x128x2x64 ![1, 2, 3, 4] bcast_S4x128x2x64_S1x4x128x2x64_1_2_3_4 (extractStridedSlice S4x128x2x64 ![0, 8064, 0, 0] X slices_S4x8192x2x64_S4x128x2x64_0_8064_0_0)

set_option maxHeartbeats 2000000 in
theorem post_out (X : Valuation τ sig (Elt Ideal)) : @Eq (FVec Ideal S32768x1024 .bf16) (afterL postI X (Proc.devRef .tc main_v72))
    (gatedOut (X (Proc.devRef .tc main_v47_5)) (X (Proc.devRef .tc main_v38))) := by
  unfold gatedOut
  simp only [postI, afterL_cons, afterL_nil, hostOps0_1, hostOps0_2, hostOps0_3]
  after_results_entrywise []

theorem post_k (X : Valuation τ sig (Elt Ideal)) : @Eq (FVec Ideal S1x4x128x2x64 .f32) (afterL postI X (Proc.devRef .tc main_v74)) (newest (X (Proc.devRef .tc main_v31))) := by
  simp only [postI, afterL_cons, afterL_nil, hostOps0_1, hostOps0_2, hostOps0_3]
  after_results

theorem post_v (X : Valuation τ sig (Elt Ideal)) : @Eq (FVec Ideal S1x4x128x2x64 .f32) (afterL postI X (Proc.devRef .tc main_v76)) (newest (X (Proc.devRef .tc main_v32))) := by
  simp only [postI, afterL_cons, afterL_nil, hostOps0_1, hostOps0_2, hostOps0_3]
  after_results

theorem result_k (c : Dev nD) : @Eq (FVec Ideal S1x4x128x2x64 .f32) (finalContents condOps preI bodyI postI 128 m c (Proc.devRef .tc main_v74)) (newest (heads5 (by0 m c))) :=
  (post_k (ended m c)).trans (congrArg newest ((ended_kept m main_v31 (by decide +kernel) (by decide +kernel) (by decide +kernel) (by decide +kernel) (by decide +kernel) (by decide +kernel) (by decide +kernel) (by decide +kernel) (by decide +kernel) c).trans (made_main_v31 m c)))

theorem result_v (c : Dev nD) : @Eq (FVec Ideal S1x4x128x2x64 .f32) (finalContents condOps preI bodyI postI 128 m c (Proc.devRef .tc main_v76)) (newest (heads6 (by0 m c))) :=
  (post_v (ended m c)).trans (congrArg newest ((ended_kept m main_v32 (by decide +kernel) (by decide +kernel) (by decide +kernel) (by decide +kernel) (by decide +kernel) (by decide +kernel) (by decide +kernel) (by decide +kernel) (by decide +kernel) c).trans (made_main_v32 m c)))

theorem result_state (c : Dev nD) (hq : Real' (bq m c)) (hk : Real' (bk m c)) (hv : Real' (bv m c)) :
    @Eq (FVec Ideal S4x4x128x256 .f32) (finalContents condOps preI bodyI postI 128 m c (Proc.devRef .tc main_v47_4)) (G10 (bk m c) (bv m c)) := by
  refine (left main_v47_4 (by decide +kernel) (by decide +kernel) (by decide +kernel) (ended m c)).trans ((ended_carried m main_v47_4 (by decide) c).trans ?_)
  funext i
  have y4 : ∃ (b g : Fin 4) (d : Fin 128) (w : Fin 256), i = ix4 b g d w := ⟨i 0, i 1, i 2, i 3, by funext a; fin_cases a <;> rfl⟩
  obtain ⟨b, g, d, w, rfl⟩ := y4
  exact final_state m c hq hk hv b g d w

theorem result_out (c : Dev nD) (hq : Real' (bq m c)) (hk : Real' (bk m c)) (hv : Real' (bv m c)) :
    @Eq (FVec Ideal S32768x1024 .bf16) (finalContents condOps preI bodyI postI 128 m c (Proc.devRef .tc main_v72)) (G9 (bq m c) (bk m c) (bv m c) (br m c)) := by
  refine (post_out (ended m c)).trans ?_
  rw [ended_carried m main_v47_5 (by decide) c, ended_kept m main_v38 (by decide +kernel) (by decide +kernel) (by decide +kernel) (by decide +kernel) (by decide +kernel) (by decide +kernel) (by decide +kernel) (by decide +kernel) (by decide +kernel) c, made_main_v38]
  funext i
  have y2 : ∃ (l : Fin 32768) (x : Fin 1024), i = ix2 l x := ⟨i 0, i 1, by funext a; fin_cases a <;> rfl⟩
  obtain ⟨l, x, rfl⟩ := y2
  have hl : l.val = 8192 * (⟨l.val / 8192, by omega⟩ : Fin 4).val + (⟨l.val % 8192, by omega⟩ : Fin 8192).val := by simp only; omega
  have hs : l.val % 8192 = 64 * (⟨l.val % 8192 / 64, by omega⟩ : Fin 128).val + (⟨l.val % 8192 % 64, by omega⟩ : Fin 64).val := by simp only; omega
  rw [← wide_head x]
  refine (out_norm _ (br m c) _ _ (head x) (channel x) l hl ⟨l.val % 8192 / 64, by omega⟩ ⟨l.val % 8192 % 64, by omega⟩ hs).trans ?_
  refine Eq.trans ?_ (G9_eq (bq m c) (bk m c) (bv m c) (br m c) _ _ (head x) (channel x) l hl).symm
  refine congrArg (gated · _ (channel x)) (funext fun w => ?_)
  rw [(loop m c hq hk hv 128 le_rfl).2.2.2.2.2 _ (Fin.isLt _), ← hs]

/-! ## The whole program -/

theorem run_args (ρ : Dev nD → PrngReg) : θ_run defs (onTc (τ := τ) main) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_arg0 rfl).trans (arg0 m c), (h c main_arg1 rfl).trans (arg1 m c),
    (h c main_arg2 rfl).trans (arg2 m c), (h c main_arg3 rfl).trans (arg3 m c)⟩) (run_fold m ρ)

theorem run_values (ρ : Dev nD → PrngReg) (hq : ∀ c, Real' (bq m c)) (hk : ∀ c, Real' (bk m c)) (hv : ∀ c, Real' (bv m c)) :
    θ_run defs (onTc (τ := τ) main) ⟨m, fun _ => 0, ρ⟩ fun r => ∀ c : Dev nD,
      r.2.mem ((c.tc : Thread nD τ).loc main_v72) = G9 (bq m c) (bk m c) (bv m c) (br m c)
      ∧ r.2.mem ((c.tc : Thread nD τ).loc main_v47_4) = G10 (bk m c) (bv m c)
      ∧ r.2.mem ((c.tc : Thread nD τ).loc main_v74) = newest (heads5 (by0 m c))
      ∧ r.2.mem ((c.tc : Thread nD τ).loc main_v76) = newest (heads6 (by0 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v72 rfl).trans (result_out m c (hq c) (hk c) (hv c)), (h c main_v47_4 rfl).trans (result_state m c (hq c) (hk c) (hv c)),
    (h c main_v74 rfl).trans (result_k m c), (h c main_v76 rfl).trans (result_v m c), (h c main_arg0 rfl).trans (arg0 m c), (h c main_arg1 rfl).trans (arg1 m c),
    (h c main_arg2 rfl).trans (arg2 m c), (h c main_arg3 rfl).trans (arg3 m c)⟩) (run_fold m ρ)

end Loop

end Cert.ReferenceStreamPromptIdeal.Trip
-- ==== Proof.StreamPromptBlock.lean ====
module

public import proofs.«01_k».proof.Proof.Chunk
public import proofs.«01_k».proof.Proof.Gen.StreamPromptIdeal.Frame
public import Idealize.ShloMosaic.Lib.Pipeline.ValueKit
public import Idealize.ShloMosaic.Lib.Pipeline.ReadBack
public import Idealize.ShloMosaic.Lib.Pointwise

@[expose] public section

set_option maxRecDepth 16384

noncomputable section

namespace Cert.StreamPromptIdeal.Block

open Cert.StreamPromptIdeal Cert.StreamPromptIdeal.Gen Cert.Retention Idealize.ShloMosaic Idealize.ShloMosaic.TcCoe Idealize.SL.Sem
open Idealize.ShloMosaic.Pipeline (Dat)

variable (Z : (c : Dev nD) → (b : Ref sig .tc) → Buf (Elt Ideal) ((c : Thread nD τ).loc b))

/-- The state a point starts from: at a stream's first chunk the given one, later what the point before left. -/
def before (c : Dev nD) (t : Fin cfg1.N) : Vec Ideal S1x4x128x256 .f32 :=
  if t.val % 32 = 0 then iblk1 Z c 4 t else (outsAt1 Z c (t.val - 1) (Nat.lt_of_le_of_lt (Nat.sub_le _ _) t.isLt)).2

section loads

variable {α : EltTy}

/-- A load of columns from `o` on of a matrix. -/
theorem ld2 {a b p q : ℕ} (X : Vec Ideal ⟨2, ![a, b]⟩ α) (o : ℕ)
    (inb : ∀ i, (![0, o] : Fin 2 → ℕ) i + (![p, q] : Fin 2 → ℕ) i ≤ (![a, b] : Fin 2 → ℕ) i) (n : Fin p) (d : Fin q) :
    View.ld X (Rect.unit (s := ⟨2, ![a, b]⟩) ![0, o] ![p, q] inb) (ix2 n d)
      = X (ix2 ⟨n.val, by have := inb 0; simp at this; omega⟩ ⟨o + d.val, by have := inb 1; simp at this; omega⟩) := by
  refine congrArg X (funext fun i => ?_)
  match i with
  | ⟨0, _⟩ => exact Fin.ext (by simp [Rect.unit, LoadRect.idx])
  | ⟨1, _⟩ => exact Fin.ext (by simp [Rect.unit])

/-- A load of one matrix of a stack. -/
theorem ld3 {a b e p q : ℕ} (X : Vec Ideal ⟨3, ![a, b, e]⟩ α) (o : ℕ)
    (inb : ∀ i, (![o, 0, 0] : Fin 3 → ℕ) i + (![1, p, q] : Fin 3 → ℕ) i ≤ (![a, b, e] : Fin 3 → ℕ) i) (n : Fin p) (d : Fin q) :
    View.ld X (Rect.unit (s := ⟨3, ![a, b, e]⟩) ![o, 0, 0] ![1, p, q] inb) (ix3 0 n d)
      = X (ix3 ⟨o, by have := inb 0; simp at this; omega⟩ ⟨n.val, by have := inb 1; simp at this; omega⟩
          ⟨d.val, by have := inb 2; simp at this; omega⟩) := by
  refine congrArg X (funext fun i => ?_)
  match i with
  | ⟨0, _⟩ => exact Fin.ext (by simp [Rect.unit])
  | ⟨1, _⟩ => exact Fin.ext (by simp [Rect.unit])
  | ⟨2, _⟩ => exact Fin.ext (by simp [Rect.unit])

/-- A load of one head's matrix of a state. -/
theorem ld4 {a b e p q : ℕ} (X : Vec Ideal ⟨4, ![1, a, b, e]⟩ α) (o : ℕ)
    (inb : ∀ i, (![0, o, 0, 0] : Fin 4 → ℕ) i + (![1, 1, p, q] : Fin 4 → ℕ) i ≤ (![1, a, b, e] : Fin 4 → ℕ) i) (n : Fin p) (d : Fin q) :
    View.ld X (Rect.unit (s := ⟨4, ![1, a, b, e]⟩) ![0, o, 0, 0] ![1, 1, p, q] inb) (ix4 0 0 n d)
      = X (ix4 0 ⟨o, by have := inb 1; simp at this; omega⟩ ⟨n.val, by have := inb 2; simp at this; omega⟩
          ⟨d.val, by have := inb 3; simp at this; omega⟩) := by
  refine congrArg X (funext fun i => ?_)
  match i with
  | ⟨0, _⟩ => exact Fin.ext (by simp [Rect.unit])
  | ⟨1, _⟩ => exact Fin.ext (by simp [Rect.unit])
  | ⟨2, _⟩ => exact Fin.ext (by simp [Rect.unit])
  | ⟨3, _⟩ => exact Fin.ext (by simp [Rect.unit])

/-- A load of one entry of a vector. -/
theorem ld1 {a : ℕ} (X : Vec Ideal ⟨1, ![a]⟩ α) (o : ℕ)
    (inb : ∀ i, (![o] : Fin 1 → ℕ) i + (![1] : Fin 1 → ℕ) i ≤ (![a] : Fin 1 → ℕ) i) (hp) :
    View.ld X (Rect.unit (s := ⟨1, ![a]⟩) ![o] ![1] inb) (Shape.Idx.first hp)
      = X (ix1 ⟨o, by have := inb 0; simp at this; omega⟩) := by
  refine congrArg X (funext fun i => ?_)
  match i with
  | ⟨0, _⟩ => exact Fin.ext (by simp [Rect.unit])

end loads

/-- The state block copied as it is. -/
theorem copy (X : Vec Ideal S1x4x128x256 .f32) : k1_pay3 X = X := by
  funext x; pointwise [k1_pay3]

/-- An index of one head's state is its row and its column. -/
theorem eq4 (x : S1x1x128x256.Idx) : ∃ d w, x = ix4 0 0 d w :=
  ⟨x 2, x 3, funext fun i => match i with
    | ⟨0, _⟩ => Fin.ext (by have := (x 0).isLt; simp at this ⊢)
    | ⟨1, _⟩ => Fin.ext (by have := (x 1).isLt; simp at this ⊢)
    | ⟨2, _⟩ => rfl
    | ⟨3, _⟩ => rfl⟩

/-- Head 0's new state. -/
theorem st0 (k : Vec Ideal S256x128 .bf16) (v : Vec Ideal S256x256 .bf16) (st : Vec Ideal S1x1x128x256 .f32)
    (kd : Vec Ideal S1x256x1 .f32) (sd : Elt Ideal .f32) (x : S1x1x128x256.Idx) :
    k1_pay10 (k1_pay5 v) (k1_pay6 st) (k1_pay8 k kd) (k1_pay9 sd) x
      = chunkState (fun n d => k (ix2 n d)) (fun n w => v (ix2 n w)) (fun d w => st (ix4 0 0 d w)) (fun n => kd (ix3 0 n 0)) sd (x 2) (x 3) := by
  obtain ⟨d, w, rfl⟩ := eq4 x; pointwise [k1_pay10, k1_pay5, k1_pay6, k1_pay8, k1_pay9, k1_pay4, chunkState]

theorem st1 (k : Vec Ideal S256x128 .bf16) (v : Vec Ideal S256x256 .bf16) (st : Vec Ideal S1x1x128x256 .f32)
    (kd : Vec Ideal S1x256x1 .f32) (sd : Elt Ideal .f32) (x : S1x1x128x256.Idx) :
    k1_pay16 (k1_pay13 k) (k1_pay14 v) st kd sd x
      = chunkState (fun n d => k (ix2 n d)) (fun n w => v (ix2 n w)) (fun d w => st (ix4 0 0 d w)) (fun n => kd (ix3 0 n 0)) sd (x 2) (x 3) := by
  obtain ⟨d, w, rfl⟩ := eq4 x; pointwise [k1_pay16, k1_pay13, k1_pay14, k1_pay15, chunkState]

theorem st2 (k : Vec Ideal S256x128 .bf16) (v : Vec Ideal S256x256 .bf16) (st : Vec Ideal S1x1x128x256 .f32)
    (kd : Vec Ideal S1x256x1 .f32) (sd : Elt Ideal .f32) (x : S1x1x128x256.Idx) :
    k1_pay27 (k1_pay21 k) (k1_pay22 v) (k1_pay23 st) kd sd x
      = chunkState (fun n d => k (ix2 n d)) (fun n w => v (ix2 n w)) (fun d w => st (ix4 0 0 d w)) (fun n => kd (ix3 0 n 0)) sd (x 2) (x 3) := by
  obtain ⟨d, w, rfl⟩ := eq4 x; pointwise [k1_pay27, k1_pay21, k1_pay22, k1_pay23, chunkState]

theorem st3 (k : Vec Ideal S256x128 .bf16) (v : Vec Ideal S256x256 .bf16) (st : Vec Ideal S1x1x128x256 .f32)
    (kd : Vec Ideal S1x256x1 .f32) (sd : Elt Ideal .f32) (x : S1x1x128x256.Idx) :
    k1_pay1 (k1_pay33 k v st kd sd) x
      = chunkState (fun n d => k (ix2 n d)) (fun n w => v (ix2 n w)) (fun d w => st (ix4 0 0 d w)) (fun n => kd (ix3 0 n 0)) sd (x 2) (x 3) := by
  obtain ⟨d, w, rfl⟩ := eq4 x; pointwise [k1_pay1, k1_pay33, k1_pay29, k1_pay30, k1_pay31, chunkState]

theorem o0 (q k : Vec Ideal S256x128 .bf16) (v : Vec Ideal S256x256 .bf16) (st : Vec Ideal S1x1x128x256 .f32)
    (ia : Vec Ideal S1x256x256 .f32) (rd : Vec Ideal S1x256x1 .f32) (r : Vec Ideal S256x256 .f32) (x : S256x256.Idx) :
    k1_pay11 (k1_pay7 q k v st ia rd) r x
      = gated (chunkOut (fun n d => q (ix2 n d)) (fun n d => k (ix2 n d)) (fun n w => v (ix2 n w)) (fun d w => st (ix4 0 0 d w))
          (fun l n => ia (ix3 0 l n)) (fun n => rd (ix3 0 n 0)) (x 0)) (fun w => r (ix2 (x 0) w)) (x 1) := by
  pointwise [k1_pay11, k1_pay7, k1_pay4, k1_pay5, k1_pay6, gated, normed, chunkOut]

theorem o1 (q k : Vec Ideal S256x128 .bf16) (v : Vec Ideal S256x256 .bf16) (st : Vec Ideal S1x1x128x256 .f32)
    (ia : Vec Ideal S1x256x256 .f32) (rd : Vec Ideal S1x256x1 .f32) (r : Vec Ideal S256x256 .f32) (x : S256x256.Idx) :
    k1_pay19 (k1_pay17 (k1_pay12 q) (k1_pay13 k) (k1_pay14 v) st ia rd) (k1_pay18 (k1_pay12 q) (k1_pay13 k) (k1_pay14 v) st ia rd) r x
      = gated (chunkOut (fun n d => q (ix2 n d)) (fun n d => k (ix2 n d)) (fun n w => v (ix2 n w)) (fun d w => st (ix4 0 0 d w))
          (fun l n => ia (ix3 0 l n)) (fun n => rd (ix3 0 n 0)) (x 0)) (fun w => r (ix2 (x 0) w)) (x 1) := by
  pointwise [k1_pay19, k1_pay17, k1_pay18, k1_pay12, k1_pay13, k1_pay14, k1_pay15, gated, normed, chunkOut]

theorem o2 (q k : Vec Ideal S256x128 .bf16) (v : Vec Ideal S256x256 .bf16) (st : Vec Ideal S1x1x128x256 .f32)
    (ia : Vec Ideal S1x256x256 .f32) (rd : Vec Ideal S1x256x1 .f32) (r : Vec Ideal S256x256 .f32) (x : S256x256.Idx) :
    k1_pay28 (k1_pay24 q k v ia) (k1_pay25 q st) (k1_pay26 rd) r x
      = gated (chunkOut (fun n d => q (ix2 n d)) (fun n d => k (ix2 n d)) (fun n w => v (ix2 n w)) (fun d w => st (ix4 0 0 d w))
          (fun l n => ia (ix3 0 l n)) (fun n => rd (ix3 0 n 0)) (x 0)) (fun w => r (ix2 (x 0) w)) (x 1) := by
  pointwise [k1_pay28, k1_pay24, k1_pay25, k1_pay26, k1_pay20, k1_pay21, k1_pay22, k1_pay23, gated, normed, chunkOut]

theorem o3 (q k : Vec Ideal S256x128 .bf16) (v : Vec Ideal S256x256 .bf16) (st : Vec Ideal S1x1x128x256 .f32)
    (ia : Vec Ideal S1x256x256 .f32) (rd : Vec Ideal S1x256x1 .f32) (r : Vec Ideal S256x256 .f32) (x : S256x256.Idx) :
    k1_pay2 (k1_pay32 q k v st ia rd) r x
      = gated (chunkOut (fun n d => q (ix2 n d)) (fun n d => k (ix2 n d)) (fun n w => v (ix2 n w)) (fun d w => st (ix4 0 0 d w))
          (fun l n => ia (ix3 0 l n)) (fun n => rd (ix3 0 n 0)) (x 0)) (fun w => r (ix2 (x 0) w)) (x 1) := by
  pointwise [k1_pay2, k1_pay32, k1_pay29, k1_pay30, k1_pay31, gated, normed, chunkOut]

/-- The new state of one head from a point's blocks. -/
abbrev nextState (K : Vec Ideal S256x512 .bf16) (V : Vec Ideal S256x1024 .bf16) (S : Vec Ideal S1x4x128x256 .f32)
    (KD : Vec Ideal S4x256x1 .f32) (SD : Vec Ideal S4 .f32) (g : Fin 4) (d : Fin 128) (w : Fin 256) : EReal :=
  chunkState (fun n d => K (ix2 n (slim g d))) (fun n w => V (ix2 n (wide g w))) (fun d w => S (ix4 0 g d w))
    (fun n => KD (ix3 g n 0)) (SD (ix1 g)) d w

/-- The output of one head from a point's blocks. -/
abbrev nextOut (Q K : Vec Ideal S256x512 .bf16) (V : Vec Ideal S256x1024 .bf16) (R : Vec Ideal S256x1024 .f32)
    (S : Vec Ideal S1x4x128x256 .f32) (IA : Vec Ideal S4x256x256 .f32) (RD : Vec Ideal S4x256x1 .f32)
    (g : Fin 4) (l : Fin 256) (w : Fin 256) : EReal :=
  gated (chunkOut (fun n d => Q (ix2 n (slim g d))) (fun n d => K (ix2 n (slim g d))) (fun n w => V (ix2 n (wide g w)))
      (fun d w => S (ix4 0 g d w)) (fun l n => IA (ix3 g l n)) (fun n => RD (ix3 g n 0)) l)
    (fun w => R (ix2 l (wide g w))) w

theorem chunkState_congr {L : ℕ} {k k' : Fin L → Fin 128 → EReal} {v v' : Fin L → Fin 256 → EReal} {st st' : Fin 128 → Fin 256 → EReal}
    {kd kd' : Fin L → EReal} {sd sd' : EReal} (hk : ∀ n d, k n d = k' n d) (hv : ∀ n w, v n w = v' n w)
    (hst : ∀ d w, st d w = st' d w) (hkd : ∀ n, kd n = kd' n) (hsd : sd = sd') (d : Fin 128) (w : Fin 256) :
    chunkState k v st kd sd d w = chunkState k' v' st' kd' sd' d w := by
  rw [funext fun n => funext (hk n), funext fun n => funext (hv n), funext fun n => funext (hst n), funext hkd, hsd]

theorem gated_congr {L : ℕ} {q q' k k' : Fin L → Fin 128 → EReal} {v v' : Fin L → Fin 256 → EReal} {st st' : Fin 128 → Fin 256 → EReal}
    {ia ia' : Fin L → Fin L → EReal} {rd rd' : Fin L → EReal} {r r' : Fin 256 → EReal}
    (hq : ∀ n d, q n d = q' n d) (hk : ∀ n d, k n d = k' n d) (hv : ∀ n w, v n w = v' n w)
    (hst : ∀ d w, st d w = st' d w) (hia : ∀ l n, ia l n = ia' l n) (hrd : ∀ n, rd n = rd' n) (hr : ∀ w, r w = r' w) (l : Fin L) (w : Fin 256) :
    gated (chunkOut q k v st ia rd l) r w = gated (chunkOut q' k' v' st' ia' rd' l) r' w := by
  rw [funext fun n => funext (hq n), funext fun n => funext (hk n), funext fun n => funext (hv n), funext fun n => funext (hst n),
    funext fun n => funext (hia n), funext hrd, funext hr]

theorem head_state0 (K : Vec Ideal S256x512 .bf16) (V : Vec Ideal S256x1024 .bf16) (S : Vec Ideal S1x4x128x256 .f32)
    (KD : Vec Ideal S4x256x1 .f32) (SD : Vec Ideal S4 .f32) (x : S1x1x128x256.Idx) (g : Fin 4) (d : Fin 128) (w : Fin 256)
    (hg : g.val = 0) (hd : d.val = (x 2).val) (hw : w.val = (x 3).val) :
    k1_pay10 (k1_pay5 (View.ld V (Rect.unit (s := S256x1024) ![0, 0] ![256, 256] inb_S256x1024_S256x256_0_0))) (k1_pay6 (View.ld S (Rect.unit (s := S1x4x128x256) ![0, 0, 0, 0] ![1, 1, 128, 256] inb_S1x4x128x256_S1x1x128x256_0_0_0_0))) (k1_pay8 (View.ld K (Rect.unit (s := S256x512) ![0, 0] ![256, 128] inb_S256x512_S256x128_0_0)) (View.ld KD (Rect.unit (s := S4x256x1) ![0, 0, 0] ![1, 256, 1] inb_S4x256x1_S1x256x1_0_0_0))) (k1_pay9 (View.ld SD (Rect.unit (s := S4) ![0] ![1] inb_S4_S1_0) (Shape.Idx.first (by decide)))) x = nextState K V S KD SD g d w := by
  obtain rfl : g = 0 := Fin.ext hg
  rw [st0, show x 2 = d from Fin.ext hd.symm, show x 3 = w from Fin.ext hw.symm]
  exact chunkState_congr (fun _ _ => ld2 K _ _ _ _) (fun _ _ => ld2 V _ _ _ _) (fun _ _ => ld4 S _ _ _ _) (fun _ => ld3 KD _ _ _ _) (ld1 SD _ _ _) _ _

theorem head_out0 (Q K : Vec Ideal S256x512 .bf16) (V : Vec Ideal S256x1024 .bf16) (R : Vec Ideal S256x1024 .f32)
    (S : Vec Ideal S1x4x128x256 .f32) (IA : Vec Ideal S4x256x256 .f32) (RD : Vec Ideal S4x256x1 .f32)
    (x : S256x256.Idx) (g : Fin 4) (l : Fin 256) (w : Fin 256)
    (hg : g.val = 0) (hl : l.val = (x 0).val) (hw : w.val = (x 1).val) :
    k1_pay11 (k1_pay7 (View.ld Q (Rect.unit (s := S256x512) ![0, 0] ![256, 128] inb_S256x512_S256x128_0_0)) (View.ld K (Rect.unit (s := S256x512) ![0, 0] ![256, 128] inb_S256x512_S256x128_0_0)) (View.ld V (Rect.unit (s := S256x1024) ![0, 0] ![256, 256] inb_S256x1024_S256x256_0_0)) (View.ld S (Rect.unit (s := S1x4x128x256) ![0, 0, 0, 0] ![1, 1, 128, 256] inb_S1x4x128x256_S1x1x128x256_0_0_0_0)) (View.ld IA (Rect.unit (s := S4x256x256) ![0, 0, 0] ![1, 256, 256] inb_S4x256x256_S1x256x256_0_0_0)) (View.ld RD (Rect.unit (s := S4x256x1) ![0, 0, 0] ![1, 256, 1] inb_S4x256x1_S1x256x1_0_0_0))) (View.ld R (Rect.unit (s := S256x1024) ![0, 0] ![256, 256] inb_S256x1024_S256x256_0_0)) x = nextOut Q K V R S IA RD g l w := by
  obtain rfl : g = 0 := Fin.ext hg
  rw [o0, show x 0 = l from Fin.ext hl.symm, show x 1 = w from Fin.ext hw.symm]
  exact gated_congr (fun _ _ => ld2 Q _ _ _ _) (fun _ _ => ld2 K _ _ _ _) (fun _ _ => ld2 V _ _ _ _) (fun _ _ => ld4 S _ _ _ _)
    (fun _ _ => ld3 IA _ _ _ _) (fun _ => ld3 RD _ _ _ _) (fun _ => ld2 R _ _ _ _) _ _

theorem head_state1 (K : Vec Ideal S256x512 .bf16) (V : Vec Ideal S256x1024 .bf16) (S : Vec Ideal S1x4x128x256 .f32)
    (KD : Vec Ideal S4x256x1 .f32) (SD : Vec Ideal S4 .f32) (x : S1x1x128x256.Idx) (g : Fin 4) (d : Fin 128) (w : Fin 256)
    (hg : g.val = 1) (hd : d.val = (x 2).val) (hw : w.val = (x 3).val) :
    k1_pay16 (k1_pay13 (View.ld K (Rect.unit (s := S256x512) ![0, 128] ![256, 128] inb_S256x512_S256x128_0_128))) (k1_pay14 (View.ld V (Rect.unit (s := S256x1024) ![0, 256] ![256, 256] inb_S256x1024_S256x256_0_256))) (View.ld S (Rect.unit (s := S1x4x128x256) ![0, 1, 0, 0] ![1, 1, 128, 256] inb_S1x4x128x256_S1x1x128x256_0_1_0_0)) (View.ld KD (Rect.unit (s := S4x256x1) ![1, 0, 0] ![1, 256, 1] inb_S4x256x1_S1x256x1_1_0_0)) (View.ld SD (Rect.unit (s := S4) ![1] ![1] inb_S4_S1_1) (Shape.Idx.first (by decide))) x = nextState K V S KD SD g d w := by
  obtain rfl : g = 1 := Fin.ext hg
  rw [st1, show x 2 = d from Fin.ext hd.symm, show x 3 = w from Fin.ext hw.symm]
  exact chunkState_congr (fun _ _ => ld2 K _ _ _ _) (fun _ _ => ld2 V _ _ _ _) (fun _ _ => ld4 S _ _ _ _) (fun _ => ld3 KD _ _ _ _) (ld1 SD _ _ _) _ _

theorem head_out1 (Q K : Vec Ideal S256x512 .bf16) (V : Vec Ideal S256x1024 .bf16) (R : Vec Ideal S256x1024 .f32)
    (S : Vec Ideal S1x4x128x256 .f32) (IA : Vec Ideal S4x256x256 .f32) (RD : Vec Ideal S4x256x1 .f32)
    (x : S256x256.Idx) (g : Fin 4) (l : Fin 256) (w : Fin 256)
    (hg : g.val = 1) (hl : l.val = (x 0).val) (hw : w.val = (x 1).val) :
    k1_pay19 (k1_pay17 (k1_pay12 (View.ld Q (Rect.unit (s := S256x512) ![0, 128] ![256, 128] inb_S256x512_S256x128_0_128))) (k1_pay13 (View.ld K (Rect.unit (s := S256x512) ![0, 128] ![256, 128] inb_S256x512_S256x128_0_128))) (k1_pay14 (View.ld V (Rect.unit (s := S256x1024) ![0, 256] ![256, 256] inb_S256x1024_S256x256_0_256))) (View.ld S (Rect.unit (s := S1x4x128x256) ![0, 1, 0, 0] ![1, 1, 128, 256] inb_S1x4x128x256_S1x1x128x256_0_1_0_0)) (View.ld IA (Rect.unit (s := S4x256x256) ![1, 0, 0] ![1, 256, 256] inb_S4x256x256_S1x256x256_1_0_0)) (View.ld RD (Rect.unit (s := S4x256x1) ![1, 0, 0] ![1, 256, 1] inb_S4x256x1_S1x256x1_1_0_0))) (k1_pay18 (k1_pay12 (View.ld Q (Rect.unit (s := S256x512) ![0, 128] ![256, 128] inb_S256x512_S256x128_0_128))) (k1_pay13 (View.ld K (Rect.unit (s := S256x512) ![0, 128] ![256, 128] inb_S256x512_S256x128_0_128))) (k1_pay14 (View.ld V (Rect.unit (s := S256x1024) ![0, 256] ![256, 256] inb_S256x1024_S256x256_0_256))) (View.ld S (Rect.unit (s := S1x4x128x256) ![0, 1, 0, 0] ![1, 1, 128, 256] inb_S1x4x128x256_S1x1x128x256_0_1_0_0)) (View.ld IA (Rect.unit (s := S4x256x256) ![1, 0, 0] ![1, 256, 256] inb_S4x256x256_S1x256x256_1_0_0)) (View.ld RD (Rect.unit (s := S4x256x1) ![1, 0, 0] ![1, 256, 1] inb_S4x256x1_S1x256x1_1_0_0))) (View.ld R (Rect.unit (s := S256x1024) ![0, 256] ![256, 256] inb_S256x1024_S256x256_0_256)) x = nextOut Q K V R S IA RD g l w := by
  obtain rfl : g = 1 := Fin.ext hg
  rw [o1, show x 0 = l from Fin.ext hl.symm, show x 1 = w from Fin.ext hw.symm]
  exact gated_congr (fun _ _ => ld2 Q _ _ _ _) (fun _ _ => ld2 K _ _ _ _) (fun _ _ => ld2 V _ _ _ _) (fun _ _ => ld4 S _ _ _ _)
    (fun _ _ => ld3 IA _ _ _ _) (fun _ => ld3 RD _ _ _ _) (fun _ => ld2 R _ _ _ _) _ _

theorem head_state2 (K : Vec Ideal S256x512 .bf16) (V : Vec Ideal S256x1024 .bf16) (S : Vec Ideal S1x4x128x256 .f32)
    (KD : Vec Ideal S4x256x1 .f32) (SD : Vec Ideal S4 .f32) (x : S1x1x128x256.Idx) (g : Fin 4) (d : Fin 128) (w : Fin 256)
    (hg : g.val = 2) (hd : d.val = (x 2).val) (hw : w.val = (x 3).val) :
    k1_pay27 (k1_pay21 (View.ld K (Rect.unit (s := S256x512) ![0, 256] ![256, 128] inb_S256x512_S256x128_0_256))) (k1_pay22 (View.ld V (Rect.unit (s := S256x1024) ![0, 512] ![256, 256] inb_S256x1024_S256x256_0_512))) (k1_pay23 (View.ld S (Rect.unit (s := S1x4x128x256) ![0, 2, 0, 0] ![1, 1, 128, 256] inb_S1x4x128x256_S1x1x128x256_0_2_0_0))) (View.ld KD (Rect.unit (s := S4x256x1) ![2, 0, 0] ![1, 256, 1] inb_S4x256x1_S1x256x1_2_0_0)) (View.ld SD (Rect.unit (s := S4) ![2] ![1] inb_S4_S1_2) (Shape.Idx.first (by decide))) x = nextState K V S KD SD g d w := by
  obtain rfl : g = 2 := Fin.ext hg
  rw [st2, show x 2 = d from Fin.ext hd.symm, show x 3 = w from Fin.ext hw.symm]
  exact chunkState_congr (fun _ _ => ld2 K _ _ _ _) (fun _ _ => ld2 V _ _ _ _) (fun _ _ => ld4 S _ _ _ _) (fun _ => ld3 KD _ _ _ _) (ld1 SD _ _ _) _ _

theorem head_out2 (Q K : Vec Ideal S256x512 .bf16) (V : Vec Ideal S256x1024 .bf16) (R : Vec Ideal S256x1024 .f32)
    (S : Vec Ideal S1x4x128x256 .f32) (IA : Vec Ideal S4x256x256 .f32) (RD : Vec Ideal S4x256x1 .f32)
    (x : S256x256.Idx) (g : Fin 4) (l : Fin 256) (w : Fin 256)
    (hg : g.val = 2) (hl : l.val = (x 0).val) (hw : w.val = (x 1).val) :
    k1_pay28 (k1_pay24 (View.ld Q (Rect.unit (s := S256x512) ![0, 256] ![256, 128] inb_S256x512_S256x128_0_256)) (View.ld K (Rect.unit (s := S256x512) ![0, 256] ![256, 128] inb_S256x512_S256x128_0_256)) (View.ld V (Rect.unit (s := S256x1024) ![0, 512] ![256, 256] inb_S256x1024_S256x256_0_512)) (View.ld IA (Rect.unit (s := S4x256x256) ![2, 0, 0] ![1, 256, 256] inb_S4x256x256_S1x256x256_2_0_0))) (k1_pay25 (View.ld Q (Rect.unit (s := S256x512) ![0, 256] ![256, 128] inb_S256x512_S256x128_0_256)) (View.ld S (Rect.unit (s := S1x4x128x256) ![0, 2, 0, 0] ![1, 1, 128, 256] inb_S1x4x128x256_S1x1x128x256_0_2_0_0))) (k1_pay26 (View.ld RD (Rect.unit (s := S4x256x1) ![2, 0, 0] ![1, 256, 1] inb_S4x256x1_S1x256x1_2_0_0))) (View.ld R (Rect.unit (s := S256x1024) ![0, 512] ![256, 256] inb_S256x1024_S256x256_0_512)) x = nextOut Q K V R S IA RD g l w := by
  obtain rfl : g = 2 := Fin.ext hg
  rw [o2, show x 0 = l from Fin.ext hl.symm, show x 1 = w from Fin.ext hw.symm]
  exact gated_congr (fun _ _ => ld2 Q _ _ _ _) (fun _ _ => ld2 K _ _ _ _) (fun _ _ => ld2 V _ _ _ _) (fun _ _ => ld4 S _ _ _ _)
    (fun _ _ => ld3 IA _ _ _ _) (fun _ => ld3 RD _ _ _ _) (fun _ => ld2 R _ _ _ _) _ _

theorem head_state3 (K : Vec Ideal S256x512 .bf16) (V : Vec Ideal S256x1024 .bf16) (S : Vec Ideal S1x4x128x256 .f32)
    (KD : Vec Ideal S4x256x1 .f32) (SD : Vec Ideal S4 .f32) (x : S1x1x128x256.Idx) (g : Fin 4) (d : Fin 128) (w : Fin 256)
    (hg : g.val = 3) (hd : d.val = (x 2).val) (hw : w.val = (x 3).val) :
    k1_pay1 (k1_pay33 (View.ld K (Rect.unit (s := S256x512) ![0, 384] ![256, 128] inb_S256x512_S256x128_0_384)) (View.ld V (Rect.unit (s := S256x1024) ![0, 768] ![256, 256] inb_S256x1024_S256x256_0_768)) (View.ld S (Rect.unit (s := S1x4x128x256) ![0, 3, 0, 0] ![1, 1, 128, 256] inb_S1x4x128x256_S1x1x128x256_0_3_0_0)) (View.ld KD (Rect.unit (s := S4x256x1) ![3, 0, 0] ![1, 256, 1] inb_S4x256x1_S1x256x1_3_0_0)) (View.ld SD (Rect.unit (s := S4) ![3] ![1] inb_S4_S1_3) (Shape.Idx.first (by decide)))) x = nextState K V S KD SD g d w := by
  obtain rfl : g = 3 := Fin.ext hg
  rw [st3, show x 2 = d from Fin.ext hd.symm, show x 3 = w from Fin.ext hw.symm]
  exact chunkState_congr (fun _ _ => ld2 K _ _ _ _) (fun _ _ => ld2 V _ _ _ _) (fun _ _ => ld4 S _ _ _ _) (fun _ => ld3 KD _ _ _ _) (ld1 SD _ _ _) _ _

theorem head_out3 (Q K : Vec Ideal S256x512 .bf16) (V : Vec Ideal S256x1024 .bf16) (R : Vec Ideal S256x1024 .f32)
    (S : Vec Ideal S1x4x128x256 .f32) (IA : Vec Ideal S4x256x256 .f32) (RD : Vec Ideal S4x256x1 .f32)
    (x : S256x256.Idx) (g : Fin 4) (l : Fin 256) (w : Fin 256)
    (hg : g.val = 3) (hl : l.val = (x 0).val) (hw : w.val = (x 1).val) :
    k1_pay2 (k1_pay32 (View.ld Q (Rect.unit (s := S256x512) ![0, 384] ![256, 128] inb_S256x512_S256x128_0_384)) (View.ld K (Rect.unit (s := S256x512) ![0, 384] ![256, 128] inb_S256x512_S256x128_0_384)) (View.ld V (Rect.unit (s := S256x1024) ![0, 768] ![256, 256] inb_S256x1024_S256x256_0_768)) (View.ld S (Rect.unit (s := S1x4x128x256) ![0, 3, 0, 0] ![1, 1, 128, 256] inb_S1x4x128x256_S1x1x128x256_0_3_0_0)) (View.ld IA (Rect.unit (s := S4x256x256) ![3, 0, 0] ![1, 256, 256] inb_S4x256x256_S1x256x256_3_0_0)) (View.ld RD (Rect.unit (s := S4x256x1) ![3, 0, 0] ![1, 256, 1] inb_S4x256x1_S1x256x1_3_0_0))) (View.ld R (Rect.unit (s := S256x1024) ![0, 768] ![256, 256] inb_S256x1024_S256x256_0_768)) x = nextOut Q K V R S IA RD g l w := by
  obtain rfl : g = 3 := Fin.ext hg
  rw [o3, show x 0 = l from Fin.ext hl.symm, show x 1 = w from Fin.ext hw.symm]
  exact gated_congr (fun _ _ => ld2 Q _ _ _ _) (fun _ _ => ld2 K _ _ _ _) (fun _ _ => ld2 V _ _ _ _) (fun _ _ => ld4 S _ _ _ _)
    (fun _ _ => ld3 IA _ _ _ _) (fun _ => ld3 RD _ _ _ _) (fun _ => ld2 R _ _ _ _) _ _

set_option maxHeartbeats 400000

theorem state_A (c : Dev nD) (t : Fin cfg1.N) (h0 : t.val % 32 = 0) (g : Fin 4) (d : Fin 128) (w : Fin 256) :
    (outsAt1 Z c t.val t.isLt).2 (ix4 0 g d w)
      = nextState (iblk1 Z c 1 t) (iblk1 Z c 2 t) (before Z c t) (iblk1 Z c 7 t) (iblk1 Z c 8 t) g d w := by
  rw [outsAt1_A Z c t h0]
  simp only [before, if_pos h0]
  frame_open
  simp (disch := decide) only [↓ View.readCov_skip, ↓ View.readCov_cons_toLoadRect, ↓ View.readCov_fill]
  frame_out
  simp only [copy]
  refine View.canon_append_of_piecesOf (Val := Elt Ideal) (e := .f32) (s := S1x4x128x256) (fun y : S1x4x128x256.Idx => nextState (iblk1 Z c 1 t) (iblk1 Z c 2 t) (iblk1 Z c 4 t) (iblk1 Z c 7 t) (iblk1 Z c 8 t) (y 1) (y 2) (y 3))
    [_] [_, _, _, _] ⟨fun x => ?_, fun x => ?_, fun x => ?_, fun x => ?_, trivial⟩ (ix4 0 g d w) ?_
  · have x1 := (x 1).isLt
    exact head_state3 (iblk1 Z c 1 t) (iblk1 Z c 2 t) (iblk1 Z c 4 t) (iblk1 Z c 7 t) (iblk1 Z c 8 t) x _ _ _ (by rw [Rect.emb_apply]; simp [Rect.unit] at x1 ⊢) (by rw [Rect.emb_apply]; simp [Rect.unit])
      (by rw [Rect.emb_apply]; simp [Rect.unit])
  · have x1 := (x 1).isLt
    exact head_state2 (iblk1 Z c 1 t) (iblk1 Z c 2 t) (iblk1 Z c 4 t) (iblk1 Z c 7 t) (iblk1 Z c 8 t) x _ _ _ (by rw [Rect.emb_apply]; simp [Rect.unit] at x1 ⊢) (by rw [Rect.emb_apply]; simp [Rect.unit])
      (by rw [Rect.emb_apply]; simp [Rect.unit])
  · have x1 := (x 1).isLt
    exact head_state1 (iblk1 Z c 1 t) (iblk1 Z c 2 t) (iblk1 Z c 4 t) (iblk1 Z c 7 t) (iblk1 Z c 8 t) x _ _ _ (by rw [Rect.emb_apply]; simp [Rect.unit] at x1 ⊢) (by rw [Rect.emb_apply]; simp [Rect.unit])
      (by rw [Rect.emb_apply]; simp [Rect.unit])
  · have x1 := (x 1).isLt
    exact head_state0 (iblk1 Z c 1 t) (iblk1 Z c 2 t) (iblk1 Z c 4 t) (iblk1 Z c 7 t) (iblk1 Z c 8 t) x _ _ _ (by rw [Rect.emb_apply]; simp [Rect.unit] at x1 ⊢) (by rw [Rect.emb_apply]; simp [Rect.unit])
      (by rw [Rect.emb_apply]; simp [Rect.unit])
  · exact View.cover_of_tiled_head _ _ _ (by rfl) _

theorem state_B (c : Dev nD) (t : Fin cfg1.N) (h0 : ¬t.val % 32 = 0) (g : Fin 4) (d : Fin 128) (w : Fin 256) :
    (outsAt1 Z c t.val t.isLt).2 (ix4 0 g d w)
      = nextState (iblk1 Z c 1 t) (iblk1 Z c 2 t) (before Z c t) (iblk1 Z c 7 t) (iblk1 Z c 8 t) g d w := by
  obtain ⟨y, hy⟩ : ∃ y : S1x4x128x256.Idx, y = ix4 0 g d w := ⟨_, rfl⟩
  have a1 : (y 1).val = g.val := by rw [hy]; rfl
  have a2 : (y 2).val = d.val := by rw [hy]; rfl
  have a3 : (y 3).val = w.val := by rw [hy]; rfl
  rw [← hy, outsAt1_B Z c t h0]
  clear hy
  simp only [before, if_neg h0]
  generalize (outsAt1 Z c (t.val - 1) (Nat.lt_of_le_of_lt (Nat.sub_le _ _) t.isLt)).2 = X
  frame_out
  canon_tiles x h
  · exact head_state3 (iblk1 Z c 1 t) (iblk1 Z c 2 t) X (iblk1 Z c 7 t) (iblk1 Z c 8 t) x g d w (by omega) (by omega) (by omega)
  · exact head_state2 (iblk1 Z c 1 t) (iblk1 Z c 2 t) X (iblk1 Z c 7 t) (iblk1 Z c 8 t) x g d w (by omega) (by omega) (by omega)
  · exact head_state1 (iblk1 Z c 1 t) (iblk1 Z c 2 t) X (iblk1 Z c 7 t) (iblk1 Z c 8 t) x g d w (by omega) (by omega) (by omega)
  · exact head_state0 (iblk1 Z c 1 t) (iblk1 Z c 2 t) X (iblk1 Z c 7 t) (iblk1 Z c 8 t) x g d w (by omega) (by omega) (by omega)

theorem out_A (c : Dev nD) (t : Fin cfg1.N) (h0 : t.val % 32 = 0) (g : Fin 4) (l : Fin 256) (w : Fin 256) :
    (outsAt1 Z c t.val t.isLt).1 (ix2 l (wide g w))
      = nextOut (iblk1 Z c 0 t) (iblk1 Z c 1 t) (iblk1 Z c 2 t) (iblk1 Z c 3 t) (before Z c t) (iblk1 Z c 5 t) (iblk1 Z c 6 t) g l w := by
  obtain ⟨y, hy⟩ : ∃ y : S256x1024.Idx, y = ix2 l (wide g w) := ⟨_, rfl⟩
  have a0 : (y 0).val = l.val := by rw [hy]; rfl
  have a1 : (y 1).val = 256 * g.val + w.val := by rw [hy]; rfl
  rw [← hy, outsAt1_A Z c t h0]
  clear hy
  simp only [before, if_pos h0]
  frame_open
  simp (disch := decide) only [↓ View.readCov_skip, ↓ View.readCov_cons_toLoadRect, ↓ View.readCov_fill]
  frame_out
  simp only [copy]
  canon_tiles x h
  · exact head_out3 (iblk1 Z c 0 t) (iblk1 Z c 1 t) (iblk1 Z c 2 t) (iblk1 Z c 3 t) (iblk1 Z c 4 t) (iblk1 Z c 5 t) (iblk1 Z c 6 t) x g l w
      (by omega) (by omega) (by omega)
  · exact head_out2 (iblk1 Z c 0 t) (iblk1 Z c 1 t) (iblk1 Z c 2 t) (iblk1 Z c 3 t) (iblk1 Z c 4 t) (iblk1 Z c 5 t) (iblk1 Z c 6 t) x g l w
      (by omega) (by omega) (by omega)
  · exact head_out1 (iblk1 Z c 0 t) (iblk1 Z c 1 t) (iblk1 Z c 2 t) (iblk1 Z c 3 t) (iblk1 Z c 4 t) (iblk1 Z c 5 t) (iblk1 Z c 6 t) x g l w
      (by omega) (by omega) (by omega)
  · exact head_out0 (iblk1 Z c 0 t) (iblk1 Z c 1 t) (iblk1 Z c 2 t) (iblk1 Z c 3 t) (iblk1 Z c 4 t) (iblk1 Z c 5 t) (iblk1 Z c 6 t) x g l w
      (by omega) (by omega) (by omega)

theorem out_B (c : Dev nD) (t : Fin cfg1.N) (h0 : ¬t.val % 32 = 0) (g : Fin 4) (l : Fin 256) (w : Fin 256) :
    (outsAt1 Z c t.val t.isLt).1 (ix2 l (wide g w))
      = nextOut (iblk1 Z c 0 t) (iblk1 Z c 1 t) (iblk1 Z c 2 t) (iblk1 Z c 3 t) (before Z c t) (iblk1 Z c 5 t) (iblk1 Z c 6 t) g l w := by
  obtain ⟨y, hy⟩ : ∃ y : S256x1024.Idx, y = ix2 l (wide g w) := ⟨_, rfl⟩
  have a0 : (y 0).val = l.val := by rw [hy]; rfl
  have a1 : (y 1).val = 256 * g.val + w.val := by rw [hy]; rfl
  rw [← hy, outsAt1_B Z c t h0]
  clear hy
  simp only [before, if_neg h0]
  generalize (outsAt1 Z c (t.val - 1) (Nat.lt_of_le_of_lt (Nat.sub_le _ _) t.isLt)).2 = X
  frame_out
  canon_tiles x h
  · exact head_out3 (iblk1 Z c 0 t) (iblk1 Z c 1 t) (iblk1 Z c 2 t) (iblk1 Z c 3 t) X (iblk1 Z c 5 t) (iblk1 Z c 6 t) x g l w
      (by omega) (by omega) (by omega)
  · exact head_out2 (iblk1 Z c 0 t) (iblk1 Z c 1 t) (iblk1 Z c 2 t) (iblk1 Z c 3 t) X (iblk1 Z c 5 t) (iblk1 Z c 6 t) x g l w
      (by omega) (by omega) (by omega)
  · exact head_out1 (iblk1 Z c 0 t) (iblk1 Z c 1 t) (iblk1 Z c 2 t) (iblk1 Z c 3 t) X (iblk1 Z c 5 t) (iblk1 Z c 6 t) x g l w
      (by omega) (by omega) (by omega)
  · exact head_out0 (iblk1 Z c 0 t) (iblk1 Z c 1 t) (iblk1 Z c 2 t) (iblk1 Z c 3 t) X (iblk1 Z c 5 t) (iblk1 Z c 6 t) x g l w
      (by omega) (by omega) (by omega)

end Cert.StreamPromptIdeal.Block
-- ==== Proof.StreamPromptRows.lean ====
module

public import proofs.«01_k».proof.Proof.Gen.StreamPromptIdeal.Frame
public import proofs.«01_k».proof.Proof.ProjectPromptRows
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.StableHlo.RunRead

@[expose] public section

set_option maxRecDepth 16384

noncomputable section

namespace Cert.StreamPromptIdeal.Rows

open Cert.StreamPromptIdeal Cert.StreamPromptIdeal.Gen Cert.Rows Idealize.ShloMosaic Idealize.ShloMosaic.TcCoe Idealize.SL.Sem
open Idealize.ShloMosaic.Pipeline (Dat)
open Cert.ProjectPromptIdeal.Rows (columns columns_at res10 res10_at       res5 res5_at res6 res6_at res7 res7_at res8 res8_at res9 res9_at)

theorem normed_at (v0 : FVec Ideal S256x1024 .f32) (v2 : FVec Ideal S1x1024 .f32) (l : Fin 256) (k : Fin 1024) :
    (k0_pay2 v0 v2 : FVec Ideal S256x1024 .bf16) (ix2 l k) = normed (fun k => v0 (ix2 l k)) (fun k => v2 (ix2 0 k)) k := by
  pointwise [k0_pay2, normed]

theorem kept_at (x0 : Vec Ideal S256x1024 .f32) (x1 : Vec Ideal S1x1024 .f32) (x2 : Vec Ideal S1024x5888 .bf16) (x3 : Vec Ideal S1x2048 .f32) (l : Fin 256) (k : Fin 1024) :
    (k0_pay11 x0 x1 x2 x3 : FVec Ideal S256x1024 .bf16) (ix2 l k) = normed (fun k => x0 (ix2 l k)) (fun k => x1 (ix2 0 k)) k := by
  have h0 : (fun k => View.ld x0 r0_0 (ix2 l k)) = fun k => x0 (ix2 l k) := funext fun k => ld2 x0 0 _ l k l k rfl (by omega)
  have h1 : (fun k => View.ld x1 r0_1 (ix2 0 k)) = fun k => x1 (ix2 0 k) := funext fun k => ld2 x1 0 _ 0 k 0 k rfl (by omega)
  refine (normed_at (View.ld x0 r0_0) (View.ld x1 r0_1) l k).trans ?_
  rw [h0, h1]

theorem stored5 (v0 : FVec Ideal S256x1024 .f32) (v2 : FVec Ideal S1x1024 .f32) (w : FVec Ideal S1024x128 .bf16) (l : Fin 256) (j : Fin 128) :
    (k0_pay4 v0 v2 w : FVec Ideal S256x128 .f32) (ix2 l j) = (∑ k, (k0_pay2 v0 v2 : FVec Ideal S256x1024 .bf16) (ix2 l k) * w (ix2 k j)) := by
  pointwise [k0_pay4]

theorem stored6 (v0 : FVec Ideal S256x1024 .f32) (v2 : FVec Ideal S1x1024 .f32) (w : FVec Ideal S1024x128 .bf16) (l : Fin 256) (j : Fin 128) :
    (k0_pay5 v0 v2 w : FVec Ideal S256x128 .f32) (ix2 l j) = (∑ k, (k0_pay2 v0 v2 : FVec Ideal S256x1024 .bf16) (ix2 l k) * w (ix2 k j)) := by
  pointwise [k0_pay5]

theorem stored7 (h : FVec Ideal S256x1024 .bf16) (w : FVec Ideal S1024x512 .bf16) (l : Fin 256) (j : Fin 512) :
    (k0_pay6 h w : FVec Ideal S256x512 .bf16) (ix2 l j) = (∑ k, (h : FVec Ideal S256x1024 .bf16) (ix2 l k) * w (ix2 k j)) := by
  pointwise [k0_pay6]

theorem stored8 (h : FVec Ideal S256x1024 .bf16) (w : FVec Ideal S1024x512 .bf16) (l : Fin 256) (j : Fin 512) :
    (k0_pay7 h w : FVec Ideal S256x512 .bf16) (ix2 l j) = (∑ k, (h : FVec Ideal S256x1024 .bf16) (ix2 l k) * w (ix2 k j)) * Ideal.ofBits .f32 0x3DB504F3#32 := by
  pointwise [k0_pay7]

theorem stored9 (h : FVec Ideal S256x1024 .bf16) (w : FVec Ideal S1024x1024 .bf16) (l : Fin 256) (j : Fin 1024) :
    (k0_pay8 h w : FVec Ideal S256x1024 .bf16) (ix2 l j) = (∑ k, (h : FVec Ideal S256x1024 .bf16) (ix2 l k) * w (ix2 k j)) := by
  pointwise [k0_pay8]

theorem stored10 (h : FVec Ideal S256x1024 .bf16) (w : FVec Ideal S1024x1024 .bf16) (l : Fin 256) (j : Fin 1024) :
    (k0_pay9 h w : FVec Ideal S256x1024 .f32) (ix2 l j) = (∑ k, (h : FVec Ideal S256x1024 .bf16) (ix2 l k) * w (ix2 k j)) := by
  pointwise [k0_pay9]

variable (m : (ℓ : Loc nD τ sig) → Buf (Elt Ideal) ℓ) (ρ : Dev nD → PrngReg)

/-- Which block of its array each window holds at a point. -/
theorem idx : ∀ t : Fin grid0.N,
    win0_0.index t = ![t.val, 0] ∧ win0_1.index t = ![0, 0] ∧ win0_2.index t = ![0, 0] ∧ win0_3.index t = ![0, 0]
    ∧ win0_4.index t = ![t.val, 0] ∧ win0_5.index t = ![t.val, 0] ∧ win0_6.index t = ![t.val, 0] ∧ win0_7.index t = ![t.val, 0] ∧ win0_8.index t = ![t.val, 0] ∧ win0_9.index t = ![t.val, 0] ∧ win0_10.index t = ![t.val, 0] ∧ win0_11.index t = ![t.val, 0] ∧ win0_12.index t = ![t.val, 0] := by
  decide +kernel

/-- A vector laid out as a row. -/
theorem vec1024 (X : FVec Ideal S1x1024 .f32) (x : Fin 1024) :
    broadcastInDim S1x1024 ![1] bcast_S1024_S1x1024_1 (shapeCast S1024 X shapeCasts_S1x1024_S1024) (ix2 0 x) = X (ix2 0 x) := by
  pointwise

theorem vec2048 (X : FVec Ideal S1x2048 .f32) (x : Fin 2048) :
    broadcastInDim S1x2048 ![1] bcast_S2048_S1x2048_1 (shapeCast S2048 X shapeCasts_S1x2048_S2048) (ix2 0 x) = X (ix2 0 x) := by
  pointwise

/-- A row of a flattened array is a token of a stream. -/
theorem row1024 (X : FVec Ideal S4x8192x1024 .f32) (r : Fin 32768) (x : Fin 1024) (b : Fin 4) (s : Fin 8192) (hr : r.val = 8192 * b.val + s.val) :
    shapeCast S32768x1024 X shapeCasts_S4x8192x1024_S32768x1024 (ix2 r x) = X (ix3 b s x) := by
  pointwise
  have e0 : ∀ h, (⟨r.val / 8192, h⟩ : Fin 4) = b := fun _ => Fin.ext (by simp only; omega)
  have e1 : ∀ h, (⟨r.val % 8192, h⟩ : Fin 8192) = s := fun _ => Fin.ext (by simp only; omega)
  simp only [e0, e1]

/-- The weights of a layer of one. -/
theorem wholeS1024x5888 (X : FVec Ideal S1x1024x5888 .f32) (i : Fin 1024) (x : Fin 5888) :
    shapeCast S1024x5888 X shapeCasts_S1x1024x5888_S1024x5888 (ix2 i x) = X (ix3 0 i x) := by
  pointwise

theorem entry0 (c : Dev nD) : @Eq (FVec Ideal S32768x1024 .f32) (V1 m ρ c main_v0) (shapeCast S32768x1024 (m ((c : Thread nD τ).loc main_arg0) : FVec Ideal S4x8192x1024 .f32) shapeCasts_S4x8192x1024_S32768x1024) := by
  simp only [V1, W1, hostOps0]
  after_reads_simp <;> rfl

theorem at0 (F : FVec Ideal S32768x1024 .f32) (t : Fin cfg0.N) (l : Fin 256) (x : Fin 1024) (r : Fin 32768) (hr : r.val = 256 * t.val + l.val) :
    F (((cfg0.win 0).blk t).view.emb (ix2 l x)) = F (ix2 r x) := by
  blk_ext [idx t]

theorem blk0 (c : Dev nD) (t : Fin cfg0.N) (l : Fin 256) (x : Fin 1024) (b : Fin 4) (s : Fin 8192) (hs : 8192 * b.val + s.val = 256 * t.val + l.val) :
    (iblk0 (V1 m ρ) c 0 t : FVec Ideal S256x1024 .f32) (ix2 l x) = (m ((c : Thread nD τ).loc main_arg0) : FVec Ideal S4x8192x1024 .f32) (ix3 b s x) := by
  have ht : t.val < 128 := lt_of_lt_of_eq t.isLt N_0
  refine (at0 (V1 m ρ c main_v0) t l x ⟨256 * t.val + l.val, by omega⟩ rfl).trans ?_
  rw [entry0]
  exact row1024 _ _ x b s hs.symm

theorem entry1 (c : Dev nD) : @Eq (FVec Ideal S1x1024 .f32) (V1 m ρ c main_v2) (broadcastInDim S1x1024 ![1] bcast_S1024_S1x1024_1 (shapeCast S1024 (m ((c : Thread nD τ).loc main_arg1) : FVec Ideal S1x1024 .f32) shapeCasts_S1x1024_S1024)) := by
  simp only [V1, W1, hostOps0]
  after_reads_simp <;> rfl

theorem at1 (F : FVec Ideal S1x1024 .f32) (t : Fin cfg0.N)  (x : Fin 1024) :
    F (((cfg0.win 1).blk t).view.emb (ix2 0 x)) = F (ix2 0 x) := by
  blk_ext [idx t]

theorem blk1 (c : Dev nD) (t : Fin cfg0.N)  (x : Fin 1024) :
    (iblk0 (V1 m ρ) c 1 t : FVec Ideal S1x1024 .f32) (ix2 0 x) = (m ((c : Thread nD τ).loc main_arg1) : FVec Ideal S1x1024 .f32) (ix2 0 x) := by
  refine (at1 (V1 m ρ c main_v2) t x).trans ?_
  rw [entry1]
  exact vec1024 _ x

theorem entry3 (c : Dev nD) : @Eq (FVec Ideal S1x2048 .f32) (V1 m ρ c main_v6) (broadcastInDim S1x2048 ![1] bcast_S2048_S1x2048_1 (shapeCast S2048 (m ((c : Thread nD τ).loc main_arg3) : FVec Ideal S1x2048 .f32) shapeCasts_S1x2048_S2048)) := by
  simp only [V1, W1, hostOps0]
  after_reads_simp <;> rfl

theorem at3 (F : FVec Ideal S1x2048 .f32) (t : Fin cfg0.N)  (x : Fin 2048) :
    F (((cfg0.win 3).blk t).view.emb (ix2 0 x)) = F (ix2 0 x) := by
  blk_ext [idx t]

theorem blk3 (c : Dev nD) (t : Fin cfg0.N)  (x : Fin 2048) :
    (iblk0 (V1 m ρ) c 3 t : FVec Ideal S1x2048 .f32) (ix2 0 x) = (m ((c : Thread nD τ).loc main_arg3) : FVec Ideal S1x2048 .f32) (ix2 0 x) := by
  refine (at3 (V1 m ρ c main_v6) t x).trans ?_
  rw [entry3]
  exact vec2048 _ x

theorem entry2 (c : Dev nD) : @Eq (FVec Ideal S1024x5888 .bf16) (V1 m ρ c main_v4) (truncf .bf16 (shapeCast S1024x5888 (m ((c : Thread nD τ).loc main_arg2) : FVec Ideal S1x1024x5888 .f32) shapeCasts_S1x1024x5888_S1024x5888) bitsLt_bf16_f32) := by
  simp only [V1, W1, hostOps0]
  after_reads_simp <;> rfl

theorem at2 (F : FVec Ideal S1024x5888 .bf16) (t : Fin cfg0.N) (i : Fin 1024) (x : Fin 5888) :
    F (((cfg0.win 2).blk t).view.emb (ix2 i x)) = F (ix2 i x) := by
  blk_ext [idx t]

theorem blk2 (c : Dev nD) (t : Fin cfg0.N) (i : Fin 1024) (x : Fin 5888) :
    (iblk0 (V1 m ρ) c 2 t : FVec Ideal S1024x5888 .bf16) (ix2 i x) = (m ((c : Thread nD τ).loc main_arg2) : FVec Ideal S1x1024x5888 .f32) (ix3 0 i x) := by
  refine (at2 (V1 m ρ c main_v4) t i x).trans ?_
  rw [entry2]
  exact wholeS1024x5888 _ i x

theorem at5 (F : FVec Ideal S32768x128 .f32) (t : Fin cfg0.N) (l : Fin 256) (x : Fin 128) (r : Fin 32768) (hr : r.val = 256 * t.val + l.val) :
    F (((cfg0.win 5).blk t).view.emb (ix2 l x)) = F (ix2 r x) := by
  blk_ext [idx t]

theorem final5 (c : Dev nD) : (dat0 (V1 m ρ) c).arrAt 5 cfg0.N = res5 (columns (m ((c : Thread nD τ).loc main_arg0)) (m ((c : Thread nD τ).loc main_arg1)) (m ((c : Thread nD τ).loc main_arg2))) (m ((c : Thread nD τ).loc main_arg3)) := by
  refine (dat0 (V1 m ρ) c).arrAt_eq_of_covers 5 _ (by decide +kernel) fun t hf y => ?_
  have ht : t.val < 128 := lt_of_lt_of_eq t.isLt N_0
  blk_simp
  rw [after0_5]
  frame_out
  have y2 : ∃ (l : Fin 256) (x : Fin 128), y = ix2 l x := ⟨y 0, y 1, by funext a; fin_cases a <;> rfl⟩
  obtain ⟨l, j, rfl⟩ := y2
  have hs : 8192 * (⟨(256 * t.val + l.val) / 8192, by omega⟩ : Fin 4).val + (⟨(256 * t.val + l.val) % 8192, by omega⟩ : Fin 8192).val = 256 * t.val + l.val := by simp only; omega
  refine (stored5 (iblk0 (V1 m ρ) c 0 t) (iblk0 (V1 m ρ) c 1 t) (View.ld (iblk0 (V1 m ρ) c 2 t : FVec Ideal S1024x5888 .bf16) (Rect.unit (s := S1024x5888) ![0, 512] S1024x128.size inb_S1024x5888_S1024x128_0_512)) l j).trans ?_
  refine Eq.trans ?_ (at5 (res5 (columns (m ((c : Thread nD τ).loc main_arg0)) (m ((c : Thread nD τ).loc main_arg1)) (m ((c : Thread nD τ).loc main_arg2))) (m ((c : Thread nD τ).loc main_arg3))) t l j ⟨256 * t.val + l.val, by omega⟩ rfl).symm
  refine Eq.trans ?_ (res5_at (columns (m ((c : Thread nD τ).loc main_arg0)) (m ((c : Thread nD τ).loc main_arg1)) (m ((c : Thread nD τ).loc main_arg2))) (m ((c : Thread nD τ).loc main_arg3)) ⟨256 * t.val + l.val, by omega⟩ j _ _ hs.symm).symm
  rw [columns_at]
  exact projected_congr ⟨512 + j.val, by omega⟩ (fun k => normed_at (iblk0 (V1 m ρ) c 0 t) (iblk0 (V1 m ρ) c 1 t) l k) (fun k => blk0 m ρ c t l k _ _ hs) (fun k => blk1 m ρ c t k)
    (fun k => (ld2 (iblk0 (V1 m ρ) c 2 t) 512 _ k j k ⟨512 + j.val, by omega⟩ rfl rfl).trans (blk2 m ρ c t k _))

theorem at6 (F : FVec Ideal S32768x128 .f32) (t : Fin cfg0.N) (l : Fin 256) (x : Fin 128) (r : Fin 32768) (hr : r.val = 256 * t.val + l.val) :
    F (((cfg0.win 6).blk t).view.emb (ix2 l x)) = F (ix2 r x) := by
  blk_ext [idx t]

theorem final6 (c : Dev nD) : (dat0 (V1 m ρ) c).arrAt 6 cfg0.N = res6 (columns (m ((c : Thread nD τ).loc main_arg0)) (m ((c : Thread nD τ).loc main_arg1)) (m ((c : Thread nD τ).loc main_arg2))) (m ((c : Thread nD τ).loc main_arg3)) := by
  refine (dat0 (V1 m ρ) c).arrAt_eq_of_covers 6 _ (by decide +kernel) fun t hf y => ?_
  have ht : t.val < 128 := lt_of_lt_of_eq t.isLt N_0
  blk_simp
  rw [after0_6]
  frame_out
  have y2 : ∃ (l : Fin 256) (x : Fin 128), y = ix2 l x := ⟨y 0, y 1, by funext a; fin_cases a <;> rfl⟩
  obtain ⟨l, j, rfl⟩ := y2
  have hs : 8192 * (⟨(256 * t.val + l.val) / 8192, by omega⟩ : Fin 4).val + (⟨(256 * t.val + l.val) % 8192, by omega⟩ : Fin 8192).val = 256 * t.val + l.val := by simp only; omega
  refine (stored6 (iblk0 (V1 m ρ) c 0 t) (iblk0 (V1 m ρ) c 1 t) (View.ld (iblk0 (V1 m ρ) c 2 t : FVec Ideal S1024x5888 .bf16) (Rect.unit (s := S1024x5888) ![0, 640] S1024x128.size inb_S1024x5888_S1024x128_0_640)) l j).trans ?_
  refine Eq.trans ?_ (at6 (res6 (columns (m ((c : Thread nD τ).loc main_arg0)) (m ((c : Thread nD τ).loc main_arg1)) (m ((c : Thread nD τ).loc main_arg2))) (m ((c : Thread nD τ).loc main_arg3))) t l j ⟨256 * t.val + l.val, by omega⟩ rfl).symm
  refine Eq.trans ?_ (res6_at (columns (m ((c : Thread nD τ).loc main_arg0)) (m ((c : Thread nD τ).loc main_arg1)) (m ((c : Thread nD τ).loc main_arg2))) (m ((c : Thread nD τ).loc main_arg3)) ⟨256 * t.val + l.val, by omega⟩ j _ _ hs.symm).symm
  rw [columns_at]
  exact projected_congr ⟨640 + j.val, by omega⟩ (fun k => normed_at (iblk0 (V1 m ρ) c 0 t) (iblk0 (V1 m ρ) c 1 t) l k) (fun k => blk0 m ρ c t l k _ _ hs) (fun k => blk1 m ρ c t k)
    (fun k => (ld2 (iblk0 (V1 m ρ) c 2 t) 640 _ k j k ⟨640 + j.val, by omega⟩ rfl rfl).trans (blk2 m ρ c t k _))

theorem at7 (F : FVec Ideal S32768x512 .bf16) (t : Fin cfg0.N) (l : Fin 256) (x : Fin 512) (r : Fin 32768) (hr : r.val = 256 * t.val + l.val) :
    F (((cfg0.win 7).blk t).view.emb (ix2 l x)) = F (ix2 r x) := by
  blk_ext [idx t]

theorem final7 (c : Dev nD) : (dat0 (V1 m ρ) c).arrAt 7 cfg0.N = res7 (columns (m ((c : Thread nD τ).loc main_arg0)) (m ((c : Thread nD τ).loc main_arg1)) (m ((c : Thread nD τ).loc main_arg2))) (m ((c : Thread nD τ).loc main_arg3)) := by
  refine (dat0 (V1 m ρ) c).arrAt_eq_of_covers 7 _ (by decide +kernel) fun t hf y => ?_
  have ht : t.val < 128 := lt_of_lt_of_eq t.isLt N_0
  blk_simp
  rw [after0_7]
  frame_out
  have y2 : ∃ (l : Fin 256) (x : Fin 512), y = ix2 l x := ⟨y 0, y 1, by funext a; fin_cases a <;> rfl⟩
  obtain ⟨l, j, rfl⟩ := y2
  have hs : 8192 * (⟨(256 * t.val + l.val) / 8192, by omega⟩ : Fin 4).val + (⟨(256 * t.val + l.val) % 8192, by omega⟩ : Fin 8192).val = 256 * t.val + l.val := by simp only; omega
  refine (stored7 (k0_pay11 (iblk0 (V1 m ρ) c 0 t) (iblk0 (V1 m ρ) c 1 t) (iblk0 (V1 m ρ) c 2 t) (iblk0 (V1 m ρ) c 3 t)) (View.ld (iblk0 (V1 m ρ) c 2 t : FVec Ideal S1024x5888 .bf16) (Rect.unit (s := S1024x5888) ![0, 768] S1024x512.size inb_S1024x5888_S1024x512_0_768)) l j).trans ?_
  refine Eq.trans ?_ (at7 (res7 (columns (m ((c : Thread nD τ).loc main_arg0)) (m ((c : Thread nD τ).loc main_arg1)) (m ((c : Thread nD τ).loc main_arg2))) (m ((c : Thread nD τ).loc main_arg3))) t l j ⟨256 * t.val + l.val, by omega⟩ rfl).symm
  refine Eq.trans ?_ (res7_at (columns (m ((c : Thread nD τ).loc main_arg0)) (m ((c : Thread nD τ).loc main_arg1)) (m ((c : Thread nD τ).loc main_arg2))) (m ((c : Thread nD τ).loc main_arg3)) ⟨256 * t.val + l.val, by omega⟩ j _ _ hs.symm).symm
  rw [columns_at]
  exact projected_congr ⟨768 + j.val, by omega⟩ (fun k => kept_at (iblk0 (V1 m ρ) c 0 t) (iblk0 (V1 m ρ) c 1 t) (iblk0 (V1 m ρ) c 2 t) (iblk0 (V1 m ρ) c 3 t) l k) (fun k => blk0 m ρ c t l k _ _ hs) (fun k => blk1 m ρ c t k)
    (fun k => (ld2 (iblk0 (V1 m ρ) c 2 t) 768 _ k j k ⟨768 + j.val, by omega⟩ rfl rfl).trans (blk2 m ρ c t k _))

theorem at8 (F : FVec Ideal S32768x512 .bf16) (t : Fin cfg0.N) (l : Fin 256) (x : Fin 512) (r : Fin 32768) (hr : r.val = 256 * t.val + l.val) :
    F (((cfg0.win 8).blk t).view.emb (ix2 l x)) = F (ix2 r x) := by
  blk_ext [idx t]

theorem final8 (c : Dev nD) : (dat0 (V1 m ρ) c).arrAt 8 cfg0.N = res8 (columns (m ((c : Thread nD τ).loc main_arg0)) (m ((c : Thread nD τ).loc main_arg1)) (m ((c : Thread nD τ).loc main_arg2))) (m ((c : Thread nD τ).loc main_arg3)) := by
  refine (dat0 (V1 m ρ) c).arrAt_eq_of_covers 8 _ (by decide +kernel) fun t hf y => ?_
  have ht : t.val < 128 := lt_of_lt_of_eq t.isLt N_0
  blk_simp
  rw [after0_8]
  frame_out
  have y2 : ∃ (l : Fin 256) (x : Fin 512), y = ix2 l x := ⟨y 0, y 1, by funext a; fin_cases a <;> rfl⟩
  obtain ⟨l, j, rfl⟩ := y2
  have hs : 8192 * (⟨(256 * t.val + l.val) / 8192, by omega⟩ : Fin 4).val + (⟨(256 * t.val + l.val) % 8192, by omega⟩ : Fin 8192).val = 256 * t.val + l.val := by simp only; omega
  refine (stored8 (k0_pay11 (iblk0 (V1 m ρ) c 0 t) (iblk0 (V1 m ρ) c 1 t) (iblk0 (V1 m ρ) c 2 t) (iblk0 (V1 m ρ) c 3 t)) (View.ld (iblk0 (V1 m ρ) c 2 t : FVec Ideal S1024x5888 .bf16) (Rect.unit (s := S1024x5888) ![0, 1280] S1024x512.size inb_S1024x5888_S1024x512_0_1280)) l j).trans ?_
  refine Eq.trans ?_ (at8 (res8 (columns (m ((c : Thread nD τ).loc main_arg0)) (m ((c : Thread nD τ).loc main_arg1)) (m ((c : Thread nD τ).loc main_arg2))) (m ((c : Thread nD τ).loc main_arg3))) t l j ⟨256 * t.val + l.val, by omega⟩ rfl).symm
  refine Eq.trans ?_ (res8_at (columns (m ((c : Thread nD τ).loc main_arg0)) (m ((c : Thread nD τ).loc main_arg1)) (m ((c : Thread nD τ).loc main_arg2))) (m ((c : Thread nD τ).loc main_arg3)) ⟨256 * t.val + l.val, by omega⟩ j _ _ hs.symm).symm
  rw [columns_at]
  exact congrArg (· * Ideal.ofBits .f32 0x3DB504F3#32) (projected_congr ⟨1280 + j.val, by omega⟩ (fun k => kept_at (iblk0 (V1 m ρ) c 0 t) (iblk0 (V1 m ρ) c 1 t) (iblk0 (V1 m ρ) c 2 t) (iblk0 (V1 m ρ) c 3 t) l k) (fun k => blk0 m ρ c t l k _ _ hs) (fun k => blk1 m ρ c t k)
    (fun k => (ld2 (iblk0 (V1 m ρ) c 2 t) 1280 _ k j k ⟨1280 + j.val, by omega⟩ rfl rfl).trans (blk2 m ρ c t k _)))

theorem at9 (F : FVec Ideal S32768x1024 .bf16) (t : Fin cfg0.N) (l : Fin 256) (x : Fin 1024) (r : Fin 32768) (hr : r.val = 256 * t.val + l.val) :
    F (((cfg0.win 9).blk t).view.emb (ix2 l x)) = F (ix2 r x) := by
  blk_ext [idx t]

theorem final9 (c : Dev nD) : (dat0 (V1 m ρ) c).arrAt 9 cfg0.N = res9 (columns (m ((c : Thread nD τ).loc main_arg0)) (m ((c : Thread nD τ).loc main_arg1)) (m ((c : Thread nD τ).loc main_arg2))) (m ((c : Thread nD τ).loc main_arg3)) := by
  refine (dat0 (V1 m ρ) c).arrAt_eq_of_covers 9 _ (by decide +kernel) fun t hf y => ?_
  have ht : t.val < 128 := lt_of_lt_of_eq t.isLt N_0
  blk_simp
  rw [after0_9]
  frame_out
  have y2 : ∃ (l : Fin 256) (x : Fin 1024), y = ix2 l x := ⟨y 0, y 1, by funext a; fin_cases a <;> rfl⟩
  obtain ⟨l, j, rfl⟩ := y2
  have hs : 8192 * (⟨(256 * t.val + l.val) / 8192, by omega⟩ : Fin 4).val + (⟨(256 * t.val + l.val) % 8192, by omega⟩ : Fin 8192).val = 256 * t.val + l.val := by simp only; omega
  refine (stored9 (k0_pay11 (iblk0 (V1 m ρ) c 0 t) (iblk0 (V1 m ρ) c 1 t) (iblk0 (V1 m ρ) c 2 t) (iblk0 (V1 m ρ) c 3 t)) (View.ld (iblk0 (V1 m ρ) c 2 t : FVec Ideal S1024x5888 .bf16) (Rect.unit (s := S1024x5888) ![0, 1792] S1024x1024.size inb_S1024x5888_S1024x1024_0_1792)) l j).trans ?_
  refine Eq.trans ?_ (at9 (res9 (columns (m ((c : Thread nD τ).loc main_arg0)) (m ((c : Thread nD τ).loc main_arg1)) (m ((c : Thread nD τ).loc main_arg2))) (m ((c : Thread nD τ).loc main_arg3))) t l j ⟨256 * t.val + l.val, by omega⟩ rfl).symm
  refine Eq.trans ?_ (res9_at (columns (m ((c : Thread nD τ).loc main_arg0)) (m ((c : Thread nD τ).loc main_arg1)) (m ((c : Thread nD τ).loc main_arg2))) (m ((c : Thread nD τ).loc main_arg3)) ⟨256 * t.val + l.val, by omega⟩ j _ _ hs.symm).symm
  rw [columns_at]
  exact projected_congr ⟨1792 + j.val, by omega⟩ (fun k => kept_at (iblk0 (V1 m ρ) c 0 t) (iblk0 (V1 m ρ) c 1 t) (iblk0 (V1 m ρ) c 2 t) (iblk0 (V1 m ρ) c 3 t) l k) (fun k => blk0 m ρ c t l k _ _ hs) (fun k => blk1 m ρ c t k)
    (fun k => (ld2 (iblk0 (V1 m ρ) c 2 t) 1792 _ k j k ⟨1792 + j.val, by omega⟩ rfl rfl).trans (blk2 m ρ c t k _))

theorem at10 (F : FVec Ideal S32768x1024 .f32) (t : Fin cfg0.N) (l : Fin 256) (x : Fin 1024) (r : Fin 32768) (hr : r.val = 256 * t.val + l.val) :
    F (((cfg0.win 10).blk t).view.emb (ix2 l x)) = F (ix2 r x) := by
  blk_ext [idx t]

theorem final10 (c : Dev nD) : (dat0 (V1 m ρ) c).arrAt 10 cfg0.N = res10 (columns (m ((c : Thread nD τ).loc main_arg0)) (m ((c : Thread nD τ).loc main_arg1)) (m ((c : Thread nD τ).loc main_arg2))) (m ((c : Thread nD τ).loc main_arg3)) := by
  refine (dat0 (V1 m ρ) c).arrAt_eq_of_covers 10 _ (by decide +kernel) fun t hf y => ?_
  have ht : t.val < 128 := lt_of_lt_of_eq t.isLt N_0
  blk_simp
  rw [after0_10]
  frame_out
  have y2 : ∃ (l : Fin 256) (x : Fin 1024), y = ix2 l x := ⟨y 0, y 1, by funext a; fin_cases a <;> rfl⟩
  obtain ⟨l, j, rfl⟩ := y2
  have hs : 8192 * (⟨(256 * t.val + l.val) / 8192, by omega⟩ : Fin 4).val + (⟨(256 * t.val + l.val) % 8192, by omega⟩ : Fin 8192).val = 256 * t.val + l.val := by simp only; omega
  refine (stored10 (k0_pay11 (iblk0 (V1 m ρ) c 0 t) (iblk0 (V1 m ρ) c 1 t) (iblk0 (V1 m ρ) c 2 t) (iblk0 (V1 m ρ) c 3 t)) (View.ld (iblk0 (V1 m ρ) c 2 t : FVec Ideal S1024x5888 .bf16) (Rect.unit (s := S1024x5888) ![0, 2816] S1024x1024.size inb_S1024x5888_S1024x1024_0_2816)) l j).trans ?_
  refine Eq.trans ?_ (at10 (res10 (columns (m ((c : Thread nD τ).loc main_arg0)) (m ((c : Thread nD τ).loc main_arg1)) (m ((c : Thread nD τ).loc main_arg2))) (m ((c : Thread nD τ).loc main_arg3))) t l j ⟨256 * t.val + l.val, by omega⟩ rfl).symm
  refine Eq.trans ?_ (res10_at (columns (m ((c : Thread nD τ).loc main_arg0)) (m ((c : Thread nD τ).loc main_arg1)) (m ((c : Thread nD τ).loc main_arg2))) (m ((c : Thread nD τ).loc main_arg3)) ⟨256 * t.val + l.val, by omega⟩ j _ _ hs.symm).symm
  rw [columns_at]
  exact projected_congr ⟨2816 + j.val, by omega⟩ (fun k => kept_at (iblk0 (V1 m ρ) c 0 t) (iblk0 (V1 m ρ) c 1 t) (iblk0 (V1 m ρ) c 2 t) (iblk0 (V1 m ρ) c 3 t) l k) (fun k => blk0 m ρ c t l k _ _ hs) (fun k => blk1 m ρ c t k)
    (fun k => (ld2 (iblk0 (V1 m ρ) c 2 t) 2816 _ k j k ⟨2816 + j.val, by omega⟩ rfl rfl).trans (blk2 m ρ c t k _))

end Cert.StreamPromptIdeal.Rows
-- ==== Proof.StreamPromptEntry.lean ====
module

public import proofs.«01_k».proof.Proof.StreamPromptBlock
public import proofs.«01_k».proof.Proof.StreamPromptRows
public import proofs.«01_k».proof.Proof.StreamPromptHeads
public import proofs.«01_k».proof.Proof.Points
public import Idealize.ShloMosaic.Lib.Claim
public import Idealize.ShloMosaic.Lib.StableHlo.RunRead

@[expose] public section

set_option maxRecDepth 16384

noncomputable section

namespace Cert.StreamPromptIdeal.Block

open Cert.StreamPromptIdeal Cert.StreamPromptIdeal.Gen Cert.Retention Idealize.ShloMosaic Idealize.ShloMosaic.TcCoe Idealize.SL.Sem
open Idealize.ShloMosaic.Pipeline (Dat)
open Cert.ReferenceProjectPromptIdeal (S4x8192x5888)
open Cert.KernelIdeal (S4x8192x4x128 S4x8192x4x256)
open Cert.KernelIdeal.Gen (shapeCasts_S4x8192x4x128_S32768x512 shapeCasts_S4x8192x4x256_S32768x1024)
open Cert.KernelIdeal.Block (row512 row1024)
open Cert.ProjectPromptIdeal.Rows (columns)

variable (m : (ℓ : Loc nD τ sig) → Buf (Elt Ideal) ℓ) (ρ : Dev nD → PrngReg)

/-- What the projection leaves for the queries, keys, values and gates, token by token and head by head. -/
abbrev y0 (c : Dev nD) : FVec Ideal S4x8192x5888 .f32 :=
  columns (m ((c : Thread nD τ).loc main_arg0)) (m ((c : Thread nD τ).loc main_arg1)) (m ((c : Thread nD τ).loc main_arg2))
abbrev aq (c : Dev nD) : FVec Ideal S4x8192x4x128 .f32 := heads7 (y0 m c)
abbrev ak (c : Dev nD) : FVec Ideal S4x8192x4x128 .f32 := heads8 (y0 m c)
abbrev av (c : Dev nD) : FVec Ideal S4x8192x4x256 .f32 := heads9 (y0 m c)
abbrev ar (c : Dev nD) : FVec Ideal S4x8192x4x256 .f32 := heads10 (y0 m c)

/-- Which block of its array each window holds at a point. -/
theorem idx : ∀ t : Fin grid1.N,
    (win1_0.index t 0 = t.val ∧ win1_0.index t 1 = 0) ∧ (win1_1.index t 0 = t.val ∧ win1_1.index t 1 = 0)
    ∧ (win1_2.index t 0 = t.val ∧ win1_2.index t 1 = 0) ∧ (win1_3.index t 0 = t.val ∧ win1_3.index t 1 = 0)
    ∧ (win1_4.index t 0 = t.val / 32 ∧ win1_4.index t 1 = 0 ∧ win1_4.index t 2 = 0 ∧ win1_4.index t 3 = 0)
    ∧ (win1_5.index t 0 = 0 ∧ win1_5.index t 1 = 0 ∧ win1_5.index t 2 = 0)
    ∧ (win1_6.index t 0 = 0 ∧ win1_6.index t 1 = 0 ∧ win1_6.index t 2 = 0)
    ∧ (win1_7.index t 0 = 0 ∧ win1_7.index t 1 = 0 ∧ win1_7.index t 2 = 0)
    ∧ (win1_8.index t 0 = 0)
    ∧ (win1_9.index t 0 = t.val ∧ win1_9.index t 1 = 0)
    ∧ (win1_10.index t 0 = t.val / 32 ∧ win1_10.index t 1 = 0 ∧ win1_10.index t 2 = 0 ∧ win1_10.index t 3 = 0) := by
  decide +kernel

theorem entry2 (c : Dev nD) : @Eq (FVec Ideal S32768x512 .bf16) (V5 m ρ c main_v7_3)
    (truncf .bf16 (shapeCast S32768x512 (aq m c) shapeCasts_S4x8192x4x128_S32768x512) bitsLt_bf16_f32) :=
  ((W5_of m ρ c main_v7_3 (by decide)).trans ((W4_of m ρ c main_v7_3 (by decide)).trans ((W3_of m ρ c main_v7_3 (by decide)).trans
    (W2_arr m ρ c 7)))).trans (Cert.StreamPromptIdeal.Rows.final7 m ρ c)

theorem entry4 (c : Dev nD) : @Eq (FVec Ideal S32768x512 .bf16) (V5 m ρ c main_v7_4)
    (truncf .bf16 (shapeCast S32768x512 (ak m c) shapeCasts_S4x8192x4x128_S32768x512) bitsLt_bf16_f32) :=
  ((W5_of m ρ c main_v7_4 (by decide)).trans ((W4_of m ρ c main_v7_4 (by decide)).trans ((W3_of m ρ c main_v7_4 (by decide)).trans
    (W2_arr m ρ c 8)))).trans (Cert.StreamPromptIdeal.Rows.final8 m ρ c)

theorem entry6 (c : Dev nD) : @Eq (FVec Ideal S32768x1024 .bf16) (V5 m ρ c main_v7_5)
    (truncf .bf16 (shapeCast S32768x1024 (av m c) shapeCasts_S4x8192x4x256_S32768x1024) bitsLt_bf16_f32) :=
  ((W5_of m ρ c main_v7_5 (by decide)).trans ((W4_of m ρ c main_v7_5 (by decide)).trans ((W3_of m ρ c main_v7_5 (by decide)).trans
    (W2_arr m ρ c 9)))).trans (Cert.StreamPromptIdeal.Rows.final9 m ρ c)

theorem entry7 (c : Dev nD) : @Eq (FVec Ideal S32768x1024 .f32) (V5 m ρ c main_v7_6)
    (shapeCast S32768x1024 (ar m c) shapeCasts_S4x8192x4x256_S32768x1024) :=
  ((W5_of m ρ c main_v7_6 (by decide)).trans ((W4_of m ρ c main_v7_6 (by decide)).trans ((W3_of m ρ c main_v7_6 (by decide)).trans
    (W2_arr m ρ c 10)))).trans (Cert.StreamPromptIdeal.Rows.final10 m ρ c)

theorem entry0 (c : Dev nD) : @Eq (FVec Ideal S4x4x128x256 .f32) (V5 m ρ c main_v14)
    (broadcastInDim S4x4x128x256 ![] bcast_S_S4x4x128x256 (constant (F := Ideal) S_ .f32 0x00000000#32)) := by
  simp only [V5, W5, W4, W3, hostOps1, hostOps1_1, hostOps1_2, List.flatten_cons, List.flatten_nil, List.append_nil, List.cons_append, List.nil_append]
  after_reads_simp

theorem entry31 (c : Dev nD) (g : Fin 4) (l n : Fin 256) :
    (V5 m ρ c main_v38 : FVec Ideal S4x256x256 .f32) (ix3 g l n) = ((between g l.val n.val : ℝ) : EReal) := by
  rw [← ia_eq l.val n.val (by omega) (by omega) g]
  simp only [V5, W5, W4, W3, hostOps1, hostOps1_1, hostOps1_2, List.flatten_cons, List.flatten_nil, List.append_nil, List.cons_append, List.nil_append]
  after_reads_simp
  show select (broadcastInDim S4x256x256 ![1, 2] bcast_S256x256_S4x256x256_1_2
      (cmpf .oge
        (subf
          (broadcastInDim S256x256 ![0, 1] bcast_S256x1_S256x256_0_1
            (broadcastInDim S256x1 ![0] bcast_S256_S256x1_0 (sitofp (F := Ideal) .f32 (iotaInDim S256 32 0))))
          (broadcastInDim S256x256 ![0, 1] bcast_S1x256_S256x256_0_1
            (broadcastInDim S1x256 ![1] bcast_S256_S1x256_1 (sitofp .f32 (iotaInDim S256 32 0)))))
        (broadcastInDim S256x256 ![] bcast_S_S256x256 (constant S_ .f32 0#32))))
    (Host.exp
      (mulf
        (broadcastInDim S4x256x256 ![0, 1, 2] bcast_S1x256x256_S4x256x256_0_1_2
          (broadcastInDim S1x256x256 ![1, 2] bcast_S256x256_S1x256x256_1_2
            (maximumf
              (subf
                (broadcastInDim S256x256 ![0, 1] bcast_S256x1_S256x256_0_1
                  (broadcastInDim S256x1 ![0] bcast_S256_S256x1_0 (sitofp .f32 (iotaInDim S256 32 0))))
                (broadcastInDim S256x256 ![0, 1] bcast_S1x256_S256x256_0_1
                  (broadcastInDim S1x256 ![1] bcast_S256_S1x256_1 (sitofp .f32 (iotaInDim S256 32 0)))))
              (broadcastInDim S256x256 ![] bcast_S_S256x256 (constant S_ .f32 0#32)))))
        (broadcastInDim S4x256x256 ![0, 1, 2] bcast_S4x1x1_S4x256x256_0_1_2
          (broadcastInDim S4x1x1 ![0] bcast_S4_S4x1x1_0
            (Host.log1p
              (Host.negf
                (Host.powf (broadcastInDim S4 ![] bcast_S_S4 (constant S_ .f32 1073741824#32))
                  (subf (broadcastInDim S4 ![] bcast_S_S4 (constant S_ .f32 3231711232#32))
                    (sitofp .f32 (iotaInDim S4 32 0)))))))))
      ) (broadcastInDim S4x256x256 ![] bcast_S_S4x256x256 (constant S_ .f32 0#32)) (ix3 g l n) = _
  pointwise

theorem entry40 (c : Dev nD) (g : Fin 4) (l : Fin 256) :
    (V5 m ρ c main_v47 : FVec Ideal S4x256x1 .f32) (ix3 g l 0) = ((decay g ^ (l.val + 1) : ℝ) : EReal) := by
  rw [← rd_eq l.val (by omega) g]
  simp only [V5, W5, W4, W3, hostOps1, hostOps1_1, hostOps1_2, List.flatten_cons, List.flatten_nil, List.append_nil, List.cons_append, List.nil_append]
  after_reads_simp
  pointwise

theorem entry49 (c : Dev nD) (g : Fin 4) (l : Fin 256) :
    (V5 m ρ c main_v56 : FVec Ideal S4x256x1 .f32) (ix3 g l 0) = ((decay g ^ (255 - l.val) : ℝ) : EReal) := by
  rw [← kd_eq 255 255 l.val (by norm_num) (by omega) (by omega) g, ← c255_eq]
  simp only [V5, W5, W4, W3, hostOps1, hostOps1_1, hostOps1_2, List.flatten_cons, List.flatten_nil, List.append_nil, List.cons_append, List.nil_append]
  after_reads_simp
  pointwise

theorem entry52 (c : Dev nD) (g : Fin 4) :
    (V5 m ρ c main_v59 : FVec Ideal S4 .f32) (ix1 g) = ((decay g ^ 256 : ℝ) : EReal) := by
  rw [← exp_mul, show (((256 : ℕ) : ℝ) : EReal) = ((256 : ℝ) : EReal) by norm_num, ← c256_eq]
  simp only [V5, W5, W4, W3, hostOps1, hostOps1_1, hostOps1_2, List.flatten_cons, List.flatten_nil, List.append_nil, List.cons_append, List.nil_append]
  after_reads_simp
  pointwise

/-! ## The blocks of a point -/

theorem at0 (F : FVec Ideal S32768x512 .bf16) (t : Fin cfg1.N) (n : Fin 256) (x : Fin 512) (r : Fin 32768) (hr : r.val = 256 * t.val + n.val) :
    F (((cfg1.win 0).blk t).view.emb (ix2 n x)) = F (ix2 r x) := by
  blk_ext [idx t]

theorem blk0 (c : Dev nD) (t : Fin cfg1.N) (n : Fin 256) (g : Fin 4) (d : Fin 128) (b : Fin 4) (s : Fin 8192)
    (hs : 8192 * b.val + s.val = 256 * t.val + n.val) :
    (iblk1 (V5 m ρ) c 0 t : FVec Ideal S256x512 .bf16) (ix2 n (slim g d)) = (aq m c) (ix4 b s g d) := by
  have ht : t.val < 128 := lt_of_lt_of_eq t.isLt N_1
  refine (at0 (V5 m ρ c main_v7_3) t n (slim g d) ⟨256 * t.val + n.val, by omega⟩ rfl).trans ?_
  rw [entry2]
  exact row512 (aq m c) ⟨256 * t.val + n.val, by omega⟩ g d b s hs.symm

theorem at1 (F : FVec Ideal S32768x512 .bf16) (t : Fin cfg1.N) (n : Fin 256) (x : Fin 512) (r : Fin 32768) (hr : r.val = 256 * t.val + n.val) :
    F (((cfg1.win 1).blk t).view.emb (ix2 n x)) = F (ix2 r x) := by
  blk_ext [idx t]

theorem blk1 (c : Dev nD) (t : Fin cfg1.N) (n : Fin 256) (g : Fin 4) (d : Fin 128) (b : Fin 4) (s : Fin 8192)
    (hs : 8192 * b.val + s.val = 256 * t.val + n.val) :
    (iblk1 (V5 m ρ) c 1 t : FVec Ideal S256x512 .bf16) (ix2 n (slim g d)) = (ak m c) (ix4 b s g d) := by
  have ht : t.val < 128 := lt_of_lt_of_eq t.isLt N_1
  refine (at1 (V5 m ρ c main_v7_4) t n (slim g d) ⟨256 * t.val + n.val, by omega⟩ rfl).trans ?_
  rw [entry4]
  exact row512 (ak m c) ⟨256 * t.val + n.val, by omega⟩ g d b s hs.symm

theorem at2 (F : FVec Ideal S32768x1024 .bf16) (t : Fin cfg1.N) (n : Fin 256) (x : Fin 1024) (r : Fin 32768) (hr : r.val = 256 * t.val + n.val) :
    F (((cfg1.win 2).blk t).view.emb (ix2 n x)) = F (ix2 r x) := by
  blk_ext [idx t]

theorem blk2 (c : Dev nD) (t : Fin cfg1.N) (n : Fin 256) (g : Fin 4) (d : Fin 256) (b : Fin 4) (s : Fin 8192)
    (hs : 8192 * b.val + s.val = 256 * t.val + n.val) :
    (iblk1 (V5 m ρ) c 2 t : FVec Ideal S256x1024 .bf16) (ix2 n (wide g d)) = (av m c) (ix4 b s g d) := by
  have ht : t.val < 128 := lt_of_lt_of_eq t.isLt N_1
  refine (at2 (V5 m ρ c main_v7_5) t n (wide g d) ⟨256 * t.val + n.val, by omega⟩ rfl).trans ?_
  rw [entry6]
  exact row1024 (av m c) ⟨256 * t.val + n.val, by omega⟩ g d b s hs.symm

theorem at3 (F : FVec Ideal S32768x1024 .f32) (t : Fin cfg1.N) (n : Fin 256) (x : Fin 1024) (r : Fin 32768) (hr : r.val = 256 * t.val + n.val) :
    F (((cfg1.win 3).blk t).view.emb (ix2 n x)) = F (ix2 r x) := by
  blk_ext [idx t]

theorem blk3 (c : Dev nD) (t : Fin cfg1.N) (n : Fin 256) (g : Fin 4) (d : Fin 256) (b : Fin 4) (s : Fin 8192)
    (hs : 8192 * b.val + s.val = 256 * t.val + n.val) :
    (iblk1 (V5 m ρ) c 3 t : FVec Ideal S256x1024 .f32) (ix2 n (wide g d)) = (ar m c) (ix4 b s g d) := by
  have ht : t.val < 128 := lt_of_lt_of_eq t.isLt N_1
  refine (at3 (V5 m ρ c main_v7_6) t n (wide g d) ⟨256 * t.val + n.val, by omega⟩ rfl).trans ?_
  rw [entry7]
  exact row1024 (ar m c) ⟨256 * t.val + n.val, by omega⟩ g d b s hs.symm

theorem at4 (F : FVec Ideal S4x4x128x256 .f32) (t : Fin cfg1.N) (g : Fin 4) (d : Fin 128) (w : Fin 256) (b : Fin 4) (hb : b.val = t.val / 32) :
    F (((cfg1.win 4).blk t).view.emb (ix4 0 g d w)) = F (ix4 b g d w) := by
  blk_ext [idx t]

theorem blk4 (c : Dev nD) (t : Fin cfg1.N) (g : Fin 4) (d : Fin 128) (w : Fin 256) :
    (iblk1 (V5 m ρ) c 4 t : FVec Ideal S1x4x128x256 .f32) (ix4 0 g d w) = (0 : EReal) := by
  have ht : t.val < 128 := lt_of_lt_of_eq t.isLt N_1
  refine (at4 (V5 m ρ c main_v14) t g d w ⟨t.val / 32, by omega⟩ rfl).trans ?_
  rw [entry0]
  pointwise

theorem at5 (F : FVec Ideal S4x256x256 .f32) (t : Fin cfg1.N) (g : Fin 4) (l n : Fin 256) :
    F (((cfg1.win 5).blk t).view.emb (ix3 g l n)) = F (ix3 g l n) := by
  blk_ext [idx t]

theorem blk5 (c : Dev nD) (t : Fin cfg1.N) (g : Fin 4) (l n : Fin 256) :
    (iblk1 (V5 m ρ) c 5 t : FVec Ideal S4x256x256 .f32) (ix3 g l n) = ((between g l.val n.val : ℝ) : EReal) :=
  (at5 (V5 m ρ c main_v38) t g l n).trans (entry31 m ρ c g l n)

theorem at6 (F : FVec Ideal S4x256x1 .f32) (t : Fin cfg1.N) (g : Fin 4) (l : Fin 256) :
    F (((cfg1.win 6).blk t).view.emb (ix3 g l 0)) = F (ix3 g l 0) := by
  blk_ext [idx t]

theorem blk6 (c : Dev nD) (t : Fin cfg1.N) (g : Fin 4) (l : Fin 256) :
    (iblk1 (V5 m ρ) c 6 t : FVec Ideal S4x256x1 .f32) (ix3 g l 0) = ((decay g ^ (l.val + 1) : ℝ) : EReal) :=
  (at6 (V5 m ρ c main_v47) t g l).trans (entry40 m ρ c g l)

theorem at7 (F : FVec Ideal S4x256x1 .f32) (t : Fin cfg1.N) (g : Fin 4) (l : Fin 256) :
    F (((cfg1.win 7).blk t).view.emb (ix3 g l 0)) = F (ix3 g l 0) := by
  blk_ext [idx t]

theorem blk7 (c : Dev nD) (t : Fin cfg1.N) (g : Fin 4) (l : Fin 256) :
    (iblk1 (V5 m ρ) c 7 t : FVec Ideal S4x256x1 .f32) (ix3 g l 0) = ((decay g ^ (255 - l.val) : ℝ) : EReal) :=
  (at7 (V5 m ρ c main_v56) t g l).trans (entry49 m ρ c g l)

theorem at8 (F : FVec Ideal S4 .f32) (t : Fin cfg1.N) (g : Fin 4) :
    F (((cfg1.win 8).blk t).view.emb (ix1 g)) = F (ix1 g) := by
  blk_ext [idx t]

theorem blk8 (c : Dev nD) (t : Fin cfg1.N) (g : Fin 4) :
    (iblk1 (V5 m ρ) c 8 t : FVec Ideal S4 .f32) (ix1 g) = ((decay g ^ 256 : ℝ) : EReal) :=
  (at8 (V5 m ρ c main_v59) t g).trans (entry52 m ρ c g)

end Cert.StreamPromptIdeal.Block
-- ==== Proof.StreamPromptCaches.lean ====
module

public import proofs.«01_k».proof.Proof.StreamPromptTrip
public import proofs.«01_k».proof.Proof.StreamPromptEntry
public import proofs.«01_k».proof.Proof.StreamPromptRows
public import Idealize.ShloMosaic.Lib.StableHlo.RunRead
public import Idealize.ShloMosaic.Lib.Pointwise

@[expose] public section

set_option maxRecDepth 16384

noncomputable section

namespace Cert.StreamPromptIdeal.Caches

open Cert.StreamPromptIdeal Cert.StreamPromptIdeal.Gen Idealize.ShloMosaic Idealize.ShloMosaic.TcCoe Idealize.SL.Sem
open Idealize.ShloMosaic.Pipeline (Dat)
open Cert.ReferenceProjectPromptIdeal.Gen (shapeCasts_S4x8192x2x64_S32768x128)
open Cert.ReferenceStreamPromptIdeal.Trip (newest)
open Cert.StreamPromptIdeal.Block (y0 heads5 heads6)

/-- The last tokens of the rows a kernel leaves, as the operations between the kernels take them. -/
abbrev tail (x : FVec Ideal S32768x128 .f32) : FVec Ideal S1x4x128x2x64 .f32 :=
  broadcastInDim S1x4x128x2x64 ![1, 2, 3, 4] bcast_S4x128x2x64_S1x4x128x2x64_1_2_3_4 (extractStridedSlice S4x128x2x64 ![0, 8064, 0, 0] (shapeCast S4x8192x2x64 x shapeCasts_S32768x128_S4x8192x2x64) slices_S4x8192x2x64_S4x128x2x64_0_8064_0_0)

theorem tail_at (X : FVec Ideal S4x8192x2x64 .f32) (b : Fin 4) (p : Fin 128) (h : Fin 2) (e : Fin 64) :
    tail (shapeCast S32768x128 X shapeCasts_S4x8192x2x64_S32768x128) (ix5 0 b p h e) = X (ix4 b ⟨8064 + p.val, by omega⟩ h e) := by
  pointwise [tail]

theorem newest_at (X : FVec Ideal S4x8192x2x64 .f32) (b : Fin 4) (p : Fin 128) (h : Fin 2) (e : Fin 64) :
    newest X (ix5 0 b p h e) = X (ix4 b ⟨8064 + p.val, by omega⟩ h e) := by
  pointwise [newest]

theorem tail_eq (X : FVec Ideal S4x8192x2x64 .f32) :
    tail (shapeCast S32768x128 X shapeCasts_S4x8192x2x64_S32768x128) = newest X := by
  funext y
  have y5 : ∃ (z : Fin 1) (b : Fin 4) (p : Fin 128) (h : Fin 2) (e : Fin 64), y = ix5 z b p h e :=
    ⟨y 0, y 1, y 2, y 3, y 4, by funext a; fin_cases a <;> rfl⟩
  obtain ⟨z, b, p, h, e, rfl⟩ := y5
  obtain rfl : z = 0 := Subsingleton.elim _ _
  exact (tail_at X b p h e).trans (newest_at X b p h e).symm

variable (m : (ℓ : Loc nD τ sig) → Buf (Elt Ideal) ℓ) (ρ : Dev nD → PrngReg)

theorem cache_k (c : Dev nD) : W6 m ρ c (Proc.devRef .tc main_v10) = newest (heads5 (y0 m c)) := by
  refine ((W6_of m ρ c main_v10 (by decide)).trans ((W5_of m ρ c main_v10 (by decide)).trans (W4_of m ρ c main_v10 (by decide)))).trans ?_
  have h : W3 m ρ c (Proc.devRef .tc main_v10) = tail (W2 m ρ c (Proc.devRef .tc main_v7_1)) := by
    simp only [W3, hostOps1]
    after_reads_simp <;> rfl
  rw [h, show W2 m ρ c (Proc.devRef .tc main_v7_1) = _ from (W2_arr m ρ c 5).trans (Cert.StreamPromptIdeal.Rows.final5 m ρ c)]
  exact tail_eq (heads5 (y0 m c))

theorem cache_v (c : Dev nD) : W6 m ρ c (Proc.devRef .tc main_v13) = newest (heads6 (y0 m c)) := by
  refine ((W6_of m ρ c main_v13 (by decide)).trans ((W5_of m ρ c main_v13 (by decide)).trans (W4_of m ρ c main_v13 (by decide)))).trans ?_
  have h : W3 m ρ c (Proc.devRef .tc main_v13) = tail (W2 m ρ c (Proc.devRef .tc main_v7_2)) := by
    simp only [W3, hostOps1]
    after_reads_simp <;> rfl
  rw [h, show W2 m ρ c (Proc.devRef .tc main_v7_2) = _ from (W2_arr m ρ c 6).trans (Cert.StreamPromptIdeal.Rows.final6 m ρ c)]
  exact tail_eq (heads6 (y0 m c))

end Cert.StreamPromptIdeal.Caches
-- ==== Proof.StreamPromptFinite.lean ====
module

public import proofs.«01_k».proof.Proof.Finite
public import proofs.«01_k».proof.Proof.ProjectPromptRows
public import proofs.«01_k».proof.Proof.StreamPromptHeads

@[expose] public section

set_option maxRecDepth 16384

noncomputable section

namespace Cert.StreamPrompt

open Idealize.ShloMosaic Cert.Rows Cert.Retention
open Cert.ProjectPromptIdeal.Rows (columns columns_at)
open Cert.StreamPromptIdeal.Block (heads7 heads8 heads9)

instance preFacts : Cert.Pre_finite_inputs.Facts := ⟨by decide, by decide⟩

/-- An extended real that is a real number. -/
abbrev Fin1 (x : EReal) : Prop := ∃ r : ℝ, x = ((r : ℝ) : EReal)

theorem fin_mul {x y : EReal} (hx : Fin1 x) (hy : Fin1 y) : Fin1 (x * y) := by
  obtain ⟨a, rfl⟩ := hx
  obtain ⟨b, rfl⟩ := hy
  exact ⟨a * b, (EReal.coe_mul a b).symm⟩

theorem fin_sum {n : ℕ} (f : Fin n → EReal) (h : ∀ i, Fin1 (f i)) : Fin1 (∑ i, f i) := by
  choose g hg using h
  obtain rfl : f = fun i => ((g i : ℝ) : EReal) := funext hg
  refine ⟨∑ i, g i, ?_⟩
  exact (map_sum (⟨⟨Real.toEReal, EReal.coe_zero⟩, EReal.coe_add⟩ : ℝ →+ EReal) g Finset.univ).symm

theorem thousand : Ideal.ofBits .f32 0x44800000#32 = ((1024 : ℝ) : EReal) := by
  simp [Ideal.ofBits, Ideal.ieee, -EReal.coe_mul]; norm_num
theorem small : Ideal.ofBits .f32 0x358637BD#32 = ((8796093 / 8796093022208 : ℝ) : EReal) := by
  simp [Ideal.ofBits, Ideal.ieee, -EReal.coe_mul]; norm_num
theorem scale : Ideal.ofBits .f32 0x3DB504F3#32 = ((11863283 / 134217728 : ℝ) : EReal) := by
  simp [Ideal.ofBits, Ideal.ieee, -EReal.coe_mul]; norm_num

/-- The root of the mean square, raised by a small positive number, has a real inverse. -/
theorem fin_root (x : Fin 1024 → EReal) (hx : ∀ k, Fin1 (x k)) :
    Fin1 (Ideal.rsqrt (Ideal.div (∑ i, x i * x i) (Ideal.ofBits .f32 0x44800000#32) + Ideal.ofBits .f32 0x358637BD#32)) := by
  choose g hg using hx
  obtain rfl : x = fun i => ((g i : ℝ) : EReal) := funext hg
  have hs : (∑ i, ((g i : ℝ) : EReal) * ((g i : ℝ) : EReal)) = ((∑ i, g i * g i : ℝ) : EReal) := by
    simp only [← EReal.coe_mul]
    exact (map_sum (⟨⟨Real.toEReal, EReal.coe_zero⟩, EReal.coe_add⟩ : ℝ →+ EReal) (fun i => g i * g i) Finset.univ).symm
  have h0 : (0 : ℝ) ≤ ∑ i, g i * g i := Finset.sum_nonneg fun i _ => mul_self_nonneg (g i)
  have hd : Ideal.div ((∑ i, g i * g i : ℝ) : EReal) ((1024 : ℝ) : EReal) = (((∑ i, g i * g i) * (1024 : ℝ)⁻¹ : ℝ) : EReal) := by
    unfold Ideal.div
    rw [if_neg (by norm_num), ← EReal.coe_inv, ← EReal.coe_mul]
  rw [hs, thousand, small, hd, ← EReal.coe_add, Ideal.rsqrt_coe]
  have hp : 0 < (∑ i, g i * g i) * (1024 : ℝ)⁻¹ + 8796093 / 8796093022208 := by positivity
  rw [if_neg (not_lt.mpr hp.le), if_neg hp.ne']
  exact ⟨_, rfl⟩

theorem square_nonneg (x : EReal) : 0 ≤ x * x := by
  induction x with
  | bot => simp
  | top => simp
  | coe r => exact_mod_cast mul_self_nonneg r

theorem square_top {x : EReal} (h : ¬Fin1 x) : x * x = ⊤ := by
  induction x with
  | bot => simp
  | top => simp
  | coe r => exact absurd ⟨r, rfl⟩ h

/-- A normalised token is real before the gain, whatever the token: an infinite one has an infinite mean square. -/
theorem fin_normed (x : Fin 1024 → EReal) (k : Fin 1024) :
    Fin1 (x k * Ideal.rsqrt (Ideal.div (∑ i, x i * x i) (Ideal.ofBits .f32 0x44800000#32) + Ideal.ofBits .f32 0x358637BD#32)) := by
  by_cases h : ∀ i, Fin1 (x i)
  · exact fin_mul (h k) (fin_root x h)
  · obtain ⟨i, hi⟩ := not_forall.mp h
    have hs : (∑ i, x i * x i) = ⊤ :=
      top_le_iff.mp ((square_top hi).ge.trans (Finset.single_le_sum (f := fun i => x i * x i) (fun j _ => square_nonneg (x j)) (Finset.mem_univ i)))
    have hd : Ideal.div ⊤ ((1024 : ℝ) : EReal) = ⊤ := by
      unfold Ideal.div
      rw [if_neg (by norm_num), ← EReal.coe_inv]
      exact EReal.top_mul_coe_of_pos (by norm_num)
    rw [hs, thousand, small, hd, EReal.top_add_coe, Ideal.rsqrt_top, mul_zero]
    exact ⟨0, rfl⟩

theorem fin_columns (x : FVec Ideal Cert.ReferenceProjectPromptIdeal.S4x8192x1024 .f32) (g : FVec Ideal Cert.ReferenceProjectPromptIdeal.S1x1024 .f32) (w : FVec Ideal Cert.ReferenceProjectPromptIdeal.S1x1024x5888 .f32)
    (hg : Real' g) (hw : Real' w) : Real' (columns x g w) := by
  intro i
  have y3 : ∃ (b : Fin 4) (s : Fin 8192) (j : Fin 5888), i = ix3 b s j := ⟨i 0, i 1, i 2, by funext a; fin_cases a <;> rfl⟩
  obtain ⟨b, s, j, rfl⟩ := y3
  have h : Fin1 (projected (fun k => x (ix3 b s k)) (fun k => g (ix2 0 k)) (fun k j => w (ix3 0 k j)) j) :=
    fin_sum _ fun k => fin_mul (fin_mul (fin_normed (fun k => x (ix3 b s k)) k) (hg _)) (hw _)
  rw [← columns_at x g w b s j] at h
  exact h

theorem fin_heads7 (y : FVec Ideal Cert.ReferenceProjectPromptIdeal.S4x8192x5888 .f32) (hy : Real' y) : Real' (heads7 y) :=
  fun i => hy _

theorem fin_heads8 (y : FVec Ideal Cert.ReferenceProjectPromptIdeal.S4x8192x5888 .f32) (hy : Real' y) : Real' (heads8 y) :=
  fun i => fin_mul (hy _) ⟨_, scale⟩

theorem fin_heads9 (y : FVec Ideal Cert.ReferenceProjectPromptIdeal.S4x8192x5888 .f32) (hy : Real' y) : Real' (heads9 y) :=
  fun i => hy _

/-- What the precondition says of the arrays: the gain and the weights are real numbers, and so the projections are. -/
theorem finite_columns (x : FVec Ideal Cert.Pre_finite_inputs.S4x8192x1024 .f32) (g : FVec Ideal Cert.Pre_finite_inputs.S1x1024 .f32)
    (w : FVec Ideal Cert.Pre_finite_inputs.S1x1024x5888 .f32) (b : FVec Ideal Cert.Pre_finite_inputs.S1x2048 .f32)
    (h : (Cert.Pre_finite_inputs.fn x g w b).1 = (fun _ => 1#1) ∧ (Cert.Pre_finite_inputs.fn x g w b).2 = (fun _ => 1#1)) :
    Real' (columns x g w) :=
  fin_columns x g w (finite_real g _ (top_word _) h.1) (finite_real w _ (top_word _) h.2)

end Cert.StreamPrompt
-- ==== Proof.StreamPromptPoints.lean ====
module

public import proofs.«01_k».proof.Proof.StreamPromptEntry

@[expose] public section

set_option maxRecDepth 16384

noncomputable section

namespace Cert.StreamPromptIdeal.Block

open Cert.StreamPromptIdeal Cert.StreamPromptIdeal.Gen Cert.Retention Idealize.ShloMosaic Idealize.ShloMosaic.TcCoe Idealize.SL.Sem
open Idealize.ShloMosaic.Pipeline (Dat)
open Cert.ReferenceProjectPromptIdeal (S4x8192x5888)
open Cert.KernelIdeal (S4x8192x4x128 S4x8192x4x256)
open Cert.KernelIdeal.Gen (shapeCasts_S4x8192x4x128_S32768x512 shapeCasts_S4x8192x4x256_S32768x1024)
open Cert.KernelIdeal.Block (stream place head channel G9 G10 G9_eq wide_head)
open Cert.ProjectPromptIdeal.Rows (columns)

variable (m : (ℓ : Loc nD τ sig) → Buf (Elt Ideal) ℓ) (ρ : Dev nD → PrngReg)

/-- A point's chunk, entered with the stream's state, leaves the stream's state after the chunk. -/
theorem state_next (c : Dev nD) (hk : Real' (ak m c)) (hv : Real' (av m c)) (t : Fin cfg1.N) (b : Fin 4) (n : ℕ) (hn : 8192 * b.val + n = 256 * t.val) (hn' : n + 256 ≤ 8192)
    (hb : ∀ g d w, before (V5 m ρ) c t (ix4 0 g d w) = ((stateAt (decay g) (tok (ak m c) b g) (tok (av m c) b g) n d w : ℝ) : EReal))
    (g : Fin 4) (d : Fin 128) (w : Fin 256) :
    (outsAt1 (V5 m ρ) c t.val t.isLt).2 (ix4 0 g d w) = ((stateAt (decay g) (tok (ak m c) b g) (tok (av m c) b g) (n + 256) d w : ℝ) : EReal) := by
  have e : (outsAt1 (V5 m ρ) c t.val t.isLt).2 (ix4 0 g d w)
      = nextState (iblk1 (V5 m ρ) c 1 t) (iblk1 (V5 m ρ) c 2 t) (before (V5 m ρ) c t) (iblk1 (V5 m ρ) c 7 t) (iblk1 (V5 m ρ) c 8 t) g d w := by
    by_cases h0 : t.val % 32 = 0
    · exact state_A (V5 m ρ) c t h0 g d w
    · exact state_B (V5 m ρ) c t h0 g d w
  rw [e]
  exact chunkState_eq _ _ g n 256 d w
    (fun i d => (blk1 m ρ c t i g d b ⟨n + i.val, by omega⟩ (by simp only; omega)).trans (tok_eq _ hk b g _ d _ rfl))
    (fun i w => (blk2 m ρ c t i g w b ⟨n + i.val, by omega⟩ (by simp only; omega)).trans (tok_eq _ hv b g _ w _ rfl))
    (fun d w => hb g d w) (fun i => blk7 m ρ c t g i) (blk8 m ρ c t g)

/-- The state before every point. -/
theorem before_eq (c : Dev nD) (hk : Real' (ak m c)) (hv : Real' (av m c)) (b : Fin 4) : ∀ (j : ℕ) (hj : j < 32) (t : Fin cfg1.N) (ht : t.val = 32 * b.val + j) (g : Fin 4) (d : Fin 128) (w : Fin 256),
    before (V5 m ρ) c t (ix4 0 g d w) = ((stateAt (decay g) (tok (ak m c) b g) (tok (av m c) b g) (256 * j) d w : ℝ) : EReal)
  | 0, hj, t, ht, g, d, w => by
    rw [before, if_pos (by omega)]
    exact (blk4 m ρ c t g d w).trans (by simp [stateAt])
  | j + 1, hj, t, ht, g, d, w => by
    rw [before, if_neg (by omega)]
    have hN : cfg1.N = 128 := N_1
    exact state_next m ρ c hk hv ⟨t.val - 1, by omega⟩ b (256 * j) (by simp only; omega) (by omega)
      (fun g d w => before_eq c hk hv b j (by omega) ⟨t.val - 1, by omega⟩ (by simp only; omega) g d w) g d w

/-- The state after a stream's last point. -/
theorem last_state (c : Dev nD) (hk : Real' (ak m c)) (hv : Real' (av m c)) (b : Fin 4) (t : Fin cfg1.N) (ht : t.val = 32 * b.val + 31) (g : Fin 4) (d : Fin 128) (w : Fin 256) :
    (outsAt1 (V5 m ρ) c t.val t.isLt).2 (ix4 0 g d w) = ((stateAt (decay g) (tok (ak m c) b g) (tok (av m c) b g) 8192 d w : ℝ) : EReal) :=
  state_next m ρ c hk hv t b 7936 (by omega) (by omega) (fun g d w => before_eq m ρ c hk hv b 31 (by omega) t ht g d w) g d w

/-- The output rows of a point. -/
theorem point_out (c : Dev nD) (hq : Real' (aq m c)) (hk : Real' (ak m c)) (hv : Real' (av m c)) (b : Fin 4) (t : Fin cfg1.N) (l : Fin 256) (s : Fin 8192)
    (hs : 8192 * b.val + s.val = 256 * t.val + l.val) (g : Fin 4) (w : Fin 256) :
    (outsAt1 (V5 m ρ) c t.val t.isLt).1 (ix2 l (wide g w))
      = gated (fun w => ((outputAt (decay g) (tok (aq m c) b g) (tok (ak m c) b g) (tok (av m c) b g) s.val w : ℝ) : EReal)) (fun w => ar m c (ix4 b s g w)) w := by
  have hN : cfg1.N = 128 := N_1
  have ht : t.val < 128 := lt_of_lt_of_eq t.isLt N_1
  have e : (outsAt1 (V5 m ρ) c t.val t.isLt).1 (ix2 l (wide g w))
      = nextOut (iblk1 (V5 m ρ) c 0 t) (iblk1 (V5 m ρ) c 1 t) (iblk1 (V5 m ρ) c 2 t) (iblk1 (V5 m ρ) c 3 t) (before (V5 m ρ) c t) (iblk1 (V5 m ρ) c 5 t) (iblk1 (V5 m ρ) c 6 t) g l w := by
    by_cases h0 : t.val % 32 = 0
    · exact out_A (V5 m ρ) c t h0 g l w
    · exact out_B (V5 m ρ) c t h0 g l w
  rw [e]
  have hs' : s.val = 256 * (t.val % 32) + l.val := by omega
  refine congrArg₂ (gated · · w) (funext fun w => ?_) (funext fun w => blk3 m ρ c t l g w b s hs)
  rw [hs']
  exact chunkOut_eq _ _ _ g (256 * (t.val % 32)) 256 l w
    (fun i d => (blk0 m ρ c t i g d b ⟨256 * (t.val % 32) + i.val, by omega⟩ (by simp only; omega)).trans (tok_eq _ hq b g _ d _ rfl))
    (fun i d => (blk1 m ρ c t i g d b ⟨256 * (t.val % 32) + i.val, by omega⟩ (by simp only; omega)).trans (tok_eq _ hk b g _ d _ rfl))
    (fun i w => (blk2 m ρ c t i g w b ⟨256 * (t.val % 32) + i.val, by omega⟩ (by simp only; omega)).trans (tok_eq _ hv b g _ w _ rfl))
    (fun d w => before_eq m ρ c hk hv b (t.val % 32) (by omega) t (by omega) g d w) (fun l i => blk5 m ρ c t g l i) (fun i => blk6 m ρ c t g i)

/-! ## The result arrays -/

theorem at9 (F : FVec Ideal S32768x1024 .bf16) (t : Fin cfg1.N) (n : Fin 256) (x : Fin 1024) (r : Fin 32768) (hr : r.val = 256 * t.val + n.val) :
    F (((cfg1.win 9).blk t).view.emb (ix2 n x)) = F (ix2 r x) := by
  blk_ext [idx t]

theorem at10 (F : FVec Ideal S4x4x128x256 .f32) (t : Fin cfg1.N) (b : Fin 4) (ht : b.val = t.val / 32) (g : Fin 4) (d : Fin 128) (w : Fin 256) :
    F (((cfg1.win 10).blk t).view.emb (ix4 0 g d w)) = F (ix4 b g d w) := by
  blk_ext [idx t]

theorem arr9 (c : Dev nD) (hq : Real' (aq m c)) (hk : Real' (ak m c)) (hv : Real' (av m c)) :
    (dat1 (V5 m ρ) c).arrAt 9 cfg1.N = G9 (aq m c) (ak m c) (av m c) (ar m c) := by
  have hN : cfg1.N = 128 := N_1
  refine (dat1 (V5 m ρ) c).arrAt_eq_of_covers 9 _ (by decide +kernel) fun t hf y => ?_
  have ht : t.val < 128 := lt_of_lt_of_eq t.isLt N_1
  blk_simp
  rw [after1_9]
  have y2 : ∃ (l : Fin 256) (x : Fin 1024), y = ix2 l x := ⟨y 0, y 1, by funext a; fin_cases a <;> rfl⟩
  obtain ⟨l, x, rfl⟩ := y2
  rw [← wide_head x]
  have hs : 8192 * (t.val / 32) + (256 * (t.val % 32) + l.val) = 256 * t.val + l.val := by omega
  refine (point_out m ρ c hq hk hv ⟨t.val / 32, by omega⟩ t l ⟨256 * (t.val % 32) + l.val, by omega⟩ hs (head x) (channel x)).trans ?_
  refine Eq.trans ?_ (at9 (G9 (aq m c) (ak m c) (av m c) (ar m c)) t l (wide (head x) (channel x)) ⟨256 * t.val + l.val, by omega⟩ rfl).symm
  exact (G9_eq _ _ _ _ ⟨t.val / 32, by omega⟩ ⟨256 * (t.val % 32) + l.val, by omega⟩ (head x) (channel x) _ hs.symm).symm

theorem arr10 (c : Dev nD) (hk : Real' (ak m c)) (hv : Real' (av m c)) :
    (dat1 (V5 m ρ) c).arrAt 10 cfg1.N = G10 (ak m c) (av m c) := by
  have hN : cfg1.N = 128 := N_1
  refine (dat1 (V5 m ρ) c).arrAt_eq_of_covers 10 _ (by decide +kernel) fun t hf y => ?_
  have ht : t.val < 128 := lt_of_lt_of_eq t.isLt N_1
  have h31 := flush1_10 t
  blk_simp
  rw [after1_10]
  have y4 : ∃ (a : Fin 1) (g : Fin 4) (d : Fin 128) (w : Fin 256), y = ix4 a g d w := ⟨y 0, y 1, y 2, y 3, by funext a; fin_cases a <;> rfl⟩
  obtain ⟨a, g, d, w, rfl⟩ := y4
  obtain rfl : a = 0 := Subsingleton.elim _ _
  have h := h31.mp hf
  refine (last_state m ρ c hk hv ⟨t.val / 32, by omega⟩ t (by simp only; omega) g d w).trans ?_
  exact (at10 (G10 (ak m c) (av m c)) t ⟨t.val / 32, by omega⟩ rfl g d w).symm

end Cert.StreamPromptIdeal.Block
-- ==== Proof.StreamPromptRun.lean ====
module

public import proofs.«01_k».proof.Proof.Gen.StreamPromptIdeal.Frame

@[expose] public section

set_option maxRecDepth 16384

noncomputable section

namespace Cert.StreamPromptIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.StreamPromptIdeal.Gen

variable {F : FTy → Type} [FloatOps F]

variable (m : (ℓ : Loc nD τ sig) → Buf (Elt F) ℓ) (ρ : Dev nD → PrngReg)

set_option backward.isDefEq.respectTransparency.types false in
/-- From any memory every fair execution ends, and every array of the core outside the kernels' own
    buffers ends as the second region leaves it. -/
theorem run_exit : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ => h)

end Cert.StreamPromptIdeal.Run
-- ==== Proof.StreamPromptClaim.lean ====
module

public import proofs.«01_k».proof.Defs
public import proofs.«01_k».proof.Proof.StreamPromptCaches
public import proofs.«01_k».proof.Proof.StreamPromptFinite
public import proofs.«01_k».proof.Proof.StreamPromptPoints
public import proofs.«01_k».proof.Proof.StreamPromptRun
public import Idealize.ShloMosaic.Lib.Claim
public import Idealize.ShloMosaic.Lib.Quiescent

@[expose] public section

set_option maxRecDepth 16384

noncomputable section

namespace Cert.StreamPrompt

open Idealize.ShloMosaic Idealize.ShloMosaic.TcCoe Idealize.SL.Sem

/-- From arguments of real numbers, the kernels and the reference leave the same output, state and caches. -/
theorem value : Cert.algebraic_StreamPromptIdeal_ReferenceStreamPromptIdeal_pre_finite_inputs (hStreamPromptIdeal := Cert.StreamPromptIdeal.Gen.facts)
    (hReferenceStreamPromptIdeal := Cert.ReferenceStreamPromptIdeal.Gen.facts) (hPre_finite_inputs := Cert.StreamPrompt.preFacts) := by
  intro m ρ m' ρ' hpre hag
  have hy : ∀ c, Cert.Retention.Real' (Cert.StreamPromptIdeal.Block.y0 m c) := fun c => finite_columns _ _ _ _ (hpre c)
  have hq : ∀ c, Cert.Retention.Real' (Cert.StreamPromptIdeal.Block.aq m c) := fun c => fin_heads7 _ (hy c)
  have hk : ∀ c, Cert.Retention.Real' (Cert.StreamPromptIdeal.Block.ak m c) := fun c => fin_heads8 _ (hy c)
  have hv : ∀ c, Cert.Retention.Real' (Cert.StreamPromptIdeal.Block.av m c) := fun c => fin_heads9 _ (hy c)
  refine ⟨fun c => Cert.KernelIdeal.Block.G9 (Cert.StreamPromptIdeal.Block.aq m c) (Cert.StreamPromptIdeal.Block.ak m c) (Cert.StreamPromptIdeal.Block.av m c) (Cert.StreamPromptIdeal.Block.ar m c),
    fun c => Cert.KernelIdeal.Block.G10 (Cert.StreamPromptIdeal.Block.ak m c) (Cert.StreamPromptIdeal.Block.av m c),
    fun c => Cert.ReferenceStreamPromptIdeal.Trip.newest (Cert.StreamPromptIdeal.Block.heads5 (Cert.StreamPromptIdeal.Block.y0 m c)),
    fun c => Cert.ReferenceStreamPromptIdeal.Trip.newest (Cert.StreamPromptIdeal.Block.heads6 (Cert.StreamPromptIdeal.Block.y0 m c)), ?_, ?_⟩
  · exact (θ_run _ _ _).mono (fun r h c => ⟨(h c _ (Cert.StreamPromptIdeal.Gen.mem_uc Cert.StreamPromptIdeal.main_v60_0 (by decide))).trans ((Cert.StreamPromptIdeal.Gen.W6_arr m ρ c 9).trans (Cert.StreamPromptIdeal.Block.arr9 m ρ c (hq c) (hk c) (hv c))),
      (h c _ (Cert.StreamPromptIdeal.Gen.mem_uc Cert.StreamPromptIdeal.main_v60_1 (by decide))).trans ((Cert.StreamPromptIdeal.Gen.W6_arr m ρ c 10).trans (Cert.StreamPromptIdeal.Block.arr10 m ρ c (hk c) (hv c))),
      (h c _ (Cert.StreamPromptIdeal.Gen.mem_uc Cert.StreamPromptIdeal.main_v10 (by decide))).trans (Cert.StreamPromptIdeal.Caches.cache_k m ρ c),
      (h c _ (Cert.StreamPromptIdeal.Gen.mem_uc Cert.StreamPromptIdeal.main_v13 (by decide))).trans (Cert.StreamPromptIdeal.Caches.cache_v m ρ c),
      (h c _ (Cert.StreamPromptIdeal.Gen.mem_uc Cert.StreamPromptIdeal.main_arg0 (by decide))).trans (Cert.StreamPromptIdeal.Gen.W6_main_arg0 m ρ c),
      (h c _ (Cert.StreamPromptIdeal.Gen.mem_uc Cert.StreamPromptIdeal.main_arg1 (by decide))).trans (Cert.StreamPromptIdeal.Gen.W6_main_arg1 m ρ c),
      (h c _ (Cert.StreamPromptIdeal.Gen.mem_uc Cert.StreamPromptIdeal.main_arg2 (by decide))).trans (Cert.StreamPromptIdeal.Gen.W6_main_arg2 m ρ c),
      (h c _ (Cert.StreamPromptIdeal.Gen.mem_uc Cert.StreamPromptIdeal.main_arg3 (by decide))).trans (Cert.StreamPromptIdeal.Gen.W6_main_arg3 m ρ c)⟩) (Cert.StreamPromptIdeal.Run.run_exit m ρ)
  · have e : ∀ c, Cert.ReferenceStreamPromptIdeal.Trip.by0 m' c = Cert.StreamPromptIdeal.Block.y0 m c := fun c => by
      unfold Cert.ReferenceStreamPromptIdeal.Trip.by0 Cert.StreamPromptIdeal.Block.y0
      exact congr (congr (congrArg Cert.ProjectPromptIdeal.Rows.columns (hag c).1) (hag c).2.1) (hag c).2.2.1
    have hy' : ∀ c, Cert.Retention.Real' (Cert.ReferenceStreamPromptIdeal.Trip.by0 m' c) := fun c => (e c).symm ▸ hy c
    refine (θ_run _ _ _).mono (fun r h c => ?_) (Cert.ReferenceStreamPromptIdeal.Trip.run_values m' ρ' (fun c => fin_heads7 _ (hy' c)) (fun c => fin_heads8 _ (hy' c)) (fun c => fin_heads9 _ (hy' c)))
    have h0 := (h c).1
    have h1 := (h c).2.1
    have h2 := (h c).2.2.1
    have h3 := (h c).2.2.2.1
    simp only [Cert.ReferenceStreamPromptIdeal.Trip.bq, Cert.ReferenceStreamPromptIdeal.Trip.bk, Cert.ReferenceStreamPromptIdeal.Trip.bv, Cert.ReferenceStreamPromptIdeal.Trip.br, e c] at h0 h1 h2 h3
    exact ⟨h0, h1, h2, h3, (h c).2.2.2.2⟩

end Cert.StreamPrompt
-- ==== Proof.FinishPromptRows.lean ====
module

public import proofs.«01_k».proof.Proof.Gen.FinishPromptIdeal.Value
public import proofs.«01_k».proof.Proof.Gen.ReferenceFinishPromptIdeal.Run
public import proofs.«01_k».proof.Proof.Rows
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

namespace Cert.FinishPromptIdeal.Rows

section reference

open Cert.ReferenceFinishPromptIdeal Cert.ReferenceFinishPromptIdeal.Gen Cert.Rows Idealize.ShloMosaic

/-- The first rows of the tokens with the experts' sum added. -/
abbrev summed (x0 : FVec Ideal S4x8192x1024 .f32) (x1 : FVec Ideal S18688x1024 .f32) : FVec Ideal S18688x1024 .f32 :=
  addf (extractStridedSlice S18688x1024 ![0, 0] (shapeCast _ x0 shapeCasts_S4x8192x1024_S32768x1024) slices_S32768x1024_S18688x1024_0_0) x1

/-- Those rows normalised, times the gain. -/
abbrev rows (x0 : FVec Ideal S4x8192x1024 .f32) (x1 : FVec Ideal S18688x1024 .f32) (x2 : FVec Ideal S1024 .f32) : FVec Ideal S18688x1024 .f32 :=
  mulf (mulf (summed x0 x1) (broadcastInDim S18688x1024 ![0, 1] bcast_S18688x1_S18688x1024_0_1 (Host.rsqrt (addf (Host.divf (broadcastInDim S18688x1 ![0] bcast_S18688_S18688x1_0 (Host.reduceAdd (mulf (summed x0 x1) (summed x0 x1)) (constant S_ .f32 0x00000000#32) reducesTo_S18688x1024_S18688_d1 h_S_)) (broadcastInDim S18688x1 ![] bcast_S_S18688x1 (constant S_ .f32 0x44800000#32))) (broadcastInDim S18688x1 ![] bcast_S_S18688x1 (constant S_ .f32 0x358637BD#32)))))) (broadcastInDim S18688x1024 ![0, 1] bcast_S1x1024_S18688x1024_0_1 (broadcastInDim S1x1024 ![1] bcast_S1024_S1x1024_1 x2))

/-- The reference's result: the finished rows, then the other rows as they came. -/
abbrev finished (x0 : FVec Ideal S4x8192x1024 .f32) (x1 : FVec Ideal S18688x1024 .f32) (x2 : FVec Ideal S1024 .f32) (x3 : FVec Ideal S32768x1024 .f32) : FVec Ideal S32768x1024 .f32 :=
  concatenate S32768x1024 0 [⟨S18688x1024, rows x0 x1 x2⟩, ⟨S14080x1024, extractStridedSlice S14080x1024 ![18688, 0] x3 slices_S32768x1024_S14080x1024_18688_0⟩] concatenates_S18688x1024_S14080x1024_S32768x1024_d0

theorem rows_at (x0 : FVec Ideal S4x8192x1024 .f32) (x1 : FVec Ideal S18688x1024 .f32) (x2 : FVec Ideal S1024 .f32)
    (r : Fin 18688) (j : Fin 1024) (b : Fin 4) (s : Fin 8192) (hr : r.val = 8192 * b.val + s.val) :
    rows x0 x1 x2 (ix2 r j) = normed (fun k => x0 (ix3 b s k) + x1 (ix2 r k)) (fun k => x2 (ix1 k)) j := by
  pointwise [rows, summed, normed]
  have e0 : ∀ h, (⟨r.val / 8192, h⟩ : Fin 4) = b := fun _ => Fin.ext (by simp only; omega)
  have e1 : ∀ h, (⟨r.val % 8192, h⟩ : Fin 8192) = s := fun _ => Fin.ext (by simp only; omega)
  simp only [e0, e1]

theorem finished_lo (x0 : FVec Ideal S4x8192x1024 .f32) (x1 : FVec Ideal S18688x1024 .f32) (x2 : FVec Ideal S1024 .f32) (x3 : FVec Ideal S32768x1024 .f32)
    (r : Fin 32768) (j : Fin 1024) (q : Fin 18688) (hq : q.val = r.val) :
    finished x0 x1 x2 x3 (ix2 r j) = rows x0 x1 x2 (ix2 q j) := by
  generalize hX : rows x0 x1 x2 = X
  have h : r.val < 18688 := hq ▸ q.isLt
  unfold finished
  rw [hX]
  pointwise
  have e0 : ∀ h, (⟨r.val, h⟩ : Fin 18688) = q := fun _ => Fin.ext hq.symm
  simp only [h, dif_pos, if_pos, e0]

theorem finished_hi (x0 : FVec Ideal S4x8192x1024 .f32) (x1 : FVec Ideal S18688x1024 .f32) (x2 : FVec Ideal S1024 .f32) (x3 : FVec Ideal S32768x1024 .f32)
    (r : Fin 32768) (j : Fin 1024) (h : ¬ r.val < 18688) :
    finished x0 x1 x2 x3 (ix2 r j) = x3 (ix2 r j) := by
  generalize hX : rows x0 x1 x2 = X
  unfold finished
  rw [hX]
  pointwise
  have e0 : ∀ h, (⟨18688 + (r.val - 18688), h⟩ : Fin 32768) = r := fun _ => Fin.ext (by simp only; omega)
  have e1 : ∀ h, (⟨r.val - 18688 + 18688, h⟩ : Fin 32768) = r := fun _ => Fin.ext (by simp only; omega)
  simp only [h, dif_neg, if_neg, not_false_eq_true, e0, e1]

end reference

open Cert.FinishPromptIdeal Cert.FinishPromptIdeal.Gen Cert.Rows Idealize.ShloMosaic Idealize.ShloMosaic.TcCoe Idealize.SL.Sem
open Idealize.ShloMosaic.Pipeline (Dat)

/-- What the body stores, at an index of its block. -/
theorem stored_at (v0 v2 : FVec Ideal S256x1024 .f32) (v4 : FVec Ideal S1x1024 .f32) (l : Fin 256) (j : Fin 1024) :
    (k0_pay1 v0 v2 v4 : FVec Ideal S256x1024 .f32) (ix2 l j) = normed (fun k => v0 (ix2 l k) + v2 (ix2 l k)) (fun k => v4 (ix2 0 k)) j := by
  pointwise [k0_pay1, normed]

theorem normed_congr {x x' g g' : Fin 1024 → EReal} (j : Fin 1024) (h0 : ∀ k, x k = x' k) (h1 : ∀ k, g k = g' k) : normed x g j = normed x' g' j := by
  obtain rfl : x = x' := funext h0
  obtain rfl : g = g' := funext h1
  rfl

variable (m : (ℓ : Loc nD τ sig) → Buf (Elt Ideal) ℓ)

/-- Which block of its array each window holds at a point. -/
theorem idx : ∀ t : Fin grid0.N,
    win0_0.index t = ![t.val, 0] ∧ win0_1.index t = ![t.val, 0] ∧ win0_2.index t = ![0, 0] ∧ win0_3.index t = ![t.val, 0] := by
  decide +kernel

/-- A row of a flattened array is a token of a stream. -/
theorem row1024 (X : FVec Ideal S4x8192x1024 .f32) (r : Fin 32768) (x : Fin 1024) (b : Fin 4) (s : Fin 8192) (hr : r.val = 8192 * b.val + s.val) :
    shapeCast S32768x1024 X shapeCasts_S4x8192x1024_S32768x1024 (ix2 r x) = X (ix3 b s x) := by
  pointwise
  have e0 : ∀ h, (⟨r.val / 8192, h⟩ : Fin 4) = b := fun _ => Fin.ext (by simp only; omega)
  have e1 : ∀ h, (⟨r.val % 8192, h⟩ : Fin 8192) = s := fun _ => Fin.ext (by simp only; omega)
  simp only [e0, e1]

theorem gain (X : FVec Ideal S1024 .f32) (x : Fin 1024) :
    broadcastInDim S1x1024 ![1] bcast_S1024_S1x1024_1 X (ix2 0 x) = X (ix1 x) := by
  pointwise

theorem start0 (c : Dev nD) : @Eq (FVec Ideal S32768x1024 .f32) (V m c main_v0) (shapeCast S32768x1024 (m ((c : Thread nD τ).loc main_arg0) : FVec Ideal S4x8192x1024 .f32) shapeCasts_S4x8192x1024_S32768x1024) := by
  unfold V
  simp only [hostOps0]
  after_reads_simp
  rfl

theorem start2 (c : Dev nD) : @Eq (FVec Ideal S1x1024 .f32) (V m c main_v1) (broadcastInDim S1x1024 ![1] bcast_S1024_S1x1024_1 (m ((c : Thread nD τ).loc main_arg2) : FVec Ideal S1024 .f32)) := by
  unfold V
  simp only [hostOps0]
  after_reads_simp

theorem start3 (c : Dev nD) : @Eq (FVec Ideal S32768x1024 .f32) (V m c main_v2) (m ((c : Thread nD τ).loc main_arg3) : FVec Ideal S32768x1024 .f32) := by
  unfold V
  simp only [hostOps0]
  after_reads_simp
  rfl

theorem at0 (F : FVec Ideal S32768x1024 .f32) (t : Fin cfg0.N) (l : Fin 256) (x : Fin 1024) (r : Fin 32768) (hr : r.val = 256 * t.val + l.val) :
    F (((cfg0.win 0).blk t).view.emb (ix2 l x)) = F (ix2 r x) := by
  blk_ext [idx t]

theorem blk0 (c : Dev nD) (t : Fin cfg0.N) (l : Fin 256) (x : Fin 1024) (b : Fin 4) (s : Fin 8192) (hs : 256 * t.val + l.val = 8192 * b.val + s.val) :
    (iblk m c 0 t : FVec Ideal S256x1024 .f32) (ix2 l x) = (m ((c : Thread nD τ).loc main_arg0) : FVec Ideal S4x8192x1024 .f32) (ix3 b s x) := by
  have ht : t.val < 73 := lt_of_lt_of_eq t.isLt N_0
  refine (at0 (V m c main_v0) t l x ⟨256 * t.val + l.val, by omega⟩ rfl).trans ?_
  rw [start0]
  exact row1024 _ _ x b s hs

theorem at1 (F : FVec Ideal S18688x1024 .f32) (t : Fin cfg0.N) (l : Fin 256) (x : Fin 1024) (r : Fin 18688) (hr : r.val = 256 * t.val + l.val) :
    F (((cfg0.win 1).blk t).view.emb (ix2 l x)) = F (ix2 r x) := by
  blk_ext [idx t]

theorem blk1 (c : Dev nD) (t : Fin cfg0.N) (l : Fin 256) (x : Fin 1024) (r : Fin 18688) (hr : r.val = 256 * t.val + l.val) :
    (iblk m c 1 t : FVec Ideal S256x1024 .f32) (ix2 l x) = (m ((c : Thread nD τ).loc main_arg1) : FVec Ideal S18688x1024 .f32) (ix2 r x) := by
  refine (at1 (V m c main_arg1) t l x r hr).trans ?_
  rw [V_main_arg1]

theorem at2 (F : FVec Ideal S1x1024 .f32) (t : Fin cfg0.N) (x : Fin 1024) :
    F (((cfg0.win 2).blk t).view.emb (ix2 0 x)) = F (ix2 0 x) := by
  blk_ext [idx t]

theorem blk2 (c : Dev nD) (t : Fin cfg0.N) (x : Fin 1024) :
    (iblk m c 2 t : FVec Ideal S1x1024 .f32) (ix2 0 x) = (m ((c : Thread nD τ).loc main_arg2) : FVec Ideal S1024 .f32) (ix1 x) := by
  refine (at2 (V m c main_v1) t x).trans ?_
  rw [start2]
  exact gain _ x

/-- Where a block's entry lies in the result. -/
theorem emb3 (t : Fin cfg0.N) (l : Fin 256) (x : Fin 1024) (r : Fin 32768) (hr : r.val = 256 * t.val + l.val) :
    ((cfg0.win 3).blk t).view.emb (ix2 l x) = (ix2 r x : S32768x1024.Idx) := by
  blk_ext [idx t]

/-- Every point writes its block back. -/
theorem flush3 : ∀ t : Fin cfg0.N, (cfg0.win 3).flush t = true := by
  decide +kernel

/-- What a point leaves in its block. -/
theorem left (c : Dev nD) (t : Fin cfg0.N) (l : Fin 256) (j : Fin 1024) (q : Fin 18688) (hq : q.val = 256 * t.val + l.val) :
    (outsAt0 m c t : FVec Ideal S256x1024 .f32) (ix2 l j) = rows (m ((c : Thread nD τ).loc main_arg0)) (m ((c : Thread nD τ).loc main_arg1)) (m ((c : Thread nD τ).loc main_arg2)) (ix2 q j) := by
  have hs : q.val = 8192 * (⟨q.val / 8192, by omega⟩ : Fin 4).val + (⟨q.val % 8192, by omega⟩ : Fin 8192).val := by simp only; omega
  refine Eq.trans ?_ (rows_at (m ((c : Thread nD τ).loc main_arg0)) (m ((c : Thread nD τ).loc main_arg1)) (m ((c : Thread nD τ).loc main_arg2)) q j _ _ hs).symm
  refine Eq.trans ?_ ((stored_at (iblk m c 0 t) (iblk m c 1 t) (iblk m c 2 t) l j).trans
    (normed_congr j (fun k => by rw [blk0 m c t l k _ _ (hq.symm.trans hs), blk1 m c t l k q hq]) (fun k => blk2 m c t k)))
  unfold outsAt0
  frame_out

theorem cut3 (c : Dev nD) (t : Fin cfg0.N) (l : Fin 256) (j : Fin 1024) :
    (dats m 0 c).flushed 3 t (ix2 l j) = (outsAt0 m c t : FVec Ideal S256x1024 .f32) (ix2 l j) := by
  blk_simp
  rw [after0_3]

/-- A row of a block, as its point leaves it. -/
theorem written (c : Dev nD) (t : Fin cfg0.N) (l : Fin 256) (j : Fin 1024) (r : Fin 32768) (q : Fin 18688) (hr : r.val = 256 * t.val + l.val) (hq : q.val = r.val) :
    ((dats m 0 c).arrAt 3 cfg0.N : FVec Ideal S32768x1024 .f32) (ix2 r j) = rows (m ((c : Thread nD τ).loc main_arg0)) (m ((c : Thread nD τ).loc main_arg1)) (m ((c : Thread nD τ).loc main_arg2)) (ix2 q j) := by
  have hb := congrFun (Cert.FinishPromptIdeal.Value.blocks3 m c t (flush3 t)) (ix2 l j)
  refine Eq.trans ?_ (left m c t l j q (hq.trans hr))
  refine Eq.trans ?_ (cut3 m c t l j)
  refine Eq.trans ?_ hb
  generalize (dats m 0 c).arrAt 3 cfg0.N = Y
  exact (congrArg Y (emb3 t l j r hr)).symm

/-- A row behind the last block is in no block. -/
theorem outside (r : Fin 32768) (j : Fin 1024) (h : ¬ r.val < 18688) (t : Fin cfg0.N) : (ix2 r j : S32768x1024.Idx) ∉ ((cfg0.win 3).blk t).view.set := by
  intro hm
  obtain ⟨y, -, hy⟩ := Finset.mem_map.mp hm
  have ht : t.val < 73 := lt_of_lt_of_eq t.isLt N_0
  have y2 : ∃ (l : Fin 256) (x : Fin 1024), y = ix2 l x := ⟨y 0, y 1, by funext a; fin_cases a <;> rfl⟩
  obtain ⟨l, x, rfl⟩ := y2
  have e := hy.symm.trans (emb3 t l x ⟨256 * t.val + l.val, by omega⟩ rfl)
  have e0 : r.val = 256 * t.val + l.val := congrArg Fin.val (congrFun e 0)
  omega

/-- The result array is the reference's. -/
theorem final (c : Dev nD) : (dats m 0 c).arrAt 3 cfg0.N = finished (m ((c : Thread nD τ).loc main_arg0)) (m ((c : Thread nD τ).loc main_arg1)) (m ((c : Thread nD τ).loc main_arg2)) (m ((c : Thread nD τ).loc main_arg3)) := by
  funext i
  have i2 : ∃ (r : Fin 32768) (j : Fin 1024), i = (ix2 r j : S32768x1024.Idx) := ⟨i 0, i 1, by funext a; fin_cases a <;> rfl⟩
  obtain ⟨r, j, rfl⟩ := i2
  by_cases h : r.val < 18688
  · refine (written m c ⟨r.val / 256, lt_of_lt_of_eq (by omega : r.val / 256 < 73) N_0.symm⟩ ⟨r.val % 256, by omega⟩ j r ⟨r.val, h⟩ (by simp only; omega) rfl).trans ?_
    exact (finished_lo _ _ _ (m ((c : Thread nD τ).loc main_arg3)) r j ⟨r.val, h⟩ rfl).symm
  · refine (Cert.FinishPromptIdeal.Value.entry3 m c _ fun t _ => outside r j h t).trans ?_
    refine Eq.trans ?_ (finished_hi (m ((c : Thread nD τ).loc main_arg0)) (m ((c : Thread nD τ).loc main_arg1)) (m ((c : Thread nD τ).loc main_arg2)) (m ((c : Thread nD τ).loc main_arg3)) r j h).symm
    exact congrFun (start3 m c) (ix2 r j)

end Cert.FinishPromptIdeal.Rows
-- ==== Proof.AttendRow.lean ====
module

public import Idealize.ShloMosaic.PureOps.Ideal

@[expose] public section

noncomputable section

namespace Cert.AttendRow

open Idealize.ShloMosaic

/-- A finite sum of real numbers among the extended reals. -/
theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A factor that is a nonnegative real number goes over a sum of any values. -/
theorem sum_mul_coe {ι : Type} (s : Finset ι) (f : ι → EReal) (c : ℝ) (hc : 0 ≤ c) : (∑ i ∈ s, f i) * (c : EReal) = ∑ i ∈ s, f i * (c : EReal) := by
  classical
  induction s using Finset.induction_on with
  | empty => simp
  | insert a s ha ih => rw [Finset.sum_insert ha, Finset.sum_insert ha, ← ih,
      EReal.right_distrib_of_nonneg_of_ne_top (by exact_mod_cast hc) (EReal.coe_ne_top c)]

/-- The largest of a row's scores and the sink. -/
abbrev peak {n : Nat} (T : Fin n → EReal) (sink : EReal) : EReal :=
  max ((Finset.univ : Finset (Fin n)).fold max ⊥ T) sink

theorem exp_sub_bot (x : EReal) : Ideal.exp (⊥ - x) = 0 := by
  rw [sub_eq_add_neg, EReal.bot_add, Ideal.exp_bot]

/-- Weights summed first and divided once, over scores padded with masked ones, against each weight divided before the sum. -/
theorem row_eq (S : Fin 144 → ℝ) (sink : ℝ) (w : Fin 144 → EReal) (T : Fin 256 → EReal) (W : Fin 256 → EReal)
    (hT : ∀ r : Fin 144, T (Fin.castAdd 112 r) = (S r : EReal)) (hT' : ∀ r : Fin 112, T (Fin.natAdd 144 r) = ⊥)
    (hW : ∀ r : Fin 144, W (Fin.castAdd 112 r) = w r) :
    (∑ r, Ideal.exp (T r - peak T sink) * W r) * Ideal.div 1 ((∑ r, Ideal.exp (T r - peak T sink)) + Ideal.exp (sink - peak T sink))
      = ∑ r, w r * Ideal.div (Ideal.exp ((S r : EReal) - peak (fun r => (S r : EReal)) sink))
          ((0 + ∑ r, Ideal.exp ((S r : EReal) - peak (fun r => (S r : EReal)) sink)) + Ideal.exp (sink - peak (fun r => (S r : EReal)) sink)) := by
  have hM : peak T sink = peak (fun r => (S r : EReal)) sink := by
    refine le_antisymm (max_le ?_ (le_max_right _ _)) (max_le ?_ (le_max_right _ _))
    · refine Finset.fold_max_le _ |>.2 ⟨bot_le, fun r _ => ?_⟩
      induction r using Fin.addCases (m := 144) (n := 112) with
      | left r => rw [hT]; exact le_max_of_le_left (Finset.le_fold_max _ |>.2 (.inr ⟨r, Finset.mem_univ _, le_rfl⟩))
      | right r => rw [hT']; exact bot_le
    · refine Finset.fold_max_le _ |>.2 ⟨bot_le, fun r _ => ?_⟩
      exact le_max_of_le_left (Finset.le_fold_max _ |>.2 (.inr ⟨Fin.castAdd 112 r, Finset.mem_univ _, (hT r).ge⟩))
  have hlt : peak (fun r => (S r : EReal)) sink < ⊤ :=
    max_lt (Finset.fold_max_lt _ |>.2 ⟨bot_lt_top, fun r _ => EReal.coe_lt_top _⟩) (EReal.coe_lt_top _)
  have hgt : ⊥ < peak (fun r => (S r : EReal)) sink := lt_of_lt_of_le (EReal.bot_lt_coe sink) (le_max_right _ _)
  rw [hM]
  lift peak (fun r => (S r : EReal)) sink to ℝ using ⟨hlt.ne, hgt.ne'⟩ with μ hμ
  have e (x : ℝ) : Ideal.exp ((x : EReal) - (μ : EReal)) = ((Real.exp (x - μ) : ℝ) : EReal) := by
    rw [← EReal.coe_sub, Ideal.exp_coe]
  have s1 : ∑ r, Ideal.exp (T r - (μ : EReal)) * W r = ∑ r, ((Real.exp (S r - μ) : ℝ) : EReal) * w r := by
    rw [show (∑ r, Ideal.exp (T r - (μ : EReal)) * W r) = ∑ r : Fin (144 + 112), Ideal.exp (T r - (μ : EReal)) * W r from rfl, Fin.sum_univ_add]
    simp only [hT, hT', hW, exp_sub_bot, zero_mul, Finset.sum_const_zero, add_zero, e]
  have s2 : ∑ r, Ideal.exp (T r - (μ : EReal)) = ((∑ r, Real.exp (S r - μ) : ℝ) : EReal) := by
    rw [show (∑ r, Ideal.exp (T r - (μ : EReal))) = ∑ r : Fin (144 + 112), Ideal.exp (T r - (μ : EReal)) from rfl, Fin.sum_univ_add]
    simp only [hT, hT', exp_sub_bot, Finset.sum_const_zero, add_zero, e]
    exact sum_coe _ _
  have hd : 0 < (∑ r, Real.exp (S r - μ)) + Real.exp (sink - μ) :=
    add_pos_of_nonneg_of_pos (Finset.sum_nonneg fun r _ => (Real.exp_pos _).le) (Real.exp_pos _)
  simp only [s1, s2, e, zero_add, sum_coe, ← EReal.coe_add, Ideal.div_coe hd.ne', one_mul]
  rw [sum_mul_coe _ _ _ (one_div_nonneg.2 hd.le)]
  exact Finset.sum_congr rfl fun r _ => by rw [mul_comm (((Real.exp (S r - μ) : ℝ) : EReal)) (w r), mul_assoc]

end Cert.AttendRow

end
-- ==== Proof.AttendPair.lean ====
module

public import proofs.«01_k».proof.Proof.Gen.AttendSampleIdeal.Value
public import proofs.«01_k».proof.Proof.Rows
public import proofs.«01_k».proof.Proof.AttendRow
public import Idealize.ShloMosaic.Lib.Pointwise

@[expose] public section

set_option maxRecDepth 16384

noncomputable section

namespace Cert.AttendSampleIdeal.Pair

open Cert.AttendSampleIdeal Cert.AttendSampleIdeal.Gen Cert.AttendRow Idealize.ShloMosaic

/-- The products of two heads' queries with their keys: the first head's against 256 rows, the second's against the next 256. -/
def dots (kk : FVec Ideal S512x128 .bf16) (q : FVec Ideal S16x128 .bf16) : FVec Ideal S16x512 .f32 :=
  matmul dot_S16x128_S512x128_S16x512_1_1_0_0_n_n none (shapeCast S16x128 q shapeCasts_S16x128_S16x128) kk (constant S16x512 .f32 0x00000000#32)

/-- One head's scores: its products, the slope times the distance added, masked. -/
def scores (c : BitVec 32) (s : FVec Ideal S16x256 .f32) (nd : FVec Ideal S16x256 .f32) (al : IVec S16x256 1) : FVec Ideal S16x256 .f32 :=
  select al (addf s (mulf (broadcast S16x256 (Scalar.ofBits .f32 c)) nd)) (broadcast S16x256 (Named.named κ "mask" 0xF149F2CA#32))

def first (S : FVec Ideal S16x512 .f32) : FVec Ideal S16x256 .f32 := extractStridedSlice S16x256 ![0, 0] S slices_S16x512_o0_0_S16x256
def second (S : FVec Ideal S16x512 .f32) : FVec Ideal S16x256 .f32 := extractStridedSlice S16x256 ![0, 256] S slices_S16x512_o0_256_S16x256

/-- The largest score or the sink. -/
def top (s : FVec Ideal S16x256 .f32) (k : EReal) : FVec Ideal S16x1 .f32 :=
  maximumf (shapeCast S16x1 (multiReduction .maximumf [1] S16 s 0xFF800000#32 reduces_S16x256_S16 (.inl rfl) rfl) shapeCasts_S16_S16x1) (broadcast S16x1 k)

def weights (s : FVec Ideal S16x256 .f32) (k : EReal) : FVec Ideal S16x256 .f32 :=
  exp (subf s (broadcastTo S16x256 (top s k) broadcasts_S16x1_S16x256))

/-- One over the sum of the weights and the sink's. -/
def share (s : FVec Ideal S16x256 .f32) (k : EReal) : FVec Ideal S16x1 .f32 :=
  divf (broadcast S16x1 (Scalar.ofBits .f32 0x3F800000#32))
    (addf (shapeCast S16x1 (multiReduction .add [1] S16 (weights s k) 0x00000000#32 reduces_S16x256_S16 (.inl rfl) rfl) shapeCasts_S16_S16x1)
      (exp (subf (broadcast S16x1 k) (top s k))))

def mixed (vv : FVec Ideal S512x128 .bf16) (s0 s1 : FVec Ideal S16x256 .f32) (k0 k1 : EReal) : FVec Ideal S16x128 .f32 :=
  matmul dot_S16x512_S512x128_S16x128_1_0_0_1_n_n none
    (concatenate S16x512 1 [⟨S16x256, truncf .bf16 (weights s0 k0) bitsLt_bf16_f32⟩, ⟨S16x256, truncf .bf16 (weights s1 k1) bitsLt_bf16_f32⟩] concatenates_S16x256_S16x256_S16x512_d1)
    vv (constant S16x128 .f32 0x00000000#32)

/-- Two heads of the attention: the weighted values times each head's share. -/
def pair (vv : FVec Ideal S512x128 .bf16) (s0 s1 : FVec Ideal S16x256 .f32) (k0 k1 : EReal) : FVec Ideal S16x128 .bf16 :=
  truncf .bf16 (mulf (mixed vv s0 s1 k0 k1)
    (select (cmpi .slt (iota .tc S16x128 32 [1] iota_S16x128_d1_w32) (broadcast S16x128 64#32))
      (broadcastTo S16x128 (shapeCast S16x1 (share s0 k0) shapeCasts_S16x1_S16x1) broadcasts_S16x1_S16x128)
      (broadcastTo S16x128 (shapeCast S16x1 (share s1 k1) shapeCasts_S16x1_S16x1) broadcasts_S16x1_S16x128))) bitsLt_bf16_f32

theorem dots_at (kk : FVec Ideal S512x128 .bf16) (q : FVec Ideal S16x128 .bf16) (i : Fin 16) (r : Fin 512) :
    dots kk q (ix2 i r) = ∑ x : Fin 128, q (ix2 i x) * kk (ix2 r x) := by
  pointwise [dots]

theorem scores_at (c : BitVec 32) (s nd : FVec Ideal S16x256 .f32) (al : IVec S16x256 1) (i : Fin 16) (r : Fin 256) :
    scores c s nd al (ix2 i r) = if al (ix2 i r) = 1#1 then s (ix2 i r) + Ideal.ofBits .f32 c * nd (ix2 i r) else ⊥ := by
  have hκ : (Named.named (F := Ideal) κ "mask" (φ := .f32) 0xF149F2CA#32 : EReal) = ⊥ := IdealRules.named_const.ideal_named_scalar _ _ _ _ rfl
  pointwise [scores, hκ]
  rfl

theorem first_at (S : FVec Ideal S16x512 .f32) (i : Fin 16) (r : Fin 256) : first S (ix2 i r) = S (ix2 i ⟨r.val, by omega⟩) := by
  pointwise [first]

theorem second_at (S : FVec Ideal S16x512 .f32) (i : Fin 16) (r : Fin 256) : second S (ix2 i r) = S (ix2 i ⟨256 + r.val, by omega⟩) := by
  pointwise [second]

theorem top_at (s : FVec Ideal S16x256 .f32) (k : EReal) (i : Fin 16) : top s k (ix2 i 0) = peak (fun r : Fin 256 => s (ix2 i r)) k := by
  have h : Ideal.ofBits .f32 0xFF800000#32 = ⊥ := by simp [Ideal.ofBits, Ideal.ieee]
  pointwise [top, peak]
  simp only [h]

theorem weights_at (s : FVec Ideal S16x256 .f32) (k : EReal) (i : Fin 16) (r : Fin 256) :
    weights s k (ix2 i r) = Ideal.exp (s (ix2 i r) - top s k (ix2 i 0)) := by
  generalize hX : top s k = X
  pointwise [weights, hX]

theorem share_at (s : FVec Ideal S16x256 .f32) (k : EReal) (i : Fin 16) :
    share s k (ix2 i 0) = Ideal.div 1 ((∑ r : Fin 256, weights s k (ix2 i r)) + Ideal.exp (k - top s k (ix2 i 0))) := by
  have h1 : Ideal.ofBits .f32 0x3F800000#32 = 1 := by simp [Ideal.ofBits, Ideal.ieee, -EReal.coe_mul]; norm_num
  generalize hX : top s k = X
  generalize hY : weights s k = Y
  pointwise [share, hX, hY]

theorem mixed_at (vv : FVec Ideal S512x128 .bf16) (s0 s1 : FVec Ideal S16x256 .f32) (k0 k1 : EReal) (i : Fin 16) (l : Fin 128) :
    mixed vv s0 s1 k0 k1 (ix2 i l) = (∑ r : Fin 256, weights s0 k0 (ix2 i r) * vv (ix2 ⟨r.val, by omega⟩ l)) + ∑ r : Fin 256, weights s1 k1 (ix2 i r) * vv (ix2 ⟨256 + r.val, by omega⟩ l) := by
  generalize hX : weights s0 k0 = X
  generalize hY : weights s1 k1 = Y
  pointwise [mixed, hX, hY]

theorem pair_at (vv : FVec Ideal S512x128 .bf16) (s0 s1 : FVec Ideal S16x256 .f32) (k0 k1 : EReal) (i : Fin 16) (l : Fin 128) :
    pair vv s0 s1 k0 k1 (ix2 i l) = mixed vv s0 s1 k0 k1 (ix2 i l) * if l.val < 64 then share s0 k0 (ix2 i 0) else share s1 k1 (ix2 i 0) := by
  generalize hX : mixed vv s0 s1 k0 k1 = X
  generalize hY : share s0 k0 = Y
  generalize hZ : share s1 k1 = Z
  have hl : ∀ l : Fin 128, IntOp.cmpi .slt (BitVec.ofNat 32 l.val) 64#32 = if l.val < 64 then 1#1 else 0#1 := by decide +kernel
  pointwise [pair, hX, hY, hZ]
  rw [hl l]
  by_cases h : l.val < 64
  · rw [if_pos h, if_pos h]; rfl
  · rw [if_neg h, if_neg h]; rfl

end Cert.AttendSampleIdeal.Pair

end
-- ==== Proof.AttendHalves.lean ====
module

public import proofs.«01_k».proof.Proof.AttendPair

@[expose] public section

set_option maxRecDepth 16384

noncomputable section

namespace Cert.AttendSampleIdeal.Pair

open Cert.AttendSampleIdeal Cert.AttendSampleIdeal.Gen Cert.AttendRow Idealize.ShloMosaic

/-- The two arrays of a block of keys one above the other. -/
abbrev cat (v0 v2 : FVec Ideal S128x128 .f32) : FVec Ideal S256x128 .f32 := k0_pay2 v0 v2

theorem cat_lo (v0 v2 : FVec Ideal S128x128 .f32) (r : Fin 256) (p x : Fin 128) (h : p.val = r.val) : cat v0 v2 (ix2 r x) = v0 (ix2 p x) := by
  have hr : r.val < 128 := h ▸ p.isLt
  pointwise [cat, k0_pay2]
  have e0 : ∀ h', (⟨r.val, h'⟩ : Fin 128) = p := fun _ => Fin.ext h.symm
  simp only [hr, dif_pos, if_pos, e0]

theorem cat_hi (v0 v2 : FVec Ideal S128x128 .f32) (r : Fin 256) (p x : Fin 128) (h : 128 + p.val = r.val) : cat v0 v2 (ix2 r x) = v2 (ix2 p x) := by
  have hr : ¬ r.val < 128 := by omega
  pointwise [cat, k0_pay2]
  have e0 : ∀ h', (⟨r.val - 128, h'⟩ : Fin 128) = p := fun _ => Fin.ext (by simp only; omega)
  simp only [hr, dif_neg, if_neg, not_false_eq_true, e0]

/-- The first head's keys in the first lanes, zeros behind; below, zeros and then the same keys. -/
def halves0 (C : FVec Ideal S256x128 .f32) : FVec Ideal S512x128 .bf16 :=
  truncf .bf16 (concatenate S512x128 0 [⟨S256x128, select k0_pay4 (select k0_pay4 C (dynamicRotate 1 64#32 none C rotates_S256x128_d1)) k0_pay9⟩,
    ⟨S256x128, select k0_pay4 k0_pay9 (select k0_pay4 C (dynamicRotate 1 64#32 none C rotates_S256x128_d1))⟩] concatenates_S256x128_S256x128_S512x128_d0) bitsLt_bf16_f32

/-- The same of the second head's keys. -/
def halves1 (C : FVec Ideal S256x128 .f32) : FVec Ideal S512x128 .bf16 :=
  truncf .bf16 (concatenate S512x128 0 [⟨S256x128, select k0_pay4 (select (k0_pay31 k0_pay4) C (dynamicRotate 1 64#32 none C rotates_S256x128_d1)) k0_pay32⟩,
    ⟨S256x128, select k0_pay4 k0_pay32 (select (k0_pay31 k0_pay4) C (dynamicRotate 1 64#32 none C rotates_S256x128_d1))⟩] concatenates_S256x128_S256x128_S512x128_d0) bitsLt_bf16_f32

theorem lane : ∀ l : Fin 128, IntOp.cmpi .slt (BitVec.ofNat 32 l.val) 64#32 = if l.val < 64 then 1#1 else 0#1 := by decide +kernel

theorem mask_at (r : Fin 256) (x : Fin 128) : k0_pay4 (ix2 r x) = if x.val < 64 then 1#1 else 0#1 := by
  refine Eq.trans ?_ (lane x)
  pointwise [k0_pay4]

theorem flip_at (r : Fin 256) (x : Fin 128) : k0_pay31 k0_pay4 (ix2 r x) = if x.val < 64 then 0#1 else 1#1 := by
  have h := mask_at r x
  generalize hX : k0_pay4 = X at h
  pointwise [k0_pay31, hX]
  rw [h]
  by_cases hx : x.val < 64
  · rw [if_pos hx, if_pos hx]; decide
  · rw [if_neg hx, if_neg hx]; decide

theorem halves0_at (C : FVec Ideal S256x128 .f32) (s : Fin 512) (r : Fin 256) (x : Fin 128) (w : Fin 2) (hs : s.val = 256 * w.val + r.val) (y : Fin 128)
    (hy : y.val = x.val % 64) : halves0 C (ix2 s x) = if x.val / 64 = w.val then C (ix2 r y) else 0 := by
  have h := mask_at r x
  generalize hX : k0_pay4 = X at h
  have hw : w.val = 0 ∨ w.val = 1 := by omega
  by_cases hx : x.val < 64 <;> rcases hw with hw | hw <;> simp only [hx, if_true, if_false] at h
  · have hr : s.val < 256 := by omega
    have hq : x.val / 64 = w.val := by omega
    pointwise [halves0, hX, k0_pay9]
    have e0 : ∀ h', (⟨s.val, h'⟩ : Fin 256) = r := fun _ => Fin.ext (by simp only; omega)
    have e2 : x = y := Fin.ext (by omega)
    simp only [hr, hq, dif_pos, dif_neg, if_true, if_false, not_false_eq_true, dite_true, dite_false, e0, h, Scalar.select]
    try (rw [e2]; rfl)
  · have hr : ¬ s.val < 256 := by omega
    have hq : ¬ x.val / 64 = w.val := by omega
    pointwise [halves0, hX, k0_pay9]
    have e0 : ∀ h', (⟨s.val - 256, h'⟩ : Fin 256) = r := fun _ => Fin.ext (by simp only; omega)
    simp only [hr, hq, dif_pos, dif_neg, if_true, if_false, not_false_eq_true, dite_true, dite_false, e0, h, Scalar.select]
    try rfl
  · have hr : s.val < 256 := by omega
    have hq : ¬ x.val / 64 = w.val := by omega
    pointwise [halves0, hX, k0_pay9]
    have e0 : ∀ h', (⟨s.val, h'⟩ : Fin 256) = r := fun _ => Fin.ext (by simp only; omega)
    simp only [hr, hq, dif_pos, dif_neg, if_true, if_false, not_false_eq_true, dite_true, dite_false, e0, h, Scalar.select]
    try rfl
  · have hr : ¬ s.val < 256 := by omega
    have hq : x.val / 64 = w.val := by omega
    pointwise [halves0, hX, k0_pay9]
    have e0 : ∀ h', (⟨s.val - 256, h'⟩ : Fin 256) = r := fun _ => Fin.ext (by simp only; omega)
    have e1 : ∀ h', (⟨(x.val + 128 - 64) % 128, h'⟩ : Fin 128) = y := fun _ => Fin.ext (by simp only; omega)
    simp only [hr, hq, dif_pos, dif_neg, if_true, if_false, not_false_eq_true, dite_true, dite_false, e0, h, Scalar.select, e1]
    try rfl

theorem halves1_at (C : FVec Ideal S256x128 .f32) (s : Fin 512) (r : Fin 256) (x : Fin 128) (w : Fin 2) (hs : s.val = 256 * w.val + r.val) (y : Fin 128)
    (hy : y.val = 64 + x.val % 64) : halves1 C (ix2 s x) = if x.val / 64 = w.val then C (ix2 r y) else 0 := by
  have h := mask_at r x
  have h' := flip_at r x
  generalize hY : k0_pay31 k0_pay4 = Y at h'
  generalize hX : k0_pay4 = X at h hY
  have hw : w.val = 0 ∨ w.val = 1 := by omega
  by_cases hx : x.val < 64 <;> rcases hw with hw | hw <;> simp only [hx, if_true, if_false] at h h'
  · have hr : s.val < 256 := by omega
    have hq : x.val / 64 = w.val := by omega
    pointwise [halves1, hX, hY, k0_pay32]
    have e0 : ∀ h', (⟨s.val, h'⟩ : Fin 256) = r := fun _ => Fin.ext (by simp only; omega)
    have e1 : ∀ h', (⟨(x.val + 128 - 64) % 128, h'⟩ : Fin 128) = y := fun _ => Fin.ext (by simp only; omega)
    simp only [hr, hq, dif_pos, dif_neg, if_true, if_false, not_false_eq_true, dite_true, dite_false, e0, h, h', Scalar.select, e1]
    try rfl
  · have hr : ¬ s.val < 256 := by omega
    have hq : ¬ x.val / 64 = w.val := by omega
    pointwise [halves1, hX, hY, k0_pay32]
    have e0 : ∀ h', (⟨s.val - 256, h'⟩ : Fin 256) = r := fun _ => Fin.ext (by simp only; omega)
    simp only [hr, hq, dif_pos, dif_neg, if_true, if_false, not_false_eq_true, dite_true, dite_false, e0, h, h', Scalar.select]
    try rfl
  · have hr : s.val < 256 := by omega
    have hq : ¬ x.val / 64 = w.val := by omega
    pointwise [halves1, hX, hY, k0_pay32]
    have e0 : ∀ h', (⟨s.val, h'⟩ : Fin 256) = r := fun _ => Fin.ext (by simp only; omega)
    simp only [hr, hq, dif_pos, dif_neg, if_true, if_false, not_false_eq_true, dite_true, dite_false, e0, h, h', Scalar.select]
    try rfl
  · have hr : ¬ s.val < 256 := by omega
    have hq : x.val / 64 = w.val := by omega
    pointwise [halves1, hX, hY, k0_pay32]
    have e0 : ∀ h', (⟨s.val - 256, h'⟩ : Fin 256) = r := fun _ => Fin.ext (by simp only; omega)
    have e2 : x = y := Fin.ext (by omega)
    simp only [hr, hq, dif_pos, dif_neg, if_true, if_false, not_false_eq_true, dite_true, dite_false, e0, h, h', Scalar.select]
    try (rw [e2]; rfl)

end Cert.AttendSampleIdeal.Pair

end
-- ==== Proof.AttendStages.lean ====
module

public import proofs.«01_k».proof.Proof.Gen.ReferenceAttendSampleIdeal.Run
public import proofs.«01_k».proof.Proof.Rows
public import Idealize.ShloMosaic.Lib.Pointwise
public import Idealize.ShloMosaic.Lib.StableHlo.RunRead

@[expose] public section

set_option maxRecDepth 16384

noncomputable section

/-! The reference's attention of the running streams, one array after the other, in the reference's order. -/

namespace Cert.ReferenceAttendSampleIdeal.Stages

open Cert.ReferenceAttendSampleIdeal Cert.ReferenceAttendSampleIdeal.Gen Cert.ReferenceAttendSampleIdeal.Value Idealize.ShloMosaic Idealize.ShloMosaic.TcCoe Idealize.SL.Sem

def r_v0 (x3 : FVec Ideal S1x16x128x2x64 .f32) : FVec Ideal S16x128x2x64 .f32 :=
  shapeCast S16x128x2x64 x3 shapeCasts_S1x16x128x2x64_S16x128x2x64

def r_v1 (x1 : FVec Ideal S16x16x2x64 .f32) (x3 : FVec Ideal S1x16x128x2x64 .f32) : FVec Ideal S16x144x2x64 .f32 :=
  (fn_main_v1 (F := Ideal)) (r_v0 x3) x1

def r_v2 (x4 : FVec Ideal S1x16x128x2x64 .f32) : FVec Ideal S16x128x2x64 .f32 :=
  shapeCast S16x128x2x64 x4 shapeCasts_S1x16x128x2x64_S16x128x2x64

def r_v3 (x2 : FVec Ideal S16x16x2x64 .f32) (x4 : FVec Ideal S1x16x128x2x64 .f32) : FVec Ideal S16x144x2x64 .f32 :=
  (fn_main_v3 (F := Ideal)) (r_v2 x4) x2

def r_v4 : IVec S16 32 :=
  (iotaInDim S16 32 0)

def r_c : IVec S_ 32 :=
  (constantI S_ 32 2048#32)

def r_v5 : IVec S16 32 :=
  (broadcastInDim S16 ![] bcast_S_S16) r_c

def r_v6 : IVec S16 32 :=
  (addi) r_v5 r_v4

def r_v7 : IVec S128 32 :=
  (iotaInDim S128 32 0)

def r_c_0 : IVec S_ 32 :=
  (constantI S_ 32 1920#32)

def r_v8 : IVec S128 32 :=
  (broadcastInDim S128 ![] bcast_S_S128) r_c_0

def r_v9 : IVec S128 32 :=
  (addi) r_v8 r_v7

def r_v10 : IVec S144 32 :=
  (fn_main_v10 (F := Ideal)) r_v9 r_v6

def r_c_1 : IVec S_ 32 :=
  (constantI S_ 32 0#32)

def r_v11 : IVec S144 32 :=
  (broadcastInDim S144 ![] bcast_S_S144) r_c_1

def r_v12 : IVec S144 1 :=
  (cmpi .sge) r_v10 r_v11

def r_v13 (x5 : FVec Ideal S1x8 .f32) : FVec Ideal S8 .f32 :=
  shapeCast S8 x5 shapeCasts_S1x8_S8

def r_v14 (x0 : FVec Ideal S16x16x2x4x64 .f32) (x1 : FVec Ideal S16x16x2x64 .f32) (x3 : FVec Ideal S1x16x128x2x64 .f32) : FVec Ideal S16x2x144x16x4 .f32 :=
  ((fun l r => Host.dotGeneral dot_S16x144x2x64_S16x16x2x4x64_S16x2x144x16x4_3_4_1_13_02_02 none l r)) (r_v1 x1 x3) x0

def r_v15 (x0 : FVec Ideal S16x16x2x4x64 .f32) (x1 : FVec Ideal S16x16x2x64 .f32) (x3 : FVec Ideal S1x16x128x2x64 .f32) : FVec Ideal S16x2x4x16x144 .f32 :=
  ((transpose S16x2x4x16x144 [0, 1, 4, 3, 2] · transposes_S16x2x144x16x4_S16x2x4x16x144_0_1_4_3_2)) (r_v14 x0 x1 x3)

def r_cst : FVec Ideal S_ .f32 :=
  (constant S_ .f32 0x3E000000#32)

def r_v16 : FVec Ideal S16x2x4x16x144 .f32 :=
  (broadcastInDim S16x2x4x16x144 ![] bcast_S_S16x2x4x16x144) r_cst

def r_v17 (x0 : FVec Ideal S16x16x2x4x64 .f32) (x1 : FVec Ideal S16x16x2x64 .f32) (x3 : FVec Ideal S1x16x128x2x64 .f32) : FVec Ideal S16x2x4x16x144 .f32 :=
  (mulf) (r_v15 x0 x1 x3) r_v16

def r_v18 : IVec S16x1 32 :=
  (broadcastInDim S16x1 ![0] bcast_S16_S16x1_0) r_v6

def r_v19 : IVec S1x144 32 :=
  (broadcastInDim S1x144 ![1] bcast_S144_S1x144_1) r_v10

def r_v20 : IVec S16x144 32 :=
  (broadcastInDim S16x144 ![0, 1] bcast_S16x1_S16x144_0_1) r_v18

def r_v21 : IVec S16x144 32 :=
  (broadcastInDim S16x144 ![0, 1] bcast_S1x144_S16x144_0_1) r_v19

def r_v22 : IVec S16x144 32 :=
  (subi) r_v20 r_v21

def r_v23 : IVec S16x144 32 :=
  (absi) r_v22

def r_v24 : FVec Ideal S16x144 .f32 :=
  (sitofp .f32) r_v23

def r_v25 : FVec Ideal S8 .f32 :=
  (sitofp .f32 (iotaInDim S8 32 0))

def r_cst_2 : FVec Ideal S_ .f32 :=
  (constant S_ .f32 0x3F800000#32)

def r_v26 : FVec Ideal S8 .f32 :=
  (broadcastInDim S8 ![] bcast_S_S8) r_cst_2

def r_v27 : FVec Ideal S8 .f32 :=
  (addf) r_v26 r_v25

def r_cst_3 : FVec Ideal S_ .f32 :=
  (constant S_ .f32 0xC1000000#32)

def r_v28 : FVec Ideal S8 .f32 :=
  (broadcastInDim S8 ![] bcast_S_S8) r_cst_3

def r_v29 : FVec Ideal S8 .f32 :=
  (mulf) r_v28 r_v27

def r_cst_4 : FVec Ideal S_ .f32 :=
  (constant S_ .f32 0x41000000#32)

def r_v30 : FVec Ideal S8 .f32 :=
  (broadcastInDim S8 ![] bcast_S_S8) r_cst_4

def r_v31 : FVec Ideal S8 .f32 :=
  (Host.divf) r_v29 r_v30

def r_cst_5 : FVec Ideal S_ .f32 :=
  (constant S_ .f32 0x40000000#32)

def r_v32 : FVec Ideal S8 .f32 :=
  (broadcastInDim S8 ![] bcast_S_S8) r_cst_5

def r_v33 : FVec Ideal S8 .f32 :=
  (Host.powf) r_v32 r_v31

def r_v34 : FVec Ideal S2x4x1x1 .f32 :=
  shapeCast S2x4x1x1 r_v33 shapeCasts_S8_S2x4x1x1

def r_v35 : FVec Ideal S1x1x16x144 .f32 :=
  (broadcastInDim S1x1x16x144 ![2, 3] bcast_S16x144_S1x1x16x144_2_3) r_v24

def r_v36 : FVec Ideal S2x4x16x144 .f32 :=
  (broadcastInDim S2x4x16x144 ![0, 1, 2, 3] bcast_S2x4x1x1_S2x4x16x144_0_1_2_3) r_v34

def r_v37 : FVec Ideal S2x4x16x144 .f32 :=
  (broadcastInDim S2x4x16x144 ![0, 1, 2, 3] bcast_S1x1x16x144_S2x4x16x144_0_1_2_3) r_v35

def r_v38 : FVec Ideal S2x4x16x144 .f32 :=
  (mulf) r_v36 r_v37

def r_v39 : FVec Ideal S1x2x4x16x144 .f32 :=
  (broadcastInDim S1x2x4x16x144 ![1, 2, 3, 4] bcast_S2x4x16x144_S1x2x4x16x144_1_2_3_4) r_v38

def r_v40 : FVec Ideal S16x2x4x16x144 .f32 :=
  (broadcastInDim S16x2x4x16x144 ![0, 1, 2, 3, 4] bcast_S1x2x4x16x144_S16x2x4x16x144_0_1_2_3_4) r_v39

def r_v41 (x0 : FVec Ideal S16x16x2x4x64 .f32) (x1 : FVec Ideal S16x16x2x64 .f32) (x3 : FVec Ideal S1x16x128x2x64 .f32) : FVec Ideal S16x2x4x16x144 .f32 :=
  (subf) (r_v17 x0 x1 x3) r_v40

def r_c_6 : IVec S_ 32 :=
  (constantI S_ 32 64#32)

def r_call0_v0 : IVec S_ 32 :=
  id r_c_6

def r_call0_v1 : IVec S16x1 32 :=
  (broadcastInDim S16x1 ![] bcast_S_S16x1) r_call0_v0

def r_call0_v2 : IVec S16x1 32 :=
  Host.divsi r_v18 r_call0_v1

def r_call0_v3 : IVec S16x1 32 :=
  signi r_v18

def r_call0_v4 : IVec S_ 32 :=
  signi r_call0_v0

def r_call0_v5 : IVec S16x1 32 :=
  (broadcastInDim S16x1 ![] bcast_S_S16x1) r_call0_v4

def r_call0_v6 : IVec S16x1 1 :=
  (cmpi .ne) r_call0_v3 r_call0_v5

def r_call0_v7 : IVec S16x1 32 :=
  (broadcastInDim S16x1 ![] bcast_S_S16x1) r_call0_v0

def r_call0_v8 : IVec S16x1 32 :=
  Host.remsi r_v18 r_call0_v7

def r_call0_c : IVec S_ 32 :=
  (constantI S_ 32 0#32)

def r_call0_v9 : IVec S16x1 32 :=
  (broadcastInDim S16x1 ![] bcast_S_S16x1) r_call0_c

def r_call0_v10 : IVec S16x1 1 :=
  (cmpi .ne) r_call0_v8 r_call0_v9

def r_call0_v11 : IVec S16x1 1 :=
  andi r_call0_v6 r_call0_v10

def r_call0_c_0 : IVec S_ 32 :=
  (constantI S_ 32 1#32)

def r_call0_v12 : IVec S16x1 32 :=
  (broadcastInDim S16x1 ![] bcast_S_S16x1) r_call0_c_0

def r_call0_v13 : IVec S16x1 32 :=
  subi r_call0_v2 r_call0_v12

def r_v42 : IVec S16x1 32 :=
  select r_call0_v11 r_call0_v13 r_call0_v2

def r_c_7 : IVec S_ 32 :=
  (constantI S_ 32 64#32)

def r_call1_v0 : IVec S_ 32 :=
  id r_c_7

def r_call1_v1 : IVec S1x144 32 :=
  (broadcastInDim S1x144 ![] bcast_S_S1x144) r_call1_v0

def r_call1_v2 : IVec S1x144 32 :=
  Host.divsi r_v19 r_call1_v1

def r_call1_v3 : IVec S1x144 32 :=
  signi r_v19

def r_call1_v4 : IVec S_ 32 :=
  signi r_call1_v0

def r_call1_v5 : IVec S1x144 32 :=
  (broadcastInDim S1x144 ![] bcast_S_S1x144) r_call1_v4

def r_call1_v6 : IVec S1x144 1 :=
  (cmpi .ne) r_call1_v3 r_call1_v5

def r_call1_v7 : IVec S1x144 32 :=
  (broadcastInDim S1x144 ![] bcast_S_S1x144) r_call1_v0

def r_call1_v8 : IVec S1x144 32 :=
  Host.remsi r_v19 r_call1_v7

def r_call1_c : IVec S_ 32 :=
  (constantI S_ 32 0#32)

def r_call1_v9 : IVec S1x144 32 :=
  (broadcastInDim S1x144 ![] bcast_S_S1x144) r_call1_c

def r_call1_v10 : IVec S1x144 1 :=
  (cmpi .ne) r_call1_v8 r_call1_v9

def r_call1_v11 : IVec S1x144 1 :=
  andi r_call1_v6 r_call1_v10

def r_call1_c_0 : IVec S_ 32 :=
  (constantI S_ 32 1#32)

def r_call1_v12 : IVec S1x144 32 :=
  (broadcastInDim S1x144 ![] bcast_S_S1x144) r_call1_c_0

def r_call1_v13 : IVec S1x144 32 :=
  subi r_call1_v2 r_call1_v12

def r_v43 : IVec S1x144 32 :=
  select r_call1_v11 r_call1_v13 r_call1_v2

def r_v44 : IVec S1x144 1 :=
  (broadcastInDim S1x144 ![1] bcast_S144_S1x144_1) r_v12

def r_v45 : IVec S16x144 32 :=
  (broadcastInDim S16x144 ![0, 1] bcast_S1x144_S16x144_0_1) r_v43

def r_v46 : IVec S16x144 32 :=
  (broadcastInDim S16x144 ![0, 1] bcast_S16x1_S16x144_0_1) r_v42

def r_v47 : IVec S16x144 1 :=
  (cmpi .sle) r_v45 r_v46

def r_v48 : IVec S16x144 1 :=
  (broadcastInDim S16x144 ![0, 1] bcast_S1x144_S16x144_0_1) r_v44

def r_v49 : IVec S16x144 1 :=
  (andi) r_v48 r_v47

def r_c_8 : IVec S_ 32 :=
  (constantI S_ 32 2#32)

def r_v50 : IVec S16x1 32 :=
  (broadcastInDim S16x1 ![] bcast_S_S16x1) r_c_8

def r_v51 : IVec S16x1 32 :=
  (subi) r_v42 r_v50

def r_v52 : IVec S16x144 32 :=
  (broadcastInDim S16x144 ![0, 1] bcast_S1x144_S16x144_0_1) r_v43

def r_v53 : IVec S16x144 32 :=
  (broadcastInDim S16x144 ![0, 1] bcast_S16x1_S16x144_0_1) r_v51

def r_v54 : IVec S16x144 1 :=
  (cmpi .sge) r_v52 r_v53

def r_v55 : IVec S16x144 1 :=
  (andi) r_v49 r_v54

def r_v56 : IVec S1x1x16x144 1 :=
  (broadcastInDim S1x1x16x144 ![2, 3] bcast_S16x144_S1x1x16x144_2_3) r_v55

def r_cst_9 : FVec Ideal S_ .f32 :=
  (constant S_ .f32 0xF149F2CA#32)

def r_call2_v0 : FVec Ideal S_ .f32 :=
  id r_cst_9

def r_call2_v1 : IVec S16x2x4x16x144 1 :=
  (broadcastInDim S16x2x4x16x144 ![1, 2, 3, 4] bcast_S1x1x16x144_S16x2x4x16x144_1_2_3_4) r_v56

def r_call2_v2 : FVec Ideal S16x2x4x16x144 .f32 :=
  (broadcastInDim S16x2x4x16x144 ![] bcast_S_S16x2x4x16x144) r_call2_v0

def r_v57 (x0 : FVec Ideal S16x16x2x4x64 .f32) (x1 : FVec Ideal S16x16x2x64 .f32) (x3 : FVec Ideal S1x16x128x2x64 .f32) : FVec Ideal S16x2x4x16x144 .f32 :=
  select r_call2_v1 (r_v41 x0 x1 x3) r_call2_v2

def r_v58 (x5 : FVec Ideal S1x8 .f32) : FVec Ideal S2x4x1x1 .f32 :=
  shapeCast S2x4x1x1 (r_v13 x5) shapeCasts_S8_S2x4x1x1

def r_cst_10 : FVec Ideal S_ .f32 :=
  (constant S_ .f32 0xFF800000#32)

def r_v59 (x0 : FVec Ideal S16x16x2x4x64 .f32) (x1 : FVec Ideal S16x16x2x64 .f32) (x3 : FVec Ideal S1x16x128x2x64 .f32) : FVec Ideal S16x2x4x16 .f32 :=
  ((fun x v => Host.reduce FloatOps.maximumf x v reducesTo_S16x2x4x16x144_S16x2x4x16_d4 h_S_)) (r_v57 x0 x1 x3) r_cst_10

def r_v60 (x0 : FVec Ideal S16x16x2x4x64 .f32) (x1 : FVec Ideal S16x16x2x64 .f32) (x3 : FVec Ideal S1x16x128x2x64 .f32) : FVec Ideal S16x2x4x16x1 .f32 :=
  (broadcastInDim S16x2x4x16x1 ![0, 1, 2, 3] bcast_S16x2x4x16_S16x2x4x16x1_0_1_2_3) (r_v59 x0 x1 x3)

def r_v61 (x5 : FVec Ideal S1x8 .f32) : FVec Ideal S1x2x4x1x1 .f32 :=
  (broadcastInDim S1x2x4x1x1 ![1, 2, 3, 4] bcast_S2x4x1x1_S1x2x4x1x1_1_2_3_4) (r_v58 x5)

def r_v62 (x5 : FVec Ideal S1x8 .f32) : FVec Ideal S16x2x4x16x1 .f32 :=
  (broadcastInDim S16x2x4x16x1 ![0, 1, 2, 3, 4] bcast_S1x2x4x1x1_S16x2x4x16x1_0_1_2_3_4) (r_v61 x5)

def r_v63 (x0 : FVec Ideal S16x16x2x4x64 .f32) (x1 : FVec Ideal S16x16x2x64 .f32) (x3 : FVec Ideal S1x16x128x2x64 .f32) (x5 : FVec Ideal S1x8 .f32) : FVec Ideal S16x2x4x16x1 .f32 :=
  (maximumf) (r_v60 x0 x1 x3) (r_v62 x5)

def r_v64 (x0 : FVec Ideal S16x16x2x4x64 .f32) (x1 : FVec Ideal S16x16x2x64 .f32) (x3 : FVec Ideal S1x16x128x2x64 .f32) (x5 : FVec Ideal S1x8 .f32) : FVec Ideal S16x2x4x16x144 .f32 :=
  (broadcastInDim S16x2x4x16x144 ![0, 1, 2, 3, 4] bcast_S16x2x4x16x1_S16x2x4x16x144_0_1_2_3_4) (r_v63 x0 x1 x3 x5)

def r_v65 (x0 : FVec Ideal S16x16x2x4x64 .f32) (x1 : FVec Ideal S16x16x2x64 .f32) (x3 : FVec Ideal S1x16x128x2x64 .f32) (x5 : FVec Ideal S1x8 .f32) : FVec Ideal S16x2x4x16x144 .f32 :=
  (subf) (r_v57 x0 x1 x3) (r_v64 x0 x1 x3 x5)

def r_v66 (x0 : FVec Ideal S16x16x2x4x64 .f32) (x1 : FVec Ideal S16x16x2x64 .f32) (x3 : FVec Ideal S1x16x128x2x64 .f32) (x5 : FVec Ideal S1x8 .f32) : FVec Ideal S16x2x4x16x144 .f32 :=
  (Host.exp) (r_v65 x0 x1 x3 x5)

def r_cst_11 : FVec Ideal S_ .f32 :=
  (constant S_ .f32 0x00000000#32)

def r_v67 (x0 : FVec Ideal S16x16x2x4x64 .f32) (x1 : FVec Ideal S16x16x2x64 .f32) (x3 : FVec Ideal S1x16x128x2x64 .f32) (x5 : FVec Ideal S1x8 .f32) : FVec Ideal S16x2x4x16 .f32 :=
  ((fun x v => Host.reduceAdd x v reducesTo_S16x2x4x16x144_S16x2x4x16_d4 h_S_)) (r_v66 x0 x1 x3 x5) r_cst_11

def r_v68 (x0 : FVec Ideal S16x16x2x4x64 .f32) (x1 : FVec Ideal S16x16x2x64 .f32) (x3 : FVec Ideal S1x16x128x2x64 .f32) (x5 : FVec Ideal S1x8 .f32) : FVec Ideal S16x2x4x16x1 .f32 :=
  (broadcastInDim S16x2x4x16x1 ![0, 1, 2, 3] bcast_S16x2x4x16_S16x2x4x16x1_0_1_2_3) (r_v67 x0 x1 x3 x5)

def r_v69 (x5 : FVec Ideal S1x8 .f32) : FVec Ideal S1x2x4x1x1 .f32 :=
  (broadcastInDim S1x2x4x1x1 ![1, 2, 3, 4] bcast_S2x4x1x1_S1x2x4x1x1_1_2_3_4) (r_v58 x5)

def r_v70 (x5 : FVec Ideal S1x8 .f32) : FVec Ideal S16x2x4x16x1 .f32 :=
  (broadcastInDim S16x2x4x16x1 ![0, 1, 2, 3, 4] bcast_S1x2x4x1x1_S16x2x4x16x1_0_1_2_3_4) (r_v69 x5)

def r_v71 (x0 : FVec Ideal S16x16x2x4x64 .f32) (x1 : FVec Ideal S16x16x2x64 .f32) (x3 : FVec Ideal S1x16x128x2x64 .f32) (x5 : FVec Ideal S1x8 .f32) : FVec Ideal S16x2x4x16x1 .f32 :=
  (subf) (r_v70 x5) (r_v63 x0 x1 x3 x5)

def r_v72 (x0 : FVec Ideal S16x16x2x4x64 .f32) (x1 : FVec Ideal S16x16x2x64 .f32) (x3 : FVec Ideal S1x16x128x2x64 .f32) (x5 : FVec Ideal S1x8 .f32) : FVec Ideal S16x2x4x16x1 .f32 :=
  (Host.exp) (r_v71 x0 x1 x3 x5)

def r_v73 (x0 : FVec Ideal S16x16x2x4x64 .f32) (x1 : FVec Ideal S16x16x2x64 .f32) (x3 : FVec Ideal S1x16x128x2x64 .f32) (x5 : FVec Ideal S1x8 .f32) : FVec Ideal S16x2x4x16x1 .f32 :=
  (addf) (r_v68 x0 x1 x3 x5) (r_v72 x0 x1 x3 x5)

def r_v74 (x0 : FVec Ideal S16x16x2x4x64 .f32) (x1 : FVec Ideal S16x16x2x64 .f32) (x3 : FVec Ideal S1x16x128x2x64 .f32) (x5 : FVec Ideal S1x8 .f32) : FVec Ideal S16x2x4x16x144 .f32 :=
  (broadcastInDim S16x2x4x16x144 ![0, 1, 2, 3, 4] bcast_S16x2x4x16x1_S16x2x4x16x144_0_1_2_3_4) (r_v73 x0 x1 x3 x5)

def r_v75 (x0 : FVec Ideal S16x16x2x4x64 .f32) (x1 : FVec Ideal S16x16x2x64 .f32) (x3 : FVec Ideal S1x16x128x2x64 .f32) (x5 : FVec Ideal S1x8 .f32) : FVec Ideal S16x2x4x16x144 .f32 :=
  (Host.divf) (r_v66 x0 x1 x3 x5) (r_v74 x0 x1 x3 x5)

def r_v76 (x0 : FVec Ideal S16x16x2x4x64 .f32) (x1 : FVec Ideal S16x16x2x64 .f32) (x2 : FVec Ideal S16x16x2x64 .f32) (x3 : FVec Ideal S1x16x128x2x64 .f32) (x4 : FVec Ideal S1x16x128x2x64 .f32) (x5 : FVec Ideal S1x8 .f32) : FVec Ideal S16x2x64x4x16 .f32 :=
  ((fun l r => Host.dotGeneral dot_S16x144x2x64_S16x2x4x16x144_S16x2x64x4x16_1_4_3_23_02_01 none l r)) (r_v3 x2 x4) (r_v75 x0 x1 x3 x5)

def r_v77 (x0 : FVec Ideal S16x16x2x4x64 .f32) (x1 : FVec Ideal S16x16x2x64 .f32) (x2 : FVec Ideal S16x16x2x64 .f32) (x3 : FVec Ideal S1x16x128x2x64 .f32) (x4 : FVec Ideal S1x16x128x2x64 .f32) (x5 : FVec Ideal S1x8 .f32) : FVec Ideal S16x16x2x4x64 .f32 :=
  ((transpose S16x16x2x4x64 [0, 4, 1, 3, 2] · transposes_S16x2x64x4x16_S16x16x2x4x64_0_4_1_3_2)) (r_v76 x0 x1 x2 x3 x4 x5)

def r_v78 (x0 : FVec Ideal S16x16x2x4x64 .f32) (x1 : FVec Ideal S16x16x2x64 .f32) (x2 : FVec Ideal S16x16x2x64 .f32) (x3 : FVec Ideal S1x16x128x2x64 .f32) (x4 : FVec Ideal S1x16x128x2x64 .f32) (x5 : FVec Ideal S1x8 .f32) : FVec Ideal S256x512 .f32 :=
  shapeCast S256x512 (r_v77 x0 x1 x2 x3 x4 x5) shapeCasts_S16x16x2x4x64_S256x512

def r_v79 (x0 : FVec Ideal S16x16x2x4x64 .f32) (x1 : FVec Ideal S16x16x2x64 .f32) (x2 : FVec Ideal S16x16x2x64 .f32) (x3 : FVec Ideal S1x16x128x2x64 .f32) (x4 : FVec Ideal S1x16x128x2x64 .f32) (x5 : FVec Ideal S1x8 .f32) : FVec Ideal S256x512 .bf16 :=
  ((truncf .bf16 · bitsLt_bf16_f32)) (r_v78 x0 x1 x2 x3 x4 x5)

/-- The reference's run leaves the last of these arrays. -/
theorem result (m : (ℓ : Loc nD τ sig) → Buf (Elt Ideal) ℓ) (c : Dev nD) :
    (res_main_v79 m c : FVec Ideal S256x512 .bf16) = r_v79 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  unfold res_main_v79
  rfl

/-- Every key of a running stream is inside every query's window. -/
theorem allowed : ∀ (i : Fin 16) (r : Fin 144), r_v55 (ix2 i r) = 1#1 := by
  decide +kernel

end Cert.ReferenceAttendSampleIdeal.Stages

end
-- ==== Proof.AttendReference.lean ====
module

public import proofs.«01_k».proof.Proof.AttendStages
public import proofs.«01_k».proof.Proof.AttendRow
public import proofs.«01_k».proof.Proof.Chunk

@[expose] public section

set_option maxRecDepth 16384

noncomputable section

namespace Cert.ReferenceAttendSampleIdeal.Stages

open Cert.ReferenceAttendSampleIdeal Cert.ReferenceAttendSampleIdeal.Gen Cert.ReferenceAttendSampleIdeal.Value Cert.AttendRow Idealize.ShloMosaic Idealize.ShloMosaic.TcCoe Idealize.SL.Sem

/-- A key of a stream: the cached ones, then the new ones. -/
theorem keys_lo (x1 : FVec Ideal S16x16x2x64 .f32) (x3 : FVec Ideal S1x16x128x2x64 .f32) (b : Fin 16) (r : Fin 144) (p : Fin 128) (h : Fin 2) (d : Fin 64)
    (hp : p.val = r.val) : r_v1 x1 x3 (ix4 b r h d) = x3 (ix5 0 b p h d) := by
  have hr : r.val < 128 := hp ▸ p.isLt
  pointwise [r_v1, r_v0, fn_main_v1]
  have e0 : ∀ h, (⟨r.val, h⟩ : Fin 128) = p := fun _ => Fin.ext hp.symm
  simp only [hr, dif_pos, if_pos, e0]

theorem keys_hi (x1 : FVec Ideal S16x16x2x64 .f32) (x3 : FVec Ideal S1x16x128x2x64 .f32) (b : Fin 16) (r : Fin 144) (p : Fin 16) (h : Fin 2) (d : Fin 64)
    (hp : 128 + p.val = r.val) : r_v1 x1 x3 (ix4 b r h d) = x1 (ix4 b p h d) := by
  have hr : ¬ r.val < 128 := by omega
  pointwise [r_v1, r_v0, fn_main_v1]
  have e0 : ∀ h, (⟨r.val - 128, h⟩ : Fin 16) = p := fun _ => Fin.ext (by simp only; omega)
  simp only [hr, dif_neg, if_neg, not_false_eq_true, e0]

theorem vals_lo (x2 : FVec Ideal S16x16x2x64 .f32) (x4 : FVec Ideal S1x16x128x2x64 .f32) (b : Fin 16) (r : Fin 144) (p : Fin 128) (h : Fin 2) (d : Fin 64)
    (hp : p.val = r.val) : r_v3 x2 x4 (ix4 b r h d) = x4 (ix5 0 b p h d) := by
  have hr : r.val < 128 := hp ▸ p.isLt
  pointwise [r_v3, r_v2, fn_main_v3]
  have e0 : ∀ h, (⟨r.val, h⟩ : Fin 128) = p := fun _ => Fin.ext hp.symm
  simp only [hr, dif_pos, if_pos, e0]

theorem vals_hi (x2 : FVec Ideal S16x16x2x64 .f32) (x4 : FVec Ideal S1x16x128x2x64 .f32) (b : Fin 16) (r : Fin 144) (p : Fin 16) (h : Fin 2) (d : Fin 64)
    (hp : 128 + p.val = r.val) : r_v3 x2 x4 (ix4 b r h d) = x2 (ix4 b p h d) := by
  have hr : ¬ r.val < 128 := by omega
  pointwise [r_v3, r_v2, fn_main_v3]
  have e0 : ∀ h, (⟨r.val - 128, h⟩ : Fin 16) = p := fun _ => Fin.ext (by simp only; omega)
  simp only [hr, dif_neg, if_neg, not_false_eq_true, e0]

/-- The slope of a head: one half, to a power one above the head's place. -/
theorem slope_at (n : Fin 8) : r_v33 (ix1 n) = (((1 / 2 : ℝ) ^ (n.val + 1) : ℝ) : EReal) := by
  have h2 : Ideal.ofBits .f32 0x40000000#32 = ((2 : ℝ) : EReal) := by simp [Ideal.ofBits, Ideal.ieee, -EReal.coe_mul]; norm_num
  have h8 : Ideal.ofBits .f32 0x41000000#32 = ((8 : ℝ) : EReal) := by simp [Ideal.ofBits, Ideal.ieee, -EReal.coe_mul]; norm_num
  have hm : Ideal.ofBits .f32 0xC1000000#32 = ((-8 : ℝ) : EReal) := by simp [Ideal.ofBits, Ideal.ieee, -EReal.coe_mul]; norm_num
  have hn : (FloatOps.sitofp (F := Ideal) .f32 (BitVec.ofNat 32 n.val) : EReal) = ((n.val : ℝ) : EReal) := Cert.Retention.num_eq n.val (by omega)
  pointwise [r_v33, r_v32, r_cst_5, r_v31, r_v30, r_cst_4, r_v29, r_v28, r_cst_3, r_v27, r_v26, r_cst_2, r_v25]
  rw [h2, h8, hm, hn, Ideal.div_coe (by norm_num), ← EReal.coe_one, ← EReal.coe_add, ← EReal.coe_mul, ← EReal.coe_mul, Ideal.pow_coe_coe]
  congr 1
  rw [show ((-8 : ℝ) * (1 + (n.val : ℝ)) * (1 / 8)) = -((n.val + 1 : ℕ) : ℝ) by push_cast; ring]
  change (2 : ℝ) ^ (-((n.val + 1 : ℕ) : ℝ)) = _
  rw [Real.rpow_neg (by norm_num), Real.rpow_natCast, one_div, inv_pow]

theorem slopes_at (h : Fin 2) (g : Fin 4) (n : Fin 8) (hn : n.val = 4 * h.val + g.val) : r_v34 (ix4 h g 0 0) = r_v33 (ix1 n) := by
  generalize hX : r_v33 = X
  pointwise [r_v34, hX]
  have e0 : ∀ h', (⟨h.val * 4 + g.val, h'⟩ : Fin 8) = n := fun _ => Fin.ext (by simp only; omega)
  simp only [e0]

theorem score_at (x0 : FVec Ideal S16x16x2x4x64 .f32) (x1 : FVec Ideal S16x16x2x64 .f32) (x3 : FVec Ideal S1x16x128x2x64 .f32)
    (b : Fin 16) (h : Fin 2) (g : Fin 4) (i : Fin 16) (r : Fin 144) :
    r_v57 x0 x1 x3 (ix5 b h g i r) = (∑ d : Fin 64, r_v1 x1 x3 (ix4 b r h d) * x0 (ix5 b i h g d)) * Ideal.ofBits .f32 0x3E000000#32
      - r_v34 (ix4 h g 0 0) * r_v24 (ix2 i r) := by
  have ha := allowed i r
  generalize hX : r_v1 x1 x3 = X
  generalize hY : r_v34 = Y
  generalize hZ : r_v24 = Z
  generalize hA : r_v55 = A at ha
  pointwise [r_v57, r_v41, r_v40, r_v39, r_v38, r_v37, r_v36, r_v35, r_v17, r_v16, r_cst, r_v15, r_v14, r_call2_v1, r_call2_v2, r_call2_v0, r_cst_9, r_v56, hX, hY, hZ, hA]
  simp only [ha]
  rfl

theorem sink_at (x5 : FVec Ideal S1x8 .f32) (h : Fin 2) (g : Fin 4) (n : Fin 8) (hn : n.val = 4 * h.val + g.val) :
    r_v58 x5 (ix4 h g 0 0) = x5 (ix2 0 n) := by
  pointwise [r_v58, r_v13]
  have e0 : ∀ h', (⟨h.val * 4 + g.val, h'⟩ : Fin 8) = n := fun _ => Fin.ext (by simp only; omega)
  simp only [e0]

theorem peak_at (x0 : FVec Ideal S16x16x2x4x64 .f32) (x1 : FVec Ideal S16x16x2x64 .f32) (x3 : FVec Ideal S1x16x128x2x64 .f32) (x5 : FVec Ideal S1x8 .f32)
    (b : Fin 16) (h : Fin 2) (g : Fin 4) (i : Fin 16) :
    r_v63 x0 x1 x3 x5 (ix5 b h g i 0) = peak (fun r : Fin 144 => r_v57 x0 x1 x3 (ix5 b h g i r)) (r_v58 x5 (ix4 h g 0 0)) := by
  generalize hX : r_v57 x0 x1 x3 = X
  generalize hY : r_v58 x5 = Y
  have hb : Ideal.ofBits .f32 0xFF800000#32 = ⊥ := by simp [Ideal.ofBits, Ideal.ieee]
  pointwise [r_v63, r_v62, r_v61, r_v60, r_v59, r_cst_10, peak, hX, hY]
  simp only [hb]

theorem weight_at (x0 : FVec Ideal S16x16x2x4x64 .f32) (x1 : FVec Ideal S16x16x2x64 .f32) (x3 : FVec Ideal S1x16x128x2x64 .f32) (x5 : FVec Ideal S1x8 .f32)
    (b : Fin 16) (h : Fin 2) (g : Fin 4) (i : Fin 16) (r : Fin 144) :
    r_v66 x0 x1 x3 x5 (ix5 b h g i r) = Ideal.exp (r_v57 x0 x1 x3 (ix5 b h g i r) - r_v63 x0 x1 x3 x5 (ix5 b h g i 0)) := by
  generalize hX : r_v57 x0 x1 x3 = X
  generalize hY : r_v63 x0 x1 x3 x5 = Y
  pointwise [r_v66, r_v65, r_v64, hX, hY]

theorem total_at (x0 : FVec Ideal S16x16x2x4x64 .f32) (x1 : FVec Ideal S16x16x2x64 .f32) (x3 : FVec Ideal S1x16x128x2x64 .f32) (x5 : FVec Ideal S1x8 .f32)
    (b : Fin 16) (h : Fin 2) (g : Fin 4) (i : Fin 16) :
    r_v73 x0 x1 x3 x5 (ix5 b h g i 0) = (0 + ∑ r : Fin 144, r_v66 x0 x1 x3 x5 (ix5 b h g i r)) + Ideal.exp (r_v58 x5 (ix4 h g 0 0) - r_v63 x0 x1 x3 x5 (ix5 b h g i 0)) := by
  generalize hX : r_v66 x0 x1 x3 x5 = X
  generalize hY : r_v63 x0 x1 x3 x5 = Y
  generalize hZ : r_v58 x5 = Z
  pointwise [r_v73, r_v72, r_v71, r_v70, r_v69, r_v68, r_v67, r_cst_11, hX, hY, hZ]

theorem result_at (x0 : FVec Ideal S16x16x2x4x64 .f32) (x1 : FVec Ideal S16x16x2x64 .f32) (x2 : FVec Ideal S16x16x2x64 .f32) (x3 : FVec Ideal S1x16x128x2x64 .f32)
    (x4 : FVec Ideal S1x16x128x2x64 .f32) (x5 : FVec Ideal S1x8 .f32) (b : Fin 16) (h : Fin 2) (g : Fin 4) (i : Fin 16) (e : Fin 64) (R : Fin 256) (J : Fin 512)
    (hR : R.val = 16 * b.val + i.val) (hJ : J.val = 256 * h.val + 64 * g.val + e.val) :
    r_v79 x0 x1 x2 x3 x4 x5 (ix2 R J) = ∑ r : Fin 144, r_v3 x2 x4 (ix4 b r h e) * Ideal.div (r_v66 x0 x1 x3 x5 (ix5 b h g i r)) (r_v73 x0 x1 x3 x5 (ix5 b h g i 0)) := by
  generalize hX : r_v66 x0 x1 x3 x5 = X
  generalize hY : r_v73 x0 x1 x3 x5 = Y
  generalize hZ : r_v3 x2 x4 = Z
  pointwise [r_v79, r_v78, r_v77, r_v76, r_v75, r_v74, hX, hY, hZ]
  have e0 : ∀ h', (⟨R.val / 16, h'⟩ : Fin 16) = b := fun _ => Fin.ext (by simp only; omega)
  have e1 : ∀ h', (⟨R.val % 16, h'⟩ : Fin 16) = i := fun _ => Fin.ext (by simp only; omega)
  have e2 : ∀ h', (⟨J.val / 256, h'⟩ : Fin 2) = h := fun _ => Fin.ext (by simp only; omega)
  have e3 : ∀ h', (⟨J.val / 64 % 4, h'⟩ : Fin 4) = g := fun _ => Fin.ext (by simp only; omega)
  have e4 : ∀ h', (⟨J.val % 64, h'⟩ : Fin 64) = e := fun _ => Fin.ext (by simp only; omega)
  simp only [e0, e1, e2, e3, e4]

end Cert.ReferenceAttendSampleIdeal.Stages

end
-- ==== Proof.AttendBlocks.lean ====
module

public import proofs.«01_k».proof.Proof.AttendPair
public import proofs.«01_k».proof.Proof.AttendReference
public import Idealize.ShloMosaic.Lib.Pipeline.ValueKit
public import Idealize.ShloMosaic.Lib.StableHlo.RunRead

@[expose] public section

set_option maxRecDepth 16384

noncomputable section

namespace Cert.AttendSampleIdeal.Blocks

open Cert.AttendSampleIdeal Cert.AttendSampleIdeal.Gen Cert.AttendRow Idealize.ShloMosaic Idealize.ShloMosaic.TcCoe Idealize.SL.Sem
open Idealize.ShloMosaic.Pipeline (Dat)

/-- The queries as the call takes them: scaled, a row for each token. -/
def queries (x0 : FVec Ideal S16x16x2x4x64 .f32) : FVec Ideal S256x512 .bf16 :=
  truncf .bf16 (mulf (shapeCast S256x512 x0 shapeCasts_S16x16x2x4x64_S256x512) (broadcastInDim S256x512 ![] bcast_S_S256x512 (constant S_ .f32 0x3E000000#32))) bitsLt_bf16_f32

/-- The rows the call takes of keys, or of values: a stream's cached ones, its new ones and rows of zeros. -/
def padded (x1 : FVec Ideal S16x16x2x64 .f32) (x3 : FVec Ideal S1x16x128x2x64 .f32) : FVec Ideal S4096x128 .f32 :=
  shapeCast S4096x128 (concatenate S16x256x128 1
    [⟨S16x128x128, shapeCast S16x128x128 (shapeCast S16x128x2x64 x3 shapeCasts_S1x16x128x2x64_S16x128x2x64) shapeCasts_S16x128x2x64_S16x128x128⟩,
     ⟨S16x16x128, shapeCast S16x16x128 x1 shapeCasts_S16x16x2x64_S16x16x128⟩,
     ⟨S16x112x128, broadcastInDim S16x112x128 ![] bcast_S_S16x112x128 (constant S_ .f32 0x00000000#32)⟩]
    concatenates_S16x128x128_S16x16x128_S16x112x128_S16x256x128_d1) shapeCasts_S16x256x128_S4096x128

/-- How far a key lies from a query. -/
def gaps : IVec S16x256 32 :=
  absi (subi (broadcastInDim S16x256 ![0, 1] bcast_S16x1_S16x256_0_1 (addi (broadcastInDim S16x1 ![] bcast_S_S16x1 (constantI S_ 32 128#32)) (broadcastInDim S16x1 ![0] bcast_S16_S16x1_0 (iotaInDim S16 32 0))))
    (broadcastInDim S16x256 ![0, 1] bcast_S1x256_S16x256_0_1 (broadcastInDim S1x256 ![1] bcast_S256_S1x256_1 (iotaInDim S256 32 0))))

/-- Which rows are keys. -/
def seen : IVec S16x256 1 :=
  broadcastInDim S16x256 ![0, 1] bcast_S1x256_S16x256_0_1 (cmpi .slt (broadcastInDim S1x256 ![1] bcast_S256_S1x256_1 (iotaInDim S256 32 0)) (broadcastInDim S1x256 ![] bcast_S_S1x256 (constantI S_ 32 144#32)))

def allow : FVec Ideal S2x16x256 .f32 :=
  uitofp .f32 (concatenate S2x16x256 0 [⟨S1x16x256, broadcastInDim S1x16x256 ![1, 2] bcast_S16x256_S1x16x256_1_2 seen⟩, ⟨S1x16x256, broadcastInDim S1x16x256 ![1, 2] bcast_S16x256_S1x16x256_1_2 seen⟩] concatenates_S1x16x256_S1x16x256_S2x16x256_d0)

theorem queries_at (x0 : FVec Ideal S16x16x2x4x64 .f32) (R : Fin 256) (J : Fin 512) (b i : Fin 16) (h : Fin 2) (g : Fin 4) (e : Fin 64)
    (hR : R.val = 16 * b.val + i.val) (hJ : J.val = 256 * h.val + 64 * g.val + e.val) :
    queries x0 (ix2 R J) = x0 (ix5 b i h g e) * Ideal.ofBits .f32 0x3E000000#32 := by
  pointwise [queries]
  have e0 : ∀ h', (⟨R.val / 16, h'⟩ : Fin 16) = b := fun _ => Fin.ext (by simp only; omega)
  have e1 : ∀ h', (⟨R.val % 16, h'⟩ : Fin 16) = i := fun _ => Fin.ext (by simp only; omega)
  have e2 : ∀ h', (⟨J.val / 256, h'⟩ : Fin 2) = h := fun _ => Fin.ext (by simp only; omega)
  have e3 : ∀ h', (⟨J.val / 64 % 4, h'⟩ : Fin 4) = g := fun _ => Fin.ext (by simp only; omega)
  have e4 : ∀ h', (⟨J.val % 64, h'⟩ : Fin 64) = e := fun _ => Fin.ext (by simp only; omega)
  simp only [e0, e1, e2, e3, e4]

theorem padded_lo (x1 : FVec Ideal S16x16x2x64 .f32) (x3 : FVec Ideal S1x16x128x2x64 .f32) (R : Fin 4096) (x : Fin 128) (b : Fin 16) (p : Fin 128) (h : Fin 2) (e : Fin 64)
    (hR : R.val = 256 * b.val + p.val) (hx : x.val = 64 * h.val + e.val) : padded x1 x3 (ix2 R x) = x3 (ix5 0 b p h e) := by
  have hp := p.isLt
  have hq : R.val % 256 < 128 := by omega
  pointwise [padded]
  have e0 : ∀ h', (⟨R.val / 256, h'⟩ : Fin 16) = b := fun _ => Fin.ext (by simp only; omega)
  have e1 : ∀ h', (⟨R.val % 256, h'⟩ : Fin 128) = p := fun _ => Fin.ext (by simp only; omega)
  have e2 : ∀ h', (⟨x.val / 64, h'⟩ : Fin 2) = h := fun _ => Fin.ext (by simp only; omega)
  have e3 : ∀ h', (⟨x.val % 64, h'⟩ : Fin 64) = e := fun _ => Fin.ext (by simp only; omega)
  simp only [hq, dite_true, e0, e1, e2, e3]

theorem padded_hi (x1 : FVec Ideal S16x16x2x64 .f32) (x3 : FVec Ideal S1x16x128x2x64 .f32) (R : Fin 4096) (x : Fin 128) (b : Fin 16) (p : Fin 16) (h : Fin 2) (e : Fin 64)
    (hR : R.val = 256 * b.val + 128 + p.val) (hx : x.val = 64 * h.val + e.val) : padded x1 x3 (ix2 R x) = x1 (ix4 b p h e) := by
  have hp := p.isLt
  have hq : ¬ R.val % 256 < 128 := by omega
  have hq' : R.val % 256 - 128 < 16 := by omega
  pointwise [padded]
  have e0 : ∀ h', (⟨R.val / 256, h'⟩ : Fin 16) = b := fun _ => Fin.ext (by simp only; omega)
  have e1 : ∀ h', (⟨R.val % 256 - 128, h'⟩ : Fin 16) = p := fun _ => Fin.ext (by simp only; omega)
  have e2 : ∀ h', (⟨x.val / 64, h'⟩ : Fin 2) = h := fun _ => Fin.ext (by simp only; omega)
  have e3 : ∀ h', (⟨x.val % 64, h'⟩ : Fin 64) = e := fun _ => Fin.ext (by simp only; omega)
  simp only [hq, hq', dite_true, dite_false, e0, e1, e2, e3]

theorem seen_at : ∀ (i : Fin 16) (r : Fin 256), seen (ix2 i r) = if r.val < 144 then 1#1 else 0#1 := by
  have h : ∀ r : Fin 256, IntOp.cmpi .slt (BitVec.ofNat 32 r.val) 144#32 = if r.val < 144 then 1#1 else 0#1 := by decide +kernel
  intro i r
  pointwise [seen]
  exact h r

theorem allow_at (a : Fin 2) (i : Fin 16) (r : Fin 256) : allow (ix3 a i r) = FloatOps.uitofp .f32 (seen (ix2 i r)) := by
  generalize hX : seen = X
  pointwise [allow, hX]
  split <;> rfl

theorem gap_word : ∀ (i : Fin 16) (r : Fin 144), IntOp.absi (IntOp.subi (IntOp.addi (128#32) (BitVec.ofNat 32 i.val)) (BitVec.ofNat 32 r.val)) =
    IntOp.absi (IntOp.subi (IntOp.addi (2048#32) (BitVec.ofNat 32 i.val))
      (if h : r.val < 128 then IntOp.addi (1920#32) (BitVec.ofNat 32 r.val) else IntOp.addi (2048#32) (BitVec.ofNat 32 (r.val - 128)))) := by
  decide +kernel

theorem gaps_at (i : Fin 16) (r : Fin 144) : gaps (ix2 i ⟨r.val, by omega⟩) = Cert.ReferenceAttendSampleIdeal.Stages.r_v23 (ix2 i r) := by
  open Cert.ReferenceAttendSampleIdeal.Stages in
  pointwise [gaps, r_v23, r_v22, r_v21, r_v20, r_v19, r_v18, r_v10, r_v9, r_v8, r_v7, r_v6, r_v5, r_v4, r_c, r_c_0, Cert.ReferenceAttendSampleIdeal.Value.fn_main_v10]
  exact gap_word i r

variable (m : (ℓ : Loc nD τ sig) → Buf (Elt Ideal) ℓ)

theorem start0 (c : Dev nD) : @Eq (FVec Ideal S8 .f32) (V m c main_v24) (shapeCast S8 (m ((c : Thread nD τ).loc main_arg5) : FVec Ideal S1x8 .f32) shapeCasts_S1x8_S8) := by
  unfold V
  simp only [hostOps0]
  after_reads_simp
  rfl

theorem start1 (c : Dev nD) : @Eq (FVec Ideal S256x512 .bf16) (V m c main_v23) (queries (m ((c : Thread nD τ).loc main_arg0))) := by
  unfold V
  simp only [hostOps0]
  after_reads_simp
  rfl

theorem start2 (c : Dev nD) : @Eq (FVec Ideal S4096x128 .f32) (V m c main_v29) (padded (m ((c : Thread nD τ).loc main_arg1)) (m ((c : Thread nD τ).loc main_arg3))) := by
  unfold V
  simp only [hostOps0]
  after_reads_simp
  rfl

theorem start4 (c : Dev nD) : @Eq (FVec Ideal S4096x128 .f32) (V m c main_v34) (padded (m ((c : Thread nD τ).loc main_arg2)) (m ((c : Thread nD τ).loc main_arg4))) := by
  unfold V
  simp only [hostOps0]
  after_reads_simp
  rfl

theorem start6 (c : Dev nD) : @Eq (FVec Ideal S16x256 .f32) (V m c main_v11) (Host.negf (sitofp .f32 gaps)) := by
  unfold V
  simp only [hostOps0]
  after_reads_simp
  rfl

theorem start7 (c : Dev nD) : @Eq (FVec Ideal S2x16x256 .f32) (V m c main_v18) allow := by
  unfold V
  simp only [hostOps0]
  after_reads_simp
  rfl

/-- Which block of its array each window holds at a point. -/
theorem idx : ∀ t : Fin grid0.N,
    win0_0.index t = ![0] ∧ win0_1.index t = ![t.val, 0] ∧ win0_2.index t = ![2 * t.val, 0] ∧ win0_3.index t = ![2 * t.val + 1, 0]
      ∧ win0_4.index t = ![2 * t.val, 0] ∧ win0_5.index t = ![2 * t.val + 1, 0] ∧ win0_6.index t = ![0, 0] ∧ win0_7.index t = ![1, 0, 0] ∧ win0_8.index t = ![t.val, 0] := by
  decide +kernel

theorem at0 (F : FVec Ideal S8 .f32) (t : Fin cfg0.N) (n : Fin 8) : F (((cfg0.win 0).blk t).view.emb (ix1 n)) = F (ix1 n) := by
  blk_ext [idx t]
theorem at1 (F : FVec Ideal S256x512 .bf16) (t : Fin cfg0.N) (i : Fin 16) (J : Fin 512) (R : Fin 256) (hR : R.val = 16 * t.val + i.val) :
    F (((cfg0.win 1).blk t).view.emb (ix2 i J)) = F (ix2 R J) := by
  blk_ext [idx t]
theorem at2 (F : FVec Ideal S4096x128 .f32) (t : Fin cfg0.N) (p x : Fin 128) (R : Fin 4096) (hR : R.val = 256 * t.val + p.val) :
    F (((cfg0.win 2).blk t).view.emb (ix2 p x)) = F (ix2 R x) := by
  blk_ext [idx t]
theorem at3 (F : FVec Ideal S4096x128 .f32) (t : Fin cfg0.N) (p x : Fin 128) (R : Fin 4096) (hR : R.val = 256 * t.val + 128 + p.val) :
    F (((cfg0.win 3).blk t).view.emb (ix2 p x)) = F (ix2 R x) := by
  blk_ext [idx t]
theorem at4 (F : FVec Ideal S4096x128 .f32) (t : Fin cfg0.N) (p x : Fin 128) (R : Fin 4096) (hR : R.val = 256 * t.val + p.val) :
    F (((cfg0.win 4).blk t).view.emb (ix2 p x)) = F (ix2 R x) := by
  blk_ext [idx t]
theorem at5 (F : FVec Ideal S4096x128 .f32) (t : Fin cfg0.N) (p x : Fin 128) (R : Fin 4096) (hR : R.val = 256 * t.val + 128 + p.val) :
    F (((cfg0.win 5).blk t).view.emb (ix2 p x)) = F (ix2 R x) := by
  blk_ext [idx t]
theorem at6 (F : FVec Ideal S16x256 .f32) (t : Fin cfg0.N) (i : Fin 16) (r : Fin 256) : F (((cfg0.win 6).blk t).view.emb (ix2 i r)) = F (ix2 i r) := by
  blk_ext [idx t]
theorem at7 (F : FVec Ideal S2x16x256 .f32) (t : Fin cfg0.N) (i : Fin 16) (r : Fin 256) : F (((cfg0.win 7).blk t).view.emb (ix3 0 i r)) = F (ix3 1 i r) := by
  blk_ext [idx t]
theorem emb8 (t : Fin cfg0.N) (i : Fin 16) (J : Fin 512) (R : Fin 256) (hR : R.val = 16 * t.val + i.val) :
    ((cfg0.win 8).blk t).view.emb (ix2 i J) = (ix2 R J : S256x512.Idx) := by
  blk_ext [idx t]

end Cert.AttendSampleIdeal.Blocks

end
-- ==== Proof.AttendHead.lean ====
module

public import proofs.«01_k».proof.Proof.AttendHalves
public import proofs.«01_k».proof.Proof.AttendBlocks
public import proofs.«01_k».proof.Proof.Finite

@[expose] public section

set_option maxRecDepth 16384

noncomputable section

namespace Cert.AttendSampleIdeal.Pair

open Cert.AttendSampleIdeal Cert.AttendSampleIdeal.Gen Cert.AttendRow Idealize.ShloMosaic
open Cert.ReferenceAttendSampleIdeal.Stages
open Cert.Retention (Real')

/-- Rows of one head in either half of the lanes, zeros in the other. -/
def Half (h : Fin 2) (C : FVec Ideal S256x128 .f32) (kk : FVec Ideal S512x128 .bf16) : Prop :=
  ∀ (s : Fin 512) (r : Fin 256) (x : Fin 128) (w : Fin 2) (y : Fin 128), s.val = 256 * w.val + r.val → y.val = 64 * h.val + x.val % 64 →
    kk (ix2 s x) = if x.val / 64 = w.val then C (ix2 r y) else 0

theorem half0 (C : FVec Ideal S256x128 .f32) : Half 0 C (halves0 C) := fun s r x w y hs hy => halves0_at C s r x w hs y (by rw [hy]; simp)
theorem half1 (C : FVec Ideal S256x128 .f32) : Half 1 C (halves1 C) := fun s r x w y hs hy => halves1_at C s r x w hs y (by rw [hy]; simp)

/-- A head's dot products come from its own lanes. -/
theorem dots_half (h w : Fin 2) (C : FVec Ideal S256x128 .f32) (kk : FVec Ideal S512x128 .bf16) (hk : Half h C kk) (q : FVec Ideal S16x128 .bf16)
    (i : Fin 16) (r : Fin 256) (s : Fin 512) (hs : s.val = 256 * w.val + r.val) :
    dots kk q (ix2 i s) = ∑ e : Fin 64, q (ix2 i ⟨64 * w.val + e.val, by omega⟩) * C (ix2 r ⟨64 * h.val + e.val, by omega⟩) := by
  rw [dots_at]
  have hsum : (∑ x : Fin 128, q (ix2 i x) * kk (ix2 s x))
      = (∑ e : Fin 64, q (ix2 i ⟨e.val, by omega⟩) * kk (ix2 s ⟨e.val, by omega⟩)) + ∑ e : Fin 64, q (ix2 i ⟨64 + e.val, by omega⟩) * kk (ix2 s ⟨64 + e.val, by omega⟩) :=
    Fin.sum_univ_add (a := 64) (b := 64) fun x : Fin 128 => q (ix2 i x) * kk (ix2 s x)
  rw [hsum]
  have hw : w = 0 ∨ w = 1 := by omega
  rcases hw with rfl | rfl
  · rw [Finset.sum_eq_zero (s := Finset.univ) (f := fun e : Fin 64 => q (ix2 i ⟨64 + e.val, by omega⟩) * kk (ix2 s ⟨64 + e.val, by omega⟩)) fun e _ => by
      rw [hk s r _ 0 ⟨64 * h.val + e.val, by omega⟩ hs (by simp only; omega), if_neg (by simp only [Fin.val_zero]; omega), mul_zero], add_zero]
    refine Finset.sum_congr rfl fun e _ => ?_
    rw [hk s r _ 0 ⟨64 * h.val + e.val, by omega⟩ hs (by simp only; omega), if_pos (by simp only [Fin.val_zero]; omega)]
    congr 3
    exact Fin.ext (by simp)
  · rw [Finset.sum_eq_zero (s := Finset.univ) (f := fun e : Fin 64 => q (ix2 i ⟨e.val, by omega⟩) * kk (ix2 s ⟨e.val, by omega⟩)) fun e _ => by
      rw [hk s r _ 1 ⟨64 * h.val + e.val, by omega⟩ hs (by simp only; omega), if_neg (by simp only [Fin.val_one]; omega), mul_zero], zero_add]
    refine Finset.sum_congr rfl fun e _ => ?_
    rw [hk s r _ 1 ⟨64 * h.val + e.val, by omega⟩ hs (by simp only; omega), if_pos (by simp only [Fin.val_one]; omega)]
    congr 3

/-- The first head's output is in the first lanes. -/
theorem pair_lo (h : Fin 2) (D : FVec Ideal S256x128 .f32) (vv : FVec Ideal S512x128 .bf16) (hv : Half h D vv) (s0 s1 : FVec Ideal S16x256 .f32) (k0 k1 : EReal)
    (i : Fin 16) (l : Fin 128) (e : Fin 64) (hl : l.val = e.val) :
    pair vv s0 s1 k0 k1 (ix2 i l) = (∑ r : Fin 256, weights s0 k0 (ix2 i r) * D (ix2 r ⟨64 * h.val + e.val, by omega⟩)) * share s0 k0 (ix2 i 0) := by
  rw [pair_at, if_pos (by omega), mixed_at]
  rw [Finset.sum_eq_zero (s := Finset.univ) (f := fun r : Fin 256 => weights s1 k1 (ix2 i r) * vv (ix2 ⟨256 + r.val, by omega⟩ l)) fun r _ => by
    rw [hv _ r l 1 ⟨64 * h.val + e.val, by omega⟩ (by simp) (by simp only; omega), if_neg (by simp only [Fin.val_one]; omega), mul_zero], add_zero]
  congr 1
  refine Finset.sum_congr rfl fun r _ => ?_
  rw [hv _ r l 0 ⟨64 * h.val + e.val, by omega⟩ (by simp) (by simp only; omega), if_pos (by simp only [Fin.val_zero]; omega)]

/-- The second head's output is in the last lanes. -/
theorem pair_hi (h : Fin 2) (D : FVec Ideal S256x128 .f32) (vv : FVec Ideal S512x128 .bf16) (hv : Half h D vv) (s0 s1 : FVec Ideal S16x256 .f32) (k0 k1 : EReal)
    (i : Fin 16) (l : Fin 128) (e : Fin 64) (hl : l.val = 64 + e.val) :
    pair vv s0 s1 k0 k1 (ix2 i l) = (∑ r : Fin 256, weights s1 k1 (ix2 i r) * D (ix2 r ⟨64 * h.val + e.val, by omega⟩)) * share s1 k1 (ix2 i 0) := by
  rw [pair_at, if_neg (by omega), mixed_at]
  rw [Finset.sum_eq_zero (s := Finset.univ) (f := fun r : Fin 256 => weights s0 k0 (ix2 i r) * vv (ix2 ⟨r.val, by omega⟩ l)) fun r _ => by
    rw [hv _ r l 0 ⟨64 * h.val + e.val, by omega⟩ (by simp) (by simp only; omega), if_neg (by simp only [Fin.val_zero]; omega), mul_zero], zero_add]
  congr 1
  refine Finset.sum_congr rfl fun r _ => ?_
  rw [hv _ r l 1 ⟨64 * h.val + e.val, by omega⟩ (by simp) (by simp only; omega), if_pos (by simp only [Fin.val_one]; omega)]

theorem eighth : Ideal.ofBits .f32 0x3E000000#32 = ((1 / 8 : ℝ) : EReal) := by
  simp [Ideal.ofBits, Ideal.ieee, -EReal.coe_mul]; norm_num

/-- A score of real numbers is one; scaling the queries first or the products last is the same. -/
theorem real_score (q k : Fin 64 → EReal) (hq : ∀ d, ∃ a : ℝ, q d = (a : EReal)) (hk : ∀ d, ∃ a : ℝ, k d = (a : EReal)) (s g : ℝ) :
    ∃ S : ℝ, (∑ d, k d * q d) * Ideal.ofBits .f32 0x3E000000#32 - (s : EReal) * (g : EReal) = (S : EReal)
      ∧ (∑ d, (q d * Ideal.ofBits .f32 0x3E000000#32) * k d) + (s : EReal) * -(g : EReal) = (S : EReal) := by
  choose a ha using hq
  choose b hb using hk
  obtain rfl : q = fun d => ((a d : ℝ) : EReal) := funext ha
  obtain rfl : k = fun d => ((b d : ℝ) : EReal) := funext hb
  refine ⟨(∑ d, b d * a d) * (1 / 8) - s * g, ?_, ?_⟩
  · simp only [eighth, ← EReal.coe_mul, sum_coe]
    exact (EReal.coe_sub _ _).symm
  · simp only [eighth, ← EReal.coe_mul, ← EReal.coe_neg, sum_coe, ← EReal.coe_add]
    congr 1
    rw [Finset.sum_mul, mul_neg, ← sub_eq_add_neg]
    congr 1
    exact Finset.sum_congr rfl fun d _ => by ring

/-- The reference's score is a real number, and it is the kernel's. -/
theorem score_eq (x0 : FVec Ideal S16x16x2x4x64 .f32) (x1 : FVec Ideal S16x16x2x64 .f32) (x3 : FVec Ideal S1x16x128x2x64 .f32)
    (h0 : Real' x0) (h1 : Real' x1) (h3 : Real' x3) (b : Fin 16) (h : Fin 2) (g : Fin 4) (n : Fin 8) (hn : n.val = 4 * h.val + g.val) (i : Fin 16) (r : Fin 144) :
    ∃ S : ℝ, r_v57 x0 x1 x3 (ix5 b h g i r) = (S : EReal)
      ∧ (∑ d : Fin 64, (x0 (ix5 b i h g d) * Ideal.ofBits .f32 0x3E000000#32) * r_v1 x1 x3 (ix4 b r h d)) + (((1 / 2 : ℝ) ^ (n.val + 1) : ℝ) : EReal) * -(r_v24 (ix2 i r)) = (S : EReal) := by
  have hd : ∃ D : ℝ, r_v24 (ix2 i r) = (D : EReal) := ⟨_, rfl⟩
  obtain ⟨D, hD⟩ := hd
  have hk : ∀ d, ∃ a : ℝ, r_v1 x1 x3 (ix4 b r h d) = (a : EReal) := fun d => by
    by_cases hr : r.val < 128
    · rw [keys_lo x1 x3 b r ⟨r.val, hr⟩ h d rfl]; exact h3 _
    · rw [keys_hi x1 x3 b r ⟨r.val - 128, by omega⟩ h d (by simp only; omega)]; exact h1 _
  obtain ⟨S, e1, e2⟩ := real_score (fun d => x0 (ix5 b i h g d)) (fun d => r_v1 x1 x3 (ix4 b r h d)) (fun d => h0 _) hk ((1 / 2 : ℝ) ^ (n.val + 1)) D
  refine ⟨S, ?_, ?_⟩
  · rw [score_at, slopes_at h g n hn, slope_at, hD]; exact e1
  · rw [hD]; exact e2

/-- One head's row: the kernel's weighted values times the share are the reference's entry. -/
theorem head_eq (x0 : FVec Ideal S16x16x2x4x64 .f32) (x1 x2 : FVec Ideal S16x16x2x64 .f32) (x3 x4 : FVec Ideal S1x16x128x2x64 .f32) (x5 : FVec Ideal S1x8 .f32)
    (h0 : Real' x0) (h1 : Real' x1) (h3 : Real' x3) (h5 : Real' x5) (b : Fin 16) (h : Fin 2) (g : Fin 4) (n : Fin 8) (hn : n.val = 4 * h.val + g.val) (i : Fin 16) (e : Fin 64)
    (R : Fin 256) (J : Fin 512) (hR : R.val = 16 * b.val + i.val) (hJ : J.val = 256 * h.val + 64 * g.val + e.val)
    (c : BitVec 32) (hc : Ideal.ofBits .f32 c = (((1 / 2 : ℝ) ^ (n.val + 1) : ℝ) : EReal))
    (p nd : FVec Ideal S16x256 .f32) (al : IVec S16x256 1)
    (hp : ∀ (r : Fin 256) (r' : Fin 144), r'.val = r.val → p (ix2 i r) = ∑ d : Fin 64, (x0 (ix5 b i h g d) * Ideal.ofBits .f32 0x3E000000#32) * r_v1 x1 x3 (ix4 b r' h d))
    (hnd : ∀ (r : Fin 256) (r' : Fin 144), r'.val = r.val → nd (ix2 i r) = -(r_v24 (ix2 i r')))
    (hal : ∀ r : Fin 256, al (ix2 i r) = if r.val < 144 then 1#1 else 0#1)
    (k : EReal) (hk : k = x5 (ix2 0 n)) (D : FVec Ideal S256x128 .f32) (y : Fin 128)
    (hD : ∀ (r : Fin 256) (r' : Fin 144), r'.val = r.val → D (ix2 r y) = r_v3 x2 x4 (ix4 b r' h e)) :
    (∑ r : Fin 256, weights (scores c p nd al) k (ix2 i r) * D (ix2 r y)) * share (scores c p nd al) k (ix2 i 0) = r_v79 x0 x1 x2 x3 x4 x5 (ix2 R J) := by
  have hS := fun r : Fin 144 => score_eq x0 x1 x3 h0 h1 h3 b h g n hn i r
  choose S hS1 hS2 using hS
  obtain ⟨sk, hsk⟩ := h5 (ix2 0 n)
  have lo : ∀ (r : Fin 256) (r' : Fin 144), r'.val = r.val → scores c p nd al (ix2 i r) = (S r' : EReal) := fun r r' hr => by
    rw [scores_at, hal, if_pos (show r.val < 144 by omega), if_pos rfl, hp r r' hr, hnd r r' hr, hc]
    exact hS2 r'
  have hi : ∀ r : Fin 256, ¬ r.val < 144 → scores c p nd al (ix2 i r) = ⊥ := fun r hr => by
    rw [scores_at, hal, if_neg hr, if_neg (by decide)]
  rw [result_at x0 x1 x2 x3 x4 x5 b h g i e R J hR hJ]
  simp only [total_at, weight_at, peak_at, sink_at x5 h g n hn, hS1, weights_at, share_at, top_at]
  rw [hk, hsk]
  exact row_eq S sk (fun r => r_v3 x2 x4 (ix4 b r h e)) (fun r => scores c p nd al (ix2 i r)) (fun r => D (ix2 r y))
    (fun r => lo _ r rfl) (fun r => hi _ (by simp)) (fun r => hD _ r rfl)

end Cert.AttendSampleIdeal.Pair

end
-- ==== Proof.AttendTiles.lean ====
module

public import proofs.«01_k».proof.Proof.AttendHead
public import proofs.«01_k».proof.Proof.Gen.AttendSampleIdeal.Value

@[expose] public section

set_option maxRecDepth 16384

noncomputable section

namespace Cert.AttendSampleIdeal.Blocks

open Cert.AttendSampleIdeal Cert.AttendSampleIdeal.Gen Cert.AttendSampleIdeal.Pair Cert.AttendRow Idealize.ShloMosaic Idealize.ShloMosaic.TcCoe Idealize.SL.Sem
open Idealize.ShloMosaic.Pipeline (Dat)
open Cert.ReferenceAttendSampleIdeal.Stages
open Cert.Retention (Real')

variable (m : (ℓ : Loc nD τ sig) → Buf (Elt Ideal) ℓ)

/-- The call's arguments. -/
abbrev a0 (c : Dev nD) : FVec Ideal S16x16x2x4x64 .f32 := m ((c : Thread nD τ).loc main_arg0)
abbrev a1 (c : Dev nD) : FVec Ideal S16x16x2x64 .f32 := m ((c : Thread nD τ).loc main_arg1)
abbrev a2 (c : Dev nD) : FVec Ideal S16x16x2x64 .f32 := m ((c : Thread nD τ).loc main_arg2)
abbrev a3 (c : Dev nD) : FVec Ideal S1x16x128x2x64 .f32 := m ((c : Thread nD τ).loc main_arg3)
abbrev a4 (c : Dev nD) : FVec Ideal S1x16x128x2x64 .f32 := m ((c : Thread nD τ).loc main_arg4)
abbrev a5 (c : Dev nD) : FVec Ideal S1x8 .f32 := m ((c : Thread nD τ).loc main_arg5)

theorem blk0 (c : Dev nD) (t : Fin cfg0.N) (n : Fin 8) : (iblk m c 0 t : FVec Ideal S8 .f32) (ix1 n) = a5 m c (ix2 0 n) := by
  refine (at0 (V m c main_v24) t n).trans ?_
  rw [start0]
  change shapeCast S8 (a5 m c) shapeCasts_S1x8_S8 (ix1 n) = a5 m c (ix2 0 n)
  generalize a5 m c = X
  pointwise []

theorem blk1 (c : Dev nD) (t : Fin cfg0.N) (b i : Fin 16) (J : Fin 512) (h : Fin 2) (g : Fin 4) (e : Fin 64) (hb : b.val = t.val) (hJ : J.val = 256 * h.val + 64 * g.val + e.val) :
    (iblk m c 1 t : FVec Ideal S16x512 .bf16) (ix2 i J) = a0 m c (ix5 b i h g e) * Ideal.ofBits .f32 0x3E000000#32 := by
  refine (at1 (V m c main_v23) t i J ⟨16 * t.val + i.val, by omega⟩ rfl).trans ?_
  rw [start1]
  exact queries_at (a0 m c) _ J b i h g e (by simp only; omega) hJ

theorem keys_at (c : Dev nD) (t : Fin cfg0.N) (b : Fin 16) (hb : b.val = t.val) (r : Fin 256) (r' : Fin 144) (hr : r'.val = r.val) (h : Fin 2) (e : Fin 64) (y : Fin 128) (hy : y.val = 64 * h.val + e.val) :
    cat (iblk m c 2 t) (iblk m c 3 t) (ix2 r y) = r_v1 (a1 m c) (a3 m c) (ix4 b r' h e) := by
  by_cases h1 : r.val < 128
  · rw [cat_lo _ _ r ⟨r.val, h1⟩ y rfl, keys_lo _ _ b r' ⟨r.val, h1⟩ h e hr.symm]
    refine (at2 (V m c main_v29) t ⟨r.val, h1⟩ y ⟨256 * t.val + r.val, by omega⟩ rfl).trans ?_
    rw [start2]
    exact padded_lo (a1 m c) (a3 m c) _ y b ⟨r.val, h1⟩ h e (by simp only; omega) hy
  · rw [cat_hi _ _ r ⟨r.val - 128, by omega⟩ y (by simp only; omega), keys_hi _ _ b r' ⟨r.val - 128, by omega⟩ h e (by simp only; omega)]
    refine (at3 (V m c main_v29) t ⟨r.val - 128, by omega⟩ y ⟨256 * t.val + r.val, by omega⟩ (by simp only; omega)).trans ?_
    rw [start2]
    exact padded_hi (a1 m c) (a3 m c) _ y b ⟨r.val - 128, by omega⟩ h e (by simp only; omega) hy

theorem vals_at (c : Dev nD) (t : Fin cfg0.N) (b : Fin 16) (hb : b.val = t.val) (r : Fin 256) (r' : Fin 144) (hr : r'.val = r.val) (h : Fin 2) (e : Fin 64) (y : Fin 128) (hy : y.val = 64 * h.val + e.val) :
    cat (iblk m c 4 t) (iblk m c 5 t) (ix2 r y) = r_v3 (a2 m c) (a4 m c) (ix4 b r' h e) := by
  by_cases h1 : r.val < 128
  · rw [cat_lo _ _ r ⟨r.val, h1⟩ y rfl, vals_lo _ _ b r' ⟨r.val, h1⟩ h e hr.symm]
    refine (at4 (V m c main_v34) t ⟨r.val, h1⟩ y ⟨256 * t.val + r.val, by omega⟩ rfl).trans ?_
    rw [start4]
    exact padded_lo (a2 m c) (a4 m c) _ y b ⟨r.val, h1⟩ h e (by simp only; omega) hy
  · rw [cat_hi _ _ r ⟨r.val - 128, by omega⟩ y (by simp only; omega), vals_hi _ _ b r' ⟨r.val - 128, by omega⟩ h e (by simp only; omega)]
    refine (at5 (V m c main_v34) t ⟨r.val - 128, by omega⟩ y ⟨256 * t.val + r.val, by omega⟩ (by simp only; omega)).trans ?_
    rw [start4]
    exact padded_hi (a2 m c) (a4 m c) _ y b ⟨r.val - 128, by omega⟩ h e (by simp only; omega) hy

theorem dist_at (c : Dev nD) (t : Fin cfg0.N) (i : Fin 16) (r : Fin 256) (r' : Fin 144) (hr : r'.val = r.val) :
    k0_pay7 (iblk m c 6 t) (ix2 i r) = -(r_v24 (ix2 i r')) := by
  have e : k0_pay7 (iblk m c 6 t) (ix2 i r) = (iblk m c 6 t : FVec Ideal S16x256 .f32) (ix2 i r) := by
    generalize (iblk m c 6 t : FVec Ideal S16x256 .f32) = X
    pointwise [k0_pay7]
  rw [e]
  refine (at6 (V m c main_v11) t i r).trans ?_
  rw [start6]
  have hr2 : r = ⟨r'.val, by omega⟩ := Fin.ext hr.symm
  have hg : gaps (ix2 i r) = r_v23 (ix2 i r') := by rw [hr2]; exact gaps_at i r'
  change -(FloatOps.sitofp (F := Ideal) .f32 (gaps (ix2 i r)) : EReal) = -(FloatOps.sitofp (F := Ideal) .f32 (r_v23 (ix2 i r')) : EReal)
  rw [hg]

theorem half_word : Ideal.ofBits .f32 0x3F000000#32 = ((1 / 2 : ℝ) : EReal) := by
  simp [Ideal.ofBits, Ideal.ieee, -EReal.coe_mul]; norm_num

theorem allow_mask (c : Dev nD) (t : Fin cfg0.N) (i : Fin 16) (r : Fin 256) :
    k0_pay8 (iblk m c 7 t) (ix2 i r) = if r.val < 144 then 1#1 else 0#1 := by
  have e : (iblk m c 7 t : FVec Ideal S1x16x256 .f32) (ix3 0 i r) = FloatOps.uitofp (F := Ideal) .f32 (if r.val < 144 then 1#1 else 0#1) := by
    refine (at7 (V m c main_v18) t i r).trans ?_
    rw [start7, allow_at, seen_at]
  generalize (iblk m c 7 t : FVec Ideal S1x16x256 .f32) = X at e
  pointwise [k0_pay8]
  rw [e, half_word]
  have u1 : (FloatOps.uitofp (F := Ideal) .f32 (1#1) : EReal) = ((1 : ℝ) : EReal) := by
    change (((1#1 : BitVec 1).toNat : ℝ) : EReal) = _
    norm_num
  have u0 : (FloatOps.uitofp (F := Ideal) .f32 (0#1) : EReal) = ((0 : ℝ) : EReal) := by
    change (((0#1 : BitVec 1).toNat : ℝ) : EReal) = _
    norm_num
  by_cases h : r.val < 144
  · simp only [if_pos h]
    rw [u1, decide_eq_true (EReal.coe_lt_coe_iff.mpr (by norm_num))]
    rfl
  · simp only [if_neg h]
    rw [u0, decide_eq_false (fun hh => absurd (EReal.coe_lt_coe_iff.mp hh) (by norm_num))]
    rfl

/-- Columns of a block of queries. -/
def Cols (p : ℕ) (Q : FVec Ideal S16x512 .bf16) (q : FVec Ideal S16x128 .bf16) : Prop :=
  ∀ (i : Fin 16) (x : Fin 128) (J : Fin 512), J.val = p + x.val → q (ix2 i x) = Q (ix2 i J)

/-- The two heads of a tile are the reference's. -/
theorem tile (c : Dev nD) (t : Fin cfg0.N) (h0 : Real' (a0 m c)) (h1 : Real' (a1 m c)) (h3 : Real' (a3 m c)) (h5 : Real' (a5 m c))
    (h : Fin 2) (g g' : Fin 4) (n n' : Fin 8) (hn : n.val = 4 * h.val + g.val) (hn' : n'.val = 4 * h.val + g'.val) (hg : g'.val = g.val + 1)
    (q : FVec Ideal S16x128 .bf16) (hq : Cols (64 * n.val) (iblk m c 1 t) q)
    (kk vv : FVec Ideal S512x128 .bf16) (hk : Half h (cat (iblk m c 2 t) (iblk m c 3 t)) kk) (hv : Half h (cat (iblk m c 4 t) (iblk m c 5 t)) vv)
    (c0 c1 : BitVec 32) (hc : Ideal.ofBits .f32 c0 = (((1 / 2 : ℝ) ^ (n.val + 1) : ℝ) : EReal)) (hc' : Ideal.ofBits .f32 c1 = (((1 / 2 : ℝ) ^ (n'.val + 1) : ℝ) : EReal))
    (k0 k1 : EReal) (hk0 : k0 = (iblk m c 0 t : FVec Ideal S8 .f32) (ix1 n)) (hk1 : k1 = (iblk m c 0 t : FVec Ideal S8 .f32) (ix1 n'))
    (i : Fin 16) (l : Fin 128) (R : Fin 256) (J : Fin 512) (hR : R.val = 16 * t.val + i.val) (hJ : J.val = 64 * n.val + l.val) :
    pair vv (scores c0 (first (dots kk q)) (k0_pay7 (iblk m c 6 t)) (k0_pay8 (iblk m c 7 t))) (scores c1 (second (dots kk q)) (k0_pay7 (iblk m c 6 t)) (k0_pay8 (iblk m c 7 t))) k0 k1 (ix2 i l)
      = r_v79 (a0 m c) (a1 m c) (a2 m c) (a3 m c) (a4 m c) (a5 m c) (ix2 R J) := by
  have ht : t.val < 16 := lt_of_lt_of_eq t.isLt N_0
  by_cases hl : l.val < 64
  · rw [pair_lo h _ vv hv _ _ k0 k1 i l ⟨l.val, hl⟩ rfl]
    refine head_eq (a0 m c) (a1 m c) (a2 m c) (a3 m c) (a4 m c) (a5 m c) h0 h1 h3 h5 ⟨t.val, ht⟩ h g n hn i ⟨l.val, hl⟩ R J hR (by simp only; omega) c0 hc
      _ _ _ (fun r r' hr => ?_) (fun r r' hr => dist_at m c t i r r' hr) (fun r => allow_mask m c t i r) k0 (hk0.trans (blk0 m c t n)) _ _
      (fun r r' hr => vals_at m c t ⟨t.val, ht⟩ rfl r r' hr h _ _ rfl)
    rw [first_at, dots_half h 0 _ kk hk q i r _ (by simp)]
    refine Finset.sum_congr rfl fun d _ => ?_
    rw [hq i _ ⟨64 * n.val + d.val, by omega⟩ (by simp), blk1 m c t ⟨t.val, ht⟩ i _ h g d rfl (by simp only; omega), keys_at m c t ⟨t.val, ht⟩ rfl r r' hr h d _ rfl]
  · rw [pair_hi h _ vv hv _ _ k0 k1 i l ⟨l.val - 64, by omega⟩ (by simp only; omega)]
    refine head_eq (a0 m c) (a1 m c) (a2 m c) (a3 m c) (a4 m c) (a5 m c) h0 h1 h3 h5 ⟨t.val, ht⟩ h g' n' hn' i ⟨l.val - 64, by omega⟩ R J hR (by simp only; omega) c1 hc'
      _ _ _ (fun r r' hr => ?_) (fun r r' hr => dist_at m c t i r r' hr) (fun r => allow_mask m c t i r) k1 (hk1.trans (blk0 m c t n')) _ _
      (fun r r' hr => vals_at m c t ⟨t.val, ht⟩ rfl r r' hr h _ _ rfl)
    rw [second_at, dots_half h 1 _ kk hk q i r _ (by simp)]
    refine Finset.sum_congr rfl fun d _ => ?_
    rw [hq i _ ⟨64 * n.val + 64 + d.val, by omega⟩ (by simp; omega), blk1 m c t ⟨t.val, ht⟩ i _ h g' d rfl (by simp only; omega), keys_at m c t ⟨t.val, ht⟩ rfl r r' hr h d _ rfl]

end Cert.AttendSampleIdeal.Blocks

end
-- ==== Proof.AttendSampleClaim.lean ====
module

public import proofs.«01_k».proof.Proof.AttendTiles
public import proofs.«01_k».proof.Proof.Gen.AttendSampleIdeal.Value
public import Idealize.ShloMosaic.Lib.Claim
public import proofs.«01_k».proof.Proof.Gen.ReferenceAttendSampleIdeal.Run
public import proofs.«01_k».proof.Defs

@[expose] public section

set_option maxRecDepth 16384

noncomputable section

namespace Cert.AttendSampleIdeal.Blocks

open Cert.AttendSampleIdeal Cert.AttendSampleIdeal.Gen Cert.AttendSampleIdeal.Pair Cert.AttendRow Idealize.ShloMosaic Idealize.ShloMosaic.TcCoe Idealize.SL.Sem
open Idealize.ShloMosaic.Pipeline (Dat)
open Cert.ReferenceAttendSampleIdeal.Stages
open Cert.Retention (Real')

variable (m : (ℓ : Loc nD τ sig) → Buf (Elt Ideal) ℓ)

/-- The slopes of the eight heads, each half of the one before. -/
theorem slope0 : Ideal.ofBits .f32 0x3F000000#32 = (((1 / 2 : ℝ) ^ ((0 : Fin 8).val + 1) : ℝ) : EReal) := by
  simp [Ideal.ofBits, Ideal.ieee, -EReal.coe_mul]; norm_num
theorem slope1 : Ideal.ofBits .f32 0x3E800000#32 = (((1 / 2 : ℝ) ^ ((1 : Fin 8).val + 1) : ℝ) : EReal) := by
  simp [Ideal.ofBits, Ideal.ieee, -EReal.coe_mul]; norm_num
theorem slope2 : Ideal.ofBits .f32 0x3E000000#32 = (((1 / 2 : ℝ) ^ ((2 : Fin 8).val + 1) : ℝ) : EReal) := by
  simp [Ideal.ofBits, Ideal.ieee, -EReal.coe_mul]; norm_num
theorem slope3 : Ideal.ofBits .f32 0x3D800000#32 = (((1 / 2 : ℝ) ^ ((3 : Fin 8).val + 1) : ℝ) : EReal) := by
  simp [Ideal.ofBits, Ideal.ieee, -EReal.coe_mul]; norm_num
theorem slope4 : Ideal.ofBits .f32 0x3D000000#32 = (((1 / 2 : ℝ) ^ ((4 : Fin 8).val + 1) : ℝ) : EReal) := by
  simp [Ideal.ofBits, Ideal.ieee, -EReal.coe_mul]; norm_num
theorem slope5 : Ideal.ofBits .f32 0x3C800000#32 = (((1 / 2 : ℝ) ^ ((5 : Fin 8).val + 1) : ℝ) : EReal) := by
  simp [Ideal.ofBits, Ideal.ieee, -EReal.coe_mul]; norm_num
theorem slope6 : Ideal.ofBits .f32 0x3C000000#32 = (((1 / 2 : ℝ) ^ ((6 : Fin 8).val + 1) : ℝ) : EReal) := by
  simp [Ideal.ofBits, Ideal.ieee, -EReal.coe_mul]; norm_num
theorem slope7 : Ideal.ofBits .f32 0x3B800000#32 = (((1 / 2 : ℝ) ^ ((7 : Fin 8).val + 1) : ℝ) : EReal) := by
  simp [Ideal.ofBits, Ideal.ieee, -EReal.coe_mul]; norm_num

/-- Columns 0 to 127 of a block, as the two heads they are. -/
theorem comp0 (kp kc vp vc : FVec Ideal S128x128 .f32) (nd : FVec Ideal S16x256 .f32) (al : IVec S16x256 1) (q : FVec Ideal S16x128 .bf16) (s0 s1 : EReal) :
    (k0_pay22 (k0_pay16 nd al (k0_pay12 kp kc q) s0) (k0_pay20 nd al (k0_pay12 kp kc q) s1) (k0_pay21 nd al (k0_pay11 vp vc) (k0_pay12 kp kc q) s0 s1) (iota .tc S16x128 32 [1] iota_S16x128_d1_w32) : FVec Ideal S16x128 .bf16)
      = pair (halves0 (cat vp vc)) (scores 0x3F000000#32 (first (dots (halves0 (cat kp kc)) q)) nd al) (scores 0x3E800000#32 (second (dots (halves0 (cat kp kc)) q)) nd al) s0 s1 := rfl

/-- Columns 128 to 255 of a block, as the two heads they are. -/
theorem comp1 (kp kc vp vc : FVec Ideal S128x128 .f32) (nd : FVec Ideal S16x256 .f32) (al : IVec S16x256 1) (q : FVec Ideal S16x128 .bf16) (s0 s1 : EReal) :
    (k0_pay30 (k0_pay11 vp vc) (k0_pay27 nd al (k0_pay10 kp kc) q s0) (k0_pay28 nd al (k0_pay10 kp kc) q s0) s1 (k0_pay29 nd al (k0_pay10 kp kc) q) : FVec Ideal S16x128 .bf16)
      = pair (halves0 (cat vp vc)) (scores 0x3E000000#32 (first (dots (halves0 (cat kp kc)) q)) nd al) (scores 0x3D800000#32 (second (dots (halves0 (cat kp kc)) q)) nd al) s0 s1 := rfl

/-- Columns 256 to 383 of a block, as the two heads they are. -/
theorem comp2 (kp kc vp vc : FVec Ideal S128x128 .f32) (nd : FVec Ideal S16x256 .f32) (al : IVec S16x256 1) (q : FVec Ideal S16x128 .bf16) (s0 s1 : EReal) :
    (k0_pay47 (k0_pay40 nd al s0 (k0_pay36 (k0_pay2 kp kc) k0_pay4 (k0_pay5 kp kc) q) (FloatOps.ofBits .f32 0x3D000000#32)) (k0_pay44 nd al (k0_pay35 (k0_pay2 kp kc) k0_pay4 (k0_pay5 kp kc) q) s1) (k0_pay45 nd al (k0_pay34 (k0_pay3 vp vc) k0_pay4 (k0_pay6 vp vc)) (k0_pay35 (k0_pay2 kp kc) k0_pay4 (k0_pay5 kp kc) q) s0 (k0_pay36 (k0_pay2 kp kc) k0_pay4 (k0_pay5 kp kc) q) (FloatOps.ofBits .f32 0x3D000000#32) s1) (iota .tc S16x128 32 [1] iota_S16x128_d1_w32) k0_pay46 : FVec Ideal S16x128 .bf16)
      = pair (halves1 (cat vp vc)) (scores 0x3D000000#32 (first (dots (halves1 (cat kp kc)) q)) nd al) (scores 0x3C800000#32 (second (dots (halves1 (cat kp kc)) q)) nd al) s0 s1 := rfl

/-- Columns 384 to 511 of a block, as the two heads they are. -/
theorem comp3 (kp kc vp vc : FVec Ideal S128x128 .f32) (nd : FVec Ideal S16x256 .f32) (al : IVec S16x256 1) (q : FVec Ideal S16x128 .bf16) (s0 s1 : EReal) :
    (k0_pay1 (k0_pay34 (k0_pay3 vp vc) k0_pay4 (k0_pay6 vp vc)) (k0_pay52 nd al (k0_pay33 (k0_pay2 kp kc) k0_pay4 (k0_pay5 kp kc)) q s0) (k0_pay53 nd al (k0_pay33 (k0_pay2 kp kc) k0_pay4 (k0_pay5 kp kc)) q s0) s1 (k0_pay54 nd al (k0_pay33 (k0_pay2 kp kc) k0_pay4 (k0_pay5 kp kc)) q) (k0_pay55 nd al (k0_pay33 (k0_pay2 kp kc) k0_pay4 (k0_pay5 kp kc)) q) : FVec Ideal S16x128 .bf16)
      = pair (halves1 (cat vp vc)) (scores 0x3C000000#32 (first (dots (halves1 (cat kp kc)) q)) nd al) (scores 0x3B800000#32 (second (dots (halves1 (cat kp kc)) q)) nd al) s0 s1 := rfl

/-- A slice of a block's columns. -/
theorem cols (Q : Vec Ideal ⟨2, ![16, 512]⟩ .bf16) (o : ℕ) (inb : ∀ i, (![0, o] : Fin 2 → ℕ) i + (![16, 128] : Fin 2 → ℕ) i ≤ (![16, 512] : Fin 2 → ℕ) i) :
    Cols o Q (View.ld Q (Rect.unit (s := ⟨2, ![16, 512]⟩) ![0, o] ![16, 128] inb)) := by
  intro i x J hJ
  refine (Cert.KernelIdeal.Block.ld2 (α := .bf16) Q o inb i x).trans ?_
  have hJ' : (⟨o + x.val, hJ ▸ J.isLt⟩ : Fin 512) = J := Fin.ext hJ.symm
  exact congrArg (fun j => Q (ix2 i j)) hJ'

/-- What a point leaves in its block. -/
theorem left (c : Dev nD) (t : Fin cfg0.N) (r0 : Real' (a0 m c)) (r1 : Real' (a1 m c)) (r3 : Real' (a3 m c)) (r5 : Real' (a5 m c))
    (i : Fin 16) (J : Fin 512) (R : Fin 256) (hR : R.val = 16 * t.val + i.val) :
    (outsAt0 m c t : FVec Ideal S16x512 .bf16) (ix2 i J) = r_v79 (a0 m c) (a1 m c) (a2 m c) (a3 m c) (a4 m c) (a5 m c) (ix2 R J) := by
  obtain ⟨y, hy⟩ : ∃ y : S16x512.Idx, y = ix2 i J := ⟨_, rfl⟩
  have y0 : (y 0).val = i.val := by rw [hy]; rfl
  have y1 : (y 1).val = J.val := by rw [hy]; rfl
  rw [← hy]
  unfold outsAt0
  clear hy
  frame_out
  canon_tiles x h
  · obtain ⟨u, l, rfl⟩ : ∃ (u : Fin 16) (l : Fin 128), x = ix2 u l := ⟨x 0, x 1, by funext a; fin_cases a <;> rfl⟩
    have hu : (ix2 u l : S16x128.Idx) 0 = u := rfl
    have hl : (ix2 u l : S16x128.Idx) 1 = l := rfl
    rw [hu] at h0
    rw [hl] at h1
    rw [comp3]
    exact tile m c t r0 r1 r3 r5 1 2 3 6 7 rfl rfl rfl _ (cols _ 384 _) _ _ (half1 _) (half1 _) _ _ slope6 slope7 _ _
      (Cert.KernelIdeal.Block.ld1 (α := .f32) _ 6 _ _) (Cert.KernelIdeal.Block.ld1 (α := .f32) _ 7 _ _) u l R J (by omega) (by change J.val = 64 * 6 + l.val; omega)
  · obtain ⟨u, l, rfl⟩ : ∃ (u : Fin 16) (l : Fin 128), x = ix2 u l := ⟨x 0, x 1, by funext a; fin_cases a <;> rfl⟩
    have hu : (ix2 u l : S16x128.Idx) 0 = u := rfl
    have hl : (ix2 u l : S16x128.Idx) 1 = l := rfl
    rw [hu] at h0
    rw [hl] at h1
    rw [comp2]
    exact tile m c t r0 r1 r3 r5 1 0 1 4 5 rfl rfl rfl _ (cols _ 256 _) _ _ (half1 _) (half1 _) _ _ slope4 slope5 _ _
      (Cert.KernelIdeal.Block.ld1 (α := .f32) _ 4 _ _) (Cert.KernelIdeal.Block.ld1 (α := .f32) _ 5 _ _) u l R J (by omega) (by change J.val = 64 * 4 + l.val; omega)
  · obtain ⟨u, l, rfl⟩ : ∃ (u : Fin 16) (l : Fin 128), x = ix2 u l := ⟨x 0, x 1, by funext a; fin_cases a <;> rfl⟩
    have hu : (ix2 u l : S16x128.Idx) 0 = u := rfl
    have hl : (ix2 u l : S16x128.Idx) 1 = l := rfl
    rw [hu] at h0
    rw [hl] at h1
    rw [comp1]
    exact tile m c t r0 r1 r3 r5 0 2 3 2 3 rfl rfl rfl _ (cols _ 128 _) _ _ (half0 _) (half0 _) _ _ slope2 slope3 _ _
      (Cert.KernelIdeal.Block.ld1 (α := .f32) _ 2 _ _) (Cert.KernelIdeal.Block.ld1 (α := .f32) _ 3 _ _) u l R J (by omega) (by change J.val = 64 * 2 + l.val; omega)
  · obtain ⟨u, l, rfl⟩ : ∃ (u : Fin 16) (l : Fin 128), x = ix2 u l := ⟨x 0, x 1, by funext a; fin_cases a <;> rfl⟩
    have hu : (ix2 u l : S16x128.Idx) 0 = u := rfl
    have hl : (ix2 u l : S16x128.Idx) 1 = l := rfl
    rw [hu] at h0
    rw [hl] at h1
    rw [comp0]
    exact tile m c t r0 r1 r3 r5 0 0 1 0 1 rfl rfl rfl _ (cols _ 0 _) _ _ (half0 _) (half0 _) _ _ slope0 slope1 _ _
      (Cert.KernelIdeal.Block.ld1 (α := .f32) _ 0 _ _) (Cert.KernelIdeal.Block.ld1 (α := .f32) _ 1 _ _) u l R J (by omega) (by change J.val = 64 * 0 + l.val; omega)

/-- Where a block's entry is written back: its own. -/
theorem cut8 (c : Dev nD) (t : Fin cfg0.N) (i : Fin 16) (J : Fin 512) :
    (dats m 0 c).flushed 8 t (ix2 i J) = (outsAt0 m c t : FVec Ideal S16x512 .bf16) (ix2 i J) := by
  blk_simp
  rw [after0_8]

/-- Every point writes its block back. -/
theorem flush8 : ∀ t : Fin cfg0.N, (cfg0.win 8).flush t = true := by
  decide +kernel

/-- The result array is the reference's. -/
theorem final (c : Dev nD) (r0 : Real' (a0 m c)) (r1 : Real' (a1 m c)) (r3 : Real' (a3 m c)) (r5 : Real' (a5 m c)) :
    ((dats m 0 c).arrAt 8 cfg0.N : FVec Ideal S256x512 .bf16) = r_v79 (a0 m c) (a1 m c) (a2 m c) (a3 m c) (a4 m c) (a5 m c) := by
  funext y
  obtain ⟨R, J, rfl⟩ : ∃ (R : Fin 256) (J : Fin 512), y = (ix2 R J : S256x512.Idx) := ⟨y 0, y 1, by funext a; fin_cases a <;> rfl⟩
  obtain ⟨t, ht⟩ : ∃ t : Fin cfg0.N, t.val = R.val / 16 := ⟨⟨R.val / 16, lt_of_lt_of_eq (by omega : R.val / 16 < 16) N_0.symm⟩, rfl⟩
  have hR : R.val = 16 * t.val + (⟨R.val % 16, by omega⟩ : Fin 16).val := by simp only; omega
  have hb := congrFun (Cert.AttendSampleIdeal.Value.blocks8 m c t (flush8 t)) (ix2 (⟨R.val % 16, by omega⟩ : Fin 16) J)
  refine Eq.trans ?_ (left m c t r0 r1 r3 r5 ⟨R.val % 16, by omega⟩ J R hR)
  refine Eq.trans ?_ (cut8 m c t ⟨R.val % 16, by omega⟩ J)
  refine Eq.trans ?_ hb
  generalize (dats m 0 c).arrAt 8 cfg0.N = Y
  exact (congrArg Y (emb8 t ⟨R.val % 16, by omega⟩ J R hR)).symm

end Cert.AttendSampleIdeal.Blocks

namespace Cert.AttendSample

open Idealize.ShloMosaic Idealize.ShloMosaic.TcCoe Idealize.SL.Sem
open Cert.Retention (Real' finite_real top_word)
open Cert.AttendSampleIdeal.Blocks

instance preFacts : Cert.Pre_finite_scores.Facts := ⟨by decide, by decide, by decide, by decide⟩

/-- What the precondition says of the arrays: the queries, the keys and the sinks are real numbers. -/
theorem finite_args (x0 : FVec Ideal Cert.Pre_finite_scores.S16x16x2x4x64 .f32) (x1 x2 : FVec Ideal Cert.Pre_finite_scores.S16x16x2x64 .f32)
    (x3 x4 : FVec Ideal Cert.Pre_finite_scores.S1x16x128x2x64 .f32) (x5 : FVec Ideal Cert.Pre_finite_scores.S1x8 .f32)
    (h : (Cert.Pre_finite_scores.fn x0 x1 x2 x3 x4 x5).1 = (fun _ => 1#1) ∧ (Cert.Pre_finite_scores.fn x0 x1 x2 x3 x4 x5).2.1 = (fun _ => 1#1)
      ∧ (Cert.Pre_finite_scores.fn x0 x1 x2 x3 x4 x5).2.2.1 = (fun _ => 1#1) ∧ (Cert.Pre_finite_scores.fn x0 x1 x2 x3 x4 x5).2.2.2 = (fun _ => 1#1)) :
    Real' x0 ∧ Real' x1 ∧ Real' x3 ∧ Real' x5 :=
  ⟨finite_real x0 _ (top_word _) h.1, finite_real x1 _ (top_word _) h.2.1, finite_real x3 _ (top_word _) h.2.2.1, finite_real x5 _ (top_word _) h.2.2.2⟩

/-- The mask of the kernel stands for minus infinity. -/
theorem preserves : Cert.preserves_AttendSample_AttendSampleIdeal :=
  IdealRules.named_const.statement Cert.AttendSampleIdeal.κ "mask" .f32 0xF149F2CA#32 ⊥ rfl

/-- From real queries, keys and sinks, the kernel and the reference leave the same attention. -/
theorem value : Cert.algebraic_AttendSampleIdeal_ReferenceAttendSampleIdeal_pre_finite_scores (hAttendSampleIdeal := Cert.AttendSampleIdeal.Gen.facts)
    (hReferenceAttendSampleIdeal := Cert.ReferenceAttendSampleIdeal.Gen.facts) (hPre_finite_scores := Cert.AttendSample.preFacts) := by
  intro m ρ m' ρ' hpre hag
  have hf := fun c => finite_args _ _ _ _ _ _ (hpre c)
  refine ⟨fun c => Cert.ReferenceAttendSampleIdeal.Stages.r_v79 (a0 m c) (a1 m c) (a2 m c) (a3 m c) (a4 m c) (a5 m c), ?_, ?_⟩
  · exact (θ_run _ _ _).mono (fun r h c => ⟨(h c).1.trans (final m c (hf c).1 (hf c).2.1 (hf c).2.2.1 (hf c).2.2.2), (h c).2⟩) (Cert.AttendSampleIdeal.Value.run_blocks m ρ)
  · refine (θ_run _ _ _).mono (fun r h c => ?_) (Cert.ReferenceAttendSampleIdeal.Value.run m' ρ')
    have e0 := (hag c).1
    have e1 := (hag c).2.1
    have e2 := (hag c).2.2.1
    have e3 := (hag c).2.2.2.1
    have e4 := (hag c).2.2.2.2.1
    have e5 := (hag c).2.2.2.2.2
    refine ⟨(h c).1.trans ((Cert.ReferenceAttendSampleIdeal.Stages.result m' c).trans ?_), (h c).2⟩
    exact congr (congr (congr (congr (congr (congrArg Cert.ReferenceAttendSampleIdeal.Stages.r_v79 e0) e1) e2) e3) e4) e5

end Cert.AttendSample

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ProjectPrompt
public import proofs.«01_k».proof.Proof.Gen.ProjectPrompt.Skeleton
public import proofs.«01_k».proof.Proof.Gen.ProjectPrompt.Launch
public import proofs.«01_k».proof.Proof.Gen.ProjectPrompt.Points
public import proofs.«01_k».proof.Proof.Gen.ProjectPrompt.Frame
public import proofs.«01_k».proof.Proof.Gen.ProjectPromptIdeal
public import proofs.«01_k».proof.Proof.Gen.ProjectPromptIdeal.Skeleton
public import proofs.«01_k».proof.Proof.Gen.ProjectPromptIdeal.Launch
public import proofs.«01_k».proof.Proof.Gen.ProjectPromptIdeal.Points
public import proofs.«01_k».proof.Proof.Gen.ProjectPromptIdeal.Frame
public import proofs.«01_k».proof.Proof.Gen.ReferenceProjectPromptIdeal
public import proofs.«01_k».proof.Proof.Gen.ProjectSample
public import proofs.«01_k».proof.Proof.Gen.ProjectSample.Skeleton
public import proofs.«01_k».proof.Proof.Gen.ProjectSample.Launch
public import proofs.«01_k».proof.Proof.Gen.ProjectSample.Points
public import proofs.«01_k».proof.Proof.Gen.ProjectSample.Frame
public import proofs.«01_k».proof.Proof.Gen.ProjectSampleIdeal
public import proofs.«01_k».proof.Proof.Gen.ProjectSampleIdeal.Skeleton
public import proofs.«01_k».proof.Proof.Gen.ProjectSampleIdeal.Launch
public import proofs.«01_k».proof.Proof.Gen.ProjectSampleIdeal.Points
public import proofs.«01_k».proof.Proof.Gen.ProjectSampleIdeal.Frame
public import proofs.«01_k».proof.Proof.Gen.ReferenceProjectSampleIdeal
public import proofs.«01_k».proof.Proof.Gen.MergePrompt
public import proofs.«01_k».proof.Proof.Gen.MergePrompt.Skeleton
public import proofs.«01_k».proof.Proof.Gen.MergePrompt.Launch
public import proofs.«01_k».proof.Proof.Gen.MergePrompt.Points
public import proofs.«01_k».proof.Proof.Gen.MergePrompt.Frame
public import proofs.«01_k».proof.Proof.Gen.MergePromptIdeal
public import proofs.«01_k».proof.Proof.Gen.MergePromptIdeal.Skeleton
public import proofs.«01_k».proof.Proof.Gen.MergePromptIdeal.Launch
public import proofs.«01_k».proof.Proof.Gen.MergePromptIdeal.Points
public import proofs.«01_k».proof.Proof.Gen.MergePromptIdeal.Frame
public import proofs.«01_k».proof.Proof.Gen.ReferenceMergePromptIdeal
public import proofs.«01_k».proof.Proof.Gen.MergeSample
public import proofs.«01_k».proof.Proof.Gen.MergeSample.Skeleton
public import proofs.«01_k».proof.Proof.Gen.MergeSample.Launch
public import proofs.«01_k».proof.Proof.Gen.MergeSample.Points
public import proofs.«01_k».proof.Proof.Gen.MergeSample.Frame
public import proofs.«01_k».proof.Proof.Gen.MergeSampleIdeal
public import proofs.«01_k».proof.Proof.Gen.MergeSampleIdeal.Skeleton
public import proofs.«01_k».proof.Proof.Gen.MergeSampleIdeal.Launch
public import proofs.«01_k».proof.Proof.Gen.MergeSampleIdeal.Points
public import proofs.«01_k».proof.Proof.Gen.MergeSampleIdeal.Frame
public import proofs.«01_k».proof.Proof.Gen.ReferenceMergeSampleIdeal
public import proofs.«01_k».proof.Proof.Gen.RetentionSample
public import proofs.«01_k».proof.Proof.Gen.RetentionSample.Skeleton
public import proofs.«01_k».proof.Proof.Gen.RetentionSample.Launch
public import proofs.«01_k».proof.Proof.Gen.RetentionSample.Points
public import proofs.«01_k».proof.Proof.Gen.RetentionSample.Frame
public import proofs.«01_k».proof.Proof.Gen.RetentionSampleIdeal
public import proofs.«01_k».proof.Proof.Gen.RetentionSampleIdeal.Skeleton
public import proofs.«01_k».proof.Proof.Gen.RetentionSampleIdeal.Launch
public import proofs.«01_k».proof.Proof.Gen.RetentionSampleIdeal.Points
public import proofs.«01_k».proof.Proof.Gen.RetentionSampleIdeal.Frame
public import proofs.«01_k».proof.Proof.Gen.ReferenceRetentionSampleIdeal
public import proofs.«01_k».proof.Proof.Gen.Pre_finite
public import proofs.«01_k».proof.Proof.Gen.KernelIdeal.Value
public import proofs.«01_k».proof.Proof.Gen.ProjectPromptIdeal.Value
public import proofs.«01_k».proof.Proof.Gen.ProjectSampleIdeal.Value
public import proofs.«01_k».proof.Proof.Gen.MergePromptIdeal.Value
public import proofs.«01_k».proof.Proof.Gen.MergeSampleIdeal.Value
public import proofs.«01_k».proof.Proof.Gen.RetentionSampleIdeal.Value
public import proofs.«01_k».proof.Proof.Gen.ReferenceProjectPromptIdeal.Run
public import proofs.«01_k».proof.Proof.Gen.ReferenceProjectSampleIdeal.Run
public import proofs.«01_k».proof.Proof.Gen.ReferenceMergePromptIdeal.Run
public import proofs.«01_k».proof.Proof.Gen.ReferenceMergeSampleIdeal.Run
public import proofs.«01_k».proof.Proof.Gen.ReferenceRetentionSampleIdeal.Run
public import proofs.«01_k».proof.Proof.Finite
public import proofs.«01_k».proof.Proof.MergePromptRows
public import proofs.«01_k».proof.Proof.MergeSampleRows
public import proofs.«01_k».proof.Proof.ProjectPromptRows
public import proofs.«01_k».proof.Proof.ProjectSampleRows
public import proofs.«01_k».proof.Proof.SamplePoints
public import proofs.«01_k».proof.Proof.Gen.FinishPrompt
public import proofs.«01_k».proof.Proof.Gen.FinishPromptIdeal
public import proofs.«01_k».proof.Proof.Gen.FinishPrompt.Frame
public import proofs.«01_k».proof.Proof.Gen.FinishPromptIdeal.Value
public import proofs.«01_k».proof.Proof.Gen.ReferenceFinishPromptIdeal
public import proofs.«01_k».proof.Proof.Gen.ReferenceFinishPromptIdeal.Run
public import proofs.«01_k».proof.Proof.Gen.AttendSample
public import proofs.«01_k».proof.Proof.Gen.AttendSampleIdeal
public import proofs.«01_k».proof.Proof.Gen.AttendSample.Frame
public import proofs.«01_k».proof.Proof.Gen.AttendSampleIdeal.Value
public import proofs.«01_k».proof.Proof.Gen.ReferenceAttendSampleIdeal
public import proofs.«01_k».proof.Proof.Gen.ReferenceAttendSampleIdeal.Run
public import proofs.«01_k».proof.Proof.Gen.StreamSample
public import proofs.«01_k».proof.Proof.Gen.StreamSampleIdeal
public import proofs.«01_k».proof.Proof.Gen.StreamSample.Frame
public import proofs.«01_k».proof.Proof.Gen.StreamSampleIdeal.Frame
public import proofs.«01_k».proof.Proof.Gen.ReferenceStreamSampleIdeal
public import proofs.«01_k».proof.Proof.Gen.ReferenceStreamSampleIdeal.Run
public import proofs.«01_k».proof.Proof.Gen.StreamPrompt
public import proofs.«01_k».proof.Proof.Gen.StreamPromptIdeal
public import proofs.«01_k».proof.Proof.Gen.StreamPrompt.Frame
public import proofs.«01_k».proof.Proof.Gen.StreamPromptIdeal.Frame
public import proofs.«01_k».proof.Proof.Gen.ReferenceStreamPromptIdeal
public import proofs.«01_k».proof.Proof.Gen.ReferenceStreamPromptIdeal.Run
public import proofs.«01_k».proof.Proof.Gen.Pre_finite_inputs
public import Idealize.ShloMosaic.Lib.Quiescent
public import proofs.«01_k».proof.Proof.StreamSampleClaim
public import proofs.«01_k».proof.Proof.StreamPromptClaim
public import proofs.«01_k».proof.Proof.FinishPromptRows
public import proofs.«01_k».proof.Proof.AttendSampleClaim
public import proofs.«01_k».proof.Proof.Gen.Pre_finite_scores
public import Idealize.ShloMosaic.Adequacy
public import Idealize.ShloMosaic.Init

@[expose] public section

noncomputable section

namespace Cert.Proof

open Idealize.ShloMosaic Idealize.SL.Sem Cert.Kernel

theorem frame_reference : Cert.quiescent_ReferenceIdeal (hReferenceIdeal := Cert.ReferenceIdeal.Gen.facts) :=
  fun m ρ _ => (θ_run _ _ _).mono
    (fun r h => ⟨fun c => ⟨(h c).2.2.1, (h c).2.2.2.1, (h c).2.2.2.2.1, (h c).2.2.2.2.2⟩, sem_eq_zero_of_no_sems (by decide) r.2⟩)
    (Cert.ReferenceIdeal.Value.run m ρ)

theorem retention : Cert.algebraic_KernelIdeal_ReferenceIdeal_pre_finite (hKernelIdeal := Cert.KernelIdeal.Gen.facts)
    (hReferenceIdeal := Cert.ReferenceIdeal.Gen.facts) (hPre_finite := Cert.Retention.preFacts) := by
  intro m ρ m' ρ' hpre hag
  have hf := fun c => Cert.Retention.finite_args _ _ _ _ (hpre c)
  refine ⟨fun c => Cert.KernelIdeal.Block.G9 (Cert.KernelIdeal.Block.aq m c) (Cert.KernelIdeal.Block.ak m c) (Cert.KernelIdeal.Block.av m c) (Cert.KernelIdeal.Block.ar m c),
    fun c => Cert.KernelIdeal.Block.G10 (Cert.KernelIdeal.Block.ak m c) (Cert.KernelIdeal.Block.av m c), ?_, ?_⟩
  · exact (θ_run _ _ _).mono (fun r h c => ⟨(h c).1.trans (Cert.KernelIdeal.Block.arr9 c (hf c).1 (hf c).2.1 (hf c).2.2),
      (h c).2.1.trans (Cert.KernelIdeal.Block.arr10 c (hf c).2.1 (hf c).2.2), (h c).2.2⟩) (Cert.KernelIdeal.Value.run_blocks m ρ)
  · refine (θ_run _ _ _).mono (fun r h c => ?_) (Cert.ReferenceIdeal.Value.run m' ρ')
    have e0 : Cert.Retention.bq m' c = Cert.KernelIdeal.Block.aq m c := (hag c).1
    have e1 : Cert.Retention.bk m' c = Cert.KernelIdeal.Block.ak m c := (hag c).2.1
    have e2 : Cert.Retention.bv m' c = Cert.KernelIdeal.Block.av m c := (hag c).2.2.1
    have e3 : Cert.Retention.br m' c = Cert.KernelIdeal.Block.ar m c := (hag c).2.2.2
    have hq : Cert.Retention.Real' (Cert.Retention.bq m' c) := e0 ▸ (hf c).1
    have hk : Cert.Retention.Real' (Cert.Retention.bk m' c) := e1 ▸ (hf c).2.1
    have hv : Cert.Retention.Real' (Cert.Retention.bv m' c) := e2 ▸ (hf c).2.2
    have ho := Cert.Retention.ref_out m' c hq hk hv
    have hs := Cert.Retention.ref_state m' c hq hk hv
    rw [e0, e1, e2, e3] at ho
    rw [e1, e2] at hs
    exact ⟨(h c).1.trans ho, (h c).2.1.trans hs, (h c).2.2⟩

theorem frame_ProjectPrompt : Cert.quiescent_ReferenceProjectPromptIdeal (hReferenceProjectPromptIdeal := Cert.ReferenceProjectPromptIdeal.Gen.facts) :=
  fun m ρ _ => (θ_run _ _ _).mono (fun r h => ⟨fun c => (h c).2.2.2.2.2.2.2.2.2, sem_eq_zero_of_no_sems (by decide) r.2⟩) (Cert.ReferenceProjectPromptIdeal.Value.run m ρ)

theorem value_ProjectPrompt : Cert.algebraic_ProjectPromptIdeal_ReferenceProjectPromptIdeal (hProjectPromptIdeal := Cert.ProjectPromptIdeal.Gen.facts)
    (hReferenceProjectPromptIdeal := Cert.ReferenceProjectPromptIdeal.Gen.facts) := by
  intro m ρ m' ρ' _ hag
  refine ⟨fun c => Cert.ProjectPromptIdeal.Rows.res4 (Cert.ProjectPromptIdeal.Rows.columns (m ((c.tc : Thread Cert.ProjectPromptIdeal.nD Cert.ProjectPromptIdeal.τ).loc Cert.ProjectPromptIdeal.main_arg0)) (m ((c.tc : Thread Cert.ProjectPromptIdeal.nD Cert.ProjectPromptIdeal.τ).loc Cert.ProjectPromptIdeal.main_arg1)) (m ((c.tc : Thread Cert.ProjectPromptIdeal.nD Cert.ProjectPromptIdeal.τ).loc Cert.ProjectPromptIdeal.main_arg2))) (m ((c.tc : Thread Cert.ProjectPromptIdeal.nD Cert.ProjectPromptIdeal.τ).loc Cert.ProjectPromptIdeal.main_arg3)),
    fun c => Cert.ProjectPromptIdeal.Rows.res5 (Cert.ProjectPromptIdeal.Rows.columns (m ((c.tc : Thread Cert.ProjectPromptIdeal.nD Cert.ProjectPromptIdeal.τ).loc Cert.ProjectPromptIdeal.main_arg0)) (m ((c.tc : Thread Cert.ProjectPromptIdeal.nD Cert.ProjectPromptIdeal.τ).loc Cert.ProjectPromptIdeal.main_arg1)) (m ((c.tc : Thread Cert.ProjectPromptIdeal.nD Cert.ProjectPromptIdeal.τ).loc Cert.ProjectPromptIdeal.main_arg2))) (m ((c.tc : Thread Cert.ProjectPromptIdeal.nD Cert.ProjectPromptIdeal.τ).loc Cert.ProjectPromptIdeal.main_arg3)),
    fun c => Cert.ProjectPromptIdeal.Rows.res6 (Cert.ProjectPromptIdeal.Rows.columns (m ((c.tc : Thread Cert.ProjectPromptIdeal.nD Cert.ProjectPromptIdeal.τ).loc Cert.ProjectPromptIdeal.main_arg0)) (m ((c.tc : Thread Cert.ProjectPromptIdeal.nD Cert.ProjectPromptIdeal.τ).loc Cert.ProjectPromptIdeal.main_arg1)) (m ((c.tc : Thread Cert.ProjectPromptIdeal.nD Cert.ProjectPromptIdeal.τ).loc Cert.ProjectPromptIdeal.main_arg2))) (m ((c.tc : Thread Cert.ProjectPromptIdeal.nD Cert.ProjectPromptIdeal.τ).loc Cert.ProjectPromptIdeal.main_arg3)),
    fun c => Cert.ProjectPromptIdeal.Rows.res7 (Cert.ProjectPromptIdeal.Rows.columns (m ((c.tc : Thread Cert.ProjectPromptIdeal.nD Cert.ProjectPromptIdeal.τ).loc Cert.ProjectPromptIdeal.main_arg0)) (m ((c.tc : Thread Cert.ProjectPromptIdeal.nD Cert.ProjectPromptIdeal.τ).loc Cert.ProjectPromptIdeal.main_arg1)) (m ((c.tc : Thread Cert.ProjectPromptIdeal.nD Cert.ProjectPromptIdeal.τ).loc Cert.ProjectPromptIdeal.main_arg2))) (m ((c.tc : Thread Cert.ProjectPromptIdeal.nD Cert.ProjectPromptIdeal.τ).loc Cert.ProjectPromptIdeal.main_arg3)),
    fun c => Cert.ProjectPromptIdeal.Rows.res8 (Cert.ProjectPromptIdeal.Rows.columns (m ((c.tc : Thread Cert.ProjectPromptIdeal.nD Cert.ProjectPromptIdeal.τ).loc Cert.ProjectPromptIdeal.main_arg0)) (m ((c.tc : Thread Cert.ProjectPromptIdeal.nD Cert.ProjectPromptIdeal.τ).loc Cert.ProjectPromptIdeal.main_arg1)) (m ((c.tc : Thread Cert.ProjectPromptIdeal.nD Cert.ProjectPromptIdeal.τ).loc Cert.ProjectPromptIdeal.main_arg2))) (m ((c.tc : Thread Cert.ProjectPromptIdeal.nD Cert.ProjectPromptIdeal.τ).loc Cert.ProjectPromptIdeal.main_arg3)),
    fun c => Cert.ProjectPromptIdeal.Rows.res9 (Cert.ProjectPromptIdeal.Rows.columns (m ((c.tc : Thread Cert.ProjectPromptIdeal.nD Cert.ProjectPromptIdeal.τ).loc Cert.ProjectPromptIdeal.main_arg0)) (m ((c.tc : Thread Cert.ProjectPromptIdeal.nD Cert.ProjectPromptIdeal.τ).loc Cert.ProjectPromptIdeal.main_arg1)) (m ((c.tc : Thread Cert.ProjectPromptIdeal.nD Cert.ProjectPromptIdeal.τ).loc Cert.ProjectPromptIdeal.main_arg2))) (m ((c.tc : Thread Cert.ProjectPromptIdeal.nD Cert.ProjectPromptIdeal.τ).loc Cert.ProjectPromptIdeal.main_arg3)),
    fun c => Cert.ProjectPromptIdeal.Rows.res10 (Cert.ProjectPromptIdeal.Rows.columns (m ((c.tc : Thread Cert.ProjectPromptIdeal.nD Cert.ProjectPromptIdeal.τ).loc Cert.ProjectPromptIdeal.main_arg0)) (m ((c.tc : Thread Cert.ProjectPromptIdeal.nD Cert.ProjectPromptIdeal.τ).loc Cert.ProjectPromptIdeal.main_arg1)) (m ((c.tc : Thread Cert.ProjectPromptIdeal.nD Cert.ProjectPromptIdeal.τ).loc Cert.ProjectPromptIdeal.main_arg2))) (m ((c.tc : Thread Cert.ProjectPromptIdeal.nD Cert.ProjectPromptIdeal.τ).loc Cert.ProjectPromptIdeal.main_arg3)),
    fun c => Cert.ProjectPromptIdeal.Rows.res11 (Cert.ProjectPromptIdeal.Rows.columns (m ((c.tc : Thread Cert.ProjectPromptIdeal.nD Cert.ProjectPromptIdeal.τ).loc Cert.ProjectPromptIdeal.main_arg0)) (m ((c.tc : Thread Cert.ProjectPromptIdeal.nD Cert.ProjectPromptIdeal.τ).loc Cert.ProjectPromptIdeal.main_arg1)) (m ((c.tc : Thread Cert.ProjectPromptIdeal.nD Cert.ProjectPromptIdeal.τ).loc Cert.ProjectPromptIdeal.main_arg2))) (m ((c.tc : Thread Cert.ProjectPromptIdeal.nD Cert.ProjectPromptIdeal.τ).loc Cert.ProjectPromptIdeal.main_arg3)),
    fun c => Cert.ProjectPromptIdeal.Rows.res12 (Cert.ProjectPromptIdeal.Rows.columns (m ((c.tc : Thread Cert.ProjectPromptIdeal.nD Cert.ProjectPromptIdeal.τ).loc Cert.ProjectPromptIdeal.main_arg0)) (m ((c.tc : Thread Cert.ProjectPromptIdeal.nD Cert.ProjectPromptIdeal.τ).loc Cert.ProjectPromptIdeal.main_arg1)) (m ((c.tc : Thread Cert.ProjectPromptIdeal.nD Cert.ProjectPromptIdeal.τ).loc Cert.ProjectPromptIdeal.main_arg2))) (m ((c.tc : Thread Cert.ProjectPromptIdeal.nD Cert.ProjectPromptIdeal.τ).loc Cert.ProjectPromptIdeal.main_arg3)), ?_, ?_⟩
  · exact (θ_run _ _ _).mono (fun r h c => ⟨(h c).1.trans (Cert.ProjectPromptIdeal.Rows.final4 m c), (h c).2.1.trans (Cert.ProjectPromptIdeal.Rows.final5 m c), (h c).2.2.1.trans (Cert.ProjectPromptIdeal.Rows.final6 m c), (h c).2.2.2.1.trans (Cert.ProjectPromptIdeal.Rows.final7 m c), (h c).2.2.2.2.1.trans (Cert.ProjectPromptIdeal.Rows.final8 m c), (h c).2.2.2.2.2.1.trans (Cert.ProjectPromptIdeal.Rows.final9 m c), (h c).2.2.2.2.2.2.1.trans (Cert.ProjectPromptIdeal.Rows.final10 m c), (h c).2.2.2.2.2.2.2.1.trans (Cert.ProjectPromptIdeal.Rows.final11 m c), (h c).2.2.2.2.2.2.2.2.1.trans (Cert.ProjectPromptIdeal.Rows.final12 m c), (h c).2.2.2.2.2.2.2.2.2⟩) (Cert.ProjectPromptIdeal.Value.run_blocks m ρ)
  · refine (θ_run _ _ _).mono (fun r h c => ?_) (Cert.ReferenceProjectPromptIdeal.Value.run m' ρ')
    have e0 := (hag c).1
    have e1 := (hag c).2.1
    have e2 := (hag c).2.2.1
    have e3 := (hag c).2.2.2
    have r0 : _ = Cert.ProjectPromptIdeal.Rows.res4 (Cert.ProjectPromptIdeal.Rows.columns (m ((c.tc : Thread Cert.ProjectPromptIdeal.nD Cert.ProjectPromptIdeal.τ).loc Cert.ProjectPromptIdeal.main_arg0)) (m ((c.tc : Thread Cert.ProjectPromptIdeal.nD Cert.ProjectPromptIdeal.τ).loc Cert.ProjectPromptIdeal.main_arg1)) (m ((c.tc : Thread Cert.ProjectPromptIdeal.nD Cert.ProjectPromptIdeal.τ).loc Cert.ProjectPromptIdeal.main_arg2))) (m ((c.tc : Thread Cert.ProjectPromptIdeal.nD Cert.ProjectPromptIdeal.τ).loc Cert.ProjectPromptIdeal.main_arg3)) := (h c).1.trans (show Cert.ProjectPromptIdeal.Rows.res4 (Cert.ProjectPromptIdeal.Rows.columns (m' ((c.tc : Thread Cert.ReferenceProjectPromptIdeal.nD Cert.ReferenceProjectPromptIdeal.τ).loc Cert.ReferenceProjectPromptIdeal.main_arg0)) (m' ((c.tc : Thread Cert.ReferenceProjectPromptIdeal.nD Cert.ReferenceProjectPromptIdeal.τ).loc Cert.ReferenceProjectPromptIdeal.main_arg1)) (m' ((c.tc : Thread Cert.ReferenceProjectPromptIdeal.nD Cert.ReferenceProjectPromptIdeal.τ).loc Cert.ReferenceProjectPromptIdeal.main_arg2))) (m' ((c.tc : Thread Cert.ReferenceProjectPromptIdeal.nD Cert.ReferenceProjectPromptIdeal.τ).loc Cert.ReferenceProjectPromptIdeal.main_arg3)) = Cert.ProjectPromptIdeal.Rows.res4 (Cert.ProjectPromptIdeal.Rows.columns (m ((c.tc : Thread Cert.ProjectPromptIdeal.nD Cert.ProjectPromptIdeal.τ).loc Cert.ProjectPromptIdeal.main_arg0)) (m ((c.tc : Thread Cert.ProjectPromptIdeal.nD Cert.ProjectPromptIdeal.τ).loc Cert.ProjectPromptIdeal.main_arg1)) (m ((c.tc : Thread Cert.ProjectPromptIdeal.nD Cert.ProjectPromptIdeal.τ).loc Cert.ProjectPromptIdeal.main_arg2))) (m ((c.tc : Thread Cert.ProjectPromptIdeal.nD Cert.ProjectPromptIdeal.τ).loc Cert.ProjectPromptIdeal.main_arg3)) by rw [e0, e1, e2, e3])
    have r1 : _ = Cert.ProjectPromptIdeal.Rows.res5 (Cert.ProjectPromptIdeal.Rows.columns (m ((c.tc : Thread Cert.ProjectPromptIdeal.nD Cert.ProjectPromptIdeal.τ).loc Cert.ProjectPromptIdeal.main_arg0)) (m ((c.tc : Thread Cert.ProjectPromptIdeal.nD Cert.ProjectPromptIdeal.τ).loc Cert.ProjectPromptIdeal.main_arg1)) (m ((c.tc : Thread Cert.ProjectPromptIdeal.nD Cert.ProjectPromptIdeal.τ).loc Cert.ProjectPromptIdeal.main_arg2))) (m ((c.tc : Thread Cert.ProjectPromptIdeal.nD Cert.ProjectPromptIdeal.τ).loc Cert.ProjectPromptIdeal.main_arg3)) := (h c).2.1.trans (show Cert.ProjectPromptIdeal.Rows.res5 (Cert.ProjectPromptIdeal.Rows.columns (m' ((c.tc : Thread Cert.ReferenceProjectPromptIdeal.nD Cert.ReferenceProjectPromptIdeal.τ).loc Cert.ReferenceProjectPromptIdeal.main_arg0)) (m' ((c.tc : Thread Cert.ReferenceProjectPromptIdeal.nD Cert.ReferenceProjectPromptIdeal.τ).loc Cert.ReferenceProjectPromptIdeal.main_arg1)) (m' ((c.tc : Thread Cert.ReferenceProjectPromptIdeal.nD Cert.ReferenceProjectPromptIdeal.τ).loc Cert.ReferenceProjectPromptIdeal.main_arg2))) (m' ((c.tc : Thread Cert.ReferenceProjectPromptIdeal.nD Cert.ReferenceProjectPromptIdeal.τ).loc Cert.ReferenceProjectPromptIdeal.main_arg3)) = Cert.ProjectPromptIdeal.Rows.res5 (Cert.ProjectPromptIdeal.Rows.columns (m ((c.tc : Thread Cert.ProjectPromptIdeal.nD Cert.ProjectPromptIdeal.τ).loc Cert.ProjectPromptIdeal.main_arg0)) (m ((c.tc : Thread Cert.ProjectPromptIdeal.nD Cert.ProjectPromptIdeal.τ).loc Cert.ProjectPromptIdeal.main_arg1)) (m ((c.tc : Thread Cert.ProjectPromptIdeal.nD Cert.ProjectPromptIdeal.τ).loc Cert.ProjectPromptIdeal.main_arg2))) (m ((c.tc : Thread Cert.ProjectPromptIdeal.nD Cert.ProjectPromptIdeal.τ).loc Cert.ProjectPromptIdeal.main_arg3)) by rw [e0, e1, e2, e3])
    have r2 : _ = Cert.ProjectPromptIdeal.Rows.res6 (Cert.ProjectPromptIdeal.Rows.columns (m ((c.tc : Thread Cert.ProjectPromptIdeal.nD Cert.ProjectPromptIdeal.τ).loc Cert.ProjectPromptIdeal.main_arg0)) (m ((c.tc : Thread Cert.ProjectPromptIdeal.nD Cert.ProjectPromptIdeal.τ).loc Cert.ProjectPromptIdeal.main_arg1)) (m ((c.tc : Thread Cert.ProjectPromptIdeal.nD Cert.ProjectPromptIdeal.τ).loc Cert.ProjectPromptIdeal.main_arg2))) (m ((c.tc : Thread Cert.ProjectPromptIdeal.nD Cert.ProjectPromptIdeal.τ).loc Cert.ProjectPromptIdeal.main_arg3)) := (h c).2.2.1.trans (show Cert.ProjectPromptIdeal.Rows.res6 (Cert.ProjectPromptIdeal.Rows.columns (m' ((c.tc : Thread Cert.ReferenceProjectPromptIdeal.nD Cert.ReferenceProjectPromptIdeal.τ).loc Cert.ReferenceProjectPromptIdeal.main_arg0)) (m' ((c.tc : Thread Cert.ReferenceProjectPromptIdeal.nD Cert.ReferenceProjectPromptIdeal.τ).loc Cert.ReferenceProjectPromptIdeal.main_arg1)) (m' ((c.tc : Thread Cert.ReferenceProjectPromptIdeal.nD Cert.ReferenceProjectPromptIdeal.τ).loc Cert.ReferenceProjectPromptIdeal.main_arg2))) (m' ((c.tc : Thread Cert.ReferenceProjectPromptIdeal.nD Cert.ReferenceProjectPromptIdeal.τ).loc Cert.ReferenceProjectPromptIdeal.main_arg3)) = Cert.ProjectPromptIdeal.Rows.res6 (Cert.ProjectPromptIdeal.Rows.columns (m ((c.tc : Thread Cert.ProjectPromptIdeal.nD Cert.ProjectPromptIdeal.τ).loc Cert.ProjectPromptIdeal.main_arg0)) (m ((c.tc : Thread Cert.ProjectPromptIdeal.nD Cert.ProjectPromptIdeal.τ).loc Cert.ProjectPromptIdeal.main_arg1)) (m ((c.tc : Thread Cert.ProjectPromptIdeal.nD Cert.ProjectPromptIdeal.τ).loc Cert.ProjectPromptIdeal.main_arg2))) (m ((c.tc : Thread Cert.ProjectPromptIdeal.nD Cert.ProjectPromptIdeal.τ).loc Cert.ProjectPromptIdeal.main_arg3)) by rw [e0, e1, e2, e3])
    have r3 : _ = Cert.ProjectPromptIdeal.Rows.res7 (Cert.ProjectPromptIdeal.Rows.columns (m ((c.tc : Thread Cert.ProjectPromptIdeal.nD Cert.ProjectPromptIdeal.τ).loc Cert.ProjectPromptIdeal.main_arg0)) (m ((c.tc : Thread Cert.ProjectPromptIdeal.nD Cert.ProjectPromptIdeal.τ).loc Cert.ProjectPromptIdeal.main_arg1)) (m ((c.tc : Thread Cert.ProjectPromptIdeal.nD Cert.ProjectPromptIdeal.τ).loc Cert.ProjectPromptIdeal.main_arg2))) (m ((c.tc : Thread Cert.ProjectPromptIdeal.nD Cert.ProjectPromptIdeal.τ).loc Cert.ProjectPromptIdeal.main_arg3)) := (h c).2.2.2.1.trans (show Cert.ProjectPromptIdeal.Rows.res7 (Cert.ProjectPromptIdeal.Rows.columns (m' ((c.tc : Thread Cert.ReferenceProjectPromptIdeal.nD Cert.ReferenceProjectPromptIdeal.τ).loc Cert.ReferenceProjectPromptIdeal.main_arg0)) (m' ((c.tc : Thread Cert.ReferenceProjectPromptIdeal.nD Cert.ReferenceProjectPromptIdeal.τ).loc Cert.ReferenceProjectPromptIdeal.main_arg1)) (m' ((c.tc : Thread Cert.ReferenceProjectPromptIdeal.nD Cert.ReferenceProjectPromptIdeal.τ).loc Cert.ReferenceProjectPromptIdeal.main_arg2))) (m' ((c.tc : Thread Cert.ReferenceProjectPromptIdeal.nD Cert.ReferenceProjectPromptIdeal.τ).loc Cert.ReferenceProjectPromptIdeal.main_arg3)) = Cert.ProjectPromptIdeal.Rows.res7 (Cert.ProjectPromptIdeal.Rows.columns (m ((c.tc : Thread Cert.ProjectPromptIdeal.nD Cert.ProjectPromptIdeal.τ).loc Cert.ProjectPromptIdeal.main_arg0)) (m ((c.tc : Thread Cert.ProjectPromptIdeal.nD Cert.ProjectPromptIdeal.τ).loc Cert.ProjectPromptIdeal.main_arg1)) (m ((c.tc : Thread Cert.ProjectPromptIdeal.nD Cert.ProjectPromptIdeal.τ).loc Cert.ProjectPromptIdeal.main_arg2))) (m ((c.tc : Thread Cert.ProjectPromptIdeal.nD Cert.ProjectPromptIdeal.τ).loc Cert.ProjectPromptIdeal.main_arg3)) by rw [e0, e1, e2, e3])
    have r4 : _ = Cert.ProjectPromptIdeal.Rows.res8 (Cert.ProjectPromptIdeal.Rows.columns (m ((c.tc : Thread Cert.ProjectPromptIdeal.nD Cert.ProjectPromptIdeal.τ).loc Cert.ProjectPromptIdeal.main_arg0)) (m ((c.tc : Thread Cert.ProjectPromptIdeal.nD Cert.ProjectPromptIdeal.τ).loc Cert.ProjectPromptIdeal.main_arg1)) (m ((c.tc : Thread Cert.ProjectPromptIdeal.nD Cert.ProjectPromptIdeal.τ).loc Cert.ProjectPromptIdeal.main_arg2))) (m ((c.tc : Thread Cert.ProjectPromptIdeal.nD Cert.ProjectPromptIdeal.τ).loc Cert.ProjectPromptIdeal.main_arg3)) := (h c).2.2.2.2.1.trans (show Cert.ProjectPromptIdeal.Rows.res8 (Cert.ProjectPromptIdeal.Rows.columns (m' ((c.tc : Thread Cert.ReferenceProjectPromptIdeal.nD Cert.ReferenceProjectPromptIdeal.τ).loc Cert.ReferenceProjectPromptIdeal.main_arg0)) (m' ((c.tc : Thread Cert.ReferenceProjectPromptIdeal.nD Cert.ReferenceProjectPromptIdeal.τ).loc Cert.ReferenceProjectPromptIdeal.main_arg1)) (m' ((c.tc : Thread Cert.ReferenceProjectPromptIdeal.nD Cert.ReferenceProjectPromptIdeal.τ).loc Cert.ReferenceProjectPromptIdeal.main_arg2))) (m' ((c.tc : Thread Cert.ReferenceProjectPromptIdeal.nD Cert.ReferenceProjectPromptIdeal.τ).loc Cert.ReferenceProjectPromptIdeal.main_arg3)) = Cert.ProjectPromptIdeal.Rows.res8 (Cert.ProjectPromptIdeal.Rows.columns (m ((c.tc : Thread Cert.ProjectPromptIdeal.nD Cert.ProjectPromptIdeal.τ).loc Cert.ProjectPromptIdeal.main_arg0)) (m ((c.tc : Thread Cert.ProjectPromptIdeal.nD Cert.ProjectPromptIdeal.τ).loc Cert.ProjectPromptIdeal.main_arg1)) (m ((c.tc : Thread Cert.ProjectPromptIdeal.nD Cert.ProjectPromptIdeal.τ).loc Cert.ProjectPromptIdeal.main_arg2))) (m ((c.tc : Thread Cert.ProjectPromptIdeal.nD Cert.ProjectPromptIdeal.τ).loc Cert.ProjectPromptIdeal.main_arg3)) by rw [e0, e1, e2, e3])
    have r5 : _ = Cert.ProjectPromptIdeal.Rows.res9 (Cert.ProjectPromptIdeal.Rows.columns (m ((c.tc : Thread Cert.ProjectPromptIdeal.nD Cert.ProjectPromptIdeal.τ).loc Cert.ProjectPromptIdeal.main_arg0)) (m ((c.tc : Thread Cert.ProjectPromptIdeal.nD Cert.ProjectPromptIdeal.τ).loc Cert.ProjectPromptIdeal.main_arg1)) (m ((c.tc : Thread Cert.ProjectPromptIdeal.nD Cert.ProjectPromptIdeal.τ).loc Cert.ProjectPromptIdeal.main_arg2))) (m ((c.tc : Thread Cert.ProjectPromptIdeal.nD Cert.ProjectPromptIdeal.τ).loc Cert.ProjectPromptIdeal.main_arg3)) := (h c).2.2.2.2.2.1.trans (show Cert.ProjectPromptIdeal.Rows.res9 (Cert.ProjectPromptIdeal.Rows.columns (m' ((c.tc : Thread Cert.ReferenceProjectPromptIdeal.nD Cert.ReferenceProjectPromptIdeal.τ).loc Cert.ReferenceProjectPromptIdeal.main_arg0)) (m' ((c.tc : Thread Cert.ReferenceProjectPromptIdeal.nD Cert.ReferenceProjectPromptIdeal.τ).loc Cert.ReferenceProjectPromptIdeal.main_arg1)) (m' ((c.tc : Thread Cert.ReferenceProjectPromptIdeal.nD Cert.ReferenceProjectPromptIdeal.τ).loc Cert.ReferenceProjectPromptIdeal.main_arg2))) (m' ((c.tc : Thread Cert.ReferenceProjectPromptIdeal.nD Cert.ReferenceProjectPromptIdeal.τ).loc Cert.ReferenceProjectPromptIdeal.main_arg3)) = Cert.ProjectPromptIdeal.Rows.res9 (Cert.ProjectPromptIdeal.Rows.columns (m ((c.tc : Thread Cert.ProjectPromptIdeal.nD Cert.ProjectPromptIdeal.τ).loc Cert.ProjectPromptIdeal.main_arg0)) (m ((c.tc : Thread Cert.ProjectPromptIdeal.nD Cert.ProjectPromptIdeal.τ).loc Cert.ProjectPromptIdeal.main_arg1)) (m ((c.tc : Thread Cert.ProjectPromptIdeal.nD Cert.ProjectPromptIdeal.τ).loc Cert.ProjectPromptIdeal.main_arg2))) (m ((c.tc : Thread Cert.ProjectPromptIdeal.nD Cert.ProjectPromptIdeal.τ).loc Cert.ProjectPromptIdeal.main_arg3)) by rw [e0, e1, e2, e3])
    have r6 : _ = Cert.ProjectPromptIdeal.Rows.res10 (Cert.ProjectPromptIdeal.Rows.columns (m ((c.tc : Thread Cert.ProjectPromptIdeal.nD Cert.ProjectPromptIdeal.τ).loc Cert.ProjectPromptIdeal.main_arg0)) (m ((c.tc : Thread Cert.ProjectPromptIdeal.nD Cert.ProjectPromptIdeal.τ).loc Cert.ProjectPromptIdeal.main_arg1)) (m ((c.tc : Thread Cert.ProjectPromptIdeal.nD Cert.ProjectPromptIdeal.τ).loc Cert.ProjectPromptIdeal.main_arg2))) (m ((c.tc : Thread Cert.ProjectPromptIdeal.nD Cert.ProjectPromptIdeal.τ).loc Cert.ProjectPromptIdeal.main_arg3)) := (h c).2.2.2.2.2.2.1.trans (show Cert.ProjectPromptIdeal.Rows.res10 (Cert.ProjectPromptIdeal.Rows.columns (m' ((c.tc : Thread Cert.ReferenceProjectPromptIdeal.nD Cert.ReferenceProjectPromptIdeal.τ).loc Cert.ReferenceProjectPromptIdeal.main_arg0)) (m' ((c.tc : Thread Cert.ReferenceProjectPromptIdeal.nD Cert.ReferenceProjectPromptIdeal.τ).loc Cert.ReferenceProjectPromptIdeal.main_arg1)) (m' ((c.tc : Thread Cert.ReferenceProjectPromptIdeal.nD Cert.ReferenceProjectPromptIdeal.τ).loc Cert.ReferenceProjectPromptIdeal.main_arg2))) (m' ((c.tc : Thread Cert.ReferenceProjectPromptIdeal.nD Cert.ReferenceProjectPromptIdeal.τ).loc Cert.ReferenceProjectPromptIdeal.main_arg3)) = Cert.ProjectPromptIdeal.Rows.res10 (Cert.ProjectPromptIdeal.Rows.columns (m ((c.tc : Thread Cert.ProjectPromptIdeal.nD Cert.ProjectPromptIdeal.τ).loc Cert.ProjectPromptIdeal.main_arg0)) (m ((c.tc : Thread Cert.ProjectPromptIdeal.nD Cert.ProjectPromptIdeal.τ).loc Cert.ProjectPromptIdeal.main_arg1)) (m ((c.tc : Thread Cert.ProjectPromptIdeal.nD Cert.ProjectPromptIdeal.τ).loc Cert.ProjectPromptIdeal.main_arg2))) (m ((c.tc : Thread Cert.ProjectPromptIdeal.nD Cert.ProjectPromptIdeal.τ).loc Cert.ProjectPromptIdeal.main_arg3)) by rw [e0, e1, e2, e3])
    have r7 : _ = Cert.ProjectPromptIdeal.Rows.res11 (Cert.ProjectPromptIdeal.Rows.columns (m ((c.tc : Thread Cert.ProjectPromptIdeal.nD Cert.ProjectPromptIdeal.τ).loc Cert.ProjectPromptIdeal.main_arg0)) (m ((c.tc : Thread Cert.ProjectPromptIdeal.nD Cert.ProjectPromptIdeal.τ).loc Cert.ProjectPromptIdeal.main_arg1)) (m ((c.tc : Thread Cert.ProjectPromptIdeal.nD Cert.ProjectPromptIdeal.τ).loc Cert.ProjectPromptIdeal.main_arg2))) (m ((c.tc : Thread Cert.ProjectPromptIdeal.nD Cert.ProjectPromptIdeal.τ).loc Cert.ProjectPromptIdeal.main_arg3)) := (h c).2.2.2.2.2.2.2.1.trans (show Cert.ProjectPromptIdeal.Rows.res11 (Cert.ProjectPromptIdeal.Rows.columns (m' ((c.tc : Thread Cert.ReferenceProjectPromptIdeal.nD Cert.ReferenceProjectPromptIdeal.τ).loc Cert.ReferenceProjectPromptIdeal.main_arg0)) (m' ((c.tc : Thread Cert.ReferenceProjectPromptIdeal.nD Cert.ReferenceProjectPromptIdeal.τ).loc Cert.ReferenceProjectPromptIdeal.main_arg1)) (m' ((c.tc : Thread Cert.ReferenceProjectPromptIdeal.nD Cert.ReferenceProjectPromptIdeal.τ).loc Cert.ReferenceProjectPromptIdeal.main_arg2))) (m' ((c.tc : Thread Cert.ReferenceProjectPromptIdeal.nD Cert.ReferenceProjectPromptIdeal.τ).loc Cert.ReferenceProjectPromptIdeal.main_arg3)) = Cert.ProjectPromptIdeal.Rows.res11 (Cert.ProjectPromptIdeal.Rows.columns (m ((c.tc : Thread Cert.ProjectPromptIdeal.nD Cert.ProjectPromptIdeal.τ).loc Cert.ProjectPromptIdeal.main_arg0)) (m ((c.tc : Thread Cert.ProjectPromptIdeal.nD Cert.ProjectPromptIdeal.τ).loc Cert.ProjectPromptIdeal.main_arg1)) (m ((c.tc : Thread Cert.ProjectPromptIdeal.nD Cert.ProjectPromptIdeal.τ).loc Cert.ProjectPromptIdeal.main_arg2))) (m ((c.tc : Thread Cert.ProjectPromptIdeal.nD Cert.ProjectPromptIdeal.τ).loc Cert.ProjectPromptIdeal.main_arg3)) by rw [e0, e1, e2, e3])
    have r8 : _ = Cert.ProjectPromptIdeal.Rows.res12 (Cert.ProjectPromptIdeal.Rows.columns (m ((c.tc : Thread Cert.ProjectPromptIdeal.nD Cert.ProjectPromptIdeal.τ).loc Cert.ProjectPromptIdeal.main_arg0)) (m ((c.tc : Thread Cert.ProjectPromptIdeal.nD Cert.ProjectPromptIdeal.τ).loc Cert.ProjectPromptIdeal.main_arg1)) (m ((c.tc : Thread Cert.ProjectPromptIdeal.nD Cert.ProjectPromptIdeal.τ).loc Cert.ProjectPromptIdeal.main_arg2))) (m ((c.tc : Thread Cert.ProjectPromptIdeal.nD Cert.ProjectPromptIdeal.τ).loc Cert.ProjectPromptIdeal.main_arg3)) := (h c).2.2.2.2.2.2.2.2.1.trans (show Cert.ProjectPromptIdeal.Rows.res12 (Cert.ProjectPromptIdeal.Rows.columns (m' ((c.tc : Thread Cert.ReferenceProjectPromptIdeal.nD Cert.ReferenceProjectPromptIdeal.τ).loc Cert.ReferenceProjectPromptIdeal.main_arg0)) (m' ((c.tc : Thread Cert.ReferenceProjectPromptIdeal.nD Cert.ReferenceProjectPromptIdeal.τ).loc Cert.ReferenceProjectPromptIdeal.main_arg1)) (m' ((c.tc : Thread Cert.ReferenceProjectPromptIdeal.nD Cert.ReferenceProjectPromptIdeal.τ).loc Cert.ReferenceProjectPromptIdeal.main_arg2))) (m' ((c.tc : Thread Cert.ReferenceProjectPromptIdeal.nD Cert.ReferenceProjectPromptIdeal.τ).loc Cert.ReferenceProjectPromptIdeal.main_arg3)) = Cert.ProjectPromptIdeal.Rows.res12 (Cert.ProjectPromptIdeal.Rows.columns (m ((c.tc : Thread Cert.ProjectPromptIdeal.nD Cert.ProjectPromptIdeal.τ).loc Cert.ProjectPromptIdeal.main_arg0)) (m ((c.tc : Thread Cert.ProjectPromptIdeal.nD Cert.ProjectPromptIdeal.τ).loc Cert.ProjectPromptIdeal.main_arg1)) (m ((c.tc : Thread Cert.ProjectPromptIdeal.nD Cert.ProjectPromptIdeal.τ).loc Cert.ProjectPromptIdeal.main_arg2))) (m ((c.tc : Thread Cert.ProjectPromptIdeal.nD Cert.ProjectPromptIdeal.τ).loc Cert.ProjectPromptIdeal.main_arg3)) by rw [e0, e1, e2, e3])
    exact ⟨r0, r1, r2, r3, r4, r5, r6, r7, r8, (h c).2.2.2.2.2.2.2.2.2⟩

theorem frame_ProjectSample : Cert.quiescent_ReferenceProjectSampleIdeal (hReferenceProjectSampleIdeal := Cert.ReferenceProjectSampleIdeal.Gen.facts) :=
  fun m ρ _ => (θ_run _ _ _).mono (fun r h => ⟨fun c => (h c).2.2.2.2.2.2.2.2.2, sem_eq_zero_of_no_sems (by decide) r.2⟩) (Cert.ReferenceProjectSampleIdeal.Value.run m ρ)

theorem value_ProjectSample : Cert.algebraic_ProjectSampleIdeal_ReferenceProjectSampleIdeal (hProjectSampleIdeal := Cert.ProjectSampleIdeal.Gen.facts)
    (hReferenceProjectSampleIdeal := Cert.ReferenceProjectSampleIdeal.Gen.facts) := by
  intro m ρ m' ρ' _ hag
  refine ⟨fun c => Cert.ProjectSampleIdeal.Rows.res4 (Cert.ProjectSampleIdeal.Rows.columns (m ((c.tc : Thread Cert.ProjectSampleIdeal.nD Cert.ProjectSampleIdeal.τ).loc Cert.ProjectSampleIdeal.main_arg0)) (m ((c.tc : Thread Cert.ProjectSampleIdeal.nD Cert.ProjectSampleIdeal.τ).loc Cert.ProjectSampleIdeal.main_arg1)) (m ((c.tc : Thread Cert.ProjectSampleIdeal.nD Cert.ProjectSampleIdeal.τ).loc Cert.ProjectSampleIdeal.main_arg2))) (m ((c.tc : Thread Cert.ProjectSampleIdeal.nD Cert.ProjectSampleIdeal.τ).loc Cert.ProjectSampleIdeal.main_arg3)),
    fun c => Cert.ProjectSampleIdeal.Rows.res5 (Cert.ProjectSampleIdeal.Rows.columns (m ((c.tc : Thread Cert.ProjectSampleIdeal.nD Cert.ProjectSampleIdeal.τ).loc Cert.ProjectSampleIdeal.main_arg0)) (m ((c.tc : Thread Cert.ProjectSampleIdeal.nD Cert.ProjectSampleIdeal.τ).loc Cert.ProjectSampleIdeal.main_arg1)) (m ((c.tc : Thread Cert.ProjectSampleIdeal.nD Cert.ProjectSampleIdeal.τ).loc Cert.ProjectSampleIdeal.main_arg2))) (m ((c.tc : Thread Cert.ProjectSampleIdeal.nD Cert.ProjectSampleIdeal.τ).loc Cert.ProjectSampleIdeal.main_arg3)),
    fun c => Cert.ProjectSampleIdeal.Rows.res6 (Cert.ProjectSampleIdeal.Rows.columns (m ((c.tc : Thread Cert.ProjectSampleIdeal.nD Cert.ProjectSampleIdeal.τ).loc Cert.ProjectSampleIdeal.main_arg0)) (m ((c.tc : Thread Cert.ProjectSampleIdeal.nD Cert.ProjectSampleIdeal.τ).loc Cert.ProjectSampleIdeal.main_arg1)) (m ((c.tc : Thread Cert.ProjectSampleIdeal.nD Cert.ProjectSampleIdeal.τ).loc Cert.ProjectSampleIdeal.main_arg2))) (m ((c.tc : Thread Cert.ProjectSampleIdeal.nD Cert.ProjectSampleIdeal.τ).loc Cert.ProjectSampleIdeal.main_arg3)),
    fun c => Cert.ProjectSampleIdeal.Rows.res7 (Cert.ProjectSampleIdeal.Rows.columns (m ((c.tc : Thread Cert.ProjectSampleIdeal.nD Cert.ProjectSampleIdeal.τ).loc Cert.ProjectSampleIdeal.main_arg0)) (m ((c.tc : Thread Cert.ProjectSampleIdeal.nD Cert.ProjectSampleIdeal.τ).loc Cert.ProjectSampleIdeal.main_arg1)) (m ((c.tc : Thread Cert.ProjectSampleIdeal.nD Cert.ProjectSampleIdeal.τ).loc Cert.ProjectSampleIdeal.main_arg2))) (m ((c.tc : Thread Cert.ProjectSampleIdeal.nD Cert.ProjectSampleIdeal.τ).loc Cert.ProjectSampleIdeal.main_arg3)),
    fun c => Cert.ProjectSampleIdeal.Rows.res8 (Cert.ProjectSampleIdeal.Rows.columns (m ((c.tc : Thread Cert.ProjectSampleIdeal.nD Cert.ProjectSampleIdeal.τ).loc Cert.ProjectSampleIdeal.main_arg0)) (m ((c.tc : Thread Cert.ProjectSampleIdeal.nD Cert.ProjectSampleIdeal.τ).loc Cert.ProjectSampleIdeal.main_arg1)) (m ((c.tc : Thread Cert.ProjectSampleIdeal.nD Cert.ProjectSampleIdeal.τ).loc Cert.ProjectSampleIdeal.main_arg2))) (m ((c.tc : Thread Cert.ProjectSampleIdeal.nD Cert.ProjectSampleIdeal.τ).loc Cert.ProjectSampleIdeal.main_arg3)),
    fun c => Cert.ProjectSampleIdeal.Rows.res9 (Cert.ProjectSampleIdeal.Rows.columns (m ((c.tc : Thread Cert.ProjectSampleIdeal.nD Cert.ProjectSampleIdeal.τ).loc Cert.ProjectSampleIdeal.main_arg0)) (m ((c.tc : Thread Cert.ProjectSampleIdeal.nD Cert.ProjectSampleIdeal.τ).loc Cert.ProjectSampleIdeal.main_arg1)) (m ((c.tc : Thread Cert.ProjectSampleIdeal.nD Cert.ProjectSampleIdeal.τ).loc Cert.ProjectSampleIdeal.main_arg2))) (m ((c.tc : Thread Cert.ProjectSampleIdeal.nD Cert.ProjectSampleIdeal.τ).loc Cert.ProjectSampleIdeal.main_arg3)),
    fun c => Cert.ProjectSampleIdeal.Rows.res10 (Cert.ProjectSampleIdeal.Rows.columns (m ((c.tc : Thread Cert.ProjectSampleIdeal.nD Cert.ProjectSampleIdeal.τ).loc Cert.ProjectSampleIdeal.main_arg0)) (m ((c.tc : Thread Cert.ProjectSampleIdeal.nD Cert.ProjectSampleIdeal.τ).loc Cert.ProjectSampleIdeal.main_arg1)) (m ((c.tc : Thread Cert.ProjectSampleIdeal.nD Cert.ProjectSampleIdeal.τ).loc Cert.ProjectSampleIdeal.main_arg2))) (m ((c.tc : Thread Cert.ProjectSampleIdeal.nD Cert.ProjectSampleIdeal.τ).loc Cert.ProjectSampleIdeal.main_arg3)),
    fun c => Cert.ProjectSampleIdeal.Rows.res11 (Cert.ProjectSampleIdeal.Rows.columns (m ((c.tc : Thread Cert.ProjectSampleIdeal.nD Cert.ProjectSampleIdeal.τ).loc Cert.ProjectSampleIdeal.main_arg0)) (m ((c.tc : Thread Cert.ProjectSampleIdeal.nD Cert.ProjectSampleIdeal.τ).loc Cert.ProjectSampleIdeal.main_arg1)) (m ((c.tc : Thread Cert.ProjectSampleIdeal.nD Cert.ProjectSampleIdeal.τ).loc Cert.ProjectSampleIdeal.main_arg2))) (m ((c.tc : Thread Cert.ProjectSampleIdeal.nD Cert.ProjectSampleIdeal.τ).loc Cert.ProjectSampleIdeal.main_arg3)),
    fun c => Cert.ProjectSampleIdeal.Rows.res12 (Cert.ProjectSampleIdeal.Rows.columns (m ((c.tc : Thread Cert.ProjectSampleIdeal.nD Cert.ProjectSampleIdeal.τ).loc Cert.ProjectSampleIdeal.main_arg0)) (m ((c.tc : Thread Cert.ProjectSampleIdeal.nD Cert.ProjectSampleIdeal.τ).loc Cert.ProjectSampleIdeal.main_arg1)) (m ((c.tc : Thread Cert.ProjectSampleIdeal.nD Cert.ProjectSampleIdeal.τ).loc Cert.ProjectSampleIdeal.main_arg2))) (m ((c.tc : Thread Cert.ProjectSampleIdeal.nD Cert.ProjectSampleIdeal.τ).loc Cert.ProjectSampleIdeal.main_arg3)), ?_, ?_⟩
  · exact (θ_run _ _ _).mono (fun r h c => ⟨(h c).1.trans (Cert.ProjectSampleIdeal.Rows.final4 m c), (h c).2.1.trans (Cert.ProjectSampleIdeal.Rows.final5 m c), (h c).2.2.1.trans (Cert.ProjectSampleIdeal.Rows.final6 m c), (h c).2.2.2.1.trans (Cert.ProjectSampleIdeal.Rows.final7 m c), (h c).2.2.2.2.1.trans (Cert.ProjectSampleIdeal.Rows.final8 m c), (h c).2.2.2.2.2.1.trans (Cert.ProjectSampleIdeal.Rows.final9 m c), (h c).2.2.2.2.2.2.1.trans (Cert.ProjectSampleIdeal.Rows.final10 m c), (h c).2.2.2.2.2.2.2.1.trans (Cert.ProjectSampleIdeal.Rows.final11 m c), (h c).2.2.2.2.2.2.2.2.1.trans (Cert.ProjectSampleIdeal.Rows.final12 m c), (h c).2.2.2.2.2.2.2.2.2⟩) (Cert.ProjectSampleIdeal.Value.run_blocks m ρ)
  · refine (θ_run _ _ _).mono (fun r h c => ?_) (Cert.ReferenceProjectSampleIdeal.Value.run m' ρ')
    have e0 := (hag c).1
    have e1 := (hag c).2.1
    have e2 := (hag c).2.2.1
    have e3 := (hag c).2.2.2
    have r0 : _ = Cert.ProjectSampleIdeal.Rows.res4 (Cert.ProjectSampleIdeal.Rows.columns (m ((c.tc : Thread Cert.ProjectSampleIdeal.nD Cert.ProjectSampleIdeal.τ).loc Cert.ProjectSampleIdeal.main_arg0)) (m ((c.tc : Thread Cert.ProjectSampleIdeal.nD Cert.ProjectSampleIdeal.τ).loc Cert.ProjectSampleIdeal.main_arg1)) (m ((c.tc : Thread Cert.ProjectSampleIdeal.nD Cert.ProjectSampleIdeal.τ).loc Cert.ProjectSampleIdeal.main_arg2))) (m ((c.tc : Thread Cert.ProjectSampleIdeal.nD Cert.ProjectSampleIdeal.τ).loc Cert.ProjectSampleIdeal.main_arg3)) := (h c).1.trans (show Cert.ProjectSampleIdeal.Rows.res4 (Cert.ProjectSampleIdeal.Rows.columns (m' ((c.tc : Thread Cert.ReferenceProjectSampleIdeal.nD Cert.ReferenceProjectSampleIdeal.τ).loc Cert.ReferenceProjectSampleIdeal.main_arg0)) (m' ((c.tc : Thread Cert.ReferenceProjectSampleIdeal.nD Cert.ReferenceProjectSampleIdeal.τ).loc Cert.ReferenceProjectSampleIdeal.main_arg1)) (m' ((c.tc : Thread Cert.ReferenceProjectSampleIdeal.nD Cert.ReferenceProjectSampleIdeal.τ).loc Cert.ReferenceProjectSampleIdeal.main_arg2))) (m' ((c.tc : Thread Cert.ReferenceProjectSampleIdeal.nD Cert.ReferenceProjectSampleIdeal.τ).loc Cert.ReferenceProjectSampleIdeal.main_arg3)) = Cert.ProjectSampleIdeal.Rows.res4 (Cert.ProjectSampleIdeal.Rows.columns (m ((c.tc : Thread Cert.ProjectSampleIdeal.nD Cert.ProjectSampleIdeal.τ).loc Cert.ProjectSampleIdeal.main_arg0)) (m ((c.tc : Thread Cert.ProjectSampleIdeal.nD Cert.ProjectSampleIdeal.τ).loc Cert.ProjectSampleIdeal.main_arg1)) (m ((c.tc : Thread Cert.ProjectSampleIdeal.nD Cert.ProjectSampleIdeal.τ).loc Cert.ProjectSampleIdeal.main_arg2))) (m ((c.tc : Thread Cert.ProjectSampleIdeal.nD Cert.ProjectSampleIdeal.τ).loc Cert.ProjectSampleIdeal.main_arg3)) by rw [e0, e1, e2, e3])
    have r1 : _ = Cert.ProjectSampleIdeal.Rows.res5 (Cert.ProjectSampleIdeal.Rows.columns (m ((c.tc : Thread Cert.ProjectSampleIdeal.nD Cert.ProjectSampleIdeal.τ).loc Cert.ProjectSampleIdeal.main_arg0)) (m ((c.tc : Thread Cert.ProjectSampleIdeal.nD Cert.ProjectSampleIdeal.τ).loc Cert.ProjectSampleIdeal.main_arg1)) (m ((c.tc : Thread Cert.ProjectSampleIdeal.nD Cert.ProjectSampleIdeal.τ).loc Cert.ProjectSampleIdeal.main_arg2))) (m ((c.tc : Thread Cert.ProjectSampleIdeal.nD Cert.ProjectSampleIdeal.τ).loc Cert.ProjectSampleIdeal.main_arg3)) := (h c).2.1.trans (show Cert.ProjectSampleIdeal.Rows.res5 (Cert.ProjectSampleIdeal.Rows.columns (m' ((c.tc : Thread Cert.ReferenceProjectSampleIdeal.nD Cert.ReferenceProjectSampleIdeal.τ).loc Cert.ReferenceProjectSampleIdeal.main_arg0)) (m' ((c.tc : Thread Cert.ReferenceProjectSampleIdeal.nD Cert.ReferenceProjectSampleIdeal.τ).loc Cert.ReferenceProjectSampleIdeal.main_arg1)) (m' ((c.tc : Thread Cert.ReferenceProjectSampleIdeal.nD Cert.ReferenceProjectSampleIdeal.τ).loc Cert.ReferenceProjectSampleIdeal.main_arg2))) (m' ((c.tc : Thread Cert.ReferenceProjectSampleIdeal.nD Cert.ReferenceProjectSampleIdeal.τ).loc Cert.ReferenceProjectSampleIdeal.main_arg3)) = Cert.ProjectSampleIdeal.Rows.res5 (Cert.ProjectSampleIdeal.Rows.columns (m ((c.tc : Thread Cert.ProjectSampleIdeal.nD Cert.ProjectSampleIdeal.τ).loc Cert.ProjectSampleIdeal.main_arg0)) (m ((c.tc : Thread Cert.ProjectSampleIdeal.nD Cert.ProjectSampleIdeal.τ).loc Cert.ProjectSampleIdeal.main_arg1)) (m ((c.tc : Thread Cert.ProjectSampleIdeal.nD Cert.ProjectSampleIdeal.τ).loc Cert.ProjectSampleIdeal.main_arg2))) (m ((c.tc : Thread Cert.ProjectSampleIdeal.nD Cert.ProjectSampleIdeal.τ).loc Cert.ProjectSampleIdeal.main_arg3)) by rw [e0, e1, e2, e3])
    have r2 : _ = Cert.ProjectSampleIdeal.Rows.res6 (Cert.ProjectSampleIdeal.Rows.columns (m ((c.tc : Thread Cert.ProjectSampleIdeal.nD Cert.ProjectSampleIdeal.τ).loc Cert.ProjectSampleIdeal.main_arg0)) (m ((c.tc : Thread Cert.ProjectSampleIdeal.nD Cert.ProjectSampleIdeal.τ).loc Cert.ProjectSampleIdeal.main_arg1)) (m ((c.tc : Thread Cert.ProjectSampleIdeal.nD Cert.ProjectSampleIdeal.τ).loc Cert.ProjectSampleIdeal.main_arg2))) (m ((c.tc : Thread Cert.ProjectSampleIdeal.nD Cert.ProjectSampleIdeal.τ).loc Cert.ProjectSampleIdeal.main_arg3)) := (h c).2.2.1.trans (show Cert.ProjectSampleIdeal.Rows.res6 (Cert.ProjectSampleIdeal.Rows.columns (m' ((c.tc : Thread Cert.ReferenceProjectSampleIdeal.nD Cert.ReferenceProjectSampleIdeal.τ).loc Cert.ReferenceProjectSampleIdeal.main_arg0)) (m' ((c.tc : Thread Cert.ReferenceProjectSampleIdeal.nD Cert.ReferenceProjectSampleIdeal.τ).loc Cert.ReferenceProjectSampleIdeal.main_arg1)) (m' ((c.tc : Thread Cert.ReferenceProjectSampleIdeal.nD Cert.ReferenceProjectSampleIdeal.τ).loc Cert.ReferenceProjectSampleIdeal.main_arg2))) (m' ((c.tc : Thread Cert.ReferenceProjectSampleIdeal.nD Cert.ReferenceProjectSampleIdeal.τ).loc Cert.ReferenceProjectSampleIdeal.main_arg3)) = Cert.ProjectSampleIdeal.Rows.res6 (Cert.ProjectSampleIdeal.Rows.columns (m ((c.tc : Thread Cert.ProjectSampleIdeal.nD Cert.ProjectSampleIdeal.τ).loc Cert.ProjectSampleIdeal.main_arg0)) (m ((c.tc : Thread Cert.ProjectSampleIdeal.nD Cert.ProjectSampleIdeal.τ).loc Cert.ProjectSampleIdeal.main_arg1)) (m ((c.tc : Thread Cert.ProjectSampleIdeal.nD Cert.ProjectSampleIdeal.τ).loc Cert.ProjectSampleIdeal.main_arg2))) (m ((c.tc : Thread Cert.ProjectSampleIdeal.nD Cert.ProjectSampleIdeal.τ).loc Cert.ProjectSampleIdeal.main_arg3)) by rw [e0, e1, e2, e3])
    have r3 : _ = Cert.ProjectSampleIdeal.Rows.res7 (Cert.ProjectSampleIdeal.Rows.columns (m ((c.tc : Thread Cert.ProjectSampleIdeal.nD Cert.ProjectSampleIdeal.τ).loc Cert.ProjectSampleIdeal.main_arg0)) (m ((c.tc : Thread Cert.ProjectSampleIdeal.nD Cert.ProjectSampleIdeal.τ).loc Cert.ProjectSampleIdeal.main_arg1)) (m ((c.tc : Thread Cert.ProjectSampleIdeal.nD Cert.ProjectSampleIdeal.τ).loc Cert.ProjectSampleIdeal.main_arg2))) (m ((c.tc : Thread Cert.ProjectSampleIdeal.nD Cert.ProjectSampleIdeal.τ).loc Cert.ProjectSampleIdeal.main_arg3)) := (h c).2.2.2.1.trans (show Cert.ProjectSampleIdeal.Rows.res7 (Cert.ProjectSampleIdeal.Rows.columns (m' ((c.tc : Thread Cert.ReferenceProjectSampleIdeal.nD Cert.ReferenceProjectSampleIdeal.τ).loc Cert.ReferenceProjectSampleIdeal.main_arg0)) (m' ((c.tc : Thread Cert.ReferenceProjectSampleIdeal.nD Cert.ReferenceProjectSampleIdeal.τ).loc Cert.ReferenceProjectSampleIdeal.main_arg1)) (m' ((c.tc : Thread Cert.ReferenceProjectSampleIdeal.nD Cert.ReferenceProjectSampleIdeal.τ).loc Cert.ReferenceProjectSampleIdeal.main_arg2))) (m' ((c.tc : Thread Cert.ReferenceProjectSampleIdeal.nD Cert.ReferenceProjectSampleIdeal.τ).loc Cert.ReferenceProjectSampleIdeal.main_arg3)) = Cert.ProjectSampleIdeal.Rows.res7 (Cert.ProjectSampleIdeal.Rows.columns (m ((c.tc : Thread Cert.ProjectSampleIdeal.nD Cert.ProjectSampleIdeal.τ).loc Cert.ProjectSampleIdeal.main_arg0)) (m ((c.tc : Thread Cert.ProjectSampleIdeal.nD Cert.ProjectSampleIdeal.τ).loc Cert.ProjectSampleIdeal.main_arg1)) (m ((c.tc : Thread Cert.ProjectSampleIdeal.nD Cert.ProjectSampleIdeal.τ).loc Cert.ProjectSampleIdeal.main_arg2))) (m ((c.tc : Thread Cert.ProjectSampleIdeal.nD Cert.ProjectSampleIdeal.τ).loc Cert.ProjectSampleIdeal.main_arg3)) by rw [e0, e1, e2, e3])
    have r4 : _ = Cert.ProjectSampleIdeal.Rows.res8 (Cert.ProjectSampleIdeal.Rows.columns (m ((c.tc : Thread Cert.ProjectSampleIdeal.nD Cert.ProjectSampleIdeal.τ).loc Cert.ProjectSampleIdeal.main_arg0)) (m ((c.tc : Thread Cert.ProjectSampleIdeal.nD Cert.ProjectSampleIdeal.τ).loc Cert.ProjectSampleIdeal.main_arg1)) (m ((c.tc : Thread Cert.ProjectSampleIdeal.nD Cert.ProjectSampleIdeal.τ).loc Cert.ProjectSampleIdeal.main_arg2))) (m ((c.tc : Thread Cert.ProjectSampleIdeal.nD Cert.ProjectSampleIdeal.τ).loc Cert.ProjectSampleIdeal.main_arg3)) := (h c).2.2.2.2.1.trans (show Cert.ProjectSampleIdeal.Rows.res8 (Cert.ProjectSampleIdeal.Rows.columns (m' ((c.tc : Thread Cert.ReferenceProjectSampleIdeal.nD Cert.ReferenceProjectSampleIdeal.τ).loc Cert.ReferenceProjectSampleIdeal.main_arg0)) (m' ((c.tc : Thread Cert.ReferenceProjectSampleIdeal.nD Cert.ReferenceProjectSampleIdeal.τ).loc Cert.ReferenceProjectSampleIdeal.main_arg1)) (m' ((c.tc : Thread Cert.ReferenceProjectSampleIdeal.nD Cert.ReferenceProjectSampleIdeal.τ).loc Cert.ReferenceProjectSampleIdeal.main_arg2))) (m' ((c.tc : Thread Cert.ReferenceProjectSampleIdeal.nD Cert.ReferenceProjectSampleIdeal.τ).loc Cert.ReferenceProjectSampleIdeal.main_arg3)) = Cert.ProjectSampleIdeal.Rows.res8 (Cert.ProjectSampleIdeal.Rows.columns (m ((c.tc : Thread Cert.ProjectSampleIdeal.nD Cert.ProjectSampleIdeal.τ).loc Cert.ProjectSampleIdeal.main_arg0)) (m ((c.tc : Thread Cert.ProjectSampleIdeal.nD Cert.ProjectSampleIdeal.τ).loc Cert.ProjectSampleIdeal.main_arg1)) (m ((c.tc : Thread Cert.ProjectSampleIdeal.nD Cert.ProjectSampleIdeal.τ).loc Cert.ProjectSampleIdeal.main_arg2))) (m ((c.tc : Thread Cert.ProjectSampleIdeal.nD Cert.ProjectSampleIdeal.τ).loc Cert.ProjectSampleIdeal.main_arg3)) by rw [e0, e1, e2, e3])
    have r5 : _ = Cert.ProjectSampleIdeal.Rows.res9 (Cert.ProjectSampleIdeal.Rows.columns (m ((c.tc : Thread Cert.ProjectSampleIdeal.nD Cert.ProjectSampleIdeal.τ).loc Cert.ProjectSampleIdeal.main_arg0)) (m ((c.tc : Thread Cert.ProjectSampleIdeal.nD Cert.ProjectSampleIdeal.τ).loc Cert.ProjectSampleIdeal.main_arg1)) (m ((c.tc : Thread Cert.ProjectSampleIdeal.nD Cert.ProjectSampleIdeal.τ).loc Cert.ProjectSampleIdeal.main_arg2))) (m ((c.tc : Thread Cert.ProjectSampleIdeal.nD Cert.ProjectSampleIdeal.τ).loc Cert.ProjectSampleIdeal.main_arg3)) := (h c).2.2.2.2.2.1.trans (show Cert.ProjectSampleIdeal.Rows.res9 (Cert.ProjectSampleIdeal.Rows.columns (m' ((c.tc : Thread Cert.ReferenceProjectSampleIdeal.nD Cert.ReferenceProjectSampleIdeal.τ).loc Cert.ReferenceProjectSampleIdeal.main_arg0)) (m' ((c.tc : Thread Cert.ReferenceProjectSampleIdeal.nD Cert.ReferenceProjectSampleIdeal.τ).loc Cert.ReferenceProjectSampleIdeal.main_arg1)) (m' ((c.tc : Thread Cert.ReferenceProjectSampleIdeal.nD Cert.ReferenceProjectSampleIdeal.τ).loc Cert.ReferenceProjectSampleIdeal.main_arg2))) (m' ((c.tc : Thread Cert.ReferenceProjectSampleIdeal.nD Cert.ReferenceProjectSampleIdeal.τ).loc Cert.ReferenceProjectSampleIdeal.main_arg3)) = Cert.ProjectSampleIdeal.Rows.res9 (Cert.ProjectSampleIdeal.Rows.columns (m ((c.tc : Thread Cert.ProjectSampleIdeal.nD Cert.ProjectSampleIdeal.τ).loc Cert.ProjectSampleIdeal.main_arg0)) (m ((c.tc : Thread Cert.ProjectSampleIdeal.nD Cert.ProjectSampleIdeal.τ).loc Cert.ProjectSampleIdeal.main_arg1)) (m ((c.tc : Thread Cert.ProjectSampleIdeal.nD Cert.ProjectSampleIdeal.τ).loc Cert.ProjectSampleIdeal.main_arg2))) (m ((c.tc : Thread Cert.ProjectSampleIdeal.nD Cert.ProjectSampleIdeal.τ).loc Cert.ProjectSampleIdeal.main_arg3)) by rw [e0, e1, e2, e3])
    have r6 : _ = Cert.ProjectSampleIdeal.Rows.res10 (Cert.ProjectSampleIdeal.Rows.columns (m ((c.tc : Thread Cert.ProjectSampleIdeal.nD Cert.ProjectSampleIdeal.τ).loc Cert.ProjectSampleIdeal.main_arg0)) (m ((c.tc : Thread Cert.ProjectSampleIdeal.nD Cert.ProjectSampleIdeal.τ).loc Cert.ProjectSampleIdeal.main_arg1)) (m ((c.tc : Thread Cert.ProjectSampleIdeal.nD Cert.ProjectSampleIdeal.τ).loc Cert.ProjectSampleIdeal.main_arg2))) (m ((c.tc : Thread Cert.ProjectSampleIdeal.nD Cert.ProjectSampleIdeal.τ).loc Cert.ProjectSampleIdeal.main_arg3)) := (h c).2.2.2.2.2.2.1.trans (show Cert.ProjectSampleIdeal.Rows.res10 (Cert.ProjectSampleIdeal.Rows.columns (m' ((c.tc : Thread Cert.ReferenceProjectSampleIdeal.nD Cert.ReferenceProjectSampleIdeal.τ).loc Cert.ReferenceProjectSampleIdeal.main_arg0)) (m' ((c.tc : Thread Cert.ReferenceProjectSampleIdeal.nD Cert.ReferenceProjectSampleIdeal.τ).loc Cert.ReferenceProjectSampleIdeal.main_arg1)) (m' ((c.tc : Thread Cert.ReferenceProjectSampleIdeal.nD Cert.ReferenceProjectSampleIdeal.τ).loc Cert.ReferenceProjectSampleIdeal.main_arg2))) (m' ((c.tc : Thread Cert.ReferenceProjectSampleIdeal.nD Cert.ReferenceProjectSampleIdeal.τ).loc Cert.ReferenceProjectSampleIdeal.main_arg3)) = Cert.ProjectSampleIdeal.Rows.res10 (Cert.ProjectSampleIdeal.Rows.columns (m ((c.tc : Thread Cert.ProjectSampleIdeal.nD Cert.ProjectSampleIdeal.τ).loc Cert.ProjectSampleIdeal.main_arg0)) (m ((c.tc : Thread Cert.ProjectSampleIdeal.nD Cert.ProjectSampleIdeal.τ).loc Cert.ProjectSampleIdeal.main_arg1)) (m ((c.tc : Thread Cert.ProjectSampleIdeal.nD Cert.ProjectSampleIdeal.τ).loc Cert.ProjectSampleIdeal.main_arg2))) (m ((c.tc : Thread Cert.ProjectSampleIdeal.nD Cert.ProjectSampleIdeal.τ).loc Cert.ProjectSampleIdeal.main_arg3)) by rw [e0, e1, e2, e3])
    have r7 : _ = Cert.ProjectSampleIdeal.Rows.res11 (Cert.ProjectSampleIdeal.Rows.columns (m ((c.tc : Thread Cert.ProjectSampleIdeal.nD Cert.ProjectSampleIdeal.τ).loc Cert.ProjectSampleIdeal.main_arg0)) (m ((c.tc : Thread Cert.ProjectSampleIdeal.nD Cert.ProjectSampleIdeal.τ).loc Cert.ProjectSampleIdeal.main_arg1)) (m ((c.tc : Thread Cert.ProjectSampleIdeal.nD Cert.ProjectSampleIdeal.τ).loc Cert.ProjectSampleIdeal.main_arg2))) (m ((c.tc : Thread Cert.ProjectSampleIdeal.nD Cert.ProjectSampleIdeal.τ).loc Cert.ProjectSampleIdeal.main_arg3)) := (h c).2.2.2.2.2.2.2.1.trans (show Cert.ProjectSampleIdeal.Rows.res11 (Cert.ProjectSampleIdeal.Rows.columns (m' ((c.tc : Thread Cert.ReferenceProjectSampleIdeal.nD Cert.ReferenceProjectSampleIdeal.τ).loc Cert.ReferenceProjectSampleIdeal.main_arg0)) (m' ((c.tc : Thread Cert.ReferenceProjectSampleIdeal.nD Cert.ReferenceProjectSampleIdeal.τ).loc Cert.ReferenceProjectSampleIdeal.main_arg1)) (m' ((c.tc : Thread Cert.ReferenceProjectSampleIdeal.nD Cert.ReferenceProjectSampleIdeal.τ).loc Cert.ReferenceProjectSampleIdeal.main_arg2))) (m' ((c.tc : Thread Cert.ReferenceProjectSampleIdeal.nD Cert.ReferenceProjectSampleIdeal.τ).loc Cert.ReferenceProjectSampleIdeal.main_arg3)) = Cert.ProjectSampleIdeal.Rows.res11 (Cert.ProjectSampleIdeal.Rows.columns (m ((c.tc : Thread Cert.ProjectSampleIdeal.nD Cert.ProjectSampleIdeal.τ).loc Cert.ProjectSampleIdeal.main_arg0)) (m ((c.tc : Thread Cert.ProjectSampleIdeal.nD Cert.ProjectSampleIdeal.τ).loc Cert.ProjectSampleIdeal.main_arg1)) (m ((c.tc : Thread Cert.ProjectSampleIdeal.nD Cert.ProjectSampleIdeal.τ).loc Cert.ProjectSampleIdeal.main_arg2))) (m ((c.tc : Thread Cert.ProjectSampleIdeal.nD Cert.ProjectSampleIdeal.τ).loc Cert.ProjectSampleIdeal.main_arg3)) by rw [e0, e1, e2, e3])
    have r8 : _ = Cert.ProjectSampleIdeal.Rows.res12 (Cert.ProjectSampleIdeal.Rows.columns (m ((c.tc : Thread Cert.ProjectSampleIdeal.nD Cert.ProjectSampleIdeal.τ).loc Cert.ProjectSampleIdeal.main_arg0)) (m ((c.tc : Thread Cert.ProjectSampleIdeal.nD Cert.ProjectSampleIdeal.τ).loc Cert.ProjectSampleIdeal.main_arg1)) (m ((c.tc : Thread Cert.ProjectSampleIdeal.nD Cert.ProjectSampleIdeal.τ).loc Cert.ProjectSampleIdeal.main_arg2))) (m ((c.tc : Thread Cert.ProjectSampleIdeal.nD Cert.ProjectSampleIdeal.τ).loc Cert.ProjectSampleIdeal.main_arg3)) := (h c).2.2.2.2.2.2.2.2.1.trans (show Cert.ProjectSampleIdeal.Rows.res12 (Cert.ProjectSampleIdeal.Rows.columns (m' ((c.tc : Thread Cert.ReferenceProjectSampleIdeal.nD Cert.ReferenceProjectSampleIdeal.τ).loc Cert.ReferenceProjectSampleIdeal.main_arg0)) (m' ((c.tc : Thread Cert.ReferenceProjectSampleIdeal.nD Cert.ReferenceProjectSampleIdeal.τ).loc Cert.ReferenceProjectSampleIdeal.main_arg1)) (m' ((c.tc : Thread Cert.ReferenceProjectSampleIdeal.nD Cert.ReferenceProjectSampleIdeal.τ).loc Cert.ReferenceProjectSampleIdeal.main_arg2))) (m' ((c.tc : Thread Cert.ReferenceProjectSampleIdeal.nD Cert.ReferenceProjectSampleIdeal.τ).loc Cert.ReferenceProjectSampleIdeal.main_arg3)) = Cert.ProjectSampleIdeal.Rows.res12 (Cert.ProjectSampleIdeal.Rows.columns (m ((c.tc : Thread Cert.ProjectSampleIdeal.nD Cert.ProjectSampleIdeal.τ).loc Cert.ProjectSampleIdeal.main_arg0)) (m ((c.tc : Thread Cert.ProjectSampleIdeal.nD Cert.ProjectSampleIdeal.τ).loc Cert.ProjectSampleIdeal.main_arg1)) (m ((c.tc : Thread Cert.ProjectSampleIdeal.nD Cert.ProjectSampleIdeal.τ).loc Cert.ProjectSampleIdeal.main_arg2))) (m ((c.tc : Thread Cert.ProjectSampleIdeal.nD Cert.ProjectSampleIdeal.τ).loc Cert.ProjectSampleIdeal.main_arg3)) by rw [e0, e1, e2, e3])
    exact ⟨r0, r1, r2, r3, r4, r5, r6, r7, r8, (h c).2.2.2.2.2.2.2.2.2⟩

theorem frame_MergePrompt : Cert.quiescent_ReferenceMergePromptIdeal (hReferenceMergePromptIdeal := Cert.ReferenceMergePromptIdeal.Gen.facts) :=
  fun m ρ _ => (θ_run _ _ _).mono (fun r h => ⟨fun c => (h c).2, sem_eq_zero_of_no_sems (by decide) r.2⟩) (Cert.ReferenceMergePromptIdeal.Value.run m ρ)

theorem value_MergePrompt : Cert.algebraic_MergePromptIdeal_ReferenceMergePromptIdeal (hMergePromptIdeal := Cert.MergePromptIdeal.Gen.facts)
    (hReferenceMergePromptIdeal := Cert.ReferenceMergePromptIdeal.Gen.facts) := by
  intro m ρ m' ρ' _ hag
  refine ⟨fun c => Cert.MergePromptIdeal.Rows.merged (m ((c.tc : Thread Cert.MergePromptIdeal.nD Cert.MergePromptIdeal.τ).loc Cert.MergePromptIdeal.main_arg0)) (m ((c.tc : Thread Cert.MergePromptIdeal.nD Cert.MergePromptIdeal.τ).loc Cert.MergePromptIdeal.main_arg1)) (m ((c.tc : Thread Cert.MergePromptIdeal.nD Cert.MergePromptIdeal.τ).loc Cert.MergePromptIdeal.main_arg2)) (m ((c.tc : Thread Cert.MergePromptIdeal.nD Cert.MergePromptIdeal.τ).loc Cert.MergePromptIdeal.main_arg3)) (m ((c.tc : Thread Cert.MergePromptIdeal.nD Cert.MergePromptIdeal.τ).loc Cert.MergePromptIdeal.main_arg4)) (m ((c.tc : Thread Cert.MergePromptIdeal.nD Cert.MergePromptIdeal.τ).loc Cert.MergePromptIdeal.main_arg5)) (m ((c.tc : Thread Cert.MergePromptIdeal.nD Cert.MergePromptIdeal.τ).loc Cert.MergePromptIdeal.main_arg6)) (m ((c.tc : Thread Cert.MergePromptIdeal.nD Cert.MergePromptIdeal.τ).loc Cert.MergePromptIdeal.main_arg7)), ?_, ?_⟩
  · exact (θ_run _ _ _).mono (fun r h c => ⟨(h c).1.trans (Cert.MergePromptIdeal.Rows.final m c), (h c).2⟩) (Cert.MergePromptIdeal.Value.run_blocks m ρ)
  · refine (θ_run _ _ _).mono (fun r h c => ?_) (Cert.ReferenceMergePromptIdeal.Value.run m' ρ')
    have e0 := (hag c).1
    have e1 := (hag c).2.1
    have e2 := (hag c).2.2.1
    have e3 := (hag c).2.2.2.1
    have e4 := (hag c).2.2.2.2.1
    have e5 := (hag c).2.2.2.2.2.1
    have e6 := (hag c).2.2.2.2.2.2.1
    have e7 := (hag c).2.2.2.2.2.2.2
    have r0 : _ = Cert.MergePromptIdeal.Rows.merged (m ((c.tc : Thread Cert.MergePromptIdeal.nD Cert.MergePromptIdeal.τ).loc Cert.MergePromptIdeal.main_arg0)) (m ((c.tc : Thread Cert.MergePromptIdeal.nD Cert.MergePromptIdeal.τ).loc Cert.MergePromptIdeal.main_arg1)) (m ((c.tc : Thread Cert.MergePromptIdeal.nD Cert.MergePromptIdeal.τ).loc Cert.MergePromptIdeal.main_arg2)) (m ((c.tc : Thread Cert.MergePromptIdeal.nD Cert.MergePromptIdeal.τ).loc Cert.MergePromptIdeal.main_arg3)) (m ((c.tc : Thread Cert.MergePromptIdeal.nD Cert.MergePromptIdeal.τ).loc Cert.MergePromptIdeal.main_arg4)) (m ((c.tc : Thread Cert.MergePromptIdeal.nD Cert.MergePromptIdeal.τ).loc Cert.MergePromptIdeal.main_arg5)) (m ((c.tc : Thread Cert.MergePromptIdeal.nD Cert.MergePromptIdeal.τ).loc Cert.MergePromptIdeal.main_arg6)) (m ((c.tc : Thread Cert.MergePromptIdeal.nD Cert.MergePromptIdeal.τ).loc Cert.MergePromptIdeal.main_arg7)) := (h c).1.trans (show Cert.MergePromptIdeal.Rows.merged (m' ((c.tc : Thread Cert.ReferenceMergePromptIdeal.nD Cert.ReferenceMergePromptIdeal.τ).loc Cert.ReferenceMergePromptIdeal.main_arg0)) (m' ((c.tc : Thread Cert.ReferenceMergePromptIdeal.nD Cert.ReferenceMergePromptIdeal.τ).loc Cert.ReferenceMergePromptIdeal.main_arg1)) (m' ((c.tc : Thread Cert.ReferenceMergePromptIdeal.nD Cert.ReferenceMergePromptIdeal.τ).loc Cert.ReferenceMergePromptIdeal.main_arg2)) (m' ((c.tc : Thread Cert.ReferenceMergePromptIdeal.nD Cert.ReferenceMergePromptIdeal.τ).loc Cert.ReferenceMergePromptIdeal.main_arg3)) (m' ((c.tc : Thread Cert.ReferenceMergePromptIdeal.nD Cert.ReferenceMergePromptIdeal.τ).loc Cert.ReferenceMergePromptIdeal.main_arg4)) (m' ((c.tc : Thread Cert.ReferenceMergePromptIdeal.nD Cert.ReferenceMergePromptIdeal.τ).loc Cert.ReferenceMergePromptIdeal.main_arg5)) (m' ((c.tc : Thread Cert.ReferenceMergePromptIdeal.nD Cert.ReferenceMergePromptIdeal.τ).loc Cert.ReferenceMergePromptIdeal.main_arg6)) (m' ((c.tc : Thread Cert.ReferenceMergePromptIdeal.nD Cert.ReferenceMergePromptIdeal.τ).loc Cert.ReferenceMergePromptIdeal.main_arg7)) = Cert.MergePromptIdeal.Rows.merged (m ((c.tc : Thread Cert.MergePromptIdeal.nD Cert.MergePromptIdeal.τ).loc Cert.MergePromptIdeal.main_arg0)) (m ((c.tc : Thread Cert.MergePromptIdeal.nD Cert.MergePromptIdeal.τ).loc Cert.MergePromptIdeal.main_arg1)) (m ((c.tc : Thread Cert.MergePromptIdeal.nD Cert.MergePromptIdeal.τ).loc Cert.MergePromptIdeal.main_arg2)) (m ((c.tc : Thread Cert.MergePromptIdeal.nD Cert.MergePromptIdeal.τ).loc Cert.MergePromptIdeal.main_arg3)) (m ((c.tc : Thread Cert.MergePromptIdeal.nD Cert.MergePromptIdeal.τ).loc Cert.MergePromptIdeal.main_arg4)) (m ((c.tc : Thread Cert.MergePromptIdeal.nD Cert.MergePromptIdeal.τ).loc Cert.MergePromptIdeal.main_arg5)) (m ((c.tc : Thread Cert.MergePromptIdeal.nD Cert.MergePromptIdeal.τ).loc Cert.MergePromptIdeal.main_arg6)) (m ((c.tc : Thread Cert.MergePromptIdeal.nD Cert.MergePromptIdeal.τ).loc Cert.MergePromptIdeal.main_arg7)) by rw [e0, e1, e2, e3, e4, e5, e6, e7])
    exact ⟨r0, (h c).2⟩

theorem frame_MergeSample : Cert.quiescent_ReferenceMergeSampleIdeal (hReferenceMergeSampleIdeal := Cert.ReferenceMergeSampleIdeal.Gen.facts) :=
  fun m ρ _ => (θ_run _ _ _).mono (fun r h => ⟨fun c => (h c).2, sem_eq_zero_of_no_sems (by decide) r.2⟩) (Cert.ReferenceMergeSampleIdeal.Value.run m ρ)

theorem value_MergeSample : Cert.algebraic_MergeSampleIdeal_ReferenceMergeSampleIdeal (hMergeSampleIdeal := Cert.MergeSampleIdeal.Gen.facts)
    (hReferenceMergeSampleIdeal := Cert.ReferenceMergeSampleIdeal.Gen.facts) := by
  intro m ρ m' ρ' _ hag
  refine ⟨fun c => Cert.MergeSampleIdeal.Rows.merged (m ((c.tc : Thread Cert.MergeSampleIdeal.nD Cert.MergeSampleIdeal.τ).loc Cert.MergeSampleIdeal.main_arg0)) (m ((c.tc : Thread Cert.MergeSampleIdeal.nD Cert.MergeSampleIdeal.τ).loc Cert.MergeSampleIdeal.main_arg1)) (m ((c.tc : Thread Cert.MergeSampleIdeal.nD Cert.MergeSampleIdeal.τ).loc Cert.MergeSampleIdeal.main_arg2)) (m ((c.tc : Thread Cert.MergeSampleIdeal.nD Cert.MergeSampleIdeal.τ).loc Cert.MergeSampleIdeal.main_arg3)) (m ((c.tc : Thread Cert.MergeSampleIdeal.nD Cert.MergeSampleIdeal.τ).loc Cert.MergeSampleIdeal.main_arg4)) (m ((c.tc : Thread Cert.MergeSampleIdeal.nD Cert.MergeSampleIdeal.τ).loc Cert.MergeSampleIdeal.main_arg5)) (m ((c.tc : Thread Cert.MergeSampleIdeal.nD Cert.MergeSampleIdeal.τ).loc Cert.MergeSampleIdeal.main_arg6)) (m ((c.tc : Thread Cert.MergeSampleIdeal.nD Cert.MergeSampleIdeal.τ).loc Cert.MergeSampleIdeal.main_arg7)), ?_, ?_⟩
  · exact (θ_run _ _ _).mono (fun r h c => ⟨(h c).1.trans (Cert.MergeSampleIdeal.Rows.final m c), (h c).2⟩) (Cert.MergeSampleIdeal.Value.run_blocks m ρ)
  · refine (θ_run _ _ _).mono (fun r h c => ?_) (Cert.ReferenceMergeSampleIdeal.Value.run m' ρ')
    have e0 := (hag c).1
    have e1 := (hag c).2.1
    have e2 := (hag c).2.2.1
    have e3 := (hag c).2.2.2.1
    have e4 := (hag c).2.2.2.2.1
    have e5 := (hag c).2.2.2.2.2.1
    have e6 := (hag c).2.2.2.2.2.2.1
    have e7 := (hag c).2.2.2.2.2.2.2
    have r0 : _ = Cert.MergeSampleIdeal.Rows.merged (m ((c.tc : Thread Cert.MergeSampleIdeal.nD Cert.MergeSampleIdeal.τ).loc Cert.MergeSampleIdeal.main_arg0)) (m ((c.tc : Thread Cert.MergeSampleIdeal.nD Cert.MergeSampleIdeal.τ).loc Cert.MergeSampleIdeal.main_arg1)) (m ((c.tc : Thread Cert.MergeSampleIdeal.nD Cert.MergeSampleIdeal.τ).loc Cert.MergeSampleIdeal.main_arg2)) (m ((c.tc : Thread Cert.MergeSampleIdeal.nD Cert.MergeSampleIdeal.τ).loc Cert.MergeSampleIdeal.main_arg3)) (m ((c.tc : Thread Cert.MergeSampleIdeal.nD Cert.MergeSampleIdeal.τ).loc Cert.MergeSampleIdeal.main_arg4)) (m ((c.tc : Thread Cert.MergeSampleIdeal.nD Cert.MergeSampleIdeal.τ).loc Cert.MergeSampleIdeal.main_arg5)) (m ((c.tc : Thread Cert.MergeSampleIdeal.nD Cert.MergeSampleIdeal.τ).loc Cert.MergeSampleIdeal.main_arg6)) (m ((c.tc : Thread Cert.MergeSampleIdeal.nD Cert.MergeSampleIdeal.τ).loc Cert.MergeSampleIdeal.main_arg7)) := (h c).1.trans (show Cert.MergeSampleIdeal.Rows.merged (m' ((c.tc : Thread Cert.ReferenceMergeSampleIdeal.nD Cert.ReferenceMergeSampleIdeal.τ).loc Cert.ReferenceMergeSampleIdeal.main_arg0)) (m' ((c.tc : Thread Cert.ReferenceMergeSampleIdeal.nD Cert.ReferenceMergeSampleIdeal.τ).loc Cert.ReferenceMergeSampleIdeal.main_arg1)) (m' ((c.tc : Thread Cert.ReferenceMergeSampleIdeal.nD Cert.ReferenceMergeSampleIdeal.τ).loc Cert.ReferenceMergeSampleIdeal.main_arg2)) (m' ((c.tc : Thread Cert.ReferenceMergeSampleIdeal.nD Cert.ReferenceMergeSampleIdeal.τ).loc Cert.ReferenceMergeSampleIdeal.main_arg3)) (m' ((c.tc : Thread Cert.ReferenceMergeSampleIdeal.nD Cert.ReferenceMergeSampleIdeal.τ).loc Cert.ReferenceMergeSampleIdeal.main_arg4)) (m' ((c.tc : Thread Cert.ReferenceMergeSampleIdeal.nD Cert.ReferenceMergeSampleIdeal.τ).loc Cert.ReferenceMergeSampleIdeal.main_arg5)) (m' ((c.tc : Thread Cert.ReferenceMergeSampleIdeal.nD Cert.ReferenceMergeSampleIdeal.τ).loc Cert.ReferenceMergeSampleIdeal.main_arg6)) (m' ((c.tc : Thread Cert.ReferenceMergeSampleIdeal.nD Cert.ReferenceMergeSampleIdeal.τ).loc Cert.ReferenceMergeSampleIdeal.main_arg7)) = Cert.MergeSampleIdeal.Rows.merged (m ((c.tc : Thread Cert.MergeSampleIdeal.nD Cert.MergeSampleIdeal.τ).loc Cert.MergeSampleIdeal.main_arg0)) (m ((c.tc : Thread Cert.MergeSampleIdeal.nD Cert.MergeSampleIdeal.τ).loc Cert.MergeSampleIdeal.main_arg1)) (m ((c.tc : Thread Cert.MergeSampleIdeal.nD Cert.MergeSampleIdeal.τ).loc Cert.MergeSampleIdeal.main_arg2)) (m ((c.tc : Thread Cert.MergeSampleIdeal.nD Cert.MergeSampleIdeal.τ).loc Cert.MergeSampleIdeal.main_arg3)) (m ((c.tc : Thread Cert.MergeSampleIdeal.nD Cert.MergeSampleIdeal.τ).loc Cert.MergeSampleIdeal.main_arg4)) (m ((c.tc : Thread Cert.MergeSampleIdeal.nD Cert.MergeSampleIdeal.τ).loc Cert.MergeSampleIdeal.main_arg5)) (m ((c.tc : Thread Cert.MergeSampleIdeal.nD Cert.MergeSampleIdeal.τ).loc Cert.MergeSampleIdeal.main_arg6)) (m ((c.tc : Thread Cert.MergeSampleIdeal.nD Cert.MergeSampleIdeal.τ).loc Cert.MergeSampleIdeal.main_arg7)) by rw [e0, e1, e2, e3, e4, e5, e6, e7])
    exact ⟨r0, (h c).2⟩

theorem frame_RetentionSample : Cert.quiescent_ReferenceRetentionSampleIdeal (hReferenceRetentionSampleIdeal := Cert.ReferenceRetentionSampleIdeal.Gen.facts) :=
  fun m ρ _ => (θ_run _ _ _).mono (fun r h => ⟨fun c => (h c).2.2, sem_eq_zero_of_no_sems (by decide) r.2⟩) (Cert.ReferenceRetentionSampleIdeal.Value.run m ρ)

theorem value_RetentionSample : Cert.algebraic_RetentionSampleIdeal_ReferenceRetentionSampleIdeal (hRetentionSampleIdeal := Cert.RetentionSampleIdeal.Gen.facts)
    (hReferenceRetentionSampleIdeal := Cert.ReferenceRetentionSampleIdeal.Gen.facts) := by
  intro m ρ m' ρ' _ hag
  refine ⟨fun c => Cert.RetentionSampleIdeal.Sample.refGate (Cert.RetentionSampleIdeal.Sample.refChunk (m ((c.tc : Thread Cert.RetentionSampleIdeal.nD Cert.RetentionSampleIdeal.τ).loc Cert.RetentionSampleIdeal.main_arg0)) (m ((c.tc : Thread Cert.RetentionSampleIdeal.nD Cert.RetentionSampleIdeal.τ).loc Cert.RetentionSampleIdeal.main_arg1)) (m ((c.tc : Thread Cert.RetentionSampleIdeal.nD Cert.RetentionSampleIdeal.τ).loc Cert.RetentionSampleIdeal.main_arg2)) (m ((c.tc : Thread Cert.RetentionSampleIdeal.nD Cert.RetentionSampleIdeal.τ).loc Cert.RetentionSampleIdeal.main_arg4))) (m ((c.tc : Thread Cert.RetentionSampleIdeal.nD Cert.RetentionSampleIdeal.τ).loc Cert.RetentionSampleIdeal.main_arg3)),
    fun c => Cert.RetentionSampleIdeal.Sample.refState (m ((c.tc : Thread Cert.RetentionSampleIdeal.nD Cert.RetentionSampleIdeal.τ).loc Cert.RetentionSampleIdeal.main_arg1)) (m ((c.tc : Thread Cert.RetentionSampleIdeal.nD Cert.RetentionSampleIdeal.τ).loc Cert.RetentionSampleIdeal.main_arg2)) (m ((c.tc : Thread Cert.RetentionSampleIdeal.nD Cert.RetentionSampleIdeal.τ).loc Cert.RetentionSampleIdeal.main_arg4)), ?_, ?_⟩
  · exact (θ_run _ _ _).mono (fun r h c => ⟨(h c).1.trans (Cert.RetentionSampleIdeal.Sample.arr9 m c), (h c).2.1.trans (Cert.RetentionSampleIdeal.Sample.arr10 m c), (h c).2.2⟩) (Cert.RetentionSampleIdeal.Value.run_blocks m ρ)
  · refine (θ_run _ _ _).mono (fun r h c => ?_) (Cert.ReferenceRetentionSampleIdeal.Value.run m' ρ')
    have e0 := (hag c).1
    have e1 := (hag c).2.1
    have e2 := (hag c).2.2.1
    have e3 := (hag c).2.2.2.1
    have e4 := (hag c).2.2.2.2
    have r0 : _ = Cert.RetentionSampleIdeal.Sample.refGate (Cert.RetentionSampleIdeal.Sample.refChunk (m ((c.tc : Thread Cert.RetentionSampleIdeal.nD Cert.RetentionSampleIdeal.τ).loc Cert.RetentionSampleIdeal.main_arg0)) (m ((c.tc : Thread Cert.RetentionSampleIdeal.nD Cert.RetentionSampleIdeal.τ).loc Cert.RetentionSampleIdeal.main_arg1)) (m ((c.tc : Thread Cert.RetentionSampleIdeal.nD Cert.RetentionSampleIdeal.τ).loc Cert.RetentionSampleIdeal.main_arg2)) (m ((c.tc : Thread Cert.RetentionSampleIdeal.nD Cert.RetentionSampleIdeal.τ).loc Cert.RetentionSampleIdeal.main_arg4))) (m ((c.tc : Thread Cert.RetentionSampleIdeal.nD Cert.RetentionSampleIdeal.τ).loc Cert.RetentionSampleIdeal.main_arg3)) := (h c).1.trans (show Cert.RetentionSampleIdeal.Sample.refGate (Cert.RetentionSampleIdeal.Sample.refChunk (m' ((c.tc : Thread Cert.ReferenceRetentionSampleIdeal.nD Cert.ReferenceRetentionSampleIdeal.τ).loc Cert.ReferenceRetentionSampleIdeal.main_arg0)) (m' ((c.tc : Thread Cert.ReferenceRetentionSampleIdeal.nD Cert.ReferenceRetentionSampleIdeal.τ).loc Cert.ReferenceRetentionSampleIdeal.main_arg1)) (m' ((c.tc : Thread Cert.ReferenceRetentionSampleIdeal.nD Cert.ReferenceRetentionSampleIdeal.τ).loc Cert.ReferenceRetentionSampleIdeal.main_arg2)) (m' ((c.tc : Thread Cert.ReferenceRetentionSampleIdeal.nD Cert.ReferenceRetentionSampleIdeal.τ).loc Cert.ReferenceRetentionSampleIdeal.main_arg4))) (m' ((c.tc : Thread Cert.ReferenceRetentionSampleIdeal.nD Cert.ReferenceRetentionSampleIdeal.τ).loc Cert.ReferenceRetentionSampleIdeal.main_arg3)) = Cert.RetentionSampleIdeal.Sample.refGate (Cert.RetentionSampleIdeal.Sample.refChunk (m ((c.tc : Thread Cert.RetentionSampleIdeal.nD Cert.RetentionSampleIdeal.τ).loc Cert.RetentionSampleIdeal.main_arg0)) (m ((c.tc : Thread Cert.RetentionSampleIdeal.nD Cert.RetentionSampleIdeal.τ).loc Cert.RetentionSampleIdeal.main_arg1)) (m ((c.tc : Thread Cert.RetentionSampleIdeal.nD Cert.RetentionSampleIdeal.τ).loc Cert.RetentionSampleIdeal.main_arg2)) (m ((c.tc : Thread Cert.RetentionSampleIdeal.nD Cert.RetentionSampleIdeal.τ).loc Cert.RetentionSampleIdeal.main_arg4))) (m ((c.tc : Thread Cert.RetentionSampleIdeal.nD Cert.RetentionSampleIdeal.τ).loc Cert.RetentionSampleIdeal.main_arg3)) by rw [e0, e1, e2, e3, e4])
    have r1 : _ = Cert.RetentionSampleIdeal.Sample.refState (m ((c.tc : Thread Cert.RetentionSampleIdeal.nD Cert.RetentionSampleIdeal.τ).loc Cert.RetentionSampleIdeal.main_arg1)) (m ((c.tc : Thread Cert.RetentionSampleIdeal.nD Cert.RetentionSampleIdeal.τ).loc Cert.RetentionSampleIdeal.main_arg2)) (m ((c.tc : Thread Cert.RetentionSampleIdeal.nD Cert.RetentionSampleIdeal.τ).loc Cert.RetentionSampleIdeal.main_arg4)) := (h c).2.1.trans (show Cert.RetentionSampleIdeal.Sample.refState (m' ((c.tc : Thread Cert.ReferenceRetentionSampleIdeal.nD Cert.ReferenceRetentionSampleIdeal.τ).loc Cert.ReferenceRetentionSampleIdeal.main_arg1)) (m' ((c.tc : Thread Cert.ReferenceRetentionSampleIdeal.nD Cert.ReferenceRetentionSampleIdeal.τ).loc Cert.ReferenceRetentionSampleIdeal.main_arg2)) (m' ((c.tc : Thread Cert.ReferenceRetentionSampleIdeal.nD Cert.ReferenceRetentionSampleIdeal.τ).loc Cert.ReferenceRetentionSampleIdeal.main_arg4)) = Cert.RetentionSampleIdeal.Sample.refState (m ((c.tc : Thread Cert.RetentionSampleIdeal.nD Cert.RetentionSampleIdeal.τ).loc Cert.RetentionSampleIdeal.main_arg1)) (m ((c.tc : Thread Cert.RetentionSampleIdeal.nD Cert.RetentionSampleIdeal.τ).loc Cert.RetentionSampleIdeal.main_arg2)) (m ((c.tc : Thread Cert.RetentionSampleIdeal.nD Cert.RetentionSampleIdeal.τ).loc Cert.RetentionSampleIdeal.main_arg4)) by rw [e1, e2, e4])
    exact ⟨r0, r1, (h c).2.2⟩

theorem frame_FinishPrompt : Cert.quiescent_ReferenceFinishPromptIdeal (hReferenceFinishPromptIdeal := Cert.ReferenceFinishPromptIdeal.Gen.facts) :=
  fun m ρ _ => (θ_run _ _ _).mono (fun r h => ⟨fun c => (h c).2, sem_eq_zero_of_no_sems (by decide) r.2⟩) (Cert.ReferenceFinishPromptIdeal.Value.run m ρ)

theorem value_FinishPrompt : Cert.algebraic_FinishPromptIdeal_ReferenceFinishPromptIdeal (hFinishPromptIdeal := Cert.FinishPromptIdeal.Gen.facts)
    (hReferenceFinishPromptIdeal := Cert.ReferenceFinishPromptIdeal.Gen.facts) := by
  intro m ρ m' ρ' _ hag
  refine ⟨fun c => Cert.FinishPromptIdeal.Rows.finished (m ((c.tc : Thread Cert.FinishPromptIdeal.nD Cert.FinishPromptIdeal.τ).loc Cert.FinishPromptIdeal.main_arg0)) (m ((c.tc : Thread Cert.FinishPromptIdeal.nD Cert.FinishPromptIdeal.τ).loc Cert.FinishPromptIdeal.main_arg1)) (m ((c.tc : Thread Cert.FinishPromptIdeal.nD Cert.FinishPromptIdeal.τ).loc Cert.FinishPromptIdeal.main_arg2)) (m ((c.tc : Thread Cert.FinishPromptIdeal.nD Cert.FinishPromptIdeal.τ).loc Cert.FinishPromptIdeal.main_arg3)), ?_, ?_⟩
  · exact (θ_run _ _ _).mono (fun r h c => ⟨(h c).1.trans (Cert.FinishPromptIdeal.Rows.final m c), (h c).2⟩) (Cert.FinishPromptIdeal.Value.run_blocks m ρ)
  · refine (θ_run _ _ _).mono (fun r h c => ?_) (Cert.ReferenceFinishPromptIdeal.Value.run m' ρ')
    have e0 := (hag c).1
    have e1 := (hag c).2.1
    have e2 := (hag c).2.2.1
    have e3 := (hag c).2.2.2
    have r0 : _ = Cert.FinishPromptIdeal.Rows.finished (m ((c.tc : Thread Cert.FinishPromptIdeal.nD Cert.FinishPromptIdeal.τ).loc Cert.FinishPromptIdeal.main_arg0)) (m ((c.tc : Thread Cert.FinishPromptIdeal.nD Cert.FinishPromptIdeal.τ).loc Cert.FinishPromptIdeal.main_arg1)) (m ((c.tc : Thread Cert.FinishPromptIdeal.nD Cert.FinishPromptIdeal.τ).loc Cert.FinishPromptIdeal.main_arg2)) (m ((c.tc : Thread Cert.FinishPromptIdeal.nD Cert.FinishPromptIdeal.τ).loc Cert.FinishPromptIdeal.main_arg3)) := (h c).1.trans (show Cert.FinishPromptIdeal.Rows.finished (m' ((c.tc : Thread Cert.ReferenceFinishPromptIdeal.nD Cert.ReferenceFinishPromptIdeal.τ).loc Cert.ReferenceFinishPromptIdeal.main_arg0)) (m' ((c.tc : Thread Cert.ReferenceFinishPromptIdeal.nD Cert.ReferenceFinishPromptIdeal.τ).loc Cert.ReferenceFinishPromptIdeal.main_arg1)) (m' ((c.tc : Thread Cert.ReferenceFinishPromptIdeal.nD Cert.ReferenceFinishPromptIdeal.τ).loc Cert.ReferenceFinishPromptIdeal.main_arg2)) (m' ((c.tc : Thread Cert.ReferenceFinishPromptIdeal.nD Cert.ReferenceFinishPromptIdeal.τ).loc Cert.ReferenceFinishPromptIdeal.main_arg3)) = Cert.FinishPromptIdeal.Rows.finished (m ((c.tc : Thread Cert.FinishPromptIdeal.nD Cert.FinishPromptIdeal.τ).loc Cert.FinishPromptIdeal.main_arg0)) (m ((c.tc : Thread Cert.FinishPromptIdeal.nD Cert.FinishPromptIdeal.τ).loc Cert.FinishPromptIdeal.main_arg1)) (m ((c.tc : Thread Cert.FinishPromptIdeal.nD Cert.FinishPromptIdeal.τ).loc Cert.FinishPromptIdeal.main_arg2)) (m ((c.tc : Thread Cert.FinishPromptIdeal.nD Cert.FinishPromptIdeal.τ).loc Cert.FinishPromptIdeal.main_arg3)) by rw [e0, e1, e2, e3])
    exact ⟨r0, (h c).2⟩

theorem frame_StreamSample : Cert.quiescent_ReferenceStreamSampleIdeal (hReferenceStreamSampleIdeal := Cert.ReferenceStreamSampleIdeal.Gen.facts) :=
  fun m ρ _ => (θ_run _ _ _).mono (fun r h => ⟨fun c => (h c).2.2.2.2, sem_eq_zero_of_no_sems (by decide) r.2⟩) (Cert.ReferenceStreamSampleIdeal.Value.run m ρ)

theorem frame_StreamPrompt : Cert.quiescent_ReferenceStreamPromptIdeal (hReferenceStreamPromptIdeal := Cert.ReferenceStreamPromptIdeal.Gen.facts) :=
  fun m ρ _ => (θ_run _ _ _).mono (fun r h => ⟨fun c => h c, sem_eq_zero_of_no_sems (by decide) r.2⟩) (Cert.ReferenceStreamPromptIdeal.Trip.run_args m ρ)

theorem frame_AttendSample : Cert.quiescent_ReferenceAttendSampleIdeal (hReferenceAttendSampleIdeal := Cert.ReferenceAttendSampleIdeal.Gen.facts) :=
  fun m ρ _ => (θ_run _ _ _).mono (fun r h => ⟨fun c => (h c).2, sem_eq_zero_of_no_sems (by decide) r.2⟩) (Cert.ReferenceAttendSampleIdeal.Value.run m ρ)

theorem claim : Cert.Claim := ⟨Cert.Kernel.Gen.facts, Cert.KernelIdeal.Gen.facts, Cert.ReferenceIdeal.Gen.facts, Cert.ProjectPrompt.Gen.facts, Cert.ProjectPromptIdeal.Gen.facts, Cert.ReferenceProjectPromptIdeal.Gen.facts, Cert.ProjectSample.Gen.facts, Cert.ProjectSampleIdeal.Gen.facts, Cert.ReferenceProjectSampleIdeal.Gen.facts, Cert.MergePrompt.Gen.facts, Cert.MergePromptIdeal.Gen.facts, Cert.ReferenceMergePromptIdeal.Gen.facts, Cert.MergeSample.Gen.facts, Cert.MergeSampleIdeal.Gen.facts, Cert.ReferenceMergeSampleIdeal.Gen.facts, Cert.RetentionSample.Gen.facts, Cert.RetentionSampleIdeal.Gen.facts, Cert.ReferenceRetentionSampleIdeal.Gen.facts, Cert.StreamSample.Gen.facts, Cert.StreamSampleIdeal.Gen.facts, Cert.ReferenceStreamSampleIdeal.Gen.facts, Cert.StreamPrompt.Gen.facts, Cert.StreamPromptIdeal.Gen.facts, Cert.ReferenceStreamPromptIdeal.Gen.facts, Cert.FinishPrompt.Gen.facts, Cert.FinishPromptIdeal.Gen.facts, Cert.ReferenceFinishPromptIdeal.Gen.facts, Cert.AttendSample.Gen.facts, Cert.AttendSampleIdeal.Gen.facts, Cert.ReferenceAttendSampleIdeal.Gen.facts, Cert.Retention.preFacts, Cert.StreamPrompt.preFacts, Cert.AttendSample.preFacts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.ProjectPrompt.Gen.frame m ρ, fun m ρ _ => Cert.ProjectPromptIdeal.Gen.frame m ρ, frame_ProjectPrompt,
  fun m ρ _ => Cert.ProjectSample.Gen.frame m ρ, fun m ρ _ => Cert.ProjectSampleIdeal.Gen.frame m ρ, frame_ProjectSample,
  fun m ρ _ => Cert.MergePrompt.Gen.frame m ρ, fun m ρ _ => Cert.MergePromptIdeal.Gen.frame m ρ, frame_MergePrompt,
  fun m ρ _ => Cert.MergeSample.Gen.frame m ρ, fun m ρ _ => Cert.MergeSampleIdeal.Gen.frame m ρ, frame_MergeSample,
  fun m ρ _ => Cert.RetentionSample.Gen.frame m ρ, fun m ρ _ => Cert.RetentionSampleIdeal.Gen.frame m ρ, frame_RetentionSample,
  fun m ρ _ => Cert.StreamSample.Gen.frame m ρ, fun m ρ _ => Cert.StreamSampleIdeal.Gen.frame m ρ, frame_StreamSample,
  fun m ρ _ => Cert.StreamPrompt.Gen.frame m ρ, fun m ρ _ => Cert.StreamPromptIdeal.Gen.frame m ρ, fun m ρ _ => Cert.StreamPromptIdeal.Gen.frame m ρ,
  frame_StreamPrompt, fun m ρ _ => frame_StreamPrompt m ρ trivial,
  fun m ρ _ => Cert.FinishPrompt.Gen.frame m ρ, fun m ρ _ => Cert.FinishPromptIdeal.Gen.frame m ρ, frame_FinishPrompt,
  fun m ρ _ => Cert.AttendSample.Gen.frame m ρ, fun m ρ _ => Cert.AttendSampleIdeal.Gen.frame m ρ, fun m ρ _ => Cert.AttendSampleIdeal.Gen.frame m ρ,
  frame_AttendSample, fun m ρ _ => frame_AttendSample m ρ trivial,
  trivial, retention, trivial, value_ProjectPrompt, trivial, value_ProjectSample, trivial, value_MergePrompt, trivial, value_MergeSample, trivial, value_RetentionSample, trivial, Cert.StreamSample.value, trivial, Cert.StreamPrompt.value, trivial, value_FinishPrompt, Cert.AttendSample.preserves, Cert.AttendSample.value⟩

end Cert.Proof

end
